-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v158) = v0 c
          ∧ r.2.mem ((c.tc : Thread Cert.Reference4Ideal.nD Cert.Reference4Ideal.τ).loc Cert.Reference4Ideal.main_v173) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x8192x128 : Shape := ⟨3, ![16, 8192, 128]⟩
abbrev S1024x8192 : Shape := ⟨2, ![1024, 8192]⟩
abbrev S8192x128 : Shape := ⟨2, ![8192, 128]⟩
abbrev S2048x8192 : Shape := ⟨2, ![2048, 8192]⟩
abbrev S_ : Shape := ⟨0, ![]⟩

class Facts : Prop where
  bcast_S_S16x8192x128 : S_.BroadcastsInDim S16x8192x128 (![] : Fin 0 → Fin S16x8192x128.rank)
  reducesTo_S16x8192x128_S_d0_1_2 : S16x8192x128.ReducesTo [0, 1, 2] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S16x8192x128 .bf16) (main_arg1 : FVec F S1024x8192 .bf16) (main_arg2 : FVec F S8192x128 .bf16) (main_arg3 : FVec F S2048x8192 .f32) : IVec S_ 1 :=
  let main_v0 : FVec F S16x8192x128 .bf16 := Host.absf main_arg0
  let main_cst : FVec F S_ .bf16 := constant S_ .bf16 0x7F80#16
  let main_v1 : FVec F S16x8192x128 .bf16 := broadcastInDim S16x8192x128 ![] bcast_S_S16x8192x128 main_cst
  let main_v2 : IVec S16x8192x128 1 := cmpf .olt main_v0 main_v1
  let main_c : IVec S_ 1 := constantI S_ 1 1#1
  let main_v3 : IVec S_ 1 := (fun x v => Host.reduce IntOp.andi x v reducesTo_S16x8192x128_S_d0_1_2 h_S_) main_v2 main_c
  let main_v4 : FVec F S8192x128 .bf16 := Host.absf main_arg2
  let main_cst_0 : FVec F S_ .bf16 := constant S_ .bf16 0x7F80#16
  let main_v5 : FVec F S8192x128 .bf16 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S16x8192x128 : Shape := ⟨3, ![16, 8192, 128]⟩
abbrev S1024x8192 : Shape := ⟨2, ![1024, 8192]⟩
abbrev S8192x128 : Shape := ⟨2, ![8192, 128]⟩
abbrev S2048x8192 : Shape := ⟨2, ![2048, 8192]⟩
abbrev S8x8192x128 : Shape := ⟨3, ![8, 8192, 128]⟩
abbrev S8x2048x1024 : Shape := ⟨3, ![8, 2048, 1024]⟩
abbrev S2x2048x256 : Shape := ⟨3, ![2, 2048, 256]⟩
abbrev S512x512 : Shape := ⟨2, ![512, 512]⟩
abbrev S1024x512 : Shape := ⟨2, ![1024, 512]⟩
abbrev S1536x512 : Shape := ⟨2, ![1536, 512]⟩
abbrev S2048x512 : Shape := ⟨2, ![2048, 512]⟩
abbrev S2x2x2048x128 : Shape := ⟨4, ![2, 2, 2048, 128]⟩
abbrev S2 : Shape := ⟨1, ![2]⟩
abbrev S2x256x2048 : Shape := ⟨3, ![2, 256, 2048]⟩
abbrev S2x2048x128 : Shape := ⟨3, ![2, 2048, 128]⟩
abbrev S2x1024x1024 : Shape := ⟨3, ![2, 1024, 1024]⟩
abbrev S1 : Shape := ⟨1, ![1]⟩
abbrev S_ : Shape := ⟨0, ![]⟩
abbrev S1x2x2048x128 : Shape := ⟨4, ![1, 2, 2048, 128]⟩
abbrev S1x256x2048 : Shape := ⟨3, ![1, 256, 2048]⟩
abbrev S256x2048 : Shape := ⟨2, ![256, 2048]⟩
abbrev S1x2048x128 : Shape := ⟨3, ![1, 2048, 128]⟩
abbrev S2048x128 : Shape := ⟨2, ![2048, 128]⟩
abbrev S1x1024x1024 : Shape := ⟨3, ![1, 1024, 1024]⟩
abbrev S1024x1024 : Shape := ⟨2, ![1024, 1024]⟩
abbrev S512x128 : Shape := ⟨2, ![512, 128]⟩
abbrev S1x512x128 : Shape := ⟨3, ![1, 512, 128]⟩
abbrev S512x256 : Shape := ⟨2, ![512, 256]⟩
abbrev S1x512x256 : Shape := ⟨3, ![1, 512, 256]⟩
abbrev S512 : Shape := ⟨1, ![512]⟩
abbrev S1x512 : Shape := ⟨2, ![1, 512]⟩
abbrev S1x1024x256 : Shape := ⟨3, ![1, 1024, 256]⟩
abbrev S1024x256 : Shape := ⟨2, ![1024, 256]⟩
abbrev S1x1536x256 : Shape := ⟨3, ![1, 1536, 256]⟩
abbrev S1536x256 : Shape := ⟨2, ![1536, 256]⟩
abbrev S1x2048x256 : Shape := ⟨3, ![1, 2048, 256]⟩
abbrev S2048x256 : Shape := ⟨2, ![2048, 256]⟩
abbrev S128x512 : Shape := ⟨2, ![128, 512]⟩

abbrev nBuf : Space → Nat
  | .hbm => 6
  | .vmem => 16
  | .smem => 0
  | _ => 0

abbrev bufTy : (tb : Table) → Fin (tcTables nBuf tb) → BufTy
  | .hbm, ⟨0, _⟩ => ⟨S16x8192x128, .bf16⟩
  | .hbm, ⟨1, _⟩ => ⟨S1024x8192, .bf16⟩
  | .hbm, ⟨2, _⟩ => ⟨S8192x128, .bf16⟩
  | .hbm, ⟨3, _⟩ => ⟨S2048x8192, .f32⟩
  | .hbm, ⟨4, _⟩ => ⟨S8x8192x128, .f32⟩
  | .hbm, ⟨5, _⟩ => ⟨S8x2048x1024, .bf16⟩
  | .local _ .vmem, ⟨0, _⟩ => ⟨S2x2048x256, .bf16⟩
  | .local _ .vmem, ⟨1, _⟩ => ⟨S512x512, .f32⟩
  | .local _ .vmem, ⟨2, _⟩ => ⟨S1024x512, .f32⟩
  | .local _ .vmem, ⟨3, _⟩ => ⟨S1536x512, .f32⟩
  | .local _ .vmem, ⟨4, _⟩ => ⟨S2048x512, .f32⟩
  | .local _ .vmem, ⟨5, _⟩ => ⟨S512x512, .f32⟩
  | .local _ .vmem, ⟨6, _⟩ => ⟨S1024x512, .f32⟩
  | .local _ .vmem, ⟨7, _⟩ => ⟨S1536x512, .f32⟩
  | .local _ .vmem, ⟨8, _⟩ => ⟨S2048x512, .f32⟩
  | .local _ .vmem, ⟨9, _⟩ => ⟨S2x2x2048x128, .bf16⟩
  | .local _ .vmem, ⟨10, _⟩ => ⟨S2x2x2048x128, .bf16⟩
  | .local _ .vmem, ⟨11, _⟩ => ⟨S2x256x2048, .bf16⟩
  | .local _ .vmem, ⟨12, _⟩ => ⟨S2x2048x128, .bf16⟩
  | .local _ .vmem, ⟨13, _⟩ => ⟨S2x1024x1024, .f32⟩
  | .local _ .vmem, ⟨14, _⟩ => ⟨S2x2x2048x128, .f32⟩
  | .local _ .vmem, ⟨15, _⟩ => ⟨S2x1024x1024, .bf16⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scoped0 : Ref sig .tc := ⟨.vmem, 9, rfl⟩
abbrev cc0_scoped2 : Ref sig .tc := ⟨.vmem, 10, rfl⟩
abbrev cc0_scoped4 : Ref sig .tc := ⟨.vmem, 11, rfl⟩
abbrev cc0_scoped6 : Ref sig .tc := ⟨.vmem, 12, rfl⟩
abbrev cc0_scoped8 : Ref sig .tc := ⟨.vmem, 13, rfl⟩
abbrev cc0_scoped10 : Ref sig .tc := ⟨.vmem, 14, rfl⟩
abbrev cc0_scoped12 : Ref sig .tc := ⟨.vmem, 15, rfl⟩

abbrev nD : Nat := 1
abbrev τ : Topo := Topo.v7x

variable {F : FTy → Type} [FloatOps F]

abbrev grid0 : Pipeline.Grid := .none

def k0_off1 : Fin 1 → Nat :=
  let c0_i32_31_r0 : BitVec 32 := 0#32
  let c2_i32_r0 : BitVec 32 := 2#32
  let v33_r0 : BitVec 32 := Scalar.remui c0_i32_31_r0 c2_i32_r0
  ![v33_r0.toNat]
def k0_off2 : Fin 4 → Nat :=
  let c0_i32_31_r0 : BitVec 32 := 0#32
  let c2_i32_r0 : BitVec 32 := 2#32
  let v33_r0 : BitVec 32 := Scalar.remui c0_i32_31_r0 c2_i32_r0
  let c0_i32_32_r0 : BitVec 32 := 0#32
  let c0_i32_33_r0 : BitVec 32 := 0#32
  let c0_i32_34_r0 : BitVec 32 := 0#32
  ![v33_r0.toNat, 0, 0, 0]
def k0_off3 : Fin 3 → Nat :=
  let c0_i32_49_r0 : BitVec 32 := 0#32
  let c2_i32_50_r0 : BitVec 32 := 2#32
  let v47_r0 : BitVec 32 := Scalar.remui c0_i32_49_r0 c2_i32_50_r0
  let c0_i32_51_r0 : BitVec 32 := 0#32
  let c0_i32_52_r0 : BitVec 32 := 0#32
  ![v47_r0.toNat, 0, 0]
def k0_off4 : Fin 3 → Nat :=
  let c0_i32_57_r0 : BitVec 32 := 0#32
  let c2_i32_58_r0 : BitVec 32 := 2#32
  let v54_r0 : BitVec 32 := Scalar.remui c0_i32_57_r0 c2_i32_58_r0
  let c0_i32_59_r0 : BitVec 32 := 0#32
  let c0_i32_60_r0 : BitVec 32 := 0#32
  ![v54_r0.toNat, 0, 0]
def k0_off5 : Fin 3 → Nat :=
  let c0_i32_65_r0 : BitVec 32 := 0#32
  let c2_i32_66_r0 : BitVec 32 := 2#32
  let v61_r0 : BitVec 32 := Scalar.remui c0_i32_65_r0 c2_i32_66_r0
  let c0_i32_67_r0 : BitVec 32 := 0#32
  let c0_i32_68_r0 : BitVec 32 := 0#32
  ![v61_r0.toNat, 0, 0]
@[reducible] def k0_t1_loop : Scf.Loop 32 :=
  let c0_i32_84_r0 : BitVec 32 := 0#32
  let c16_i32_r0 : BitVec 32 := 16#32
  let v68_r0 : BitVec 32 := Scalar.addi c0_i32_84_r0 c16_i32_r0
  let c1_i32_85_r0 : BitVec 32 := 1#32
  ⟨c0_i32_84_r0, v68_r0, c1_i32_85_r0⟩
def k0_off6 (arg17_r0 : BitVec 32) : Fin 1 → Nat :=
  let c2_i32_774_r0 : BitVec 32 := 2#32
  let v1247_r0 : BitVec 32 := Scalar.remui arg17_r0 c2_i32_774_r0
  ![v1247_r0.toNat]
def k0_cond1 (k0_t1 : Fin k0_t1_loop.trips) (arg31_r0 : BitVec 32) (arg32_r0 : BitVec 32) : BitVec 1 :=
  let c0_i32_179_r0 : BitVec 32 := 0#32
  let c0_i32_151_r0 : BitVec 32 := 0#32
  let v161_r0 : BitVec 32 := Scalar.addi arg32_r0 c0_i32_151_r0
  let v192_r0 : BitVec 32 := Scalar.addi c0_i32_179_r0 v161_r0
  let c0_i32_180_r0 : BitVec 32 := 0#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v193_r0 : BitVec 32 := Scalar.addi c0_i32_180_r0 v181_r0
  let v194_r0 : BitVec 1 := Scalar.cmpi .ne v192_r0 v193_r0
  let c0_i32_150_r0 : BitVec 32 := 0#32
  let v160_r0 : BitVec 32 := Scalar.addi arg31_r0 c0_i32_150_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v195_r0 : BitVec 1 := Scalar.cmpi .ne v160_r0 v180_r0
  let v196_r0 : BitVec 1 := Scalar.ori v194_r0 v195_r0
  let c0_i32_84_r0 : BitVec 32 := 0#32
  let c1_i32_85_r0 : BitVec 32 := 1#32
  let arg16_r0 : BitVec 32 := Scf.iv c0_i32_84_r0 c1_i32_85_r0 k0_t1
  let c15_i32_181_r0 : BitVec 32 := 15#32
  let v197_r0 : BitVec 1 := Scalar.cmpi .sge arg16_r0 c15_i32_181_r0
  let true_182_r0 : BitVec 1 := 1#1
  let v198_r0 : BitVec 1 := Scalar.xori v197_r0 true_182_r0
  let v199_r0 : BitVec 1 := Scalar.andi v196_r0 v198_r0
  let true_183_r0 : BitVec 1 := 1#1
  let v200_r0 : BitVec 1 := Scalar.andi v199_r0 true_183_r0
  let v201_r0 : BitVec 32 := Scalar.extui v200_r0
  let c0_i32_184_r0 : BitVec 32 := 0#32
  let v202_r0 : BitVec 1 := Scalar.cmpi .ne v201_r0 c0_i32_184_r0
  v202_r0

def k0_off7 (arg17_r0 : BitVec 32) : Fin 4 → Nat :=
  let c2_i32_774_r0 : BitVec 32 := 2#32
  let v1247_r0 : BitVec 32 := Scalar.remui arg17_r0 c2_i32_774_r0
  let c0_i32_778_r0 : BitVec 32 := 0#32
  let c0_i32_779_r0 : BitVec 32 := 0#32
  let c0_i32_780_r0 : BitVec 32 := 0#32
  ![v1247_r0.toNat, 0, 0, 0]
def k0_off8 (arg31_r0 : BitVec 32) (arg32_r0 : BitVec 32) : Fin 3 → Nat :=
  let c2_i32_776_r0 : BitVec 32 := 2#32
  let c0_i32_775_r0 : BitVec 32 := 0#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v1248_r0 : BitVec 32 := Scalar.addi c0_i32_775_r0 v181_r0
  let v1249_r0 : BitVec 32 := Scalar.muli c2_i32_776_r0 v1248_r0
  let c2048_i32_777_r0 : BitVec 32 := 2048#32
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v1250_r0 : BitVec 32 := Scalar.muli c2048_i32_777_r0 v180_r0
  let c0_i32_781_r0 : BitVec 32 := 0#32
  ![v1249_r0.toNat, v1250_r0.toNat, 0]
def k0_off9 (arg19_r0 : BitVec 32) : Fin 1 → Nat :=
  let c2_i32_774_r0 : BitVec 32 := 2#32
  let v1247_r0 : BitVec 32 := Scalar.remui arg19_r0 c2_i32_774_r0
  ![v1247_r0.toNat]
def k0_cond2 (k0_t1 : Fin k0_t1_loop.trips) (arg31_r0 : BitVec 32) (arg32_r0 : BitVec 32) : BitVec 1 :=
  let c4_i32_187_r0 : BitVec 32 := 4#32
  let c0_i32_151_r0 : BitVec 32 := 0#32
  let v161_r0 : BitVec 32 := Scalar.addi arg32_r0 c0_i32_151_r0
  let v206_r0 : BitVec 32 := Scalar.addi c4_i32_187_r0 v161_r0
  let c4_i32_188_r0 : BitVec 32 := 4#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v207_r0 : BitVec 32 := Scalar.addi c4_i32_188_r0 v181_r0
  let v208_r0 : BitVec 1 := Scalar.cmpi .ne v206_r0 v207_r0
  let c0_i32_150_r0 : BitVec 32 := 0#32
  let v160_r0 : BitVec 32 := Scalar.addi arg31_r0 c0_i32_150_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v209_r0 : BitVec 1 := Scalar.cmpi .ne v160_r0 v180_r0
  let v210_r0 : BitVec 1 := Scalar.ori v208_r0 v209_r0
  let c0_i32_84_r0 : BitVec 32 := 0#32
  let c1_i32_85_r0 : BitVec 32 := 1#32
  let arg16_r0 : BitVec 32 := Scf.iv c0_i32_84_r0 c1_i32_85_r0 k0_t1
  let c15_i32_189_r0 : BitVec 32 := 15#32
  let v211_r0 : BitVec 1 := Scalar.cmpi .sge arg16_r0 c15_i32_189_r0
  let true_190_r0 : BitVec 1 := 1#1
  let v212_r0 : BitVec 1 := Scalar.xori v211_r0 true_190_r0
  let v213_r0 : BitVec 1 := Scalar.andi v210_r0 v212_r0
  let true_191_r0 : BitVec 1 := 1#1
  let v214_r0 : BitVec 1 := Scalar.andi v213_r0 true_191_r0
  let v215_r0 : BitVec 32 := Scalar.extui v214_r0
  let c0_i32_192_r0 : BitVec 32 := 0#32
  let v216_r0 : BitVec 1 := Scalar.cmpi .ne v215_r0 c0_i32_192_r0
  v216_r0

def k0_off10 (arg19_r0 : BitVec 32) : Fin 4 → Nat :=
  let c2_i32_774_r0 : BitVec 32 := 2#32
  let v1247_r0 : BitVec 32 := Scalar.remui arg19_r0 c2_i32_774_r0
  let c0_i32_778_r0 : BitVec 32 := 0#32
  let c0_i32_779_r0 : BitVec 32 := 0#32
  let c0_i32_780_r0 : BitVec 32 := 0#32
  ![v1247_r0.toNat, 0, 0, 0]
def k0_off11 (arg31_r0 : BitVec 32) (arg32_r0 : BitVec 32) : Fin 3 → Nat :=
  let c2_i32_776_r0 : BitVec 32 := 2#32
  let c4_i32_775_r0 : BitVec 32 := 4#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v1248_r0 : BitVec 32 := Scalar.addi c4_i32_775_r0 v181_r0
  let v1249_r0 : BitVec 32 := Scalar.muli c2_i32_776_r0 v1248_r0
  let c2048_i32_777_r0 : BitVec 32 := 2048#32
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v1250_r0 : BitVec 32 := Scalar.muli c2048_i32_777_r0 v180_r0
  let c0_i32_781_r0 : BitVec 32 := 0#32
  ![v1249_r0.toNat, v1250_r0.toNat, 0]
def k0_off12 (arg21_r0 : BitVec 32) : Fin 1 → Nat :=
  let c2_i32_774_r0 : BitVec 32 := 2#32
  let v1247_r0 : BitVec 32 := Scalar.remui arg21_r0 c2_i32_774_r0
  ![v1247_r0.toNat]
def k0_cond3 (k0_t1 : Fin k0_t1_loop.trips) (arg31_r0 : BitVec 32) (arg32_r0 : BitVec 32) : BitVec 1 :=
  let c0_i32_151_r0 : BitVec 32 := 0#32
  let v161_r0 : BitVec 32 := Scalar.addi arg32_r0 c0_i32_151_r0
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v220_r0 : BitVec 1 := Scalar.cmpi .ne v161_r0 v181_r0
  let c0_i32_150_r0 : BitVec 32 := 0#32
  let v160_r0 : BitVec 32 := Scalar.addi arg31_r0 c0_i32_150_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v221_r0 : BitVec 1 := Scalar.cmpi .ne v160_r0 v180_r0
  let v222_r0 : BitVec 1 := Scalar.ori v220_r0 v221_r0
  let c0_i32_84_r0 : BitVec 32 := 0#32
  let c1_i32_85_r0 : BitVec 32 := 1#32
  let arg16_r0 : BitVec 32 := Scf.iv c0_i32_84_r0 c1_i32_85_r0 k0_t1
  let c15_i32_195_r0 : BitVec 32 := 15#32
  let v223_r0 : BitVec 1 := Scalar.cmpi .sge arg16_r0 c15_i32_195_r0
  let true_196_r0 : BitVec 1 := 1#1
  let v224_r0 : BitVec 1 := Scalar.xori v223_r0 true_196_r0
  let v225_r0 : BitVec 1 := Scalar.andi v222_r0 v224_r0
  let true_197_r0 : BitVec 1 := 1#1
  let v226_r0 : BitVec 1 := Scalar.andi v225_r0 true_197_r0
  let v227_r0 : BitVec 32 := Scalar.extui v226_r0
  let c0_i32_198_r0 : BitVec 32 := 0#32
  let v228_r0 : BitVec 1 := Scalar.cmpi .ne v227_r0 c0_i32_198_r0
  v228_r0

def k0_off13 (arg21_r0 : BitVec 32) : Fin 3 → Nat :=
  let c2_i32_774_r0 : BitVec 32 := 2#32
  let v1247_r0 : BitVec 32 := Scalar.remui arg21_r0 c2_i32_774_r0
  let c0_i32_776_r0 : BitVec 32 := 0#32
  let c0_i32_777_r0 : BitVec 32 := 0#32
  ![v1247_r0.toNat, 0, 0]
def k0_off14 (arg31_r0 : BitVec 32) (arg32_r0 : BitVec 32) : Fin 2 → Nat :=
  let c256_i32_r0 : BitVec 32 := 256#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v1248_r0 : BitVec 32 := Scalar.muli c256_i32_r0 v181_r0
  let c2048_i32_775_r0 : BitVec 32 := 2048#32
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v1249_r0 : BitVec 32 := Scalar.muli c2048_i32_775_r0 v180_r0
  ![v1248_r0.toNat, v1249_r0.toNat]
def k0_off15 (arg23_r0 : BitVec 32) : Fin 1 → Nat :=
  let c2_i32_774_r0 : BitVec 32 := 2#32
  let v1247_r0 : BitVec 32 := Scalar.remui arg23_r0 c2_i32_774_r0
  ![v1247_r0.toNat]
def k0_cond4 (k0_t1 : Fin k0_t1_loop.trips) (arg31_r0 : BitVec 32) (arg32_r0 : BitVec 32) : BitVec 1 :=
  let c0_i32_150_r0 : BitVec 32 := 0#32
  let v160_r0 : BitVec 32 := Scalar.addi arg31_r0 c0_i32_150_r0
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v232_r0 : BitVec 1 := Scalar.cmpi .ne v160_r0 v180_r0
  let c0_i32_84_r0 : BitVec 32 := 0#32
  let c1_i32_85_r0 : BitVec 32 := 1#32
  let arg16_r0 : BitVec 32 := Scf.iv c0_i32_84_r0 c1_i32_85_r0 k0_t1
  let c15_i32_201_r0 : BitVec 32 := 15#32
  let v233_r0 : BitVec 1 := Scalar.cmpi .sge arg16_r0 c15_i32_201_r0
  let true_202_r0 : BitVec 1 := 1#1
  let v234_r0 : BitVec 1 := Scalar.xori v233_r0 true_202_r0
  let v235_r0 : BitVec 1 := Scalar.andi v232_r0 v234_r0
  let true_203_r0 : BitVec 1 := 1#1
  let v236_r0 : BitVec 1 := Scalar.andi v235_r0 true_203_r0
  let v237_r0 : BitVec 32 := Scalar.extui v236_r0
  let c0_i32_204_r0 : BitVec 32 := 0#32
  let v238_r0 : BitVec 1 := Scalar.cmpi .ne v237_r0 c0_i32_204_r0
  v238_r0

def k0_off16 (arg23_r0 : BitVec 32) : Fin 3 → Nat :=
  let c2_i32_774_r0 : BitVec 32 := 2#32
  let v1247_r0 : BitVec 32 := Scalar.remui arg23_r0 c2_i32_774_r0
  let c0_i32_776_r0 : BitVec 32 := 0#32
  let c0_i32_777_r0 : BitVec 32 := 0#32
  ![v1247_r0.toNat, 0, 0]
def k0_off17 (arg31_r0 : BitVec 32) (arg32_r0 : BitVec 32) : Fin 2 → Nat :=
  let c2048_i32_775_r0 : BitVec 32 := 2048#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v1248_r0 : BitVec 32 := Scalar.muli c2048_i32_775_r0 v180_r0
  let c0_i32_778_r0 : BitVec 32 := 0#32
  ![v1248_r0.toNat, 0]
def k0_off18 (arg25_r0 : BitVec 32) : Fin 1 → Nat :=
  let c2_i32_774_r0 : BitVec 32 := 2#32
  let v1247_r0 : BitVec 32 := Scalar.remui arg25_r0 c2_i32_774_r0
  ![v1247_r0.toNat]
def k0_cond5 (k0_t1 : Fin k0_t1_loop.trips) (arg31_r0 : BitVec 32) (arg32_r0 : BitVec 32) : BitVec 1 :=
  let c0_i32_150_r0 : BitVec 32 := 0#32
  let v160_r0 : BitVec 32 := Scalar.addi arg31_r0 c0_i32_150_r0
  let c4_i32_207_r0 : BitVec 32 := 4#32
  let v242_r0 : BitVec 32 := Scalar.muli v160_r0 c4_i32_207_r0
  let c0_i32_151_r0 : BitVec 32 := 0#32
  let v161_r0 : BitVec 32 := Scalar.addi arg32_r0 c0_i32_151_r0
  let v243_r0 : BitVec 32 := Scalar.addi v242_r0 v161_r0
  let c2_i32_208_r0 : BitVec 32 := 2#32
  let c0_i32_209_r0 : BitVec 32 := 0#32
  let v244_r0 : BitVec 1 := Scalar.cmpi .eq c2_i32_208_r0 c0_i32_209_r0
  let c1_i32_210_r0 : BitVec 32 := 1#32
  let v245_r0 : BitVec 32 := Scalar.select v244_r0 c1_i32_210_r0 c2_i32_208_r0
  let v246_r0 : BitVec 32 := Scalar.remsi v243_r0 v245_r0
  let c0_i32_212_r0 : BitVec 32 := 0#32
  let v248_r0 : BitVec 1 := Scalar.cmpi .slt v246_r0 c0_i32_212_r0
  let c0_i32_213_r0 : BitVec 32 := 0#32
  let v249_r0 : BitVec 1 := Scalar.cmpi .slt v245_r0 c0_i32_213_r0
  let v250_r0 : BitVec 1 := Scalar.xori v248_r0 v249_r0
  let c0_i32_211_r0 : BitVec 32 := 0#32
  let v247_r0 : BitVec 1 := Scalar.cmpi .ne v246_r0 c0_i32_211_r0
  let v251_r0 : BitVec 1 := Scalar.andi v250_r0 v247_r0
  let v252_r0 : BitVec 32 := Scalar.addi v246_r0 v245_r0
  let v253_r0 : BitVec 32 := Scalar.select v251_r0 v252_r0 v246_r0
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let c4_i32_222_r0 : BitVec 32 := 4#32
  let v273_r0 : BitVec 32 := Scalar.muli v180_r0 c4_i32_222_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v274_r0 : BitVec 32 := Scalar.addi v273_r0 v181_r0
  let c2_i32_223_r0 : BitVec 32 := 2#32
  let c0_i32_224_r0 : BitVec 32 := 0#32
  let v275_r0 : BitVec 1 := Scalar.cmpi .eq c2_i32_223_r0 c0_i32_224_r0
  let c1_i32_225_r0 : BitVec 32 := 1#32
  let v276_r0 : BitVec 32 := Scalar.select v275_r0 c1_i32_225_r0 c2_i32_223_r0
  let v277_r0 : BitVec 32 := Scalar.remsi v274_r0 v276_r0
  let c0_i32_227_r0 : BitVec 32 := 0#32
  let v279_r0 : BitVec 1 := Scalar.cmpi .slt v277_r0 c0_i32_227_r0
  let c0_i32_228_r0 : BitVec 32 := 0#32
  let v280_r0 : BitVec 1 := Scalar.cmpi .slt v276_r0 c0_i32_228_r0
  let v281_r0 : BitVec 1 := Scalar.xori v279_r0 v280_r0
  let c0_i32_226_r0 : BitVec 32 := 0#32
  let v278_r0 : BitVec 1 := Scalar.cmpi .ne v277_r0 c0_i32_226_r0
  let v282_r0 : BitVec 1 := Scalar.andi v281_r0 v278_r0
  let v283_r0 : BitVec 32 := Scalar.addi v277_r0 v276_r0
  let v284_r0 : BitVec 32 := Scalar.select v282_r0 v283_r0 v277_r0
  let v304_r0 : BitVec 1 := Scalar.cmpi .ne v253_r0 v284_r0
  let c4_i32_214_r0 : BitVec 32 := 4#32
  let v254_r0 : BitVec 32 := Scalar.muli v160_r0 c4_i32_214_r0
  let v255_r0 : BitVec 32 := Scalar.addi v254_r0 v161_r0
  let c0_i32_216_r0 : BitVec 32 := 0#32
  let v257_r0 : BitVec 1 := Scalar.cmpi .sgt v255_r0 c0_i32_216_r0
  let v258_r0 : BitVec 32 := Scalar.extui v257_r0
  let c0_i32_217_r0 : BitVec 32 := 0#32
  let v259_r0 : BitVec 1 := Scalar.cmpi .slt v255_r0 c0_i32_217_r0
  let v260_r0 : BitVec 32 := Scalar.extui v259_r0
  let v261_r0 : BitVec 32 := Scalar.subi v258_r0 v260_r0
  let c2_i32_215_r0 : BitVec 32 := 2#32
  let c0_i32_218_r0 : BitVec 32 := 0#32
  let v262_r0 : BitVec 1 := Scalar.cmpi .sgt c2_i32_215_r0 c0_i32_218_r0
  let v263_r0 : BitVec 32 := Scalar.extui v262_r0
  let c0_i32_219_r0 : BitVec 32 := 0#32
  let v264_r0 : BitVec 1 := Scalar.cmpi .slt c2_i32_215_r0 c0_i32_219_r0
  let v265_r0 : BitVec 32 := Scalar.extui v264_r0
  let v266_r0 : BitVec 32 := Scalar.subi v263_r0 v265_r0
  let v267_r0 : BitVec 1 := Scalar.cmpi .ne v261_r0 v266_r0
  let v268_r0 : BitVec 32 := Scalar.remsi v255_r0 c2_i32_215_r0
  let c0_i32_220_r0 : BitVec 32 := 0#32
  let v269_r0 : BitVec 1 := Scalar.cmpi .ne v268_r0 c0_i32_220_r0
  let v270_r0 : BitVec 1 := Scalar.andi v267_r0 v269_r0
  let v256_r0 : BitVec 32 := Scalar.divsi v255_r0 c2_i32_215_r0
  let c1_i32_221_r0 : BitVec 32 := 1#32
  let v271_r0 : BitVec 32 := Scalar.subi v256_r0 c1_i32_221_r0
  let v272_r0 : BitVec 32 := Scalar.select v270_r0 v271_r0 v256_r0
  let c4_i32_229_r0 : BitVec 32 := 4#32
  let v285_r0 : BitVec 32 := Scalar.muli v180_r0 c4_i32_229_r0
  let v286_r0 : BitVec 32 := Scalar.addi v285_r0 v181_r0
  let c0_i32_231_r0 : BitVec 32 := 0#32
  let v288_r0 : BitVec 1 := Scalar.cmpi .sgt v286_r0 c0_i32_231_r0
  let v289_r0 : BitVec 32 := Scalar.extui v288_r0
  let c0_i32_232_r0 : BitVec 32 := 0#32
  let v290_r0 : BitVec 1 := Scalar.cmpi .slt v286_r0 c0_i32_232_r0
  let v291_r0 : BitVec 32 := Scalar.extui v290_r0
  let v292_r0 : BitVec 32 := Scalar.subi v289_r0 v291_r0
  let c2_i32_230_r0 : BitVec 32 := 2#32
  let c0_i32_233_r0 : BitVec 32 := 0#32
  let v293_r0 : BitVec 1 := Scalar.cmpi .sgt c2_i32_230_r0 c0_i32_233_r0
  let v294_r0 : BitVec 32 := Scalar.extui v293_r0
  let c0_i32_234_r0 : BitVec 32 := 0#32
  let v295_r0 : BitVec 1 := Scalar.cmpi .slt c2_i32_230_r0 c0_i32_234_r0
  let v296_r0 : BitVec 32 := Scalar.extui v295_r0
  let v297_r0 : BitVec 32 := Scalar.subi v294_r0 v296_r0
  let v298_r0 : BitVec 1 := Scalar.cmpi .ne v292_r0 v297_r0
  let v299_r0 : BitVec 32 := Scalar.remsi v286_r0 c2_i32_230_r0
  let c0_i32_235_r0 : BitVec 32 := 0#32
  let v300_r0 : BitVec 1 := Scalar.cmpi .ne v299_r0 c0_i32_235_r0
  let v301_r0 : BitVec 1 := Scalar.andi v298_r0 v300_r0
  let v287_r0 : BitVec 32 := Scalar.divsi v286_r0 c2_i32_230_r0
  let c1_i32_236_r0 : BitVec 32 := 1#32
  let v302_r0 : BitVec 32 := Scalar.subi v287_r0 c1_i32_236_r0
  let v303_r0 : BitVec 32 := Scalar.select v301_r0 v302_r0 v287_r0
  let v305_r0 : BitVec 1 := Scalar.cmpi .ne v272_r0 v303_r0
  let v306_r0 : BitVec 1 := Scalar.ori v304_r0 v305_r0
  let c0_i32_84_r0 : BitVec 32 := 0#32
  let c1_i32_85_r0 : BitVec 32 := 1#32
  let arg16_r0 : BitVec 32 := Scf.iv c0_i32_84_r0 c1_i32_85_r0 k0_t1
  let c15_i32_237_r0 : BitVec 32 := 15#32
  let v307_r0 : BitVec 1 := Scalar.cmpi .sge arg16_r0 c15_i32_237_r0
  let true_238_r0 : BitVec 1 := 1#1
  let v308_r0 : BitVec 1 := Scalar.xori v307_r0 true_238_r0
  let v309_r0 : BitVec 1 := Scalar.andi v306_r0 v308_r0
  let true_239_r0 : BitVec 1 := 1#1
  let v310_r0 : BitVec 1 := Scalar.andi v309_r0 true_239_r0
  let v311_r0 : BitVec 32 := Scalar.extui v310_r0
  let c0_i32_240_r0 : BitVec 32 := 0#32
  let v312_r0 : BitVec 1 := Scalar.cmpi .ne v311_r0 c0_i32_240_r0
  v312_r0

def k0_off19 (arg25_r0 : BitVec 32) : Fin 3 → Nat :=
  let c2_i32_774_r0 : BitVec 32 := 2#32
  let v1247_r0 : BitVec 32 := Scalar.remui arg25_r0 c2_i32_774_r0
  let c0_i32_792_r0 : BitVec 32 := 0#32
  let c0_i32_793_r0 : BitVec 32 := 0#32
  ![v1247_r0.toNat, 0, 0]
def k0_off20 (arg31_r0 : BitVec 32) (arg32_r0 : BitVec 32) : Fin 2 → Nat :=
  let c1024_i32_790_r0 : BitVec 32 := 1024#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let c4_i32_775_r0 : BitVec 32 := 4#32
  let v1248_r0 : BitVec 32 := Scalar.muli v180_r0 c4_i32_775_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v1249_r0 : BitVec 32 := Scalar.addi v1248_r0 v181_r0
  let c2_i32_776_r0 : BitVec 32 := 2#32
  let c0_i32_777_r0 : BitVec 32 := 0#32
  let v1250_r0 : BitVec 1 := Scalar.cmpi .eq c2_i32_776_r0 c0_i32_777_r0
  let c1_i32_778_r0 : BitVec 32 := 1#32
  let v1251_r0 : BitVec 32 := Scalar.select v1250_r0 c1_i32_778_r0 c2_i32_776_r0
  let v1252_r0 : BitVec 32 := Scalar.remsi v1249_r0 v1251_r0
  let c0_i32_780_r0 : BitVec 32 := 0#32
  let v1254_r0 : BitVec 1 := Scalar.cmpi .slt v1252_r0 c0_i32_780_r0
  let c0_i32_781_r0 : BitVec 32 := 0#32
  let v1255_r0 : BitVec 1 := Scalar.cmpi .slt v1251_r0 c0_i32_781_r0
  let v1256_r0 : BitVec 1 := Scalar.xori v1254_r0 v1255_r0
  let c0_i32_779_r0 : BitVec 32 := 0#32
  let v1253_r0 : BitVec 1 := Scalar.cmpi .ne v1252_r0 c0_i32_779_r0
  let v1257_r0 : BitVec 1 := Scalar.andi v1256_r0 v1253_r0
  let v1258_r0 : BitVec 32 := Scalar.addi v1252_r0 v1251_r0
  let v1259_r0 : BitVec 32 := Scalar.select v1257_r0 v1258_r0 v1252_r0
  let v1279_r0 : BitVec 32 := Scalar.muli c1024_i32_790_r0 v1259_r0
  let c1024_i32_791_r0 : BitVec 32 := 1024#32
  let c4_i32_782_r0 : BitVec 32 := 4#32
  let v1260_r0 : BitVec 32 := Scalar.muli v180_r0 c4_i32_782_r0
  let v1261_r0 : BitVec 32 := Scalar.addi v1260_r0 v181_r0
  let c0_i32_784_r0 : BitVec 32 := 0#32
  let v1263_r0 : BitVec 1 := Scalar.cmpi .sgt v1261_r0 c0_i32_784_r0
  let v1264_r0 : BitVec 32 := Scalar.extui v1263_r0
  let c0_i32_785_r0 : BitVec 32 := 0#32
  let v1265_r0 : BitVec 1 := Scalar.cmpi .slt v1261_r0 c0_i32_785_r0
  let v1266_r0 : BitVec 32 := Scalar.extui v1265_r0
  let v1267_r0 : BitVec 32 := Scalar.subi v1264_r0 v1266_r0
  let c2_i32_783_r0 : BitVec 32 := 2#32
  let c0_i32_786_r0 : BitVec 32 := 0#32
  let v1268_r0 : BitVec 1 := Scalar.cmpi .sgt c2_i32_783_r0 c0_i32_786_r0
  let v1269_r0 : BitVec 32 := Scalar.extui v1268_r0
  let c0_i32_787_r0 : BitVec 32 := 0#32
  let v1270_r0 : BitVec 1 := Scalar.cmpi .slt c2_i32_783_r0 c0_i32_787_r0
  let v1271_r0 : BitVec 32 := Scalar.extui v1270_r0
  let v1272_r0 : BitVec 32 := Scalar.subi v1269_r0 v1271_r0
  let v1273_r0 : BitVec 1 := Scalar.cmpi .ne v1267_r0 v1272_r0
  let v1274_r0 : BitVec 32 := Scalar.remsi v1261_r0 c2_i32_783_r0
  let c0_i32_788_r0 : BitVec 32 := 0#32
  let v1275_r0 : BitVec 1 := Scalar.cmpi .ne v1274_r0 c0_i32_788_r0
  let v1276_r0 : BitVec 1 := Scalar.andi v1273_r0 v1275_r0
  let v1262_r0 : BitVec 32 := Scalar.divsi v1261_r0 c2_i32_783_r0
  let c1_i32_789_r0 : BitVec 32 := 1#32
  let v1277_r0 : BitVec 32 := Scalar.subi v1262_r0 c1_i32_789_r0
  let v1278_r0 : BitVec 32 := Scalar.select v1276_r0 v1277_r0 v1262_r0
  let v1280_r0 : BitVec 32 := Scalar.muli c1024_i32_791_r0 v1278_r0
  ![v1279_r0.toNat, v1280_r0.toNat]
def k0_off21 (arg18_r0 : BitVec 32) : Fin 1 → Nat :=
  let c2_i32_777_r0 : BitVec 32 := 2#32
  let v1250_r0 : BitVec 32 := Scalar.remui arg18_r0 c2_i32_777_r0
  ![v1250_r0.toNat]
def k0_cond6 (k0_t1 : Fin k0_t1_loop.trips) (arg31_r0 : BitVec 32) (arg32_r0 : BitVec 32) : BitVec 1 :=
  let c0_i32_179_r0 : BitVec 32 := 0#32
  let c0_i32_151_r0 : BitVec 32 := 0#32
  let v161_r0 : BitVec 32 := Scalar.addi arg32_r0 c0_i32_151_r0
  let v192_r0 : BitVec 32 := Scalar.addi c0_i32_179_r0 v161_r0
  let c0_i32_279_r0 : BitVec 32 := 0#32
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v392_r0 : BitVec 32 := Scalar.addi c0_i32_279_r0 v171_r0
  let v393_r0 : BitVec 1 := Scalar.cmpi .ne v192_r0 v392_r0
  let c0_i32_150_r0 : BitVec 32 := 0#32
  let v160_r0 : BitVec 32 := Scalar.addi arg31_r0 c0_i32_150_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let v394_r0 : BitVec 1 := Scalar.cmpi .ne v160_r0 v170_r0
  let v395_r0 : BitVec 1 := Scalar.ori v393_r0 v394_r0
  let c0_i32_84_r0 : BitVec 32 := 0#32
  let c1_i32_85_r0 : BitVec 32 := 1#32
  let arg16_r0 : BitVec 32 := Scf.iv c0_i32_84_r0 c1_i32_85_r0 k0_t1
  let c0_i32_149_r0 : BitVec 32 := 0#32
  let v158_r0 : BitVec 1 := Scalar.cmpi .eq arg16_r0 c0_i32_149_r0
  let v396_r0 : BitVec 1 := Scalar.ori v395_r0 v158_r0
  let c0_i32_280_r0 : BitVec 32 := 0#32
  let v397_r0 : BitVec 1 := Scalar.cmpi .sge arg16_r0 c0_i32_280_r0
  let v398_r0 : BitVec 1 := Scalar.andi v396_r0 v397_r0
  let v399_r0 : BitVec 32 := Scalar.extui v398_r0
  let c0_i32_281_r0 : BitVec 32 := 0#32
  let v400_r0 : BitVec 1 := Scalar.cmpi .ne v399_r0 c0_i32_281_r0
  v400_r0

def k0_off22 (arg18_r0 : BitVec 32) : Fin 4 → Nat :=
  let c2_i32_777_r0 : BitVec 32 := 2#32
  let v1250_r0 : BitVec 32 := Scalar.remui arg18_r0 c2_i32_777_r0
  let c0_i32_778_r0 : BitVec 32 := 0#32
  let c0_i32_779_r0 : BitVec 32 := 0#32
  let c0_i32_780_r0 : BitVec 32 := 0#32
  ![v1250_r0.toNat, 0, 0, 0]
def k0_off23 (arg31_r0 : BitVec 32) (arg32_r0 : BitVec 32) : Fin 3 → Nat :=
  let c2_i32_775_r0 : BitVec 32 := 2#32
  let c0_i32_774_r0 : BitVec 32 := 0#32
  let c0_i32_151_r0 : BitVec 32 := 0#32
  let v161_r0 : BitVec 32 := Scalar.addi arg32_r0 c0_i32_151_r0
  let v1247_r0 : BitVec 32 := Scalar.addi c0_i32_774_r0 v161_r0
  let v1248_r0 : BitVec 32 := Scalar.muli c2_i32_775_r0 v1247_r0
  let c2048_i32_776_r0 : BitVec 32 := 2048#32
  let c0_i32_150_r0 : BitVec 32 := 0#32
  let v160_r0 : BitVec 32 := Scalar.addi arg31_r0 c0_i32_150_r0
  let v1249_r0 : BitVec 32 := Scalar.muli c2048_i32_776_r0 v160_r0
  let c0_i32_781_r0 : BitVec 32 := 0#32
  ![v1248_r0.toNat, v1249_r0.toNat, 0]
def k0_off24 (arg20_r0 : BitVec 32) : Fin 1 → Nat :=
  let c2_i32_777_r0 : BitVec 32 := 2#32
  let v1250_r0 : BitVec 32 := Scalar.remui arg20_r0 c2_i32_777_r0
  ![v1250_r0.toNat]
def k0_cond7 (k0_t1 : Fin k0_t1_loop.trips) (arg31_r0 : BitVec 32) (arg32_r0 : BitVec 32) : BitVec 1 :=
  let c4_i32_187_r0 : BitVec 32 := 4#32
  let c0_i32_151_r0 : BitVec 32 := 0#32
  let v161_r0 : BitVec 32 := Scalar.addi arg32_r0 c0_i32_151_r0
  let v206_r0 : BitVec 32 := Scalar.addi c4_i32_187_r0 v161_r0
  let c4_i32_282_r0 : BitVec 32 := 4#32
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v401_r0 : BitVec 32 := Scalar.addi c4_i32_282_r0 v171_r0
  let v402_r0 : BitVec 1 := Scalar.cmpi .ne v206_r0 v401_r0
  let c0_i32_150_r0 : BitVec 32 := 0#32
  let v160_r0 : BitVec 32 := Scalar.addi arg31_r0 c0_i32_150_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let v403_r0 : BitVec 1 := Scalar.cmpi .ne v160_r0 v170_r0
  let v404_r0 : BitVec 1 := Scalar.ori v402_r0 v403_r0
  let c0_i32_84_r0 : BitVec 32 := 0#32
  let c1_i32_85_r0 : BitVec 32 := 1#32
  let arg16_r0 : BitVec 32 := Scf.iv c0_i32_84_r0 c1_i32_85_r0 k0_t1
  let c0_i32_149_r0 : BitVec 32 := 0#32
  let v158_r0 : BitVec 1 := Scalar.cmpi .eq arg16_r0 c0_i32_149_r0
  let v405_r0 : BitVec 1 := Scalar.ori v404_r0 v158_r0
  let c0_i32_283_r0 : BitVec 32 := 0#32
  let v406_r0 : BitVec 1 := Scalar.cmpi .sge arg16_r0 c0_i32_283_r0
  let v407_r0 : BitVec 1 := Scalar.andi v405_r0 v406_r0
  let v408_r0 : BitVec 32 := Scalar.extui v407_r0
  let c0_i32_284_r0 : BitVec 32 := 0#32
  let v409_r0 : BitVec 1 := Scalar.cmpi .ne v408_r0 c0_i32_284_r0
  v409_r0

def k0_off25 (arg20_r0 : BitVec 32) : Fin 4 → Nat :=
  let c2_i32_777_r0 : BitVec 32 := 2#32
  let v1250_r0 : BitVec 32 := Scalar.remui arg20_r0 c2_i32_777_r0
  let c0_i32_778_r0 : BitVec 32 := 0#32
  let c0_i32_779_r0 : BitVec 32 := 0#32
  let c0_i32_780_r0 : BitVec 32 := 0#32
  ![v1250_r0.toNat, 0, 0, 0]
def k0_off26 (arg31_r0 : BitVec 32) (arg32_r0 : BitVec 32) : Fin 3 → Nat :=
  let c2_i32_775_r0 : BitVec 32 := 2#32
  let c4_i32_774_r0 : BitVec 32 := 4#32
  let c0_i32_151_r0 : BitVec 32 := 0#32
  let v161_r0 : BitVec 32 := Scalar.addi arg32_r0 c0_i32_151_r0
  let v1247_r0 : BitVec 32 := Scalar.addi c4_i32_774_r0 v161_r0
  let v1248_r0 : BitVec 32 := Scalar.muli c2_i32_775_r0 v1247_r0
  let c2048_i32_776_r0 : BitVec 32 := 2048#32
  let c0_i32_150_r0 : BitVec 32 := 0#32
  let v160_r0 : BitVec 32 := Scalar.addi arg31_r0 c0_i32_150_r0
  let v1249_r0 : BitVec 32 := Scalar.muli c2048_i32_776_r0 v160_r0
  let c0_i32_781_r0 : BitVec 32 := 0#32
  ![v1248_r0.toNat, v1249_r0.toNat, 0]
def k0_off27 (arg22_r0 : BitVec 32) : Fin 1 → Nat :=
  let c2_i32_775_r0 : BitVec 32 := 2#32
  let v1249_r0 : BitVec 32 := Scalar.remui arg22_r0 c2_i32_775_r0
  ![v1249_r0.toNat]
def k0_cond8 (k0_t1 : Fin k0_t1_loop.trips) (arg31_r0 : BitVec 32) (arg32_r0 : BitVec 32) : BitVec 1 :=
  let c0_i32_151_r0 : BitVec 32 := 0#32
  let v161_r0 : BitVec 32 := Scalar.addi arg32_r0 c0_i32_151_r0
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v410_r0 : BitVec 1 := Scalar.cmpi .ne v161_r0 v171_r0
  let c0_i32_150_r0 : BitVec 32 := 0#32
  let v160_r0 : BitVec 32 := Scalar.addi arg31_r0 c0_i32_150_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let v411_r0 : BitVec 1 := Scalar.cmpi .ne v160_r0 v170_r0
  let v412_r0 : BitVec 1 := Scalar.ori v410_r0 v411_r0
  let c0_i32_84_r0 : BitVec 32 := 0#32
  let c1_i32_85_r0 : BitVec 32 := 1#32
  let arg16_r0 : BitVec 32 := Scf.iv c0_i32_84_r0 c1_i32_85_r0 k0_t1
  let c0_i32_149_r0 : BitVec 32 := 0#32
  let v158_r0 : BitVec 1 := Scalar.cmpi .eq arg16_r0 c0_i32_149_r0
  let v413_r0 : BitVec 1 := Scalar.ori v412_r0 v158_r0
  let c0_i32_285_r0 : BitVec 32 := 0#32
  let v414_r0 : BitVec 1 := Scalar.cmpi .sge arg16_r0 c0_i32_285_r0
  let v415_r0 : BitVec 1 := Scalar.andi v413_r0 v414_r0
  let v416_r0 : BitVec 32 := Scalar.extui v415_r0
  let c0_i32_286_r0 : BitVec 32 := 0#32
  let v417_r0 : BitVec 1 := Scalar.cmpi .ne v416_r0 c0_i32_286_r0
  v417_r0

def k0_off28 (arg22_r0 : BitVec 32) : Fin 3 → Nat :=
  let c2_i32_775_r0 : BitVec 32 := 2#32
  let v1249_r0 : BitVec 32 := Scalar.remui arg22_r0 c2_i32_775_r0
  let c0_i32_776_r0 : BitVec 32 := 0#32
  let c0_i32_777_r0 : BitVec 32 := 0#32
  ![v1249_r0.toNat, 0, 0]
def k0_off29 (arg31_r0 : BitVec 32) (arg32_r0 : BitVec 32) : Fin 2 → Nat :=
  let c256_i32_r0 : BitVec 32 := 256#32
  let c0_i32_151_r0 : BitVec 32 := 0#32
  let v161_r0 : BitVec 32 := Scalar.addi arg32_r0 c0_i32_151_r0
  let v1247_r0 : BitVec 32 := Scalar.muli c256_i32_r0 v161_r0
  let c2048_i32_774_r0 : BitVec 32 := 2048#32
  let c0_i32_150_r0 : BitVec 32 := 0#32
  let v160_r0 : BitVec 32 := Scalar.addi arg31_r0 c0_i32_150_r0
  let v1248_r0 : BitVec 32 := Scalar.muli c2048_i32_774_r0 v160_r0
  ![v1247_r0.toNat, v1248_r0.toNat]
def k0_off30 (arg24_r0 : BitVec 32) : Fin 1 → Nat :=
  let c2_i32_775_r0 : BitVec 32 := 2#32
  let v1248_r0 : BitVec 32 := Scalar.remui arg24_r0 c2_i32_775_r0
  ![v1248_r0.toNat]
def k0_cond9 (k0_t1 : Fin k0_t1_loop.trips) (arg31_r0 : BitVec 32) (arg32_r0 : BitVec 32) : BitVec 1 :=
  let c0_i32_150_r0 : BitVec 32 := 0#32
  let v160_r0 : BitVec 32 := Scalar.addi arg31_r0 c0_i32_150_r0
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let v418_r0 : BitVec 1 := Scalar.cmpi .ne v160_r0 v170_r0
  let c0_i32_84_r0 : BitVec 32 := 0#32
  let c1_i32_85_r0 : BitVec 32 := 1#32
  let arg16_r0 : BitVec 32 := Scf.iv c0_i32_84_r0 c1_i32_85_r0 k0_t1
  let c0_i32_149_r0 : BitVec 32 := 0#32
  let v158_r0 : BitVec 1 := Scalar.cmpi .eq arg16_r0 c0_i32_149_r0
  let v419_r0 : BitVec 1 := Scalar.ori v418_r0 v158_r0
  let c0_i32_287_r0 : BitVec 32 := 0#32
  let v420_r0 : BitVec 1 := Scalar.cmpi .sge arg16_r0 c0_i32_287_r0
  let v421_r0 : BitVec 1 := Scalar.andi v419_r0 v420_r0
  let v422_r0 : BitVec 32 := Scalar.extui v421_r0
  let c0_i32_288_r0 : BitVec 32 := 0#32
  let v423_r0 : BitVec 1 := Scalar.cmpi .ne v422_r0 c0_i32_288_r0
  v423_r0

def k0_off31 (arg24_r0 : BitVec 32) : Fin 3 → Nat :=
  let c2_i32_775_r0 : BitVec 32 := 2#32
  let v1248_r0 : BitVec 32 := Scalar.remui arg24_r0 c2_i32_775_r0
  let c0_i32_776_r0 : BitVec 32 := 0#32
  let c0_i32_777_r0 : BitVec 32 := 0#32
  ![v1248_r0.toNat, 0, 0]
def k0_off32 (arg31_r0 : BitVec 32) : Fin 2 → Nat :=
  let c2048_i32_774_r0 : BitVec 32 := 2048#32
  let c0_i32_150_r0 : BitVec 32 := 0#32
  let v160_r0 : BitVec 32 := Scalar.addi arg31_r0 c0_i32_150_r0
  let v1247_r0 : BitVec 32 := Scalar.muli c2048_i32_774_r0 v160_r0
  let c0_i32_778_r0 : BitVec 32 := 0#32
  ![v1247_r0.toNat, 0]
def k0_off33 (arg26_r0 : BitVec 32) : Fin 1 → Nat :=
  let c2_i32_791_r0 : BitVec 32 := 2#32
  let v1280_r0 : BitVec 32 := Scalar.remui arg26_r0 c2_i32_791_r0
  ![v1280_r0.toNat]
def k0_cond10 (k0_t1 : Fin k0_t1_loop.trips) (arg31_r0 : BitVec 32) (arg32_r0 : BitVec 32) : BitVec 1 :=
  let c0_i32_150_r0 : BitVec 32 := 0#32
  let v160_r0 : BitVec 32 := Scalar.addi arg31_r0 c0_i32_150_r0
  let c4_i32_207_r0 : BitVec 32 := 4#32
  let v242_r0 : BitVec 32 := Scalar.muli v160_r0 c4_i32_207_r0
  let c0_i32_151_r0 : BitVec 32 := 0#32
  let v161_r0 : BitVec 32 := Scalar.addi arg32_r0 c0_i32_151_r0
  let v243_r0 : BitVec 32 := Scalar.addi v242_r0 v161_r0
  let c2_i32_208_r0 : BitVec 32 := 2#32
  let c0_i32_209_r0 : BitVec 32 := 0#32
  let v244_r0 : BitVec 1 := Scalar.cmpi .eq c2_i32_208_r0 c0_i32_209_r0
  let c1_i32_210_r0 : BitVec 32 := 1#32
  let v245_r0 : BitVec 32 := Scalar.select v244_r0 c1_i32_210_r0 c2_i32_208_r0
  let v246_r0 : BitVec 32 := Scalar.remsi v243_r0 v245_r0
  let c0_i32_212_r0 : BitVec 32 := 0#32
  let v248_r0 : BitVec 1 := Scalar.cmpi .slt v246_r0 c0_i32_212_r0
  let c0_i32_213_r0 : BitVec 32 := 0#32
  let v249_r0 : BitVec 1 := Scalar.cmpi .slt v245_r0 c0_i32_213_r0
  let v250_r0 : BitVec 1 := Scalar.xori v248_r0 v249_r0
  let c0_i32_211_r0 : BitVec 32 := 0#32
  let v247_r0 : BitVec 1 := Scalar.cmpi .ne v246_r0 c0_i32_211_r0
  let v251_r0 : BitVec 1 := Scalar.andi v250_r0 v247_r0
  let v252_r0 : BitVec 32 := Scalar.addi v246_r0 v245_r0
  let v253_r0 : BitVec 32 := Scalar.select v251_r0 v252_r0 v246_r0
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let c4_i32_289_r0 : BitVec 32 := 4#32
  let v424_r0 : BitVec 32 := Scalar.muli v170_r0 c4_i32_289_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v425_r0 : BitVec 32 := Scalar.addi v424_r0 v171_r0
  let c2_i32_290_r0 : BitVec 32 := 2#32
  let c0_i32_291_r0 : BitVec 32 := 0#32
  let v426_r0 : BitVec 1 := Scalar.cmpi .eq c2_i32_290_r0 c0_i32_291_r0
  let c1_i32_292_r0 : BitVec 32 := 1#32
  let v427_r0 : BitVec 32 := Scalar.select v426_r0 c1_i32_292_r0 c2_i32_290_r0
  let v428_r0 : BitVec 32 := Scalar.remsi v425_r0 v427_r0
  let c0_i32_294_r0 : BitVec 32 := 0#32
  let v430_r0 : BitVec 1 := Scalar.cmpi .slt v428_r0 c0_i32_294_r0
  let c0_i32_295_r0 : BitVec 32 := 0#32
  let v431_r0 : BitVec 1 := Scalar.cmpi .slt v427_r0 c0_i32_295_r0
  let v432_r0 : BitVec 1 := Scalar.xori v430_r0 v431_r0
  let c0_i32_293_r0 : BitVec 32 := 0#32
  let v429_r0 : BitVec 1 := Scalar.cmpi .ne v428_r0 c0_i32_293_r0
  let v433_r0 : BitVec 1 := Scalar.andi v432_r0 v429_r0
  let v434_r0 : BitVec 32 := Scalar.addi v428_r0 v427_r0
  let v435_r0 : BitVec 32 := Scalar.select v433_r0 v434_r0 v428_r0
  let v455_r0 : BitVec 1 := Scalar.cmpi .ne v253_r0 v435_r0
  let c4_i32_214_r0 : BitVec 32 := 4#32
  let v254_r0 : BitVec 32 := Scalar.muli v160_r0 c4_i32_214_r0
  let v255_r0 : BitVec 32 := Scalar.addi v254_r0 v161_r0
  let c0_i32_216_r0 : BitVec 32 := 0#32
  let v257_r0 : BitVec 1 := Scalar.cmpi .sgt v255_r0 c0_i32_216_r0
  let v258_r0 : BitVec 32 := Scalar.extui v257_r0
  let c0_i32_217_r0 : BitVec 32 := 0#32
  let v259_r0 : BitVec 1 := Scalar.cmpi .slt v255_r0 c0_i32_217_r0
  let v260_r0 : BitVec 32 := Scalar.extui v259_r0
  let v261_r0 : BitVec 32 := Scalar.subi v258_r0 v260_r0
  let c2_i32_215_r0 : BitVec 32 := 2#32
  let c0_i32_218_r0 : BitVec 32 := 0#32
  let v262_r0 : BitVec 1 := Scalar.cmpi .sgt c2_i32_215_r0 c0_i32_218_r0
  let v263_r0 : BitVec 32 := Scalar.extui v262_r0
  let c0_i32_219_r0 : BitVec 32 := 0#32
  let v264_r0 : BitVec 1 := Scalar.cmpi .slt c2_i32_215_r0 c0_i32_219_r0
  let v265_r0 : BitVec 32 := Scalar.extui v264_r0
  let v266_r0 : BitVec 32 := Scalar.subi v263_r0 v265_r0
  let v267_r0 : BitVec 1 := Scalar.cmpi .ne v261_r0 v266_r0
  let v268_r0 : BitVec 32 := Scalar.remsi v255_r0 c2_i32_215_r0
  let c0_i32_220_r0 : BitVec 32 := 0#32
  let v269_r0 : BitVec 1 := Scalar.cmpi .ne v268_r0 c0_i32_220_r0
  let v270_r0 : BitVec 1 := Scalar.andi v267_r0 v269_r0
  let v256_r0 : BitVec 32 := Scalar.divsi v255_r0 c2_i32_215_r0
  let c1_i32_221_r0 : BitVec 32 := 1#32
  let v271_r0 : BitVec 32 := Scalar.subi v256_r0 c1_i32_221_r0
  let v272_r0 : BitVec 32 := Scalar.select v270_r0 v271_r0 v256_r0
  let c4_i32_296_r0 : BitVec 32 := 4#32
  let v436_r0 : BitVec 32 := Scalar.muli v170_r0 c4_i32_296_r0
  let v437_r0 : BitVec 32 := Scalar.addi v436_r0 v171_r0
  let c0_i32_298_r0 : BitVec 32 := 0#32
  let v439_r0 : BitVec 1 := Scalar.cmpi .sgt v437_r0 c0_i32_298_r0
  let v440_r0 : BitVec 32 := Scalar.extui v439_r0
  let c0_i32_299_r0 : BitVec 32 := 0#32
  let v441_r0 : BitVec 1 := Scalar.cmpi .slt v437_r0 c0_i32_299_r0
  let v442_r0 : BitVec 32 := Scalar.extui v441_r0
  let v443_r0 : BitVec 32 := Scalar.subi v440_r0 v442_r0
  let c2_i32_297_r0 : BitVec 32 := 2#32
  let c0_i32_300_r0 : BitVec 32 := 0#32
  let v444_r0 : BitVec 1 := Scalar.cmpi .sgt c2_i32_297_r0 c0_i32_300_r0
  let v445_r0 : BitVec 32 := Scalar.extui v444_r0
  let c0_i32_301_r0 : BitVec 32 := 0#32
  let v446_r0 : BitVec 1 := Scalar.cmpi .slt c2_i32_297_r0 c0_i32_301_r0
  let v447_r0 : BitVec 32 := Scalar.extui v446_r0
  let v448_r0 : BitVec 32 := Scalar.subi v445_r0 v447_r0
  let v449_r0 : BitVec 1 := Scalar.cmpi .ne v443_r0 v448_r0
  let v450_r0 : BitVec 32 := Scalar.remsi v437_r0 c2_i32_297_r0
  let c0_i32_302_r0 : BitVec 32 := 0#32
  let v451_r0 : BitVec 1 := Scalar.cmpi .ne v450_r0 c0_i32_302_r0
  let v452_r0 : BitVec 1 := Scalar.andi v449_r0 v451_r0
  let v438_r0 : BitVec 32 := Scalar.divsi v437_r0 c2_i32_297_r0
  let c1_i32_303_r0 : BitVec 32 := 1#32
  let v453_r0 : BitVec 32 := Scalar.subi v438_r0 c1_i32_303_r0
  let v454_r0 : BitVec 32 := Scalar.select v452_r0 v453_r0 v438_r0
  let v456_r0 : BitVec 1 := Scalar.cmpi .ne v272_r0 v454_r0
  let v457_r0 : BitVec 1 := Scalar.ori v455_r0 v456_r0
  let c0_i32_84_r0 : BitVec 32 := 0#32
  let c1_i32_85_r0 : BitVec 32 := 1#32
  let arg16_r0 : BitVec 32 := Scf.iv c0_i32_84_r0 c1_i32_85_r0 k0_t1
  let c0_i32_149_r0 : BitVec 32 := 0#32
  let v158_r0 : BitVec 1 := Scalar.cmpi .eq arg16_r0 c0_i32_149_r0
  let v458_r0 : BitVec 1 := Scalar.ori v457_r0 v158_r0
  let c0_i32_304_r0 : BitVec 32 := 0#32
  let v459_r0 : BitVec 1 := Scalar.cmpi .sge arg16_r0 c0_i32_304_r0
  let v460_r0 : BitVec 1 := Scalar.andi v458_r0 v459_r0
  let v461_r0 : BitVec 32 := Scalar.extui v460_r0
  let c0_i32_305_r0 : BitVec 32 := 0#32
  let v462_r0 : BitVec 1 := Scalar.cmpi .ne v461_r0 c0_i32_305_r0
  v462_r0

def k0_off34 (arg26_r0 : BitVec 32) : Fin 3 → Nat :=
  let c2_i32_791_r0 : BitVec 32 := 2#32
  let v1280_r0 : BitVec 32 := Scalar.remui arg26_r0 c2_i32_791_r0
  let c0_i32_792_r0 : BitVec 32 := 0#32
  let c0_i32_793_r0 : BitVec 32 := 0#32
  ![v1280_r0.toNat, 0, 0]
def k0_off35 (arg31_r0 : BitVec 32) (arg32_r0 : BitVec 32) : Fin 2 → Nat :=
  let c1024_i32_789_r0 : BitVec 32 := 1024#32
  let c0_i32_150_r0 : BitVec 32 := 0#32
  let v160_r0 : BitVec 32 := Scalar.addi arg31_r0 c0_i32_150_r0
  let c4_i32_774_r0 : BitVec 32 := 4#32
  let v1247_r0 : BitVec 32 := Scalar.muli v160_r0 c4_i32_774_r0
  let c0_i32_151_r0 : BitVec 32 := 0#32
  let v161_r0 : BitVec 32 := Scalar.addi arg32_r0 c0_i32_151_r0
  let v1248_r0 : BitVec 32 := Scalar.addi v1247_r0 v161_r0
  let c2_i32_775_r0 : BitVec 32 := 2#32
  let c0_i32_776_r0 : BitVec 32 := 0#32
  let v1249_r0 : BitVec 1 := Scalar.cmpi .eq c2_i32_775_r0 c0_i32_776_r0
  let c1_i32_777_r0 : BitVec 32 := 1#32
  let v1250_r0 : BitVec 32 := Scalar.select v1249_r0 c1_i32_777_r0 c2_i32_775_r0
  let v1251_r0 : BitVec 32 := Scalar.remsi v1248_r0 v1250_r0
  let c0_i32_779_r0 : BitVec 32 := 0#32
  let v1253_r0 : BitVec 1 := Scalar.cmpi .slt v1251_r0 c0_i32_779_r0
  let c0_i32_780_r0 : BitVec 32 := 0#32
  let v1254_r0 : BitVec 1 := Scalar.cmpi .slt v1250_r0 c0_i32_780_r0
  let v1255_r0 : BitVec 1 := Scalar.xori v1253_r0 v1254_r0
  let c0_i32_778_r0 : BitVec 32 := 0#32
  let v1252_r0 : BitVec 1 := Scalar.cmpi .ne v1251_r0 c0_i32_778_r0
  let v1256_r0 : BitVec 1 := Scalar.andi v1255_r0 v1252_r0
  let v1257_r0 : BitVec 32 := Scalar.addi v1251_r0 v1250_r0
  let v1258_r0 : BitVec 32 := Scalar.select v1256_r0 v1257_r0 v1251_r0
  let v1278_r0 : BitVec 32 := Scalar.muli c1024_i32_789_r0 v1258_r0
  let c1024_i32_790_r0 : BitVec 32 := 1024#32
  let c4_i32_781_r0 : BitVec 32 := 4#32
  let v1259_r0 : BitVec 32 := Scalar.muli v160_r0 c4_i32_781_r0
  let v1260_r0 : BitVec 32 := Scalar.addi v1259_r0 v161_r0
  let c0_i32_783_r0 : BitVec 32 := 0#32
  let v1262_r0 : BitVec 1 := Scalar.cmpi .sgt v1260_r0 c0_i32_783_r0
  let v1263_r0 : BitVec 32 := Scalar.extui v1262_r0
  let c0_i32_784_r0 : BitVec 32 := 0#32
  let v1264_r0 : BitVec 1 := Scalar.cmpi .slt v1260_r0 c0_i32_784_r0
  let v1265_r0 : BitVec 32 := Scalar.extui v1264_r0
  let v1266_r0 : BitVec 32 := Scalar.subi v1263_r0 v1265_r0
  let c2_i32_782_r0 : BitVec 32 := 2#32
  let c0_i32_785_r0 : BitVec 32 := 0#32
  let v1267_r0 : BitVec 1 := Scalar.cmpi .sgt c2_i32_782_r0 c0_i32_785_r0
  let v1268_r0 : BitVec 32 := Scalar.extui v1267_r0
  let c0_i32_786_r0 : BitVec 32 := 0#32
  let v1269_r0 : BitVec 1 := Scalar.cmpi .slt c2_i32_782_r0 c0_i32_786_r0
  let v1270_r0 : BitVec 32 := Scalar.extui v1269_r0
  let v1271_r0 : BitVec 32 := Scalar.subi v1268_r0 v1270_r0
  let v1272_r0 : BitVec 1 := Scalar.cmpi .ne v1266_r0 v1271_r0
  let v1273_r0 : BitVec 32 := Scalar.remsi v1260_r0 c2_i32_782_r0
  let c0_i32_787_r0 : BitVec 32 := 0#32
  let v1274_r0 : BitVec 1 := Scalar.cmpi .ne v1273_r0 c0_i32_787_r0
  let v1275_r0 : BitVec 1 := Scalar.andi v1272_r0 v1274_r0
  let v1261_r0 : BitVec 32 := Scalar.divsi v1260_r0 c2_i32_782_r0
  let c1_i32_788_r0 : BitVec 32 := 1#32
  let v1276_r0 : BitVec 32 := Scalar.subi v1261_r0 c1_i32_788_r0
  let v1277_r0 : BitVec 32 := Scalar.select v1275_r0 v1276_r0 v1261_r0
  let v1279_r0 : BitVec 32 := Scalar.muli c1024_i32_790_r0 v1277_r0
  ![v1278_r0.toNat, v1279_r0.toNat]
def k0_off36 (arg26_r0 : BitVec 32) : Fin 3 → Nat :=
  let c2_i32_330_r0 : BitVec 32 := 2#32
  let v515_r0 : BitVec 32 := Scalar.remui arg26_r0 c2_i32_330_r0
  let v518_r0 : Index := Scalar.indexCast v515_r0
  let c0_r0 : Index := 0#32
  let c0_333_r0 : Index := 0#32
  ![v518_r0.toNat, 0, 0]

def k0_chk2 (arg26_r0 : BitVec 32) : Prop :=
  (∀ a, (k0_off36 arg26_r0) a + S1x1024x1024.size a ≤ S2x1024x1024.size a)
theorem k0_off36_inb : ∀ (arg26_r0 : BitVec 32) (k0_hw2 : k0_chk2 arg26_r0), ∀ a, (k0_off36 arg26_r0) a + S1x1024x1024.size a ≤ S2x1024x1024.size a := fun arg26_r0 k0_hw2 => k0_hw2

def k0_off37 (arg29_r0 : BitVec 32) : Fin 3 → Nat :=
  let c2_i32_332_r0 : BitVec 32 := 2#32
  let v517_r0 : BitVec 32 := Scalar.remui arg29_r0 c2_i32_332_r0
  let v522_r0 : Index := Scalar.indexCast v517_r0
  let c0_334_r0 : Index := 0#32
  let c0_335_r0 : Index := 0#32
  ![v522_r0.toNat, 0, 0]

def k0_chk3 (arg29_r0 : BitVec 32) : Prop :=
  (∀ a, (k0_off37 arg29_r0) a + S1x1024x1024.size a ≤ S2x1024x1024.size a) ∧
  (∀ (hinb : ∀ a, (k0_off37 arg29_r0) a + S1x1024x1024.size a ≤ S2x1024x1024.size a), (Rect.unit (s := S2x1024x1024) (k0_off37 arg29_r0) S1x1024x1024.size hinb).PackedRows (EltTy.packing .bf16))
theorem k0_off37_inb : ∀ (arg29_r0 : BitVec 32) (k0_hw3 : k0_chk3 arg29_r0), ∀ a, (k0_off37 arg29_r0) a + S1x1024x1024.size a ≤ S2x1024x1024.size a := fun arg29_r0 k0_hw3 => k0_hw3.1
theorem k0_off37_packedbf16 : ∀ (arg29_r0 : BitVec 32) (k0_hw3 : k0_chk3 arg29_r0), (Rect.unit (s := S2x1024x1024) (k0_off37 arg29_r0) S1x1024x1024.size (k0_off37_inb arg29_r0 k0_hw3)).PackedRows (EltTy.packing .bf16) := fun arg29_r0 k0_hw3 => k0_hw3.2 (k0_off37_inb arg29_r0 k0_hw3)

def k0_off38 (arg20_r0 : BitVec 32) : Fin 4 → Nat :=
  let c2_i32_327_r0 : BitVec 32 := 2#32
  let v512_r0 : BitVec 32 := Scalar.remui arg20_r0 c2_i32_327_r0
  let c0_i32_338_r0 : BitVec 32 := 0#32
  let c0_i32_339_r0 : BitVec 32 := 0#32
  let c0_i32_340_r0 : BitVec 32 := 0#32
  ![v512_r0.toNat, 0, 0, 0]

def k0_chk4 (arg20_r0 : BitVec 32) : Prop :=
  (∀ a, (k0_off38 arg20_r0) a + S1x2x2048x128.size a ≤ S2x2x2048x128.size a)
theorem k0_off38_inb : ∀ (arg20_r0 : BitVec 32) (k0_hw4 : k0_chk4 arg20_r0), ∀ a, (k0_off38 arg20_r0) a + S1x2x2048x128.size a ≤ S2x2x2048x128.size a := fun arg20_r0 k0_hw4 => k0_hw4

def k0_off39 (arg24_r0 : BitVec 32) : Fin 3 → Nat :=
  let c2_i32_329_r0 : BitVec 32 := 2#32
  let v514_r0 : BitVec 32 := Scalar.remui arg24_r0 c2_i32_329_r0
  let v539_r0 : Index := Scalar.indexCast v514_r0
  let c0_347_r0 : Index := 0#32
  let c0_348_r0 : Index := 0#32
  ![v539_r0.toNat, 0, 0]

def k0_chk5 (arg24_r0 : BitVec 32) : Prop :=
  (∀ a, (k0_off39 arg24_r0) a + S1x2048x128.size a ≤ S2x2048x128.size a)
theorem k0_off39_inb : ∀ (arg24_r0 : BitVec 32) (k0_hw5 : k0_chk5 arg24_r0), ∀ a, (k0_off39 arg24_r0) a + S1x2048x128.size a ≤ S2x2048x128.size a := fun arg24_r0 k0_hw5 => k0_hw5

def k0_off40 (arg18_r0 : BitVec 32) : Fin 4 → Nat :=
  let c2_i32_326_r0 : BitVec 32 := 2#32
  let v511_r0 : BitVec 32 := Scalar.remui arg18_r0 c2_i32_326_r0
  let c0_i32_354_r0 : BitVec 32 := 0#32
  let c0_i32_355_r0 : BitVec 32 := 0#32
  let c0_i32_356_r0 : BitVec 32 := 0#32
  ![v511_r0.toNat, 0, 0, 0]

def k0_chk6 (arg18_r0 : BitVec 32) : Prop :=
  (∀ a, (k0_off40 arg18_r0) a + S1x2x2048x128.size a ≤ S2x2x2048x128.size a)
theorem k0_off40_inb : ∀ (arg18_r0 : BitVec 32) (k0_hw6 : k0_chk6 arg18_r0), ∀ a, (k0_off40 arg18_r0) a + S1x2x2048x128.size a ≤ S2x2x2048x128.size a := fun arg18_r0 k0_hw6 => k0_hw6

def k0_off41 (arg22_r0 : BitVec 32) : Fin 3 → Nat :=
  let c2_i32_328_r0 : BitVec 32 := 2#32
  let v513_r0 : BitVec 32 := Scalar.remui arg22_r0 c2_i32_328_r0
  let c0_i32_505_r0 : BitVec 32 := 0#32
  let c0_i32_506_r0 : BitVec 32 := 0#32
  ![v513_r0.toNat, 0, 0]

def k0_off42 (arg27_r0 : BitVec 32) : Fin 4 → Nat :=
  let c2_i32_331_r0 : BitVec 32 := 2#32
  let v516_r0 : BitVec 32 := Scalar.remui arg27_r0 c2_i32_331_r0
  let c0_i32_510_r0 : BitVec 32 := 0#32
  let c0_i32_511_r0 : BitVec 32 := 0#32
  let c0_i32_512_r0 : BitVec 32 := 0#32
  ![v516_r0.toNat, 0, 0, 0]

def k0_chk8 (arg27_r0 : BitVec 32) : Prop :=
  (∀ a, (k0_off42 arg27_r0) a + S1x2x2048x128.size a ≤ S2x2x2048x128.size a)
theorem k0_off42_inb : ∀ (arg27_r0 : BitVec 32) (k0_hw8 : k0_chk8 arg27_r0), ∀ a, (k0_off42 arg27_r0) a + S1x2x2048x128.size a ≤ S2x2x2048x128.size a := fun arg27_r0 k0_hw8 => k0_hw8

def k0_off43 (arg22_r0 : BitVec 32) : Fin 3 → Nat :=
  let c2_i32_328_r0 : BitVec 32 := 2#32
  let v513_r0 : BitVec 32 := Scalar.remui arg22_r0 c2_i32_328_r0
  let c0_i32_521_r0 : BitVec 32 := 0#32
  let c0_i32_522_r0 : BitVec 32 := 0#32
  ![v513_r0.toNat, 0, 0]

def k0_chk7 (arg22_r0 : BitVec 32) : Prop :=
  (∀ a, (k0_off41 arg22_r0) a + S1x256x2048.size a ≤ S2x256x2048.size a) ∧
  (∀ a, (k0_off43 arg22_r0) a + S1x256x2048.size a ≤ S2x256x2048.size a)
theorem k0_off41_inb : ∀ (arg22_r0 : BitVec 32) (k0_hw7 : k0_chk7 arg22_r0), ∀ a, (k0_off41 arg22_r0) a + S1x256x2048.size a ≤ S2x256x2048.size a := fun arg22_r0 k0_hw7 => k0_hw7.1
theorem k0_off43_inb : ∀ (arg22_r0 : BitVec 32) (k0_hw7 : k0_chk7 arg22_r0), ∀ a, (k0_off43 arg22_r0) a + S1x256x2048.size a ≤ S2x256x2048.size a := fun arg22_r0 k0_hw7 => k0_hw7.2

def k0_off44 (arg27_r0 : BitVec 32) : Fin 1 → Nat :=
  let c2_i32_774_r0 : BitVec 32 := 2#32
  let v1247_r0 : BitVec 32 := Scalar.remui arg27_r0 c2_i32_774_r0
  ![v1247_r0.toNat]
def k0_cond18 (k0_t1 : Fin k0_t1_loop.trips) (arg31_r0 : BitVec 32) (arg32_r0 : BitVec 32) : BitVec 1 :=
  let c0_i32_243_r0 : BitVec 32 := 0#32
  let c0_i32_151_r0 : BitVec 32 := 0#32
  let v161_r0 : BitVec 32 := Scalar.addi arg32_r0 c0_i32_151_r0
  let v316_r0 : BitVec 32 := Scalar.addi c0_i32_243_r0 v161_r0
  let c0_i32_244_r0 : BitVec 32 := 0#32
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v317_r0 : BitVec 32 := Scalar.addi c0_i32_244_r0 v181_r0
  let v1135_r0 : BitVec 1 := Scalar.cmpi .ne v316_r0 v317_r0
  let c0_i32_150_r0 : BitVec 32 := 0#32
  let v160_r0 : BitVec 32 := Scalar.addi arg31_r0 c0_i32_150_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let v1136_r0 : BitVec 1 := Scalar.cmpi .ne v160_r0 v180_r0
  let v1137_r0 : BitVec 1 := Scalar.ori v1135_r0 v1136_r0
  let c0_i32_84_r0 : BitVec 32 := 0#32
  let c1_i32_85_r0 : BitVec 32 := 1#32
  let arg16_r0 : BitVec 32 := Scf.iv c0_i32_84_r0 c1_i32_85_r0 k0_t1
  let c15_i32_r0 : BitVec 32 := 15#32
  let v159_r0 : BitVec 1 := Scalar.cmpi .eq arg16_r0 c15_i32_r0
  let v1138_r0 : BitVec 1 := Scalar.ori v1137_r0 v159_r0
  let v1139_r0 : BitVec 32 := Scalar.extui v1138_r0
  let c0_i32_733_r0 : BitVec 32 := 0#32
  let v1140_r0 : BitVec 1 := Scalar.cmpi .ne v1139_r0 c0_i32_733_r0
  v1140_r0

def k0_off45 (arg31_r0 : BitVec 32) (arg32_r0 : BitVec 32) : Fin 3 → Nat :=
  let c2_i32_776_r0 : BitVec 32 := 2#32
  let c0_i32_775_r0 : BitVec 32 := 0#32
  let c0_i32_151_r0 : BitVec 32 := 0#32
  let v161_r0 : BitVec 32 := Scalar.addi arg32_r0 c0_i32_151_r0
  let v1248_r0 : BitVec 32 := Scalar.addi c0_i32_775_r0 v161_r0
  let v1249_r0 : BitVec 32 := Scalar.muli c2_i32_776_r0 v1248_r0
  let c2048_i32_777_r0 : BitVec 32 := 2048#32
  let c0_i32_150_r0 : BitVec 32 := 0#32
  let v160_r0 : BitVec 32 := Scalar.addi arg31_r0 c0_i32_150_r0
  let v1250_r0 : BitVec 32 := Scalar.muli c2048_i32_777_r0 v160_r0
  let c0_i32_778_r0 : BitVec 32 := 0#32
  ![v1249_r0.toNat, v1250_r0.toNat, 0]
def k0_off46 (arg27_r0 : BitVec 32) : Fin 4 → Nat :=
  let c2_i32_774_r0 : BitVec 32 := 2#32
  let v1247_r0 : BitVec 32 := Scalar.remui arg27_r0 c2_i32_774_r0
  let c0_i32_779_r0 : BitVec 32 := 0#32
  let c0_i32_780_r0 : BitVec 32 := 0#32
  let c0_i32_781_r0 : BitVec 32 := 0#32
  ![v1247_r0.toNat, 0, 0, 0]
def k0_off47 (arg29_r0 : BitVec 32) : Fin 1 → Nat :=
  let c2_i32_774_r0 : BitVec 32 := 2#32
  let v1247_r0 : BitVec 32 := Scalar.remui arg29_r0 c2_i32_774_r0
  ![v1247_r0.toNat]
def k0_cond19 (k0_t1 : Fin k0_t1_loop.trips) (arg31_r0 : BitVec 32) (arg32_r0 : BitVec 32) : BitVec 1 :=
  let c0_i32_150_r0 : BitVec 32 := 0#32
  let v160_r0 : BitVec 32 := Scalar.addi arg31_r0 c0_i32_150_r0
  let c4_i32_247_r0 : BitVec 32 := 4#32
  let v324_r0 : BitVec 32 := Scalar.muli v160_r0 c4_i32_247_r0
  let c0_i32_151_r0 : BitVec 32 := 0#32
  let v161_r0 : BitVec 32 := Scalar.addi arg32_r0 c0_i32_151_r0
  let v325_r0 : BitVec 32 := Scalar.addi v324_r0 v161_r0
  let c0_i32_249_r0 : BitVec 32 := 0#32
  let v327_r0 : BitVec 1 := Scalar.cmpi .sgt v325_r0 c0_i32_249_r0
  let v328_r0 : BitVec 32 := Scalar.extui v327_r0
  let c0_i32_250_r0 : BitVec 32 := 0#32
  let v329_r0 : BitVec 1 := Scalar.cmpi .slt v325_r0 c0_i32_250_r0
  let v330_r0 : BitVec 32 := Scalar.extui v329_r0
  let v331_r0 : BitVec 32 := Scalar.subi v328_r0 v330_r0
  let c2_i32_248_r0 : BitVec 32 := 2#32
  let c0_i32_251_r0 : BitVec 32 := 0#32
  let v332_r0 : BitVec 1 := Scalar.cmpi .sgt c2_i32_248_r0 c0_i32_251_r0
  let v333_r0 : BitVec 32 := Scalar.extui v332_r0
  let c0_i32_252_r0 : BitVec 32 := 0#32
  let v334_r0 : BitVec 1 := Scalar.cmpi .slt c2_i32_248_r0 c0_i32_252_r0
  let v335_r0 : BitVec 32 := Scalar.extui v334_r0
  let v336_r0 : BitVec 32 := Scalar.subi v333_r0 v335_r0
  let v337_r0 : BitVec 1 := Scalar.cmpi .ne v331_r0 v336_r0
  let v338_r0 : BitVec 32 := Scalar.remsi v325_r0 c2_i32_248_r0
  let c0_i32_253_r0 : BitVec 32 := 0#32
  let v339_r0 : BitVec 1 := Scalar.cmpi .ne v338_r0 c0_i32_253_r0
  let v340_r0 : BitVec 1 := Scalar.andi v337_r0 v339_r0
  let v326_r0 : BitVec 32 := Scalar.divsi v325_r0 c2_i32_248_r0
  let c1_i32_254_r0 : BitVec 32 := 1#32
  let v341_r0 : BitVec 32 := Scalar.subi v326_r0 c1_i32_254_r0
  let v342_r0 : BitVec 32 := Scalar.select v340_r0 v341_r0 v326_r0
  let true_162_r0 : BitVec 1 := 1#1
  let c1_i32_161_r0 : BitVec 32 := 1#32
  let v172_r0 : BitVec 32 := Scalar.addi arg32_r0 c1_i32_161_r0
  let v173_r0 : BitVec 32 := Scalar.select true_162_r0 v172_r0 arg32_r0
  let c4_i32_163_r0 : BitVec 32 := 4#32
  let v174_r0 : BitVec 1 := Scalar.cmpi .eq v173_r0 c4_i32_163_r0
  let c1_i32_165_r0 : BitVec 32 := 1#32
  let v176_r0 : BitVec 32 := Scalar.addi arg31_r0 c1_i32_165_r0
  let v177_r0 : BitVec 32 := Scalar.select v174_r0 v176_r0 arg31_r0
  let c4_i32_166_r0 : BitVec 32 := 4#32
  let v178_r0 : BitVec 1 := Scalar.cmpi .eq v177_r0 c4_i32_166_r0
  let c0_i32_167_r0 : BitVec 32 := 0#32
  let v179_r0 : BitVec 32 := Scalar.select v178_r0 c0_i32_167_r0 v177_r0
  let c0_i32_168_r0 : BitVec 32 := 0#32
  let v180_r0 : BitVec 32 := Scalar.addi v179_r0 c0_i32_168_r0
  let c4_i32_262_r0 : BitVec 32 := 4#32
  let v355_r0 : BitVec 32 := Scalar.muli v180_r0 c4_i32_262_r0
  let c0_i32_164_r0 : BitVec 32 := 0#32
  let v175_r0 : BitVec 32 := Scalar.select v174_r0 c0_i32_164_r0 v173_r0
  let c0_i32_169_r0 : BitVec 32 := 0#32
  let v181_r0 : BitVec 32 := Scalar.addi v175_r0 c0_i32_169_r0
  let v356_r0 : BitVec 32 := Scalar.addi v355_r0 v181_r0
  let c0_i32_264_r0 : BitVec 32 := 0#32
  let v358_r0 : BitVec 1 := Scalar.cmpi .sgt v356_r0 c0_i32_264_r0
  let v359_r0 : BitVec 32 := Scalar.extui v358_r0
  let c0_i32_265_r0 : BitVec 32 := 0#32
  let v360_r0 : BitVec 1 := Scalar.cmpi .slt v356_r0 c0_i32_265_r0
  let v361_r0 : BitVec 32 := Scalar.extui v360_r0
  let v362_r0 : BitVec 32 := Scalar.subi v359_r0 v361_r0
  let c2_i32_263_r0 : BitVec 32 := 2#32
  let c0_i32_266_r0 : BitVec 32 := 0#32
  let v363_r0 : BitVec 1 := Scalar.cmpi .sgt c2_i32_263_r0 c0_i32_266_r0
  let v364_r0 : BitVec 32 := Scalar.extui v363_r0
  let c0_i32_267_r0 : BitVec 32 := 0#32
  let v365_r0 : BitVec 1 := Scalar.cmpi .slt c2_i32_263_r0 c0_i32_267_r0
  let v366_r0 : BitVec 32 := Scalar.extui v365_r0
  let v367_r0 : BitVec 32 := Scalar.subi v364_r0 v366_r0
  let v368_r0 : BitVec 1 := Scalar.cmpi .ne v362_r0 v367_r0
  let v369_r0 : BitVec 32 := Scalar.remsi v356_r0 c2_i32_263_r0
  let c0_i32_268_r0 : BitVec 32 := 0#32
  let v370_r0 : BitVec 1 := Scalar.cmpi .ne v369_r0 c0_i32_268_r0
  let v371_r0 : BitVec 1 := Scalar.andi v368_r0 v370_r0
  let v357_r0 : BitVec 32 := Scalar.divsi v356_r0 c2_i32_263_r0
  let c1_i32_269_r0 : BitVec 32 := 1#32
  let v372_r0 : BitVec 32 := Scalar.subi v357_r0 c1_i32_269_r0
  let v373_r0 : BitVec 32 := Scalar.select v371_r0 v372_r0 v357_r0
  let v1144_r0 : BitVec 1 := Scalar.cmpi .ne v342_r0 v373_r0
  let c4_i32_255_r0 : BitVec 32 := 4#32
  let v343_r0 : BitVec 32 := Scalar.muli v160_r0 c4_i32_255_r0
  let v344_r0 : BitVec 32 := Scalar.addi v343_r0 v161_r0
  let c2_i32_256_r0 : BitVec 32 := 2#32
  let c0_i32_257_r0 : BitVec 32 := 0#32
  let v345_r0 : BitVec 1 := Scalar.cmpi .eq c2_i32_256_r0 c0_i32_257_r0
  let c1_i32_258_r0 : BitVec 32 := 1#32
  let v346_r0 : BitVec 32 := Scalar.select v345_r0 c1_i32_258_r0 c2_i32_256_r0
  let v347_r0 : BitVec 32 := Scalar.remsi v344_r0 v346_r0
  let c0_i32_260_r0 : BitVec 32 := 0#32
  let v349_r0 : BitVec 1 := Scalar.cmpi .slt v347_r0 c0_i32_260_r0
  let c0_i32_261_r0 : BitVec 32 := 0#32
  let v350_r0 : BitVec 1 := Scalar.cmpi .slt v346_r0 c0_i32_261_r0
  let v351_r0 : BitVec 1 := Scalar.xori v349_r0 v350_r0
  let c0_i32_259_r0 : BitVec 32 := 0#32
  let v348_r0 : BitVec 1 := Scalar.cmpi .ne v347_r0 c0_i32_259_r0
  let v352_r0 : BitVec 1 := Scalar.andi v351_r0 v348_r0
  let v353_r0 : BitVec 32 := Scalar.addi v347_r0 v346_r0
  let v354_r0 : BitVec 32 := Scalar.select v352_r0 v353_r0 v347_r0
  let c4_i32_270_r0 : BitVec 32 := 4#32
  let v374_r0 : BitVec 32 := Scalar.muli v180_r0 c4_i32_270_r0
  let v375_r0 : BitVec 32 := Scalar.addi v374_r0 v181_r0
  let c2_i32_271_r0 : BitVec 32 := 2#32
  let c0_i32_272_r0 : BitVec 32 := 0#32
  let v376_r0 : BitVec 1 := Scalar.cmpi .eq c2_i32_271_r0 c0_i32_272_r0
  let c1_i32_273_r0 : BitVec 32 := 1#32
  let v377_r0 : BitVec 32 := Scalar.select v376_r0 c1_i32_273_r0 c2_i32_271_r0
  let v378_r0 : BitVec 32 := Scalar.remsi v375_r0 v377_r0
  let c0_i32_275_r0 : BitVec 32 := 0#32
  let v380_r0 : BitVec 1 := Scalar.cmpi .slt v378_r0 c0_i32_275_r0
  let c0_i32_276_r0 : BitVec 32 := 0#32
  let v381_r0 : BitVec 1 := Scalar.cmpi .slt v377_r0 c0_i32_276_r0
  let v382_r0 : BitVec 1 := Scalar.xori v380_r0 v381_r0
  let c0_i32_274_r0 : BitVec 32 := 0#32
  let v379_r0 : BitVec 1 := Scalar.cmpi .ne v378_r0 c0_i32_274_r0
  let v383_r0 : BitVec 1 := Scalar.andi v382_r0 v379_r0
  let v384_r0 : BitVec 32 := Scalar.addi v378_r0 v377_r0
  let v385_r0 : BitVec 32 := Scalar.select v383_r0 v384_r0 v378_r0
  let v1145_r0 : BitVec 1 := Scalar.cmpi .ne v354_r0 v385_r0
  let v1146_r0 : BitVec 1 := Scalar.ori v1144_r0 v1145_r0
  let c0_i32_84_r0 : BitVec 32 := 0#32
  let c1_i32_85_r0 : BitVec 32 := 1#32
  let arg16_r0 : BitVec 32 := Scf.iv c0_i32_84_r0 c1_i32_85_r0 k0_t1
  let c15_i32_r0 : BitVec 32 := 15#32
  let v159_r0 : BitVec 1 := Scalar.cmpi .eq arg16_r0 c15_i32_r0
  let v1147_r0 : BitVec 1 := Scalar.ori v1146_r0 v159_r0
  let v1148_r0 : BitVec 32 := Scalar.extui v1147_r0
  let c0_i32_736_r0 : BitVec 32 := 0#32
  let v1149_r0 : BitVec 1 := Scalar.cmpi .ne v1148_r0 c0_i32_736_r0
  v1149_r0

def k0_off48 (arg31_r0 : BitVec 32) (arg32_r0 : BitVec 32) : Fin 3 → Nat :=
  let c0_i32_150_r0 : BitVec 32 := 0#32
  let v160_r0 : BitVec 32 := Scalar.addi arg31_r0 c0_i32_150_r0
  let c4_i32_775_r0 : BitVec 32 := 4#32
  let v1248_r0 : BitVec 32 := Scalar.muli v160_r0 c4_i32_775_r0
  let c0_i32_151_r0 : BitVec 32 := 0#32
  let v161_r0 : BitVec 32 := Scalar.addi arg32_r0 c0_i32_151_r0
  let v1249_r0 : BitVec 32 := Scalar.addi v1248_r0 v161_r0
  let c0_i32_777_r0 : BitVec 32 := 0#32
  let v1251_r0 : BitVec 1 := Scalar.cmpi .sgt v1249_r0 c0_i32_777_r0
  let v1252_r0 : BitVec 32 := Scalar.extui v1251_r0
  let c0_i32_778_r0 : BitVec 32 := 0#32
  let v1253_r0 : BitVec 1 := Scalar.cmpi .slt v1249_r0 c0_i32_778_r0
  let v1254_r0 : BitVec 32 := Scalar.extui v1253_r0
  let v1255_r0 : BitVec 32 := Scalar.subi v1252_r0 v1254_r0
  let c2_i32_776_r0 : BitVec 32 := 2#32
  let c0_i32_779_r0 : BitVec 32 := 0#32
  let v1256_r0 : BitVec 1 := Scalar.cmpi .sgt c2_i32_776_r0 c0_i32_779_r0
  let v1257_r0 : BitVec 32 := Scalar.extui v1256_r0
  let c0_i32_780_r0 : BitVec 32 := 0#32
  let v1258_r0 : BitVec 1 := Scalar.cmpi .slt c2_i32_776_r0 c0_i32_780_r0
  let v1259_r0 : BitVec 32 := Scalar.extui v1258_r0
  let v1260_r0 : BitVec 32 := Scalar.subi v1257_r0 v1259_r0
  let v1261_r0 : BitVec 1 := Scalar.cmpi .ne v1255_r0 v1260_r0
  let v1262_r0 : BitVec 32 := Scalar.remsi v1249_r0 c2_i32_776_r0
  let c0_i32_781_r0 : BitVec 32 := 0#32
  let v1263_r0 : BitVec 1 := Scalar.cmpi .ne v1262_r0 c0_i32_781_r0
  let v1264_r0 : BitVec 1 := Scalar.andi v1261_r0 v1263_r0
  let v1250_r0 : BitVec 32 := Scalar.divsi v1249_r0 c2_i32_776_r0
  let c1_i32_782_r0 : BitVec 32 := 1#32
  let v1265_r0 : BitVec 32 := Scalar.subi v1250_r0 c1_i32_782_r0
  let v1266_r0 : BitVec 32 := Scalar.select v1264_r0 v1265_r0 v1250_r0
  let c1024_i32_790_r0 : BitVec 32 := 1024#32
  let c4_i32_783_r0 : BitVec 32 := 4#32
  let v1267_r0 : BitVec 32 := Scalar.muli v160_r0 c4_i32_783_r0
  let v1268_r0 : BitVec 32 := Scalar.addi v1267_r0 v161_r0
  let c2_i32_784_r0 : BitVec 32 := 2#32
  let c0_i32_785_r0 : BitVec 32 := 0#32
  let v1269_r0 : BitVec 1 := Scalar.cmpi .eq c2_i32_784_r0 c0_i32_785_r0
  let c1_i32_786_r0 : BitVec 32 := 1#32
  let v1270_r0 : BitVec 32 := Scalar.select v1269_r0 c1_i32_786_r0 c2_i32_784_r0
  let v1271_r0 : BitVec 32 := Scalar.remsi v1268_r0 v1270_r0
  let c0_i32_788_r0 : BitVec 32 := 0#32
  let v1273_r0 : BitVec 1 := Scalar.cmpi .slt v1271_r0 c0_i32_788_r0
  let c0_i32_789_r0 : BitVec 32 := 0#32
  let v1274_r0 : BitVec 1 := Scalar.cmpi .slt v1270_r0 c0_i32_789_r0
  let v1275_r0 : BitVec 1 := Scalar.xori v1273_r0 v1274_r0
  let c0_i32_787_r0 : BitVec 32 := 0#32
  let v1272_r0 : BitVec 1 := Scalar.cmpi .ne v1271_r0 c0_i32_787_r0
  let v1276_r0 : BitVec 1 := Scalar.andi v1275_r0 v1272_r0
  let v1277_r0 : BitVec 32 := Scalar.addi v1271_r0 v1270_r0
  let v1278_r0 : BitVec 32 := Scalar.select v1276_r0 v1277_r0 v1271_r0
  let v1279_r0 : BitVec 32 := Scalar.muli c1024_i32_790_r0 v1278_r0
  let c0_i32_791_r0 : BitVec 32 := 0#32
  ![v1266_r0.toNat, v1279_r0.toNat, 0]
def k0_off49 (arg29_r0 : BitVec 32) : Fin 3 → Nat :=
  let c2_i32_774_r0 : BitVec 32 := 2#32
  let v1247_r0 : BitVec 32 := Scalar.remui arg29_r0 c2_i32_774_r0
  let c0_i32_792_r0 : BitVec 32 := 0#32
  let c0_i32_793_r0 : BitVec 32 := 0#32
  ![v1247_r0.toNat, 0, 0]
def k0_off50 (arg28_r0 : BitVec 32) : Fin 1 → Nat :=
  let c2_i32_774_r0 : BitVec 32 := 2#32
  let v1247_r0 : BitVec 32 := Scalar.remui arg28_r0 c2_i32_774_r0
  ![v1247_r0.toNat]
def k0_cond25 (k0_t1 : Fin k0_t1_loop.trips) (arg31_r0 : BitVec 32) (arg32_r0 : BitVec 32) : BitVec 1 :=
  let c0_i32_243_r0 : BitVec 32 := 0#32
  let c0_i32_151_r0 : BitVec 32 := 0#32
  let v161_r0 : BitVec 32 := Scalar.addi arg32_r0 c0_i32_151_r0
  let v316_r0 : BitVec 32 := Scalar.addi c0_i32_243_r0 v161_r0
  let c0_i32_306_r0 : BitVec 32 := 0#32
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v463_r0 : BitVec 32 := Scalar.addi c0_i32_306_r0 v171_r0
  let v1191_r0 : BitVec 1 := Scalar.cmpi .ne v316_r0 v463_r0
  let c0_i32_150_r0 : BitVec 32 := 0#32
  let v160_r0 : BitVec 32 := Scalar.addi arg31_r0 c0_i32_150_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let v1192_r0 : BitVec 1 := Scalar.cmpi .ne v160_r0 v170_r0
  let v1193_r0 : BitVec 1 := Scalar.ori v1191_r0 v1192_r0
  let c0_i32_84_r0 : BitVec 32 := 0#32
  let c1_i32_85_r0 : BitVec 32 := 1#32
  let arg16_r0 : BitVec 32 := Scf.iv c0_i32_84_r0 c1_i32_85_r0 k0_t1
  let c0_i32_149_r0 : BitVec 32 := 0#32
  let v158_r0 : BitVec 1 := Scalar.cmpi .eq arg16_r0 c0_i32_149_r0
  let true_754_r0 : BitVec 1 := 1#1
  let v1194_r0 : BitVec 1 := Scalar.xori v158_r0 true_754_r0
  let v1195_r0 : BitVec 1 := Scalar.andi v1193_r0 v1194_r0
  let v1196_r0 : BitVec 32 := Scalar.extui v1195_r0
  let c0_i32_755_r0 : BitVec 32 := 0#32
  let v1197_r0 : BitVec 1 := Scalar.cmpi .ne v1196_r0 c0_i32_755_r0
  v1197_r0

def k0_off51 (arg31_r0 : BitVec 32) (arg32_r0 : BitVec 32) : Fin 3 → Nat :=
  let c2_i32_776_r0 : BitVec 32 := 2#32
  let c0_i32_775_r0 : BitVec 32 := 0#32
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v1248_r0 : BitVec 32 := Scalar.addi c0_i32_775_r0 v171_r0
  let v1249_r0 : BitVec 32 := Scalar.muli c2_i32_776_r0 v1248_r0
  let c2048_i32_777_r0 : BitVec 32 := 2048#32
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let v1250_r0 : BitVec 32 := Scalar.muli c2048_i32_777_r0 v170_r0
  let c0_i32_778_r0 : BitVec 32 := 0#32
  ![v1249_r0.toNat, v1250_r0.toNat, 0]
def k0_off52 (arg28_r0 : BitVec 32) : Fin 4 → Nat :=
  let c2_i32_774_r0 : BitVec 32 := 2#32
  let v1247_r0 : BitVec 32 := Scalar.remui arg28_r0 c2_i32_774_r0
  let c0_i32_779_r0 : BitVec 32 := 0#32
  let c0_i32_780_r0 : BitVec 32 := 0#32
  let c0_i32_781_r0 : BitVec 32 := 0#32
  ![v1247_r0.toNat, 0, 0, 0]
def k0_off53 (arg30_r0 : BitVec 32) : Fin 1 → Nat :=
  let c2_i32_774_r0 : BitVec 32 := 2#32
  let v1247_r0 : BitVec 32 := Scalar.remui arg30_r0 c2_i32_774_r0
  ![v1247_r0.toNat]
def k0_cond26 (k0_t1 : Fin k0_t1_loop.trips) (arg31_r0 : BitVec 32) (arg32_r0 : BitVec 32) : BitVec 1 :=
  let c0_i32_150_r0 : BitVec 32 := 0#32
  let v160_r0 : BitVec 32 := Scalar.addi arg31_r0 c0_i32_150_r0
  let c4_i32_247_r0 : BitVec 32 := 4#32
  let v324_r0 : BitVec 32 := Scalar.muli v160_r0 c4_i32_247_r0
  let c0_i32_151_r0 : BitVec 32 := 0#32
  let v161_r0 : BitVec 32 := Scalar.addi arg32_r0 c0_i32_151_r0
  let v325_r0 : BitVec 32 := Scalar.addi v324_r0 v161_r0
  let c0_i32_249_r0 : BitVec 32 := 0#32
  let v327_r0 : BitVec 1 := Scalar.cmpi .sgt v325_r0 c0_i32_249_r0
  let v328_r0 : BitVec 32 := Scalar.extui v327_r0
  let c0_i32_250_r0 : BitVec 32 := 0#32
  let v329_r0 : BitVec 1 := Scalar.cmpi .slt v325_r0 c0_i32_250_r0
  let v330_r0 : BitVec 32 := Scalar.extui v329_r0
  let v331_r0 : BitVec 32 := Scalar.subi v328_r0 v330_r0
  let c2_i32_248_r0 : BitVec 32 := 2#32
  let c0_i32_251_r0 : BitVec 32 := 0#32
  let v332_r0 : BitVec 1 := Scalar.cmpi .sgt c2_i32_248_r0 c0_i32_251_r0
  let v333_r0 : BitVec 32 := Scalar.extui v332_r0
  let c0_i32_252_r0 : BitVec 32 := 0#32
  let v334_r0 : BitVec 1 := Scalar.cmpi .slt c2_i32_248_r0 c0_i32_252_r0
  let v335_r0 : BitVec 32 := Scalar.extui v334_r0
  let v336_r0 : BitVec 32 := Scalar.subi v333_r0 v335_r0
  let v337_r0 : BitVec 1 := Scalar.cmpi .ne v331_r0 v336_r0
  let v338_r0 : BitVec 32 := Scalar.remsi v325_r0 c2_i32_248_r0
  let c0_i32_253_r0 : BitVec 32 := 0#32
  let v339_r0 : BitVec 1 := Scalar.cmpi .ne v338_r0 c0_i32_253_r0
  let v340_r0 : BitVec 1 := Scalar.andi v337_r0 v339_r0
  let v326_r0 : BitVec 32 := Scalar.divsi v325_r0 c2_i32_248_r0
  let c1_i32_254_r0 : BitVec 32 := 1#32
  let v341_r0 : BitVec 32 := Scalar.subi v326_r0 c1_i32_254_r0
  let v342_r0 : BitVec 32 := Scalar.select v340_r0 v341_r0 v326_r0
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let c4_i32_309_r0 : BitVec 32 := 4#32
  let v472_r0 : BitVec 32 := Scalar.muli v170_r0 c4_i32_309_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v473_r0 : BitVec 32 := Scalar.addi v472_r0 v171_r0
  let c0_i32_311_r0 : BitVec 32 := 0#32
  let v475_r0 : BitVec 1 := Scalar.cmpi .sgt v473_r0 c0_i32_311_r0
  let v476_r0 : BitVec 32 := Scalar.extui v475_r0
  let c0_i32_312_r0 : BitVec 32 := 0#32
  let v477_r0 : BitVec 1 := Scalar.cmpi .slt v473_r0 c0_i32_312_r0
  let v478_r0 : BitVec 32 := Scalar.extui v477_r0
  let v479_r0 : BitVec 32 := Scalar.subi v476_r0 v478_r0
  let c2_i32_310_r0 : BitVec 32 := 2#32
  let c0_i32_313_r0 : BitVec 32 := 0#32
  let v480_r0 : BitVec 1 := Scalar.cmpi .sgt c2_i32_310_r0 c0_i32_313_r0
  let v481_r0 : BitVec 32 := Scalar.extui v480_r0
  let c0_i32_314_r0 : BitVec 32 := 0#32
  let v482_r0 : BitVec 1 := Scalar.cmpi .slt c2_i32_310_r0 c0_i32_314_r0
  let v483_r0 : BitVec 32 := Scalar.extui v482_r0
  let v484_r0 : BitVec 32 := Scalar.subi v481_r0 v483_r0
  let v485_r0 : BitVec 1 := Scalar.cmpi .ne v479_r0 v484_r0
  let v486_r0 : BitVec 32 := Scalar.remsi v473_r0 c2_i32_310_r0
  let c0_i32_315_r0 : BitVec 32 := 0#32
  let v487_r0 : BitVec 1 := Scalar.cmpi .ne v486_r0 c0_i32_315_r0
  let v488_r0 : BitVec 1 := Scalar.andi v485_r0 v487_r0
  let v474_r0 : BitVec 32 := Scalar.divsi v473_r0 c2_i32_310_r0
  let c1_i32_316_r0 : BitVec 32 := 1#32
  let v489_r0 : BitVec 32 := Scalar.subi v474_r0 c1_i32_316_r0
  let v490_r0 : BitVec 32 := Scalar.select v488_r0 v489_r0 v474_r0
  let v1201_r0 : BitVec 1 := Scalar.cmpi .ne v342_r0 v490_r0
  let c4_i32_255_r0 : BitVec 32 := 4#32
  let v343_r0 : BitVec 32 := Scalar.muli v160_r0 c4_i32_255_r0
  let v344_r0 : BitVec 32 := Scalar.addi v343_r0 v161_r0
  let c2_i32_256_r0 : BitVec 32 := 2#32
  let c0_i32_257_r0 : BitVec 32 := 0#32
  let v345_r0 : BitVec 1 := Scalar.cmpi .eq c2_i32_256_r0 c0_i32_257_r0
  let c1_i32_258_r0 : BitVec 32 := 1#32
  let v346_r0 : BitVec 32 := Scalar.select v345_r0 c1_i32_258_r0 c2_i32_256_r0
  let v347_r0 : BitVec 32 := Scalar.remsi v344_r0 v346_r0
  let c0_i32_260_r0 : BitVec 32 := 0#32
  let v349_r0 : BitVec 1 := Scalar.cmpi .slt v347_r0 c0_i32_260_r0
  let c0_i32_261_r0 : BitVec 32 := 0#32
  let v350_r0 : BitVec 1 := Scalar.cmpi .slt v346_r0 c0_i32_261_r0
  let v351_r0 : BitVec 1 := Scalar.xori v349_r0 v350_r0
  let c0_i32_259_r0 : BitVec 32 := 0#32
  let v348_r0 : BitVec 1 := Scalar.cmpi .ne v347_r0 c0_i32_259_r0
  let v352_r0 : BitVec 1 := Scalar.andi v351_r0 v348_r0
  let v353_r0 : BitVec 32 := Scalar.addi v347_r0 v346_r0
  let v354_r0 : BitVec 32 := Scalar.select v352_r0 v353_r0 v347_r0
  let c4_i32_317_r0 : BitVec 32 := 4#32
  let v491_r0 : BitVec 32 := Scalar.muli v170_r0 c4_i32_317_r0
  let v492_r0 : BitVec 32 := Scalar.addi v491_r0 v171_r0
  let c2_i32_318_r0 : BitVec 32 := 2#32
  let c0_i32_319_r0 : BitVec 32 := 0#32
  let v493_r0 : BitVec 1 := Scalar.cmpi .eq c2_i32_318_r0 c0_i32_319_r0
  let c1_i32_320_r0 : BitVec 32 := 1#32
  let v494_r0 : BitVec 32 := Scalar.select v493_r0 c1_i32_320_r0 c2_i32_318_r0
  let v495_r0 : BitVec 32 := Scalar.remsi v492_r0 v494_r0
  let c0_i32_322_r0 : BitVec 32 := 0#32
  let v497_r0 : BitVec 1 := Scalar.cmpi .slt v495_r0 c0_i32_322_r0
  let c0_i32_323_r0 : BitVec 32 := 0#32
  let v498_r0 : BitVec 1 := Scalar.cmpi .slt v494_r0 c0_i32_323_r0
  let v499_r0 : BitVec 1 := Scalar.xori v497_r0 v498_r0
  let c0_i32_321_r0 : BitVec 32 := 0#32
  let v496_r0 : BitVec 1 := Scalar.cmpi .ne v495_r0 c0_i32_321_r0
  let v500_r0 : BitVec 1 := Scalar.andi v499_r0 v496_r0
  let v501_r0 : BitVec 32 := Scalar.addi v495_r0 v494_r0
  let v502_r0 : BitVec 32 := Scalar.select v500_r0 v501_r0 v495_r0
  let v1202_r0 : BitVec 1 := Scalar.cmpi .ne v354_r0 v502_r0
  let v1203_r0 : BitVec 1 := Scalar.ori v1201_r0 v1202_r0
  let c0_i32_84_r0 : BitVec 32 := 0#32
  let c1_i32_85_r0 : BitVec 32 := 1#32
  let arg16_r0 : BitVec 32 := Scf.iv c0_i32_84_r0 c1_i32_85_r0 k0_t1
  let c0_i32_149_r0 : BitVec 32 := 0#32
  let v158_r0 : BitVec 1 := Scalar.cmpi .eq arg16_r0 c0_i32_149_r0
  let true_758_r0 : BitVec 1 := 1#1
  let v1204_r0 : BitVec 1 := Scalar.xori v158_r0 true_758_r0
  let v1205_r0 : BitVec 1 := Scalar.andi v1203_r0 v1204_r0
  let v1206_r0 : BitVec 32 := Scalar.extui v1205_r0
  let c0_i32_759_r0 : BitVec 32 := 0#32
  let v1207_r0 : BitVec 1 := Scalar.cmpi .ne v1206_r0 c0_i32_759_r0
  v1207_r0

def k0_off54 (arg31_r0 : BitVec 32) (arg32_r0 : BitVec 32) : Fin 3 → Nat :=
  let true_153_r0 : BitVec 1 := 1#1
  let c1_i32_152_r0 : BitVec 32 := 1#32
  let v162_r0 : BitVec 32 := Scalar.subi arg32_r0 c1_i32_152_r0
  let v163_r0 : BitVec 32 := Scalar.select true_153_r0 v162_r0 arg32_r0
  let c_m1_i32_154_r0 : BitVec 32 := 4294967295#32
  let v164_r0 : BitVec 1 := Scalar.cmpi .eq v163_r0 c_m1_i32_154_r0
  let c1_i32_156_r0 : BitVec 32 := 1#32
  let v166_r0 : BitVec 32 := Scalar.subi arg31_r0 c1_i32_156_r0
  let v167_r0 : BitVec 32 := Scalar.select v164_r0 v166_r0 arg31_r0
  let c_m1_i32_157_r0 : BitVec 32 := 4294967295#32
  let v168_r0 : BitVec 1 := Scalar.cmpi .eq v167_r0 c_m1_i32_157_r0
  let c3_i32_158_r0 : BitVec 32 := 3#32
  let v169_r0 : BitVec 32 := Scalar.select v168_r0 c3_i32_158_r0 v167_r0
  let c0_i32_159_r0 : BitVec 32 := 0#32
  let v170_r0 : BitVec 32 := Scalar.addi v169_r0 c0_i32_159_r0
  let c4_i32_775_r0 : BitVec 32 := 4#32
  let v1248_r0 : BitVec 32 := Scalar.muli v170_r0 c4_i32_775_r0
  let c3_i32_155_r0 : BitVec 32 := 3#32
  let v165_r0 : BitVec 32 := Scalar.select v164_r0 c3_i32_155_r0 v163_r0
  let c0_i32_160_r0 : BitVec 32 := 0#32
  let v171_r0 : BitVec 32 := Scalar.addi v165_r0 c0_i32_160_r0
  let v1249_r0 : BitVec 32 := Scalar.addi v1248_r0 v171_r0
  let c0_i32_777_r0 : BitVec 32 := 0#32
  let v1251_r0 : BitVec 1 := Scalar.cmpi .sgt v1249_r0 c0_i32_777_r0
  let v1252_r0 : BitVec 32 := Scalar.extui v1251_r0
  let c0_i32_778_r0 : BitVec 32 := 0#32
  let v1253_r0 : BitVec 1 := Scalar.cmpi .slt v1249_r0 c0_i32_778_r0
  let v1254_r0 : BitVec 32 := Scalar.extui v1253_r0
  let v1255_r0 : BitVec 32 := Scalar.subi v1252_r0 v1254_r0
  let c2_i32_776_r0 : BitVec 32 := 2#32
  let c0_i32_779_r0 : BitVec 32 := 0#32
  let v1256_r0 : BitVec 1 := Scalar.cmpi .sgt c2_i32_776_r0 c0_i32_779_r0
  let v1257_r0 : BitVec 32 := Scalar.extui v1256_r0
  let c0_i32_780_r0 : BitVec 32 := 0#32
  let v1258_r0 : BitVec 1 := Scalar.cmpi .slt c2_i32_776_r0 c0_i32_780_r0
  let v1259_r0 : BitVec 32 := Scalar.extui v1258_r0
  let v1260_r0 : BitVec 32 := Scalar.subi v1257_r0 v1259_r0
  let v1261_r0 : BitVec 1 := Scalar.cmpi .ne v1255_r0 v1260_r0
  let v1262_r0 : BitVec 32 := Scalar.remsi v1249_r0 c2_i32_776_r0
  let c0_i32_781_r0 : BitVec 32 := 0#32
  let v1263_r0 : BitVec 1 := Scalar.cmpi .ne v1262_r0 c0_i32_781_r0
  let v1264_r0 : BitVec 1 := Scalar.andi v1261_r0 v1263_r0
  let v1250_r0 : BitVec 32 := Scalar.divsi v1249_r0 c2_i32_776_r0
  let c1_i32_782_r0 : BitVec 32 := 1#32
  let v1265_r0 : BitVec 32 := Scalar.subi v1250_r0 c1_i32_782_r0
  let v1266_r0 : BitVec 32 := Scalar.select v1264_r0 v1265_r0 v1250_r0
  let c1024_i32_790_r0 : BitVec 32 := 1024#32
  let c4_i32_783_r0 : BitVec 32 := 4#32
  let v1267_r0 : BitVec 32 := Scalar.muli v170_r0 c4_i32_783_r0
  let v1268_r0 : BitVec 32 := Scalar.addi v1267_r0 v171_r0
  let c2_i32_784_r0 : BitVec 32 := 2#32
  let c0_i32_785_r0 : BitVec 32 := 0#32
  let v1269_r0 : BitVec 1 := Scalar.cmpi .eq c2_i32_784_r0 c0_i32_785_r0
  let c1_i32_786_r0 : BitVec 32 := 1#32
  let v1270_r0 : BitVec 32 := Scalar.select v1269_r0 c1_i32_786_r0 c2_i32_784_r0
  let v1271_r0 : BitVec 32 := Scalar.remsi v1268_r0 v1270_r0
  let c0_i32_788_r0 : BitVec 32 := 0#32
  let v1273_r0 : BitVec 1 := Scalar.cmpi .slt v1271_r0 c0_i32_788_r0
  let c0_i32_789_r0 : BitVec 32 := 0#32
  let v1274_r0 : BitVec 1 := Scalar.cmpi .slt v1270_r0 c0_i32_789_r0
  let v1275_r0 : BitVec 1 := Scalar.xori v1273_r0 v1274_r0
  let c0_i32_787_r0 : BitVec 32 := 0#32
  let v1272_r0 : BitVec 1 := Scalar.cmpi .ne v1271_r0 c0_i32_787_r0
  let v1276_r0 : BitVec 1 := Scalar.andi v1275_r0 v1272_r0
  let v1277_r0 : BitVec 32 := Scalar.addi v1271_r0 v1270_r0
  let v1278_r0 : BitVec 32 := Scalar.select v1276_r0 v1277_r0 v1271_r0
  let v1279_r0 : BitVec 32 := Scalar.muli c1024_i32_790_r0 v1278_r0
  let c0_i32_791_r0 : BitVec 32 := 0#32
  ![v1266_r0.toNat, v1279_r0.toNat, 0]
def k0_off55 (arg30_r0 : BitVec 32) : Fin 3 → Nat :=
  let c2_i32_774_r0 : BitVec 32 := 2#32
  let v1247_r0 : BitVec 32 := Scalar.remui arg30_r0 c2_i32_774_r0
  let c0_i32_792_r0 : BitVec 32 := 0#32
  let c0_i32_793_r0 : BitVec 32 := 0#32
  ![v1247_r0.toNat, 0, 0]

def k0_chk1_0 (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) : Prop :=
  (∀ (k0_h1 : k0_cond1 k0_t1 arg31_r0 arg32_r0 = 1#1), ∀ a, (k0_off6 arg17_r0) a + S1.size a ≤ S2.size a) ∧
  (∀ (k0_h1 : k0_cond1 k0_t1 arg31_r0 arg32_r0 = 1#1), ∀ a, (k0_off7 arg17_r0) a + S1x2x2048x128.size a ≤ S2x2x2048x128.size a) ∧
  (∀ (k0_h1 : k0_cond1 k0_t1 arg31_r0 arg32_r0 = 1#1), ∀ a, (k0_off8 arg31_r0 arg32_r0) a + S2x2048x128.size a ≤ S16x8192x128.size a) ∧
  (∀ (k0_h1 : k0_cond1 k0_t1 arg31_r0 arg32_r0 = 1#1), ∀ (hinb : ∀ a, (k0_off8 arg31_r0 arg32_r0) a + S2x2048x128.size a ≤ S16x8192x128.size a), (Rect.unit (s := S16x8192x128) (k0_off8 arg31_r0 arg32_r0) S2x2048x128.size hinb).WholeWords (EltTy.packing .bf16)) ∧
  (∀ (k0_h1 : k0_cond1 k0_t1 arg31_r0 arg32_r0 = 1#1), ∀ (hinb : ∀ a, (k0_off7 arg17_r0) a + S1x2x2048x128.size a ≤ S2x2x2048x128.size a), (Rect.unit (s := S2x2x2048x128) (k0_off7 arg17_r0) S1x2x2048x128.size hinb).WholeWords (EltTy.packing .bf16)) ∧
  (∀ (k0_h2 : k0_cond2 k0_t1 arg31_r0 arg32_r0 = 1#1), ∀ a, (k0_off9 arg19_r0) a + S1.size a ≤ S2.size a) ∧
  (∀ (k0_h2 : k0_cond2 k0_t1 arg31_r0 arg32_r0 = 1#1), ∀ a, (k0_off10 arg19_r0) a + S1x2x2048x128.size a ≤ S2x2x2048x128.size a) ∧
  (∀ (k0_h2 : k0_cond2 k0_t1 arg31_r0 arg32_r0 = 1#1), ∀ a, (k0_off11 arg31_r0 arg32_r0) a + S2x2048x128.size a ≤ S16x8192x128.size a) ∧
  (∀ (k0_h2 : k0_cond2 k0_t1 arg31_r0 arg32_r0 = 1#1), ∀ (hinb : ∀ a, (k0_off11 arg31_r0 arg32_r0) a + S2x2048x128.size a ≤ S16x8192x128.size a), (Rect.unit (s := S16x8192x128) (k0_off11 arg31_r0 arg32_r0) S2x2048x128.size hinb).WholeWords (EltTy.packing .bf16)) ∧
  (∀ (k0_h2 : k0_cond2 k0_t1 arg31_r0 arg32_r0 = 1#1), ∀ (hinb : ∀ a, (k0_off10 arg19_r0) a + S1x2x2048x128.size a ≤ S2x2x2048x128.size a), (Rect.unit (s := S2x2x2048x128) (k0_off10 arg19_r0) S1x2x2048x128.size hinb).WholeWords (EltTy.packing .bf16)) ∧
  (∀ (k0_h3 : k0_cond3 k0_t1 arg31_r0 arg32_r0 = 1#1), ∀ a, (k0_off12 arg21_r0) a + S1.size a ≤ S2.size a) ∧
  (∀ (k0_h3 : k0_cond3 k0_t1 arg31_r0 arg32_r0 = 1#1), ∀ a, (k0_off13 arg21_r0) a + S1x256x2048.size a ≤ S2x256x2048.size a) ∧
  (∀ (k0_h3 : k0_cond3 k0_t1 arg31_r0 arg32_r0 = 1#1), ∀ a, (k0_off14 arg31_r0 arg32_r0) a + S256x2048.size a ≤ S1024x8192.size a) ∧
  (∀ (k0_h3 : k0_cond3 k0_t1 arg31_r0 arg32_r0 = 1#1), ∀ (hinb : ∀ a, (k0_off14 arg31_r0 arg32_r0) a + S256x2048.size a ≤ S1024x8192.size a), (Rect.unit (s := S1024x8192) (k0_off14 arg31_r0 arg32_r0) S256x2048.size hinb).WholeWords (EltTy.packing .bf16)) ∧
  (∀ (k0_h3 : k0_cond3 k0_t1 arg31_r0 arg32_r0 = 1#1), ∀ (hinb : ∀ a, (k0_off13 arg21_r0) a + S1x256x2048.size a ≤ S2x256x2048.size a), (Rect.unit (s := S2x256x2048) (k0_off13 arg21_r0) S1x256x2048.size hinb).WholeWords (EltTy.packing .bf16)) ∧
  (∀ (k0_h4 : k0_cond4 k0_t1 arg31_r0 arg32_r0 = 1#1), ∀ a, (k0_off15 arg23_r0) a + S1.size a ≤ S2.size a) ∧
  (∀ (k0_h4 : k0_cond4 k0_t1 arg31_r0 arg32_r0 = 1#1), ∀ a, (k0_off16 arg23_r0) a + S1x2048x128.size a ≤ S2x2048x128.size a) ∧
  (∀ (k0_h4 : k0_cond4 k0_t1 arg31_r0 arg32_r0 = 1#1), ∀ a, (k0_off17 arg31_r0 arg32_r0) a + S2048x128.size a ≤ S8192x128.size a) ∧
  (∀ (k0_h4 : k0_cond4 k0_t1 arg31_r0 arg32_r0 = 1#1), ∀ (hinb : ∀ a, (k0_off17 arg31_r0 arg32_r0) a + S2048x128.size a ≤ S8192x128.size a), (Rect.unit (s := S8192x128) (k0_off17 arg31_r0 arg32_r0) S2048x128.size hinb).WholeWords (EltTy.packing .bf16)) ∧
  (∀ (k0_h4 : k0_cond4 k0_t1 arg31_r0 arg32_r0 = 1#1), ∀ (hinb : ∀ a, (k0_off16 arg23_r0) a + S1x2048x128.size a ≤ S2x2048x128.size a), (Rect.unit (s := S2x2048x128) (k0_off16 arg23_r0) S1x2048x128.size hinb).WholeWords (EltTy.packing .bf16)) ∧
  (∀ (k0_h5 : k0_cond5 k0_t1 arg31_r0 arg32_r0 = 1#1), ∀ a, (k0_off18 arg25_r0) a + S1.size a ≤ S2.size a) ∧
  (∀ (k0_h5 : k0_cond5 k0_t1 arg31_r0 arg32_r0 = 1#1), ∀ a, (k0_off19 arg25_r0) a + S1x1024x1024.size a ≤ S2x1024x1024.size a) ∧
  (∀ (k0_h5 : k0_cond5 k0_t1 arg31_r0 arg32_r0 = 1#1), ∀ a, (k0_off20 arg31_r0 arg32_r0) a + S1024x1024.size a ≤ S2048x8192.size a) ∧
  (∀ (k0_h6 : k0_cond6 k0_t1 arg31_r0 arg32_r0 = 1#1), ∀ a, (k0_off21 arg18_r0) a + S1.size a ≤ S2.size a) ∧
  (∀ (k0_h6 : k0_cond6 k0_t1 arg31_r0 arg32_r0 = 1#1), ∀ a, (k0_off22 arg18_r0) a + S1x2x2048x128.size a ≤ S2x2x2048x128.size a) ∧
  (∀ (k0_h6 : k0_cond6 k0_t1 arg31_r0 arg32_r0 = 1#1), ∀ a, (k0_off23 arg31_r0 arg32_r0) a + S2x2048x128.size a ≤ S16x8192x128.size a) ∧
  (∀ (k0_h6 : k0_cond6 k0_t1 arg31_r0 arg32_r0 = 1#1), ∀ (hinb : ∀ a, (k0_off23 arg31_r0 arg32_r0) a + S2x2048x128.size a ≤ S16x8192x128.size a), (Rect.unit (s := S16x8192x128) (k0_off23 arg31_r0 arg32_r0) S2x2048x128.size hinb).WholeWords (EltTy.packing .bf16)) ∧
  (∀ (k0_h6 : k0_cond6 k0_t1 arg31_r0 arg32_r0 = 1#1), ∀ (hinb : ∀ a, (k0_off22 arg18_r0) a + S1x2x2048x128.size a ≤ S2x2x2048x128.size a), (Rect.unit (s := S2x2x2048x128) (k0_off22 arg18_r0) S1x2x2048x128.size hinb).WholeWords (EltTy.packing .bf16)) ∧
  (∀ (k0_h7 : k0_cond7 k0_t1 arg31_r0 arg32_r0 = 1#1), ∀ a, (k0_off24 arg20_r0) a + S1.size a ≤ S2.size a) ∧
  (∀ (k0_h7 : k0_cond7 k0_t1 arg31_r0 arg32_r0 = 1#1), ∀ a, (k0_off25 arg20_r0) a + S1x2x2048x128.size a ≤ S2x2x2048x128.size a) ∧
  (∀ (k0_h7 : k0_cond7 k0_t1 arg31_r0 arg32_r0 = 1#1), ∀ a, (k0_off26 arg31_r0 arg32_r0) a + S2x2048x128.size a ≤ S16x8192x128.size a) ∧
  (∀ (k0_h7 : k0_cond7 k0_t1 arg31_r0 arg32_r0 = 1#1), ∀ (hinb : ∀ a, (k0_off26 arg31_r0 arg32_r0) a + S2x2048x128.size a ≤ S16x8192x128.size a), (Rect.unit (s := S16x8192x128) (k0_off26 arg31_r0 arg32_r0) S2x2048x128.size hinb).WholeWords (EltTy.packing .bf16))
def k0_chk1_1 (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) : Prop :=
  (∀ (k0_h7 : k0_cond7 k0_t1 arg31_r0 arg32_r0 = 1#1), ∀ (hinb : ∀ a, (k0_off25 arg20_r0) a + S1x2x2048x128.size a ≤ S2x2x2048x128.size a), (Rect.unit (s := S2x2x2048x128) (k0_off25 arg20_r0) S1x2x2048x128.size hinb).WholeWords (EltTy.packing .bf16)) ∧
  (∀ (k0_h8 : k0_cond8 k0_t1 arg31_r0 arg32_r0 = 1#1), ∀ a, (k0_off27 arg22_r0) a + S1.size a ≤ S2.size a) ∧
  (∀ (k0_h8 : k0_cond8 k0_t1 arg31_r0 arg32_r0 = 1#1), ∀ a, (k0_off28 arg22_r0) a + S1x256x2048.size a ≤ S2x256x2048.size a) ∧
  (∀ (k0_h8 : k0_cond8 k0_t1 arg31_r0 arg32_r0 = 1#1), ∀ a, (k0_off29 arg31_r0 arg32_r0) a + S256x2048.size a ≤ S1024x8192.size a) ∧
  (∀ (k0_h8 : k0_cond8 k0_t1 arg31_r0 arg32_r0 = 1#1), ∀ (hinb : ∀ a, (k0_off29 arg31_r0 arg32_r0) a + S256x2048.size a ≤ S1024x8192.size a), (Rect.unit (s := S1024x8192) (k0_off29 arg31_r0 arg32_r0) S256x2048.size hinb).WholeWords (EltTy.packing .bf16)) ∧
  (∀ (k0_h8 : k0_cond8 k0_t1 arg31_r0 arg32_r0 = 1#1), ∀ (hinb : ∀ a, (k0_off28 arg22_r0) a + S1x256x2048.size a ≤ S2x256x2048.size a), (Rect.unit (s := S2x256x2048) (k0_off28 arg22_r0) S1x256x2048.size hinb).WholeWords (EltTy.packing .bf16)) ∧
  (∀ (k0_h9 : k0_cond9 k0_t1 arg31_r0 arg32_r0 = 1#1), ∀ a, (k0_off30 arg24_r0) a + S1.size a ≤ S2.size a) ∧
  (∀ (k0_h9 : k0_cond9 k0_t1 arg31_r0 arg32_r0 = 1#1), ∀ a, (k0_off31 arg24_r0) a + S1x2048x128.size a ≤ S2x2048x128.size a) ∧
  (∀ (k0_h9 : k0_cond9 k0_t1 arg31_r0 arg32_r0 = 1#1), ∀ a, (k0_off32 arg31_r0) a + S2048x128.size a ≤ S8192x128.size a) ∧
  (∀ (k0_h9 : k0_cond9 k0_t1 arg31_r0 arg32_r0 = 1#1), ∀ (hinb : ∀ a, (k0_off32 arg31_r0) a + S2048x128.size a ≤ S8192x128.size a), (Rect.unit (s := S8192x128) (k0_off32 arg31_r0) S2048x128.size hinb).WholeWords (EltTy.packing .bf16)) ∧
  (∀ (k0_h9 : k0_cond9 k0_t1 arg31_r0 arg32_r0 = 1#1), ∀ (hinb : ∀ a, (k0_off31 arg24_r0) a + S1x2048x128.size a ≤ S2x2048x128.size a), (Rect.unit (s := S2x2048x128) (k0_off31 arg24_r0) S1x2048x128.size hinb).WholeWords (EltTy.packing .bf16)) ∧
  (∀ (k0_h10 : k0_cond10 k0_t1 arg31_r0 arg32_r0 = 1#1), ∀ a, (k0_off33 arg26_r0) a + S1.size a ≤ S2.size a) ∧
  (∀ (k0_h10 : k0_cond10 k0_t1 arg31_r0 arg32_r0 = 1#1), ∀ a, (k0_off34 arg26_r0) a + S1x1024x1024.size a ≤ S2x1024x1024.size a) ∧
  (∀ (k0_h10 : k0_cond10 k0_t1 arg31_r0 arg32_r0 = 1#1), ∀ a, (k0_off35 arg31_r0 arg32_r0) a + S1024x1024.size a ≤ S2048x8192.size a) ∧
  (∀ (k0_h18 : k0_cond18 k0_t1 arg31_r0 arg32_r0 = 1#1), ∀ a, (k0_off44 arg27_r0) a + S1.size a ≤ S2.size a) ∧
  (∀ (k0_h18 : k0_cond18 k0_t1 arg31_r0 arg32_r0 = 1#1), ∀ a, (k0_off45 arg31_r0 arg32_r0) a + S2x2048x128.size a ≤ S8x8192x128.size a) ∧
  (∀ (k0_h18 : k0_cond18 k0_t1 arg31_r0 arg32_r0 = 1#1), ∀ a, (k0_off46 arg27_r0) a + S1x2x2048x128.size a ≤ S2x2x2048x128.size a) ∧
  (∀ (k0_h19 : k0_cond19 k0_t1 arg31_r0 arg32_r0 = 1#1), ∀ a, (k0_off47 arg29_r0) a + S1.size a ≤ S2.size a) ∧
  (∀ (k0_h19 : k0_cond19 k0_t1 arg31_r0 arg32_r0 = 1#1), ∀ a, (k0_off48 arg31_r0 arg32_r0) a + S1x1024x1024.size a ≤ S8x2048x1024.size a) ∧
  (∀ (k0_h19 : k0_cond19 k0_t1 arg31_r0 arg32_r0 = 1#1), ∀ a, (k0_off49 arg29_r0) a + S1x1024x1024.size a ≤ S2x1024x1024.size a) ∧
  (∀ (k0_h19 : k0_cond19 k0_t1 arg31_r0 arg32_r0 = 1#1), ∀ (hinb : ∀ a, (k0_off49 arg29_r0) a + S1x1024x1024.size a ≤ S2x1024x1024.size a), (Rect.unit (s := S2x1024x1024) (k0_off49 arg29_r0) S1x1024x1024.size hinb).WholeWords (EltTy.packing .bf16)) ∧
  (∀ (k0_h19 : k0_cond19 k0_t1 arg31_r0 arg32_r0 = 1#1), ∀ (hinb : ∀ a, (k0_off48 arg31_r0 arg32_r0) a + S1x1024x1024.size a ≤ S8x2048x1024.size a), (Rect.unit (s := S8x2048x1024) (k0_off48 arg31_r0 arg32_r0) S1x1024x1024.size hinb).WholeWords (EltTy.packing .bf16)) ∧
  (∀ (k0_h25 : k0_cond25 k0_t1 arg31_r0 arg32_r0 = 1#1), ∀ a, (k0_off50 arg28_r0) a + S1.size a ≤ S2.size a) ∧
  (∀ (k0_h25 : k0_cond25 k0_t1 arg31_r0 arg32_r0 = 1#1), ∀ a, (k0_off51 arg31_r0 arg32_r0) a + S2x2048x128.size a ≤ S8x8192x128.size a) ∧
  (∀ (k0_h25 : k0_cond25 k0_t1 arg31_r0 arg32_r0 = 1#1), ∀ a, (k0_off52 arg28_r0) a + S1x2x2048x128.size a ≤ S2x2x2048x128.size a) ∧
  (∀ (k0_h26 : k0_cond26 k0_t1 arg31_r0 arg32_r0 = 1#1), ∀ a, (k0_off53 arg30_r0) a + S1.size a ≤ S2.size a) ∧
  (∀ (k0_h26 : k0_cond26 k0_t1 arg31_r0 arg32_r0 = 1#1), ∀ a, (k0_off54 arg31_r0 arg32_r0) a + S1x1024x1024.size a ≤ S8x2048x1024.size a) ∧
  (∀ (k0_h26 : k0_cond26 k0_t1 arg31_r0 arg32_r0 = 1#1), ∀ a, (k0_off55 arg30_r0) a + S1x1024x1024.size a ≤ S2x1024x1024.size a) ∧
  (∀ (k0_h26 : k0_cond26 k0_t1 arg31_r0 arg32_r0 = 1#1), ∀ (hinb : ∀ a, (k0_off55 arg30_r0) a + S1x1024x1024.size a ≤ S2x1024x1024.size a), (Rect.unit (s := S2x1024x1024) (k0_off55 arg30_r0) S1x1024x1024.size hinb).WholeWords (EltTy.packing .bf16)) ∧
  (∀ (k0_h26 : k0_cond26 k0_t1 arg31_r0 arg32_r0 = 1#1), ∀ (hinb : ∀ a, (k0_off54 arg31_r0 arg32_r0) a + S1x1024x1024.size a ≤ S8x2048x1024.size a), (Rect.unit (s := S8x2048x1024) (k0_off54 arg31_r0 arg32_r0) S1x1024x1024.size hinb).WholeWords (EltTy.packing .bf16))
def k0_chk1 (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) : Prop :=
  k0_chk1_0 k0_t1 arg17_r0 arg18_r0 arg19_r0 arg20_r0 arg21_r0 arg22_r0 arg23_r0 arg24_r0 arg25_r0 arg26_r0 arg27_r0 arg28_r0 arg29_r0 arg30_r0 arg31_r0 arg32_r0 ∧
  k0_chk1_1 k0_t1 arg17_r0 arg18_r0 arg19_r0 arg20_r0 arg21_r0 arg22_r0 arg23_r0 arg24_r0 arg25_r0 arg26_r0 arg27_r0 arg28_r0 arg29_r0 arg30_r0 arg31_r0 arg32_r0
theorem k0_off6_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg31_r0 arg32_r0 = 1#1), ∀ a, (k0_off6 arg17_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.1 k0_h1
theorem k0_off7_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg31_r0 arg32_r0 = 1#1), ∀ a, (k0_off7 arg17_r0) a + S1x2x2048x128.size a ≤ S2x2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.1 k0_h1
theorem k0_off8_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg31_r0 arg32_r0 = 1#1), ∀ a, (k0_off8 arg31_r0 arg32_r0) a + S2x2048x128.size a ≤ S16x8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.2.1 k0_h1
theorem k0_off8_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg31_r0 arg32_r0 = 1#1), (Rect.unit (s := S16x8192x128) (k0_off8 arg31_r0 arg32_r0) S2x2048x128.size (k0_off8_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.2.2.1 k0_h1 (k0_off8_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)
theorem k0_off7_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h1 : k0_cond1 k0_t1 arg31_r0 arg32_r0 = 1#1), (Rect.unit (s := S2x2x2048x128) (k0_off7 arg17_r0) S1x2x2048x128.size (k0_off7_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1 => k0_hw1.1.2.2.2.2.1 k0_h1 (k0_off7_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h1)
theorem k0_off9_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg31_r0 arg32_r0 = 1#1), ∀ a, (k0_off9 arg19_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.1 k0_h2
theorem k0_off10_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg31_r0 arg32_r0 = 1#1), ∀ a, (k0_off10 arg19_r0) a + S1x2x2048x128.size a ≤ S2x2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.1 k0_h2
theorem k0_off11_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg31_r0 arg32_r0 = 1#1), ∀ a, (k0_off11 arg31_r0 arg32_r0) a + S2x2048x128.size a ≤ S16x8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.2.1 k0_h2
theorem k0_off11_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg31_r0 arg32_r0 = 1#1), (Rect.unit (s := S16x8192x128) (k0_off11 arg31_r0 arg32_r0) S2x2048x128.size (k0_off11_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.2.2.1 k0_h2 (k0_off11_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)
theorem k0_off10_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h2 : k0_cond2 k0_t1 arg31_r0 arg32_r0 = 1#1), (Rect.unit (s := S2x2x2048x128) (k0_off10 arg19_r0) S1x2x2048x128.size (k0_off10_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2 => k0_hw1.1.2.2.2.2.2.2.2.2.2.1 k0_h2 (k0_off10_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h2)
theorem k0_off12_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg31_r0 arg32_r0 = 1#1), ∀ a, (k0_off12 arg21_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.1 k0_h3
theorem k0_off13_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg31_r0 arg32_r0 = 1#1), ∀ a, (k0_off13 arg21_r0) a + S1x256x2048.size a ≤ S2x256x2048.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.1 k0_h3
theorem k0_off14_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg31_r0 arg32_r0 = 1#1), ∀ a, (k0_off14 arg31_r0 arg32_r0) a + S256x2048.size a ≤ S1024x8192.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.2.1 k0_h3
theorem k0_off14_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg31_r0 arg32_r0 = 1#1), (Rect.unit (s := S1024x8192) (k0_off14 arg31_r0 arg32_r0) S256x2048.size (k0_off14_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.2.2.1 k0_h3 (k0_off14_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)
theorem k0_off13_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h3 : k0_cond3 k0_t1 arg31_r0 arg32_r0 = 1#1), (Rect.unit (s := S2x256x2048) (k0_off13 arg21_r0) S1x256x2048.size (k0_off13_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3 => k0_hw1.1.2.2.2.2.2.2.2.2.2.2.2.2.2.2.1 k0_h3 (k0_off13_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h3)
theorem k0_off15_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), ∀ a, (k0_off15 arg23_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.1 k0_h4
theorem k0_off16_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), ∀ a, (k0_off16 arg23_r0) a + S1x2048x128.size a ≤ S2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.2.1 k0_h4
theorem k0_off17_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), ∀ a, (k0_off17 arg31_r0 arg32_r0) a + S2048x128.size a ≤ S8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.2.2.1 k0_h4
theorem k0_off17_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), (Rect.unit (s := S8192x128) (k0_off17 arg31_r0 arg32_r0) S2048x128.size (k0_off17_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.2.2.2.1 k0_h4 (k0_off17_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4)
theorem k0_off16_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h4 : k0_cond4 k0_t1 arg31_r0 arg32_r0 = 1#1), (Rect.unit (s := S2x2048x128) (k0_off16 arg23_r0) S1x2048x128.size (k0_off16_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4 => k0_hw1.1.2.2.2.2.2.2.2.2.2.2.2.2.2.2.2.2.2.2.2.1 k0_h4 (k0_off16_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h4)
theorem k0_off18_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h5 : k0_cond5 k0_t1 arg31_r0 arg32_r0 = 1#1), ∀ a, (k0_off18 arg25_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h5 => k0_hw1.1.2.2.2.2.2.2.2.2.2.2.2.2.2.2.2.2.2.2.2.2.1 k0_h5
theorem k0_off19_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h5 : k0_cond5 k0_t1 arg31_r0 arg32_r0 = 1#1), ∀ a, (k0_off19 arg25_r0) a + S1x1024x1024.size a ≤ S2x1024x1024.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h5 => k0_hw1.1.2.2.2.2.2.2.2.2.2.2.2.2.2.2.2.2.2.2.2.2.2.1 k0_h5
theorem k0_off20_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h5 : k0_cond5 k0_t1 arg31_r0 arg32_r0 = 1#1), ∀ a, (k0_off20 arg31_r0 arg32_r0) a + S1024x1024.size a ≤ S2048x8192.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h5 => k0_hw1.1.2.2.2.2.2.2.2.2.2.2.2.2.2.2.2.2.2.2.2.2.2.2.1 k0_h5
theorem k0_off21_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg31_r0 arg32_r0 = 1#1), ∀ a, (k0_off21 arg18_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.2.2.1 k0_h6
theorem k0_off22_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg31_r0 arg32_r0 = 1#1), ∀ a, (k0_off22 arg18_r0) a + S1x2x2048x128.size a ≤ S2x2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.2.2.2.1 k0_h6
theorem k0_off23_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg31_r0 arg32_r0 = 1#1), ∀ a, (k0_off23 arg31_r0 arg32_r0) a + S2x2048x128.size a ≤ S16x8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.2.2.2.2.1 k0_h6
theorem k0_off23_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg31_r0 arg32_r0 = 1#1), (Rect.unit (s := S16x8192x128) (k0_off23 arg31_r0 arg32_r0) S2x2048x128.size (k0_off23_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.2.2.2.2.2.1 k0_h6 (k0_off23_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6)
theorem k0_off22_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h6 : k0_cond6 k0_t1 arg31_r0 arg32_r0 = 1#1), (Rect.unit (s := S2x2x2048x128) (k0_off22 arg18_r0) S1x2x2048x128.size (k0_off22_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6 => k0_hw1.1.2.2.2.2.2.2.2.2.2.2.2.2.2.2.2.2.2.2.2.2.2.2.2.2.2.2.2.1 k0_h6 (k0_off22_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h6)
theorem k0_off24_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg31_r0 arg32_r0 = 1#1), ∀ a, (k0_off24 arg20_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.1.2.2.2.2.2.2.2.2.2.2.2.2.2.2.2.2.2.2.2.2.2.2.2.2.2.2.2.2.1 k0_h7
theorem k0_off25_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg31_r0 arg32_r0 = 1#1), ∀ a, (k0_off25 arg20_r0) a + S1x2x2048x128.size a ≤ S2x2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.1.2.2.2.2.2.2.2.2.2.2.2.2.2.2.2.2.2.2.2.2.2.2.2.2.2.2.2.2.2.1 k0_h7
theorem k0_off26_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg31_r0 arg32_r0 = 1#1), ∀ a, (k0_off26 arg31_r0 arg32_r0) a + S2x2048x128.size a ≤ S16x8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.1.2.2.2.2.2.2.2.2.2.2.2.2.2.2.2.2.2.2.2.2.2.2.2.2.2.2.2.2.2.2.1 k0_h7
theorem k0_off26_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg31_r0 arg32_r0 = 1#1), (Rect.unit (s := S16x8192x128) (k0_off26 arg31_r0 arg32_r0) S2x2048x128.size (k0_off26_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.1.2.2.2.2.2.2.2.2.2.2.2.2.2.2.2.2.2.2.2.2.2.2.2.2.2.2.2.2.2.2.2 k0_h7 (k0_off26_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7)
theorem k0_off25_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h7 : k0_cond7 k0_t1 arg31_r0 arg32_r0 = 1#1), (Rect.unit (s := S2x2x2048x128) (k0_off25 arg20_r0) S1x2x2048x128.size (k0_off25_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7 => k0_hw1.2.1 k0_h7 (k0_off25_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h7)
theorem k0_off27_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), ∀ a, (k0_off27 arg22_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.2.2.1 k0_h8
theorem k0_off28_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), ∀ a, (k0_off28 arg22_r0) a + S1x256x2048.size a ≤ S2x256x2048.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.2.2.2.1 k0_h8
theorem k0_off29_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), ∀ a, (k0_off29 arg31_r0 arg32_r0) a + S256x2048.size a ≤ S1024x8192.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.2.2.2.2.1 k0_h8
theorem k0_off29_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), (Rect.unit (s := S1024x8192) (k0_off29 arg31_r0 arg32_r0) S256x2048.size (k0_off29_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.2.2.2.2.2.1 k0_h8 (k0_off29_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8)
theorem k0_off28_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h8 : k0_cond8 k0_t1 arg31_r0 arg32_r0 = 1#1), (Rect.unit (s := S2x256x2048) (k0_off28 arg22_r0) S1x256x2048.size (k0_off28_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8 => k0_hw1.2.2.2.2.2.2.1 k0_h8 (k0_off28_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h8)
theorem k0_off30_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), ∀ a, (k0_off30 arg24_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.2.2.2.2.2.2.2.1 k0_h9
theorem k0_off31_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), ∀ a, (k0_off31 arg24_r0) a + S1x2048x128.size a ≤ S2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.2.2.2.2.2.2.2.2.1 k0_h9
theorem k0_off32_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), ∀ a, (k0_off32 arg31_r0) a + S2048x128.size a ≤ S8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.2.2.2.2.2.2.2.2.2.1 k0_h9
theorem k0_off32_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), (Rect.unit (s := S8192x128) (k0_off32 arg31_r0) S2048x128.size (k0_off32_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.2.2.2.2.2.2.2.2.2.2.1 k0_h9 (k0_off32_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9)
theorem k0_off31_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h9 : k0_cond9 k0_t1 arg31_r0 arg32_r0 = 1#1), (Rect.unit (s := S2x2048x128) (k0_off31 arg24_r0) S1x2048x128.size (k0_off31_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9 => k0_hw1.2.2.2.2.2.2.2.2.2.2.2.1 k0_h9 (k0_off31_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h9)
theorem k0_off33_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg31_r0 arg32_r0 = 1#1), ∀ a, (k0_off33 arg26_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.2.2.2.2.2.2.2.2.2.2.2.1 k0_h10
theorem k0_off34_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg31_r0 arg32_r0 = 1#1), ∀ a, (k0_off34 arg26_r0) a + S1x1024x1024.size a ≤ S2x1024x1024.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.2.2.2.2.2.2.2.2.2.2.2.2.1 k0_h10
theorem k0_off35_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h10 : k0_cond10 k0_t1 arg31_r0 arg32_r0 = 1#1), ∀ a, (k0_off35 arg31_r0 arg32_r0) a + S1024x1024.size a ≤ S2048x8192.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h10 => k0_hw1.2.2.2.2.2.2.2.2.2.2.2.2.2.2.1 k0_h10
theorem k0_off44_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h18 : k0_cond18 k0_t1 arg31_r0 arg32_r0 = 1#1), ∀ a, (k0_off44 arg27_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h18 => k0_hw1.2.2.2.2.2.2.2.2.2.2.2.2.2.2.2.1 k0_h18
theorem k0_off45_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h18 : k0_cond18 k0_t1 arg31_r0 arg32_r0 = 1#1), ∀ a, (k0_off45 arg31_r0 arg32_r0) a + S2x2048x128.size a ≤ S8x8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h18 => k0_hw1.2.2.2.2.2.2.2.2.2.2.2.2.2.2.2.2.1 k0_h18
theorem k0_off46_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h18 : k0_cond18 k0_t1 arg31_r0 arg32_r0 = 1#1), ∀ a, (k0_off46 arg27_r0) a + S1x2x2048x128.size a ≤ S2x2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h18 => k0_hw1.2.2.2.2.2.2.2.2.2.2.2.2.2.2.2.2.2.1 k0_h18
theorem k0_off47_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h19 : k0_cond19 k0_t1 arg31_r0 arg32_r0 = 1#1), ∀ a, (k0_off47 arg29_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19 => k0_hw1.2.2.2.2.2.2.2.2.2.2.2.2.2.2.2.2.2.2.1 k0_h19
theorem k0_off48_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h19 : k0_cond19 k0_t1 arg31_r0 arg32_r0 = 1#1), ∀ a, (k0_off48 arg31_r0 arg32_r0) a + S1x1024x1024.size a ≤ S8x2048x1024.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19 => k0_hw1.2.2.2.2.2.2.2.2.2.2.2.2.2.2.2.2.2.2.2.1 k0_h19
theorem k0_off49_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h19 : k0_cond19 k0_t1 arg31_r0 arg32_r0 = 1#1), ∀ a, (k0_off49 arg29_r0) a + S1x1024x1024.size a ≤ S2x1024x1024.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19 => k0_hw1.2.2.2.2.2.2.2.2.2.2.2.2.2.2.2.2.2.2.2.2.1 k0_h19
theorem k0_off49_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h19 : k0_cond19 k0_t1 arg31_r0 arg32_r0 = 1#1), (Rect.unit (s := S2x1024x1024) (k0_off49 arg29_r0) S1x1024x1024.size (k0_off49_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19 => k0_hw1.2.2.2.2.2.2.2.2.2.2.2.2.2.2.2.2.2.2.2.2.2.1 k0_h19 (k0_off49_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19)
theorem k0_off48_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h19 : k0_cond19 k0_t1 arg31_r0 arg32_r0 = 1#1), (Rect.unit (s := S8x2048x1024) (k0_off48 arg31_r0 arg32_r0) S1x1024x1024.size (k0_off48_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19 => k0_hw1.2.2.2.2.2.2.2.2.2.2.2.2.2.2.2.2.2.2.2.2.2.2.1 k0_h19 (k0_off48_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h19)
theorem k0_off50_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h25 : k0_cond25 k0_t1 arg31_r0 arg32_r0 = 1#1), ∀ a, (k0_off50 arg28_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h25 => k0_hw1.2.2.2.2.2.2.2.2.2.2.2.2.2.2.2.2.2.2.2.2.2.2.2.1 k0_h25
theorem k0_off51_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h25 : k0_cond25 k0_t1 arg31_r0 arg32_r0 = 1#1), ∀ a, (k0_off51 arg31_r0 arg32_r0) a + S2x2048x128.size a ≤ S8x8192x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h25 => k0_hw1.2.2.2.2.2.2.2.2.2.2.2.2.2.2.2.2.2.2.2.2.2.2.2.2.1 k0_h25
theorem k0_off52_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h25 : k0_cond25 k0_t1 arg31_r0 arg32_r0 = 1#1), ∀ a, (k0_off52 arg28_r0) a + S1x2x2048x128.size a ≤ S2x2x2048x128.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h25 => k0_hw1.2.2.2.2.2.2.2.2.2.2.2.2.2.2.2.2.2.2.2.2.2.2.2.2.2.1 k0_h25
theorem k0_off53_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h26 : k0_cond26 k0_t1 arg31_r0 arg32_r0 = 1#1), ∀ a, (k0_off53 arg30_r0) a + S1.size a ≤ S2.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26 => k0_hw1.2.2.2.2.2.2.2.2.2.2.2.2.2.2.2.2.2.2.2.2.2.2.2.2.2.2.1 k0_h26
theorem k0_off54_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h26 : k0_cond26 k0_t1 arg31_r0 arg32_r0 = 1#1), ∀ a, (k0_off54 arg31_r0 arg32_r0) a + S1x1024x1024.size a ≤ S8x2048x1024.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26 => k0_hw1.2.2.2.2.2.2.2.2.2.2.2.2.2.2.2.2.2.2.2.2.2.2.2.2.2.2.2.1 k0_h26
theorem k0_off55_inb : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h26 : k0_cond26 k0_t1 arg31_r0 arg32_r0 = 1#1), ∀ a, (k0_off55 arg30_r0) a + S1x1024x1024.size a ≤ S2x1024x1024.size a := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26 => k0_hw1.2.2.2.2.2.2.2.2.2.2.2.2.2.2.2.2.2.2.2.2.2.2.2.2.2.2.2.2.1 k0_h26
theorem k0_off55_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h26 : k0_cond26 k0_t1 arg31_r0 arg32_r0 = 1#1), (Rect.unit (s := S2x1024x1024) (k0_off55 arg30_r0) S1x1024x1024.size (k0_off55_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26 => k0_hw1.2.2.2.2.2.2.2.2.2.2.2.2.2.2.2.2.2.2.2.2.2.2.2.2.2.2.2.2.2.1 k0_h26 (k0_off55_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26)
theorem k0_off54_wordsbf16 : ∀ (k0_t1 : Fin k0_t1_loop.trips) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (k0_hw1 : k0_chk1 k0_t1 arg17_r0 arg18_r0 arg19_r0 arg20_r0 arg21_r0 arg22_r0 arg23_r0 arg24_r0 arg25_r0 arg26_r0 arg27_r0 arg28_r0 arg29_r0 arg30_r0 arg31_r0 arg32_r0), ∀ (k0_h26 : k0_cond26 k0_t1 arg31_r0 arg32_r0 = 1#1), (Rect.unit (s := S8x2048x1024) (k0_off54 arg31_r0 arg32_r0) S1x1024x1024.size (k0_off54_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26)).WholeWords (EltTy.packing .bf16) := fun k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26 => k0_hw1.2.2.2.2.2.2.2.2.2.2.2.2.2.2.2.2.2.2.2.2.2.2.2.2.2.2.2.2.2.2 k0_h26 (k0_off54_inb k0_t1 arg17_r0 arg18_r0 arg19_r0 arg20_r0 arg21_r0 arg22_r0 arg23_r0 arg24_r0 arg25_r0 arg26_r0 arg27_r0 arg28_r0 arg29_r0 arg30_r0 arg31_r0 arg32_r0 k0_hw1 k0_h26)

def k0_off56 (v69_11_r0 : BitVec 32) : Fin 1 → Nat :=
  let c2_i32_123_r0 : BitVec 32 := 2#32
  let v110_r0 : BitVec 32 := Scalar.remui v69_11_r0 c2_i32_123_r0
  ![v110_r0.toNat]

def k0_off57 (v69_15_r0 : BitVec 32) (v69_14_r0 : BitVec 32) : Fin 3 → Nat :=
  let c2_i32_125_r0 : BitVec 32 := 2#32
  let c0_i32_124_r0 : BitVec 32 := 0#32
  let true_88_r0 : BitVec 1 := 1#1
  let c1_i32_87_r0 : BitVec 32 := 1#32
  let v70_r0 : BitVec 32 := Scalar.subi v69_15_r0 c1_i32_87_r0
  let v71_r0 : BitVec 32 := Scalar.select true_88_r0 v70_r0 v69_15_r0
  let c_m1_i32_89_r0 : BitVec 32 := 4294967295#32
  let v72_r0 : BitVec 1 := Scalar.cmpi .eq v71_r0 c_m1_i32_89_r0
  let c3_i32_90_r0 : BitVec 32 := 3#32
  let v73_r0 : BitVec 32 := Scalar.select v72_r0 c3_i32_90_r0 v71_r0
  let c0_i32_95_r0 : BitVec 32 := 0#32
  let v79_r0 : BitVec 32 := Scalar.addi v73_r0 c0_i32_95_r0
  let v111_r0 : BitVec 32 := Scalar.addi c0_i32_124_r0 v79_r0
  let v112_r0 : BitVec 32 := Scalar.muli c2_i32_125_r0 v111_r0
  let c2048_i32_r0 : BitVec 32 := 2048#32
  let c1_i32_91_r0 : BitVec 32 := 1#32
  let v74_r0 : BitVec 32 := Scalar.subi v69_14_r0 c1_i32_91_r0
  let v75_r0 : BitVec 32 := Scalar.select v72_r0 v74_r0 v69_14_r0
  let c_m1_i32_92_r0 : BitVec 32 := 4294967295#32
  let v76_r0 : BitVec 1 := Scalar.cmpi .eq v75_r0 c_m1_i32_92_r0
  let c3_i32_93_r0 : BitVec 32 := 3#32
  let v77_r0 : BitVec 32 := Scalar.select v76_r0 c3_i32_93_r0 v75_r0
  let c0_i32_94_r0 : BitVec 32 := 0#32
  let v78_r0 : BitVec 32 := Scalar.addi v77_r0 c0_i32_94_r0
  let v113_r0 : BitVec 32 := Scalar.muli c2048_i32_r0 v78_r0
  let c0_i32_126_r0 : BitVec 32 := 0#32
  ![v112_r0.toNat, v113_r0.toNat, 0]

def k0_off58 (v69_11_r0 : BitVec 32) : Fin 4 → Nat :=
  let c2_i32_123_r0 : BitVec 32 := 2#32
  let v110_r0 : BitVec 32 := Scalar.remui v69_11_r0 c2_i32_123_r0
  let c0_i32_127_r0 : BitVec 32 := 0#32
  let c0_i32_128_r0 : BitVec 32 := 0#32
  let c0_i32_129_r0 : BitVec 32 := 0#32
  ![v110_r0.toNat, 0, 0, 0]

def k0_chk9 (v69_11_r0 : BitVec 32) : Prop :=
  (∀ a, (k0_off56 v69_11_r0) a + S1.size a ≤ S2.size a) ∧
  (∀ a, (k0_off58 v69_11_r0) a + S1x2x2048x128.size a ≤ S2x2x2048x128.size a)
theorem k0_off56_inb : ∀ (v69_11_r0 : BitVec 32) (k0_hw9 : k0_chk9 v69_11_r0), ∀ a, (k0_off56 v69_11_r0) a + S1.size a ≤ S2.size a := fun v69_11_r0 k0_hw9 => k0_hw9.1
theorem k0_off58_inb : ∀ (v69_11_r0 : BitVec 32) (k0_hw9 : k0_chk9 v69_11_r0), ∀ a, (k0_off58 v69_11_r0) a + S1x2x2048x128.size a ≤ S2x2x2048x128.size a := fun v69_11_r0 k0_hw9 => k0_hw9.2

def k0_off59 (v69_13_r0 : BitVec 32) : Fin 1 → Nat :=
  let c2_i32_130_r0 : BitVec 32 := 2#32
  let v119_r0 : BitVec 32 := Scalar.remui v69_13_r0 c2_i32_130_r0
  ![v119_r0.toNat]

def k0_off60 (v69_15_r0 : BitVec 32) (v69_14_r0 : BitVec 32) : Fin 3 → Nat :=
  let true_88_r0 : BitVec 1 := 1#1
  let c1_i32_87_r0 : BitVec 32 := 1#32
  let v70_r0 : BitVec 32 := Scalar.subi v69_15_r0 c1_i32_87_r0
  let v71_r0 : BitVec 32 := Scalar.select true_88_r0 v70_r0 v69_15_r0
  let c_m1_i32_89_r0 : BitVec 32 := 4294967295#32
  let v72_r0 : BitVec 1 := Scalar.cmpi .eq v71_r0 c_m1_i32_89_r0
  let c1_i32_91_r0 : BitVec 32 := 1#32
  let v74_r0 : BitVec 32 := Scalar.subi v69_14_r0 c1_i32_91_r0
  let v75_r0 : BitVec 32 := Scalar.select v72_r0 v74_r0 v69_14_r0
  let c_m1_i32_92_r0 : BitVec 32 := 4294967295#32
  let v76_r0 : BitVec 1 := Scalar.cmpi .eq v75_r0 c_m1_i32_92_r0
  let c3_i32_93_r0 : BitVec 32 := 3#32
  let v77_r0 : BitVec 32 := Scalar.select v76_r0 c3_i32_93_r0 v75_r0
  let c0_i32_94_r0 : BitVec 32 := 0#32
  let v78_r0 : BitVec 32 := Scalar.addi v77_r0 c0_i32_94_r0
  let c4_i32_131_r0 : BitVec 32 := 4#32
  let v120_r0 : BitVec 32 := Scalar.muli v78_r0 c4_i32_131_r0
  let c3_i32_90_r0 : BitVec 32 := 3#32
  let v73_r0 : BitVec 32 := Scalar.select v72_r0 c3_i32_90_r0 v71_r0
  let c0_i32_95_r0 : BitVec 32 := 0#32
  let v79_r0 : BitVec 32 := Scalar.addi v73_r0 c0_i32_95_r0
  let v121_r0 : BitVec 32 := Scalar.addi v120_r0 v79_r0
  let c0_i32_133_r0 : BitVec 32 := 0#32
  let v123_r0 : BitVec 1 := Scalar.cmpi .sgt v121_r0 c0_i32_133_r0
  let v124_r0 : BitVec 32 := Scalar.extui v123_r0
  let c0_i32_134_r0 : BitVec 32 := 0#32
  let v125_r0 : BitVec 1 := Scalar.cmpi .slt v121_r0 c0_i32_134_r0
  let v126_r0 : BitVec 32 := Scalar.extui v125_r0
  let v127_r0 : BitVec 32 := Scalar.subi v124_r0 v126_r0
  let c2_i32_132_r0 : BitVec 32 := 2#32
  let c0_i32_135_r0 : BitVec 32 := 0#32
  let v128_r0 : BitVec 1 := Scalar.cmpi .sgt c2_i32_132_r0 c0_i32_135_r0
  let v129_r0 : BitVec 32 := Scalar.extui v128_r0
  let c0_i32_136_r0 : BitVec 32 := 0#32
  let v130_r0 : BitVec 1 := Scalar.cmpi .slt c2_i32_132_r0 c0_i32_136_r0
  let v131_r0 : BitVec 32 := Scalar.extui v130_r0
  let v132_r0 : BitVec 32 := Scalar.subi v129_r0 v131_r0
  let v133_r0 : BitVec 1 := Scalar.cmpi .ne v127_r0 v132_r0
  let v134_r0 : BitVec 32 := Scalar.remsi v121_r0 c2_i32_132_r0
  let c0_i32_137_r0 : BitVec 32 := 0#32
  let v135_r0 : BitVec 1 := Scalar.cmpi .ne v134_r0 c0_i32_137_r0
  let v136_r0 : BitVec 1 := Scalar.andi v133_r0 v135_r0
  let v122_r0 : BitVec 32 := Scalar.divsi v121_r0 c2_i32_132_r0
  let c1_i32_138_r0 : BitVec 32 := 1#32
  let v137_r0 : BitVec 32 := Scalar.subi v122_r0 c1_i32_138_r0
  let v138_r0 : BitVec 32 := Scalar.select v136_r0 v137_r0 v122_r0
  let c1024_i32_r0 : BitVec 32 := 1024#32
  let c4_i32_139_r0 : BitVec 32 := 4#32
  let v139_r0 : BitVec 32 := Scalar.muli v78_r0 c4_i32_139_r0
  let v140_r0 : BitVec 32 := Scalar.addi v139_r0 v79_r0
  let c2_i32_140_r0 : BitVec 32 := 2#32
  let c0_i32_141_r0 : BitVec 32 := 0#32
  let v141_r0 : BitVec 1 := Scalar.cmpi .eq c2_i32_140_r0 c0_i32_141_r0
  let c1_i32_142_r0 : BitVec 32 := 1#32
  let v142_r0 : BitVec 32 := Scalar.select v141_r0 c1_i32_142_r0 c2_i32_140_r0
  let v143_r0 : BitVec 32 := Scalar.remsi v140_r0 v142_r0
  let c0_i32_144_r0 : BitVec 32 := 0#32
  let v145_r0 : BitVec 1 := Scalar.cmpi .slt v143_r0 c0_i32_144_r0
  let c0_i32_145_r0 : BitVec 32 := 0#32
  let v146_r0 : BitVec 1 := Scalar.cmpi .slt v142_r0 c0_i32_145_r0
  let v147_r0 : BitVec 1 := Scalar.xori v145_r0 v146_r0
  let c0_i32_143_r0 : BitVec 32 := 0#32
  let v144_r0 : BitVec 1 := Scalar.cmpi .ne v143_r0 c0_i32_143_r0
  let v148_r0 : BitVec 1 := Scalar.andi v147_r0 v144_r0
  let v149_r0 : BitVec 32 := Scalar.addi v143_r0 v142_r0
  let v150_r0 : BitVec 32 := Scalar.select v148_r0 v149_r0 v143_r0
  let v151_r0 : BitVec 32 := Scalar.muli c1024_i32_r0 v150_r0
  let c0_i32_146_r0 : BitVec 32 := 0#32
  ![v138_r0.toNat, v151_r0.toNat, 0]
def k0_off61 (v69_13_r0 : BitVec 32) : Fin 3 → Nat :=
  let c2_i32_130_r0 : BitVec 32 := 2#32
  let v119_r0 : BitVec 32 := Scalar.remui v69_13_r0 c2_i32_130_r0
  let c0_i32_147_r0 : BitVec 32 := 0#32
  let c0_i32_148_r0 : BitVec 32 := 0#32
  ![v119_r0.toNat, 0, 0]

def k0_chk11 (v69_13_r0 : BitVec 32) : Prop :=
  (∀ a, (k0_off59 v69_13_r0) a + S1.size a ≤ S2.size a) ∧
  (∀ a, (k0_off61 v69_13_r0) a + S1x1024x1024.size a ≤ S2x1024x1024.size a) ∧
  (∀ (hinb : ∀ a, (k0_off61 v69_13_r0) a + S1x1024x1024.size a ≤ S2x1024x1024.size a), (Rect.unit (s := S2x1024x1024) (k0_off61 v69_13_r0) S1x1024x1024.size hinb).WholeWords (EltTy.packing .bf16))
theorem k0_off59_inb : ∀ (v69_13_r0 : BitVec 32) (k0_hw11 : k0_chk11 v69_13_r0), ∀ a, (k0_off59 v69_13_r0) a + S1.size a ≤ S2.size a := fun v69_13_r0 k0_hw11 => k0_hw11.1
theorem k0_off61_inb : ∀ (v69_13_r0 : BitVec 32) (k0_hw11 : k0_chk11 v69_13_r0), ∀ a, (k0_off61 v69_13_r0) a + S1x1024x1024.size a ≤ S2x1024x1024.size a := fun v69_13_r0 k0_hw11 => k0_hw11.2.1
theorem k0_off61_wordsbf16 : ∀ (v69_13_r0 : BitVec 32) (k0_hw11 : k0_chk11 v69_13_r0), (Rect.unit (s := S2x1024x1024) (k0_off61 v69_13_r0) S1x1024x1024.size (k0_off61_inb v69_13_r0 k0_hw11)).WholeWords (EltTy.packing .bf16) := fun v69_13_r0 k0_hw11 => k0_hw11.2.2 (k0_off61_inb v69_13_r0 k0_hw11)

def k0_chk10 (v69_15_r0 : BitVec 32) (v69_14_r0 : BitVec 32) : Prop :=
  (∀ a, (k0_off57 v69_15_r0 v69_14_r0) a + S2x2048x128.size a ≤ S8x8192x128.size a) ∧
  (∀ a, (k0_off60 v69_15_r0 v69_14_r0) a + S1x1024x1024.size a ≤ S8x2048x1024.size a) ∧
  (∀ (hinb : ∀ a, (k0_off60 v69_15_r0 v69_14_r0) a + S1x1024x1024.size a ≤ S8x2048x1024.size a), (Rect.unit (s := S8x2048x1024) (k0_off60 v69_15_r0 v69_14_r0) S1x1024x1024.size hinb).WholeWords (EltTy.packing .bf16))
theorem k0_off57_inb : ∀ (v69_15_r0 : BitVec 32) (v69_14_r0 : BitVec 32) (k0_hw10 : k0_chk10 v69_15_r0 v69_14_r0), ∀ a, (k0_off57 v69_15_r0 v69_14_r0) a + S2x2048x128.size a ≤ S8x8192x128.size a := fun v69_15_r0 v69_14_r0 k0_hw10 => k0_hw10.1
theorem k0_off60_inb : ∀ (v69_15_r0 : BitVec 32) (v69_14_r0 : BitVec 32) (k0_hw10 : k0_chk10 v69_15_r0 v69_14_r0), ∀ a, (k0_off60 v69_15_r0 v69_14_r0) a + S1x1024x1024.size a ≤ S8x2048x1024.size a := fun v69_15_r0 v69_14_r0 k0_hw10 => k0_hw10.2.1
theorem k0_off60_wordsbf16 : ∀ (v69_15_r0 : BitVec 32) (v69_14_r0 : BitVec 32) (k0_hw10 : k0_chk10 v69_15_r0 v69_14_r0), (Rect.unit (s := S8x2048x1024) (k0_off60 v69_15_r0 v69_14_r0) S1x1024x1024.size (k0_off60_inb v69_15_r0 v69_14_r0 k0_hw10)).WholeWords (EltTy.packing .bf16) := fun v69_15_r0 v69_14_r0 k0_hw10 => k0_hw10.2.2 (k0_off60_inb v69_15_r0 v69_14_r0 k0_hw10)
-- ==== ReferenceIdeal.lean ====
abbrev S16x8192x128 : Shape := ⟨3, ![16, 8192, 128]⟩
abbrev S1024x8192 : Shape := ⟨2, ![1024, 8192]⟩
abbrev S8192x128 : Shape := ⟨2, ![8192, 128]⟩
abbrev S2048x8192 : Shape := ⟨2, ![2048, 8192]⟩
abbrev S8x8192x128 : Shape := ⟨3, ![8, 8192, 128]⟩
abbrev S8x4x2048x128 : Shape := ⟨4, ![8, 4, 2048, 128]⟩
abbrev S8x128x4x2048 : Shape := ⟨4, ![8, 128, 4, 2048]⟩
abbrev S4x2048x128 : Shape := ⟨3, ![4, 2048, 128]⟩
abbrev S4x2048x8 : Shape := ⟨3, ![4, 2048, 8]⟩
abbrev S8x4x2048 : Shape := ⟨3, ![8, 4, 2048]⟩
abbrev S8x4x2048x2048 : Shape := ⟨4, ![8, 4, 2048, 2048]⟩
abbrev S8x4x2048x1 : Shape := ⟨4, ![8, 4, 2048, 1]⟩
abbrev S8x4x1x2048 : Shape := ⟨4, ![8, 4, 1, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x8x1024 : Shape := ⟨3, ![2048, 8, 1024]⟩
abbrev S8x2048x1024 : Shape := ⟨3, ![8, 2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x8192x128, .bf16⟩
  | .hbm, ⟨1, _⟩ => ⟨S1024x8192, .bf16⟩
  | .hbm, ⟨2, _⟩ => ⟨S8192x128, .bf16⟩
  | .hbm, ⟨3, _⟩ => ⟨S2048x8192, .f32⟩
  | .hbm, ⟨4, _⟩ => ⟨S8x8192x128, .bf16⟩
  | .hbm, ⟨5, _⟩ => ⟨S8x4x2048x128, .bf16⟩
  | .hbm, ⟨6, _⟩ => ⟨S8x8192x128, .bf16⟩
  | .hbm, ⟨7, _⟩ => ⟨S8x4x2048x128, .bf16⟩
  | .hbm, ⟨8, _⟩ => ⟨S8x128x4x2048, .bf16⟩
  | .hbm, ⟨9, _⟩ => ⟨S8192x128, .f32⟩
  | .hbm, ⟨10, _⟩ => ⟨S4x2048x128, .f32⟩
  | .hbm, ⟨11, _⟩ => ⟨S4x2048x8, .f32⟩
  | .hbm, ⟨12, _⟩ => ⟨S4x2048x8, .f32⟩
  | .hbm, ⟨13, _⟩ => ⟨S4x2048x8, .f32⟩
  | .hbm, ⟨14, _⟩ => ⟨S4x2048x8, .f32⟩
  | .hbm, ⟨15, _⟩ => ⟨S4x2048x8, .f32⟩
  | .hbm, ⟨16, _⟩ => ⟨S8x4x2048, .f32⟩
  | .hbm, ⟨17, _⟩ => ⟨S8x4x2048, .f32⟩
  | .hbm, ⟨18, _⟩ => ⟨S8x4x2048x2048, .f32⟩
  | .hbm, ⟨19, _⟩ => ⟨S8x4x2048x1, .f32⟩
  | .hbm, ⟨20, _⟩ => ⟨S8x4x2048x2048, .f32⟩
  | .hbm, ⟨21, _⟩ => ⟨S8x4x2048x2048, .f32⟩
  | .hbm, ⟨22, _⟩ => ⟨S8x4x1x2048, .f32⟩
  | .hbm, ⟨23, _⟩ => ⟨S8x4x2048x2048, .f32⟩
  | .hbm, ⟨24, _⟩ => ⟨S8x4x2048x2048, .f32⟩
  | .hbm, ⟨25, _⟩ => ⟨S_, .f32⟩
  | .hbm, ⟨26, _⟩ => ⟨S_, .f32⟩
  | .hbm, ⟨27, _⟩ => ⟨S8x4x2048x2048, .f32⟩
  | .hbm, ⟨28, _⟩ => ⟨S8x4x2048x2048, .f32⟩
  | .hbm, ⟨29, _⟩ => ⟨S2048, .i32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x4x2048x2048, .i1⟩
  | .hbm, ⟨38, _⟩ => ⟨S8x4x2048x2048, .f32⟩
  | .hbm, ⟨39, _⟩ => ⟨S8x4x2048x2048, .f32⟩
  | .hbm, ⟨40, _⟩ => ⟨S_, .f32⟩
  | .hbm, ⟨41, _⟩ => ⟨S8x4x2048, .f32⟩
  | .hbm, ⟨42, _⟩ => ⟨S_, .f32⟩
  | .hbm, ⟨43, _⟩ => ⟨S8x4x2048, .f32⟩
  | .hbm, ⟨44, _⟩ => ⟨S8x4x2048, .f32⟩
  | .hbm, ⟨45, _⟩ => ⟨S8x4x2048x1, .f32⟩
  | .hbm, ⟨46, _⟩ => ⟨S8x4x2048x2048, .f32⟩
  | .hbm, ⟨47, _⟩ => ⟨S8x4x2048x2048, .f32⟩
  | .hbm, ⟨48, _⟩ => ⟨S8x4x2048x2048, .f32⟩
  | .hbm, ⟨49, _⟩ => ⟨S_, .f32⟩
  | .hbm, ⟨50, _⟩ => ⟨S8x4x2048, .f32⟩
  | .hbm, ⟨51, _⟩ => ⟨S8x4x2048x1, .f32⟩
  | .hbm, ⟨52, _⟩ => ⟨S8x4x2048x2048, .f32⟩
  | .hbm, ⟨53, _⟩ => ⟨S8x4x2048x2048, .f32⟩
  | .hbm, ⟨54, _⟩ => ⟨S8x4x2048x128, .f32⟩
  | .hbm, ⟨55, _⟩ => ⟨S8x8192x128, .f32⟩
  | .hbm, ⟨56, _⟩ => ⟨S2048x8x1024, .f32⟩
  | .hbm, ⟨57, _⟩ => ⟨S8x2048x1024, .f32⟩
  | .hbm, ⟨58, _⟩ => ⟨S8x2048x1024, .bf16⟩
  | _, _ => ⟨S16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel2.lean ====
abbrev S8192x2048 : Shape := ⟨2, ![8192, 2048]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8192x2048 : Shape := ⟨2, ![8192, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x2048, .f32⟩
  | .hbm, ⟨3, _⟩ => ⟨S2048x8x1024, .bf16⟩
  | .hbm, ⟨4, _⟩ => ⟨S2048x8192, .bf16⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel3.lean ====
abbrev S8192x2048 : Shape := ⟨2, ![8192, 2048]⟩
abbrev S1x4x2048x256 : Shape := ⟨4, ![1, 4, 2048, 256]⟩
abbrev S1x2048 : Shape := ⟨2, ![1, 2048]⟩
abbrev S2048x2048 : Shape := ⟨2, ![2048, 2048]⟩
abbrev S1x256x2048 : Shape := ⟨3, ![1, 256, 2048]⟩
abbrev S4x2048x256 : Shape := ⟨3, ![4, 2048, 256]⟩
abbrev S8192x256 : Shape := ⟨2, ![8192, 256]⟩
abbrev S2048 : Shape := ⟨1, ![2048]⟩
abbrev S256x2048 : Shape := ⟨2, ![256, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 18
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4x2048x256, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S1x256x2048, .f32⟩
  | .hbm, ⟨7, _⟩ => ⟨S1x2048, .f32⟩
  | .hbm, ⟨8, _⟩ => ⟨S4x2048x256, .f32⟩
  | .hbm, ⟨9, _⟩ => ⟨S8192x256, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S256x2048, .f32⟩
  | .hbm, ⟨15, _⟩ => ⟨S2048, .f32⟩
  | .hbm, ⟨16, _⟩ => ⟨S1x2048, .f32⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S256x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x2048 : Shape := ⟨2, ![8192, 2048]⟩
abbrev S1x4x2048x256 : Shape := ⟨4, ![1, 4, 2048, 256]⟩
abbrev S1x2048 : Shape := ⟨2, ![1, 2048]⟩
abbrev S2048x2048 : Shape := ⟨2, ![2048, 2048]⟩
abbrev S1x256x2048 : Shape := ⟨3, ![1, 256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S4x2048x256 : Shape := ⟨3, ![4, 2048, 256]⟩
abbrev S8192x256 : Shape := ⟨2, ![8192, 256]⟩
abbrev S256x2048 : Shape := ⟨2, ![256, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4x2048x256, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S1x256x2048, .f32⟩
  | .hbm, ⟨7, _⟩ => ⟨S1x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S4x2048x256, .f32⟩
  | .hbm, ⟨53, _⟩ => ⟨S8192x256, .f32⟩
  | .hbm, ⟨54, _⟩ => ⟨S256x2048, .f32⟩
  | .hbm, ⟨55, _⟩ => ⟨S8192x2048, .f32⟩
  | .hbm, ⟨56, _⟩ => ⟨S8192x2048, .f32⟩
  | .hbm, ⟨57, _⟩ => ⟨S2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel4.lean ====
abbrev S2x8192x512 : Shape := ⟨3, ![2, 8192, 512]⟩
abbrev S8x8192x128 : Shape := ⟨3, ![8, 8192, 128]⟩
abbrev S4x2048x2048 : Shape := ⟨3, ![4, 2048, 2048]⟩
abbrev S1x4x256x256 : Shape := ⟨4, ![1, 4, 256, 256]⟩
abbrev S1x1024 : Shape := ⟨2, ![1, 1024]⟩
abbrev S2048x2048 : Shape := ⟨2, ![2048, 2048]⟩
abbrev S1x2048 : Shape := ⟨2, ![1, 2048]⟩
abbrev S8192x2048 : Shape := ⟨2, ![8192, 2048]⟩
abbrev S4x256x256 : Shape := ⟨3, ![4, 256, 256]⟩
abbrev S1024 : Shape := ⟨1, ![1024]⟩
abbrev S2048 : Shape := ⟨1, ![2048]⟩
abbrev S2x512x512 : Shape := ⟨3, ![2, 512, 512]⟩
abbrev S2x16x512 : Shape := ⟨3, ![2, 16, 512]⟩
abbrev S8x512x128 : Shape := ⟨3, ![8, 512, 128]⟩
abbrev S512x2048 : Shape := ⟨2, ![512, 2048]⟩
abbrev S1x256x256 : Shape := ⟨3, ![1, 256, 256]⟩
abbrev S256x256 : Shape := ⟨2, ![256, 256]⟩
abbrev S256x1 : Shape := ⟨2, ![256, 1]⟩
abbrev S1x16x256 : Shape := ⟨3, ![1, 16, 256]⟩
abbrev S16x256 : Shape := ⟨2, ![16, 256]⟩
abbrev S272x256 : Shape := ⟨2, ![272, 256]⟩
abbrev S1x256 : Shape := ⟨2, ![1, 256]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S1024x2048 : Shape := ⟨2, ![1024, 2048]⟩
abbrev S256x2048 : Shape := ⟨2, ![256, 2048]⟩

abbrev nBuf : Space → Nat
  | .hbm => 24
  | .vmem => 20
  | .smem => 0
  | _ => 0

abbrev bufTy : (tb : Table) → Fin (tcTables nBuf tb) → BufTy
  | .hbm, ⟨0, _⟩ => ⟨S2x8192x512, .f32⟩
  | .hbm, ⟨1, _⟩ => ⟨S8x8192x128, .f32⟩
  | .hbm, ⟨2, _⟩ => ⟨S4x2048x2048, .f32⟩
  | .hbm, ⟨3, _⟩ => ⟨S1x4x256x256, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S4x256x256, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S8192x2048, .bf16⟩
  | .local _ .vmem, ⟨0, _⟩ => ⟨S2x512x512, .f32⟩
  | .local _ .vmem, ⟨1, _⟩ => ⟨S2x512x512, .f32⟩
  | .local _ .vmem, ⟨2, _⟩ => ⟨S2x16x512, .f32⟩
  | .local _ .vmem, ⟨3, _⟩ => ⟨S2x16x512, .f32⟩
  | .local _ .vmem, ⟨4, _⟩ => ⟨S8x512x128, .f32⟩
  | .local _ .vmem, ⟨5, _⟩ => ⟨S8x512x128, .f32⟩
  | .local _ .vmem, ⟨6, _⟩ => ⟨S512x2048, .f32⟩
  | .local _ .vmem, ⟨7, _⟩ => ⟨S512x2048, .f32⟩
  | .local _ .vmem, ⟨8, _⟩ => ⟨S4x256x256, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | .local _ .vmem, ⟨19, _⟩ => ⟨S4x256x256, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S2x8192x512 : Shape := ⟨3, ![2, 8192, 512]⟩
abbrev S8x8192x128 : Shape := ⟨3, ![8, 8192, 128]⟩
abbrev S4x2048x2048 : Shape := ⟨3, ![4, 2048, 2048]⟩
abbrev S1x4x256x256 : Shape := ⟨4, ![1, 4, 256, 256]⟩
abbrev S1x1024 : Shape := ⟨2, ![1, 1024]⟩
abbrev S2048x2048 : Shape := ⟨2, ![2048, 2048]⟩
abbrev S1x2048 : Shape := ⟨2, ![1, 2048]⟩
abbrev S8192x2x512 : Shape := ⟨3, ![8192, 2, 512]⟩
abbrev S4x2048x4x256 : Shape := ⟨4, ![4, 2048, 4, 256]⟩
abbrev S2048 : Shape := ⟨1, ![2048]⟩
abbrev S2048x1 : Shape := ⟨2, ![2048, 1]⟩
abbrev S4x2048x1x256 : Shape := ⟨4, ![4, 2048, 1, 256]⟩
abbrev S4x2048x256 : Shape := ⟨3, ![4, 2048, 256]⟩
abbrev S_ : Shape := ⟨0, ![]⟩
abbrev S1x2048x1 : Shape := ⟨3, ![1, 2048, 1]⟩
abbrev S4x256x2048 : Shape := ⟨3, ![4, 256, 2048]⟩
abbrev S4x256x256 : Shape := ⟨3, ![4, 256, 256]⟩
abbrev S4x256x4x2048 : Shape := ⟨4, ![4, 256, 4, 2048]⟩
abbrev S8192x1024 : Shape := ⟨2, ![8192, 1024]⟩
abbrev S1024 : Shape := ⟨1, ![1024]⟩
abbrev S8192x8x128 : Shape := ⟨3, ![8192, 8, 128]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 208
  | .vmem => 0
  | .smem => 0
  | _ => 0

abbrev hbmTy0_0 (i : Nat) : BufTy := match i % 128 with
  | 0 => ⟨S2x8192x512, .f32⟩
  | 1 => ⟨S8x8192x128, .f32⟩
  | 2 => ⟨S4x2048x2048, .f32⟩
  | 3 => ⟨S1x4x256x256, .f32⟩
  | 4 => ⟨S1x1024, .f32⟩
  | 5 => ⟨S1x1024, .f32⟩
  | 6 => ⟨S1x1024, .f32⟩
  | 7 => ⟨S2048x2048, .bf16⟩
  | 8 => ⟨S1x2048, .f32⟩
  | 9 => ⟨S1x2048, .f32⟩
  | 10 => ⟨S8192x2x512, .f32⟩
  | 11 => ⟨S4x2048x4x256, .f32⟩
  | 12 => ⟨S2048, .i32⟩
  | 13 => ⟨S2048x1, .i32⟩
  | 14 => ⟨S2048, .i32⟩
  | 15 => ⟨S1x2048, .i32⟩
  | 16 => ⟨S4x2048x1x256, .f32⟩
  | 17 => ⟨S4x2048x256, .f32⟩
  | 18 => ⟨S2048x2048, .i32⟩
  | 19 => ⟨S2048x2048, .i32⟩
  | 20 => ⟨S2048x2048, .i1⟩
  | 21 => ⟨S_, .i32⟩
  | 22 => ⟨S2048x1, .i32⟩
  | 23 => ⟨S2048x1, .i32⟩
  | 24 => ⟨S2048x2048, .i32⟩
  | 25 => ⟨S2048x2048, .i32⟩
  | 26 => ⟨S2048x2048, .i1⟩
  | 27 => ⟨S2048x2048, .i1⟩
  | 28 => ⟨S2048x2048, .f32⟩
  | 29 => ⟨S2048, .f32⟩
  | 30 => ⟨S_, .f32⟩
  | 31 => ⟨S2048, .f32⟩
  | 32 => ⟨S2048, .f32⟩
  | 33 => ⟨S_, .f32⟩
  | 34 => ⟨S2048, .f32⟩
  | 35 => ⟨S2048, .f32⟩
  | 36 => ⟨S1x2048x1, .f32⟩
  | 37 => ⟨S4x256x2048, .f32⟩
  | 38 => ⟨S4x2048x256, .f32⟩
  | 39 => ⟨S4x2048x256, .f32⟩
  | 40 => ⟨S4x2048x256, .f32⟩
  | 41 => ⟨S4x2048x256, .f32⟩
  | 42 => ⟨S4x2048x1x256, .f32⟩
  | 43 => ⟨S4x2048x256, .f32⟩
  | 44 => ⟨S2048x2048, .i32⟩
  | 45 => ⟨S2048x2048, .i32⟩
  | 46 => ⟨S2048x2048, .i1⟩
  | 47 => ⟨S_, .i32⟩
  | 48 => ⟨S2048x1, .i32⟩
  | 49 => ⟨S2048x1, .i32⟩
  | 50 => ⟨S2048x2048, .i32⟩
  | 51 => ⟨S2048x2048, .i32⟩
  | 52 => ⟨S2048x2048, .i1⟩
  | 53 => ⟨S2048x2048, .i1⟩
  | 54 => ⟨S2048x2048, .f32⟩
  | 55 => ⟨S2048, .f32⟩
  | 56 => ⟨S_, .f32⟩
  | 57 => ⟨S2048, .f32⟩
  | 58 => ⟨S2048, .f32⟩
  | 59 => ⟨S_, .f32⟩
  | 60 => ⟨S2048, .f32⟩
  | 61 => ⟨S2048, .f32⟩
  | 62 => ⟨S1x2048x1, .f32⟩
  | 63 => ⟨S4x256x2048, .f32⟩
  | 64 => ⟨S4x2048x256, .f32⟩
  | 65 => ⟨S4x2048x256, .f32⟩
  | 66 => ⟨S4x2048x256, .f32⟩
  | 67 => ⟨S4x2048x256, .f32⟩
  | 68 => ⟨S4x2048x1x256, .f32⟩
  | 69 => ⟨S4x2048x256, .f32⟩
  | 70 => ⟨S2048x2048, .i32⟩
  | 71 => ⟨S2048x2048, .i32⟩
  | 72 => ⟨S2048x2048, .i1⟩
  | 73 => ⟨S_, .i32⟩
  | 74 => ⟨S2048x1, .i32⟩
  | 75 => ⟨S2048x1, .i32⟩
  | 76 => ⟨S2048x2048, .i32⟩
  | 77 => ⟨S2048x2048, .i32⟩
  | 78 => ⟨S2048x2048, .i1⟩
  | 79 => ⟨S2048x2048, .i1⟩
  | 80 => ⟨S2048x2048, .f32⟩
  | 81 => ⟨S2048, .f32⟩
  | 82 => ⟨S_, .f32⟩
  | 83 => ⟨S2048, .f32⟩
  | 84 => ⟨S2048, .f32⟩
  | 85 => ⟨S_, .f32⟩
  | 86 => ⟨S2048, .f32⟩
  | 87 => ⟨S2048, .f32⟩
  | 88 => ⟨S1x2048x1, .f32⟩
  | 89 => ⟨S4x256x2048, .f32⟩
  | 90 => ⟨S4x2048x256, .f32⟩
  | 91 => ⟨S4x2048x256, .f32⟩
  | 92 => ⟨S4x2048x256, .f32⟩
  | 93 => ⟨S4x2048x256, .f32⟩
  | 94 => ⟨S4x2048x1x256, .f32⟩
  | 95 => ⟨S4x2048x256, .f32⟩
  | 96 => ⟨S2048x2048, .i32⟩
  | 97 => ⟨S2048x2048, .i32⟩
  | 98 => ⟨S2048x2048, .i1⟩
  | 99 => ⟨S_, .i32⟩
  | 100 => ⟨S2048x1, .i32⟩
  | 101 => ⟨S2048x1, .i32⟩
  | 102 => ⟨S2048x2048, .i32⟩
  | 103 => ⟨S2048x2048, .i32⟩
  | 104 => ⟨S2048x2048, .i1⟩
  | 105 => ⟨S2048x2048, .i1⟩
  | 106 => ⟨S2048x2048, .f32⟩
  | 107 => ⟨S2048, .f32⟩
  | 108 => ⟨S_, .f32⟩
  | 109 => ⟨S2048, .f32⟩
  | 110 => ⟨S2048, .f32⟩
  | 111 => ⟨S_, .f32⟩
  | 112 => ⟨S2048, .f32⟩
  | 113 => ⟨S2048, .f32⟩
  | 114 => ⟨S1x2048x1, .f32⟩
  | 115 => ⟨S4x256x2048, .f32⟩
  | 116 => ⟨S4x2048x256, .f32⟩
  | 117 => ⟨S4x2048x256, .f32⟩
  | 118 => ⟨S4x2048x256, .f32⟩
  | 119 => ⟨S4x2048x256, .f32⟩
  | 120 => ⟨S4x2048x1x256, .f32⟩
  | 121 => ⟨S4x2048x1x256, .f32⟩
  | 122 => ⟨S4x2048x1x256, .f32⟩
  | 123 => ⟨S4x2048x1x256, .f32⟩
  | 124 => ⟨S4x2048x4x256, .f32⟩
  | 125 => ⟨S4x256x256, .f32⟩
  | 126 => ⟨S4x256x4x2048, .f32⟩
  | 127 => ⟨S4x2048x4x256, .f32⟩
  | _ => ⟨S2x8192x512, .f32⟩

abbrev hbmTy0_1 (i : Nat) : BufTy := match i % 128 with
  | 0 => ⟨S8192x1024, .f32⟩
  | 1 => ⟨S1024, .f32⟩
  | 2 => ⟨S1x1024, .f32⟩
  | 3 => ⟨S8192x1024, .f32⟩
  | 4 => ⟨S8192x1024, .f32⟩
  | 5 => ⟨S8192x8x128, .f32⟩
  | 6 => ⟨S8192x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S1024, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x2048, .f32⟩
  | 42 => ⟨S8192x2048, .f32⟩
  | 43 => ⟨S8192x2048, .f32⟩
  | 44 => ⟨S2048, .f32⟩
  | 45 => ⟨S8192x2048, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x2048, .f32⟩
  | 57 => ⟨S8192x2048, .f32⟩
  | 58 => ⟨S1x2048, .f32⟩
  | 59 => ⟨S8192x2048, .f32⟩
  | 60 => ⟨S8192x2048, .f32⟩
  | 61 => ⟨S8192x2048, .f32⟩
  | 62 => ⟨S2048, .f32⟩
  | 63 => ⟨S8192x2048, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x2048, .f32⟩
  | 75 => ⟨S8192x2048, .f32⟩
  | 76 => ⟨S1x2048, .f32⟩
  | 77 => ⟨S8192x2048, .f32⟩
  | 78 => ⟨S8192x2048, .f32⟩
  | 79 => ⟨S8192x2048, .bf16⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_4 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_5 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_7 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_8 : Ref sig .tc := ⟨.hbm, 108, rfl⟩
abbrev main_v88 : Ref sig .tc := ⟨.hbm, 109, rfl⟩
abbrev main_v89 : Ref sig .tc := ⟨.hbm, 110, rfl⟩
abbrev main_cst_9 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_10 : Ref sig .tc := ⟨.hbm, 137, rfl⟩
abbrev main_v115 : Ref sig .tc := ⟨.hbm, 138, rfl⟩
abbrev main_v116 : Ref sig .tc := ⟨.hbm, 139, rfl⟩
abbrev main_cst_11 : Ref sig .tc := ⟨.hbm, 140, rfl⟩
abbrev main_v117 : Ref sig .tc := ⟨.hbm, 141, rfl⟩
abbrev main_v118 : Ref sig .tc := ⟨.hbm, 142, rfl⟩
abbrev main_cst_12 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_13 : Ref sig .tc := ⟨.hbm, 154, rfl⟩
abbrev main_v129 : Ref sig .tc := ⟨.hbm, 155, rfl⟩
abbrev main_v130 : Ref sig .tc := ⟨.hbm, 156, rfl⟩
abbrev main_cst_14 : Ref sig .tc := ⟨.hbm, 157, rfl⟩
abbrev main_v131 : Ref sig .tc := ⟨.hbm, 158, rfl⟩
abbrev main_v132 : Ref sig .tc := ⟨.hbm, 159, rfl⟩
abbrev main_cst_15 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_16 : Ref sig .tc := ⟨.hbm, 174, rfl⟩
abbrev main_v146 : Ref sig .tc := ⟨.hbm, 175, rfl⟩
abbrev main_v147 : Ref sig .tc := ⟨.hbm, 176, rfl⟩
abbrev main_cst_17 : Ref sig .tc := ⟨.hbm, 177, rfl⟩
abbrev main_v148 : Ref sig .tc := ⟨.hbm, 178, rfl⟩
abbrev main_v149 : Ref sig .tc := ⟨.hbm, 179, rfl⟩
abbrev main_cst_18 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_19 : Ref sig .tc := ⟨.hbm, 192, rfl⟩
abbrev main_v161 : Ref sig .tc := ⟨.hbm, 193, rfl⟩
abbrev main_v162 : Ref sig .tc := ⟨.hbm, 194, rfl⟩
abbrev main_cst_20 : Ref sig .tc := ⟨.hbm, 195, rfl⟩
abbrev main_v163 : Ref sig .tc := ⟨.hbm, 196, rfl⟩
abbrev main_v164 : Ref sig .tc := ⟨.hbm, 197, rfl⟩
abbrev main_cst_21 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩

abbrev nD : Nat := 1
abbrev τ : Topo := Topo.v7x

variable {F : FTy → Type} [FloatOps F]
-- ==== Proof.Names.lean ====
/-
  Canonical names of the attention call's rings. The call is a software pipeline over a 4 by 4 grid (batch `b`, head
  group `g`), walked by one loop of 16 trips: trip `k` works at `b = k / 4`, `g = k % 4`. Seven arrays move through
  two-slot buffers: the queries, the keys, the values (transposed), the decay features and a tile of the up weights come
  in; the attention's output block and the tile, rounded, go out. The loop carries a fetch and a use counter for each.
  Here: the carried counters in closed form at trip `k`, each offset chain at those counters in closed form (decided at
  the 16 trips), and the program's slices as slot `s` of a buffer, block `b` of an array, cell `s` of a semaphore pair.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The carried counters before trip `k` -/

/-- Fetches issued of a per-trip input. -/
def wf (k : ℕ) : BitVec 32 := BitVec.ofNat 32 (min (k + 1) 16)
/-- Uses of a per-trip input, and issues of a per-trip output. -/
def wk (k : ℕ) : BitVec 32 := BitVec.ofNat 32 k
/-- Waits of a per-trip output. -/
def wp' (k : ℕ) : BitVec 32 := BitVec.ofNat 32 (k - 1)
/-- Fetches issued of the decay features, fetched once a batch. -/
def wg (k : ℕ) : BitVec 32 := BitVec.ofNat 32 (min (k / 4 + 1) 4)
/-- Batches done. -/
def wb (k : ℕ) : BitVec 32 := BitVec.ofNat 32 (k / 4)
/-- The grid coordinates. -/
def wB (k : ℕ) : BitVec 32 := BitVec.ofNat 32 (k / 4 % 4)
def wG (k : ℕ) : BitVec 32 := BitVec.ofNat 32 (k % 4)

theorem trips16 : k0_t1_loop.trips = 16 := by decide +kernel

/-! ## Slots, blocks, cells -/

abbrev semOff (s : Fin 2) : Fin 1 → Nat := ![s.val]
theorem semOff_inb (s : Fin 2) : ∀ a, semOff s a + S1.size a ≤ S2.size a := by
  have := s.isLt; intro a; fin_cases a; show s.val + 1 ≤ 2; omega
abbrev so_S2x2x2048x128 (s : Fin 2) : Fin 4 → Nat := ![s.val, 0, 0, 0]
theorem so_S2x2x2048x128_inb (s : Fin 2) : ∀ a, so_S2x2x2048x128 s a + S1x2x2048x128.size a ≤ S2x2x2048x128.size a := by
  have := s.isLt; intro a; fin_cases a
  · show s.val + 1 ≤ 2; omega
  · show 0 + 2 ≤ 2; omega
  · show 0 + 2048 ≤ 2048; omega
  · show 0 + 128 ≤ 128; omega
instance (s : Fin 2) : ClosedOff (so_S2x2x2048x128 s) := ⟨so_S2x2x2048x128 s, rfl⟩
abbrev so_S2x256x2048 (s : Fin 2) : Fin 3 → Nat := ![s.val, 0, 0]
theorem so_S2x256x2048_inb (s : Fin 2) : ∀ a, so_S2x256x2048 s a + S1x256x2048.size a ≤ S2x256x2048.size a := by
  have := s.isLt; intro a; fin_cases a
  · show s.val + 1 ≤ 2; omega
  · show 0 + 256 ≤ 256; omega
  · show 0 + 2048 ≤ 2048; omega
instance (s : Fin 2) : ClosedOff (so_S2x256x2048 s) := ⟨so_S2x256x2048 s, rfl⟩
abbrev so_S2x2048x128 (s : Fin 2) : Fin 3 → Nat := ![s.val, 0, 0]
theorem so_S2x2048x128_inb (s : Fin 2) : ∀ a, so_S2x2048x128 s a + S1x2048x128.size a ≤ S2x2048x128.size a := by
  have := s.isLt; intro a; fin_cases a
  · show s.val + 1 ≤ 2; omega
  · show 0 + 2048 ≤ 2048; omega
  · show 0 + 128 ≤ 128; omega
instance (s : Fin 2) : ClosedOff (so_S2x2048x128 s) := ⟨so_S2x2048x128 s, rfl⟩
abbrev so_S2x1024x1024 (s : Fin 2) : Fin 3 → Nat := ![s.val, 0, 0]
theorem so_S2x1024x1024_inb (s : Fin 2) : ∀ a, so_S2x1024x1024 s a + S1x1024x1024.size a ≤ S2x1024x1024.size a := by
  have := s.isLt; intro a; fin_cases a
  · show s.val + 1 ≤ 2; omega
  · show 0 + 1024 ≤ 1024; omega
  · show 0 + 1024 ≤ 1024; omega
instance (s : Fin 2) : ClosedOff (so_S2x1024x1024 s) := ⟨so_S2x1024x1024 s, rfl⟩

/-! ### Ring Q -/

abbrev mQ : Memref sig .tc .vmem S2x2x2048x128 .bf16 := Memref.whole cc0_scoped0
abbrev aQ : Memref sig .tc .hbm S16x8192x128 .bf16 := Memref.whole main_arg0
abbrev boQ (b : Fin 16) : Fin 3 → Nat := ![2 * (b.val % 4), 2048 * (b.val / 4), 0]
theorem boQ_inb : ∀ (b : Fin 16) (a), boQ b a + S2x2048x128.size a ≤ S16x8192x128.size a := by decide +kernel
def rQ (s : Fin 2) : Memref sig .tc .vmem S2x2048x128 .bf16 :=
  (mQ.slice (Rect.unit (s := S2x2x2048x128) (so_S2x2x2048x128 s) S1x2x2048x128.size (so_S2x2x2048x128_inb s)) (fun _ => rfl)).squeeze S2x2048x128 squeezes_S1x2x2048x128_S2x2048x128
def gQ (b : Fin 16) : Memref sig .tc .hbm S2x2048x128 .bf16 :=
  aQ.slice (Rect.unit (s := S16x8192x128) (boQ b) S2x2048x128.size (boQ_inb b)) (fun _ => rfl)
def cQ (s : Fin 2) : DmaSems sig S_ := (cc0_scoped1.slice (Rect.unit (s := S2) (semOff s) S1.size (semOff_inb s))).squeeze S_ squeezes_S1_S_
theorem rQ_congr {off : Fin 4 → Nat} {s : Fin 2} (e : off = so_S2x2x2048x128 s) (hh h2) :
    (mQ.slice (Rect.unit (s := S2x2x2048x128) off S1x2x2048x128.size hh) h2).squeeze S2x2048x128 squeezes_S1x2x2048x128_S2x2048x128 = rQ s :=
  congrArg (fun M : Memref sig .tc .vmem S1x2x2048x128 .bf16 => M.squeeze S2x2048x128 squeezes_S1x2x2048x128_S2x2048x128) (Memref.slice_unit_congr _ e _ _ _ _)
theorem gQ_congr {off : Fin 3 → Nat} {b : Fin 16} (e : off = boQ b) (hh h2) :
    aQ.slice (Rect.unit (s := S16x8192x128) off S2x2048x128.size hh) h2 = gQ b :=
  Memref.slice_unit_congr _ e _ _ _ (fun _ => rfl)
theorem cQ_congr {off : Fin 1 → Nat} {s : Fin 2} (e : off = semOff s) (hh) :
    (cc0_scoped1.slice (Rect.unit (s := S2) off S1.size hh)).squeeze S_ squeezes_S1_S_ = cQ s :=
  congrArg (fun A : DmaSems sig S1 => A.squeeze S_ squeezes_S1_S_) (SemArray.slice_unit_congr _ e _ _)

/-! ### Ring K -/

abbrev mK : Memref sig .tc .vmem S2x2x2048x128 .bf16 := Memref.whole cc0_scoped2
abbrev aK : Memref sig .tc .hbm S16x8192x128 .bf16 := Memref.whole main_arg0
abbrev boK (b : Fin 16) : Fin 3 → Nat := ![8 + 2 * (b.val % 4), 2048 * (b.val / 4), 0]
theorem boK_inb : ∀ (b : Fin 16) (a), boK b a + S2x2048x128.size a ≤ S16x8192x128.size a := by decide +kernel
def rK (s : Fin 2) : Memref sig .tc .vmem S2x2048x128 .bf16 :=
  (mK.slice (Rect.unit (s := S2x2x2048x128) (so_S2x2x2048x128 s) S1x2x2048x128.size (so_S2x2x2048x128_inb s)) (fun _ => rfl)).squeeze S2x2048x128 squeezes_S1x2x2048x128_S2x2048x128
def gK (b : Fin 16) : Memref sig .tc .hbm S2x2048x128 .bf16 :=
  aK.slice (Rect.unit (s := S16x8192x128) (boK b) S2x2048x128.size (boK_inb b)) (fun _ => rfl)
def cK (s : Fin 2) : DmaSems sig S_ := (cc0_scoped3.slice (Rect.unit (s := S2) (semOff s) S1.size (semOff_inb s))).squeeze S_ squeezes_S1_S_
theorem rK_congr {off : Fin 4 → Nat} {s : Fin 2} (e : off = so_S2x2x2048x128 s) (hh h2) :
    (mK.slice (Rect.unit (s := S2x2x2048x128) off S1x2x2048x128.size hh) h2).squeeze S2x2048x128 squeezes_S1x2x2048x128_S2x2048x128 = rK s :=
  congrArg (fun M : Memref sig .tc .vmem S1x2x2048x128 .bf16 => M.squeeze S2x2048x128 squeezes_S1x2x2048x128_S2x2048x128) (Memref.slice_unit_congr _ e _ _ _ _)
theorem gK_congr {off : Fin 3 → Nat} {b : Fin 16} (e : off = boK b) (hh h2) :
    aK.slice (Rect.unit (s := S16x8192x128) off S2x2048x128.size hh) h2 = gK b :=
  Memref.slice_unit_congr _ e _ _ _ (fun _ => rfl)
theorem cK_congr {off : Fin 1 → Nat} {s : Fin 2} (e : off = semOff s) (hh) :
    (cc0_scoped3.slice (Rect.unit (s := S2) off S1.size hh)).squeeze S_ squeezes_S1_S_ = cK s :=
  congrArg (fun A : DmaSems sig S1 => A.squeeze S_ squeezes_S1_S_) (SemArray.slice_unit_congr _ e _ _)

/-! ### Ring V -/

abbrev mV : Memref sig .tc .vmem S2x256x2048 .bf16 := Memref.whole cc0_scoped4
abbrev aV : Memref sig .tc .hbm S1024x8192 .bf16 := Memref.whole main_arg1
abbrev boV (b : Fin 16) : Fin 2 → Nat := ![256 * (b.val % 4), 2048 * (b.val / 4)]
theorem boV_inb : ∀ (b : Fin 16) (a), boV b a + S256x2048.size a ≤ S1024x8192.size a := by decide +kernel
def rV (s : Fin 2) : Memref sig .tc .vmem S256x2048 .bf16 :=
  (mV.slice (Rect.unit (s := S2x256x2048) (so_S2x256x2048 s) S1x256x2048.size (so_S2x256x2048_inb s)) (fun _ => rfl)).squeeze S256x2048 squeezes_S1x256x2048_S256x2048
def gV (b : Fin 16) : Memref sig .tc .hbm S256x2048 .bf16 :=
  aV.slice (Rect.unit (s := S1024x8192) (boV b) S256x2048.size (boV_inb b)) (fun _ => rfl)
def cV (s : Fin 2) : DmaSems sig S_ := (cc0_scoped5.slice (Rect.unit (s := S2) (semOff s) S1.size (semOff_inb s))).squeeze S_ squeezes_S1_S_
theorem rV_congr {off : Fin 3 → Nat} {s : Fin 2} (e : off = so_S2x256x2048 s) (hh h2) :
    (mV.slice (Rect.unit (s := S2x256x2048) off S1x256x2048.size hh) h2).squeeze S256x2048 squeezes_S1x256x2048_S256x2048 = rV s :=
  congrArg (fun M : Memref sig .tc .vmem S1x256x2048 .bf16 => M.squeeze S256x2048 squeezes_S1x256x2048_S256x2048) (Memref.slice_unit_congr _ e _ _ _ _)
theorem gV_congr {off : Fin 2 → Nat} {b : Fin 16} (e : off = boV b) (hh h2) :
    aV.slice (Rect.unit (s := S1024x8192) off S256x2048.size hh) h2 = gV b :=
  Memref.slice_unit_congr _ e _ _ _ (fun _ => rfl)
theorem cV_congr {off : Fin 1 → Nat} {s : Fin 2} (e : off = semOff s) (hh) :
    (cc0_scoped5.slice (Rect.unit (s := S2) off S1.size hh)).squeeze S_ squeezes_S1_S_ = cV s :=
  congrArg (fun A : DmaSems sig S1 => A.squeeze S_ squeezes_S1_S_) (SemArray.slice_unit_congr _ e _ _)

/-! ### Ring A -/

abbrev mA : Memref sig .tc .vmem S2x2048x128 .bf16 := Memref.whole cc0_scoped6
abbrev aA : Memref sig .tc .hbm S8192x128 .bf16 := Memref.whole main_arg2
abbrev boA (b : Fin 4) : Fin 2 → Nat := ![2048 * b.val, 0]
theorem boA_inb : ∀ (b : Fin 4) (a), boA b a + S2048x128.size a ≤ S8192x128.size a := by decide +kernel
def rA (s : Fin 2) : Memref sig .tc .vmem S2048x128 .bf16 :=
  (mA.slice (Rect.unit (s := S2x2048x128) (so_S2x2048x128 s) S1x2048x128.size (so_S2x2048x128_inb s)) (fun _ => rfl)).squeeze S2048x128 squeezes_S1x2048x128_S2048x128
def gA (b : Fin 4) : Memref sig .tc .hbm S2048x128 .bf16 :=
  aA.slice (Rect.unit (s := S8192x128) (boA b) S2048x128.size (boA_inb b)) (fun _ => rfl)
def cA (s : Fin 2) : DmaSems sig S_ := (cc0_scoped7.slice (Rect.unit (s := S2) (semOff s) S1.size (semOff_inb s))).squeeze S_ squeezes_S1_S_
theorem rA_congr {off : Fin 3 → Nat} {s : Fin 2} (e : off = so_S2x2048x128 s) (hh h2) :
    (mA.slice (Rect.unit (s := S2x2048x128) off S1x2048x128.size hh) h2).squeeze S2048x128 squeezes_S1x2048x128_S2048x128 = rA s :=
  congrArg (fun M : Memref sig .tc .vmem S1x2048x128 .bf16 => M.squeeze S2048x128 squeezes_S1x2048x128_S2048x128) (Memref.slice_unit_congr _ e _ _ _ _)
theorem gA_congr {off : Fin 2 → Nat} {b : Fin 4} (e : off = boA b) (hh h2) :
    aA.slice (Rect.unit (s := S8192x128) off S2048x128.size hh) h2 = gA b :=
  Memref.slice_unit_congr _ e _ _ _ (fun _ => rfl)
theorem cA_congr {off : Fin 1 → Nat} {s : Fin 2} (e : off = semOff s) (hh) :
    (cc0_scoped7.slice (Rect.unit (s := S2) off S1.size hh)).squeeze S_ squeezes_S1_S_ = cA s :=
  congrArg (fun A : DmaSems sig S1 => A.squeeze S_ squeezes_S1_S_) (SemArray.slice_unit_congr _ e _ _)

/-! ### Ring W -/

abbrev mW : Memref sig .tc .vmem S2x1024x1024 .f32 := Memref.whole cc0_scoped8
abbrev aW : Memref sig .tc .hbm S2048x8192 .f32 := Memref.whole main_arg3
abbrev boW (b : Fin 16) : Fin 2 → Nat := ![1024 * (b.val % 2), 1024 * (b.val / 2)]
theorem boW_inb : ∀ (b : Fin 16) (a), boW b a + S1024x1024.size a ≤ S2048x8192.size a := by decide +kernel
def rW (s : Fin 2) : Memref sig .tc .vmem S1024x1024 .f32 :=
  (mW.slice (Rect.unit (s := S2x1024x1024) (so_S2x1024x1024 s) S1x1024x1024.size (so_S2x1024x1024_inb s)) (fun _ => rfl)).squeeze S1024x1024 squeezes_S1x1024x1024_S1024x1024
def gW (b : Fin 16) : Memref sig .tc .hbm S1024x1024 .f32 :=
  aW.slice (Rect.unit (s := S2048x8192) (boW b) S1024x1024.size (boW_inb b)) (fun _ => rfl)
def cW (s : Fin 2) : DmaSems sig S_ := (cc0_scoped9.slice (Rect.unit (s := S2) (semOff s) S1.size (semOff_inb s))).squeeze S_ squeezes_S1_S_
theorem rW_congr {off : Fin 3 → Nat} {s : Fin 2} (e : off = so_S2x1024x1024 s) (hh h2) :
    (mW.slice (Rect.unit (s := S2x1024x1024) off S1x1024x1024.size hh) h2).squeeze S1024x1024 squeezes_S1x1024x1024_S1024x1024 = rW s :=
  congrArg (fun M : Memref sig .tc .vmem S1x1024x1024 .f32 => M.squeeze S1024x1024 squeezes_S1x1024x1024_S1024x1024) (Memref.slice_unit_congr _ e _ _ _ _)
theorem gW_congr {off : Fin 2 → Nat} {b : Fin 16} (e : off = boW b) (hh h2) :
    aW.slice (Rect.unit (s := S2048x8192) off S1024x1024.size hh) h2 = gW b :=
  Memref.slice_unit_congr _ e _ _ _ (fun _ => rfl)
theorem cW_congr {off : Fin 1 → Nat} {s : Fin 2} (e : off = semOff s) (hh) :
    (cc0_scoped9.slice (Rect.unit (s := S2) off S1.size hh)).squeeze S_ squeezes_S1_S_ = cW s :=
  congrArg (fun A : DmaSems sig S1 => A.squeeze S_ squeezes_S1_S_) (SemArray.slice_unit_congr _ e _ _)

/-! ### Ring O -/

abbrev mO : Memref sig .tc .vmem S2x2x2048x128 .f32 := Memref.whole cc0_scoped10
abbrev aO : Memref sig .tc .hbm S8x8192x128 .f32 := Memref.whole main_v0_0
abbrev boO (b : Fin 16) : Fin 3 → Nat := ![2 * (b.val % 4), 2048 * (b.val / 4), 0]
theorem boO_inb : ∀ (b : Fin 16) (a), boO b a + S2x2048x128.size a ≤ S8x8192x128.size a := by decide +kernel
def rO (s : Fin 2) : Memref sig .tc .vmem S2x2048x128 .f32 :=
  (mO.slice (Rect.unit (s := S2x2x2048x128) (so_S2x2x2048x128 s) S1x2x2048x128.size (so_S2x2x2048x128_inb s)) (fun _ => rfl)).squeeze S2x2048x128 squeezes_S1x2x2048x128_S2x2048x128
def gO (b : Fin 16) : Memref sig .tc .hbm S2x2048x128 .f32 :=
  aO.slice (Rect.unit (s := S8x8192x128) (boO b) S2x2048x128.size (boO_inb b)) (fun _ => rfl)
def cO (s : Fin 2) : DmaSems sig S_ := (cc0_scoped11.slice (Rect.unit (s := S2) (semOff s) S1.size (semOff_inb s))).squeeze S_ squeezes_S1_S_
theorem rO_congr {off : Fin 4 → Nat} {s : Fin 2} (e : off = so_S2x2x2048x128 s) (hh h2) :
    (mO.slice (Rect.unit (s := S2x2x2048x128) off S1x2x2048x128.size hh) h2).squeeze S2x2048x128 squeezes_S1x2x2048x128_S2x2048x128 = rO s :=
  congrArg (fun M : Memref sig .tc .vmem S1x2x2048x128 .f32 => M.squeeze S2x2048x128 squeezes_S1x2x2048x128_S2x2048x128) (Memref.slice_unit_congr _ e _ _ _ _)
theorem gO_congr {off : Fin 3 → Nat} {b : Fin 16} (e : off = boO b) (hh h2) :
    aO.slice (Rect.unit (s := S8x8192x128) off S2x2048x128.size hh) h2 = gO b :=
  Memref.slice_unit_congr _ e _ _ _ (fun _ => rfl)
theorem cO_congr {off : Fin 1 → Nat} {s : Fin 2} (e : off = semOff s) (hh) :
    (cc0_scoped11.slice (Rect.unit (s := S2) off S1.size hh)).squeeze S_ squeezes_S1_S_ = cO s :=
  congrArg (fun A : DmaSems sig S1 => A.squeeze S_ squeezes_S1_S_) (SemArray.slice_unit_congr _ e _ _)

/-! ### Ring U -/

abbrev mU : Memref sig .tc .vmem S2x1024x1024 .bf16 := Memref.whole cc0_scoped12
abbrev aU : Memref sig .tc .hbm S8x2048x1024 .bf16 := Memref.whole main_v0_1
abbrev boU (b : Fin 16) : Fin 3 → Nat := ![b.val / 2, 1024 * (b.val % 2), 0]
theorem boU_inb : ∀ (b : Fin 16) (a), boU b a + S1x1024x1024.size a ≤ S8x2048x1024.size a := by decide +kernel
def rU (s : Fin 2) : Memref sig .tc .vmem S1024x1024 .bf16 :=
  (mU.slice (Rect.unit (s := S2x1024x1024) (so_S2x1024x1024 s) S1x1024x1024.size (so_S2x1024x1024_inb s)) (fun _ => rfl)).squeeze S1024x1024 squeezes_S1x1024x1024_S1024x1024
def gU (b : Fin 16) : Memref sig .tc .hbm S1024x1024 .bf16 :=
  (aU.slice (Rect.unit (s := S8x2048x1024) (boU b) S1x1024x1024.size (boU_inb b)) (fun _ => rfl)).squeeze S1024x1024 squeezes_S1x1024x1024_S1024x1024
def cU (s : Fin 2) : DmaSems sig S_ := (cc0_scoped13.slice (Rect.unit (s := S2) (semOff s) S1.size (semOff_inb s))).squeeze S_ squeezes_S1_S_
theorem rU_congr {off : Fin 3 → Nat} {s : Fin 2} (e : off = so_S2x1024x1024 s) (hh h2) :
    (mU.slice (Rect.unit (s := S2x1024x1024) off S1x1024x1024.size hh) h2).squeeze S1024x1024 squeezes_S1x1024x1024_S1024x1024 = rU s :=
  congrArg (fun M : Memref sig .tc .vmem S1x1024x1024 .bf16 => M.squeeze S1024x1024 squeezes_S1x1024x1024_S1024x1024) (Memref.slice_unit_congr _ e _ _ _ _)
theorem gU_congr {off : Fin 3 → Nat} {b : Fin 16} (e : off = boU b) (hh h2) :
    (aU.slice (Rect.unit (s := S8x2048x1024) off S1x1024x1024.size hh) h2).squeeze S1024x1024 squeezes_S1x1024x1024_S1024x1024 = gU b :=
  congrArg (fun M : Memref sig .tc .hbm S1x1024x1024 .bf16 => M.squeeze S1024x1024 squeezes_S1x1024x1024_S1024x1024) (Memref.slice_unit_congr _ e _ _ _ _)
theorem cU_congr {off : Fin 1 → Nat} {s : Fin 2} (e : off = semOff s) (hh) :
    (cc0_scoped13.slice (Rect.unit (s := S2) off S1.size hh)).squeeze S_ squeezes_S1_S_ = cU s :=
  congrArg (fun A : DmaSems sig S1 => A.squeeze S_ squeezes_S1_S_) (SemArray.slice_unit_congr _ e _ _)

/-! ## The offset chains at the carried counters, in closed form -/

theorem off6_all : ∀ i : Fin 15, k0_off6 (wf i.val) = semOff (Ring.sl 2 (i.val + 1)) := by decide +kernel
theorem off6_eq (k : ℕ) (h : k < 15) : k0_off6 (wf k) = semOff (Ring.sl 2 (k + 1)) := off6_all ⟨k, h⟩
theorem off7_all : ∀ i : Fin 15, k0_off7 (wf i.val) = so_S2x2x2048x128 (Ring.sl 2 (i.val + 1)) := by decide +kernel
theorem off7_eq (k : ℕ) (h : k < 15) : k0_off7 (wf k) = so_S2x2x2048x128 (Ring.sl 2 (k + 1)) := off7_all ⟨k, h⟩
theorem off8_all : ∀ i : Fin 15, k0_off8 (wB i.val) (wG i.val) = boQ (Ring.bk 16 (i.val + 1)) := by decide +kernel
theorem off8_eq (k : ℕ) (h : k < 15) : k0_off8 (wB k) (wG k) = boQ (Ring.bk 16 (k + 1)) := off8_all ⟨k, h⟩
theorem off9_all : ∀ i : Fin 15, k0_off9 (wf i.val) = semOff (Ring.sl 2 (i.val + 1)) := by decide +kernel
theorem off9_eq (k : ℕ) (h : k < 15) : k0_off9 (wf k) = semOff (Ring.sl 2 (k + 1)) := off9_all ⟨k, h⟩
theorem off10_all : ∀ i : Fin 15, k0_off10 (wf i.val) = so_S2x2x2048x128 (Ring.sl 2 (i.val + 1)) := by decide +kernel
theorem off10_eq (k : ℕ) (h : k < 15) : k0_off10 (wf k) = so_S2x2x2048x128 (Ring.sl 2 (k + 1)) := off10_all ⟨k, h⟩
theorem off11_all : ∀ i : Fin 15, k0_off11 (wB i.val) (wG i.val) = boK (Ring.bk 16 (i.val + 1)) := by decide +kernel
theorem off11_eq (k : ℕ) (h : k < 15) : k0_off11 (wB k) (wG k) = boK (Ring.bk 16 (k + 1)) := off11_all ⟨k, h⟩
theorem off12_all : ∀ i : Fin 15, k0_off12 (wf i.val) = semOff (Ring.sl 2 (i.val + 1)) := by decide +kernel
theorem off12_eq (k : ℕ) (h : k < 15) : k0_off12 (wf k) = semOff (Ring.sl 2 (k + 1)) := off12_all ⟨k, h⟩
theorem off13_all : ∀ i : Fin 15, k0_off13 (wf i.val) = so_S2x256x2048 (Ring.sl 2 (i.val + 1)) := by decide +kernel
theorem off13_eq (k : ℕ) (h : k < 15) : k0_off13 (wf k) = so_S2x256x2048 (Ring.sl 2 (k + 1)) := off13_all ⟨k, h⟩
theorem off14_all : ∀ i : Fin 15, k0_off14 (wB i.val) (wG i.val) = boV (Ring.bk 16 (i.val + 1)) := by decide +kernel
theorem off14_eq (k : ℕ) (h : k < 15) : k0_off14 (wB k) (wG k) = boV (Ring.bk 16 (k + 1)) := off14_all ⟨k, h⟩
theorem off15_all : ∀ i : Fin 12, k0_off15 (wg i.val) = semOff (Ring.sl 2 (i.val / 4 + 1)) := by decide +kernel
theorem off15_eq (k : ℕ) (h : k < 12) : k0_off15 (wg k) = semOff (Ring.sl 2 (k / 4 + 1)) := off15_all ⟨k, h⟩
theorem off16_all : ∀ i : Fin 12, k0_off16 (wg i.val) = so_S2x2048x128 (Ring.sl 2 (i.val / 4 + 1)) := by decide +kernel
theorem off16_eq (k : ℕ) (h : k < 12) : k0_off16 (wg k) = so_S2x2048x128 (Ring.sl 2 (k / 4 + 1)) := off16_all ⟨k, h⟩
theorem off17_all : ∀ i : Fin 16, i.val % 4 = 3 → i.val < 15 → k0_off17 (wB i.val) (wG i.val) = boA (Ring.bk 4 (i.val / 4 + 1)) := by decide +kernel
theorem off17_eq (k : ℕ) (h : k < 15) (h3 : k % 4 = 3) : k0_off17 (wB k) (wG k) = boA (Ring.bk 4 (k / 4 + 1)) := off17_all ⟨k, by omega⟩ h3 h
theorem off18_all : ∀ i : Fin 15, k0_off18 (wf i.val) = semOff (Ring.sl 2 (i.val + 1)) := by decide +kernel
theorem off18_eq (k : ℕ) (h : k < 15) : k0_off18 (wf k) = semOff (Ring.sl 2 (k + 1)) := off18_all ⟨k, h⟩
theorem off19_all : ∀ i : Fin 15, k0_off19 (wf i.val) = so_S2x1024x1024 (Ring.sl 2 (i.val + 1)) := by decide +kernel
theorem off19_eq (k : ℕ) (h : k < 15) : k0_off19 (wf k) = so_S2x1024x1024 (Ring.sl 2 (k + 1)) := off19_all ⟨k, h⟩
theorem off20_all : ∀ i : Fin 15, k0_off20 (wB i.val) (wG i.val) = boW (Ring.bk 16 (i.val + 1)) := by decide +kernel
theorem off20_eq (k : ℕ) (h : k < 15) : k0_off20 (wB k) (wG k) = boW (Ring.bk 16 (k + 1)) := off20_all ⟨k, h⟩
theorem off21_all : ∀ i : Fin 16, k0_off21 (wk i.val) = semOff (Ring.sl 2 (i.val)) := by decide +kernel
theorem off21_eq (k : ℕ) (h : k < 16) : k0_off21 (wk k) = semOff (Ring.sl 2 (k)) := off21_all ⟨k, h⟩
theorem off22_all : ∀ i : Fin 16, k0_off22 (wk i.val) = so_S2x2x2048x128 (Ring.sl 2 (i.val)) := by decide +kernel
theorem off22_eq (k : ℕ) (h : k < 16) : k0_off22 (wk k) = so_S2x2x2048x128 (Ring.sl 2 (k)) := off22_all ⟨k, h⟩
theorem off23_all : ∀ i : Fin 16, k0_off23 (wB i.val) (wG i.val) = boQ (Ring.bk 16 (i.val)) := by decide +kernel
theorem off23_eq (k : ℕ) (h : k < 16) : k0_off23 (wB k) (wG k) = boQ (Ring.bk 16 (k)) := off23_all ⟨k, h⟩
theorem off24_all : ∀ i : Fin 16, k0_off24 (wk i.val) = semOff (Ring.sl 2 (i.val)) := by decide +kernel
theorem off24_eq (k : ℕ) (h : k < 16) : k0_off24 (wk k) = semOff (Ring.sl 2 (k)) := off24_all ⟨k, h⟩
theorem off25_all : ∀ i : Fin 16, k0_off25 (wk i.val) = so_S2x2x2048x128 (Ring.sl 2 (i.val)) := by decide +kernel
theorem off25_eq (k : ℕ) (h : k < 16) : k0_off25 (wk k) = so_S2x2x2048x128 (Ring.sl 2 (k)) := off25_all ⟨k, h⟩
theorem off26_all : ∀ i : Fin 16, k0_off26 (wB i.val) (wG i.val) = boK (Ring.bk 16 (i.val)) := by decide +kernel
theorem off26_eq (k : ℕ) (h : k < 16) : k0_off26 (wB k) (wG k) = boK (Ring.bk 16 (k)) := off26_all ⟨k, h⟩
theorem off27_all : ∀ i : Fin 16, k0_off27 (wk i.val) = semOff (Ring.sl 2 (i.val)) := by decide +kernel
theorem off27_eq (k : ℕ) (h : k < 16) : k0_off27 (wk k) = semOff (Ring.sl 2 (k)) := off27_all ⟨k, h⟩
theorem off28_all : ∀ i : Fin 16, k0_off28 (wk i.val) = so_S2x256x2048 (Ring.sl 2 (i.val)) := by decide +kernel
theorem off28_eq (k : ℕ) (h : k < 16) : k0_off28 (wk k) = so_S2x256x2048 (Ring.sl 2 (k)) := off28_all ⟨k, h⟩
theorem off29_all : ∀ i : Fin 16, k0_off29 (wB i.val) (wG i.val) = boV (Ring.bk 16 (i.val)) := by decide +kernel
theorem off29_eq (k : ℕ) (h : k < 16) : k0_off29 (wB k) (wG k) = boV (Ring.bk 16 (k)) := off29_all ⟨k, h⟩
theorem off30_all : ∀ i : Fin 16, k0_off30 (wb i.val) = semOff (Ring.sl 2 (i.val / 4)) := by decide +kernel
theorem off30_eq (k : ℕ) (h : k < 16) : k0_off30 (wb k) = semOff (Ring.sl 2 (k / 4)) := off30_all ⟨k, h⟩
theorem off31_all : ∀ i : Fin 16, k0_off31 (wb i.val) = so_S2x2048x128 (Ring.sl 2 (i.val / 4)) := by decide +kernel
theorem off31_eq (k : ℕ) (h : k < 16) : k0_off31 (wb k) = so_S2x2048x128 (Ring.sl 2 (k / 4)) := off31_all ⟨k, h⟩
theorem off32_all : ∀ i : Fin 16, k0_off32 (wB i.val) = boA (Ring.bk 4 (i.val / 4)) := by decide +kernel
theorem off32_eq (k : ℕ) (h : k < 16) : k0_off32 (wB k) = boA (Ring.bk 4 (k / 4)) := off32_all ⟨k, h⟩
theorem off33_all : ∀ i : Fin 16, k0_off33 (wk i.val) = semOff (Ring.sl 2 (i.val)) := by decide +kernel
theorem off33_eq (k : ℕ) (h : k < 16) : k0_off33 (wk k) = semOff (Ring.sl 2 (k)) := off33_all ⟨k, h⟩
theorem off34_all : ∀ i : Fin 16, k0_off34 (wk i.val) = so_S2x1024x1024 (Ring.sl 2 (i.val)) := by decide +kernel
theorem off34_eq (k : ℕ) (h : k < 16) : k0_off34 (wk k) = so_S2x1024x1024 (Ring.sl 2 (k)) := off34_all ⟨k, h⟩
theorem off35_all : ∀ i : Fin 16, k0_off35 (wB i.val) (wG i.val) = boW (Ring.bk 16 (i.val)) := by decide +kernel
theorem off35_eq (k : ℕ) (h : k < 16) : k0_off35 (wB k) (wG k) = boW (Ring.bk 16 (k)) := off35_all ⟨k, h⟩
theorem off36_all : ∀ i : Fin 16, k0_off36 (wk i.val) = so_S2x1024x1024 (Ring.sl 2 (i.val)) := by decide +kernel
theorem off36_eq (k : ℕ) (h : k < 16) : k0_off36 (wk k) = so_S2x1024x1024 (Ring.sl 2 (k)) := off36_all ⟨k, h⟩
theorem off37_all : ∀ i : Fin 16, k0_off37 (wk i.val) = so_S2x1024x1024 (Ring.sl 2 (i.val)) := by decide +kernel
theorem off37_eq (k : ℕ) (h : k < 16) : k0_off37 (wk k) = so_S2x1024x1024 (Ring.sl 2 (k)) := off37_all ⟨k, h⟩
theorem off38_all : ∀ i : Fin 16, k0_off38 (wk i.val) = so_S2x2x2048x128 (Ring.sl 2 (i.val)) := by decide +kernel
theorem off38_eq (k : ℕ) (h : k < 16) : k0_off38 (wk k) = so_S2x2x2048x128 (Ring.sl 2 (k)) := off38_all ⟨k, h⟩
theorem off39_all : ∀ i : Fin 16, k0_off39 (wb i.val) = so_S2x2048x128 (Ring.sl 2 (i.val / 4)) := by decide +kernel
theorem off39_eq (k : ℕ) (h : k < 16) : k0_off39 (wb k) = so_S2x2048x128 (Ring.sl 2 (k / 4)) := off39_all ⟨k, h⟩
theorem off40_all : ∀ i : Fin 16, k0_off40 (wk i.val) = so_S2x2x2048x128 (Ring.sl 2 (i.val)) := by decide +kernel
theorem off40_eq (k : ℕ) (h : k < 16) : k0_off40 (wk k) = so_S2x2x2048x128 (Ring.sl 2 (k)) := off40_all ⟨k, h⟩
theorem off41_all : ∀ i : Fin 16, k0_off41 (wk i.val) = so_S2x256x2048 (Ring.sl 2 (i.val)) := by decide +kernel
theorem off41_eq (k : ℕ) (h : k < 16) : k0_off41 (wk k) = so_S2x256x2048 (Ring.sl 2 (k)) := off41_all ⟨k, h⟩
theorem off42_all : ∀ i : Fin 16, k0_off42 (wk i.val) = so_S2x2x2048x128 (Ring.sl 2 (i.val)) := by decide +kernel
theorem off42_eq (k : ℕ) (h : k < 16) : k0_off42 (wk k) = so_S2x2x2048x128 (Ring.sl 2 (k)) := off42_all ⟨k, h⟩
theorem off43_all : ∀ i : Fin 16, k0_off43 (wk i.val) = so_S2x256x2048 (Ring.sl 2 (i.val)) := by decide +kernel
theorem off43_eq (k : ℕ) (h : k < 16) : k0_off43 (wk k) = so_S2x256x2048 (Ring.sl 2 (k)) := off43_all ⟨k, h⟩
theorem off44_all : ∀ i : Fin 16, k0_off44 (wk i.val) = semOff (Ring.sl 2 (i.val)) := by decide +kernel
theorem off44_eq (k : ℕ) (h : k < 16) : k0_off44 (wk k) = semOff (Ring.sl 2 (k)) := off44_all ⟨k, h⟩
theorem off45_all : ∀ i : Fin 16, k0_off45 (wB i.val) (wG i.val) = boO (Ring.bk 16 (i.val)) := by decide +kernel
theorem off45_eq (k : ℕ) (h : k < 16) : k0_off45 (wB k) (wG k) = boO (Ring.bk 16 (k)) := off45_all ⟨k, h⟩
theorem off46_all : ∀ i : Fin 16, k0_off46 (wk i.val) = so_S2x2x2048x128 (Ring.sl 2 (i.val)) := by decide +kernel
theorem off46_eq (k : ℕ) (h : k < 16) : k0_off46 (wk k) = so_S2x2x2048x128 (Ring.sl 2 (k)) := off46_all ⟨k, h⟩
theorem off47_all : ∀ i : Fin 16, k0_off47 (wk i.val) = semOff (Ring.sl 2 (i.val)) := by decide +kernel
theorem off47_eq (k : ℕ) (h : k < 16) : k0_off47 (wk k) = semOff (Ring.sl 2 (k)) := off47_all ⟨k, h⟩
theorem off48_all : ∀ i : Fin 16, k0_off48 (wB i.val) (wG i.val) = boU (Ring.bk 16 (i.val)) := by decide +kernel
theorem off48_eq (k : ℕ) (h : k < 16) : k0_off48 (wB k) (wG k) = boU (Ring.bk 16 (k)) := off48_all ⟨k, h⟩
theorem off49_all : ∀ i : Fin 16, k0_off49 (wk i.val) = so_S2x1024x1024 (Ring.sl 2 (i.val)) := by decide +kernel
theorem off49_eq (k : ℕ) (h : k < 16) : k0_off49 (wk k) = so_S2x1024x1024 (Ring.sl 2 (k)) := off49_all ⟨k, h⟩
theorem off50_all : ∀ i : Fin 16, 1 ≤ i.val → k0_off50 (wp' i.val) = semOff (Ring.sl 2 (i.val - 1)) := by decide +kernel
theorem off50_eq (k : ℕ) (h : k < 16) (h1 : 1 ≤ k) : k0_off50 (wp' k) = semOff (Ring.sl 2 (k - 1)) := off50_all ⟨k, h⟩ h1
theorem off51_all : ∀ i : Fin 16, 1 ≤ i.val → k0_off51 (wB i.val) (wG i.val) = boO (Ring.bk 16 (i.val - 1)) := by decide +kernel
theorem off51_eq (k : ℕ) (h : k < 16) (h1 : 1 ≤ k) : k0_off51 (wB k) (wG k) = boO (Ring.bk 16 (k - 1)) := off51_all ⟨k, h⟩ h1
theorem off52_all : ∀ i : Fin 16, 1 ≤ i.val → k0_off52 (wp' i.val) = so_S2x2x2048x128 (Ring.sl 2 (i.val - 1)) := by decide +kernel
theorem off52_eq (k : ℕ) (h : k < 16) (h1 : 1 ≤ k) : k0_off52 (wp' k) = so_S2x2x2048x128 (Ring.sl 2 (k - 1)) := off52_all ⟨k, h⟩ h1
theorem off53_all : ∀ i : Fin 16, 1 ≤ i.val → k0_off53 (wp' i.val) = semOff (Ring.sl 2 (i.val - 1)) := by decide +kernel
theorem off53_eq (k : ℕ) (h : k < 16) (h1 : 1 ≤ k) : k0_off53 (wp' k) = semOff (Ring.sl 2 (k - 1)) := off53_all ⟨k, h⟩ h1
theorem off54_all : ∀ i : Fin 16, 1 ≤ i.val → k0_off54 (wB i.val) (wG i.val) = boU (Ring.bk 16 (i.val - 1)) := by decide +kernel
theorem off54_eq (k : ℕ) (h : k < 16) (h1 : 1 ≤ k) : k0_off54 (wB k) (wG k) = boU (Ring.bk 16 (k - 1)) := off54_all ⟨k, h⟩ h1
theorem off55_all : ∀ i : Fin 16, 1 ≤ i.val → k0_off55 (wp' i.val) = so_S2x1024x1024 (Ring.sl 2 (i.val - 1)) := by decide +kernel
theorem off55_eq (k : ℕ) (h : k < 16) (h1 : 1 ≤ k) : k0_off55 (wp' k) = so_S2x1024x1024 (Ring.sl 2 (k - 1)) := off55_all ⟨k, h⟩ h1
theorem off56_eq : k0_off56 (wp' 16) = semOff (Ring.sl 2 (15)) := by decide +kernel
theorem off57_eq : k0_off57 (wG 16) (wB 16) = boO (Ring.bk 16 (15)) := by decide +kernel
theorem off58_eq : k0_off58 (wp' 16) = so_S2x2x2048x128 (Ring.sl 2 (15)) := by decide +kernel
theorem off59_eq : k0_off59 (wp' 16) = semOff (Ring.sl 2 (15)) := by decide +kernel
theorem off60_eq : k0_off60 (wG 16) (wB 16) = boU (Ring.bk 16 (15)) := by decide +kernel
theorem off61_eq : k0_off61 (wp' 16) = so_S2x1024x1024 (Ring.sl 2 (15)) := by decide +kernel

/-! ## The conditions and the checks at the carried counters -/

theorem cond1_pos : ∀ k : Fin k0_t1_loop.trips, k.val < 15 → k0_cond1 k (wB k) (wG k) = 1#1 := by decide +kernel
theorem cond1_neg : ∀ k : Fin k0_t1_loop.trips, k.val = 15 → ¬ (k0_cond1 k (wB k) (wG k) = 1#1) := by decide +kernel
theorem cond2_pos : ∀ k : Fin k0_t1_loop.trips, k.val < 15 → k0_cond2 k (wB k) (wG k) = 1#1 := by decide +kernel
theorem cond2_neg : ∀ k : Fin k0_t1_loop.trips, k.val = 15 → ¬ (k0_cond2 k (wB k) (wG k) = 1#1) := by decide +kernel
theorem cond3_pos : ∀ k : Fin k0_t1_loop.trips, k.val < 15 → k0_cond3 k (wB k) (wG k) = 1#1 := by decide +kernel
theorem cond3_neg : ∀ k : Fin k0_t1_loop.trips, k.val = 15 → ¬ (k0_cond3 k (wB k) (wG k) = 1#1) := by decide +kernel
theorem cond5_pos : ∀ k : Fin k0_t1_loop.trips, k.val < 15 → k0_cond5 k (wB k) (wG k) = 1#1 := by decide +kernel
theorem cond5_neg : ∀ k : Fin k0_t1_loop.trips, k.val = 15 → ¬ (k0_cond5 k (wB k) (wG k) = 1#1) := by decide +kernel
theorem cond4_pos : ∀ k : Fin k0_t1_loop.trips, k.val % 4 = 3 ∧ k.val < 15 → k0_cond4 k (wB k) (wG k) = 1#1 := by decide +kernel
theorem cond4_neg : ∀ k : Fin k0_t1_loop.trips, ¬ (k.val % 4 = 3 ∧ k.val < 15) → ¬ (k0_cond4 k (wB k) (wG k) = 1#1) := by decide +kernel
theorem cond6_pos : ∀ k : Fin k0_t1_loop.trips, True → k0_cond6 k (wB k) (wG k) = 1#1 := by decide +kernel
theorem cond7_pos : ∀ k : Fin k0_t1_loop.trips, True → k0_cond7 k (wB k) (wG k) = 1#1 := by decide +kernel
theorem cond8_pos : ∀ k : Fin k0_t1_loop.trips, True → k0_cond8 k (wB k) (wG k) = 1#1 := by decide +kernel
theorem cond10_pos : ∀ k : Fin k0_t1_loop.trips, True → k0_cond10 k (wB k) (wG k) = 1#1 := by decide +kernel
theorem cond9_pos : ∀ k : Fin k0_t1_loop.trips, k.val % 4 = 0 → k0_cond9 k (wB k) (wG k) = 1#1 := by decide +kernel
theorem cond9_neg : ∀ k : Fin k0_t1_loop.trips, k.val % 4 ≠ 0 → ¬ (k0_cond9 k (wB k) (wG k) = 1#1) := by decide +kernel
theorem cond18_pos : ∀ k : Fin k0_t1_loop.trips, True → k0_cond18 k (wB k) (wG k) = 1#1 := by decide +kernel
theorem cond19_pos : ∀ k : Fin k0_t1_loop.trips, True → k0_cond19 k (wB k) (wG k) = 1#1 := by decide +kernel
theorem cond25_pos : ∀ k : Fin k0_t1_loop.trips, 1 ≤ k.val → k0_cond25 k (wB k) (wG k) = 1#1 := by decide +kernel
theorem cond25_neg : ∀ k : Fin k0_t1_loop.trips, k.val = 0 → ¬ (k0_cond25 k (wB k) (wG k) = 1#1) := by decide +kernel
theorem cond26_pos : ∀ k : Fin k0_t1_loop.trips, 1 ≤ k.val → k0_cond26 k (wB k) (wG k) = 1#1 := by decide +kernel
theorem cond26_neg : ∀ k : Fin k0_t1_loop.trips, k.val = 0 → ¬ (k0_cond26 k (wB k) (wG k) = 1#1) := by decide +kernel
theorem chk1_ok : ∀ k : Fin k0_t1_loop.trips, k0_chk1 k (wf k) (wk k) (wf k) (wk k) (wf k) (wk k) (wg k) (wb k) (wf k) (wk k) (wk k) (wp' k) (wk k) (wp' k) (wB k) (wG k) := by decide +kernel
theorem chk2_ok : ∀ k : Fin k0_t1_loop.trips, k0_chk2 (wk k) := by decide +kernel
theorem chk3_ok : ∀ k : Fin k0_t1_loop.trips, k0_chk3 (wk k) := by decide +kernel
theorem chk4_ok : ∀ k : Fin k0_t1_loop.trips, k0_chk4 (wk k) := by decide +kernel
theorem chk6_ok : ∀ k : Fin k0_t1_loop.trips, k0_chk6 (wk k) := by decide +kernel
theorem chk7_ok : ∀ k : Fin k0_t1_loop.trips, k0_chk7 (wk k) := by decide +kernel
theorem chk8_ok : ∀ k : Fin k0_t1_loop.trips, k0_chk8 (wk k) := by decide +kernel
theorem chk5_ok : ∀ k : Fin k0_t1_loop.trips, k0_chk5 (wb k) := by decide +kernel
theorem chk9_ok : k0_chk9 (wp' 16) := by decide +kernel
theorem chk11_ok : k0_chk11 (wp' 16) := by decide +kernel
theorem chk10_ok : k0_chk10 (wG 16) (wB 16) := by decide +kernel

/-! ## The canonical-name equations -/

@[sl_canon] theorem can6 (k : ℕ) (h : k < 15) (hh) :
    (cc0_scoped1.slice (Rect.unit (s := S2) (k0_off6 (wf k)) S1.size hh)).squeeze S_ squeezes_S1_S_ = cQ (Ring.sl 2 (k + 1)) := cQ_congr (off6_eq k h) _
@[sl_canon] theorem can6n (k : ℕ) (h : k < 15) (hh) :
    (cc0_scoped1.slice (Rect.unit (s := S2) (k0_off6 (wf k)) ![1] hh)).squeeze S_ squeezes_S1_S_ = cQ (Ring.sl 2 (k + 1)) := cQ_congr (off6_eq k h) _
@[sl_canon] theorem can7 (k : ℕ) (h : k < 15) (hh h2) :
    (mQ.slice (Rect.unit (s := S2x2x2048x128) (k0_off7 (wf k)) S1x2x2048x128.size hh) h2).squeeze S2x2048x128 squeezes_S1x2x2048x128_S2x2048x128 = rQ (Ring.sl 2 (k + 1)) := rQ_congr (off7_eq k h) _ _
@[sl_canon] theorem can7n (k : ℕ) (h : k < 15) (hh h2) :
    (mQ.slice (Rect.unit (s := S2x2x2048x128) (k0_off7 (wf k)) ![1, 2, 2048, 128] hh) h2).squeeze S2x2048x128 squeezes_S1x2x2048x128_S2x2048x128 = rQ (Ring.sl 2 (k + 1)) := rQ_congr (off7_eq k h) _ _
@[sl_canon] theorem can8 (k : ℕ) (h : k < 15) (hh h2) :
    aQ.slice (Rect.unit (s := S16x8192x128) (k0_off8 (wB k) (wG k)) S2x2048x128.size hh) h2 = gQ (Ring.bk 16 (k + 1)) := gQ_congr (off8_eq k h) _ _
@[sl_canon] theorem can8n (k : ℕ) (h : k < 15) (hh h2) :
    aQ.slice (Rect.unit (s := S16x8192x128) (k0_off8 (wB k) (wG k)) ![2, 2048, 128] hh) h2 = gQ (Ring.bk 16 (k + 1)) := gQ_congr (off8_eq k h) _ _
@[sl_canon] theorem can9 (k : ℕ) (h : k < 15) (hh) :
    (cc0_scoped3.slice (Rect.unit (s := S2) (k0_off9 (wf k)) S1.size hh)).squeeze S_ squeezes_S1_S_ = cK (Ring.sl 2 (k + 1)) := cK_congr (off9_eq k h) _
@[sl_canon] theorem can9n (k : ℕ) (h : k < 15) (hh) :
    (cc0_scoped3.slice (Rect.unit (s := S2) (k0_off9 (wf k)) ![1] hh)).squeeze S_ squeezes_S1_S_ = cK (Ring.sl 2 (k + 1)) := cK_congr (off9_eq k h) _
@[sl_canon] theorem can10 (k : ℕ) (h : k < 15) (hh h2) :
    (mK.slice (Rect.unit (s := S2x2x2048x128) (k0_off10 (wf k)) S1x2x2048x128.size hh) h2).squeeze S2x2048x128 squeezes_S1x2x2048x128_S2x2048x128 = rK (Ring.sl 2 (k + 1)) := rK_congr (off10_eq k h) _ _
@[sl_canon] theorem can10n (k : ℕ) (h : k < 15) (hh h2) :
    (mK.slice (Rect.unit (s := S2x2x2048x128) (k0_off10 (wf k)) ![1, 2, 2048, 128] hh) h2).squeeze S2x2048x128 squeezes_S1x2x2048x128_S2x2048x128 = rK (Ring.sl 2 (k + 1)) := rK_congr (off10_eq k h) _ _
@[sl_canon] theorem can11 (k : ℕ) (h : k < 15) (hh h2) :
    aK.slice (Rect.unit (s := S16x8192x128) (k0_off11 (wB k) (wG k)) S2x2048x128.size hh) h2 = gK (Ring.bk 16 (k + 1)) := gK_congr (off11_eq k h) _ _
@[sl_canon] theorem can11n (k : ℕ) (h : k < 15) (hh h2) :
    aK.slice (Rect.unit (s := S16x8192x128) (k0_off11 (wB k) (wG k)) ![2, 2048, 128] hh) h2 = gK (Ring.bk 16 (k + 1)) := gK_congr (off11_eq k h) _ _
@[sl_canon] theorem can12 (k : ℕ) (h : k < 15) (hh) :
    (cc0_scoped5.slice (Rect.unit (s := S2) (k0_off12 (wf k)) S1.size hh)).squeeze S_ squeezes_S1_S_ = cV (Ring.sl 2 (k + 1)) := cV_congr (off12_eq k h) _
@[sl_canon] theorem can12n (k : ℕ) (h : k < 15) (hh) :
    (cc0_scoped5.slice (Rect.unit (s := S2) (k0_off12 (wf k)) ![1] hh)).squeeze S_ squeezes_S1_S_ = cV (Ring.sl 2 (k + 1)) := cV_congr (off12_eq k h) _
@[sl_canon] theorem can13 (k : ℕ) (h : k < 15) (hh h2) :
    (mV.slice (Rect.unit (s := S2x256x2048) (k0_off13 (wf k)) S1x256x2048.size hh) h2).squeeze S256x2048 squeezes_S1x256x2048_S256x2048 = rV (Ring.sl 2 (k + 1)) := rV_congr (off13_eq k h) _ _
@[sl_canon] theorem can13n (k : ℕ) (h : k < 15) (hh h2) :
    (mV.slice (Rect.unit (s := S2x256x2048) (k0_off13 (wf k)) ![1, 256, 2048] hh) h2).squeeze S256x2048 squeezes_S1x256x2048_S256x2048 = rV (Ring.sl 2 (k + 1)) := rV_congr (off13_eq k h) _ _
@[sl_canon] theorem can14 (k : ℕ) (h : k < 15) (hh h2) :
    aV.slice (Rect.unit (s := S1024x8192) (k0_off14 (wB k) (wG k)) S256x2048.size hh) h2 = gV (Ring.bk 16 (k + 1)) := gV_congr (off14_eq k h) _ _
@[sl_canon] theorem can14n (k : ℕ) (h : k < 15) (hh h2) :
    aV.slice (Rect.unit (s := S1024x8192) (k0_off14 (wB k) (wG k)) ![256, 2048] hh) h2 = gV (Ring.bk 16 (k + 1)) := gV_congr (off14_eq k h) _ _
@[sl_canon] theorem can15 (k : ℕ) (h : k < 12) (hh) :
    (cc0_scoped7.slice (Rect.unit (s := S2) (k0_off15 (wg k)) S1.size hh)).squeeze S_ squeezes_S1_S_ = cA (Ring.sl 2 (k / 4 + 1)) := cA_congr (off15_eq k h) _
@[sl_canon] theorem can15n (k : ℕ) (h : k < 12) (hh) :
    (cc0_scoped7.slice (Rect.unit (s := S2) (k0_off15 (wg k)) ![1] hh)).squeeze S_ squeezes_S1_S_ = cA (Ring.sl 2 (k / 4 + 1)) := cA_congr (off15_eq k h) _
@[sl_canon] theorem can16 (k : ℕ) (h : k < 12) (hh h2) :
    (mA.slice (Rect.unit (s := S2x2048x128) (k0_off16 (wg k)) S1x2048x128.size hh) h2).squeeze S2048x128 squeezes_S1x2048x128_S2048x128 = rA (Ring.sl 2 (k / 4 + 1)) := rA_congr (off16_eq k h) _ _
@[sl_canon] theorem can16n (k : ℕ) (h : k < 12) (hh h2) :
    (mA.slice (Rect.unit (s := S2x2048x128) (k0_off16 (wg k)) ![1, 2048, 128] hh) h2).squeeze S2048x128 squeezes_S1x2048x128_S2048x128 = rA (Ring.sl 2 (k / 4 + 1)) := rA_congr (off16_eq k h) _ _
@[sl_canon] theorem can17 (k : ℕ) (h : k < 15) (h3 : k % 4 = 3) (hh h2) :
    aA.slice (Rect.unit (s := S8192x128) (k0_off17 (wB k) (wG k)) S2048x128.size hh) h2 = gA (Ring.bk 4 (k / 4 + 1)) := gA_congr (off17_eq k h h3) _ _
@[sl_canon] theorem can17n (k : ℕ) (h : k < 15) (h3 : k % 4 = 3) (hh h2) :
    aA.slice (Rect.unit (s := S8192x128) (k0_off17 (wB k) (wG k)) ![2048, 128] hh) h2 = gA (Ring.bk 4 (k / 4 + 1)) := gA_congr (off17_eq k h h3) _ _
@[sl_canon] theorem can18 (k : ℕ) (h : k < 15) (hh) :
    (cc0_scoped9.slice (Rect.unit (s := S2) (k0_off18 (wf k)) S1.size hh)).squeeze S_ squeezes_S1_S_ = cW (Ring.sl 2 (k + 1)) := cW_congr (off18_eq k h) _
@[sl_canon] theorem can18n (k : ℕ) (h : k < 15) (hh) :
    (cc0_scoped9.slice (Rect.unit (s := S2) (k0_off18 (wf k)) ![1] hh)).squeeze S_ squeezes_S1_S_ = cW (Ring.sl 2 (k + 1)) := cW_congr (off18_eq k h) _
@[sl_canon] theorem can19 (k : ℕ) (h : k < 15) (hh h2) :
    (mW.slice (Rect.unit (s := S2x1024x1024) (k0_off19 (wf k)) S1x1024x1024.size hh) h2).squeeze S1024x1024 squeezes_S1x1024x1024_S1024x1024 = rW (Ring.sl 2 (k + 1)) := rW_congr (off19_eq k h) _ _
@[sl_canon] theorem can19n (k : ℕ) (h : k < 15) (hh h2) :
    (mW.slice (Rect.unit (s := S2x1024x1024) (k0_off19 (wf k)) ![1, 1024, 1024] hh) h2).squeeze S1024x1024 squeezes_S1x1024x1024_S1024x1024 = rW (Ring.sl 2 (k + 1)) := rW_congr (off19_eq k h) _ _
@[sl_canon] theorem can20 (k : ℕ) (h : k < 15) (hh h2) :
    aW.slice (Rect.unit (s := S2048x8192) (k0_off20 (wB k) (wG k)) S1024x1024.size hh) h2 = gW (Ring.bk 16 (k + 1)) := gW_congr (off20_eq k h) _ _
@[sl_canon] theorem can20n (k : ℕ) (h : k < 15) (hh h2) :
    aW.slice (Rect.unit (s := S2048x8192) (k0_off20 (wB k) (wG k)) ![1024, 1024] hh) h2 = gW (Ring.bk 16 (k + 1)) := gW_congr (off20_eq k h) _ _
@[sl_canon] theorem can21 (k : ℕ) (h : k < 16) (hh) :
    (cc0_scoped1.slice (Rect.unit (s := S2) (k0_off21 (wk k)) S1.size hh)).squeeze S_ squeezes_S1_S_ = cQ (Ring.sl 2 (k)) := cQ_congr (off21_eq k h) _
@[sl_canon] theorem can21n (k : ℕ) (h : k < 16) (hh) :
    (cc0_scoped1.slice (Rect.unit (s := S2) (k0_off21 (wk k)) ![1] hh)).squeeze S_ squeezes_S1_S_ = cQ (Ring.sl 2 (k)) := cQ_congr (off21_eq k h) _
@[sl_canon] theorem can22 (k : ℕ) (h : k < 16) (hh h2) :
    (mQ.slice (Rect.unit (s := S2x2x2048x128) (k0_off22 (wk k)) S1x2x2048x128.size hh) h2).squeeze S2x2048x128 squeezes_S1x2x2048x128_S2x2048x128 = rQ (Ring.sl 2 (k)) := rQ_congr (off22_eq k h) _ _
@[sl_canon] theorem can22n (k : ℕ) (h : k < 16) (hh h2) :
    (mQ.slice (Rect.unit (s := S2x2x2048x128) (k0_off22 (wk k)) ![1, 2, 2048, 128] hh) h2).squeeze S2x2048x128 squeezes_S1x2x2048x128_S2x2048x128 = rQ (Ring.sl 2 (k)) := rQ_congr (off22_eq k h) _ _
@[sl_canon] theorem can23 (k : ℕ) (h : k < 16) (hh h2) :
    aQ.slice (Rect.unit (s := S16x8192x128) (k0_off23 (wB k) (wG k)) S2x2048x128.size hh) h2 = gQ (Ring.bk 16 (k)) := gQ_congr (off23_eq k h) _ _
@[sl_canon] theorem can23n (k : ℕ) (h : k < 16) (hh h2) :
    aQ.slice (Rect.unit (s := S16x8192x128) (k0_off23 (wB k) (wG k)) ![2, 2048, 128] hh) h2 = gQ (Ring.bk 16 (k)) := gQ_congr (off23_eq k h) _ _
@[sl_canon] theorem can24 (k : ℕ) (h : k < 16) (hh) :
    (cc0_scoped3.slice (Rect.unit (s := S2) (k0_off24 (wk k)) S1.size hh)).squeeze S_ squeezes_S1_S_ = cK (Ring.sl 2 (k)) := cK_congr (off24_eq k h) _
@[sl_canon] theorem can24n (k : ℕ) (h : k < 16) (hh) :
    (cc0_scoped3.slice (Rect.unit (s := S2) (k0_off24 (wk k)) ![1] hh)).squeeze S_ squeezes_S1_S_ = cK (Ring.sl 2 (k)) := cK_congr (off24_eq k h) _
@[sl_canon] theorem can25 (k : ℕ) (h : k < 16) (hh h2) :
    (mK.slice (Rect.unit (s := S2x2x2048x128) (k0_off25 (wk k)) S1x2x2048x128.size hh) h2).squeeze S2x2048x128 squeezes_S1x2x2048x128_S2x2048x128 = rK (Ring.sl 2 (k)) := rK_congr (off25_eq k h) _ _
@[sl_canon] theorem can25n (k : ℕ) (h : k < 16) (hh h2) :
    (mK.slice (Rect.unit (s := S2x2x2048x128) (k0_off25 (wk k)) ![1, 2, 2048, 128] hh) h2).squeeze S2x2048x128 squeezes_S1x2x2048x128_S2x2048x128 = rK (Ring.sl 2 (k)) := rK_congr (off25_eq k h) _ _
@[sl_canon] theorem can26 (k : ℕ) (h : k < 16) (hh h2) :
    aK.slice (Rect.unit (s := S16x8192x128) (k0_off26 (wB k) (wG k)) S2x2048x128.size hh) h2 = gK (Ring.bk 16 (k)) := gK_congr (off26_eq k h) _ _
@[sl_canon] theorem can26n (k : ℕ) (h : k < 16) (hh h2) :
    aK.slice (Rect.unit (s := S16x8192x128) (k0_off26 (wB k) (wG k)) ![2, 2048, 128] hh) h2 = gK (Ring.bk 16 (k)) := gK_congr (off26_eq k h) _ _
@[sl_canon] theorem can27 (k : ℕ) (h : k < 16) (hh) :
    (cc0_scoped5.slice (Rect.unit (s := S2) (k0_off27 (wk k)) S1.size hh)).squeeze S_ squeezes_S1_S_ = cV (Ring.sl 2 (k)) := cV_congr (off27_eq k h) _
@[sl_canon] theorem can27n (k : ℕ) (h : k < 16) (hh) :
    (cc0_scoped5.slice (Rect.unit (s := S2) (k0_off27 (wk k)) ![1] hh)).squeeze S_ squeezes_S1_S_ = cV (Ring.sl 2 (k)) := cV_congr (off27_eq k h) _
@[sl_canon] theorem can28 (k : ℕ) (h : k < 16) (hh h2) :
    (mV.slice (Rect.unit (s := S2x256x2048) (k0_off28 (wk k)) S1x256x2048.size hh) h2).squeeze S256x2048 squeezes_S1x256x2048_S256x2048 = rV (Ring.sl 2 (k)) := rV_congr (off28_eq k h) _ _
@[sl_canon] theorem can28n (k : ℕ) (h : k < 16) (hh h2) :
    (mV.slice (Rect.unit (s := S2x256x2048) (k0_off28 (wk k)) ![1, 256, 2048] hh) h2).squeeze S256x2048 squeezes_S1x256x2048_S256x2048 = rV (Ring.sl 2 (k)) := rV_congr (off28_eq k h) _ _
@[sl_canon] theorem can29 (k : ℕ) (h : k < 16) (hh h2) :
    aV.slice (Rect.unit (s := S1024x8192) (k0_off29 (wB k) (wG k)) S256x2048.size hh) h2 = gV (Ring.bk 16 (k)) := gV_congr (off29_eq k h) _ _
@[sl_canon] theorem can29n (k : ℕ) (h : k < 16) (hh h2) :
    aV.slice (Rect.unit (s := S1024x8192) (k0_off29 (wB k) (wG k)) ![256, 2048] hh) h2 = gV (Ring.bk 16 (k)) := gV_congr (off29_eq k h) _ _
@[sl_canon] theorem can30 (k : ℕ) (h : k < 16) (hh) :
    (cc0_scoped7.slice (Rect.unit (s := S2) (k0_off30 (wb k)) S1.size hh)).squeeze S_ squeezes_S1_S_ = cA (Ring.sl 2 (k / 4)) := cA_congr (off30_eq k h) _
@[sl_canon] theorem can30n (k : ℕ) (h : k < 16) (hh) :
    (cc0_scoped7.slice (Rect.unit (s := S2) (k0_off30 (wb k)) ![1] hh)).squeeze S_ squeezes_S1_S_ = cA (Ring.sl 2 (k / 4)) := cA_congr (off30_eq k h) _
@[sl_canon] theorem can31 (k : ℕ) (h : k < 16) (hh h2) :
    (mA.slice (Rect.unit (s := S2x2048x128) (k0_off31 (wb k)) S1x2048x128.size hh) h2).squeeze S2048x128 squeezes_S1x2048x128_S2048x128 = rA (Ring.sl 2 (k / 4)) := rA_congr (off31_eq k h) _ _
@[sl_canon] theorem can31n (k : ℕ) (h : k < 16) (hh h2) :
    (mA.slice (Rect.unit (s := S2x2048x128) (k0_off31 (wb k)) ![1, 2048, 128] hh) h2).squeeze S2048x128 squeezes_S1x2048x128_S2048x128 = rA (Ring.sl 2 (k / 4)) := rA_congr (off31_eq k h) _ _
@[sl_canon] theorem can32 (k : ℕ) (h : k < 16) (hh h2) :
    aA.slice (Rect.unit (s := S8192x128) (k0_off32 (wB k)) S2048x128.size hh) h2 = gA (Ring.bk 4 (k / 4)) := gA_congr (off32_eq k h) _ _
@[sl_canon] theorem can32n (k : ℕ) (h : k < 16) (hh h2) :
    aA.slice (Rect.unit (s := S8192x128) (k0_off32 (wB k)) ![2048, 128] hh) h2 = gA (Ring.bk 4 (k / 4)) := gA_congr (off32_eq k h) _ _
@[sl_canon] theorem can33 (k : ℕ) (h : k < 16) (hh) :
    (cc0_scoped9.slice (Rect.unit (s := S2) (k0_off33 (wk k)) S1.size hh)).squeeze S_ squeezes_S1_S_ = cW (Ring.sl 2 (k)) := cW_congr (off33_eq k h) _
@[sl_canon] theorem can33n (k : ℕ) (h : k < 16) (hh) :
    (cc0_scoped9.slice (Rect.unit (s := S2) (k0_off33 (wk k)) ![1] hh)).squeeze S_ squeezes_S1_S_ = cW (Ring.sl 2 (k)) := cW_congr (off33_eq k h) _
@[sl_canon] theorem can34 (k : ℕ) (h : k < 16) (hh h2) :
    (mW.slice (Rect.unit (s := S2x1024x1024) (k0_off34 (wk k)) S1x1024x1024.size hh) h2).squeeze S1024x1024 squeezes_S1x1024x1024_S1024x1024 = rW (Ring.sl 2 (k)) := rW_congr (off34_eq k h) _ _
@[sl_canon] theorem can34n (k : ℕ) (h : k < 16) (hh h2) :
    (mW.slice (Rect.unit (s := S2x1024x1024) (k0_off34 (wk k)) ![1, 1024, 1024] hh) h2).squeeze S1024x1024 squeezes_S1x1024x1024_S1024x1024 = rW (Ring.sl 2 (k)) := rW_congr (off34_eq k h) _ _
@[sl_canon] theorem can35 (k : ℕ) (h : k < 16) (hh h2) :
    aW.slice (Rect.unit (s := S2048x8192) (k0_off35 (wB k) (wG k)) S1024x1024.size hh) h2 = gW (Ring.bk 16 (k)) := gW_congr (off35_eq k h) _ _
@[sl_canon] theorem can35n (k : ℕ) (h : k < 16) (hh h2) :
    aW.slice (Rect.unit (s := S2048x8192) (k0_off35 (wB k) (wG k)) ![1024, 1024] hh) h2 = gW (Ring.bk 16 (k)) := gW_congr (off35_eq k h) _ _
instance (k : Fin k0_t1_loop.trips) : ClosedOff (k0_off36 (wk k.val)) := ⟨so_S2x1024x1024 (Ring.sl 2 (k.val)), off36_eq k.val (Nat.lt_of_lt_of_eq k.isLt trips16)⟩
instance (k : Fin k0_t1_loop.trips) : ClosedOff (k0_off37 (wk k.val)) := ⟨so_S2x1024x1024 (Ring.sl 2 (k.val)), off37_eq k.val (Nat.lt_of_lt_of_eq k.isLt trips16)⟩
@[sl_canon] theorem can38 (k : ℕ) (h : k < 16) (hh h2) :
    (mK.slice (Rect.unit (s := S2x2x2048x128) (k0_off38 (wk k)) S1x2x2048x128.size hh) h2).squeeze S2x2048x128 squeezes_S1x2x2048x128_S2x2048x128 = rK (Ring.sl 2 (k)) := rK_congr (off38_eq k h) _ _
@[sl_canon] theorem can38n (k : ℕ) (h : k < 16) (hh h2) :
    (mK.slice (Rect.unit (s := S2x2x2048x128) (k0_off38 (wk k)) ![1, 2, 2048, 128] hh) h2).squeeze S2x2048x128 squeezes_S1x2x2048x128_S2x2048x128 = rK (Ring.sl 2 (k)) := rK_congr (off38_eq k h) _ _
instance (k : Fin k0_t1_loop.trips) : ClosedOff (k0_off39 (wb k.val)) := ⟨so_S2x2048x128 (Ring.sl 2 (k.val / 4)), off39_eq k.val (Nat.lt_of_lt_of_eq k.isLt trips16)⟩
@[sl_canon] theorem can40 (k : ℕ) (h : k < 16) (hh h2) :
    (mQ.slice (Rect.unit (s := S2x2x2048x128) (k0_off40 (wk k)) S1x2x2048x128.size hh) h2).squeeze S2x2048x128 squeezes_S1x2x2048x128_S2x2048x128 = rQ (Ring.sl 2 (k)) := rQ_congr (off40_eq k h) _ _
@[sl_canon] theorem can40n (k : ℕ) (h : k < 16) (hh h2) :
    (mQ.slice (Rect.unit (s := S2x2x2048x128) (k0_off40 (wk k)) ![1, 2, 2048, 128] hh) h2).squeeze S2x2048x128 squeezes_S1x2x2048x128_S2x2048x128 = rQ (Ring.sl 2 (k)) := rQ_congr (off40_eq k h) _ _
@[sl_canon] theorem can41 (k : ℕ) (h : k < 16) (hh h2) :
    (mV.slice (Rect.unit (s := S2x256x2048) (k0_off41 (wk k)) S1x256x2048.size hh) h2).squeeze S256x2048 squeezes_S1x256x2048_S256x2048 = rV (Ring.sl 2 (k)) := rV_congr (off41_eq k h) _ _
@[sl_canon] theorem can41n (k : ℕ) (h : k < 16) (hh h2) :
    (mV.slice (Rect.unit (s := S2x256x2048) (k0_off41 (wk k)) ![1, 256, 2048] hh) h2).squeeze S256x2048 squeezes_S1x256x2048_S256x2048 = rV (Ring.sl 2 (k)) := rV_congr (off41_eq k h) _ _
@[sl_canon] theorem can42 (k : ℕ) (h : k < 16) (hh h2) :
    (mO.slice (Rect.unit (s := S2x2x2048x128) (k0_off42 (wk k)) S1x2x2048x128.size hh) h2).squeeze S2x2048x128 squeezes_S1x2x2048x128_S2x2048x128 = rO (Ring.sl 2 (k)) := rO_congr (off42_eq k h) _ _
@[sl_canon] theorem can42n (k : ℕ) (h : k < 16) (hh h2) :
    (mO.slice (Rect.unit (s := S2x2x2048x128) (k0_off42 (wk k)) ![1, 2, 2048, 128] hh) h2).squeeze S2x2048x128 squeezes_S1x2x2048x128_S2x2048x128 = rO (Ring.sl 2 (k)) := rO_congr (off42_eq k h) _ _
@[sl_canon] theorem can43 (k : ℕ) (h : k < 16) (hh h2) :
    (mV.slice (Rect.unit (s := S2x256x2048) (k0_off43 (wk k)) S1x256x2048.size hh) h2).squeeze S256x2048 squeezes_S1x256x2048_S256x2048 = rV (Ring.sl 2 (k)) := rV_congr (off43_eq k h) _ _
@[sl_canon] theorem can43n (k : ℕ) (h : k < 16) (hh h2) :
    (mV.slice (Rect.unit (s := S2x256x2048) (k0_off43 (wk k)) ![1, 256, 2048] hh) h2).squeeze S256x2048 squeezes_S1x256x2048_S256x2048 = rV (Ring.sl 2 (k)) := rV_congr (off43_eq k h) _ _
@[sl_canon] theorem can44 (k : ℕ) (h : k < 16) (hh) :
    (cc0_scoped11.slice (Rect.unit (s := S2) (k0_off44 (wk k)) S1.size hh)).squeeze S_ squeezes_S1_S_ = cO (Ring.sl 2 (k)) := cO_congr (off44_eq k h) _
@[sl_canon] theorem can44n (k : ℕ) (h : k < 16) (hh) :
    (cc0_scoped11.slice (Rect.unit (s := S2) (k0_off44 (wk k)) ![1] hh)).squeeze S_ squeezes_S1_S_ = cO (Ring.sl 2 (k)) := cO_congr (off44_eq k h) _
@[sl_canon] theorem can45 (k : ℕ) (h : k < 16) (hh h2) :
    aO.slice (Rect.unit (s := S8x8192x128) (k0_off45 (wB k) (wG k)) S2x2048x128.size hh) h2 = gO (Ring.bk 16 (k)) := gO_congr (off45_eq k h) _ _
@[sl_canon] theorem can45n (k : ℕ) (h : k < 16) (hh h2) :
    aO.slice (Rect.unit (s := S8x8192x128) (k0_off45 (wB k) (wG k)) ![2, 2048, 128] hh) h2 = gO (Ring.bk 16 (k)) := gO_congr (off45_eq k h) _ _
@[sl_canon] theorem can46 (k : ℕ) (h : k < 16) (hh h2) :
    (mO.slice (Rect.unit (s := S2x2x2048x128) (k0_off46 (wk k)) S1x2x2048x128.size hh) h2).squeeze S2x2048x128 squeezes_S1x2x2048x128_S2x2048x128 = rO (Ring.sl 2 (k)) := rO_congr (off46_eq k h) _ _
@[sl_canon] theorem can46n (k : ℕ) (h : k < 16) (hh h2) :
    (mO.slice (Rect.unit (s := S2x2x2048x128) (k0_off46 (wk k)) ![1, 2, 2048, 128] hh) h2).squeeze S2x2048x128 squeezes_S1x2x2048x128_S2x2048x128 = rO (Ring.sl 2 (k)) := rO_congr (off46_eq k h) _ _
@[sl_canon] theorem can47 (k : ℕ) (h : k < 16) (hh) :
    (cc0_scoped13.slice (Rect.unit (s := S2) (k0_off47 (wk k)) S1.size hh)).squeeze S_ squeezes_S1_S_ = cU (Ring.sl 2 (k)) := cU_congr (off47_eq k h) _
@[sl_canon] theorem can47n (k : ℕ) (h : k < 16) (hh) :
    (cc0_scoped13.slice (Rect.unit (s := S2) (k0_off47 (wk k)) ![1] hh)).squeeze S_ squeezes_S1_S_ = cU (Ring.sl 2 (k)) := cU_congr (off47_eq k h) _
@[sl_canon] theorem can48 (k : ℕ) (h : k < 16) (hh h2) :
    (aU.slice (Rect.unit (s := S8x2048x1024) (k0_off48 (wB k) (wG k)) S1x1024x1024.size hh) h2).squeeze S1024x1024 squeezes_S1x1024x1024_S1024x1024 = gU (Ring.bk 16 (k)) := gU_congr (off48_eq k h) _ _
@[sl_canon] theorem can48n (k : ℕ) (h : k < 16) (hh h2) :
    (aU.slice (Rect.unit (s := S8x2048x1024) (k0_off48 (wB k) (wG k)) ![1, 1024, 1024] hh) h2).squeeze S1024x1024 squeezes_S1x1024x1024_S1024x1024 = gU (Ring.bk 16 (k)) := gU_congr (off48_eq k h) _ _
@[sl_canon] theorem can49 (k : ℕ) (h : k < 16) (hh h2) :
    (mU.slice (Rect.unit (s := S2x1024x1024) (k0_off49 (wk k)) S1x1024x1024.size hh) h2).squeeze S1024x1024 squeezes_S1x1024x1024_S1024x1024 = rU (Ring.sl 2 (k)) := rU_congr (off49_eq k h) _ _
@[sl_canon] theorem can49n (k : ℕ) (h : k < 16) (hh h2) :
    (mU.slice (Rect.unit (s := S2x1024x1024) (k0_off49 (wk k)) ![1, 1024, 1024] hh) h2).squeeze S1024x1024 squeezes_S1x1024x1024_S1024x1024 = rU (Ring.sl 2 (k)) := rU_congr (off49_eq k h) _ _
@[sl_canon] theorem can50 (k : ℕ) (h : k < 16) (h1 : 1 ≤ k) (hh) :
    (cc0_scoped11.slice (Rect.unit (s := S2) (k0_off50 (wp' k)) S1.size hh)).squeeze S_ squeezes_S1_S_ = cO (Ring.sl 2 (k - 1)) := cO_congr (off50_eq k h h1) _
@[sl_canon] theorem can50n (k : ℕ) (h : k < 16) (h1 : 1 ≤ k) (hh) :
    (cc0_scoped11.slice (Rect.unit (s := S2) (k0_off50 (wp' k)) ![1] hh)).squeeze S_ squeezes_S1_S_ = cO (Ring.sl 2 (k - 1)) := cO_congr (off50_eq k h h1) _
@[sl_canon] theorem can51 (k : ℕ) (h : k < 16) (h1 : 1 ≤ k) (hh h2) :
    aO.slice (Rect.unit (s := S8x8192x128) (k0_off51 (wB k) (wG k)) S2x2048x128.size hh) h2 = gO (Ring.bk 16 (k - 1)) := gO_congr (off51_eq k h h1) _ _
@[sl_canon] theorem can51n (k : ℕ) (h : k < 16) (h1 : 1 ≤ k) (hh h2) :
    aO.slice (Rect.unit (s := S8x8192x128) (k0_off51 (wB k) (wG k)) ![2, 2048, 128] hh) h2 = gO (Ring.bk 16 (k - 1)) := gO_congr (off51_eq k h h1) _ _
@[sl_canon] theorem can52 (k : ℕ) (h : k < 16) (h1 : 1 ≤ k) (hh h2) :
    (mO.slice (Rect.unit (s := S2x2x2048x128) (k0_off52 (wp' k)) S1x2x2048x128.size hh) h2).squeeze S2x2048x128 squeezes_S1x2x2048x128_S2x2048x128 = rO (Ring.sl 2 (k - 1)) := rO_congr (off52_eq k h h1) _ _
@[sl_canon] theorem can52n (k : ℕ) (h : k < 16) (h1 : 1 ≤ k) (hh h2) :
    (mO.slice (Rect.unit (s := S2x2x2048x128) (k0_off52 (wp' k)) ![1, 2, 2048, 128] hh) h2).squeeze S2x2048x128 squeezes_S1x2x2048x128_S2x2048x128 = rO (Ring.sl 2 (k - 1)) := rO_congr (off52_eq k h h1) _ _
@[sl_canon] theorem can53 (k : ℕ) (h : k < 16) (h1 : 1 ≤ k) (hh) :
    (cc0_scoped13.slice (Rect.unit (s := S2) (k0_off53 (wp' k)) S1.size hh)).squeeze S_ squeezes_S1_S_ = cU (Ring.sl 2 (k - 1)) := cU_congr (off53_eq k h h1) _
@[sl_canon] theorem can53n (k : ℕ) (h : k < 16) (h1 : 1 ≤ k) (hh) :
    (cc0_scoped13.slice (Rect.unit (s := S2) (k0_off53 (wp' k)) ![1] hh)).squeeze S_ squeezes_S1_S_ = cU (Ring.sl 2 (k - 1)) := cU_congr (off53_eq k h h1) _
@[sl_canon] theorem can54 (k : ℕ) (h : k < 16) (h1 : 1 ≤ k) (hh h2) :
    (aU.slice (Rect.unit (s := S8x2048x1024) (k0_off54 (wB k) (wG k)) S1x1024x1024.size hh) h2).squeeze S1024x1024 squeezes_S1x1024x1024_S1024x1024 = gU (Ring.bk 16 (k - 1)) := gU_congr (off54_eq k h h1) _ _
@[sl_canon] theorem can54n (k : ℕ) (h : k < 16) (h1 : 1 ≤ k) (hh h2) :
    (aU.slice (Rect.unit (s := S8x2048x1024) (k0_off54 (wB k) (wG k)) ![1, 1024, 1024] hh) h2).squeeze S1024x1024 squeezes_S1x1024x1024_S1024x1024 = gU (Ring.bk 16 (k - 1)) := gU_congr (off54_eq k h h1) _ _
@[sl_canon] theorem can55 (k : ℕ) (h : k < 16) (h1 : 1 ≤ k) (hh h2) :
    (mU.slice (Rect.unit (s := S2x1024x1024) (k0_off55 (wp' k)) S1x1024x1024.size hh) h2).squeeze S1024x1024 squeezes_S1x1024x1024_S1024x1024 = rU (Ring.sl 2 (k - 1)) := rU_congr (off55_eq k h h1) _ _
@[sl_canon] theorem can55n (k : ℕ) (h : k < 16) (h1 : 1 ≤ k) (hh h2) :
    (mU.slice (Rect.unit (s := S2x1024x1024) (k0_off55 (wp' k)) ![1, 1024, 1024] hh) h2).squeeze S1024x1024 squeezes_S1x1024x1024_S1024x1024 = rU (Ring.sl 2 (k - 1)) := rU_congr (off55_eq k h h1) _ _
@[sl_canon] theorem can56 (hh) :
    (cc0_scoped11.slice (Rect.unit (s := S2) (k0_off56 (wp' 16)) S1.size hh)).squeeze S_ squeezes_S1_S_ = cO (Ring.sl 2 (15)) := cO_congr (off56_eq) _
@[sl_canon] theorem can56n (hh) :
    (cc0_scoped11.slice (Rect.unit (s := S2) (k0_off56 (wp' 16)) ![1] hh)).squeeze S_ squeezes_S1_S_ = cO (Ring.sl 2 (15)) := cO_congr (off56_eq) _
@[sl_canon] theorem can57 (hh h2) :
    aO.slice (Rect.unit (s := S8x8192x128) (k0_off57 (wG 16) (wB 16)) S2x2048x128.size hh) h2 = gO (Ring.bk 16 (15)) := gO_congr (off57_eq) _ _
@[sl_canon] theorem can57n (hh h2) :
    aO.slice (Rect.unit (s := S8x8192x128) (k0_off57 (wG 16) (wB 16)) ![2, 2048, 128] hh) h2 = gO (Ring.bk 16 (15)) := gO_congr (off57_eq) _ _
@[sl_canon] theorem can58 (hh h2) :
    (mO.slice (Rect.unit (s := S2x2x2048x128) (k0_off58 (wp' 16)) S1x2x2048x128.size hh) h2).squeeze S2x2048x128 squeezes_S1x2x2048x128_S2x2048x128 = rO (Ring.sl 2 (15)) := rO_congr (off58_eq) _ _
@[sl_canon] theorem can58n (hh h2) :
    (mO.slice (Rect.unit (s := S2x2x2048x128) (k0_off58 (wp' 16)) ![1, 2, 2048, 128] hh) h2).squeeze S2x2048x128 squeezes_S1x2x2048x128_S2x2048x128 = rO (Ring.sl 2 (15)) := rO_congr (off58_eq) _ _
@[sl_canon] theorem can59 (hh) :
    (cc0_scoped13.slice (Rect.unit (s := S2) (k0_off59 (wp' 16)) S1.size hh)).squeeze S_ squeezes_S1_S_ = cU (Ring.sl 2 (15)) := cU_congr (off59_eq) _
@[sl_canon] theorem can59n (hh) :
    (cc0_scoped13.slice (Rect.unit (s := S2) (k0_off59 (wp' 16)) ![1] hh)).squeeze S_ squeezes_S1_S_ = cU (Ring.sl 2 (15)) := cU_congr (off59_eq) _
@[sl_canon] theorem can60 (hh h2) :
    (aU.slice (Rect.unit (s := S8x2048x1024) (k0_off60 (wG 16) (wB 16)) S1x1024x1024.size hh) h2).squeeze S1024x1024 squeezes_S1x1024x1024_S1024x1024 = gU (Ring.bk 16 (15)) := gU_congr (off60_eq) _ _
@[sl_canon] theorem can60n (hh h2) :
    (aU.slice (Rect.unit (s := S8x2048x1024) (k0_off60 (wG 16) (wB 16)) ![1, 1024, 1024] hh) h2).squeeze S1024x1024 squeezes_S1x1024x1024_S1024x1024 = gU (Ring.bk 16 (15)) := gU_congr (off60_eq) _ _
@[sl_canon] theorem can61 (hh h2) :
    (mU.slice (Rect.unit (s := S2x1024x1024) (k0_off61 (wp' 16)) S1x1024x1024.size hh) h2).squeeze S1024x1024 squeezes_S1x1024x1024_S1024x1024 = rU (Ring.sl 2 (15)) := rU_congr (off61_eq) _ _
@[sl_canon] theorem can61n (hh h2) :
    (mU.slice (Rect.unit (s := S2x1024x1024) (k0_off61 (wp' 16)) ![1, 1024, 1024] hh) h2).squeeze S1024x1024 squeezes_S1x1024x1024_S1024x1024 = rU (Ring.sl 2 (15)) := rU_congr (off61_eq) _ _
/-! The first blocks, at literal offsets. -/

@[sl_canon] theorem canSQ (hh) : (cc0_scoped1.slice (Rect.unit (s := S2) k0_off1 S1.size hh)).squeeze S_ squeezes_S1_S_ = cQ 0 := cQ_congr (by decide) _
@[sl_canon] theorem canSQn (hh) : (cc0_scoped1.slice (Rect.unit (s := S2) k0_off1 ![1] hh)).squeeze S_ squeezes_S1_S_ = cQ 0 := cQ_congr (by decide) _
@[sl_canon] theorem canRQ (hh h2) : (mQ.slice (Rect.unit (s := S2x2x2048x128) k0_off2 S1x2x2048x128.size hh) h2).squeeze S2x2048x128 squeezes_S1x2x2048x128_S2x2048x128 = rQ 0 := rQ_congr (by decide) _ _
@[sl_canon] theorem canRQn (hh h2) : (mQ.slice (Rect.unit (s := S2x2x2048x128) k0_off2 ![1, 2, 2048, 128] hh) h2).squeeze S2x2048x128 squeezes_S1x2x2048x128_S2x2048x128 = rQ 0 := rQ_congr (by decide) _ _
@[sl_canon] theorem canGQ (hh h2) : aQ.slice (Rect.unit (s := S16x8192x128) ![0, 0, 0] S2x2048x128.size hh) h2 = gQ 0 := gQ_congr (by decide) _ _
@[sl_canon] theorem canGQn (hh h2) : aQ.slice (Rect.unit (s := S16x8192x128) ![0, 0, 0] ![2, 2048, 128] hh) h2 = gQ 0 := gQ_congr (by decide) _ _
@[sl_canon] theorem canSK (hh) : (cc0_scoped3.slice (Rect.unit (s := S2) k0_off1 S1.size hh)).squeeze S_ squeezes_S1_S_ = cK 0 := cK_congr (by decide) _
@[sl_canon] theorem canSKn (hh) : (cc0_scoped3.slice (Rect.unit (s := S2) k0_off1 ![1] hh)).squeeze S_ squeezes_S1_S_ = cK 0 := cK_congr (by decide) _
@[sl_canon] theorem canRK (hh h2) : (mK.slice (Rect.unit (s := S2x2x2048x128) k0_off2 S1x2x2048x128.size hh) h2).squeeze S2x2048x128 squeezes_S1x2x2048x128_S2x2048x128 = rK 0 := rK_congr (by decide) _ _
@[sl_canon] theorem canRKn (hh h2) : (mK.slice (Rect.unit (s := S2x2x2048x128) k0_off2 ![1, 2, 2048, 128] hh) h2).squeeze S2x2048x128 squeezes_S1x2x2048x128_S2x2048x128 = rK 0 := rK_congr (by decide) _ _
@[sl_canon] theorem canGK (hh h2) : aK.slice (Rect.unit (s := S16x8192x128) ![8, 0, 0] S2x2048x128.size hh) h2 = gK 0 := gK_congr (by decide) _ _
@[sl_canon] theorem canGKn (hh h2) : aK.slice (Rect.unit (s := S16x8192x128) ![8, 0, 0] ![2, 2048, 128] hh) h2 = gK 0 := gK_congr (by decide) _ _
@[sl_canon] theorem canSV (hh) : (cc0_scoped5.slice (Rect.unit (s := S2) k0_off1 S1.size hh)).squeeze S_ squeezes_S1_S_ = cV 0 := cV_congr (by decide) _
@[sl_canon] theorem canSVn (hh) : (cc0_scoped5.slice (Rect.unit (s := S2) k0_off1 ![1] hh)).squeeze S_ squeezes_S1_S_ = cV 0 := cV_congr (by decide) _
@[sl_canon] theorem canRV (hh h2) : (mV.slice (Rect.unit (s := S2x256x2048) k0_off3 S1x256x2048.size hh) h2).squeeze S256x2048 squeezes_S1x256x2048_S256x2048 = rV 0 := rV_congr (by decide) _ _
@[sl_canon] theorem canRVn (hh h2) : (mV.slice (Rect.unit (s := S2x256x2048) k0_off3 ![1, 256, 2048] hh) h2).squeeze S256x2048 squeezes_S1x256x2048_S256x2048 = rV 0 := rV_congr (by decide) _ _
@[sl_canon] theorem canGV (hh h2) : aV.slice (Rect.unit (s := S1024x8192) ![0, 0] S256x2048.size hh) h2 = gV 0 := gV_congr (by decide) _ _
@[sl_canon] theorem canGVn (hh h2) : aV.slice (Rect.unit (s := S1024x8192) ![0, 0] ![256, 2048] hh) h2 = gV 0 := gV_congr (by decide) _ _
@[sl_canon] theorem canSA (hh) : (cc0_scoped7.slice (Rect.unit (s := S2) k0_off1 S1.size hh)).squeeze S_ squeezes_S1_S_ = cA 0 := cA_congr (by decide) _
@[sl_canon] theorem canSAn (hh) : (cc0_scoped7.slice (Rect.unit (s := S2) k0_off1 ![1] hh)).squeeze S_ squeezes_S1_S_ = cA 0 := cA_congr (by decide) _
@[sl_canon] theorem canRA (hh h2) : (mA.slice (Rect.unit (s := S2x2048x128) k0_off4 S1x2048x128.size hh) h2).squeeze S2048x128 squeezes_S1x2048x128_S2048x128 = rA 0 := rA_congr (by decide) _ _
@[sl_canon] theorem canRAn (hh h2) : (mA.slice (Rect.unit (s := S2x2048x128) k0_off4 ![1, 2048, 128] hh) h2).squeeze S2048x128 squeezes_S1x2048x128_S2048x128 = rA 0 := rA_congr (by decide) _ _
@[sl_canon] theorem canGA (hh h2) : aA.slice (Rect.unit (s := S8192x128) ![0, 0] S2048x128.size hh) h2 = gA 0 := gA_congr (by decide) _ _
@[sl_canon] theorem canGAn (hh h2) : aA.slice (Rect.unit (s := S8192x128) ![0, 0] ![2048, 128] hh) h2 = gA 0 := gA_congr (by decide) _ _
@[sl_canon] theorem canSW (hh) : (cc0_scoped9.slice (Rect.unit (s := S2) k0_off1 S1.size hh)).squeeze S_ squeezes_S1_S_ = cW 0 := cW_congr (by decide) _
@[sl_canon] theorem canSWn (hh) : (cc0_scoped9.slice (Rect.unit (s := S2) k0_off1 ![1] hh)).squeeze S_ squeezes_S1_S_ = cW 0 := cW_congr (by decide) _
@[sl_canon] theorem canRW (hh h2) : (mW.slice (Rect.unit (s := S2x1024x1024) k0_off5 S1x1024x1024.size hh) h2).squeeze S1024x1024 squeezes_S1x1024x1024_S1024x1024 = rW 0 := rW_congr (by decide) _ _
@[sl_canon] theorem canRWn (hh h2) : (mW.slice (Rect.unit (s := S2x1024x1024) k0_off5 ![1, 1024, 1024] hh) h2).squeeze S1024x1024 squeezes_S1x1024x1024_S1024x1024 = rW 0 := rW_congr (by decide) _ _
@[sl_canon] theorem canGW (hh h2) : aW.slice (Rect.unit (s := S2048x8192) ![0, 0] S1024x1024.size hh) h2 = gW 0 := gW_congr (by decide) _ _
@[sl_canon] theorem canGWn (hh h2) : aW.slice (Rect.unit (s := S2048x8192) ![0, 0] ![1024, 1024] hh) h2 = gW 0 := gW_congr (by decide) _ _

end Cert.Proof.Attn

end
-- ==== Proof.Mid.lean ====
/-
  The work of one trip between its waits and its issues, as one program (`midProg`), and its run: from the five input
  slots, the two output slots and the scratch buffers, held, the input slots are unchanged and the output slots are at
  contents the run finds (`midRun`).
-/
module

public import proofs.«01_k».proof.Proof.Names

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## A slot held, a block held, a cell at zero, a scratch buffer held -/

section Pieces
variable (c : Dev nD)

abbrev BQ : Type := Buf (Elt F) ((rQ 0).view.loc (c : Thread nD τ))
abbrev sQ (s : Fin 2) (f : Buf (Elt F) ((rQ s).view.loc (c : Thread nD τ))) : sProp 𝕄 := (rQ s).view.loc (c : Thread nD τ) ↦[(rQ s).view.set]{fullShare} f
abbrev BK : Type := Buf (Elt F) ((rK 0).view.loc (c : Thread nD τ))
abbrev sK (s : Fin 2) (f : Buf (Elt F) ((rK s).view.loc (c : Thread nD τ))) : sProp 𝕄 := (rK s).view.loc (c : Thread nD τ) ↦[(rK s).view.set]{fullShare} f
abbrev BV : Type := Buf (Elt F) ((rV 0).view.loc (c : Thread nD τ))
abbrev sV (s : Fin 2) (f : Buf (Elt F) ((rV s).view.loc (c : Thread nD τ))) : sProp 𝕄 := (rV s).view.loc (c : Thread nD τ) ↦[(rV s).view.set]{fullShare} f
abbrev BA : Type := Buf (Elt F) ((rA 0).view.loc (c : Thread nD τ))
abbrev sA (s : Fin 2) (f : Buf (Elt F) ((rA s).view.loc (c : Thread nD τ))) : sProp 𝕄 := (rA s).view.loc (c : Thread nD τ) ↦[(rA s).view.set]{fullShare} f
abbrev BW : Type := Buf (Elt F) ((rW 0).view.loc (c : Thread nD τ))
abbrev sW (s : Fin 2) (f : Buf (Elt F) ((rW s).view.loc (c : Thread nD τ))) : sProp 𝕄 := (rW s).view.loc (c : Thread nD τ) ↦[(rW s).view.set]{fullShare} f
abbrev BO : Type := Buf (Elt F) ((rO 0).view.loc (c : Thread nD τ))
abbrev sO (s : Fin 2) (f : Buf (Elt F) ((rO s).view.loc (c : Thread nD τ))) : sProp 𝕄 := (rO s).view.loc (c : Thread nD τ) ↦[(rO s).view.set]{fullShare} f
abbrev BU : Type := Buf (Elt F) ((rU 0).view.loc (c : Thread nD τ))
abbrev sU (s : Fin 2) (f : Buf (Elt F) ((rU s).view.loc (c : Thread nD τ))) : sProp 𝕄 := (rU s).view.loc (c : Thread nD τ) ↦[(rU s).view.set]{fullShare} f
abbrev t0 : Memref sig .tc .vmem S2x2048x256 .bf16 := Memref.whole cc0_scratch0
abbrev p0 (f : Buf (Elt F) (t0.view.loc (c : Thread nD τ))) : sProp 𝕄 := t0.view.loc (c : Thread nD τ) ↦[t0.view.set]{fullShare} f
abbrev t1 : Memref sig .tc .vmem S512x512 .f32 := Memref.whole cc0_scratch1
abbrev p1 (f : Buf (Elt F) (t1.view.loc (c : Thread nD τ))) : sProp 𝕄 := t1.view.loc (c : Thread nD τ) ↦[t1.view.set]{fullShare} f
abbrev t2 : Memref sig .tc .vmem S1024x512 .f32 := Memref.whole cc0_scratch2
abbrev p2 (f : Buf (Elt F) (t2.view.loc (c : Thread nD τ))) : sProp 𝕄 := t2.view.loc (c : Thread nD τ) ↦[t2.view.set]{fullShare} f
abbrev t3 : Memref sig .tc .vmem S1536x512 .f32 := Memref.whole cc0_scratch3
abbrev p3 (f : Buf (Elt F) (t3.view.loc (c : Thread nD τ))) : sProp 𝕄 := t3.view.loc (c : Thread nD τ) ↦[t3.view.set]{fullShare} f
abbrev t4 : Memref sig .tc .vmem S2048x512 .f32 := Memref.whole cc0_scratch4
abbrev p4 (f : Buf (Elt F) (t4.view.loc (c : Thread nD τ))) : sProp 𝕄 := t4.view.loc (c : Thread nD τ) ↦[t4.view.set]{fullShare} f
abbrev t5 : Memref sig .tc .vmem S512x512 .f32 := Memref.whole cc0_scratch5
abbrev p5 (f : Buf (Elt F) (t5.view.loc (c : Thread nD τ))) : sProp 𝕄 := t5.view.loc (c : Thread nD τ) ↦[t5.view.set]{fullShare} f
abbrev t6 : Memref sig .tc .vmem S1024x512 .f32 := Memref.whole cc0_scratch6
abbrev p6 (f : Buf (Elt F) (t6.view.loc (c : Thread nD τ))) : sProp 𝕄 := t6.view.loc (c : Thread nD τ) ↦[t6.view.set]{fullShare} f
abbrev t7 : Memref sig .tc .vmem S1536x512 .f32 := Memref.whole cc0_scratch7
abbrev p7 (f : Buf (Elt F) (t7.view.loc (c : Thread nD τ))) : sProp 𝕄 := t7.view.loc (c : Thread nD τ) ↦[t7.view.set]{fullShare} f
abbrev t8 : Memref sig .tc .vmem S2048x512 .f32 := Memref.whole cc0_scratch8
abbrev p8 (f : Buf (Elt F) (t8.view.loc (c : Thread nD τ))) : sProp 𝕄 := t8.view.loc (c : Thread nD τ) ↦[t8.view.set]{fullShare} f
/-- The nine scratch buffers, held at anything. -/
def scr : sProp 𝕄 := iprop((∃ f, p0 c f) ∗ (∃ f, p1 c f) ∗ (∃ f, p2 c f) ∗ (∃ f, p3 c f) ∗ (∃ f, p4 c f) ∗ (∃ f, p5 c f) ∗ (∃ f, p6 c f) ∗ (∃ f, p7 c f) ∗ (∃ f, p8 c f))

end Pieces

/-- One trip's work. -/
def midProg (k : Fin k0_t1_loop.trips) (arg16 : BitVec 32) (v158 : BitVec 1) (v161 : BitVec 32) (v342 : BitVec 32) (v354 : BitVec 32) (v490 : BitVec 32) (v495 : BitVec 32) (v500 : BitVec 1) (v501 : BitVec 32) (v159 : BitVec 1) (v160 : BitVec 32) (v180 : BitVec 32) (v181 : BitVec 32) (v192 : BitVec 32) (v193 : BitVec 32) (v206 : BitVec 32) (v207 : BitVec 32) (v253 : BitVec 32) (v272 : BitVec 32) (v284 : BitVec 32) (v303 : BitVec 32) :
    Prog (TpuEff nD τ sig (Elt F) Λ₀ .tc) (Σ' (_ : BitVec 32) (_ : BitVec 1), BitVec 1) := do
  let ⟨v502, v514, v526, v529, v531, v535⟩ : Σ' (v502 : BitVec 32) (v514 : BitVec 32) (v526 : IVec S512x128 32) (v529 : IVec S512x512 1) (v531 : BitVec 32), FVec F S2048x128 .bf16 ← k0_part14 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (wk k.val) (wb k.val) (wk k.val) (wk k.val) (wk k.val) (chk4_ok k) (chk3_ok k) (chk2_ok k) arg16 v158 v161 v342 v354 v490 v495 v500 v501
  let ⟨v558, v568, v571⟩ : Σ' (v558 : FVec F S512x128 .bf16) (v568 : FVec F S512x512 .f32), FVec F S512x512 .f32 ← k0_part15 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wb k.val) (chk6_ok k) (chk5_ok k) v514 v526 v529 v531 v535
  let ⟨v573, v597, v602⟩ : Σ' (v573 : FVec F S1x512 .f32) (v597 : FVec F S1x512 .f32), FVec F S512x256 .bf16 ← k0_part16 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (chk6_ok k) v529 v558 v568 v571
  let ⟨v621, v629, v636⟩ : Σ' (v621 : FVec F S1x512 .f32) (v629 : FVec F S2048x512 .f32), FVec F S512 .f32 ← k0_part17 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (chk6_ok k) v529 v558 v602
  let ⟨v645, v670, cst_433, cst_434⟩ : Σ' (v645 : FVec F S1x512 .f32) (v670 : IVec S512x128 1) (cst_433 : F .f32), F .f32 ← k0_part18 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wb k.val) (chk5_ok k) (chk4_ok k) v161 v514 v526 v629 v636
  let ⟨v674, v689, v697, v700⟩ : Σ' (v674 : FVec F S512x128 .bf16) (v689 : FVec F S1x512 .f32) (v697 : FVec F S1024x512 .f32), FVec F S512x512 .f32 ← k0_part19 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (chk6_ok k) v529 v670 cst_433 cst_434
  let ⟨v713, v737⟩ : Σ' (v713 : FVec F S1x512 .f32), FVec F S1x512 .f32 ← k0_part20 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (chk6_ok k) v529 v674 v697 v700
  let ⟨v761, v763, v767, v770⟩ : Σ' (v761 : FVec F S1x512 .f32) (v763 : FVec F S128x512 .f32) (v767 : FVec F S512x512 .f32), FVec F S1x512 .f32 ← k0_part21 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk7_ok k) (chk6_ok k) v529 v573 v674
  let ⟨v799, v803, v806⟩ : Σ' (v799 : FVec F S128x512 .f32) (v803 : FVec F S512x512 .f32), FVec F S1x512 .f32 ← k0_part22 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk8_ok k) (chk7_ok k) v597 v763 v767 v770
  let ⟨v835, v839, v842⟩ : Σ' (v835 : FVec F S128x512 .f32) (v839 : FVec F S512x512 .f32), FVec F S1x512 .f32 ← k0_part23 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk8_ok k) (chk7_ok k) v621 v799 v803 v806
  let ⟨v871, v875, v878⟩ : Σ' (v871 : FVec F S128x512 .f32) (v875 : FVec F S512x512 .f32), FVec F S1x512 .f32 ← k0_part24 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk8_ok k) (chk7_ok k) v621 v645 v835 v839 v842
  let ⟨v904, v910, v914⟩ : Σ' (v904 : FVec F S1x512 .f32) (v910 : FVec F S128x512 .f32), FVec F S512x512 .f32 ← k0_part25 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (chk7_ok k) v645 v871 v875 v878
  let v949 : FVec F S512x128 .f32 ← k0_part26 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk8_ok k) (chk7_ok k) v689 v904 v910 v914
  let v985 : FVec F S512x128 .f32 ← k0_part27 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk8_ok k) (chk7_ok k) v713 v949
  let ⟨v1012, v1018, v1019, v1020⟩ : Σ' (v1012 : FVec F S1x512 .f32) (v1018 : FVec F S128x512 .f32) (v1019 : Vec F S512x512 .f32), FVec F S512x512 .f32 ← k0_part28 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk8_ok k) (chk7_ok k) v737 v985
  let ⟨v1048, v1054, v1055⟩ : Σ' (v1048 : FVec F S1x512 .f32) (v1054 : FVec F S128x512 .f32), Vec F S512x512 .f32 ← k0_part29 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (wk k.val) (chk8_ok k) (chk7_ok k) v761 v1012 v1018 v1019 v1020
  let ⟨v1087, v1093⟩ : Σ' (v1087 : FVec F S1x512 .f32), FVec F S128x512 .f32 ← k0_part30 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (chk7_ok k) v761 v1048 v1054 v1055
  let ⟨v1131, v1133⟩ : Σ' (v1131 : BitVec 1), BitVec 1 ← k0_part31 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (wk k.val) (chk8_ok k) v159 v160 v161 v180 v181 v192 v193 v206 v207 v253 v272 v284 v303 v1087 v1093
  pure ⟨v502, v1131, v1133⟩

section Mid
variable (c : Dev nD) (k : Fin k0_t1_loop.trips)

/-- The key slot as the work first spells it. -/
abbrev qK : Memref sig .tc .vmem S2x2048x128 .bf16 :=
  (mK.slice (Rect.unit (s := S2x2x2048x128) (k0_off38 (wk k.val)) S1x2x2048x128.size (k0_off38_inb (wk k.val) (chk4_ok k))) (fun _ => rfl)).squeeze S2x2048x128 squeezes_S1x2x2048x128_S2x2048x128
theorem qK_eq : qK k = rK (Ring.sl 2 k.val) := can38 k.val (Nat.lt_of_lt_of_eq k.isLt trips16) _ _
theorem k38_sub {off : Fin 4 → Nat} {s : Fin 2} (e : off = so_S2x2x2048x128 s) (hh h2) (R : LoadRect S2x2048x128) :
    (rK s).view.setOn R.set ⊆ ((mK.slice (Rect.unit (s := S2x2x2048x128) off S1x2x2048x128.size hh) h2).squeeze S2x2048x128 squeezes_S1x2x2048x128_S2x2048x128).view.set := by
  subst e; exact View.setOn_subset_set _ _
theorem pt_congr {sp : Space} {s : Shape} {e : EltTy} {m m' : Memref sig .tc sp s e} (h : m = m')
    (f : Buf (Elt F) (m.view.loc (c : Thread nD τ))) (f' : Buf (Elt F) (m'.view.loc (c : Thread nD τ))) (hf : HEq f f') :
    ((m.view.loc (c : Thread nD τ) ↦[m.view.set]{fullShare} f : sProp 𝕄)) = (m'.view.loc (c : Thread nD τ) ↦[m'.view.set]{fullShare} f') := by
  subst h; cases hf; rfl
/-- The key slot held, either way spelled. -/
theorem sK_eq (f : Buf (Elt F) ((rK (Ring.sl 2 k.val)).view.loc (c : Thread nD τ))) :
    sK c (Ring.sl 2 k.val) f = ((qK k).view.loc (c : Thread nD τ) ↦[(qK k).view.set]{fullShare} f) := (pt_congr c (qK_eq k) f f HEq.rfl).symm

/-- What the work is handed. -/
def midPre (fQ : Buf (Elt F) ((rQ (Ring.sl 2 k.val)).view.loc (c : Thread nD τ))) (fK : Buf (Elt F) ((rK (Ring.sl 2 k.val)).view.loc (c : Thread nD τ))) (fV : Buf (Elt F) ((rV (Ring.sl 2 k.val)).view.loc (c : Thread nD τ))) (fA : Buf (Elt F) ((rA (Ring.sl 2 (k.val / 4))).view.loc (c : Thread nD τ))) (fW : Buf (Elt F) ((rW (Ring.sl 2 k.val)).view.loc (c : Thread nD τ))) (fO : Buf (Elt F) ((rO (Ring.sl 2 k.val)).view.loc (c : Thread nD τ))) (fU : Buf (Elt F) ((rU (Ring.sl 2 k.val)).view.loc (c : Thread nD τ))) : sProp 𝕄 :=
  iprop(sQ c (Ring.sl 2 k.val) fQ ∗ sK c (Ring.sl 2 k.val) fK ∗ sV c (Ring.sl 2 k.val) fV ∗ sA c (Ring.sl 2 (k.val / 4)) fA ∗ sW c (Ring.sl 2 k.val) fW ∗ sO c (Ring.sl 2 k.val) fO ∗ sU c (Ring.sl 2 k.val) fU ∗ scr c)

set_option backward.proofsInPublic true in
/-- The work's run, the output slots' contents to be found. -/
def midRun (v161 : BitVec 32) (fQ : Buf (Elt F) ((rQ (Ring.sl 2 k.val)).view.loc (c : Thread nD τ))) (fK : Buf (Elt F) ((rK (Ring.sl 2 k.val)).view.loc (c : Thread nD τ))) (fV : Buf (Elt F) ((rV (Ring.sl 2 k.val)).view.loc (c : Thread nD τ))) (fA : Buf (Elt F) ((rA (Ring.sl 2 (k.val / 4))).view.loc (c : Thread nD τ))) (fW : Buf (Elt F) ((rW (Ring.sl 2 k.val)).view.loc (c : Thread nD τ))) (fO : Buf (Elt F) ((rO (Ring.sl 2 k.val)).view.loc (c : Thread nD τ))) (fU : Buf (Elt F) ((rU (Ring.sl 2 k.val)).view.loc (c : Thread nD τ))) :
    { w : Buf (Elt F) ((rO (Ring.sl 2 k.val)).view.loc (c : Thread nD τ)) × Buf (Elt F) ((rU (Ring.sl 2 k.val)).view.loc (c : Thread nD τ)) //
      ∀ (arg16 : BitVec 32) (v158 : BitVec 1) (v342 : BitVec 32) (v354 : BitVec 32) (v490 : BitVec 32) (v495 : BitVec 32) (v500 : BitVec 1) (v501 : BitVec 32) (v159 : BitVec 1) (v160 : BitVec 32) (v180 : BitVec 32) (v181 : BitVec 32) (v192 : BitVec 32) (v193 : BitVec 32) (v206 : BitVec 32) (v207 : BitVec 32) (v253 : BitVec 32) (v272 : BitVec 32) (v284 : BitVec 32) (v303 : BitVec 32),
      midPre c k fQ fK fV fA fW fO fU ⊢ wp frame (wpE (defs₀ (F := F)) 𝒱₀ (c : Thread nD τ) none) Set.univ (midProg (F := F) k arg16 v158 v161 v342 v354 v490 v495 v500 v501 v159 v160 v180 v181 v192 v193 v206 v207 v253 v272 v284 v303)
        (fun x => iprop(⌜x.1 = Scalar.select v500 v501 v495⌝ ∗ midPre c k fQ fK fV fA fW w.1 w.2)) } := by
  refine ⟨(?o, ?u), ?run⟩
  case run =>
    intros
    dsimp only
    unfold midPre scr
    rw [sK_eq]
    have hk : k.val < 16 := Nat.lt_of_lt_of_eq k.isLt trips16
    iintro ⟨HQ, HK, HV, HA, HW, HO, HU, ⟨%g0, H0⟩, ⟨%g1, H1⟩, ⟨%g2, H2⟩, ⟨%g3, H3⟩, ⟨%g4, H4⟩, ⟨%g5, H5⟩, ⟨%g6, H6⟩, ⟨%g7, H7⟩, ⟨%g8, H8⟩⟩
    have hK1 : ((rK (Ring.sl 2 k.val)).view.setOn (Rect.unit (s := S2x2048x128) ![1, 0, 0] S1x2048x128.size inb_S2x2048x128_S1x2048x128_1_0_0).set : Finset _) ⊆ (qK k).view.set :=
      k38_sub (off38_eq k.val hk) _ _ _
    unfold midProg
    sl_exec
    sl_step
    sl_close

end Mid

end Cert.Proof.Attn

end
-- ==== Proof.TripProg.lean ====
/-
  One trip of the loop with its work named: `tripProg` is the printed trip at the trip's own words, the work between its
  waits and its issues being `midProg`.
-/
module

public import proofs.«01_k».proof.Proof.Mid

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The trip at its own words. -/
def tripProg (k : Fin k0_t1_loop.trips) :
    Prog (TpuEff nD τ sig (Elt F) Λ₀ .tc) (Σ' (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32), BitVec 32) := do
  let ⟨k0_hw8, k0_hw7, k0_hw6, k0_hw5, k0_hw4, k0_hw3, k0_hw2, k0_hw1, arg16, v158, v159, v160, v161, v170, v171, v179, v180, v181, v183, c4_i32_172⟩ : Σ' (k0_hw8 : k0_chk8 (wk k)) (k0_hw7 : k0_chk7 (wk k)) (k0_hw6 : k0_chk6 (wk k)) (k0_hw5 : k0_chk5 (wb k)) (k0_hw4 : k0_chk4 (wk k)) (k0_hw3 : k0_chk3 (wk k)) (k0_hw2 : k0_chk2 (wk k)) (k0_hw1 : k0_chk1 k (wf k) (wk k) (wf k) (wk k) (wf k) (wk k) (wg k) (wb k) (wf k) (wk k) (wk k) (wp' k) (wk k) (wp' k) (wB k) (wG k)) (arg16 : BitVec 32) (v158 : BitVec 1) (v159 : BitVec 1) (v160 : BitVec 32) (v161 : BitVec 32) (v170 : BitVec 32) (v171 : BitVec 32) (v179 : BitVec 32) (v180 : BitVec 32) (v181 : BitVec 32) (v183 : BitVec 32), BitVec 32 ← k0_part5 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 0#32 1#32 k (wf k) (wk k) (wf k) (wk k) (wf k) (wk k) (wg k) (wb k) (wf k) (wk k) (wk k) (wp' k) (wk k) (wp' k) (wB k) (wG k)
  let ⟨v192, v193, v205, v206, v207, v219⟩ : Σ' (v192 : BitVec 32) (v193 : BitVec 32) (v205 : BitVec 32) (v206 : BitVec 32) (v207 : BitVec 32), BitVec 32 ← k0_part6 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 arg16 v160 v161 v179 v180 v181 v183 c4_i32_172
  let ⟨v231, v241, v253, v255, c2_i32_215, v256⟩ : Σ' (v231 : BitVec 32) (v241 : BitVec 32) (v253 : BitVec 32) (v255 : BitVec 32) (c2_i32_215 : BitVec 32), BitVec 32 ← k0_part7 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 arg16 v160 v161 v180 v181
  let ⟨v272, v284, v286, c2_i32_230, v287, v292, v297⟩ : Σ' (v272 : BitVec 32) (v284 : BitVec 32) (v286 : BitVec 32) (c2_i32_230 : BitVec 32) (v287 : BitVec 32) (v292 : BitVec 32), BitVec 32 ← k0_part8 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 v180 v181 v255 c2_i32_215 v256
  let ⟨v303, v315, v316, v317, v326, v337, v338⟩ : Σ' (v303 : BitVec 32) (v315 : BitVec 32) (v316 : BitVec 32) (v317 : BitVec 32) (v326 : BitVec 32) (v337 : BitVec 1), BitVec 32 ← k0_part9 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 arg16 v160 v161 v180 v181 v253 v272 v284 v286 c2_i32_230 v287 v292 v297
  let ⟨v342, v354, v373, v375, v377⟩ : Σ' (v342 : BitVec 32) (v354 : BitVec 32) (v373 : BitVec 32) (v375 : BitVec 32), BitVec 32 ← k0_part10 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 v160 v161 v180 v181 v326 v337 v338
  let ⟨v385, v392, v401, v419, v420⟩ : Σ' (v385 : BitVec 32) (v392 : BitVec 32) (v401 : BitVec 32) (v419 : BitVec 1), BitVec 1 ← k0_part11 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 arg16 v158 v160 v161 v170 v171 v192 v206 v342 v354 v373 v375 v377
  let ⟨v435, v454, v461, c0_i32_305⟩ : Σ' (v435 : BitVec 32) (v454 : BitVec 32) (v461 : BitVec 32), BitVec 32 ← k0_part12 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 arg16 v158 v160 v170 v171 v253 v272 v419 v420
  let ⟨v463, v490, v495, v500, v501⟩ : Σ' (v463 : BitVec 32) (v490 : BitVec 32) (v495 : BitVec 32) (v500 : BitVec 1), BitVec 32 ← k0_part13 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 arg16 v158 v160 v161 v170 v171 v316 v461 c0_i32_305
  let ⟨v502, v1131, v1133⟩ ← midProg k arg16 v158 v161 v342 v354 v490 v495 v500 v501 v159 v160 v180 v181 v192 v193 v206 v207 v253 v272 v284 v303
  let ⟨v1143, v1152, v1173, v1174⟩ : Σ' (v1143 : BitVec 32) (v1152 : BitVec 32) (v1173 : BitVec 1), BitVec 32 ← k0_part32 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 v158 v159 v160 v161 v170 v171 v180 v192 v206 v316 v317 v342 v354 v373 v385 v392 v401 v1131 v1133
  let ⟨v1200, v1210, v1213⟩ : Σ' (v1200 : BitVec 32) (v1210 : BitVec 32), BitVec 1 ← k0_part33 (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 k (wf k) (wk k) (wf k) (wk k) (wf k) (wk k) (wg k) (wb k) (wf k) (wk k) (wk k) (wp' k) (wk k) (wp' k) (wB k) (wG k) k0_hw1 v158 v160 v170 v171 v180 v192 v193 v253 v272 v316 v342 v354 v435 v454 v463 v490 v502 v1173 v1174
  let v1214 : BitVec 1 := Scalar.ori v1213 v159
  let v1215 : BitVec 32 := Scalar.addi (wk k) 1#32
  let v1216 : BitVec 32 := Scalar.select v1214 v1215 (wk k)
  let v1217 : BitVec 1 := Scalar.cmpi .ne v206 v207
  let v1218 : BitVec 1 := Scalar.cmpi .ne v160 v180
  let v1219 : BitVec 1 := Scalar.ori v1217 v1218
  let v1220 : BitVec 1 := Scalar.ori v1219 v159
  let v1221 : BitVec 32 := Scalar.addi (wk k) 1#32
  let v1222 : BitVec 32 := Scalar.select v1220 v1221 (wk k)
  let v1223 : BitVec 1 := Scalar.cmpi .ne v161 v181
  let v1224 : BitVec 1 := Scalar.cmpi .ne v160 v180
  let v1225 : BitVec 1 := Scalar.ori v1223 v1224
  let v1226 : BitVec 1 := Scalar.ori v1225 v159
  let v1227 : BitVec 32 := Scalar.addi (wk k) 1#32
  let v1228 : BitVec 32 := Scalar.select v1226 v1227 (wk k)
  let v1229 : BitVec 1 := Scalar.cmpi .ne v160 v180
  let v1230 : BitVec 1 := Scalar.ori v1229 v159
  let v1231 : BitVec 32 := Scalar.addi (wb k) 1#32
  let v1232 : BitVec 32 := Scalar.select v1230 v1231 (wb k)
  let v1233 : BitVec 1 := Scalar.cmpi .ne v253 v284
  let v1234 : BitVec 1 := Scalar.cmpi .ne v272 v303
  let v1235 : BitVec 1 := Scalar.ori v1233 v1234
  let v1236 : BitVec 1 := Scalar.ori v1235 v159
  let v1237 : BitVec 32 := Scalar.addi (wk k) 1#32
  let v1238 : BitVec 32 := Scalar.select v1236 v1237 (wk k)
  pure ⟨v205, v219, v231, v241, v315, v1143, v1152, v1200, v1210, v1216, v1222, v1228, v1232, v1238, 1#32⟩

theorem trip_eq (k : Fin k0_t1_loop.trips) :
    k0_part34 (F := F) (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 0#32 1#32 k (wf k) (wk k) (wf k) (wk k) (wf k) (wk k) (wg k) (wb k) (wf k) (wk k) (wk k) (wp' k) (wk k) (wp' k) (wB k) (wG k) = tripProg (F := F) k := by
  rw [k0_part34_eq_skeleton]
  unfold k0_part34_skel tripProg
  refine bind_congr fun x => ?_
  obtain ⟨_, _, _, _, _, _, _, _, _, _, _, _, _, _, _, _, _, _, _, _⟩ := x
  refine bind_congr fun x => ?_
  obtain ⟨_, _, _, _, _, _⟩ := x
  refine bind_congr fun x => ?_
  obtain ⟨_, _, _, _, _, _⟩ := x
  refine bind_congr fun x => ?_
  obtain ⟨_, _, _, _, _, _, _⟩ := x
  refine bind_congr fun x => ?_
  obtain ⟨_, _, _, _, _, _, _⟩ := x
  refine bind_congr fun x => ?_
  obtain ⟨_, _, _, _, _⟩ := x
  refine bind_congr fun x => ?_
  obtain ⟨_, _, _, _, _⟩ := x
  refine bind_congr fun x => ?_
  obtain ⟨_, _, _, _⟩ := x
  refine bind_congr fun x => ?_
  obtain ⟨_, _, _, _, _⟩ := x
  unfold midProg
  refine Eq.trans ?_ (bind_assoc _ _ _).symm
  refine bind_congr fun x => ?_
  obtain ⟨_, _, _, _, _, _⟩ := x
  refine Eq.trans ?_ (bind_assoc _ _ _).symm
  refine bind_congr fun x => ?_
  obtain ⟨_, _, _⟩ := x
  refine Eq.trans ?_ (bind_assoc _ _ _).symm
  refine bind_congr fun x => ?_
  obtain ⟨_, _, _⟩ := x
  refine Eq.trans ?_ (bind_assoc _ _ _).symm
  refine bind_congr fun x => ?_
  obtain ⟨_, _, _⟩ := x
  refine Eq.trans ?_ (bind_assoc _ _ _).symm
  refine bind_congr fun x => ?_
  obtain ⟨_, _, _, _⟩ := x
  refine Eq.trans ?_ (bind_assoc _ _ _).symm
  refine bind_congr fun x => ?_
  obtain ⟨_, _, _, _⟩ := x
  refine Eq.trans ?_ (bind_assoc _ _ _).symm
  refine bind_congr fun x => ?_
  obtain ⟨_, _⟩ := x
  refine Eq.trans ?_ (bind_assoc _ _ _).symm
  refine bind_congr fun x => ?_
  obtain ⟨_, _, _, _⟩ := x
  refine Eq.trans ?_ (bind_assoc _ _ _).symm
  refine bind_congr fun x => ?_
  obtain ⟨_, _, _⟩ := x
  refine Eq.trans ?_ (bind_assoc _ _ _).symm
  refine bind_congr fun x => ?_
  obtain ⟨_, _, _⟩ := x
  refine Eq.trans ?_ (bind_assoc _ _ _).symm
  refine bind_congr fun x => ?_
  obtain ⟨_, _, _⟩ := x
  refine Eq.trans ?_ (bind_assoc _ _ _).symm
  refine bind_congr fun x => ?_
  obtain ⟨_, _, _⟩ := x
  refine Eq.trans ?_ (bind_assoc _ _ _).symm
  refine bind_congr fun x => ?_
  refine Eq.trans ?_ (bind_assoc _ _ _).symm
  refine bind_congr fun x => ?_
  refine Eq.trans ?_ (bind_assoc _ _ _).symm
  refine bind_congr fun x => ?_
  obtain ⟨_, _, _, _⟩ := x
  refine Eq.trans ?_ (bind_assoc _ _ _).symm
  refine bind_congr fun x => ?_
  obtain ⟨_, _, _⟩ := x
  refine Eq.trans ?_ (bind_assoc _ _ _).symm
  refine bind_congr fun x => ?_
  obtain ⟨_, _⟩ := x
  refine Eq.trans ?_ (bind_assoc _ _ _).symm
  refine bind_congr fun x => ?_
  obtain ⟨_, _⟩ := x
  refine Eq.trans ?_ (pure_bind _ _).symm
  refine bind_congr fun x => ?_
  obtain ⟨_, _, _, _⟩ := x
  refine bind_congr fun x => ?_
  obtain ⟨_, _, _⟩ := x
  rfl

end Cert.Proof.Attn
-- ==== Proof.Pieces.lean ====
/-
  The pieces a trip moves: a block at home, a slot, its cell, a slot in flight; and what a trip's two output slots hold
  (`RelO`, `RelU`).
-/
module

public import proofs.«01_k».proof.Proof.TripProg

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Pieces
variable (c : Dev nD)

/-! ### Ring Q -/
abbrev XQ : Type := Buf (Elt F) (aQ.view.loc (c : Thread nD τ))
abbrev kQ (s : Fin 2) : sProp 𝕄 := semVal ((c : Thread nD τ), SemLoc.dma (cQ s).sem) 0
abbrev hQ (X : XQ (F := F) c) (b : Fin 16) : sProp 𝕄 := (gQ b).view.loc (c : Thread nD τ) ↦[(gQ b).view.set]{fullShare} X
abbrev yQ (X : XQ (F := F) c) (b : Fin 16) : S2x2048x128.Idx → Elt F .bf16 := ReadAs.same.apply ((gQ b).view.read (Elt F) X)
abbrev lQ (X : XQ (F := F) c) (s : Fin 2) (b : Fin 16) (f : Buf (Elt F) ((rQ s).view.loc (c : Thread nD τ))) : Buf (Elt F) ((rQ s).view.loc (c : Thread nD τ)) :=
  (rQ s).view.writes (Elt F) f [⟨Rect.whole S2x2048x128, yQ c X b⟩]
abbrev fQ (X : XQ (F := F) c) (s : Fin 2) (b : Fin 16) (f : Buf (Elt F) ((rQ s).view.loc (c : Thread nD τ))) : sProp 𝕄 :=
  Transfers.Flight countersEmb (c : Thread nD τ) (SemLoc.dma (cQ s).sem) () 32768 iprop(sQ c s (lQ c X s b f) ∗ hQ c X b)
theorem read_lQ (X : XQ (F := F) c) (s : Fin 2) (b : Fin 16) (f : Buf (Elt F) ((rQ s).view.loc (c : Thread nD τ))) :
    (rQ s).view.read (Elt F) (lQ c X s b f) = yQ c X b := View.read_writes_whole _ _ _

/-! ### Ring K -/
abbrev XK : Type := Buf (Elt F) (aK.view.loc (c : Thread nD τ))
abbrev kK (s : Fin 2) : sProp 𝕄 := semVal ((c : Thread nD τ), SemLoc.dma (cK s).sem) 0
abbrev hK (X : XK (F := F) c) (b : Fin 16) : sProp 𝕄 := (gK b).view.loc (c : Thread nD τ) ↦[(gK b).view.set]{fullShare} X
abbrev yK (X : XK (F := F) c) (b : Fin 16) : S2x2048x128.Idx → Elt F .bf16 := ReadAs.same.apply ((gK b).view.read (Elt F) X)
abbrev lK (X : XK (F := F) c) (s : Fin 2) (b : Fin 16) (f : Buf (Elt F) ((rK s).view.loc (c : Thread nD τ))) : Buf (Elt F) ((rK s).view.loc (c : Thread nD τ)) :=
  (rK s).view.writes (Elt F) f [⟨Rect.whole S2x2048x128, yK c X b⟩]
abbrev fK (X : XK (F := F) c) (s : Fin 2) (b : Fin 16) (f : Buf (Elt F) ((rK s).view.loc (c : Thread nD τ))) : sProp 𝕄 :=
  Transfers.Flight countersEmb (c : Thread nD τ) (SemLoc.dma (cK s).sem) () 32768 iprop(sK c s (lK c X s b f) ∗ hK c X b)
theorem read_lK (X : XK (F := F) c) (s : Fin 2) (b : Fin 16) (f : Buf (Elt F) ((rK s).view.loc (c : Thread nD τ))) :
    (rK s).view.read (Elt F) (lK c X s b f) = yK c X b := View.read_writes_whole _ _ _

/-! ### Ring V -/
abbrev XV : Type := Buf (Elt F) (aV.view.loc (c : Thread nD τ))
abbrev kV (s : Fin 2) : sProp 𝕄 := semVal ((c : Thread nD τ), SemLoc.dma (cV s).sem) 0
abbrev hV (X : XV (F := F) c) (b : Fin 16) : sProp 𝕄 := (gV b).view.loc (c : Thread nD τ) ↦[(gV b).view.set]{fullShare} X
abbrev yV (X : XV (F := F) c) (b : Fin 16) : S256x2048.Idx → Elt F .bf16 := ReadAs.same.apply ((gV b).view.read (Elt F) X)
abbrev lV (X : XV (F := F) c) (s : Fin 2) (b : Fin 16) (f : Buf (Elt F) ((rV s).view.loc (c : Thread nD τ))) : Buf (Elt F) ((rV s).view.loc (c : Thread nD τ)) :=
  (rV s).view.writes (Elt F) f [⟨Rect.whole S256x2048, yV c X b⟩]
abbrev fV (X : XV (F := F) c) (s : Fin 2) (b : Fin 16) (f : Buf (Elt F) ((rV s).view.loc (c : Thread nD τ))) : sProp 𝕄 :=
  Transfers.Flight countersEmb (c : Thread nD τ) (SemLoc.dma (cV s).sem) () 32768 iprop(sV c s (lV c X s b f) ∗ hV c X b)
theorem read_lV (X : XV (F := F) c) (s : Fin 2) (b : Fin 16) (f : Buf (Elt F) ((rV s).view.loc (c : Thread nD τ))) :
    (rV s).view.read (Elt F) (lV c X s b f) = yV c X b := View.read_writes_whole _ _ _

/-! ### Ring A -/
abbrev XA : Type := Buf (Elt F) (aA.view.loc (c : Thread nD τ))
abbrev kA (s : Fin 2) : sProp 𝕄 := semVal ((c : Thread nD τ), SemLoc.dma (cA s).sem) 0
abbrev hA (X : XA (F := F) c) (b : Fin 4) : sProp 𝕄 := (gA b).view.loc (c : Thread nD τ) ↦[(gA b).view.set]{fullShare} X
abbrev yA (X : XA (F := F) c) (b : Fin 4) : S2048x128.Idx → Elt F .bf16 := ReadAs.same.apply ((gA b).view.read (Elt F) X)
abbrev lA (X : XA (F := F) c) (s : Fin 2) (b : Fin 4) (f : Buf (Elt F) ((rA s).view.loc (c : Thread nD τ))) : Buf (Elt F) ((rA s).view.loc (c : Thread nD τ)) :=
  (rA s).view.writes (Elt F) f [⟨Rect.whole S2048x128, yA c X b⟩]
abbrev fA (X : XA (F := F) c) (s : Fin 2) (b : Fin 4) (f : Buf (Elt F) ((rA s).view.loc (c : Thread nD τ))) : sProp 𝕄 :=
  Transfers.Flight countersEmb (c : Thread nD τ) (SemLoc.dma (cA s).sem) () 16384 iprop(sA c s (lA c X s b f) ∗ hA c X b)
theorem read_lA (X : XA (F := F) c) (s : Fin 2) (b : Fin 4) (f : Buf (Elt F) ((rA s).view.loc (c : Thread nD τ))) :
    (rA s).view.read (Elt F) (lA c X s b f) = yA c X b := View.read_writes_whole _ _ _

/-! ### Ring W -/
abbrev XW : Type := Buf (Elt F) (aW.view.loc (c : Thread nD τ))
abbrev kW (s : Fin 2) : sProp 𝕄 := semVal ((c : Thread nD τ), SemLoc.dma (cW s).sem) 0
abbrev hW (X : XW (F := F) c) (b : Fin 16) : sProp 𝕄 := (gW b).view.loc (c : Thread nD τ) ↦[(gW b).view.set]{fullShare} X
abbrev yW (X : XW (F := F) c) (b : Fin 16) : S1024x1024.Idx → Elt F .f32 := ReadAs.same.apply ((gW b).view.read (Elt F) X)
abbrev lW (X : XW (F := F) c) (s : Fin 2) (b : Fin 16) (f : Buf (Elt F) ((rW s).view.loc (c : Thread nD τ))) : Buf (Elt F) ((rW s).view.loc (c : Thread nD τ)) :=
  (rW s).view.writes (Elt F) f [⟨Rect.whole S1024x1024, yW c X b⟩]
abbrev fW (X : XW (F := F) c) (s : Fin 2) (b : Fin 16) (f : Buf (Elt F) ((rW s).view.loc (c : Thread nD τ))) : sProp 𝕄 :=
  Transfers.Flight countersEmb (c : Thread nD τ) (SemLoc.dma (cW s).sem) () 131072 iprop(sW c s (lW c X s b f) ∗ hW c X b)
theorem read_lW (X : XW (F := F) c) (s : Fin 2) (b : Fin 16) (f : Buf (Elt F) ((rW s).view.loc (c : Thread nD τ))) :
    (rW s).view.read (Elt F) (lW c X s b f) = yW c X b := View.read_writes_whole _ _ _

/-! ### Ring O -/
abbrev XO : Type := Buf (Elt F) (aO.view.loc (c : Thread nD τ))
abbrev kO (s : Fin 2) : sProp 𝕄 := semVal ((c : Thread nD τ), SemLoc.dma (cO s).sem) 0
abbrev hO (X : XO (F := F) c) (b : Fin 16) : sProp 𝕄 := (gO b).view.loc (c : Thread nD τ) ↦[(gO b).view.set]{fullShare} X
abbrev yO (s : Fin 2) (f : Buf (Elt F) ((rO s).view.loc (c : Thread nD τ))) : S2x2048x128.Idx → Elt F .f32 := ReadAs.same.apply ((rO s).view.read (Elt F) f)
abbrev lO (s : Fin 2) (b : Fin 16) (f : Buf (Elt F) ((rO s).view.loc (c : Thread nD τ))) (X : XO (F := F) c) : XO (F := F) c :=
  (gO b).view.writes (Elt F) X [⟨Rect.whole S2x2048x128, yO c s f⟩]
abbrev fO (s : Fin 2) (b : Fin 16) (f : Buf (Elt F) ((rO s).view.loc (c : Thread nD τ))) (X : XO (F := F) c) : sProp 𝕄 :=
  Transfers.Flight countersEmb (c : Thread nD τ) (SemLoc.dma (cO s).sem) () 65536 iprop(hO c (lO c s b f X) b ∗ sO c s f)
theorem read_lO (s : Fin 2) (b : Fin 16) (f : Buf (Elt F) ((rO s).view.loc (c : Thread nD τ))) (X : XO (F := F) c) :
    (gO b).view.read (Elt F) (lO c s b f X) = yO c s f := View.read_writes_whole _ _ _

/-! ### Ring U -/
abbrev XU : Type := Buf (Elt F) (aU.view.loc (c : Thread nD τ))
abbrev kU (s : Fin 2) : sProp 𝕄 := semVal ((c : Thread nD τ), SemLoc.dma (cU s).sem) 0
abbrev hU (X : XU (F := F) c) (b : Fin 16) : sProp 𝕄 := (gU b).view.loc (c : Thread nD τ) ↦[(gU b).view.set]{fullShare} X
abbrev yU (s : Fin 2) (f : Buf (Elt F) ((rU s).view.loc (c : Thread nD τ))) : S1024x1024.Idx → Elt F .bf16 := ReadAs.same.apply ((rU s).view.read (Elt F) f)
abbrev lU (s : Fin 2) (b : Fin 16) (f : Buf (Elt F) ((rU s).view.loc (c : Thread nD τ))) (X : XU (F := F) c) : XU (F := F) c :=
  (gU b).view.writes (Elt F) X [⟨Rect.whole S1024x1024, yU c s f⟩]
abbrev fU (s : Fin 2) (b : Fin 16) (f : Buf (Elt F) ((rU s).view.loc (c : Thread nD τ))) (X : XU (F := F) c) : sProp 𝕄 :=
  Transfers.Flight countersEmb (c : Thread nD τ) (SemLoc.dma (cU s).sem) () 65536 iprop(hU c (lU c s b f X) b ∗ sU c s f)
theorem read_lU (s : Fin 2) (b : Fin 16) (f : Buf (Elt F) ((rU s).view.loc (c : Thread nD τ))) (X : XU (F := F) c) :
    (gU b).view.read (Elt F) (lU c s b f X) = yU c s f := View.read_writes_whole _ _ _

/-- What trip `k` finds in its five input slots. -/
def Ins (XQ : XQ (F := F) c) (XK : XK (F := F) c) (XV : XV (F := F) c) (XA : XA (F := F) c) (XW : XW (F := F) c) (k : Fin k0_t1_loop.trips) (fQ : Buf (Elt F) ((rQ (Ring.sl 2 k.val)).view.loc (c : Thread nD τ))) (fK : Buf (Elt F) ((rK (Ring.sl 2 k.val)).view.loc (c : Thread nD τ))) (fV : Buf (Elt F) ((rV (Ring.sl 2 k.val)).view.loc (c : Thread nD τ))) (fA : Buf (Elt F) ((rA (Ring.sl 2 (k.val / 4))).view.loc (c : Thread nD τ))) (fW : Buf (Elt F) ((rW (Ring.sl 2 k.val)).view.loc (c : Thread nD τ))) : Prop :=
  (rQ (Ring.sl 2 k.val)).view.read (Elt F) fQ = yQ c XQ (Ring.bk 16 k.val) ∧ (rK (Ring.sl 2 k.val)).view.read (Elt F) fK = yK c XK (Ring.bk 16 k.val) ∧ (rV (Ring.sl 2 k.val)).view.read (Elt F) fV = yV c XV (Ring.bk 16 k.val) ∧ (rA (Ring.sl 2 (k.val / 4))).view.read (Elt F) fA = yA c XA (Ring.bk 4 (k.val / 4)) ∧ (rW (Ring.sl 2 k.val)).view.read (Elt F) fW = yW c XW (Ring.bk 16 k.val)
/-- What the trip of block `b` leaves in its first output slot. -/
def RelO (XQ : XQ (F := F) c) (XK : XK (F := F) c) (XV : XV (F := F) c) (XA : XA (F := F) c) (XW : XW (F := F) c) (b : Fin 16) (o : S2x2048x128.Idx → Elt F .f32) : Prop :=
  ∃ (k : Fin k0_t1_loop.trips) (fQ : Buf (Elt F) ((rQ (Ring.sl 2 k.val)).view.loc (c : Thread nD τ))) (fK : Buf (Elt F) ((rK (Ring.sl 2 k.val)).view.loc (c : Thread nD τ))) (fV : Buf (Elt F) ((rV (Ring.sl 2 k.val)).view.loc (c : Thread nD τ))) (fA : Buf (Elt F) ((rA (Ring.sl 2 (k.val / 4))).view.loc (c : Thread nD τ))) (fW : Buf (Elt F) ((rW (Ring.sl 2 k.val)).view.loc (c : Thread nD τ))) (fO : Buf (Elt F) ((rO (Ring.sl 2 k.val)).view.loc (c : Thread nD τ))) (fU : Buf (Elt F) ((rU (Ring.sl 2 k.val)).view.loc (c : Thread nD τ))), b = Ring.bk 16 k.val ∧ Ins c XQ XK XV XA XW k fQ fK fV fA fW ∧
    o = yO c (Ring.sl 2 k.val) (midRun c k (Scalar.addi (wG k) 0#32) fQ fK fV fA fW fO fU).1.1
/-- What the trip of block `b` leaves in its second output slot. -/
def RelU (XQ : XQ (F := F) c) (XK : XK (F := F) c) (XV : XV (F := F) c) (XA : XA (F := F) c) (XW : XW (F := F) c) (b : Fin 16) (o : S1024x1024.Idx → Elt F .bf16) : Prop :=
  ∃ (k : Fin k0_t1_loop.trips) (fQ : Buf (Elt F) ((rQ (Ring.sl 2 k.val)).view.loc (c : Thread nD τ))) (fK : Buf (Elt F) ((rK (Ring.sl 2 k.val)).view.loc (c : Thread nD τ))) (fV : Buf (Elt F) ((rV (Ring.sl 2 k.val)).view.loc (c : Thread nD τ))) (fA : Buf (Elt F) ((rA (Ring.sl 2 (k.val / 4))).view.loc (c : Thread nD τ))) (fW : Buf (Elt F) ((rW (Ring.sl 2 k.val)).view.loc (c : Thread nD τ))) (fO : Buf (Elt F) ((rO (Ring.sl 2 k.val)).view.loc (c : Thread nD τ))) (fU : Buf (Elt F) ((rU (Ring.sl 2 k.val)).view.loc (c : Thread nD τ))), b = Ring.bk 16 k.val ∧ Ins c XQ XK XV XA XW k fQ fK fV fA fW ∧
    o = yU c (Ring.sl 2 k.val) (midRun c k (Scalar.addi (wG k) 0#32) fQ fK fV fA fW fO fU).1.2

end Pieces

end Cert.Proof.Attn
-- ==== Proof.TripF.lean ====
/-
  The first trip. Its resources before and after, and its run.
-/
module

public import proofs.«01_k».proof.Proof.Pieces

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

def preF (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 k.val) (Ring.bk 16 k.val) f) ∗ (∃ f, sQ c (Ring.sl 2 (k.val + 1)) f) ∗ kQ (F := F) c (Ring.sl 2 (k.val + 1)) ∗ hQ c XQ (Ring.bk 16 (k.val + 1))
    ∗ (∃ f, fK c XK (Ring.sl 2 k.val) (Ring.bk 16 k.val) f) ∗ (∃ f, sK c (Ring.sl 2 (k.val + 1)) f) ∗ kK (F := F) c (Ring.sl 2 (k.val + 1)) ∗ hK c XK (Ring.bk 16 (k.val + 1))
    ∗ (∃ f, fV c XV (Ring.sl 2 k.val) (Ring.bk 16 k.val) f) ∗ (∃ f, sV c (Ring.sl 2 (k.val + 1)) f) ∗ kV (F := F) c (Ring.sl 2 (k.val + 1)) ∗ hV c XV (Ring.bk 16 (k.val + 1))
    ∗ (∃ f, fW c XW (Ring.sl 2 k.val) (Ring.bk 16 k.val) f) ∗ (∃ f, sW c (Ring.sl 2 (k.val + 1)) f) ∗ kW (F := F) c (Ring.sl 2 (k.val + 1)) ∗ hW c XW (Ring.bk 16 (k.val + 1))
    ∗ (∃ f, fA c XA (Ring.sl 2 (k.val / 4)) (Ring.bk 4 (k.val / 4)) f)
    ∗ (∃ f, sO c (Ring.sl 2 k.val) f) ∗ kO (F := F) c (Ring.sl 2 k.val) ∗ (∃ f, hO c f (Ring.bk 16 k.val))
    ∗ (∃ f, sU c (Ring.sl 2 k.val) f) ∗ kU (F := F) c (Ring.sl 2 k.val) ∗ (∃ f, hU c f (Ring.bk 16 k.val))
    ∗ scr c
    ∗ (∃ W, owes (c : Thread nD τ) 0 W))
def postF (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 (k.val + 1)) (Ring.bk 16 (k.val + 1)) f) ∗ (∃ f, sQ c (Ring.sl 2 k.val) f) ∗ kQ (F := F) c (Ring.sl 2 k.val) ∗ hQ c XQ (Ring.bk 16 k.val)
    ∗ (∃ f, fK c XK (Ring.sl 2 (k.val + 1)) (Ring.bk 16 (k.val + 1)) f) ∗ (∃ f, sK c (Ring.sl 2 k.val) f) ∗ kK (F := F) c (Ring.sl 2 k.val) ∗ hK c XK (Ring.bk 16 k.val)
    ∗ (∃ f, fV c XV (Ring.sl 2 (k.val + 1)) (Ring.bk 16 (k.val + 1)) f) ∗ (∃ f, sV c (Ring.sl 2 k.val) f) ∗ kV (F := F) c (Ring.sl 2 k.val) ∗ hV c XV (Ring.bk 16 k.val)
    ∗ (∃ f, fW c XW (Ring.sl 2 (k.val + 1)) (Ring.bk 16 (k.val + 1)) f) ∗ (∃ f, sW c (Ring.sl 2 k.val) f) ∗ kW (F := F) c (Ring.sl 2 k.val) ∗ hW c XW (Ring.bk 16 k.val)
    ∗ (∃ f : Buf (Elt F) ((rA (Ring.sl 2 (k.val / 4))).view.loc (c : Thread nD τ)), ⌜(rA (Ring.sl 2 (k.val / 4))).view.read (Elt F) f = yA c XA (Ring.bk 4 (k.val / 4))⌝ ∗ sA c (Ring.sl 2 (k.val / 4)) f) ∗ kA (F := F) c (Ring.sl 2 (k.val / 4)) ∗ hA c XA (Ring.bk 4 (k.val / 4))
    ∗ (∃ (f : Buf (Elt F) ((rO (Ring.sl 2 k.val)).view.loc (c : Thread nD τ))) (g : XO (F := F) c), ⌜RelO c XQ XK XV XA XW (Ring.bk 16 k.val) (yO c (Ring.sl 2 k.val) f)⌝ ∗ fO c (Ring.sl 2 k.val) (Ring.bk 16 k.val) f g)
    ∗ (∃ (f : Buf (Elt F) ((rU (Ring.sl 2 k.val)).view.loc (c : Thread nD τ))) (g : XU (F := F) c), ⌜RelU c XQ XK XV XA XW (Ring.bk 16 k.val) (yU c (Ring.sl 2 k.val) f)⌝ ∗ fU c (Ring.sl 2 k.val) (Ring.bk 16 k.val) f g)
    ∗ scr c
    ∗ (∃ W, owes (c : Thread nD τ) 0 W))
set_option backward.proofsInPublic true in
set_option maxHeartbeats 4000000 in
theorem tripF (c : Dev nD) (XQ : XQ (F := F) c) (XK : XK (F := F) c) (XV : XV (F := F) c) (XA : XA (F := F) c) (XW : XW (F := F) c) (k : Fin k0_t1_loop.trips) (hr : k.val = 0) :
    preF c XQ XK XV XA XW k ⊢ wp frame (wpE (defs₀ (F := F)) 𝒱₀ (c : Thread nD τ) none) Set.univ (tripProg (F := F) k)
      (fun x => iprop(⌜x = ⟨wf (k.val+1), wf (k.val+1), wf (k.val+1), wg (k.val+1), wf (k.val+1), wk (k.val+1), wk (k.val+1), wp' (k.val+1), wp' (k.val+1), wk (k.val+1), wk (k.val+1), wk (k.val+1), wb (k.val+1), wk (k.val+1), 1#32⟩⌝ ∗ postF c XQ XK XV XA XW k)) := by
    have hk : k.val < 16 := Nat.lt_of_lt_of_eq k.isLt trips16
    have hk15 : k.val < 15 := by omega
    have hc1 := cond1_pos k (by omega)
    have hc2 := cond2_pos k (by omega)
    have hc3 := cond3_pos k (by omega)
    have hc5 := cond5_pos k (by omega)
    have hc4 := cond4_neg k (by omega)
    have hc9 := cond9_pos k (by omega)
    have hc6 := cond6_pos k trivial
    have hc7 := cond7_pos k trivial
    have hc8 := cond8_pos k trivial
    have hc10 := cond10_pos k trivial
    have hc18 := cond18_pos k trivial
    have hc19 := cond19_pos k trivial
    have hc25 := cond25_neg k (by omega)
    have hc26 := cond26_neg k (by omega)
    have hh1 := chk1_ok k
    have hh2 := chk2_ok k
    have hh3 := chk3_ok k
    have hh4 := chk4_ok k
    have hh5 := chk5_ok k
    have hh6 := chk6_ok k
    have hh7 := chk7_ok k
    have hh8 := chk8_ok k
    have hcut := fun fQ fK fV fA fW fO fU => (midRun (F := F) c k (Scalar.addi (wG k) 0#32) fQ fK fV fA fW fO fU).2
    unfold midPre at hcut
    unfold preF
    iintro ⟨⟨%fQ, HFQ⟩, ⟨%jQ, HSQ⟩, HCQ, HBQ, ⟨%fK, HFK⟩, ⟨%jK, HSK⟩, HCK, HBK, ⟨%fV, HFV⟩, ⟨%jV, HSV⟩, HCV, HBV, ⟨%fW, HFW⟩, ⟨%jW, HSW⟩, HCW, HBW, ⟨%fA, HFA⟩, ⟨%fO, HSO⟩, HCO, ⟨%jO, HBO⟩, ⟨%fU, HSU⟩, HCU, ⟨%jU, HBU⟩, Hscr, ⟨%W, HW⟩⟩
    unfold tripProg
    sl_exec
    sl_step
    isplitr
    · ipureintro
      obtain rfl : v502 = Scalar.select _ _ _ := by assumption
      clear * - hr
      simp only [PSigma.mk.injEq, heq_eq_eq]
      revert hr
      revert k
      decide +kernel
    unfold postF
    have hO : RelO c XQ XK XV XA XW (Ring.bk 16 k.val) (yO c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) (lA c XA (Ring.sl 2 (k.val / 4)) (Ring.bk 4 (k.val / 4)) fA) (lW c XW (Ring.sl 2 k.val) (Ring.bk 16 k.val) fW) fO fU).1.1) := ⟨k, _, _, _, _, _, _, _, rfl, ⟨read_lQ c XQ _ _ _, read_lK c XK _ _ _, read_lV c XV _ _ _, read_lA c XA _ _ _, read_lW c XW _ _ _⟩, rfl⟩
    have hU : RelU c XQ XK XV XA XW (Ring.bk 16 k.val) (yU c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) (lA c XA (Ring.sl 2 (k.val / 4)) (Ring.bk 4 (k.val / 4)) fA) (lW c XW (Ring.sl 2 k.val) (Ring.bk 16 k.val) fW) fO fU).1.2) := ⟨k, _, _, _, _, _, _, _, rfl, ⟨read_lQ c XQ _ _ _, read_lK c XK _ _ _, read_lV c XV _ _ _, read_lA c XA _ _ _, read_lW c XW _ _ _⟩, rfl⟩
    have hfA := read_lA c XA (Ring.sl 2 (k.val / 4)) (Ring.bk 4 (k.val / 4)) fA
    sl_close

end Cert.Proof.Attn
-- ==== Proof.TripB.lean ====
/-
  A trip that opens a batch, not the first. Its resources before and after, and its run.
-/
module

public import proofs.«01_k».proof.Proof.Pieces

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

def preB (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 k.val) (Ring.bk 16 k.val) f) ∗ (∃ f, sQ c (Ring.sl 2 (k.val + 1)) f) ∗ kQ (F := F) c (Ring.sl 2 (k.val + 1)) ∗ hQ c XQ (Ring.bk 16 (k.val + 1))
    ∗ (∃ f, fK c XK (Ring.sl 2 k.val) (Ring.bk 16 k.val) f) ∗ (∃ f, sK c (Ring.sl 2 (k.val + 1)) f) ∗ kK (F := F) c (Ring.sl 2 (k.val + 1)) ∗ hK c XK (Ring.bk 16 (k.val + 1))
    ∗ (∃ f, fV c XV (Ring.sl 2 k.val) (Ring.bk 16 k.val) f) ∗ (∃ f, sV c (Ring.sl 2 (k.val + 1)) f) ∗ kV (F := F) c (Ring.sl 2 (k.val + 1)) ∗ hV c XV (Ring.bk 16 (k.val + 1))
    ∗ (∃ f, fW c XW (Ring.sl 2 k.val) (Ring.bk 16 k.val) f) ∗ (∃ f, sW c (Ring.sl 2 (k.val + 1)) f) ∗ kW (F := F) c (Ring.sl 2 (k.val + 1)) ∗ hW c XW (Ring.bk 16 (k.val + 1))
    ∗ (∃ f, fA c XA (Ring.sl 2 (k.val / 4)) (Ring.bk 4 (k.val / 4)) f)
    ∗ (∃ f, sO c (Ring.sl 2 k.val) f) ∗ kO (F := F) c (Ring.sl 2 k.val) ∗ (∃ f, hO c f (Ring.bk 16 k.val)) ∗ (∃ (f : Buf (Elt F) ((rO (Ring.sl 2 (k.val - 1))).view.loc (c : Thread nD τ))) (g : XO (F := F) c), ⌜RelO c XQ XK XV XA XW (Ring.bk 16 (k.val - 1)) (yO c (Ring.sl 2 (k.val - 1)) f)⌝ ∗ fO c (Ring.sl 2 (k.val - 1)) (Ring.bk 16 (k.val - 1)) f g)
    ∗ (∃ f, sU c (Ring.sl 2 k.val) f) ∗ kU (F := F) c (Ring.sl 2 k.val) ∗ (∃ f, hU c f (Ring.bk 16 k.val)) ∗ (∃ (f : Buf (Elt F) ((rU (Ring.sl 2 (k.val - 1))).view.loc (c : Thread nD τ))) (g : XU (F := F) c), ⌜RelU c XQ XK XV XA XW (Ring.bk 16 (k.val - 1)) (yU c (Ring.sl 2 (k.val - 1)) f)⌝ ∗ fU c (Ring.sl 2 (k.val - 1)) (Ring.bk 16 (k.val - 1)) f g)
    ∗ scr c
    ∗ (∃ W, owes (c : Thread nD τ) 0 W))
def postB (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 (k.val + 1)) (Ring.bk 16 (k.val + 1)) f) ∗ (∃ f, sQ c (Ring.sl 2 k.val) f) ∗ kQ (F := F) c (Ring.sl 2 k.val) ∗ hQ c XQ (Ring.bk 16 k.val)
    ∗ (∃ f, fK c XK (Ring.sl 2 (k.val + 1)) (Ring.bk 16 (k.val + 1)) f) ∗ (∃ f, sK c (Ring.sl 2 k.val) f) ∗ kK (F := F) c (Ring.sl 2 k.val) ∗ hK c XK (Ring.bk 16 k.val)
    ∗ (∃ f, fV c XV (Ring.sl 2 (k.val + 1)) (Ring.bk 16 (k.val + 1)) f) ∗ (∃ f, sV c (Ring.sl 2 k.val) f) ∗ kV (F := F) c (Ring.sl 2 k.val) ∗ hV c XV (Ring.bk 16 k.val)
    ∗ (∃ f, fW c XW (Ring.sl 2 (k.val + 1)) (Ring.bk 16 (k.val + 1)) f) ∗ (∃ f, sW c (Ring.sl 2 k.val) f) ∗ kW (F := F) c (Ring.sl 2 k.val) ∗ hW c XW (Ring.bk 16 k.val)
    ∗ (∃ f : Buf (Elt F) ((rA (Ring.sl 2 (k.val / 4))).view.loc (c : Thread nD τ)), ⌜(rA (Ring.sl 2 (k.val / 4))).view.read (Elt F) f = yA c XA (Ring.bk 4 (k.val / 4))⌝ ∗ sA c (Ring.sl 2 (k.val / 4)) f) ∗ kA (F := F) c (Ring.sl 2 (k.val / 4)) ∗ hA c XA (Ring.bk 4 (k.val / 4))
    ∗ (∃ (f : Buf (Elt F) ((rO (Ring.sl 2 k.val)).view.loc (c : Thread nD τ))) (g : XO (F := F) c), ⌜RelO c XQ XK XV XA XW (Ring.bk 16 k.val) (yO c (Ring.sl 2 k.val) f)⌝ ∗ fO c (Ring.sl 2 k.val) (Ring.bk 16 k.val) f g) ∗ (∃ f, sO c (Ring.sl 2 (k.val - 1)) f) ∗ kO (F := F) c (Ring.sl 2 (k.val - 1)) ∗ (∃ f : XO (F := F) c, ⌜RelO c XQ XK XV XA XW (Ring.bk 16 (k.val - 1)) ((gO (Ring.bk 16 (k.val - 1))).view.read (Elt F) f)⌝ ∗ hO c f (Ring.bk 16 (k.val - 1)))
    ∗ (∃ (f : Buf (Elt F) ((rU (Ring.sl 2 k.val)).view.loc (c : Thread nD τ))) (g : XU (F := F) c), ⌜RelU c XQ XK XV XA XW (Ring.bk 16 k.val) (yU c (Ring.sl 2 k.val) f)⌝ ∗ fU c (Ring.sl 2 k.val) (Ring.bk 16 k.val) f g) ∗ (∃ f, sU c (Ring.sl 2 (k.val - 1)) f) ∗ kU (F := F) c (Ring.sl 2 (k.val - 1)) ∗ (∃ f : XU (F := F) c, ⌜RelU c XQ XK XV XA XW (Ring.bk 16 (k.val - 1)) ((gU (Ring.bk 16 (k.val - 1))).view.read (Elt F) f)⌝ ∗ hU c f (Ring.bk 16 (k.val - 1)))
    ∗ scr c
    ∗ (∃ W, owes (c : Thread nD τ) 0 W))
set_option backward.proofsInPublic true in
set_option maxHeartbeats 4000000 in
theorem tripB (c : Dev nD) (XQ : XQ (F := F) c) (XK : XK (F := F) c) (XV : XV (F := F) c) (XA : XA (F := F) c) (XW : XW (F := F) c) (k : Fin k0_t1_loop.trips) (hr : k.val % 4 = 0 ∧ 1 ≤ k.val) :
    preB c XQ XK XV XA XW k ⊢ wp frame (wpE (defs₀ (F := F)) 𝒱₀ (c : Thread nD τ) none) Set.univ (tripProg (F := F) k)
      (fun x => iprop(⌜x = ⟨wf (k.val+1), wf (k.val+1), wf (k.val+1), wg (k.val+1), wf (k.val+1), wk (k.val+1), wk (k.val+1), wp' (k.val+1), wp' (k.val+1), wk (k.val+1), wk (k.val+1), wk (k.val+1), wb (k.val+1), wk (k.val+1), 1#32⟩⌝ ∗ postB c XQ XK XV XA XW k)) := by
    have hk : k.val < 16 := Nat.lt_of_lt_of_eq k.isLt trips16
    have hk15 : k.val < 15 := by omega
    have hk1 : 1 ≤ k.val := by omega
    have hc1 := cond1_pos k (by omega)
    have hc2 := cond2_pos k (by omega)
    have hc3 := cond3_pos k (by omega)
    have hc5 := cond5_pos k (by omega)
    have hc4 := cond4_neg k (by omega)
    have hc9 := cond9_pos k (by omega)
    have hc6 := cond6_pos k trivial
    have hc7 := cond7_pos k trivial
    have hc8 := cond8_pos k trivial
    have hc10 := cond10_pos k trivial
    have hc18 := cond18_pos k trivial
    have hc19 := cond19_pos k trivial
    have hc25 := cond25_pos k (by omega)
    have hc26 := cond26_pos k (by omega)
    have hh1 := chk1_ok k
    have hh2 := chk2_ok k
    have hh3 := chk3_ok k
    have hh4 := chk4_ok k
    have hh5 := chk5_ok k
    have hh6 := chk6_ok k
    have hh7 := chk7_ok k
    have hh8 := chk8_ok k
    have hcut := fun fQ fK fV fA fW fO fU => (midRun (F := F) c k (Scalar.addi (wG k) 0#32) fQ fK fV fA fW fO fU).2
    unfold midPre at hcut
    unfold preB
    iintro ⟨⟨%fQ, HFQ⟩, ⟨%jQ, HSQ⟩, HCQ, HBQ, ⟨%fK, HFK⟩, ⟨%jK, HSK⟩, HCK, HBK, ⟨%fV, HFV⟩, ⟨%jV, HSV⟩, HCV, HBV, ⟨%fW, HFW⟩, ⟨%jW, HSW⟩, HCW, HBW, ⟨%fA, HFA⟩, ⟨%fO, HSO⟩, HCO, ⟨%jO, HBO⟩, ⟨%pO, %qO, %hpO, HPO⟩, ⟨%fU, HSU⟩, HCU, ⟨%jU, HBU⟩, ⟨%pU, %qU, %hpU, HPU⟩, Hscr, ⟨%W, HW⟩⟩
    unfold tripProg
    sl_exec
    sl_step
    isplitr
    · ipureintro
      obtain rfl : v502 = Scalar.select _ _ _ := by assumption
      clear * - hr
      simp only [PSigma.mk.injEq, heq_eq_eq]
      revert hr
      revert k
      decide +kernel
    unfold postB
    have hO : RelO c XQ XK XV XA XW (Ring.bk 16 k.val) (yO c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) (lA c XA (Ring.sl 2 (k.val / 4)) (Ring.bk 4 (k.val / 4)) fA) (lW c XW (Ring.sl 2 k.val) (Ring.bk 16 k.val) fW) fO fU).1.1) := ⟨k, _, _, _, _, _, _, _, rfl, ⟨read_lQ c XQ _ _ _, read_lK c XK _ _ _, read_lV c XV _ _ _, read_lA c XA _ _ _, read_lW c XW _ _ _⟩, rfl⟩
    have hpO' : RelO c XQ XK XV XA XW (Ring.bk 16 (k.val - 1)) ((gO (Ring.bk 16 (k.val - 1))).view.read (Elt F) (lO c (Ring.sl 2 (k.val - 1)) (Ring.bk 16 (k.val - 1)) pO qO)) := by rw [read_lO]; exact hpO
    have hU : RelU c XQ XK XV XA XW (Ring.bk 16 k.val) (yU c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) (lA c XA (Ring.sl 2 (k.val / 4)) (Ring.bk 4 (k.val / 4)) fA) (lW c XW (Ring.sl 2 k.val) (Ring.bk 16 k.val) fW) fO fU).1.2) := ⟨k, _, _, _, _, _, _, _, rfl, ⟨read_lQ c XQ _ _ _, read_lK c XK _ _ _, read_lV c XV _ _ _, read_lA c XA _ _ _, read_lW c XW _ _ _⟩, rfl⟩
    have hpU' : RelU c XQ XK XV XA XW (Ring.bk 16 (k.val - 1)) ((gU (Ring.bk 16 (k.val - 1))).view.read (Elt F) (lU c (Ring.sl 2 (k.val - 1)) (Ring.bk 16 (k.val - 1)) pU qU)) := by rw [read_lU]; exact hpU
    have hfA := read_lA c XA (Ring.sl 2 (k.val / 4)) (Ring.bk 4 (k.val / 4)) fA
    sl_close

end Cert.Proof.Attn
-- ==== Proof.TripM.lean ====
/-
  A trip in the middle of a batch. Its resources before and after, and its run.
-/
module

public import proofs.«01_k».proof.Proof.Pieces

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

def preM (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 k.val) (Ring.bk 16 k.val) f) ∗ (∃ f, sQ c (Ring.sl 2 (k.val + 1)) f) ∗ kQ (F := F) c (Ring.sl 2 (k.val + 1)) ∗ hQ c XQ (Ring.bk 16 (k.val + 1))
    ∗ (∃ f, fK c XK (Ring.sl 2 k.val) (Ring.bk 16 k.val) f) ∗ (∃ f, sK c (Ring.sl 2 (k.val + 1)) f) ∗ kK (F := F) c (Ring.sl 2 (k.val + 1)) ∗ hK c XK (Ring.bk 16 (k.val + 1))
    ∗ (∃ f, fV c XV (Ring.sl 2 k.val) (Ring.bk 16 k.val) f) ∗ (∃ f, sV c (Ring.sl 2 (k.val + 1)) f) ∗ kV (F := F) c (Ring.sl 2 (k.val + 1)) ∗ hV c XV (Ring.bk 16 (k.val + 1))
    ∗ (∃ f, fW c XW (Ring.sl 2 k.val) (Ring.bk 16 k.val) f) ∗ (∃ f, sW c (Ring.sl 2 (k.val + 1)) f) ∗ kW (F := F) c (Ring.sl 2 (k.val + 1)) ∗ hW c XW (Ring.bk 16 (k.val + 1))
    ∗ (∃ f : Buf (Elt F) ((rA (Ring.sl 2 (k.val / 4))).view.loc (c : Thread nD τ)), ⌜(rA (Ring.sl 2 (k.val / 4))).view.read (Elt F) f = yA c XA (Ring.bk 4 (k.val / 4))⌝ ∗ sA c (Ring.sl 2 (k.val / 4)) f)
    ∗ (∃ f, sO c (Ring.sl 2 k.val) f) ∗ kO (F := F) c (Ring.sl 2 k.val) ∗ (∃ f, hO c f (Ring.bk 16 k.val)) ∗ (∃ (f : Buf (Elt F) ((rO (Ring.sl 2 (k.val - 1))).view.loc (c : Thread nD τ))) (g : XO (F := F) c), ⌜RelO c XQ XK XV XA XW (Ring.bk 16 (k.val - 1)) (yO c (Ring.sl 2 (k.val - 1)) f)⌝ ∗ fO c (Ring.sl 2 (k.val - 1)) (Ring.bk 16 (k.val - 1)) f g)
    ∗ (∃ f, sU c (Ring.sl 2 k.val) f) ∗ kU (F := F) c (Ring.sl 2 k.val) ∗ (∃ f, hU c f (Ring.bk 16 k.val)) ∗ (∃ (f : Buf (Elt F) ((rU (Ring.sl 2 (k.val - 1))).view.loc (c : Thread nD τ))) (g : XU (F := F) c), ⌜RelU c XQ XK XV XA XW (Ring.bk 16 (k.val - 1)) (yU c (Ring.sl 2 (k.val - 1)) f)⌝ ∗ fU c (Ring.sl 2 (k.val - 1)) (Ring.bk 16 (k.val - 1)) f g)
    ∗ scr c
    ∗ (∃ W, owes (c : Thread nD τ) 0 W))
def postM (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 (k.val + 1)) (Ring.bk 16 (k.val + 1)) f) ∗ (∃ f, sQ c (Ring.sl 2 k.val) f) ∗ kQ (F := F) c (Ring.sl 2 k.val) ∗ hQ c XQ (Ring.bk 16 k.val)
    ∗ (∃ f, fK c XK (Ring.sl 2 (k.val + 1)) (Ring.bk 16 (k.val + 1)) f) ∗ (∃ f, sK c (Ring.sl 2 k.val) f) ∗ kK (F := F) c (Ring.sl 2 k.val) ∗ hK c XK (Ring.bk 16 k.val)
    ∗ (∃ f, fV c XV (Ring.sl 2 (k.val + 1)) (Ring.bk 16 (k.val + 1)) f) ∗ (∃ f, sV c (Ring.sl 2 k.val) f) ∗ kV (F := F) c (Ring.sl 2 k.val) ∗ hV c XV (Ring.bk 16 k.val)
    ∗ (∃ f, fW c XW (Ring.sl 2 (k.val + 1)) (Ring.bk 16 (k.val + 1)) f) ∗ (∃ f, sW c (Ring.sl 2 k.val) f) ∗ kW (F := F) c (Ring.sl 2 k.val) ∗ hW c XW (Ring.bk 16 k.val)
    ∗ (∃ f : Buf (Elt F) ((rA (Ring.sl 2 (k.val / 4))).view.loc (c : Thread nD τ)), ⌜(rA (Ring.sl 2 (k.val / 4))).view.read (Elt F) f = yA c XA (Ring.bk 4 (k.val / 4))⌝ ∗ sA c (Ring.sl 2 (k.val / 4)) f)
    ∗ (∃ (f : Buf (Elt F) ((rO (Ring.sl 2 k.val)).view.loc (c : Thread nD τ))) (g : XO (F := F) c), ⌜RelO c XQ XK XV XA XW (Ring.bk 16 k.val) (yO c (Ring.sl 2 k.val) f)⌝ ∗ fO c (Ring.sl 2 k.val) (Ring.bk 16 k.val) f g) ∗ (∃ f, sO c (Ring.sl 2 (k.val - 1)) f) ∗ kO (F := F) c (Ring.sl 2 (k.val - 1)) ∗ (∃ f : XO (F := F) c, ⌜RelO c XQ XK XV XA XW (Ring.bk 16 (k.val - 1)) ((gO (Ring.bk 16 (k.val - 1))).view.read (Elt F) f)⌝ ∗ hO c f (Ring.bk 16 (k.val - 1)))
    ∗ (∃ (f : Buf (Elt F) ((rU (Ring.sl 2 k.val)).view.loc (c : Thread nD τ))) (g : XU (F := F) c), ⌜RelU c XQ XK XV XA XW (Ring.bk 16 k.val) (yU c (Ring.sl 2 k.val) f)⌝ ∗ fU c (Ring.sl 2 k.val) (Ring.bk 16 k.val) f g) ∗ (∃ f, sU c (Ring.sl 2 (k.val - 1)) f) ∗ kU (F := F) c (Ring.sl 2 (k.val - 1)) ∗ (∃ f : XU (F := F) c, ⌜RelU c XQ XK XV XA XW (Ring.bk 16 (k.val - 1)) ((gU (Ring.bk 16 (k.val - 1))).view.read (Elt F) f)⌝ ∗ hU c f (Ring.bk 16 (k.val - 1)))
    ∗ scr c
    ∗ (∃ W, owes (c : Thread nD τ) 0 W))
set_option backward.proofsInPublic true in
set_option maxHeartbeats 4000000 in
theorem tripM (c : Dev nD) (XQ : XQ (F := F) c) (XK : XK (F := F) c) (XV : XV (F := F) c) (XA : XA (F := F) c) (XW : XW (F := F) c) (k : Fin k0_t1_loop.trips) (hr : k.val % 4 ≠ 0 ∧ k.val % 4 ≠ 3) :
    preM c XQ XK XV XA XW k ⊢ wp frame (wpE (defs₀ (F := F)) 𝒱₀ (c : Thread nD τ) none) Set.univ (tripProg (F := F) k)
      (fun x => iprop(⌜x = ⟨wf (k.val+1), wf (k.val+1), wf (k.val+1), wg (k.val+1), wf (k.val+1), wk (k.val+1), wk (k.val+1), wp' (k.val+1), wp' (k.val+1), wk (k.val+1), wk (k.val+1), wk (k.val+1), wb (k.val+1), wk (k.val+1), 1#32⟩⌝ ∗ postM c XQ XK XV XA XW k)) := by
    have hk : k.val < 16 := Nat.lt_of_lt_of_eq k.isLt trips16
    have hk15 : k.val < 15 := by omega
    have hk1 : 1 ≤ k.val := by omega
    have hc1 := cond1_pos k (by omega)
    have hc2 := cond2_pos k (by omega)
    have hc3 := cond3_pos k (by omega)
    have hc5 := cond5_pos k (by omega)
    have hc4 := cond4_neg k (by omega)
    have hc9 := cond9_neg k (by omega)
    have hc6 := cond6_pos k trivial
    have hc7 := cond7_pos k trivial
    have hc8 := cond8_pos k trivial
    have hc10 := cond10_pos k trivial
    have hc18 := cond18_pos k trivial
    have hc19 := cond19_pos k trivial
    have hc25 := cond25_pos k (by omega)
    have hc26 := cond26_pos k (by omega)
    have hh1 := chk1_ok k
    have hh2 := chk2_ok k
    have hh3 := chk3_ok k
    have hh4 := chk4_ok k
    have hh5 := chk5_ok k
    have hh6 := chk6_ok k
    have hh7 := chk7_ok k
    have hh8 := chk8_ok k
    have hcut := fun fQ fK fV fA fW fO fU => (midRun (F := F) c k (Scalar.addi (wG k) 0#32) fQ fK fV fA fW fO fU).2
    unfold midPre at hcut
    unfold preM
    iintro ⟨⟨%fQ, HFQ⟩, ⟨%jQ, HSQ⟩, HCQ, HBQ, ⟨%fK, HFK⟩, ⟨%jK, HSK⟩, HCK, HBK, ⟨%fV, HFV⟩, ⟨%jV, HSV⟩, HCV, HBV, ⟨%fW, HFW⟩, ⟨%jW, HSW⟩, HCW, HBW, ⟨%fA, %hfA, HSA⟩, ⟨%fO, HSO⟩, HCO, ⟨%jO, HBO⟩, ⟨%pO, %qO, %hpO, HPO⟩, ⟨%fU, HSU⟩, HCU, ⟨%jU, HBU⟩, ⟨%pU, %qU, %hpU, HPU⟩, Hscr, ⟨%W, HW⟩⟩
    unfold tripProg
    sl_exec
    sl_step
    isplitr
    · ipureintro
      obtain rfl : v502 = Scalar.select _ _ _ := by assumption
      clear * - hr
      simp only [PSigma.mk.injEq, heq_eq_eq]
      revert hr
      revert k
      decide +kernel
    unfold postM
    have hO : RelO c XQ XK XV XA XW (Ring.bk 16 k.val) (yO c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) fA (lW c XW (Ring.sl 2 k.val) (Ring.bk 16 k.val) fW) fO fU).1.1) := ⟨k, _, _, _, _, _, _, _, rfl, ⟨read_lQ c XQ _ _ _, read_lK c XK _ _ _, read_lV c XV _ _ _, hfA, read_lW c XW _ _ _⟩, rfl⟩
    have hpO' : RelO c XQ XK XV XA XW (Ring.bk 16 (k.val - 1)) ((gO (Ring.bk 16 (k.val - 1))).view.read (Elt F) (lO c (Ring.sl 2 (k.val - 1)) (Ring.bk 16 (k.val - 1)) pO qO)) := by rw [read_lO]; exact hpO
    have hU : RelU c XQ XK XV XA XW (Ring.bk 16 k.val) (yU c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) fA (lW c XW (Ring.sl 2 k.val) (Ring.bk 16 k.val) fW) fO fU).1.2) := ⟨k, _, _, _, _, _, _, _, rfl, ⟨read_lQ c XQ _ _ _, read_lK c XK _ _ _, read_lV c XV _ _ _, hfA, read_lW c XW _ _ _⟩, rfl⟩
    have hpU' : RelU c XQ XK XV XA XW (Ring.bk 16 (k.val - 1)) ((gU (Ring.bk 16 (k.val - 1))).view.read (Elt F) (lU c (Ring.sl 2 (k.val - 1)) (Ring.bk 16 (k.val - 1)) pU qU)) := by rw [read_lU]; exact hpU
    sl_close

end Cert.Proof.Attn
-- ==== Proof.TripP.lean ====
/-
  A trip that closes a batch, not the last. Its resources before and after, and its run.
-/
module

public import proofs.«01_k».proof.Proof.Pieces

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

def preP (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 k.val) (Ring.bk 16 k.val) f) ∗ (∃ f, sQ c (Ring.sl 2 (k.val + 1)) f) ∗ kQ (F := F) c (Ring.sl 2 (k.val + 1)) ∗ hQ c XQ (Ring.bk 16 (k.val + 1))
    ∗ (∃ f, fK c XK (Ring.sl 2 k.val) (Ring.bk 16 k.val) f) ∗ (∃ f, sK c (Ring.sl 2 (k.val + 1)) f) ∗ kK (F := F) c (Ring.sl 2 (k.val + 1)) ∗ hK c XK (Ring.bk 16 (k.val + 1))
    ∗ (∃ f, fV c XV (Ring.sl 2 k.val) (Ring.bk 16 k.val) f) ∗ (∃ f, sV c (Ring.sl 2 (k.val + 1)) f) ∗ kV (F := F) c (Ring.sl 2 (k.val + 1)) ∗ hV c XV (Ring.bk 16 (k.val + 1))
    ∗ (∃ f, fW c XW (Ring.sl 2 k.val) (Ring.bk 16 k.val) f) ∗ (∃ f, sW c (Ring.sl 2 (k.val + 1)) f) ∗ kW (F := F) c (Ring.sl 2 (k.val + 1)) ∗ hW c XW (Ring.bk 16 (k.val + 1))
    ∗ (∃ f : Buf (Elt F) ((rA (Ring.sl 2 (k.val / 4))).view.loc (c : Thread nD τ)), ⌜(rA (Ring.sl 2 (k.val / 4))).view.read (Elt F) f = yA c XA (Ring.bk 4 (k.val / 4))⌝ ∗ sA c (Ring.sl 2 (k.val / 4)) f) ∗ (∃ f, sA c (Ring.sl 2 (k.val / 4 + 1)) f) ∗ kA (F := F) c (Ring.sl 2 (k.val / 4 + 1)) ∗ hA c XA (Ring.bk 4 (k.val / 4 + 1))
    ∗ (∃ f, sO c (Ring.sl 2 k.val) f) ∗ kO (F := F) c (Ring.sl 2 k.val) ∗ (∃ f, hO c f (Ring.bk 16 k.val)) ∗ (∃ (f : Buf (Elt F) ((rO (Ring.sl 2 (k.val - 1))).view.loc (c : Thread nD τ))) (g : XO (F := F) c), ⌜RelO c XQ XK XV XA XW (Ring.bk 16 (k.val - 1)) (yO c (Ring.sl 2 (k.val - 1)) f)⌝ ∗ fO c (Ring.sl 2 (k.val - 1)) (Ring.bk 16 (k.val - 1)) f g)
    ∗ (∃ f, sU c (Ring.sl 2 k.val) f) ∗ kU (F := F) c (Ring.sl 2 k.val) ∗ (∃ f, hU c f (Ring.bk 16 k.val)) ∗ (∃ (f : Buf (Elt F) ((rU (Ring.sl 2 (k.val - 1))).view.loc (c : Thread nD τ))) (g : XU (F := F) c), ⌜RelU c XQ XK XV XA XW (Ring.bk 16 (k.val - 1)) (yU c (Ring.sl 2 (k.val - 1)) f)⌝ ∗ fU c (Ring.sl 2 (k.val - 1)) (Ring.bk 16 (k.val - 1)) f g)
    ∗ scr c
    ∗ (∃ W, owes (c : Thread nD τ) 0 W))
def postP (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 (k.val + 1)) (Ring.bk 16 (k.val + 1)) f) ∗ (∃ f, sQ c (Ring.sl 2 k.val) f) ∗ kQ (F := F) c (Ring.sl 2 k.val) ∗ hQ c XQ (Ring.bk 16 k.val)
    ∗ (∃ f, fK c XK (Ring.sl 2 (k.val + 1)) (Ring.bk 16 (k.val + 1)) f) ∗ (∃ f, sK c (Ring.sl 2 k.val) f) ∗ kK (F := F) c (Ring.sl 2 k.val) ∗ hK c XK (Ring.bk 16 k.val)
    ∗ (∃ f, fV c XV (Ring.sl 2 (k.val + 1)) (Ring.bk 16 (k.val + 1)) f) ∗ (∃ f, sV c (Ring.sl 2 k.val) f) ∗ kV (F := F) c (Ring.sl 2 k.val) ∗ hV c XV (Ring.bk 16 k.val)
    ∗ (∃ f, fW c XW (Ring.sl 2 (k.val + 1)) (Ring.bk 16 (k.val + 1)) f) ∗ (∃ f, sW c (Ring.sl 2 k.val) f) ∗ kW (F := F) c (Ring.sl 2 k.val) ∗ hW c XW (Ring.bk 16 k.val)
    ∗ (∃ f, fA c XA (Ring.sl 2 (k.val / 4 + 1)) (Ring.bk 4 (k.val / 4 + 1)) f) ∗ (∃ f, sA c (Ring.sl 2 (k.val / 4)) f)
    ∗ (∃ (f : Buf (Elt F) ((rO (Ring.sl 2 k.val)).view.loc (c : Thread nD τ))) (g : XO (F := F) c), ⌜RelO c XQ XK XV XA XW (Ring.bk 16 k.val) (yO c (Ring.sl 2 k.val) f)⌝ ∗ fO c (Ring.sl 2 k.val) (Ring.bk 16 k.val) f g) ∗ (∃ f, sO c (Ring.sl 2 (k.val - 1)) f) ∗ kO (F := F) c (Ring.sl 2 (k.val - 1)) ∗ (∃ f : XO (F := F) c, ⌜RelO c XQ XK XV XA XW (Ring.bk 16 (k.val - 1)) ((gO (Ring.bk 16 (k.val - 1))).view.read (Elt F) f)⌝ ∗ hO c f (Ring.bk 16 (k.val - 1)))
    ∗ (∃ (f : Buf (Elt F) ((rU (Ring.sl 2 k.val)).view.loc (c : Thread nD τ))) (g : XU (F := F) c), ⌜RelU c XQ XK XV XA XW (Ring.bk 16 k.val) (yU c (Ring.sl 2 k.val) f)⌝ ∗ fU c (Ring.sl 2 k.val) (Ring.bk 16 k.val) f g) ∗ (∃ f, sU c (Ring.sl 2 (k.val - 1)) f) ∗ kU (F := F) c (Ring.sl 2 (k.val - 1)) ∗ (∃ f : XU (F := F) c, ⌜RelU c XQ XK XV XA XW (Ring.bk 16 (k.val - 1)) ((gU (Ring.bk 16 (k.val - 1))).view.read (Elt F) f)⌝ ∗ hU c f (Ring.bk 16 (k.val - 1)))
    ∗ scr c
    ∗ (∃ W, owes (c : Thread nD τ) 0 W))
set_option backward.proofsInPublic true in
set_option maxHeartbeats 4000000 in
theorem tripP (c : Dev nD) (XQ : XQ (F := F) c) (XK : XK (F := F) c) (XV : XV (F := F) c) (XA : XA (F := F) c) (XW : XW (F := F) c) (k : Fin k0_t1_loop.trips) (hr : k.val % 4 = 3 ∧ k.val < 15) :
    preP c XQ XK XV XA XW k ⊢ wp frame (wpE (defs₀ (F := F)) 𝒱₀ (c : Thread nD τ) none) Set.univ (tripProg (F := F) k)
      (fun x => iprop(⌜x = ⟨wf (k.val+1), wf (k.val+1), wf (k.val+1), wg (k.val+1), wf (k.val+1), wk (k.val+1), wk (k.val+1), wp' (k.val+1), wp' (k.val+1), wk (k.val+1), wk (k.val+1), wk (k.val+1), wb (k.val+1), wk (k.val+1), 1#32⟩⌝ ∗ postP c XQ XK XV XA XW k)) := by
    have hk : k.val < 16 := Nat.lt_of_lt_of_eq k.isLt trips16
    have hk15 : k.val < 15 := by omega
    have hk1 : 1 ≤ k.val := by omega
    have hk12 : k.val < 12 := by omega
    have hk3 : k.val % 4 = 3 := hr.1
    have hc1 := cond1_pos k (by omega)
    have hc2 := cond2_pos k (by omega)
    have hc3 := cond3_pos k (by omega)
    have hc5 := cond5_pos k (by omega)
    have hc4 := cond4_pos k (by omega)
    have hc9 := cond9_neg k (by omega)
    have hc6 := cond6_pos k trivial
    have hc7 := cond7_pos k trivial
    have hc8 := cond8_pos k trivial
    have hc10 := cond10_pos k trivial
    have hc18 := cond18_pos k trivial
    have hc19 := cond19_pos k trivial
    have hc25 := cond25_pos k (by omega)
    have hc26 := cond26_pos k (by omega)
    have hh1 := chk1_ok k
    have hh2 := chk2_ok k
    have hh3 := chk3_ok k
    have hh4 := chk4_ok k
    have hh5 := chk5_ok k
    have hh6 := chk6_ok k
    have hh7 := chk7_ok k
    have hh8 := chk8_ok k
    have hcut := fun fQ fK fV fA fW fO fU => (midRun (F := F) c k (Scalar.addi (wG k) 0#32) fQ fK fV fA fW fO fU).2
    unfold midPre at hcut
    unfold preP
    iintro ⟨⟨%fQ, HFQ⟩, ⟨%jQ, HSQ⟩, HCQ, HBQ, ⟨%fK, HFK⟩, ⟨%jK, HSK⟩, HCK, HBK, ⟨%fV, HFV⟩, ⟨%jV, HSV⟩, HCV, HBV, ⟨%fW, HFW⟩, ⟨%jW, HSW⟩, HCW, HBW, ⟨%fA, %hfA, HSA⟩, ⟨%jA, HGA⟩, HCA, HBA, ⟨%fO, HSO⟩, HCO, ⟨%jO, HBO⟩, ⟨%pO, %qO, %hpO, HPO⟩, ⟨%fU, HSU⟩, HCU, ⟨%jU, HBU⟩, ⟨%pU, %qU, %hpU, HPU⟩, Hscr, ⟨%W, HW⟩⟩
    unfold tripProg
    sl_exec
    sl_step
    isplitr
    · ipureintro
      obtain rfl : v502 = Scalar.select _ _ _ := by assumption
      clear * - hr
      simp only [PSigma.mk.injEq, heq_eq_eq]
      revert hr
      revert k
      decide +kernel
    unfold postP
    have hO : RelO c XQ XK XV XA XW (Ring.bk 16 k.val) (yO c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) fA (lW c XW (Ring.sl 2 k.val) (Ring.bk 16 k.val) fW) fO fU).1.1) := ⟨k, _, _, _, _, _, _, _, rfl, ⟨read_lQ c XQ _ _ _, read_lK c XK _ _ _, read_lV c XV _ _ _, hfA, read_lW c XW _ _ _⟩, rfl⟩
    have hpO' : RelO c XQ XK XV XA XW (Ring.bk 16 (k.val - 1)) ((gO (Ring.bk 16 (k.val - 1))).view.read (Elt F) (lO c (Ring.sl 2 (k.val - 1)) (Ring.bk 16 (k.val - 1)) pO qO)) := by rw [read_lO]; exact hpO
    have hU : RelU c XQ XK XV XA XW (Ring.bk 16 k.val) (yU c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) fA (lW c XW (Ring.sl 2 k.val) (Ring.bk 16 k.val) fW) fO fU).1.2) := ⟨k, _, _, _, _, _, _, _, rfl, ⟨read_lQ c XQ _ _ _, read_lK c XK _ _ _, read_lV c XV _ _ _, hfA, read_lW c XW _ _ _⟩, rfl⟩
    have hpU' : RelU c XQ XK XV XA XW (Ring.bk 16 (k.val - 1)) ((gU (Ring.bk 16 (k.val - 1))).view.read (Elt F) (lU c (Ring.sl 2 (k.val - 1)) (Ring.bk 16 (k.val - 1)) pU qU)) := by rw [read_lU]; exact hpU
    sl_close

end Cert.Proof.Attn
-- ==== Proof.TripL.lean ====
/-
  The last trip. Its resources before and after, and its run.
-/
module

public import proofs.«01_k».proof.Proof.Pieces

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

def preL (c : Dev nD) (XQ : XQ (F := F) c) (XK : XK (F := F) c) (XV : XV (F := F) c) (XA : XA (F := F) c) (XW : XW (F := F) c) (k : Fin k0_t1_loop.trips) : sProp 𝕄 :=
  iprop((∃ f, fQ c XQ (Ring.sl 2 k.val) (Ring.bk 16 k.val) f)
    ∗ (∃ f, fK c XK (Ring.sl 2 k.val) (Ring.bk 16 k.val) f)
    ∗ (∃ f, fV c XV (Ring.sl 2 k.val) (Ring.bk 16 k.val) f)
    ∗ (∃ f, fW c XW (Ring.sl 2 k.val) (Ring.bk 16 k.val) f)
    ∗ (∃ f : Buf (Elt F) ((rA (Ring.sl 2 (k.val / 4))).view.loc (c : Thread nD τ)), ⌜(rA (Ring.sl 2 (k.val / 4))).view.read (Elt F) f = yA c XA (Ring.bk 4 (k.val / 4))⌝ ∗ sA c (Ring.sl 2 (k.val / 4)) f)
    ∗ (∃ f, sO c (Ring.sl 2 k.val) f) ∗ kO (F := F) c (Ring.sl 2 k.val) ∗ (∃ f, hO c f (Ring.bk 16 k.val)) ∗ (∃ (f : Buf (Elt F) ((rO (Ring.sl 2 (k.val - 1))).view.loc (c : Thread nD τ))) (g : XO (F := F) c), ⌜RelO c XQ XK XV XA XW (Ring.bk 16 (k.val - 1)) (yO c (Ring.sl 2 (k.val - 1)) f)⌝ ∗ fO c (Ring.sl 2 (k.val - 1)) (Ring.bk 16 (k.val - 1)) f g)
    ∗ (∃ f, sU c (Ring.sl 2 k.val) f) ∗ kU (F := F) c (Ring.sl 2 k.val) ∗ (∃ f, hU c f (Ring.bk 16 k.val)) ∗ (∃ (f : Buf (Elt F) ((rU (Ring.sl 2 (k.val - 1))).view.loc (c : Thread nD τ))) (g : XU (F := F) c), ⌜RelU c XQ XK XV XA XW (Ring.bk 16 (k.val - 1)) (yU c (Ring.sl 2 (k.val - 1)) f)⌝ ∗ fU c (Ring.sl 2 (k.val - 1)) (Ring.bk 16 (k.val - 1)) f g)
    ∗ scr c
    ∗ (∃ W, owes (c : Thread nD τ) 0 W))
def postL (c : Dev nD) (XQ : XQ (F := F) c) (XK : XK (F := F) c) (XV : XV (F := F) c) (XA : XA (F := F) c) (XW : XW (F := F) c) (k : Fin k0_t1_loop.trips) : sProp 𝕄 :=
  iprop((∃ f, sQ c (Ring.sl 2 k.val) f) ∗ kQ (F := F) c (Ring.sl 2 k.val) ∗ hQ c XQ (Ring.bk 16 k.val)
    ∗ (∃ f, sK c (Ring.sl 2 k.val) f) ∗ kK (F := F) c (Ring.sl 2 k.val) ∗ hK c XK (Ring.bk 16 k.val)
    ∗ (∃ f, sV c (Ring.sl 2 k.val) f) ∗ kV (F := F) c (Ring.sl 2 k.val) ∗ hV c XV (Ring.bk 16 k.val)
    ∗ (∃ f, sW c (Ring.sl 2 k.val) f) ∗ kW (F := F) c (Ring.sl 2 k.val) ∗ hW c XW (Ring.bk 16 k.val)
    ∗ (∃ f : Buf (Elt F) ((rA (Ring.sl 2 (k.val / 4))).view.loc (c : Thread nD τ)), ⌜(rA (Ring.sl 2 (k.val / 4))).view.read (Elt F) f = yA c XA (Ring.bk 4 (k.val / 4))⌝ ∗ sA c (Ring.sl 2 (k.val / 4)) f)
    ∗ (∃ (f : Buf (Elt F) ((rO (Ring.sl 2 k.val)).view.loc (c : Thread nD τ))) (g : XO (F := F) c), ⌜RelO c XQ XK XV XA XW (Ring.bk 16 k.val) (yO c (Ring.sl 2 k.val) f)⌝ ∗ fO c (Ring.sl 2 k.val) (Ring.bk 16 k.val) f g) ∗ (∃ f, sO c (Ring.sl 2 (k.val - 1)) f) ∗ kO (F := F) c (Ring.sl 2 (k.val - 1)) ∗ (∃ f : XO (F := F) c, ⌜RelO c XQ XK XV XA XW (Ring.bk 16 (k.val - 1)) ((gO (Ring.bk 16 (k.val - 1))).view.read (Elt F) f)⌝ ∗ hO c f (Ring.bk 16 (k.val - 1)))
    ∗ (∃ (f : Buf (Elt F) ((rU (Ring.sl 2 k.val)).view.loc (c : Thread nD τ))) (g : XU (F := F) c), ⌜RelU c XQ XK XV XA XW (Ring.bk 16 k.val) (yU c (Ring.sl 2 k.val) f)⌝ ∗ fU c (Ring.sl 2 k.val) (Ring.bk 16 k.val) f g) ∗ (∃ f, sU c (Ring.sl 2 (k.val - 1)) f) ∗ kU (F := F) c (Ring.sl 2 (k.val - 1)) ∗ (∃ f : XU (F := F) c, ⌜RelU c XQ XK XV XA XW (Ring.bk 16 (k.val - 1)) ((gU (Ring.bk 16 (k.val - 1))).view.read (Elt F) f)⌝ ∗ hU c f (Ring.bk 16 (k.val - 1)))
    ∗ scr c
    ∗ (∃ W, owes (c : Thread nD τ) 0 W))
set_option backward.proofsInPublic true in
set_option maxHeartbeats 4000000 in
theorem tripL (c : Dev nD) (XQ : XQ (F := F) c) (XK : XK (F := F) c) (XV : XV (F := F) c) (XA : XA (F := F) c) (XW : XW (F := F) c) (k : Fin k0_t1_loop.trips) (hr : k.val = 15) :
    preL c XQ XK XV XA XW k ⊢ wp frame (wpE (defs₀ (F := F)) 𝒱₀ (c : Thread nD τ) none) Set.univ (tripProg (F := F) k)
      (fun x => iprop(⌜x = ⟨wf (k.val+1), wf (k.val+1), wf (k.val+1), wg (k.val+1), wf (k.val+1), wk (k.val+1), wk (k.val+1), wp' (k.val+1), wp' (k.val+1), wk (k.val+1), wk (k.val+1), wk (k.val+1), wb (k.val+1), wk (k.val+1), 1#32⟩⌝ ∗ postL c XQ XK XV XA XW k)) := by
    have hk : k.val < 16 := Nat.lt_of_lt_of_eq k.isLt trips16
    have hk1 : 1 ≤ k.val := by omega
    have hc1 := cond1_neg k (by omega)
    have hc2 := cond2_neg k (by omega)
    have hc3 := cond3_neg k (by omega)
    have hc5 := cond5_neg k (by omega)
    have hc4 := cond4_neg k (by omega)
    have hc9 := cond9_neg k (by omega)
    have hc6 := cond6_pos k trivial
    have hc7 := cond7_pos k trivial
    have hc8 := cond8_pos k trivial
    have hc10 := cond10_pos k trivial
    have hc18 := cond18_pos k trivial
    have hc19 := cond19_pos k trivial
    have hc25 := cond25_pos k (by omega)
    have hc26 := cond26_pos k (by omega)
    have hh1 := chk1_ok k
    have hh2 := chk2_ok k
    have hh3 := chk3_ok k
    have hh4 := chk4_ok k
    have hh5 := chk5_ok k
    have hh6 := chk6_ok k
    have hh7 := chk7_ok k
    have hh8 := chk8_ok k
    have hcut := fun fQ fK fV fA fW fO fU => (midRun (F := F) c k (Scalar.addi (wG k) 0#32) fQ fK fV fA fW fO fU).2
    unfold midPre at hcut
    unfold preL
    iintro ⟨⟨%fQ, HFQ⟩, ⟨%fK, HFK⟩, ⟨%fV, HFV⟩, ⟨%fW, HFW⟩, ⟨%fA, %hfA, HSA⟩, ⟨%fO, HSO⟩, HCO, ⟨%jO, HBO⟩, ⟨%pO, %qO, %hpO, HPO⟩, ⟨%fU, HSU⟩, HCU, ⟨%jU, HBU⟩, ⟨%pU, %qU, %hpU, HPU⟩, Hscr, ⟨%W, HW⟩⟩
    unfold tripProg
    sl_exec
    sl_step
    isplitr
    · ipureintro
      obtain rfl : v502 = Scalar.select _ _ _ := by assumption
      clear * - hr
      simp only [PSigma.mk.injEq, heq_eq_eq]
      revert hr
      revert k
      decide +kernel
    unfold postL
    have hO : RelO c XQ XK XV XA XW (Ring.bk 16 k.val) (yO c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) fA (lW c XW (Ring.sl 2 k.val) (Ring.bk 16 k.val) fW) fO fU).1.1) := ⟨k, _, _, _, _, _, _, _, rfl, ⟨read_lQ c XQ _ _ _, read_lK c XK _ _ _, read_lV c XV _ _ _, hfA, read_lW c XW _ _ _⟩, rfl⟩
    have hpO' : RelO c XQ XK XV XA XW (Ring.bk 16 (k.val - 1)) ((gO (Ring.bk 16 (k.val - 1))).view.read (Elt F) (lO c (Ring.sl 2 (k.val - 1)) (Ring.bk 16 (k.val - 1)) pO qO)) := by rw [read_lO]; exact hpO
    have hU : RelU c XQ XK XV XA XW (Ring.bk 16 k.val) (yU c (Ring.sl 2 k.val) (midRun (F := F) c k (Scalar.addi (wG k) 0#32) (lQ c XQ (Ring.sl 2 k.val) (Ring.bk 16 k.val) fQ) (lK c XK (Ring.sl 2 k.val) (Ring.bk 16 k.val) fK) (lV c XV (Ring.sl 2 k.val) (Ring.bk 16 k.val) fV) fA (lW c XW (Ring.sl 2 k.val) (Ring.bk 16 k.val) fW) fO fU).1.2) := ⟨k, _, _, _, _, _, _, _, rfl, ⟨read_lQ c XQ _ _ _, read_lK c XK _ _ _, read_lV c XV _ _ _, hfA, read_lW c XW _ _ _⟩, rfl⟩
    have hpU' : RelU c XQ XK XV XA XW (Ring.bk 16 (k.val - 1)) ((gU (Ring.bk 16 (k.val - 1))).view.read (Elt F) (lU c (Ring.sl 2 (k.val - 1)) (Ring.bk 16 (k.val - 1)) pU qU)) := by rw [read_lU]; exact hpU
    sl_close

end Cert.Proof.Attn
-- ==== Proof.RingRes.lean ====
/-
  The resources of a ring between trips, over any predicates for a slot in flight, a free slot, its cell and a block at
  home: `inR` for an input fetched every trip, `featR` for the one fetched once a batch, `outR` for an output.
-/
module

public import proofs.«01_k».proof.Proof.TripF
public import proofs.«01_k».proof.Proof.TripB
public import proofs.«01_k».proof.Proof.TripM
public import proofs.«01_k».proof.Proof.TripP
public import proofs.«01_k».proof.Proof.TripL

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Sets

theorem sl_two (k : ℕ) : Ring.sl 2 (k + 1 + 1) = Ring.sl 2 k := by rw [show k + 1 + 1 = k + 2 from rfl, Ring.sl_add]
theorem bk_ne {NB : ℕ} [NeZero NB] {a b : ℕ} (ha : a < NB) (hb : b < NB) (h : a ≠ b) : Ring.bk NB a ≠ Ring.bk NB b := by
  intro e; have := congrArg Fin.val e; rw [Ring.bk_val ha, Ring.bk_val hb] at this; exact h this
/-- The two slots, by their roles or by their numbers. -/
theorem slots_eq (P : Fin 2 → sProp 𝕄) (k : ℕ) : iprop(P (Ring.sl 2 k) ∗ P (Ring.sl 2 (k + 1))) ⊢ iprop(P 0 ∗ P 1) := by
  rcases Nat.mod_two_eq_zero_or_one k with h | h
  · have e0 : Ring.sl 2 k = 0 := Fin.ext (by simp [Ring.sl, Fin.ofNat, h])
    have e1 : Ring.sl 2 (k + 1) = 1 := Fin.ext (by simp [Ring.sl, Fin.ofNat]; omega)
    rw [e0, e1]
  · have e0 : Ring.sl 2 k = 1 := Fin.ext (by simp [Ring.sl, Fin.ofNat, h])
    have e1 : Ring.sl 2 (k + 1) = 0 := Fin.ext (by simp [Ring.sl, Fin.ofNat]; omega)
    rw [e0, e1]; iintro ⟨H1, H0⟩; isplitl [H0] <;> iassumption

variable {NB : ℕ} [NeZero NB] (Ho : Fin NB → sProp (MT nD τ sig Unit (Elt F) ℕ (UU nD τ) ℕ))
theorem all_split (a : Fin NB) : bigSep Finset.univ Ho = iprop(Ho a ∗ bigSep (Finset.univ.erase a) Ho) := by
  conv_lhs => rw [← Finset.insert_erase (Finset.mem_univ a), bigSep_insert (Finset.notMem_erase _ _)]
  rfl
theorem rest_split {a b : Fin NB} (h : a ≠ b) :
    bigSep (Finset.univ.erase a) Ho = iprop(Ho b ∗ bigSep ((Finset.univ.erase a).erase b) Ho) := by
  conv_lhs => rw [← Finset.insert_erase (Finset.mem_erase.mpr ⟨h.symm, Finset.mem_univ b⟩), bigSep_insert (Finset.notMem_erase _ _)]
  rfl
theorem raw_split (k : ℕ) (hk : k < NB) :
    bigSep (Finset.univ.filter fun b : Fin NB => k ≤ b.val) Ho
      = iprop(Ho (Ring.bk NB k) ∗ bigSep (Finset.univ.filter fun b : Fin NB => k + 1 ≤ b.val) Ho) := by
  have e : (Finset.univ.filter fun b : Fin NB => k ≤ b.val) = insert (Ring.bk NB k) (Finset.univ.filter fun b : Fin NB => k + 1 ≤ b.val) := by
    ext b; simp only [Finset.mem_filter, Finset.mem_univ, true_and, Finset.mem_insert, Fin.ext_iff, Ring.bk_val hk]; omega
  rw [e, bigSep_insert (by simp only [Finset.mem_filter, Finset.mem_univ, true_and, Ring.bk_val hk]; omega)]; rfl
theorem done_join (k : ℕ) (h1 : 1 ≤ k) (hk : k ≤ NB) :
    bigSep (Finset.univ.filter fun b : Fin NB => b.val + 1 < k + 1) Ho
      = iprop(Ho (Ring.bk NB (k - 1)) ∗ bigSep (Finset.univ.filter fun b : Fin NB => b.val + 1 < k) Ho) := by
  have hk' : k - 1 < NB := by omega
  have e : (Finset.univ.filter fun b : Fin NB => b.val + 1 < k + 1) = insert (Ring.bk NB (k - 1)) (Finset.univ.filter fun b : Fin NB => b.val + 1 < k) := by
    ext b; simp only [Finset.mem_filter, Finset.mem_univ, true_and, Finset.mem_insert, Fin.ext_iff, Ring.bk_val hk']; omega
  rw [e, bigSep_insert (by simp only [Finset.mem_filter, Finset.mem_univ, true_and, Ring.bk_val hk']; omega)]; rfl
end Sets

section Rings
variable (Fl : Fin 2 → Fin 16 → sProp (MT nD τ sig Unit (Elt F) ℕ (UU nD τ) ℕ)) (Sl Ce : Fin 2 → sProp (MT nD τ sig Unit (Elt F) ℕ (UU nD τ) ℕ)) (Ho Raw : Fin 16 → sProp (MT nD τ sig Unit (Elt F) ℕ (UU nD τ) ℕ))

/-- An input fetched every trip, before trip `k`. -/
def inR (k : ℕ) : sProp 𝕄 :=
  if k < 16 then iprop(Fl (Ring.sl 2 k) (Ring.bk 16 k) ∗ Sl (Ring.sl 2 (k + 1)) ∗ Ce (Ring.sl 2 (k + 1)) ∗ bigSep (Finset.univ.erase (Ring.bk 16 k)) Ho)
  else iprop((Sl 0 ∗ Sl 1) ∗ (Ce 0 ∗ Ce 1) ∗ bigSep Finset.univ Ho)
theorem inR_open (k : ℕ) (hk : k < 15) : inR Fl Sl Ce Ho k ⊢ iprop(Fl (Ring.sl 2 k) (Ring.bk 16 k) ∗ Sl (Ring.sl 2 (k + 1)) ∗ Ce (Ring.sl 2 (k + 1)) ∗ Ho (Ring.bk 16 (k + 1)) ∗ bigSep ((Finset.univ.erase (Ring.bk 16 k)).erase (Ring.bk 16 (k + 1))) Ho) := by
  unfold inR
  rw [if_pos (by omega), rest_split Ho (bk_ne (show k < 16 by omega) (show k + 1 < 16 by omega) (by omega))]
theorem inR_close (k : ℕ) (hk : k < 15) : iprop(Fl (Ring.sl 2 (k + 1)) (Ring.bk 16 (k + 1)) ∗ Sl (Ring.sl 2 k) ∗ Ce (Ring.sl 2 k) ∗ Ho (Ring.bk 16 k) ∗ bigSep ((Finset.univ.erase (Ring.bk 16 k)).erase (Ring.bk 16 (k + 1))) Ho) ⊢ inR Fl Sl Ce Ho (k + 1) := by
  unfold inR
  rw [if_pos (by omega), rest_split Ho (bk_ne (show k + 1 < 16 by omega) (show k < 16 by omega) (by omega)), sl_two, Finset.erase_right_comm]
theorem inR_openL (k : ℕ) (hk : k = 15) : inR Fl Sl Ce Ho k ⊢ iprop(Fl (Ring.sl 2 k) (Ring.bk 16 k) ∗ Sl (Ring.sl 2 (k + 1)) ∗ Ce (Ring.sl 2 (k + 1)) ∗ bigSep (Finset.univ.erase (Ring.bk 16 k)) Ho) := by
  unfold inR; rw [if_pos (by omega)]
theorem inR_closeL (k : ℕ) (hk : k = 15) : iprop(Sl (Ring.sl 2 k) ∗ Ce (Ring.sl 2 k) ∗ Ho (Ring.bk 16 k) ∗ Sl (Ring.sl 2 (k + 1)) ∗ Ce (Ring.sl 2 (k + 1)) ∗ bigSep (Finset.univ.erase (Ring.bk 16 k)) Ho) ⊢ inR Fl Sl Ce Ho (k + 1) := by
  unfold inR
  rw [if_neg (by omega), all_split Ho (Ring.bk 16 k)]
  iintro ⟨H1, H2, H3, H4, H5, H6⟩
  isplitl [H1 H4]
  · iapply (slots_eq Sl k); isplitl [H1]; · iexact H1
    iexact H4
  isplitl [H2 H5]
  · iapply (slots_eq Ce k); isplitl [H2]; · iexact H2
    iexact H5
  isplitl [H3]; · iexact H3
  iexact H6

/-- An output, before trip `k`. -/
def outR (k : ℕ) : sProp 𝕄 :=
  if k = 0 then iprop((Sl 0 ∗ Sl 1) ∗ (Ce 0 ∗ Ce 1) ∗ bigSep Finset.univ Raw)
  else iprop(Fl (Ring.sl 2 (k - 1)) (Ring.bk 16 (k - 1)) ∗ Sl (Ring.sl 2 k) ∗ Ce (Ring.sl 2 k)
    ∗ bigSep (Finset.univ.filter fun b : Fin 16 => b.val + 1 < k) Ho ∗ bigSep (Finset.univ.filter fun b : Fin 16 => k ≤ b.val) Raw)
theorem outR_open (k : ℕ) (h1 : 1 ≤ k) (hk : k < 16) : outR Fl Sl Ce Ho Raw k ⊢ iprop(Sl (Ring.sl 2 k) ∗ Ce (Ring.sl 2 k) ∗ Raw (Ring.bk 16 k) ∗ Fl (Ring.sl 2 (k - 1)) (Ring.bk 16 (k - 1))
    ∗ bigSep (Finset.univ.filter fun b : Fin 16 => b.val + 1 < k) Ho ∗ bigSep (Finset.univ.filter fun b : Fin 16 => k + 1 ≤ b.val) Raw) := by
  unfold outR
  rw [if_neg (by omega), raw_split Raw k hk]
  iintro ⟨H1, H2, H3, H4, H5, H6⟩
  isplitl [H2]; · iexact H2
  isplitl [H3]; · iexact H3
  isplitl [H5]; · iexact H5
  isplitl [H1]; · iexact H1
  isplitl [H4]; · iexact H4
  iexact H6
theorem outR_close (k : ℕ) (h1 : 1 ≤ k) (hk : k < 16) : iprop(Fl (Ring.sl 2 k) (Ring.bk 16 k) ∗ Sl (Ring.sl 2 (k - 1)) ∗ Ce (Ring.sl 2 (k - 1)) ∗ Ho (Ring.bk 16 (k - 1))
    ∗ bigSep (Finset.univ.filter fun b : Fin 16 => b.val + 1 < k) Ho ∗ bigSep (Finset.univ.filter fun b : Fin 16 => k + 1 ≤ b.val) Raw) ⊢ outR Fl Sl Ce Ho Raw (k + 1) := by
  have e : Ring.sl 2 (k + 1) = Ring.sl 2 (k - 1) := by conv_lhs => rw [show k + 1 = (k - 1) + 1 + 1 by omega, sl_two]
  unfold outR
  rw [if_neg (by omega), done_join Ho k h1 (by omega), e, Nat.add_sub_cancel]
  iintro ⟨H1, H2, H3, H4, H5, H6⟩
  isplitl [H1]; · iexact H1
  isplitl [H2]; · iexact H2
  isplitl [H3]; · iexact H3
  isplitl [H4 H5]
  · isplitl [H4]; · iexact H4
    iexact H5
  iexact H6
theorem outR_openF (k : ℕ) (hk : k = 0) : outR Fl Sl Ce Ho Raw k ⊢ iprop(Sl (Ring.sl 2 k) ∗ Ce (Ring.sl 2 k) ∗ Raw (Ring.bk 16 k)
    ∗ Sl (Ring.sl 2 (k + 1)) ∗ Ce (Ring.sl 2 (k + 1)) ∗ bigSep (Finset.univ.filter fun b : Fin 16 => k + 1 ≤ b.val) Raw) := by
  subst hk
  have e : (Finset.univ : Finset (Fin 16)) = Finset.univ.filter fun b : Fin 16 => 0 ≤ b.val := by decide
  unfold outR
  rw [if_pos rfl, e, raw_split Raw 0 (by omega), show Ring.sl 2 0 = 0 from rfl, show Ring.sl 2 (0 + 1) = 1 from rfl]
  iintro ⟨⟨H1, H2⟩, ⟨H3, H4⟩, H5, H6⟩
  isplitl [H1]; · iexact H1
  isplitl [H3]; · iexact H3
  isplitl [H5]; · iexact H5
  isplitl [H2]; · iexact H2
  isplitl [H4]; · iexact H4
  iexact H6
theorem outR_closeF (k : ℕ) (hk : k = 0) : iprop(Fl (Ring.sl 2 k) (Ring.bk 16 k)
    ∗ Sl (Ring.sl 2 (k + 1)) ∗ Ce (Ring.sl 2 (k + 1)) ∗ bigSep (Finset.univ.filter fun b : Fin 16 => k + 1 ≤ b.val) Raw) ⊢ outR Fl Sl Ce Ho Raw (k + 1) := by
  subst hk
  have e : (Finset.univ.filter fun b : Fin 16 => b.val + 1 < 0 + 1) = ∅ := by decide
  unfold outR
  rw [if_neg (by omega), e, bigSep_empty]
  iintro ⟨H1, H2, H3, H4⟩
  isplitl [H1]; · iexact H1
  isplitl [H2]; · iexact H2
  isplitl [H3]; · iexact H3
  isplitr; · iempintro
  iexact H4
/-- After the last output is waited for. -/
theorem outR_all : iprop(Ho (Ring.bk 16 15) ∗ bigSep (Finset.univ.filter fun b : Fin 16 => b.val + 1 < 16) Ho) ⊢ bigSep Finset.univ Ho := by
  have h := done_join Ho 16 (by omega) (by omega)
  have e : (Finset.univ : Finset (Fin 16)) = Finset.univ.filter fun b : Fin 16 => b.val + 1 < 16 + 1 := by decide
  have e' : bigSep Finset.univ Ho = bigSep (Finset.univ.filter fun b : Fin 16 => b.val + 1 < 16 + 1) Ho := congrArg (fun S => bigSep S Ho) e
  exact (h.symm.trans e'.symm) ▸ .rfl
end Rings

section Feat
variable (Fl : Fin 2 → Fin 4 → sProp (MT nD τ sig Unit (Elt F) ℕ (UU nD τ) ℕ)) (He : Fin 2 → Fin 4 → sProp (MT nD τ sig Unit (Elt F) ℕ (UU nD τ) ℕ)) (Sl Ce : Fin 2 → sProp (MT nD τ sig Unit (Elt F) ℕ (UU nD τ) ℕ)) (Ho : Fin 4 → sProp (MT nD τ sig Unit (Elt F) ℕ (UU nD τ) ℕ))
/-- The input fetched once a batch, before trip `k`. -/
def featR (k : ℕ) : sProp 𝕄 :=
  if k < 16 then
    if k % 4 = 0 then iprop(Fl (Ring.sl 2 (k / 4)) (Ring.bk 4 (k / 4)) ∗ Sl (Ring.sl 2 (k / 4 + 1)) ∗ Ce (Ring.sl 2 (k / 4 + 1)) ∗ bigSep (Finset.univ.erase (Ring.bk 4 (k / 4))) Ho)
    else iprop(He (Ring.sl 2 (k / 4)) (Ring.bk 4 (k / 4)) ∗ Ce (Ring.sl 2 (k / 4)) ∗ Sl (Ring.sl 2 (k / 4 + 1)) ∗ Ce (Ring.sl 2 (k / 4 + 1)) ∗ bigSep Finset.univ Ho)
  else iprop((Sl 0 ∗ Sl 1) ∗ (Ce 0 ∗ Ce 1) ∗ bigSep Finset.univ Ho)
theorem featR_openW (k : ℕ) (hk : k < 16) (h : k % 4 = 0) : featR Fl He Sl Ce Ho k ⊢ iprop(Fl (Ring.sl 2 (k / 4)) (Ring.bk 4 (k / 4)) ∗ Sl (Ring.sl 2 (k / 4 + 1)) ∗ Ce (Ring.sl 2 (k / 4 + 1)) ∗ bigSep (Finset.univ.erase (Ring.bk 4 (k / 4))) Ho) := by
  unfold featR; rw [if_pos hk, if_pos h]
theorem featR_closeW (k : ℕ) (hk : k < 16) (h : k % 4 = 0) : iprop(He (Ring.sl 2 (k / 4)) (Ring.bk 4 (k / 4)) ∗ Ce (Ring.sl 2 (k / 4)) ∗ Ho (Ring.bk 4 (k / 4)) ∗ Sl (Ring.sl 2 (k / 4 + 1)) ∗ Ce (Ring.sl 2 (k / 4 + 1)) ∗ bigSep (Finset.univ.erase (Ring.bk 4 (k / 4))) Ho) ⊢ featR Fl He Sl Ce Ho (k + 1) := by
  unfold featR
  rw [if_pos (by omega), if_neg (by omega), show (k + 1) / 4 = k / 4 by omega, all_split Ho (Ring.bk 4 (k / 4))]
  iintro ⟨H1, H2, H3, H4, H5, H6⟩
  isplitl [H1]; · iexact H1
  isplitl [H2]; · iexact H2
  isplitl [H4]; · iexact H4
  isplitl [H5]; · iexact H5
  isplitl [H3]; · iexact H3
  iexact H6
theorem featR_openH (k : ℕ) (hk : k < 16) (h : k % 4 ≠ 0) : featR Fl He Sl Ce Ho k ⊢ iprop(He (Ring.sl 2 (k / 4)) (Ring.bk 4 (k / 4)) ∗ Ce (Ring.sl 2 (k / 4)) ∗ Sl (Ring.sl 2 (k / 4 + 1)) ∗ Ce (Ring.sl 2 (k / 4 + 1)) ∗ bigSep Finset.univ Ho) := by
  unfold featR; rw [if_pos hk, if_neg h]
theorem featR_closeM (k : ℕ) (hk : k < 16) (h : k % 4 ≠ 0 ∧ k % 4 ≠ 3) : iprop(He (Ring.sl 2 (k / 4)) (Ring.bk 4 (k / 4)) ∗ Ce (Ring.sl 2 (k / 4)) ∗ Sl (Ring.sl 2 (k / 4 + 1)) ∗ Ce (Ring.sl 2 (k / 4 + 1)) ∗ bigSep Finset.univ Ho) ⊢ featR Fl He Sl Ce Ho (k + 1) := by
  unfold featR
  rw [if_pos (by omega), if_neg (by omega), show (k + 1) / 4 = k / 4 by omega]
theorem featR_openP (k : ℕ) (h : k % 4 = 3 ∧ k < 15) : featR Fl He Sl Ce Ho k ⊢ iprop(He (Ring.sl 2 (k / 4)) (Ring.bk 4 (k / 4)) ∗ Sl (Ring.sl 2 (k / 4 + 1)) ∗ Ce (Ring.sl 2 (k / 4 + 1)) ∗ Ho (Ring.bk 4 (k / 4 + 1)) ∗ Ce (Ring.sl 2 (k / 4)) ∗ bigSep (Finset.univ.erase (Ring.bk 4 (k / 4 + 1))) Ho) := by
  unfold featR
  rw [if_pos (by omega), if_neg (by omega), all_split Ho (Ring.bk 4 (k / 4 + 1))]
  iintro ⟨H1, H2, H3, H4, H5, H6⟩
  isplitl [H1]; · iexact H1
  isplitl [H3]; · iexact H3
  isplitl [H4]; · iexact H4
  isplitl [H5]; · iexact H5
  isplitl [H2]; · iexact H2
  iexact H6
theorem featR_closeP (k : ℕ) (h : k % 4 = 3 ∧ k < 15) : iprop(Fl (Ring.sl 2 (k / 4 + 1)) (Ring.bk 4 (k / 4 + 1)) ∗ Sl (Ring.sl 2 (k / 4)) ∗ Ce (Ring.sl 2 (k / 4)) ∗ bigSep (Finset.univ.erase (Ring.bk 4 (k / 4 + 1))) Ho) ⊢ featR Fl He Sl Ce Ho (k + 1) := by
  unfold featR
  rw [if_pos (by omega), if_pos (by omega), show (k + 1) / 4 = k / 4 + 1 by omega, sl_two]
theorem featR_closeL (hw : ∀ s b, He s b ⊢ Sl s) (k : ℕ) (h : k = 15) : iprop(He (Ring.sl 2 (k / 4)) (Ring.bk 4 (k / 4)) ∗ Ce (Ring.sl 2 (k / 4)) ∗ Sl (Ring.sl 2 (k / 4 + 1)) ∗ Ce (Ring.sl 2 (k / 4 + 1)) ∗ bigSep Finset.univ Ho) ⊢ featR Fl He Sl Ce Ho (k + 1) := by
  unfold featR
  rw [if_neg (by omega)]
  iintro ⟨H1, H2, H3, H4, H5⟩
  isplitl [H1 H3]
  · iapply (slots_eq Sl (k / 4)); isplitl [H1]
    · iapply (hw _ (Ring.bk 4 (k / 4))); iexact H1
    iexact H3
  isplitl [H2 H4]
  · iapply (slots_eq Ce (k / 4)); isplitl [H2]; · iexact H2
    iexact H4
  iexact H5
end Feat

end Cert.Proof.Attn
-- ==== Proof.Inv.lean ====
/-
  The loop's invariant: the rings, the scratch buffers and the carried words before trip `k`, and one trip taking it to
  the next.
-/
module

public import proofs.«01_k».proof.Proof.RingRes

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The carried words before trip `k`. -/
def cw (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wf k, wk k, wf k, wk k, wf k, wk k, wg k, wb k, wf k, wk k, wk k, wp' k, wk k, wp' k, wB k, wG k)
/-- What a trip returns. -/
abbrev tw (k : ℕ) : Σ' (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32), BitVec 32 :=
  ⟨wf (k+1), wf (k+1), wf (k+1), wg (k+1), wf (k+1), wk (k+1), wk (k+1), wp' (k+1), wp' (k+1), wk (k+1), wk (k+1), wk (k+1), wb (k+1), wk (k+1), 1#32⟩

/-- The next carried words from the present ones and what a trip returns. -/
def nxt (k : ℕ) : (Σ' (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32) (_ : BitVec 32), BitVec 32) → BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  fun ⟨a0, a1, a2, a3, a4, a5, a6, a7, a8, a9, a10, a11, a12, a13, a14⟩ =>
    let b0 : BitVec 32 := Scalar.addi (wG k) a14
    let b1 : BitVec 32 := Scalar.select 1#1 b0 (wG k)
    let b2 : BitVec 1 := Scalar.cmpi .eq b1 4#32
    let b3 : BitVec 32 := Scalar.select b2 0#32 b1
    let b4 : BitVec 32 := Scalar.addi (wB k) 1#32
    let b5 : BitVec 32 := Scalar.select b2 b4 (wB k)
    let b6 : BitVec 1 := Scalar.cmpi .eq b5 4#32
    let b7 : BitVec 32 := Scalar.select b6 0#32 b5
    (a0, a9, a1, a10, a2, a11, a3, a12, a4, a13, a5, a7, a6, a8, b7, b3)
theorem nxt_eq : ∀ k : Fin k0_t1_loop.trips, nxt k.val (tw k.val) = cw (k.val + 1) := by
  have h : ∀ k : Fin k0_t1_loop.trips, (nxt k.val (tw k.val)).2.2.2.2.2.2.2.2.2.2.2.2.2.2 = (wB (k.val + 1), wG (k.val + 1)) := by decide +kernel
  intro k
  have e : nxt k.val (tw k.val) = (wf (k.val+1), wk (k.val+1), wf (k.val+1), wk (k.val+1), wf (k.val+1), wk (k.val+1), wg (k.val+1), wb (k.val+1), wf (k.val+1), wk (k.val+1), wk (k.val+1), wp' (k.val+1), wk (k.val+1), wp' (k.val+1), (nxt k.val (tw k.val)).2.2.2.2.2.2.2.2.2.2.2.2.2.2) := rfl
  rw [e, h k]; rfl

abbrev bodyG (v39 v46 v53 : BitVec 32) : Fin k0_t1_loop.trips → BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 → Prog (TpuEff nD τ sig (Elt F) Λ₀ .tc) (BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) :=
  k0_t1_body (F := F) (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 v39 v46 v53
theorem body_eq (v39 v46 v53 : BitVec 32) (k : Fin k0_t1_loop.trips) :
    bodyG (F := F) v39 v46 v53 k (cw k.val) = (tripProg (F := F) k >>= fun x => pure (nxt k.val x)) := by
  rw [← trip_eq]; rfl

section Step
variable (c : Dev nD)
/-- A trip, with what it does not touch beside it. -/
theorem bodyStep (v39 v46 v53 : BitVec 32) (k : Fin k0_t1_loop.trips) (P R Fr : sProp (MT nD τ sig Unit (Elt F) ℕ (UU nD τ) ℕ))
    (h : P ⊢ wp frame (wpE (defs₀ (F := F)) 𝒱₀ (c : Thread nD τ) none) Set.univ (tripProg (F := F) k) (fun x => iprop(⌜x = tw k.val⌝ ∗ R))) :
    iprop(P ∗ Fr) ⊢ wp frame (wpE (defs₀ (F := F)) 𝒱₀ (c : Thread nD τ) none) Set.univ (bodyG (F := F) v39 v46 v53 k (cw k.val))
      (fun a => iprop(⌜a = cw (k.val + 1)⌝ ∗ R ∗ Fr)) := by
  rw [body_eq, wp_bind]
  iintro ⟨HP, HF⟩
  iapply (wp_wand_r Idealize.ShloMosaic.frame (wpE (defs₀ (F := F)) 𝒱₀ (c : Thread nD τ) none) Set.univ)
  isplitl [HP]
  · iapply h; iexact HP
  iintro %x ⟨%hx, HR⟩
  subst hx
  sl_step
  isplitr
  · ipureintro; exact nxt_eq k
  isplitl [HR]; · iexact HR
  iexact HF

abbrev FlQ (X : XQ (F := F) c) (s : Fin 2) (b : Fin 16) : sProp (MT nD τ sig Unit (Elt F) ℕ (UU nD τ) ℕ) := iprop(∃ f, fQ c X s b f)
abbrev SlQ (s : Fin 2) : sProp (MT nD τ sig Unit (Elt F) ℕ (UU nD τ) ℕ) := iprop(∃ f, sQ c s f)
abbrev FlK (X : XK (F := F) c) (s : Fin 2) (b : Fin 16) : sProp (MT nD τ sig Unit (Elt F) ℕ (UU nD τ) ℕ) := iprop(∃ f, fK c X s b f)
abbrev SlK (s : Fin 2) : sProp (MT nD τ sig Unit (Elt F) ℕ (UU nD τ) ℕ) := iprop(∃ f, sK c s f)
abbrev FlV (X : XV (F := F) c) (s : Fin 2) (b : Fin 16) : sProp (MT nD τ sig Unit (Elt F) ℕ (UU nD τ) ℕ) := iprop(∃ f, fV c X s b f)
abbrev SlV (s : Fin 2) : sProp (MT nD τ sig Unit (Elt F) ℕ (UU nD τ) ℕ) := iprop(∃ f, sV c s f)
abbrev FlA (X : XA (F := F) c) (s : Fin 2) (b : Fin 4) : sProp (MT nD τ sig Unit (Elt F) ℕ (UU nD τ) ℕ) := iprop(∃ f, fA c X s b f)
abbrev SlA (s : Fin 2) : sProp (MT nD τ sig Unit (Elt F) ℕ (UU nD τ) ℕ) := iprop(∃ f, sA c s f)
abbrev FlW (X : XW (F := F) c) (s : Fin 2) (b : Fin 16) : sProp (MT nD τ sig Unit (Elt F) ℕ (UU nD τ) ℕ) := iprop(∃ f, fW c X s b f)
abbrev SlW (s : Fin 2) : sProp (MT nD τ sig Unit (Elt F) ℕ (UU nD τ) ℕ) := iprop(∃ f, sW c s f)
abbrev HeA (X : XA (F := F) c) (s : Fin 2) (b : Fin 4) : sProp (MT nD τ sig Unit (Elt F) ℕ (UU nD τ) ℕ) :=
  iprop(∃ f : Buf (Elt F) ((rA s).view.loc (c : Thread nD τ)), ⌜(rA s).view.read (Elt F) f = yA c X b⌝ ∗ sA c s f)
abbrev FlO (XQ : XQ (F := F) c) (XK : XK (F := F) c) (XV : XV (F := F) c) (XA : XA (F := F) c) (XW : XW (F := F) c) (s : Fin 2) (b : Fin 16) : sProp (MT nD τ sig Unit (Elt F) ℕ (UU nD τ) ℕ) :=
  iprop(∃ (f : Buf (Elt F) ((rO s).view.loc (c : Thread nD τ))) (g : XO (F := F) c), ⌜RelO c XQ XK XV XA XW b (yO c s f)⌝ ∗ fO c s b f g)
abbrev SlO (s : Fin 2) : sProp (MT nD τ sig Unit (Elt F) ℕ (UU nD τ) ℕ) := iprop(∃ f, sO c s f)
abbrev RawO (b : Fin 16) : sProp (MT nD τ sig Unit (Elt F) ℕ (UU nD τ) ℕ) := iprop(∃ f, hO c f b)
abbrev DoneO (XQ : XQ (F := F) c) (XK : XK (F := F) c) (XV : XV (F := F) c) (XA : XA (F := F) c) (XW : XW (F := F) c) (b : Fin 16) : sProp (MT nD τ sig Unit (Elt F) ℕ (UU nD τ) ℕ) := iprop(∃ f : XO (F := F) c, ⌜RelO c XQ XK XV XA XW b ((gO b).view.read (Elt F) f)⌝ ∗ hO c f b)
abbrev FlU (XQ : XQ (F := F) c) (XK : XK (F := F) c) (XV : XV (F := F) c) (XA : XA (F := F) c) (XW : XW (F := F) c) (s : Fin 2) (b : Fin 16) : sProp (MT nD τ sig Unit (Elt F) ℕ (UU nD τ) ℕ) :=
  iprop(∃ (f : Buf (Elt F) ((rU s).view.loc (c : Thread nD τ))) (g : XU (F := F) c), ⌜RelU c XQ XK XV XA XW b (yU c s f)⌝ ∗ fU c s b f g)
abbrev SlU (s : Fin 2) : sProp (MT nD τ sig Unit (Elt F) ℕ (UU nD τ) ℕ) := iprop(∃ f, sU c s f)
abbrev RawU (b : Fin 16) : sProp (MT nD τ sig Unit (Elt F) ℕ (UU nD τ) ℕ) := iprop(∃ f, hU c f b)
abbrev DoneU (XQ : XQ (F := F) c) (XK : XK (F := F) c) (XV : XV (F := F) c) (XA : XA (F := F) c) (XW : XW (F := F) c) (b : Fin 16) : sProp (MT nD τ sig Unit (Elt F) ℕ (UU nD τ) ℕ) := iprop(∃ f : XU (F := F) c, ⌜RelU c XQ XK XV XA XW b ((gU b).view.read (Elt F) f)⌝ ∗ hU c f b)

/-- The rings before trip `k`. -/
def rings (XQ : XQ (F := F) c) (XK : XK (F := F) c) (XV : XV (F := F) c) (XA : XA (F := F) c) (XW : XW (F := F) c) (k : ℕ) : sProp (MT nD τ sig Unit (Elt F) ℕ (UU nD τ) ℕ) :=
  iprop(inR (FlQ c XQ) (SlQ c) (kQ (F := F) c) (hQ c XQ) k ∗ inR (FlK c XK) (SlK c) (kK (F := F) c) (hK c XK) k ∗ inR (FlV c XV) (SlV c) (kV (F := F) c) (hV c XV) k ∗ inR (FlW c XW) (SlW c) (kW (F := F) c) (hW c XW) k ∗ featR (FlA c XA) (HeA c XA) (SlA c) (kA (F := F) c) (hA c XA) k ∗ outR (FlO c XQ XK XV XA XW) (SlO c) (kO (F := F) c) (DoneO c XQ XK XV XA XW) (RawO c) k ∗ outR (FlU c XQ XK XV XA XW) (SlU c) (kU (F := F) c) (DoneU c XQ XK XV XA XW) (RawU c) k ∗ scr c ∗ ∃ W, owes (c : Thread nD τ) 0 W)
/-- The loop's invariant. -/
def invP (XQ : XQ (F := F) c) (XK : XK (F := F) c) (XV : XV (F := F) c) (XA : XA (F := F) c) (XW : XW (F := F) c) (k : ℕ) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) : sProp (MT nD τ sig Unit (Elt F) ℕ (UU nD τ) ℕ) :=
  iprop(⌜acc = cw k⌝ ∗ rings c XQ XK XV XA XW k)

theorem stepF (XQ : XQ (F := F) c) (XK : XK (F := F) c) (XV : XV (F := F) c) (XA : XA (F := F) c) (XW : XW (F := F) c) (v39 v46 v53 : BitVec 32) (k : Fin k0_t1_loop.trips) (hr : k.val = 0) :
    rings c XQ XK XV XA XW k.val ⊢ wp frame (wpE (defs₀ (F := F)) 𝒱₀ (c : Thread nD τ) none) Set.univ (bodyG (F := F) v39 v46 v53 k (cw k.val))
      (fun a => invP c XQ XK XV XA XW (k.val + 1) a) := by
  have h16 : k.val < 16 := Nat.lt_of_lt_of_eq k.isLt trips16
  have h15 : k.val < 15 := by omega
  have h0 : k.val % 4 = 0 := by omega
  have hb := bodyStep c v39 v46 v53 k _ _ iprop(bigSep ((Finset.univ.erase (Ring.bk 16 k.val)).erase (Ring.bk 16 (k.val + 1))) (hQ c XQ) ∗ bigSep ((Finset.univ.erase (Ring.bk 16 k.val)).erase (Ring.bk 16 (k.val + 1))) (hK c XK) ∗ bigSep ((Finset.univ.erase (Ring.bk 16 k.val)).erase (Ring.bk 16 (k.val + 1))) (hV c XV) ∗ bigSep ((Finset.univ.erase (Ring.bk 16 k.val)).erase (Ring.bk 16 (k.val + 1))) (hW c XW) ∗ SlA c (Ring.sl 2 (k.val / 4 + 1)) ∗ kA (F := F) c (Ring.sl 2 (k.val / 4 + 1)) ∗ bigSep (Finset.univ.erase (Ring.bk 4 (k.val / 4))) (hA c XA) ∗ SlO c (Ring.sl 2 (k.val + 1)) ∗ kO (F := F) c (Ring.sl 2 (k.val + 1)) ∗ bigSep (Finset.univ.filter fun b : Fin 16 => k.val + 1 ≤ b.val) (RawO c) ∗ SlU c (Ring.sl 2 (k.val + 1)) ∗ kU (F := F) c (Ring.sl 2 (k.val + 1)) ∗ bigSep (Finset.univ.filter fun b : Fin 16 => k.val + 1 ≤ b.val) (RawU c)) (tripF c XQ XK XV XA XW k hr)
  unfold rings
  iintro ⟨HQ, HK, HV, HW, HA, HO, HU, Hs, HWW⟩
  ihave HQ := (inR_open (FlQ c XQ) (SlQ c) (kQ (F := F) c) (hQ c XQ) k.val h15) $$ HQ
  icases HQ with ⟨HQ1, HQ2, HQ3, HQ4, HQ5⟩
  ihave HK := (inR_open (FlK c XK) (SlK c) (kK (F := F) c) (hK c XK) k.val h15) $$ HK
  icases HK with ⟨HK1, HK2, HK3, HK4, HK5⟩
  ihave HV := (inR_open (FlV c XV) (SlV c) (kV (F := F) c) (hV c XV) k.val h15) $$ HV
  icases HV with ⟨HV1, HV2, HV3, HV4, HV5⟩
  ihave HW := (inR_open (FlW c XW) (SlW c) (kW (F := F) c) (hW c XW) k.val h15) $$ HW
  icases HW with ⟨HW1, HW2, HW3, HW4, HW5⟩
  ihave HA := (featR_openW (FlA c XA) (HeA c XA) (SlA c) (kA (F := F) c) (hA c XA) k.val h16 h0) $$ HA
  icases HA with ⟨HA1, HA2, HA3, HA4⟩
  ihave HO := (outR_openF (FlO c XQ XK XV XA XW) (SlO c) (kO (F := F) c) (DoneO c XQ XK XV XA XW) (RawO c) k.val hr) $$ HO
  icases HO with ⟨HO1, HO2, HO3, HO4, HO5, HO6⟩
  ihave HU := (outR_openF (FlU c XQ XK XV XA XW) (SlU c) (kU (F := F) c) (DoneU c XQ XK XV XA XW) (RawU c) k.val hr) $$ HU
  icases HU with ⟨HU1, HU2, HU3, HU4, HU5, HU6⟩
  iapply (wp_wand_r Idealize.ShloMosaic.frame (wpE (defs₀ (F := F)) 𝒱₀ (c : Thread nD τ) none) Set.univ)
  isplitl [HQ1 HQ2 HQ3 HQ4 HK1 HK2 HK3 HK4 HV1 HV2 HV3 HV4 HW1 HW2 HW3 HW4 HA1 HO1 HO2 HO3 HU1 HU2 HU3 Hs HWW HQ5 HK5 HV5 HW5 HA2 HA3 HA4 HO4 HO5 HO6 HU4 HU5 HU6]
  · iapply hb
    isplitl [HQ1 HQ2 HQ3 HQ4 HK1 HK2 HK3 HK4 HV1 HV2 HV3 HV4 HW1 HW2 HW3 HW4 HA1 HO1 HO2 HO3 HU1 HU2 HU3 Hs HWW]
    · unfold preF
      isplitl [HQ1]; · iexact HQ1
      isplitl [HQ2]; · iexact HQ2
      isplitl [HQ3]; · iexact HQ3
      isplitl [HQ4]; · iexact HQ4
      isplitl [HK1]; · iexact HK1
      isplitl [HK2]; · iexact HK2
      isplitl [HK3]; · iexact HK3
      isplitl [HK4]; · iexact HK4
      isplitl [HV1]; · iexact HV1
      isplitl [HV2]; · iexact HV2
      isplitl [HV3]; · iexact HV3
      isplitl [HV4]; · iexact HV4
      isplitl [HW1]; · iexact HW1
      isplitl [HW2]; · iexact HW2
      isplitl [HW3]; · iexact HW3
      isplitl [HW4]; · iexact HW4
      isplitl [HA1]; · iexact HA1
      isplitl [HO1]; · iexact HO1
      isplitl [HO2]; · iexact HO2
      isplitl [HO3]; · iexact HO3
      isplitl [HU1]; · iexact HU1
      isplitl [HU2]; · iexact HU2
      isplitl [HU3]; · iexact HU3
      isplitl [Hs]; · iexact Hs
      iexact HWW
    ·
      isplitl [HQ5]; · iexact HQ5
      isplitl [HK5]; · iexact HK5
      isplitl [HV5]; · iexact HV5
      isplitl [HW5]; · iexact HW5
      isplitl [HA2]; · iexact HA2
      isplitl [HA3]; · iexact HA3
      isplitl [HA4]; · iexact HA4
      isplitl [HO4]; · iexact HO4
      isplitl [HO5]; · iexact HO5
      isplitl [HO6]; · iexact HO6
      isplitl [HU4]; · iexact HU4
      isplitl [HU5]; · iexact HU5
      iexact HU6
  iintro %a ⟨%ha, HP, HF⟩
  unfold postF
  icases HP with ⟨HQ6, HQ7, HQ8, HQ9, HK6, HK7, HK8, HK9, HV6, HV7, HV8, HV9, HW6, HW7, HW8, HW9, HA5, HA6, HA7, HO7, HU7, Hs, HWW⟩
  icases HF with ⟨HQ5, HK5, HV5, HW5, HA2, HA3, HA4, HO4, HO5, HO6, HU4, HU5, HU6⟩
  unfold invP rings
  isplitr; · ipureintro; exact ha
  isplitl [HQ6 HQ7 HQ8 HQ9 HQ5]
  · iapply (inR_close (FlQ c XQ) (SlQ c) (kQ (F := F) c) (hQ c XQ) k.val h15)
    isplitl [HQ6]; · iexact HQ6
    isplitl [HQ7]; · iexact HQ7
    isplitl [HQ8]; · iexact HQ8
    isplitl [HQ9]; · iexact HQ9
    iexact HQ5
  isplitl [HK6 HK7 HK8 HK9 HK5]
  · iapply (inR_close (FlK c XK) (SlK c) (kK (F := F) c) (hK c XK) k.val h15)
    isplitl [HK6]; · iexact HK6
    isplitl [HK7]; · iexact HK7
    isplitl [HK8]; · iexact HK8
    isplitl [HK9]; · iexact HK9
    iexact HK5
  isplitl [HV6 HV7 HV8 HV9 HV5]
  · iapply (inR_close (FlV c XV) (SlV c) (kV (F := F) c) (hV c XV) k.val h15)
    isplitl [HV6]; · iexact HV6
    isplitl [HV7]; · iexact HV7
    isplitl [HV8]; · iexact HV8
    isplitl [HV9]; · iexact HV9
    iexact HV5
  isplitl [HW6 HW7 HW8 HW9 HW5]
  · iapply (inR_close (FlW c XW) (SlW c) (kW (F := F) c) (hW c XW) k.val h15)
    isplitl [HW6]; · iexact HW6
    isplitl [HW7]; · iexact HW7
    isplitl [HW8]; · iexact HW8
    isplitl [HW9]; · iexact HW9
    iexact HW5
  isplitl [HA5 HA6 HA7 HA2 HA3 HA4]
  · iapply (featR_closeW (FlA c XA) (HeA c XA) (SlA c) (kA (F := F) c) (hA c XA) k.val h16 h0)
    isplitl [HA5]; · iexact HA5
    isplitl [HA6]; · iexact HA6
    isplitl [HA7]; · iexact HA7
    isplitl [HA2]; · iexact HA2
    isplitl [HA3]; · iexact HA3
    iexact HA4
  isplitl [HO7 HO4 HO5 HO6]
  · iapply (outR_closeF (FlO c XQ XK XV XA XW) (SlO c) (kO (F := F) c) (DoneO c XQ XK XV XA XW) (RawO c) k.val hr)
    isplitl [HO7]; · iexact HO7
    isplitl [HO4]; · iexact HO4
    isplitl [HO5]; · iexact HO5
    iexact HO6
  isplitl [HU7 HU4 HU5 HU6]
  · iapply (outR_closeF (FlU c XQ XK XV XA XW) (SlU c) (kU (F := F) c) (DoneU c XQ XK XV XA XW) (RawU c) k.val hr)
    isplitl [HU7]; · iexact HU7
    isplitl [HU4]; · iexact HU4
    isplitl [HU5]; · iexact HU5
    iexact HU6
  isplitl [Hs]; · iexact Hs
  iexact HWW

theorem stepB (XQ : XQ (F := F) c) (XK : XK (F := F) c) (XV : XV (F := F) c) (XA : XA (F := F) c) (XW : XW (F := F) c) (v39 v46 v53 : BitVec 32) (k : Fin k0_t1_loop.trips) (hr : k.val % 4 = 0 ∧ 1 ≤ k.val) :
    rings c XQ XK XV XA XW k.val ⊢ wp frame (wpE (defs₀ (F := F)) 𝒱₀ (c : Thread nD τ) none) Set.univ (bodyG (F := F) v39 v46 v53 k (cw k.val))
      (fun a => invP c XQ XK XV XA XW (k.val + 1) a) := by
  have h16 : k.val < 16 := Nat.lt_of_lt_of_eq k.isLt trips16
  have h15 : k.val < 15 := by omega
  have h1 : 1 ≤ k.val := by omega
  have h0 : k.val % 4 = 0 := by omega
  have hb := bodyStep c v39 v46 v53 k _ _ iprop(bigSep ((Finset.univ.erase (Ring.bk 16 k.val)).erase (Ring.bk 16 (k.val + 1))) (hQ c XQ) ∗ bigSep ((Finset.univ.erase (Ring.bk 16 k.val)).erase (Ring.bk 16 (k.val + 1))) (hK c XK) ∗ bigSep ((Finset.univ.erase (Ring.bk 16 k.val)).erase (Ring.bk 16 (k.val + 1))) (hV c XV) ∗ bigSep ((Finset.univ.erase (Ring.bk 16 k.val)).erase (Ring.bk 16 (k.val + 1))) (hW c XW) ∗ SlA c (Ring.sl 2 (k.val / 4 + 1)) ∗ kA (F := F) c (Ring.sl 2 (k.val / 4 + 1)) ∗ bigSep (Finset.univ.erase (Ring.bk 4 (k.val / 4))) (hA c XA) ∗ bigSep (Finset.univ.filter fun b : Fin 16 => b.val + 1 < k.val) (DoneO c XQ XK XV XA XW) ∗ bigSep (Finset.univ.filter fun b : Fin 16 => k.val + 1 ≤ b.val) (RawO c) ∗ bigSep (Finset.univ.filter fun b : Fin 16 => b.val + 1 < k.val) (DoneU c XQ XK XV XA XW) ∗ bigSep (Finset.univ.filter fun b : Fin 16 => k.val + 1 ≤ b.val) (RawU c)) (tripB c XQ XK XV XA XW k hr)
  unfold rings
  iintro ⟨HQ, HK, HV, HW, HA, HO, HU, Hs, HWW⟩
  ihave HQ := (inR_open (FlQ c XQ) (SlQ c) (kQ (F := F) c) (hQ c XQ) k.val h15) $$ HQ
  icases HQ with ⟨HQ1, HQ2, HQ3, HQ4, HQ5⟩
  ihave HK := (inR_open (FlK c XK) (SlK c) (kK (F := F) c) (hK c XK) k.val h15) $$ HK
  icases HK with ⟨HK1, HK2, HK3, HK4, HK5⟩
  ihave HV := (inR_open (FlV c XV) (SlV c) (kV (F := F) c) (hV c XV) k.val h15) $$ HV
  icases HV with ⟨HV1, HV2, HV3, HV4, HV5⟩
  ihave HW := (inR_open (FlW c XW) (SlW c) (kW (F := F) c) (hW c XW) k.val h15) $$ HW
  icases HW with ⟨HW1, HW2, HW3, HW4, HW5⟩
  ihave HA := (featR_openW (FlA c XA) (HeA c XA) (SlA c) (kA (F := F) c) (hA c XA) k.val h16 h0) $$ HA
  icases HA with ⟨HA1, HA2, HA3, HA4⟩
  ihave HO := (outR_open (FlO c XQ XK XV XA XW) (SlO c) (kO (F := F) c) (DoneO c XQ XK XV XA XW) (RawO c) k.val h1 h16) $$ HO
  icases HO with ⟨HO1, HO2, HO3, HO4, HO5, HO6⟩
  ihave HU := (outR_open (FlU c XQ XK XV XA XW) (SlU c) (kU (F := F) c) (DoneU c XQ XK XV XA XW) (RawU c) k.val h1 h16) $$ HU
  icases HU with ⟨HU1, HU2, HU3, HU4, HU5, HU6⟩
  iapply (wp_wand_r Idealize.ShloMosaic.frame (wpE (defs₀ (F := F)) 𝒱₀ (c : Thread nD τ) none) Set.univ)
  isplitl [HQ1 HQ2 HQ3 HQ4 HK1 HK2 HK3 HK4 HV1 HV2 HV3 HV4 HW1 HW2 HW3 HW4 HA1 HO1 HO2 HO3 HO4 HU1 HU2 HU3 HU4 Hs HWW HQ5 HK5 HV5 HW5 HA2 HA3 HA4 HO5 HO6 HU5 HU6]
  · iapply hb
    isplitl [HQ1 HQ2 HQ3 HQ4 HK1 HK2 HK3 HK4 HV1 HV2 HV3 HV4 HW1 HW2 HW3 HW4 HA1 HO1 HO2 HO3 HO4 HU1 HU2 HU3 HU4 Hs HWW]
    · unfold preB
      isplitl [HQ1]; · iexact HQ1
      isplitl [HQ2]; · iexact HQ2
      isplitl [HQ3]; · iexact HQ3
      isplitl [HQ4]; · iexact HQ4
      isplitl [HK1]; · iexact HK1
      isplitl [HK2]; · iexact HK2
      isplitl [HK3]; · iexact HK3
      isplitl [HK4]; · iexact HK4
      isplitl [HV1]; · iexact HV1
      isplitl [HV2]; · iexact HV2
      isplitl [HV3]; · iexact HV3
      isplitl [HV4]; · iexact HV4
      isplitl [HW1]; · iexact HW1
      isplitl [HW2]; · iexact HW2
      isplitl [HW3]; · iexact HW3
      isplitl [HW4]; · iexact HW4
      isplitl [HA1]; · iexact HA1
      isplitl [HO1]; · iexact HO1
      isplitl [HO2]; · iexact HO2
      isplitl [HO3]; · iexact HO3
      isplitl [HO4]; · iexact HO4
      isplitl [HU1]; · iexact HU1
      isplitl [HU2]; · iexact HU2
      isplitl [HU3]; · iexact HU3
      isplitl [HU4]; · iexact HU4
      isplitl [Hs]; · iexact Hs
      iexact HWW
    ·
      isplitl [HQ5]; · iexact HQ5
      isplitl [HK5]; · iexact HK5
      isplitl [HV5]; · iexact HV5
      isplitl [HW5]; · iexact HW5
      isplitl [HA2]; · iexact HA2
      isplitl [HA3]; · iexact HA3
      isplitl [HA4]; · iexact HA4
      isplitl [HO5]; · iexact HO5
      isplitl [HO6]; · iexact HO6
      isplitl [HU5]; · iexact HU5
      iexact HU6
  iintro %a ⟨%ha, HP, HF⟩
  unfold postB
  icases HP with ⟨HQ6, HQ7, HQ8, HQ9, HK6, HK7, HK8, HK9, HV6, HV7, HV8, HV9, HW6, HW7, HW8, HW9, HA5, HA6, HA7, HO7, HO8, HO9, HO10, HU7, HU8, HU9, HU10, Hs, HWW⟩
  icases HF with ⟨HQ5, HK5, HV5, HW5, HA2, HA3, HA4, HO5, HO6, HU5, HU6⟩
  unfold invP rings
  isplitr; · ipureintro; exact ha
  isplitl [HQ6 HQ7 HQ8 HQ9 HQ5]
  · iapply (inR_close (FlQ c XQ) (SlQ c) (kQ (F := F) c) (hQ c XQ) k.val h15)
    isplitl [HQ6]; · iexact HQ6
    isplitl [HQ7]; · iexact HQ7
    isplitl [HQ8]; · iexact HQ8
    isplitl [HQ9]; · iexact HQ9
    iexact HQ5
  isplitl [HK6 HK7 HK8 HK9 HK5]
  · iapply (inR_close (FlK c XK) (SlK c) (kK (F := F) c) (hK c XK) k.val h15)
    isplitl [HK6]; · iexact HK6
    isplitl [HK7]; · iexact HK7
    isplitl [HK8]; · iexact HK8
    isplitl [HK9]; · iexact HK9
    iexact HK5
  isplitl [HV6 HV7 HV8 HV9 HV5]
  · iapply (inR_close (FlV c XV) (SlV c) (kV (F := F) c) (hV c XV) k.val h15)
    isplitl [HV6]; · iexact HV6
    isplitl [HV7]; · iexact HV7
    isplitl [HV8]; · iexact HV8
    isplitl [HV9]; · iexact HV9
    iexact HV5
  isplitl [HW6 HW7 HW8 HW9 HW5]
  · iapply (inR_close (FlW c XW) (SlW c) (kW (F := F) c) (hW c XW) k.val h15)
    isplitl [HW6]; · iexact HW6
    isplitl [HW7]; · iexact HW7
    isplitl [HW8]; · iexact HW8
    isplitl [HW9]; · iexact HW9
    iexact HW5
  isplitl [HA5 HA6 HA7 HA2 HA3 HA4]
  · iapply (featR_closeW (FlA c XA) (HeA c XA) (SlA c) (kA (F := F) c) (hA c XA) k.val h16 h0)
    isplitl [HA5]; · iexact HA5
    isplitl [HA6]; · iexact HA6
    isplitl [HA7]; · iexact HA7
    isplitl [HA2]; · iexact HA2
    isplitl [HA3]; · iexact HA3
    iexact HA4
  isplitl [HO7 HO8 HO9 HO10 HO5 HO6]
  · iapply (outR_close (FlO c XQ XK XV XA XW) (SlO c) (kO (F := F) c) (DoneO c XQ XK XV XA XW) (RawO c) k.val h1 h16)
    isplitl [HO7]; · iexact HO7
    isplitl [HO8]; · iexact HO8
    isplitl [HO9]; · iexact HO9
    isplitl [HO10]; · iexact HO10
    isplitl [HO5]; · iexact HO5
    iexact HO6
  isplitl [HU7 HU8 HU9 HU10 HU5 HU6]
  · iapply (outR_close (FlU c XQ XK XV XA XW) (SlU c) (kU (F := F) c) (DoneU c XQ XK XV XA XW) (RawU c) k.val h1 h16)
    isplitl [HU7]; · iexact HU7
    isplitl [HU8]; · iexact HU8
    isplitl [HU9]; · iexact HU9
    isplitl [HU10]; · iexact HU10
    isplitl [HU5]; · iexact HU5
    iexact HU6
  isplitl [Hs]; · iexact Hs
  iexact HWW

theorem stepM (XQ : XQ (F := F) c) (XK : XK (F := F) c) (XV : XV (F := F) c) (XA : XA (F := F) c) (XW : XW (F := F) c) (v39 v46 v53 : BitVec 32) (k : Fin k0_t1_loop.trips) (hr : k.val % 4 ≠ 0 ∧ k.val % 4 ≠ 3) :
    rings c XQ XK XV XA XW k.val ⊢ wp frame (wpE (defs₀ (F := F)) 𝒱₀ (c : Thread nD τ) none) Set.univ (bodyG (F := F) v39 v46 v53 k (cw k.val))
      (fun a => invP c XQ XK XV XA XW (k.val + 1) a) := by
  have h16 : k.val < 16 := Nat.lt_of_lt_of_eq k.isLt trips16
  have h15 : k.val < 15 := by omega
  have h1 : 1 ≤ k.val := by omega
  have hb := bodyStep c v39 v46 v53 k _ _ iprop(bigSep ((Finset.univ.erase (Ring.bk 16 k.val)).erase (Ring.bk 16 (k.val + 1))) (hQ c XQ) ∗ bigSep ((Finset.univ.erase (Ring.bk 16 k.val)).erase (Ring.bk 16 (k.val + 1))) (hK c XK) ∗ bigSep ((Finset.univ.erase (Ring.bk 16 k.val)).erase (Ring.bk 16 (k.val + 1))) (hV c XV) ∗ bigSep ((Finset.univ.erase (Ring.bk 16 k.val)).erase (Ring.bk 16 (k.val + 1))) (hW c XW) ∗ kA (F := F) c (Ring.sl 2 (k.val / 4)) ∗ SlA c (Ring.sl 2 (k.val / 4 + 1)) ∗ kA (F := F) c (Ring.sl 2 (k.val / 4 + 1)) ∗ bigSep Finset.univ (hA c XA) ∗ bigSep (Finset.univ.filter fun b : Fin 16 => b.val + 1 < k.val) (DoneO c XQ XK XV XA XW) ∗ bigSep (Finset.univ.filter fun b : Fin 16 => k.val + 1 ≤ b.val) (RawO c) ∗ bigSep (Finset.univ.filter fun b : Fin 16 => b.val + 1 < k.val) (DoneU c XQ XK XV XA XW) ∗ bigSep (Finset.univ.filter fun b : Fin 16 => k.val + 1 ≤ b.val) (RawU c)) (tripM c XQ XK XV XA XW k hr)
  unfold rings
  iintro ⟨HQ, HK, HV, HW, HA, HO, HU, Hs, HWW⟩
  ihave HQ := (inR_open (FlQ c XQ) (SlQ c) (kQ (F := F) c) (hQ c XQ) k.val h15) $$ HQ
  icases HQ with ⟨HQ1, HQ2, HQ3, HQ4, HQ5⟩
  ihave HK := (inR_open (FlK c XK) (SlK c) (kK (F := F) c) (hK c XK) k.val h15) $$ HK
  icases HK with ⟨HK1, HK2, HK3, HK4, HK5⟩
  ihave HV := (inR_open (FlV c XV) (SlV c) (kV (F := F) c) (hV c XV) k.val h15) $$ HV
  icases HV with ⟨HV1, HV2, HV3, HV4, HV5⟩
  ihave HW := (inR_open (FlW c XW) (SlW c) (kW (F := F) c) (hW c XW) k.val h15) $$ HW
  icases HW with ⟨HW1, HW2, HW3, HW4, HW5⟩
  ihave HA := (featR_openH (FlA c XA) (HeA c XA) (SlA c) (kA (F := F) c) (hA c XA) k.val h16 (by omega)) $$ HA
  icases HA with ⟨HA1, HA2, HA3, HA4, HA5⟩
  ihave HO := (outR_open (FlO c XQ XK XV XA XW) (SlO c) (kO (F := F) c) (DoneO c XQ XK XV XA XW) (RawO c) k.val h1 h16) $$ HO
  icases HO with ⟨HO1, HO2, HO3, HO4, HO5, HO6⟩
  ihave HU := (outR_open (FlU c XQ XK XV XA XW) (SlU c) (kU (F := F) c) (DoneU c XQ XK XV XA XW) (RawU c) k.val h1 h16) $$ HU
  icases HU with ⟨HU1, HU2, HU3, HU4, HU5, HU6⟩
  iapply (wp_wand_r Idealize.ShloMosaic.frame (wpE (defs₀ (F := F)) 𝒱₀ (c : Thread nD τ) none) Set.univ)
  isplitl [HQ1 HQ2 HQ3 HQ4 HK1 HK2 HK3 HK4 HV1 HV2 HV3 HV4 HW1 HW2 HW3 HW4 HA1 HO1 HO2 HO3 HO4 HU1 HU2 HU3 HU4 Hs HWW HQ5 HK5 HV5 HW5 HA2 HA3 HA4 HA5 HO5 HO6 HU5 HU6]
  · iapply hb
    isplitl [HQ1 HQ2 HQ3 HQ4 HK1 HK2 HK3 HK4 HV1 HV2 HV3 HV4 HW1 HW2 HW3 HW4 HA1 HO1 HO2 HO3 HO4 HU1 HU2 HU3 HU4 Hs HWW]
    · unfold preM
      isplitl [HQ1]; · iexact HQ1
      isplitl [HQ2]; · iexact HQ2
      isplitl [HQ3]; · iexact HQ3
      isplitl [HQ4]; · iexact HQ4
      isplitl [HK1]; · iexact HK1
      isplitl [HK2]; · iexact HK2
      isplitl [HK3]; · iexact HK3
      isplitl [HK4]; · iexact HK4
      isplitl [HV1]; · iexact HV1
      isplitl [HV2]; · iexact HV2
      isplitl [HV3]; · iexact HV3
      isplitl [HV4]; · iexact HV4
      isplitl [HW1]; · iexact HW1
      isplitl [HW2]; · iexact HW2
      isplitl [HW3]; · iexact HW3
      isplitl [HW4]; · iexact HW4
      isplitl [HA1]; · iexact HA1
      isplitl [HO1]; · iexact HO1
      isplitl [HO2]; · iexact HO2
      isplitl [HO3]; · iexact HO3
      isplitl [HO4]; · iexact HO4
      isplitl [HU1]; · iexact HU1
      isplitl [HU2]; · iexact HU2
      isplitl [HU3]; · iexact HU3
      isplitl [HU4]; · iexact HU4
      isplitl [Hs]; · iexact Hs
      iexact HWW
    ·
      isplitl [HQ5]; · iexact HQ5
      isplitl [HK5]; · iexact HK5
      isplitl [HV5]; · iexact HV5
      isplitl [HW5]; · iexact HW5
      isplitl [HA2]; · iexact HA2
      isplitl [HA3]; · iexact HA3
      isplitl [HA4]; · iexact HA4
      isplitl [HA5]; · iexact HA5
      isplitl [HO5]; · iexact HO5
      isplitl [HO6]; · iexact HO6
      isplitl [HU5]; · iexact HU5
      iexact HU6
  iintro %a ⟨%ha, HP, HF⟩
  unfold postM
  icases HP with ⟨HQ6, HQ7, HQ8, HQ9, HK6, HK7, HK8, HK9, HV6, HV7, HV8, HV9, HW6, HW7, HW8, HW9, HA6, HO7, HO8, HO9, HO10, HU7, HU8, HU9, HU10, Hs, HWW⟩
  icases HF with ⟨HQ5, HK5, HV5, HW5, HA2, HA3, HA4, HA5, HO5, HO6, HU5, HU6⟩
  unfold invP rings
  isplitr; · ipureintro; exact ha
  isplitl [HQ6 HQ7 HQ8 HQ9 HQ5]
  · iapply (inR_close (FlQ c XQ) (SlQ c) (kQ (F := F) c) (hQ c XQ) k.val h15)
    isplitl [HQ6]; · iexact HQ6
    isplitl [HQ7]; · iexact HQ7
    isplitl [HQ8]; · iexact HQ8
    isplitl [HQ9]; · iexact HQ9
    iexact HQ5
  isplitl [HK6 HK7 HK8 HK9 HK5]
  · iapply (inR_close (FlK c XK) (SlK c) (kK (F := F) c) (hK c XK) k.val h15)
    isplitl [HK6]; · iexact HK6
    isplitl [HK7]; · iexact HK7
    isplitl [HK8]; · iexact HK8
    isplitl [HK9]; · iexact HK9
    iexact HK5
  isplitl [HV6 HV7 HV8 HV9 HV5]
  · iapply (inR_close (FlV c XV) (SlV c) (kV (F := F) c) (hV c XV) k.val h15)
    isplitl [HV6]; · iexact HV6
    isplitl [HV7]; · iexact HV7
    isplitl [HV8]; · iexact HV8
    isplitl [HV9]; · iexact HV9
    iexact HV5
  isplitl [HW6 HW7 HW8 HW9 HW5]
  · iapply (inR_close (FlW c XW) (SlW c) (kW (F := F) c) (hW c XW) k.val h15)
    isplitl [HW6]; · iexact HW6
    isplitl [HW7]; · iexact HW7
    isplitl [HW8]; · iexact HW8
    isplitl [HW9]; · iexact HW9
    iexact HW5
  isplitl [HA6 HA2 HA3 HA4 HA5]
  · iapply (featR_closeM (FlA c XA) (HeA c XA) (SlA c) (kA (F := F) c) (hA c XA) k.val h16 hr)
    isplitl [HA6]; · iexact HA6
    isplitl [HA2]; · iexact HA2
    isplitl [HA3]; · iexact HA3
    isplitl [HA4]; · iexact HA4
    iexact HA5
  isplitl [HO7 HO8 HO9 HO10 HO5 HO6]
  · iapply (outR_close (FlO c XQ XK XV XA XW) (SlO c) (kO (F := F) c) (DoneO c XQ XK XV XA XW) (RawO c) k.val h1 h16)
    isplitl [HO7]; · iexact HO7
    isplitl [HO8]; · iexact HO8
    isplitl [HO9]; · iexact HO9
    isplitl [HO10]; · iexact HO10
    isplitl [HO5]; · iexact HO5
    iexact HO6
  isplitl [HU7 HU8 HU9 HU10 HU5 HU6]
  · iapply (outR_close (FlU c XQ XK XV XA XW) (SlU c) (kU (F := F) c) (DoneU c XQ XK XV XA XW) (RawU c) k.val h1 h16)
    isplitl [HU7]; · iexact HU7
    isplitl [HU8]; · iexact HU8
    isplitl [HU9]; · iexact HU9
    isplitl [HU10]; · iexact HU10
    isplitl [HU5]; · iexact HU5
    iexact HU6
  isplitl [Hs]; · iexact Hs
  iexact HWW

theorem stepP (XQ : XQ (F := F) c) (XK : XK (F := F) c) (XV : XV (F := F) c) (XA : XA (F := F) c) (XW : XW (F := F) c) (v39 v46 v53 : BitVec 32) (k : Fin k0_t1_loop.trips) (hr : k.val % 4 = 3 ∧ k.val < 15) :
    rings c XQ XK XV XA XW k.val ⊢ wp frame (wpE (defs₀ (F := F)) 𝒱₀ (c : Thread nD τ) none) Set.univ (bodyG (F := F) v39 v46 v53 k (cw k.val))
      (fun a => invP c XQ XK XV XA XW (k.val + 1) a) := by
  have h16 : k.val < 16 := Nat.lt_of_lt_of_eq k.isLt trips16
  have h15 : k.val < 15 := by omega
  have h1 : 1 ≤ k.val := by omega
  have hb := bodyStep c v39 v46 v53 k _ _ iprop(bigSep ((Finset.univ.erase (Ring.bk 16 k.val)).erase (Ring.bk 16 (k.val + 1))) (hQ c XQ) ∗ bigSep ((Finset.univ.erase (Ring.bk 16 k.val)).erase (Ring.bk 16 (k.val + 1))) (hK c XK) ∗ bigSep ((Finset.univ.erase (Ring.bk 16 k.val)).erase (Ring.bk 16 (k.val + 1))) (hV c XV) ∗ bigSep ((Finset.univ.erase (Ring.bk 16 k.val)).erase (Ring.bk 16 (k.val + 1))) (hW c XW) ∗ kA (F := F) c (Ring.sl 2 (k.val / 4)) ∗ bigSep (Finset.univ.erase (Ring.bk 4 (k.val / 4 + 1))) (hA c XA) ∗ bigSep (Finset.univ.filter fun b : Fin 16 => b.val + 1 < k.val) (DoneO c XQ XK XV XA XW) ∗ bigSep (Finset.univ.filter fun b : Fin 16 => k.val + 1 ≤ b.val) (RawO c) ∗ bigSep (Finset.univ.filter fun b : Fin 16 => b.val + 1 < k.val) (DoneU c XQ XK XV XA XW) ∗ bigSep (Finset.univ.filter fun b : Fin 16 => k.val + 1 ≤ b.val) (RawU c)) (tripP c XQ XK XV XA XW k hr)
  unfold rings
  iintro ⟨HQ, HK, HV, HW, HA, HO, HU, Hs, HWW⟩
  ihave HQ := (inR_open (FlQ c XQ) (SlQ c) (kQ (F := F) c) (hQ c XQ) k.val h15) $$ HQ
  icases HQ with ⟨HQ1, HQ2, HQ3, HQ4, HQ5⟩
  ihave HK := (inR_open (FlK c XK) (SlK c) (kK (F := F) c) (hK c XK) k.val h15) $$ HK
  icases HK with ⟨HK1, HK2, HK3, HK4, HK5⟩
  ihave HV := (inR_open (FlV c XV) (SlV c) (kV (F := F) c) (hV c XV) k.val h15) $$ HV
  icases HV with ⟨HV1, HV2, HV3, HV4, HV5⟩
  ihave HW := (inR_open (FlW c XW) (SlW c) (kW (F := F) c) (hW c XW) k.val h15) $$ HW
  icases HW with ⟨HW1, HW2, HW3, HW4, HW5⟩
  ihave HA := (featR_openP (FlA c XA) (HeA c XA) (SlA c) (kA (F := F) c) (hA c XA) k.val hr) $$ HA
  icases HA with ⟨HA1, HA2, HA3, HA4, HA5, HA6⟩
  ihave HO := (outR_open (FlO c XQ XK XV XA XW) (SlO c) (kO (F := F) c) (DoneO c XQ XK XV XA XW) (RawO c) k.val h1 h16) $$ HO
  icases HO with ⟨HO1, HO2, HO3, HO4, HO5, HO6⟩
  ihave HU := (outR_open (FlU c XQ XK XV XA XW) (SlU c) (kU (F := F) c) (DoneU c XQ XK XV XA XW) (RawU c) k.val h1 h16) $$ HU
  icases HU with ⟨HU1, HU2, HU3, HU4, HU5, HU6⟩
  iapply (wp_wand_r Idealize.ShloMosaic.frame (wpE (defs₀ (F := F)) 𝒱₀ (c : Thread nD τ) none) Set.univ)
  isplitl [HQ1 HQ2 HQ3 HQ4 HK1 HK2 HK3 HK4 HV1 HV2 HV3 HV4 HW1 HW2 HW3 HW4 HA1 HA2 HA3 HA4 HO1 HO2 HO3 HO4 HU1 HU2 HU3 HU4 Hs HWW HQ5 HK5 HV5 HW5 HA5 HA6 HO5 HO6 HU5 HU6]
  · iapply hb
    isplitl [HQ1 HQ2 HQ3 HQ4 HK1 HK2 HK3 HK4 HV1 HV2 HV3 HV4 HW1 HW2 HW3 HW4 HA1 HA2 HA3 HA4 HO1 HO2 HO3 HO4 HU1 HU2 HU3 HU4 Hs HWW]
    · unfold preP
      isplitl [HQ1]; · iexact HQ1
      isplitl [HQ2]; · iexact HQ2
      isplitl [HQ3]; · iexact HQ3
      isplitl [HQ4]; · iexact HQ4
      isplitl [HK1]; · iexact HK1
      isplitl [HK2]; · iexact HK2
      isplitl [HK3]; · iexact HK3
      isplitl [HK4]; · iexact HK4
      isplitl [HV1]; · iexact HV1
      isplitl [HV2]; · iexact HV2
      isplitl [HV3]; · iexact HV3
      isplitl [HV4]; · iexact HV4
      isplitl [HW1]; · iexact HW1
      isplitl [HW2]; · iexact HW2
      isplitl [HW3]; · iexact HW3
      isplitl [HW4]; · iexact HW4
      isplitl [HA1]; · iexact HA1
      isplitl [HA2]; · iexact HA2
      isplitl [HA3]; · iexact HA3
      isplitl [HA4]; · iexact HA4
      isplitl [HO1]; · iexact HO1
      isplitl [HO2]; · iexact HO2
      isplitl [HO3]; · iexact HO3
      isplitl [HO4]; · iexact HO4
      isplitl [HU1]; · iexact HU1
      isplitl [HU2]; · iexact HU2
      isplitl [HU3]; · iexact HU3
      isplitl [HU4]; · iexact HU4
      isplitl [Hs]; · iexact Hs
      iexact HWW
    ·
      isplitl [HQ5]; · iexact HQ5
      isplitl [HK5]; · iexact HK5
      isplitl [HV5]; · iexact HV5
      isplitl [HW5]; · iexact HW5
      isplitl [HA5]; · iexact HA5
      isplitl [HA6]; · iexact HA6
      isplitl [HO5]; · iexact HO5
      isplitl [HO6]; · iexact HO6
      isplitl [HU5]; · iexact HU5
      iexact HU6
  iintro %a ⟨%ha, HP, HF⟩
  unfold postP
  icases HP with ⟨HQ6, HQ7, HQ8, HQ9, HK6, HK7, HK8, HK9, HV6, HV7, HV8, HV9, HW6, HW7, HW8, HW9, HA7, HA8, HO7, HO8, HO9, HO10, HU7, HU8, HU9, HU10, Hs, HWW⟩
  icases HF with ⟨HQ5, HK5, HV5, HW5, HA5, HA6, HO5, HO6, HU5, HU6⟩
  unfold invP rings
  isplitr; · ipureintro; exact ha
  isplitl [HQ6 HQ7 HQ8 HQ9 HQ5]
  · iapply (inR_close (FlQ c XQ) (SlQ c) (kQ (F := F) c) (hQ c XQ) k.val h15)
    isplitl [HQ6]; · iexact HQ6
    isplitl [HQ7]; · iexact HQ7
    isplitl [HQ8]; · iexact HQ8
    isplitl [HQ9]; · iexact HQ9
    iexact HQ5
  isplitl [HK6 HK7 HK8 HK9 HK5]
  · iapply (inR_close (FlK c XK) (SlK c) (kK (F := F) c) (hK c XK) k.val h15)
    isplitl [HK6]; · iexact HK6
    isplitl [HK7]; · iexact HK7
    isplitl [HK8]; · iexact HK8
    isplitl [HK9]; · iexact HK9
    iexact HK5
  isplitl [HV6 HV7 HV8 HV9 HV5]
  · iapply (inR_close (FlV c XV) (SlV c) (kV (F := F) c) (hV c XV) k.val h15)
    isplitl [HV6]; · iexact HV6
    isplitl [HV7]; · iexact HV7
    isplitl [HV8]; · iexact HV8
    isplitl [HV9]; · iexact HV9
    iexact HV5
  isplitl [HW6 HW7 HW8 HW9 HW5]
  · iapply (inR_close (FlW c XW) (SlW c) (kW (F := F) c) (hW c XW) k.val h15)
    isplitl [HW6]; · iexact HW6
    isplitl [HW7]; · iexact HW7
    isplitl [HW8]; · iexact HW8
    isplitl [HW9]; · iexact HW9
    iexact HW5
  isplitl [HA7 HA8 HA5 HA6]
  · iapply (featR_closeP (FlA c XA) (HeA c XA) (SlA c) (kA (F := F) c) (hA c XA) k.val hr)
    isplitl [HA7]; · iexact HA7
    isplitl [HA8]; · iexact HA8
    isplitl [HA5]; · iexact HA5
    iexact HA6
  isplitl [HO7 HO8 HO9 HO10 HO5 HO6]
  · iapply (outR_close (FlO c XQ XK XV XA XW) (SlO c) (kO (F := F) c) (DoneO c XQ XK XV XA XW) (RawO c) k.val h1 h16)
    isplitl [HO7]; · iexact HO7
    isplitl [HO8]; · iexact HO8
    isplitl [HO9]; · iexact HO9
    isplitl [HO10]; · iexact HO10
    isplitl [HO5]; · iexact HO5
    iexact HO6
  isplitl [HU7 HU8 HU9 HU10 HU5 HU6]
  · iapply (outR_close (FlU c XQ XK XV XA XW) (SlU c) (kU (F := F) c) (DoneU c XQ XK XV XA XW) (RawU c) k.val h1 h16)
    isplitl [HU7]; · iexact HU7
    isplitl [HU8]; · iexact HU8
    isplitl [HU9]; · iexact HU9
    isplitl [HU10]; · iexact HU10
    isplitl [HU5]; · iexact HU5
    iexact HU6
  isplitl [Hs]; · iexact Hs
  iexact HWW

theorem stepL (XQ : XQ (F := F) c) (XK : XK (F := F) c) (XV : XV (F := F) c) (XA : XA (F := F) c) (XW : XW (F := F) c) (v39 v46 v53 : BitVec 32) (k : Fin k0_t1_loop.trips) (hr : k.val = 15) :
    rings c XQ XK XV XA XW k.val ⊢ wp frame (wpE (defs₀ (F := F)) 𝒱₀ (c : Thread nD τ) none) Set.univ (bodyG (F := F) v39 v46 v53 k (cw k.val))
      (fun a => invP c XQ XK XV XA XW (k.val + 1) a) := by
  have h16 : k.val < 16 := Nat.lt_of_lt_of_eq k.isLt trips16
  have h1 : 1 ≤ k.val := by omega
  have hb := bodyStep c v39 v46 v53 k _ _ iprop(SlQ c (Ring.sl 2 (k.val + 1)) ∗ kQ (F := F) c (Ring.sl 2 (k.val + 1)) ∗ bigSep (Finset.univ.erase (Ring.bk 16 k.val)) (hQ c XQ) ∗ SlK c (Ring.sl 2 (k.val + 1)) ∗ kK (F := F) c (Ring.sl 2 (k.val + 1)) ∗ bigSep (Finset.univ.erase (Ring.bk 16 k.val)) (hK c XK) ∗ SlV c (Ring.sl 2 (k.val + 1)) ∗ kV (F := F) c (Ring.sl 2 (k.val + 1)) ∗ bigSep (Finset.univ.erase (Ring.bk 16 k.val)) (hV c XV) ∗ SlW c (Ring.sl 2 (k.val + 1)) ∗ kW (F := F) c (Ring.sl 2 (k.val + 1)) ∗ bigSep (Finset.univ.erase (Ring.bk 16 k.val)) (hW c XW) ∗ kA (F := F) c (Ring.sl 2 (k.val / 4)) ∗ SlA c (Ring.sl 2 (k.val / 4 + 1)) ∗ kA (F := F) c (Ring.sl 2 (k.val / 4 + 1)) ∗ bigSep Finset.univ (hA c XA) ∗ bigSep (Finset.univ.filter fun b : Fin 16 => b.val + 1 < k.val) (DoneO c XQ XK XV XA XW) ∗ bigSep (Finset.univ.filter fun b : Fin 16 => k.val + 1 ≤ b.val) (RawO c) ∗ bigSep (Finset.univ.filter fun b : Fin 16 => b.val + 1 < k.val) (DoneU c XQ XK XV XA XW) ∗ bigSep (Finset.univ.filter fun b : Fin 16 => k.val + 1 ≤ b.val) (RawU c)) (tripL c XQ XK XV XA XW k hr)
  unfold rings
  iintro ⟨HQ, HK, HV, HW, HA, HO, HU, Hs, HWW⟩
  ihave HQ := (inR_openL (FlQ c XQ) (SlQ c) (kQ (F := F) c) (hQ c XQ) k.val hr) $$ HQ
  icases HQ with ⟨HQ1, HQ2, HQ3, HQ4⟩
  ihave HK := (inR_openL (FlK c XK) (SlK c) (kK (F := F) c) (hK c XK) k.val hr) $$ HK
  icases HK with ⟨HK1, HK2, HK3, HK4⟩
  ihave HV := (inR_openL (FlV c XV) (SlV c) (kV (F := F) c) (hV c XV) k.val hr) $$ HV
  icases HV with ⟨HV1, HV2, HV3, HV4⟩
  ihave HW := (inR_openL (FlW c XW) (SlW c) (kW (F := F) c) (hW c XW) k.val hr) $$ HW
  icases HW with ⟨HW1, HW2, HW3, HW4⟩
  ihave HA := (featR_openH (FlA c XA) (HeA c XA) (SlA c) (kA (F := F) c) (hA c XA) k.val h16 (by omega)) $$ HA
  icases HA with ⟨HA1, HA2, HA3, HA4, HA5⟩
  ihave HO := (outR_open (FlO c XQ XK XV XA XW) (SlO c) (kO (F := F) c) (DoneO c XQ XK XV XA XW) (RawO c) k.val h1 h16) $$ HO
  icases HO with ⟨HO1, HO2, HO3, HO4, HO5, HO6⟩
  ihave HU := (outR_open (FlU c XQ XK XV XA XW) (SlU c) (kU (F := F) c) (DoneU c XQ XK XV XA XW) (RawU c) k.val h1 h16) $$ HU
  icases HU with ⟨HU1, HU2, HU3, HU4, HU5, HU6⟩
  iapply (wp_wand_r Idealize.ShloMosaic.frame (wpE (defs₀ (F := F)) 𝒱₀ (c : Thread nD τ) none) Set.univ)
  isplitl [HQ1 HK1 HV1 HW1 HA1 HO1 HO2 HO3 HO4 HU1 HU2 HU3 HU4 Hs HWW HQ2 HQ3 HQ4 HK2 HK3 HK4 HV2 HV3 HV4 HW2 HW3 HW4 HA2 HA3 HA4 HA5 HO5 HO6 HU5 HU6]
  · iapply hb
    isplitl [HQ1 HK1 HV1 HW1 HA1 HO1 HO2 HO3 HO4 HU1 HU2 HU3 HU4 Hs HWW]
    · unfold preL
      isplitl [HQ1]; · iexact HQ1
      isplitl [HK1]; · iexact HK1
      isplitl [HV1]; · iexact HV1
      isplitl [HW1]; · iexact HW1
      isplitl [HA1]; · iexact HA1
      isplitl [HO1]; · iexact HO1
      isplitl [HO2]; · iexact HO2
      isplitl [HO3]; · iexact HO3
      isplitl [HO4]; · iexact HO4
      isplitl [HU1]; · iexact HU1
      isplitl [HU2]; · iexact HU2
      isplitl [HU3]; · iexact HU3
      isplitl [HU4]; · iexact HU4
      isplitl [Hs]; · iexact Hs
      iexact HWW
    ·
      isplitl [HQ2]; · iexact HQ2
      isplitl [HQ3]; · iexact HQ3
      isplitl [HQ4]; · iexact HQ4
      isplitl [HK2]; · iexact HK2
      isplitl [HK3]; · iexact HK3
      isplitl [HK4]; · iexact HK4
      isplitl [HV2]; · iexact HV2
      isplitl [HV3]; · iexact HV3
      isplitl [HV4]; · iexact HV4
      isplitl [HW2]; · iexact HW2
      isplitl [HW3]; · iexact HW3
      isplitl [HW4]; · iexact HW4
      isplitl [HA2]; · iexact HA2
      isplitl [HA3]; · iexact HA3
      isplitl [HA4]; · iexact HA4
      isplitl [HA5]; · iexact HA5
      isplitl [HO5]; · iexact HO5
      isplitl [HO6]; · iexact HO6
      isplitl [HU5]; · iexact HU5
      iexact HU6
  iintro %a ⟨%ha, HP, HF⟩
  unfold postL
  icases HP with ⟨HQ5, HQ6, HQ7, HK5, HK6, HK7, HV5, HV6, HV7, HW5, HW6, HW7, HA6, HO7, HO8, HO9, HO10, HU7, HU8, HU9, HU10, Hs, HWW⟩
  icases HF with ⟨HQ2, HQ3, HQ4, HK2, HK3, HK4, HV2, HV3, HV4, HW2, HW3, HW4, HA2, HA3, HA4, HA5, HO5, HO6, HU5, HU6⟩
  unfold invP rings
  isplitr; · ipureintro; exact ha
  isplitl [HQ5 HQ6 HQ7 HQ2 HQ3 HQ4]
  · iapply (inR_closeL (FlQ c XQ) (SlQ c) (kQ (F := F) c) (hQ c XQ) k.val hr)
    isplitl [HQ5]; · iexact HQ5
    isplitl [HQ6]; · iexact HQ6
    isplitl [HQ7]; · iexact HQ7
    isplitl [HQ2]; · iexact HQ2
    isplitl [HQ3]; · iexact HQ3
    iexact HQ4
  isplitl [HK5 HK6 HK7 HK2 HK3 HK4]
  · iapply (inR_closeL (FlK c XK) (SlK c) (kK (F := F) c) (hK c XK) k.val hr)
    isplitl [HK5]; · iexact HK5
    isplitl [HK6]; · iexact HK6
    isplitl [HK7]; · iexact HK7
    isplitl [HK2]; · iexact HK2
    isplitl [HK3]; · iexact HK3
    iexact HK4
  isplitl [HV5 HV6 HV7 HV2 HV3 HV4]
  · iapply (inR_closeL (FlV c XV) (SlV c) (kV (F := F) c) (hV c XV) k.val hr)
    isplitl [HV5]; · iexact HV5
    isplitl [HV6]; · iexact HV6
    isplitl [HV7]; · iexact HV7
    isplitl [HV2]; · iexact HV2
    isplitl [HV3]; · iexact HV3
    iexact HV4
  isplitl [HW5 HW6 HW7 HW2 HW3 HW4]
  · iapply (inR_closeL (FlW c XW) (SlW c) (kW (F := F) c) (hW c XW) k.val hr)
    isplitl [HW5]; · iexact HW5
    isplitl [HW6]; · iexact HW6
    isplitl [HW7]; · iexact HW7
    isplitl [HW2]; · iexact HW2
    isplitl [HW3]; · iexact HW3
    iexact HW4
  isplitl [HA6 HA2 HA3 HA4 HA5]
  · iapply (featR_closeL (FlA c XA) (HeA c XA) (SlA c) (kA (F := F) c) (hA c XA) (fun s b => by iintro ⟨%f, -, H⟩; iexists f; iexact H) k.val hr)
    isplitl [HA6]; · iexact HA6
    isplitl [HA2]; · iexact HA2
    isplitl [HA3]; · iexact HA3
    isplitl [HA4]; · iexact HA4
    iexact HA5
  isplitl [HO7 HO8 HO9 HO10 HO5 HO6]
  · iapply (outR_close (FlO c XQ XK XV XA XW) (SlO c) (kO (F := F) c) (DoneO c XQ XK XV XA XW) (RawO c) k.val h1 h16)
    isplitl [HO7]; · iexact HO7
    isplitl [HO8]; · iexact HO8
    isplitl [HO9]; · iexact HO9
    isplitl [HO10]; · iexact HO10
    isplitl [HO5]; · iexact HO5
    iexact HO6
  isplitl [HU7 HU8 HU9 HU10 HU5 HU6]
  · iapply (outR_close (FlU c XQ XK XV XA XW) (SlU c) (kU (F := F) c) (DoneU c XQ XK XV XA XW) (RawU c) k.val h1 h16)
    isplitl [HU7]; · iexact HU7
    isplitl [HU8]; · iexact HU8
    isplitl [HU9]; · iexact HU9
    isplitl [HU10]; · iexact HU10
    isplitl [HU5]; · iexact HU5
    iexact HU6
  isplitl [Hs]; · iexact Hs
  iexact HWW

theorem step_all (XQ : XQ (F := F) c) (XK : XK (F := F) c) (XV : XV (F := F) c) (XA : XA (F := F) c) (XW : XW (F := F) c) (v39 v46 v53 : BitVec 32) (k : Fin k0_t1_loop.trips) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) :
    invP c XQ XK XV XA XW k.val acc ⊢ wp frame (wpE (defs₀ (F := F)) 𝒱₀ (c : Thread nD τ) none) Set.univ (bodyG (F := F) v39 v46 v53 k acc)
      (fun a => invP c XQ XK XV XA XW (k.val + 1) a) := by
  have h16 : k.val < 16 := Nat.lt_of_lt_of_eq k.isLt trips16
  unfold invP
  iintro ⟨%ha, H⟩
  subst ha
  by_cases h0 : k.val = 0
  · iapply (stepF c XQ XK XV XA XW v39 v46 v53 k h0); iexact H
  by_cases hL : k.val = 15
  · iapply (stepL c XQ XK XV XA XW v39 v46 v53 k hL); iexact H
  by_cases h4 : k.val % 4 = 0
  · iapply (stepB c XQ XK XV XA XW v39 v46 v53 k ⟨h4, by omega⟩); iexact H
  by_cases h3 : k.val % 4 = 3
  · iapply (stepP c XQ XK XV XA XW v39 v46 v53 k ⟨h3, by omega⟩); iexact H
  · iapply (stepM c XQ XK XV XA XW v39 v46 v53 k ⟨h4, h3⟩); iexact H

set_option warn.classDefReducibility false in
/-- The loop's invariant, for the run to find. -/
def loopInv (XQ : XQ (F := F) c) (XK : XK (F := F) c) (XV : XV (F := F) c) (XA : XA (F := F) c) (XW : XW (F := F) c) (v39 v46 v53 : BitVec 32) (init : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) :
    LoopInvTy_k0_t1 (F := F) Unit ℕ (UU nD τ) ℕ 𝒱₀ c none Set.univ (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 v39 v46 v53 init where
  inv k acc := invP c XQ XK XV XA XW k acc
  step k acc := step_all c XQ XK XV XA XW v39 v46 v53 k acc

end Step

end Cert.Proof.Attn
-- ==== Proof.Body.lean ====
/-
  The kernel's body: the first fetches, the loop, the last waits.
-/
module

public import proofs.«01_k».proof.Proof.Inv

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD)

/-- What the body is handed. -/
def preK (XQ : XQ (F := F) c) (XK : XK (F := F) c) (XV : XV (F := F) c) (XA : XA (F := F) c) (XW : XW (F := F) c) : sProp (MT nD τ sig Unit (Elt F) ℕ (UU nD τ) ℕ) :=
  iprop(hQ c XQ 0 ∗ bigSep (Finset.univ.erase 0) (hQ c XQ) ∗ SlQ c 0 ∗ SlQ c 1 ∗ kQ (F := F) c 0 ∗ kQ (F := F) c 1 ∗ hK c XK 0 ∗ bigSep (Finset.univ.erase 0) (hK c XK) ∗ SlK c 0 ∗ SlK c 1 ∗ kK (F := F) c 0 ∗ kK (F := F) c 1 ∗ hV c XV 0 ∗ bigSep (Finset.univ.erase 0) (hV c XV) ∗ SlV c 0 ∗ SlV c 1 ∗ kV (F := F) c 0 ∗ kV (F := F) c 1 ∗ hW c XW 0 ∗ bigSep (Finset.univ.erase 0) (hW c XW) ∗ SlW c 0 ∗ SlW c 1 ∗ kW (F := F) c 0 ∗ kW (F := F) c 1 ∗ hA c XA 0 ∗ bigSep (Finset.univ.erase 0) (hA c XA) ∗ SlA c 0 ∗ SlA c 1 ∗ kA (F := F) c 0 ∗ kA (F := F) c 1 ∗ SlO c 0 ∗ SlO c 1 ∗ kO (F := F) c 0 ∗ kO (F := F) c 1 ∗ bigSep Finset.univ (RawO c) ∗ SlU c 0 ∗ SlU c 1 ∗ kU (F := F) c 0 ∗ kU (F := F) c 1 ∗ bigSep Finset.univ (RawU c) ∗ scr c ∗ (∃ W, owes (c : Thread nD τ) 0 W))
/-- What it hands back. -/
def postK (XQ : XQ (F := F) c) (XK : XK (F := F) c) (XV : XV (F := F) c) (XA : XA (F := F) c) (XW : XW (F := F) c) : sProp (MT nD τ sig Unit (Elt F) ℕ (UU nD τ) ℕ) :=
  iprop(bigSep Finset.univ (hQ c XQ) ∗ SlQ c 0 ∗ SlQ c 1 ∗ kQ (F := F) c 0 ∗ kQ (F := F) c 1 ∗ bigSep Finset.univ (hK c XK) ∗ SlK c 0 ∗ SlK c 1 ∗ kK (F := F) c 0 ∗ kK (F := F) c 1 ∗ bigSep Finset.univ (hV c XV) ∗ SlV c 0 ∗ SlV c 1 ∗ kV (F := F) c 0 ∗ kV (F := F) c 1 ∗ bigSep Finset.univ (hW c XW) ∗ SlW c 0 ∗ SlW c 1 ∗ kW (F := F) c 0 ∗ kW (F := F) c 1 ∗ bigSep Finset.univ (hA c XA) ∗ SlA c 0 ∗ SlA c 1 ∗ kA (F := F) c 0 ∗ kA (F := F) c 1 ∗ bigSep Finset.univ (DoneO c XQ XK XV XA XW) ∗ SlO c 0 ∗ SlO c 1 ∗ kO (F := F) c 0 ∗ kO (F := F) c 1 ∗ bigSep Finset.univ (DoneU c XQ XK XV XA XW) ∗ SlU c 0 ∗ SlU c 1 ∗ kU (F := F) c 0 ∗ kU (F := F) c 1 ∗ scr c ∗ (∃ W, owes (c : Thread nD τ) 0 W))

theorem fold0 (XQ : XQ (F := F) c) (XK : XK (F := F) c) (XV : XV (F := F) c) (XA : XA (F := F) c) (XW : XW (F := F) c) : iprop(FlQ c XQ 0 0 ∗ SlQ c 1 ∗ kQ (F := F) c 1 ∗ bigSep (Finset.univ.erase 0) (hQ c XQ) ∗ FlK c XK 0 0 ∗ SlK c 1 ∗ kK (F := F) c 1 ∗ bigSep (Finset.univ.erase 0) (hK c XK) ∗ FlV c XV 0 0 ∗ SlV c 1 ∗ kV (F := F) c 1 ∗ bigSep (Finset.univ.erase 0) (hV c XV) ∗ FlW c XW 0 0 ∗ SlW c 1 ∗ kW (F := F) c 1 ∗ bigSep (Finset.univ.erase 0) (hW c XW) ∗ FlA c XA 0 0 ∗ SlA c 1 ∗ kA (F := F) c 1 ∗ bigSep (Finset.univ.erase 0) (hA c XA) ∗ (SlO c 0 ∗ SlO c 1) ∗ (kO (F := F) c 0 ∗ kO (F := F) c 1) ∗ bigSep Finset.univ (RawO c) ∗ (SlU c 0 ∗ SlU c 1) ∗ (kU (F := F) c 0 ∗ kU (F := F) c 1) ∗ bigSep Finset.univ (RawU c) ∗ scr c ∗ (∃ W, owes (c : Thread nD τ) 0 W)) ⊢ invP c XQ XK XV XA XW 0 (1#32, 0#32, 1#32, 0#32, 1#32, 0#32, 1#32, 0#32, 1#32, 0#32, 0#32, 0#32, 0#32, 0#32, 0#32, 0#32) := by
  unfold invP rings inR featR outR
  iintro ⟨H0, H1, H2, H3, H4, H5, H6, H7, H8, H9, H10, H11, H12, H13, H14, H15, H16, H17, H18, H19, H20, H21, H22, H23, H24, H25, H26, H27⟩
  isplitr
  · ipureintro; rfl
  isplitl [H0 H1 H2 H3]
  · rw [if_pos (by omega)]
    isplitl [H0]; · iexact H0
    isplitl [H1]; · iexact H1
    isplitl [H2]; · iexact H2
    iexact H3
  isplitl [H4 H5 H6 H7]
  · rw [if_pos (by omega)]
    isplitl [H4]; · iexact H4
    isplitl [H5]; · iexact H5
    isplitl [H6]; · iexact H6
    iexact H7
  isplitl [H8 H9 H10 H11]
  · rw [if_pos (by omega)]
    isplitl [H8]; · iexact H8
    isplitl [H9]; · iexact H9
    isplitl [H10]; · iexact H10
    iexact H11
  isplitl [H12 H13 H14 H15]
  · rw [if_pos (by omega)]
    isplitl [H12]; · iexact H12
    isplitl [H13]; · iexact H13
    isplitl [H14]; · iexact H14
    iexact H15
  isplitl [H16 H17 H18 H19]
  · rw [if_pos (by omega)]
    rw [if_pos (by omega)]
    isplitl [H16]; · iexact H16
    isplitl [H17]; · iexact H17
    isplitl [H18]; · iexact H18
    iexact H19
  isplitl [H20 H21 H22]
  · rw [if_pos (by omega)]
    isplitl [H20]; · iexact H20
    isplitl [H21]; · iexact H21
    iexact H22
  isplitl [H23 H24 H25]
  · rw [if_pos (by omega)]
    isplitl [H23]; · iexact H23
    isplitl [H24]; · iexact H24
    iexact H25
  isplitl [H26]; · iexact H26
  iexact H27

theorem open16 (XQ : XQ (F := F) c) (XK : XK (F := F) c) (XV : XV (F := F) c) (XA : XA (F := F) c) (XW : XW (F := F) c) : rings c XQ XK XV XA XW 16 ⊢ iprop(((SlQ c 0 ∗ SlQ c 1) ∗ (kQ (F := F) c 0 ∗ kQ (F := F) c 1) ∗ bigSep Finset.univ (hQ c XQ)) ∗ ((SlK c 0 ∗ SlK c 1) ∗ (kK (F := F) c 0 ∗ kK (F := F) c 1) ∗ bigSep Finset.univ (hK c XK)) ∗ ((SlV c 0 ∗ SlV c 1) ∗ (kV (F := F) c 0 ∗ kV (F := F) c 1) ∗ bigSep Finset.univ (hV c XV)) ∗ ((SlW c 0 ∗ SlW c 1) ∗ (kW (F := F) c 0 ∗ kW (F := F) c 1) ∗ bigSep Finset.univ (hW c XW)) ∗ ((SlA c 0 ∗ SlA c 1) ∗ (kA (F := F) c 0 ∗ kA (F := F) c 1) ∗ bigSep Finset.univ (hA c XA)) ∗ (FlO c XQ XK XV XA XW (Ring.sl 2 15) (Ring.bk 16 15) ∗ SlO c (Ring.sl 2 16) ∗ kO (F := F) c (Ring.sl 2 16) ∗ bigSep (Finset.univ.filter fun b : Fin 16 => b.val + 1 < 16) (DoneO c XQ XK XV XA XW) ∗ bigSep (Finset.univ.filter fun b : Fin 16 => 16 ≤ b.val) (RawO c)) ∗ (FlU c XQ XK XV XA XW (Ring.sl 2 15) (Ring.bk 16 15) ∗ SlU c (Ring.sl 2 16) ∗ kU (F := F) c (Ring.sl 2 16) ∗ bigSep (Finset.univ.filter fun b : Fin 16 => b.val + 1 < 16) (DoneU c XQ XK XV XA XW) ∗ bigSep (Finset.univ.filter fun b : Fin 16 => 16 ≤ b.val) (RawU c)) ∗ scr c ∗ (∃ W, owes (c : Thread nD τ) 0 W)) := by
  unfold rings inR featR outR
  rw [if_neg (show ¬ 16 < 16 by omega), if_neg (show ¬ 16 < 16 by omega), if_neg (show ¬ 16 < 16 by omega), if_neg (show ¬ 16 < 16 by omega), if_neg (show ¬ 16 < 16 by omega), if_neg (show ¬ 16 = 0 by omega), if_neg (show ¬ 16 = 0 by omega)]

theorem doneO (XQ : XQ (F := F) c) (XK : XK (F := F) c) (XV : XV (F := F) c) (XA : XA (F := F) c) (XW : XW (F := F) c) (s : Fin 2) (b : Fin 16) (f : Buf (Elt F) ((rO s).view.loc (c : Thread nD τ))) (g : XO (F := F) c)
    (h : RelO c XQ XK XV XA XW b (yO c s f)) : hO c (lO c s b f g) b ⊢ DoneO c XQ XK XV XA XW b := by
  iintro H
  iexists (lO c s b f g)
  isplitr
  · ipureintro; rw [read_lO]; exact h
  iexact H
theorem doneU (XQ : XQ (F := F) c) (XK : XK (F := F) c) (XV : XV (F := F) c) (XA : XA (F := F) c) (XW : XW (F := F) c) (s : Fin 2) (b : Fin 16) (f : Buf (Elt F) ((rU s).view.loc (c : Thread nD τ))) (g : XU (F := F) c)
    (h : RelU c XQ XK XV XA XW b (yU c s f)) : hU c (lU c s b f g) b ⊢ DoneU c XQ XK XV XA XW b := by
  iintro H
  iexists (lU c s b f g)
  isplitr
  · ipureintro; rw [read_lU]; exact h
  iexact H
theorem openEnd (XQ : XQ (F := F) c) (XK : XK (F := F) c) (XV : XV (F := F) c) (XA : XA (F := F) c) (XW : XW (F := F) c) (acc) : invP c XQ XK XV XA XW (Scf.trips k0_t1_loop.lb k0_t1_loop.ub k0_t1_loop.st) acc ⊢ iprop(⌜acc = cw 16⌝ ∗ ((SlQ c 0 ∗ SlQ c 1) ∗ (kQ (F := F) c 0 ∗ kQ (F := F) c 1) ∗ bigSep Finset.univ (hQ c XQ)) ∗ ((SlK c 0 ∗ SlK c 1) ∗ (kK (F := F) c 0 ∗ kK (F := F) c 1) ∗ bigSep Finset.univ (hK c XK)) ∗ ((SlV c 0 ∗ SlV c 1) ∗ (kV (F := F) c 0 ∗ kV (F := F) c 1) ∗ bigSep Finset.univ (hV c XV)) ∗ ((SlW c 0 ∗ SlW c 1) ∗ (kW (F := F) c 0 ∗ kW (F := F) c 1) ∗ bigSep Finset.univ (hW c XW)) ∗ ((SlA c 0 ∗ SlA c 1) ∗ (kA (F := F) c 0 ∗ kA (F := F) c 1) ∗ bigSep Finset.univ (hA c XA)) ∗ (FlO c XQ XK XV XA XW (Ring.sl 2 15) (Ring.bk 16 15) ∗ SlO c (Ring.sl 2 16) ∗ kO (F := F) c (Ring.sl 2 16) ∗ bigSep (Finset.univ.filter fun b : Fin 16 => b.val + 1 < 16) (DoneO c XQ XK XV XA XW) ∗ bigSep (Finset.univ.filter fun b : Fin 16 => 16 ≤ b.val) (RawO c)) ∗ (FlU c XQ XK XV XA XW (Ring.sl 2 15) (Ring.bk 16 15) ∗ SlU c (Ring.sl 2 16) ∗ kU (F := F) c (Ring.sl 2 16) ∗ bigSep (Finset.univ.filter fun b : Fin 16 => b.val + 1 < 16) (DoneU c XQ XK XV XA XW) ∗ bigSep (Finset.univ.filter fun b : Fin 16 => 16 ≤ b.val) (RawU c)) ∗ scr c ∗ (∃ W, owes (c : Thread nD τ) 0 W)) := by
  rw [show Scf.trips k0_t1_loop.lb k0_t1_loop.ub k0_t1_loop.st = 16 from trips16]
  unfold invP
  iintro ⟨He, H⟩
  isplitl [He]; · iexact He
  iapply (open16 c XQ XK XV XA XW); iexact H

abbrev bodyP : Prog (TpuEff nD τ sig (Elt F) Λ₀ .tc) PUnit :=
  cc0_fox_attention (F := F) (Memref.whole main_arg0) (Memref.isWhole_whole _) (Memref.whole main_arg0) (Memref.isWhole_whole _) (Memref.whole main_arg1) (Memref.isWhole_whole _) (Memref.whole main_arg2) (Memref.isWhole_whole _) (Memref.whole main_arg3) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13

attribute [local irreducible] invP in
set_option maxHeartbeats 4000000 in
theorem bodyRun (XQ : XQ (F := F) c) (XK : XK (F := F) c) (XV : XV (F := F) c) (XA : XA (F := F) c) (XW : XW (F := F) c) (Q : PUnit → sProp (MT nD τ sig Unit (Elt F) ℕ (UU nD τ) ℕ)) :
    iprop(preK c XQ XK XV XA XW ∗ (postK c XQ XK XV XA XW -∗ Q ⟨⟩))
      ⊢ wp frame (wpE (defs₀ (F := F)) 𝒱₀ (c : Thread nD τ) none) Set.univ (bodyP (F := F)) Q := by
  unfold preK
  iintro ⟨⟨HQB, HQR, ⟨%iQ, HQ0⟩, ⟨%jQ, HQ1⟩, HQC, HQD, HKB, HKR, ⟨%iK, HK0⟩, ⟨%jK, HK1⟩, HKC, HKD, HVB, HVR, ⟨%iV, HV0⟩, ⟨%jV, HV1⟩, HVC, HVD, HWB, HWR, ⟨%iW, HW0⟩, ⟨%jW, HW1⟩, HWC, HWD, HAB, HAR, ⟨%iA, HA0⟩, ⟨%jA, HA1⟩, HAC, HAD, HO0, HO1, HOC, HOD, HOR, HU0, HU1, HUC, HUD, HUR, Hs, ⟨%W, HW⟩⟩, Hk⟩
  sl_exec
  icases HO0 with ⟨%iO, HO0⟩
  icases HO1 with ⟨%jO, HO1⟩
  icases HU0 with ⟨%iU, HU0⟩
  icases HU1 with ⟨%jU, HU1⟩
  ihave HI := (fold0 c XQ XK XV XA XW) $$ [HQR HQ1 HQC HQD HKR HK1 HKC HKD HVR HV1 HVC HVD HWR HW1 HWC HWD HAR HA1 HAC HAD HO0 HO1 HOC HOD HOR HU0 HU1 HUC HUD HUR Hs HW]
  · sl_close
  let L := loopInv c XQ XK XV XA XW 1#32 1#32 1#32 (1#32, 0#32, 1#32, 0#32, 1#32, 0#32, 1#32, 0#32, 1#32, 0#32, 0#32, 0#32, 0#32, 0#32, 0#32, 0#32)
  have hh9 := chk9_ok
  have hh10 := chk10_ok
  have hh11 := chk11_ok
  sl_exec
  rename_i acc
  ihave HI := (openEnd c XQ XK XV XA XW _) $$ HI
  icases HI with ⟨%he, ⟨⟨HQ0, HQ1⟩, ⟨HQC, HQD⟩, HQB⟩, ⟨⟨HK0, HK1⟩, ⟨HKC, HKD⟩, HKB⟩, ⟨⟨HV0, HV1⟩, ⟨HVC, HVD⟩, HVB⟩, ⟨⟨HW0, HW1⟩, ⟨HWC, HWD⟩, HWB⟩, ⟨⟨HA0, HA1⟩, ⟨HAC, HAD⟩, HAB⟩, ⟨⟨%pO, %qO, %hpO, HFO⟩, HO1, HOD, HOR, HOZ⟩, ⟨⟨%pU, %qU, %hpU, HFU⟩, HU1, HUD, HUR, HUZ⟩, Hs, ⟨%W2, HW⟩⟩
  obtain ⟨a0, a1, a2, a3, a4, a5, a6, a7, a8, a9, a10, a11, a12, a13, a14, a15⟩ := acc
  simp only [cw, Prod.mk.injEq] at he
  obtain ⟨rfl, rfl, rfl, rfl, rfl, rfl, rfl, rfl, rfl, rfl, rfl, rfl, rfl, rfl, rfl, rfl⟩ := he
  sl_exec
  sl_step
  iapply Hk
  unfold postK
  isplitl [HQB]; · iexact HQB
  isplitl [HQ0]; · iexact HQ0
  isplitl [HQ1]; · iexact HQ1
  isplitl [HQC]; · iexact HQC
  isplitl [HQD]; · iexact HQD
  isplitl [HKB]; · iexact HKB
  isplitl [HK0]; · iexact HK0
  isplitl [HK1]; · iexact HK1
  isplitl [HKC]; · iexact HKC
  isplitl [HKD]; · iexact HKD
  isplitl [HVB]; · iexact HVB
  isplitl [HV0]; · iexact HV0
  isplitl [HV1]; · iexact HV1
  isplitl [HVC]; · iexact HVC
  isplitl [HVD]; · iexact HVD
  isplitl [HWB]; · iexact HWB
  isplitl [HW0]; · iexact HW0
  isplitl [HW1]; · iexact HW1
  isplitl [HWC]; · iexact HWC
  isplitl [HWD]; · iexact HWD
  isplitl [HAB]; · iexact HAB
  isplitl [HA0]; · iexact HA0
  isplitl [HA1]; · iexact HA1
  isplitl [HAC]; · iexact HAC
  isplitl [HAD]; · iexact HAD
  isplitl [HFO_dst HOR]
  · iapply (outR_all (DoneO c XQ XK XV XA XW))
    isplitl [HFO_dst]
    · iapply (doneO c XQ XK XV XA XW _ _ pO qO hpO); iexact HFO_dst
    iexact HOR
  isplitl [HO1]; · iexact HO1
  isplitl [HFO_src]; · iexists pO; iexact HFO_src
  isplitl [HOD]; · iexact HOD
  isplitl [HFO]; · iexact HFO
  isplitl [HFU_dst HUR]
  · iapply (outR_all (DoneU c XQ XK XV XA XW))
    isplitl [HFU_dst]
    · iapply (doneU c XQ XK XV XA XW _ _ pU qU hpU); iexact HFU_dst
    iexact HUR
  isplitl [HU1]; · iexact HU1
  isplitl [HFU_src]; · iexists pU; iexact HFU_src
  isplitl [HUD]; · iexact HUD
  isplitl [HFU]; · iexact HFU
  isplitl [Hs]; · iexact Hs
  iexists _; iexact HW

end Body
end Cert.Proof.Attn
-- ==== Proof.Cut.lean ====
/-
  The launch: the arrays cut into the rings' blocks, the kernel's run, the arrays joined back.
-/
module

public import proofs.«01_k».proof.Proof.Body

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

theorem eoe {M : Type} [URA M] {P Q : sProp M} (e : P = Q) : P ⊢ Q := e ▸ .rfl

abbrev E_S2x2x2048x128 (s : Fin 2) : Finset S2x2x2048x128.Idx := (Rect.unit (s := S2x2x2048x128) (so_S2x2x2048x128 s) S1x2x2048x128.size (so_S2x2x2048x128_inb s)).set
theorem mem_E_S2x2x2048x128 (s : Fin 2) (y : S2x2x2048x128.Idx) : y ∈ E_S2x2x2048x128 s ↔ (y 0).val = s.val := by
  rw [Rect.mem_set_unit]
  have h1 : (y 1).val < 2 := (y 1).isLt
  have h2 : (y 2).val < 2048 := (y 2).isLt
  have h3 : (y 3).val < 128 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2; omega
    · show 0 ≤ (y 2).val ∧ (y 2).val < 0 + 2048; omega
    · show 0 ≤ (y 3).val ∧ (y 3).val < 0 + 128; omega
theorem dj_E_S2x2x2048x128 : ∀ s s' : Fin 2, s ≠ s' → Disjoint (E_S2x2x2048x128 s) (E_S2x2x2048x128 s') := by
  intro s s' hne; rw [Finset.disjoint_left]; intro y hy hy'; rw [mem_E_S2x2x2048x128] at hy hy'; exact hne (Fin.ext (hy.symm.trans hy'))
theorem cv_E_S2x2x2048x128 : (Finset.univ : Finset (Fin 2)).biUnion E_S2x2x2048x128 = Finset.univ := by
  ext y; simp only [Finset.mem_biUnion, Finset.mem_univ, true_and, iff_true]; exact ⟨(y 0).cast (by decide), by rw [mem_E_S2x2x2048x128]; rfl⟩

abbrev E_S2x256x2048 (s : Fin 2) : Finset S2x256x2048.Idx := (Rect.unit (s := S2x256x2048) (so_S2x256x2048 s) S1x256x2048.size (so_S2x256x2048_inb s)).set
theorem mem_E_S2x256x2048 (s : Fin 2) (y : S2x256x2048.Idx) : y ∈ E_S2x256x2048 s ↔ (y 0).val = s.val := by
  rw [Rect.mem_set_unit]
  have h1 : (y 1).val < 256 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2048; omega
theorem dj_E_S2x256x2048 : ∀ s s' : Fin 2, s ≠ s' → Disjoint (E_S2x256x2048 s) (E_S2x256x2048 s') := by
  intro s s' hne; rw [Finset.disjoint_left]; intro y hy hy'; rw [mem_E_S2x256x2048] at hy hy'; exact hne (Fin.ext (hy.symm.trans hy'))
theorem cv_E_S2x256x2048 : (Finset.univ : Finset (Fin 2)).biUnion E_S2x256x2048 = Finset.univ := by
  ext y; simp only [Finset.mem_biUnion, Finset.mem_univ, true_and, iff_true]; exact ⟨(y 0).cast (by decide), by rw [mem_E_S2x256x2048]; rfl⟩

abbrev E_S2x2048x128 (s : Fin 2) : Finset S2x2048x128.Idx := (Rect.unit (s := S2x2048x128) (so_S2x2048x128 s) S1x2048x128.size (so_S2x2048x128_inb s)).set
theorem mem_E_S2x2048x128 (s : Fin 2) (y : S2x2048x128.Idx) : y ∈ E_S2x2048x128 s ↔ (y 0).val = s.val := by
  rw [Rect.mem_set_unit]
  have h1 : (y 1).val < 2048 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 128; omega
theorem dj_E_S2x2048x128 : ∀ s s' : Fin 2, s ≠ s' → Disjoint (E_S2x2048x128 s) (E_S2x2048x128 s') := by
  intro s s' hne; rw [Finset.disjoint_left]; intro y hy hy'; rw [mem_E_S2x2048x128] at hy hy'; exact hne (Fin.ext (hy.symm.trans hy'))
theorem cv_E_S2x2048x128 : (Finset.univ : Finset (Fin 2)).biUnion E_S2x2048x128 = Finset.univ := by
  ext y; simp only [Finset.mem_biUnion, Finset.mem_univ, true_and, iff_true]; exact ⟨(y 0).cast (by decide), by rw [mem_E_S2x2048x128]; rfl⟩

abbrev E_S2x1024x1024 (s : Fin 2) : Finset S2x1024x1024.Idx := (Rect.unit (s := S2x1024x1024) (so_S2x1024x1024 s) S1x1024x1024.size (so_S2x1024x1024_inb s)).set
theorem mem_E_S2x1024x1024 (s : Fin 2) (y : S2x1024x1024.Idx) : y ∈ E_S2x1024x1024 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem dj_E_S2x1024x1024 : ∀ s s' : Fin 2, s ≠ s' → Disjoint (E_S2x1024x1024 s) (E_S2x1024x1024 s') := by
  intro s s' hne; rw [Finset.disjoint_left]; intro y hy hy'; rw [mem_E_S2x1024x1024] at hy hy'; exact hne (Fin.ext (hy.symm.trans hy'))
theorem cv_E_S2x1024x1024 : (Finset.univ : Finset (Fin 2)).biUnion E_S2x1024x1024 = Finset.univ := by
  ext y; simp only [Finset.mem_biUnion, Finset.mem_univ, true_and, iff_true]; exact ⟨(y 0).cast (by decide), by rw [mem_E_S2x1024x1024]; rfl⟩

theorem rsetQ (s : Fin 2) : (rQ s : Memref sig .tc .vmem _ _).view.set = E_S2x2x2048x128 s := (View.set_reshape _ _).trans (View.set_slice_whole _ _)
abbrev G_Q (b : Fin 16) : Finset S16x8192x128.Idx := (Rect.unit (s := S16x8192x128) (boQ b) S2x2048x128.size (boQ_inb b)).set
theorem gsetQ (b : Fin 16) : (gQ b : Memref sig .tc .hbm _ _).view.set = G_Q b := View.set_slice_whole _ _
theorem mem_G_Q (b : Fin 16) (y : S16x8192x128.Idx) : y ∈ G_Q b ↔ (2 * (b.val % 4) ≤ (y 0).val ∧ (y 0).val < 2 * (b.val % 4) + 2) ∧ (2048 * (b.val / 4) ≤ (y 1).val ∧ (y 1).val < 2048 * (b.val / 4) + 2048) := by
  rw [Rect.mem_set_unit]
  have h0 : (y 0).val < 16 := (y 0).isLt
  have h1 : (y 1).val < 8192 := (y 1).isLt
  have h2 : (y 2).val < 128 := (y 2).isLt
  constructor
  · intro H
    have a0 : 2 * (b.val % 4) ≤ (y 0).val ∧ (y 0).val < 2 * (b.val % 4) + 2 := H 0
    have a1 : 2048 * (b.val / 4) ≤ (y 1).val ∧ (y 1).val < 2048 * (b.val / 4) + 2048 := H 1
    omega
  · intro H i; fin_cases i
    · show 2 * (b.val % 4) ≤ (y 0).val ∧ (y 0).val < 2 * (b.val % 4) + 2; omega
    · show 2048 * (b.val / 4) ≤ (y 1).val ∧ (y 1).val < 2048 * (b.val / 4) + 2048; omega
    · show 0 ≤ (y 2).val ∧ (y 2).val < 0 + 128; omega
theorem dj_G_Q : ∀ b b' : Fin 16, b ≠ b' → Disjoint (G_Q b) (G_Q b') := by
  intro b b' hne; rw [Finset.disjoint_left]; intro y hy hy'; rw [mem_G_Q] at hy hy'
  have h1 := b.isLt; have h2 := b'.isLt
  exact hne (Fin.ext (by omega))

theorem rsetK (s : Fin 2) : (rK s : Memref sig .tc .vmem _ _).view.set = E_S2x2x2048x128 s := (View.set_reshape _ _).trans (View.set_slice_whole _ _)
abbrev G_K (b : Fin 16) : Finset S16x8192x128.Idx := (Rect.unit (s := S16x8192x128) (boK b) S2x2048x128.size (boK_inb b)).set
theorem gsetK (b : Fin 16) : (gK b : Memref sig .tc .hbm _ _).view.set = G_K b := View.set_slice_whole _ _
theorem mem_G_K (b : Fin 16) (y : S16x8192x128.Idx) : y ∈ G_K b ↔ (8 + 2 * (b.val % 4) ≤ (y 0).val ∧ (y 0).val < 8 + 2 * (b.val % 4) + 2) ∧ (2048 * (b.val / 4) ≤ (y 1).val ∧ (y 1).val < 2048 * (b.val / 4) + 2048) := by
  rw [Rect.mem_set_unit]
  have h0 : (y 0).val < 16 := (y 0).isLt
  have h1 : (y 1).val < 8192 := (y 1).isLt
  have h2 : (y 2).val < 128 := (y 2).isLt
  constructor
  · intro H
    have a0 : 8 + 2 * (b.val % 4) ≤ (y 0).val ∧ (y 0).val < 8 + 2 * (b.val % 4) + 2 := H 0
    have a1 : 2048 * (b.val / 4) ≤ (y 1).val ∧ (y 1).val < 2048 * (b.val / 4) + 2048 := H 1
    omega
  · intro H i; fin_cases i
    · show 8 + 2 * (b.val % 4) ≤ (y 0).val ∧ (y 0).val < 8 + 2 * (b.val % 4) + 2; omega
    · show 2048 * (b.val / 4) ≤ (y 1).val ∧ (y 1).val < 2048 * (b.val / 4) + 2048; omega
    · show 0 ≤ (y 2).val ∧ (y 2).val < 0 + 128; omega
theorem dj_G_K : ∀ b b' : Fin 16, b ≠ b' → Disjoint (G_K b) (G_K b') := by
  intro b b' hne; rw [Finset.disjoint_left]; intro y hy hy'; rw [mem_G_K] at hy hy'
  have h1 := b.isLt; have h2 := b'.isLt
  exact hne (Fin.ext (by omega))

theorem rsetV (s : Fin 2) : (rV s : Memref sig .tc .vmem _ _).view.set = E_S2x256x2048 s := (View.set_reshape _ _).trans (View.set_slice_whole _ _)
abbrev G_V (b : Fin 16) : Finset S1024x8192.Idx := (Rect.unit (s := S1024x8192) (boV b) S256x2048.size (boV_inb b)).set
theorem gsetV (b : Fin 16) : (gV b : Memref sig .tc .hbm _ _).view.set = G_V b := View.set_slice_whole _ _
theorem mem_G_V (b : Fin 16) (y : S1024x8192.Idx) : y ∈ G_V b ↔ (256 * (b.val % 4) ≤ (y 0).val ∧ (y 0).val < 256 * (b.val % 4) + 256) ∧ (2048 * (b.val / 4) ≤ (y 1).val ∧ (y 1).val < 2048 * (b.val / 4) + 2048) := by
  rw [Rect.mem_set_unit]
  have h0 : (y 0).val < 1024 := (y 0).isLt
  have h1 : (y 1).val < 8192 := (y 1).isLt
  constructor
  · intro H
    have a0 : 256 * (b.val % 4) ≤ (y 0).val ∧ (y 0).val < 256 * (b.val % 4) + 256 := H 0
    have a1 : 2048 * (b.val / 4) ≤ (y 1).val ∧ (y 1).val < 2048 * (b.val / 4) + 2048 := H 1
    omega
  · intro H i; fin_cases i
    · show 256 * (b.val % 4) ≤ (y 0).val ∧ (y 0).val < 256 * (b.val % 4) + 256; omega
    · show 2048 * (b.val / 4) ≤ (y 1).val ∧ (y 1).val < 2048 * (b.val / 4) + 2048; omega
theorem dj_G_V : ∀ b b' : Fin 16, b ≠ b' → Disjoint (G_V b) (G_V b') := by
  intro b b' hne; rw [Finset.disjoint_left]; intro y hy hy'; rw [mem_G_V] at hy hy'
  have h1 := b.isLt; have h2 := b'.isLt
  exact hne (Fin.ext (by omega))
theorem cv_G_V : (Finset.univ : Finset (Fin 16)).biUnion G_V = Finset.univ := by
  ext y; simp only [Finset.mem_biUnion, Finset.mem_univ, true_and, iff_true]
  have h0 : (y 0).val < 1024 := (y 0).isLt
  have h1 : (y 1).val < 8192 := (y 1).isLt
  refine ⟨⟨(y 0).val / 256 + 4 * ((y 1).val / 2048), by omega⟩, ?_⟩
  rw [mem_G_V]; dsimp only; omega

theorem rsetA (s : Fin 2) : (rA s : Memref sig .tc .vmem _ _).view.set = E_S2x2048x128 s := (View.set_reshape _ _).trans (View.set_slice_whole _ _)
abbrev G_A (b : Fin 4) : Finset S8192x128.Idx := (Rect.unit (s := S8192x128) (boA b) S2048x128.size (boA_inb b)).set
theorem gsetA (b : Fin 4) : (gA b : Memref sig .tc .hbm _ _).view.set = G_A b := View.set_slice_whole _ _
theorem mem_G_A (b : Fin 4) (y : S8192x128.Idx) : y ∈ G_A b ↔ (2048 * b.val ≤ (y 0).val ∧ (y 0).val < 2048 * b.val + 2048) := by
  rw [Rect.mem_set_unit]
  have h0 : (y 0).val < 8192 := (y 0).isLt
  have h1 : (y 1).val < 128 := (y 1).isLt
  constructor
  · intro H
    have a0 : 2048 * b.val ≤ (y 0).val ∧ (y 0).val < 2048 * b.val + 2048 := H 0
    omega
  · intro H i; fin_cases i
    · show 2048 * b.val ≤ (y 0).val ∧ (y 0).val < 2048 * b.val + 2048; omega
    · show 0 ≤ (y 1).val ∧ (y 1).val < 0 + 128; omega
theorem dj_G_A : ∀ b b' : Fin 4, b ≠ b' → Disjoint (G_A b) (G_A b') := by
  intro b b' hne; rw [Finset.disjoint_left]; intro y hy hy'; rw [mem_G_A] at hy hy'
  have h1 := b.isLt; have h2 := b'.isLt
  exact hne (Fin.ext (by omega))
theorem cv_G_A : (Finset.univ : Finset (Fin 4)).biUnion G_A = Finset.univ := by
  ext y; simp only [Finset.mem_biUnion, Finset.mem_univ, true_and, iff_true]
  have h0 : (y 0).val < 8192 := (y 0).isLt
  have h1 : (y 1).val < 128 := (y 1).isLt
  refine ⟨⟨(y 0).val / 2048, by omega⟩, ?_⟩
  rw [mem_G_A]; dsimp only; omega

theorem rsetW (s : Fin 2) : (rW s : Memref sig .tc .vmem _ _).view.set = E_S2x1024x1024 s := (View.set_reshape _ _).trans (View.set_slice_whole _ _)
abbrev G_W (b : Fin 16) : Finset S2048x8192.Idx := (Rect.unit (s := S2048x8192) (boW b) S1024x1024.size (boW_inb b)).set
theorem gsetW (b : Fin 16) : (gW b : Memref sig .tc .hbm _ _).view.set = G_W b := View.set_slice_whole _ _
theorem mem_G_W (b : Fin 16) (y : S2048x8192.Idx) : y ∈ G_W b ↔ (1024 * (b.val % 2) ≤ (y 0).val ∧ (y 0).val < 1024 * (b.val % 2) + 1024) ∧ (1024 * (b.val / 2) ≤ (y 1).val ∧ (y 1).val < 1024 * (b.val / 2) + 1024) := by
  rw [Rect.mem_set_unit]
  have h0 : (y 0).val < 2048 := (y 0).isLt
  have h1 : (y 1).val < 8192 := (y 1).isLt
  constructor
  · intro H
    have a0 : 1024 * (b.val % 2) ≤ (y 0).val ∧ (y 0).val < 1024 * (b.val % 2) + 1024 := H 0
    have a1 : 1024 * (b.val / 2) ≤ (y 1).val ∧ (y 1).val < 1024 * (b.val / 2) + 1024 := H 1
    omega
  · intro H i; fin_cases i
    · show 1024 * (b.val % 2) ≤ (y 0).val ∧ (y 0).val < 1024 * (b.val % 2) + 1024; omega
    · show 1024 * (b.val / 2) ≤ (y 1).val ∧ (y 1).val < 1024 * (b.val / 2) + 1024; omega
theorem dj_G_W : ∀ b b' : Fin 16, b ≠ b' → Disjoint (G_W b) (G_W b') := by
  intro b b' hne; rw [Finset.disjoint_left]; intro y hy hy'; rw [mem_G_W] at hy hy'
  have h1 := b.isLt; have h2 := b'.isLt
  exact hne (Fin.ext (by omega))
theorem cv_G_W : (Finset.univ : Finset (Fin 16)).biUnion G_W = Finset.univ := by
  ext y; simp only [Finset.mem_biUnion, Finset.mem_univ, true_and, iff_true]
  have h0 : (y 0).val < 2048 := (y 0).isLt
  have h1 : (y 1).val < 8192 := (y 1).isLt
  refine ⟨⟨(y 0).val / 1024 + 2 * ((y 1).val / 1024), by omega⟩, ?_⟩
  rw [mem_G_W]; dsimp only; omega

theorem rsetO (s : Fin 2) : (rO s : Memref sig .tc .vmem _ _).view.set = E_S2x2x2048x128 s := (View.set_reshape _ _).trans (View.set_slice_whole _ _)
abbrev G_O (b : Fin 16) : Finset S8x8192x128.Idx := (Rect.unit (s := S8x8192x128) (boO b) S2x2048x128.size (boO_inb b)).set
theorem gsetO (b : Fin 16) : (gO b : Memref sig .tc .hbm _ _).view.set = G_O b := View.set_slice_whole _ _
theorem mem_G_O (b : Fin 16) (y : S8x8192x128.Idx) : y ∈ G_O b ↔ (2 * (b.val % 4) ≤ (y 0).val ∧ (y 0).val < 2 * (b.val % 4) + 2) ∧ (2048 * (b.val / 4) ≤ (y 1).val ∧ (y 1).val < 2048 * (b.val / 4) + 2048) := by
  rw [Rect.mem_set_unit]
  have h0 : (y 0).val < 8 := (y 0).isLt
  have h1 : (y 1).val < 8192 := (y 1).isLt
  have h2 : (y 2).val < 128 := (y 2).isLt
  constructor
  · intro H
    have a0 : 2 * (b.val % 4) ≤ (y 0).val ∧ (y 0).val < 2 * (b.val % 4) + 2 := H 0
    have a1 : 2048 * (b.val / 4) ≤ (y 1).val ∧ (y 1).val < 2048 * (b.val / 4) + 2048 := H 1
    omega
  · intro H i; fin_cases i
    · show 2 * (b.val % 4) ≤ (y 0).val ∧ (y 0).val < 2 * (b.val % 4) + 2; omega
    · show 2048 * (b.val / 4) ≤ (y 1).val ∧ (y 1).val < 2048 * (b.val / 4) + 2048; omega
    · show 0 ≤ (y 2).val ∧ (y 2).val < 0 + 128; omega
theorem dj_G_O : ∀ b b' : Fin 16, b ≠ b' → Disjoint (G_O b) (G_O b') := by
  intro b b' hne; rw [Finset.disjoint_left]; intro y hy hy'; rw [mem_G_O] at hy hy'
  have h1 := b.isLt; have h2 := b'.isLt
  exact hne (Fin.ext (by omega))
theorem cv_G_O : (Finset.univ : Finset (Fin 16)).biUnion G_O = Finset.univ := by
  ext y; simp only [Finset.mem_biUnion, Finset.mem_univ, true_and, iff_true]
  have h0 : (y 0).val < 8 := (y 0).isLt
  have h1 : (y 1).val < 8192 := (y 1).isLt
  have h2 : (y 2).val < 128 := (y 2).isLt
  refine ⟨⟨(y 0).val / 2 + 4 * ((y 1).val / 2048), by omega⟩, ?_⟩
  rw [mem_G_O]; dsimp only; omega

theorem rsetU (s : Fin 2) : (rU s : Memref sig .tc .vmem _ _).view.set = E_S2x1024x1024 s := (View.set_reshape _ _).trans (View.set_slice_whole _ _)
abbrev G_U (b : Fin 16) : Finset S8x2048x1024.Idx := (Rect.unit (s := S8x2048x1024) (boU b) S1x1024x1024.size (boU_inb b)).set
theorem gsetU (b : Fin 16) : (gU b : Memref sig .tc .hbm _ _).view.set = G_U b := (View.set_reshape _ _).trans (View.set_slice_whole _ _)
theorem mem_G_U (b : Fin 16) (y : S8x2048x1024.Idx) : y ∈ G_U b ↔ (b.val / 2 ≤ (y 0).val ∧ (y 0).val < b.val / 2 + 1) ∧ (1024 * (b.val % 2) ≤ (y 1).val ∧ (y 1).val < 1024 * (b.val % 2) + 1024) := by
  rw [Rect.mem_set_unit]
  have h0 : (y 0).val < 8 := (y 0).isLt
  have h1 : (y 1).val < 2048 := (y 1).isLt
  have h2 : (y 2).val < 1024 := (y 2).isLt
  constructor
  · intro H
    have a0 : b.val / 2 ≤ (y 0).val ∧ (y 0).val < b.val / 2 + 1 := H 0
    have a1 : 1024 * (b.val % 2) ≤ (y 1).val ∧ (y 1).val < 1024 * (b.val % 2) + 1024 := H 1
    omega
  · intro H i; fin_cases i
    · show b.val / 2 ≤ (y 0).val ∧ (y 0).val < b.val / 2 + 1; omega
    · show 1024 * (b.val % 2) ≤ (y 1).val ∧ (y 1).val < 1024 * (b.val % 2) + 1024; omega
    · show 0 ≤ (y 2).val ∧ (y 2).val < 0 + 1024; omega
theorem dj_G_U : ∀ b b' : Fin 16, b ≠ b' → Disjoint (G_U b) (G_U b') := by
  intro b b' hne; rw [Finset.disjoint_left]; intro y hy hy'; rw [mem_G_U] at hy hy'
  have h1 := b.isLt; have h2 := b'.isLt
  exact hne (Fin.ext (by omega))
theorem cv_G_U : (Finset.univ : Finset (Fin 16)).biUnion G_U = Finset.univ := by
  ext y; simp only [Finset.mem_biUnion, Finset.mem_univ, true_and, iff_true]
  have h0 : (y 0).val < 8 := (y 0).isLt
  have h1 : (y 1).val < 2048 := (y 1).isLt
  have h2 : (y 2).val < 1024 := (y 2).isLt
  refine ⟨⟨2 * (y 0).val + (y 1).val / 1024, by omega⟩, ?_⟩
  rw [mem_G_U]; dsimp only; omega

theorem dj_QK : Disjoint ((Finset.univ : Finset (Fin 16)).biUnion G_Q) ((Finset.univ : Finset (Fin 16)).biUnion G_K) := by
  rw [Finset.disjoint_left]; intro y hy hy'
  simp only [Finset.mem_biUnion, Finset.mem_univ, true_and] at hy hy'
  obtain ⟨b, hb⟩ := hy; obtain ⟨b', hb'⟩ := hy'
  rw [mem_G_Q] at hb; rw [mem_G_K] at hb'
  omega
theorem cv_QK : (Finset.univ : Finset (Fin 16)).biUnion G_Q ∪ (Finset.univ : Finset (Fin 16)).biUnion G_K = Finset.univ := by
  ext y; simp only [Finset.mem_union, Finset.mem_biUnion, Finset.mem_univ, true_and, iff_true]
  have h0 : (y 0).val < 16 := (y 0).isLt
  have h1 : (y 1).val < 8192 := (y 1).isLt
  by_cases h : (y 0).val < 8
  · left; refine ⟨⟨(y 0).val / 2 + 4 * ((y 1).val / 2048), by omega⟩, ?_⟩
    rw [mem_G_Q]; dsimp only; omega
  · right; refine ⟨⟨((y 0).val - 8) / 2 + 4 * ((y 1).val / 2048), by omega⟩, ?_⟩
    rw [mem_G_K]; dsimp only; omega

theorem bs2 (Φ : Fin 2 → sProp 𝕄) : bigSep Finset.univ Φ = iprop(Φ 0 ∗ Φ 1) :=
  bigSep_univ_eq_bigSepL [(0 : Fin 2), (1 : Fin 2)] (by decide) (by decide) Φ

section Cut
variable (c : Dev nD)

theorem sEQ (s : Fin 2) (f : Buf (Elt F) ((c : Thread nD τ).loc cc0_scoped0)) : (sQ c s f : sProp 𝕄) = (((c : Thread nD τ).loc cc0_scoped0) ↦[E_S2x2x2048x128 s]{fullShare} f : sProp 𝕄) :=
  congrArg (fun S => (_ ↦[S]{fullShare} f : sProp 𝕄)) (rsetQ s)
theorem cutQ : iprop(∃ f : Buf (Elt F) ((c : Thread nD τ).loc cc0_scoped0), ((c : Thread nD τ).loc cc0_scoped0) ↦{fullShare} f)
      ⊢ (iprop(SlQ c 0 ∗ SlQ c 1) : sProp 𝕄) := by
  iintro ⟨%f, H⟩
  ihave H2 := (eoe ((Ring.pointsTo_blocks (Ix := Unit) (Name := ℕ) (U := UU nD τ) (Lvl := ℕ) (q := fullShare) (ℓ := (c : Thread nD τ).loc cc0_scoped0) E_S2x2x2048x128 dj_E_S2x2x2048x128 cv_E_S2x2x2048x128 f).trans (bs2 _))) $$ H
  icases H2 with ⟨H0, H1⟩
  isplitl [H0]
  · iexists f; iapply (eoe (sEQ c 0 f).symm); iexact H0
  · iexists f; iapply (eoe (sEQ c 1 f).symm); iexact H1
theorem joinQ : (iprop(SlQ c 0 ∗ SlQ c 1) : sProp 𝕄)
      ⊢ iprop(∃ f : Buf (Elt F) ((c : Thread nD τ).loc cc0_scoped0), ((c : Thread nD τ).loc cc0_scoped0) ↦{fullShare} f) := by
  iintro ⟨⟨%f0, H0⟩, ⟨%f1, H1⟩⟩
  iapply (Ring.pointsTo_blocks_join_exists (ℓ := (c : Thread nD τ).loc cc0_scoped0) E_S2x2x2048x128 dj_E_S2x2x2048x128 cv_E_S2x2x2048x128 f0)
  irw [bs2]
  isplitl [H0]
  · iexists f0; iapply (eoe (sEQ c 0 f0)); iexact H0
  · iexists f1; iapply (eoe (sEQ c 1 f1)); iexact H1
theorem hEQ (b : Fin 16) (X : XQ (F := F) c) : (hQ c X b : sProp 𝕄) = (((c : Thread nD τ).loc main_arg0) ↦[G_Q b]{fullShare} X : sProp 𝕄) :=
  congrArg (fun S => (_ ↦[S]{fullShare} X : sProp 𝕄)) (gsetQ b)

theorem sEK (s : Fin 2) (f : Buf (Elt F) ((c : Thread nD τ).loc cc0_scoped2)) : (sK c s f : sProp 𝕄) = (((c : Thread nD τ).loc cc0_scoped2) ↦[E_S2x2x2048x128 s]{fullShare} f : sProp 𝕄) :=
  congrArg (fun S => (_ ↦[S]{fullShare} f : sProp 𝕄)) (rsetK s)
theorem cutK : iprop(∃ f : Buf (Elt F) ((c : Thread nD τ).loc cc0_scoped2), ((c : Thread nD τ).loc cc0_scoped2) ↦{fullShare} f)
      ⊢ (iprop(SlK c 0 ∗ SlK c 1) : sProp 𝕄) := by
  iintro ⟨%f, H⟩
  ihave H2 := (eoe ((Ring.pointsTo_blocks (Ix := Unit) (Name := ℕ) (U := UU nD τ) (Lvl := ℕ) (q := fullShare) (ℓ := (c : Thread nD τ).loc cc0_scoped2) E_S2x2x2048x128 dj_E_S2x2x2048x128 cv_E_S2x2x2048x128 f).trans (bs2 _))) $$ H
  icases H2 with ⟨H0, H1⟩
  isplitl [H0]
  · iexists f; iapply (eoe (sEK c 0 f).symm); iexact H0
  · iexists f; iapply (eoe (sEK c 1 f).symm); iexact H1
theorem joinK : (iprop(SlK c 0 ∗ SlK c 1) : sProp 𝕄)
      ⊢ iprop(∃ f : Buf (Elt F) ((c : Thread nD τ).loc cc0_scoped2), ((c : Thread nD τ).loc cc0_scoped2) ↦{fullShare} f) := by
  iintro ⟨⟨%f0, H0⟩, ⟨%f1, H1⟩⟩
  iapply (Ring.pointsTo_blocks_join_exists (ℓ := (c : Thread nD τ).loc cc0_scoped2) E_S2x2x2048x128 dj_E_S2x2x2048x128 cv_E_S2x2x2048x128 f0)
  irw [bs2]
  isplitl [H0]
  · iexists f0; iapply (eoe (sEK c 0 f0)); iexact H0
  · iexists f1; iapply (eoe (sEK c 1 f1)); iexact H1
theorem hEK (b : Fin 16) (X : XK (F := F) c) : (hK c X b : sProp 𝕄) = (((c : Thread nD τ).loc main_arg0) ↦[G_K b]{fullShare} X : sProp 𝕄) :=
  congrArg (fun S => (_ ↦[S]{fullShare} X : sProp 𝕄)) (gsetK b)

theorem sEV (s : Fin 2) (f : Buf (Elt F) ((c : Thread nD τ).loc cc0_scoped4)) : (sV c s f : sProp 𝕄) = (((c : Thread nD τ).loc cc0_scoped4) ↦[E_S2x256x2048 s]{fullShare} f : sProp 𝕄) :=
  congrArg (fun S => (_ ↦[S]{fullShare} f : sProp 𝕄)) (rsetV s)
theorem cutV : iprop(∃ f : Buf (Elt F) ((c : Thread nD τ).loc cc0_scoped4), ((c : Thread nD τ).loc cc0_scoped4) ↦{fullShare} f)
      ⊢ (iprop(SlV c 0 ∗ SlV c 1) : sProp 𝕄) := by
  iintro ⟨%f, H⟩
  ihave H2 := (eoe ((Ring.pointsTo_blocks (Ix := Unit) (Name := ℕ) (U := UU nD τ) (Lvl := ℕ) (q := fullShare) (ℓ := (c : Thread nD τ).loc cc0_scoped4) E_S2x256x2048 dj_E_S2x256x2048 cv_E_S2x256x2048 f).trans (bs2 _))) $$ H
  icases H2 with ⟨H0, H1⟩
  isplitl [H0]
  · iexists f; iapply (eoe (sEV c 0 f).symm); iexact H0
  · iexists f; iapply (eoe (sEV c 1 f).symm); iexact H1
theorem joinV : (iprop(SlV c 0 ∗ SlV c 1) : sProp 𝕄)
      ⊢ iprop(∃ f : Buf (Elt F) ((c : Thread nD τ).loc cc0_scoped4), ((c : Thread nD τ).loc cc0_scoped4) ↦{fullShare} f) := by
  iintro ⟨⟨%f0, H0⟩, ⟨%f1, H1⟩⟩
  iapply (Ring.pointsTo_blocks_join_exists (ℓ := (c : Thread nD τ).loc cc0_scoped4) E_S2x256x2048 dj_E_S2x256x2048 cv_E_S2x256x2048 f0)
  irw [bs2]
  isplitl [H0]
  · iexists f0; iapply (eoe (sEV c 0 f0)); iexact H0
  · iexists f1; iapply (eoe (sEV c 1 f1)); iexact H1
theorem hEV (b : Fin 16) (X : XV (F := F) c) : (hV c X b : sProp 𝕄) = (((c : Thread nD τ).loc main_arg1) ↦[G_V b]{fullShare} X : sProp 𝕄) :=
  congrArg (fun S => (_ ↦[S]{fullShare} X : sProp 𝕄)) (gsetV b)
theorem arrV (X : XV (F := F) c) : (((c : Thread nD τ).loc main_arg1) ↦{fullShare} X : sProp 𝕄) = bigSep Finset.univ (hV c X) := by
  rw [Ring.pointsTo_blocks (ℓ := (c : Thread nD τ).loc main_arg1) G_V dj_G_V cv_G_V]
  exact bigSep_congr fun b _ => (hEV c b X).symm

theorem sEA (s : Fin 2) (f : Buf (Elt F) ((c : Thread nD τ).loc cc0_scoped6)) : (sA c s f : sProp 𝕄) = (((c : Thread nD τ).loc cc0_scoped6) ↦[E_S2x2048x128 s]{fullShare} f : sProp 𝕄) :=
  congrArg (fun S => (_ ↦[S]{fullShare} f : sProp 𝕄)) (rsetA s)
theorem cutA : iprop(∃ f : Buf (Elt F) ((c : Thread nD τ).loc cc0_scoped6), ((c : Thread nD τ).loc cc0_scoped6) ↦{fullShare} f)
      ⊢ (iprop(SlA c 0 ∗ SlA c 1) : sProp 𝕄) := by
  iintro ⟨%f, H⟩
  ihave H2 := (eoe ((Ring.pointsTo_blocks (Ix := Unit) (Name := ℕ) (U := UU nD τ) (Lvl := ℕ) (q := fullShare) (ℓ := (c : Thread nD τ).loc cc0_scoped6) E_S2x2048x128 dj_E_S2x2048x128 cv_E_S2x2048x128 f).trans (bs2 _))) $$ H
  icases H2 with ⟨H0, H1⟩
  isplitl [H0]
  · iexists f; iapply (eoe (sEA c 0 f).symm); iexact H0
  · iexists f; iapply (eoe (sEA c 1 f).symm); iexact H1
theorem joinA : (iprop(SlA c 0 ∗ SlA c 1) : sProp 𝕄)
      ⊢ iprop(∃ f : Buf (Elt F) ((c : Thread nD τ).loc cc0_scoped6), ((c : Thread nD τ).loc cc0_scoped6) ↦{fullShare} f) := by
  iintro ⟨⟨%f0, H0⟩, ⟨%f1, H1⟩⟩
  iapply (Ring.pointsTo_blocks_join_exists (ℓ := (c : Thread nD τ).loc cc0_scoped6) E_S2x2048x128 dj_E_S2x2048x128 cv_E_S2x2048x128 f0)
  irw [bs2]
  isplitl [H0]
  · iexists f0; iapply (eoe (sEA c 0 f0)); iexact H0
  · iexists f1; iapply (eoe (sEA c 1 f1)); iexact H1
theorem hEA (b : Fin 4) (X : XA (F := F) c) : (hA c X b : sProp 𝕄) = (((c : Thread nD τ).loc main_arg2) ↦[G_A b]{fullShare} X : sProp 𝕄) :=
  congrArg (fun S => (_ ↦[S]{fullShare} X : sProp 𝕄)) (gsetA b)
theorem arrA (X : XA (F := F) c) : (((c : Thread nD τ).loc main_arg2) ↦{fullShare} X : sProp 𝕄) = bigSep Finset.univ (hA c X) := by
  rw [Ring.pointsTo_blocks (ℓ := (c : Thread nD τ).loc main_arg2) G_A dj_G_A cv_G_A]
  exact bigSep_congr fun b _ => (hEA c b X).symm

theorem sEW (s : Fin 2) (f : Buf (Elt F) ((c : Thread nD τ).loc cc0_scoped8)) : (sW c s f : sProp 𝕄) = (((c : Thread nD τ).loc cc0_scoped8) ↦[E_S2x1024x1024 s]{fullShare} f : sProp 𝕄) :=
  congrArg (fun S => (_ ↦[S]{fullShare} f : sProp 𝕄)) (rsetW s)
theorem cutW : iprop(∃ f : Buf (Elt F) ((c : Thread nD τ).loc cc0_scoped8), ((c : Thread nD τ).loc cc0_scoped8) ↦{fullShare} f)
      ⊢ (iprop(SlW c 0 ∗ SlW c 1) : sProp 𝕄) := by
  iintro ⟨%f, H⟩
  ihave H2 := (eoe ((Ring.pointsTo_blocks (Ix := Unit) (Name := ℕ) (U := UU nD τ) (Lvl := ℕ) (q := fullShare) (ℓ := (c : Thread nD τ).loc cc0_scoped8) E_S2x1024x1024 dj_E_S2x1024x1024 cv_E_S2x1024x1024 f).trans (bs2 _))) $$ H
  icases H2 with ⟨H0, H1⟩
  isplitl [H0]
  · iexists f; iapply (eoe (sEW c 0 f).symm); iexact H0
  · iexists f; iapply (eoe (sEW c 1 f).symm); iexact H1
theorem joinW : (iprop(SlW c 0 ∗ SlW c 1) : sProp 𝕄)
      ⊢ iprop(∃ f : Buf (Elt F) ((c : Thread nD τ).loc cc0_scoped8), ((c : Thread nD τ).loc cc0_scoped8) ↦{fullShare} f) := by
  iintro ⟨⟨%f0, H0⟩, ⟨%f1, H1⟩⟩
  iapply (Ring.pointsTo_blocks_join_exists (ℓ := (c : Thread nD τ).loc cc0_scoped8) E_S2x1024x1024 dj_E_S2x1024x1024 cv_E_S2x1024x1024 f0)
  irw [bs2]
  isplitl [H0]
  · iexists f0; iapply (eoe (sEW c 0 f0)); iexact H0
  · iexists f1; iapply (eoe (sEW c 1 f1)); iexact H1
theorem hEW (b : Fin 16) (X : XW (F := F) c) : (hW c X b : sProp 𝕄) = (((c : Thread nD τ).loc main_arg3) ↦[G_W b]{fullShare} X : sProp 𝕄) :=
  congrArg (fun S => (_ ↦[S]{fullShare} X : sProp 𝕄)) (gsetW b)
theorem arrW (X : XW (F := F) c) : (((c : Thread nD τ).loc main_arg3) ↦{fullShare} X : sProp 𝕄) = bigSep Finset.univ (hW c X) := by
  rw [Ring.pointsTo_blocks (ℓ := (c : Thread nD τ).loc main_arg3) G_W dj_G_W cv_G_W]
  exact bigSep_congr fun b _ => (hEW c b X).symm

theorem sEO (s : Fin 2) (f : Buf (Elt F) ((c : Thread nD τ).loc cc0_scoped10)) : (sO c s f : sProp 𝕄) = (((c : Thread nD τ).loc cc0_scoped10) ↦[E_S2x2x2048x128 s]{fullShare} f : sProp 𝕄) :=
  congrArg (fun S => (_ ↦[S]{fullShare} f : sProp 𝕄)) (rsetO s)
theorem cutO : iprop(∃ f : Buf (Elt F) ((c : Thread nD τ).loc cc0_scoped10), ((c : Thread nD τ).loc cc0_scoped10) ↦{fullShare} f)
      ⊢ (iprop(SlO c 0 ∗ SlO c 1) : sProp 𝕄) := by
  iintro ⟨%f, H⟩
  ihave H2 := (eoe ((Ring.pointsTo_blocks (Ix := Unit) (Name := ℕ) (U := UU nD τ) (Lvl := ℕ) (q := fullShare) (ℓ := (c : Thread nD τ).loc cc0_scoped10) E_S2x2x2048x128 dj_E_S2x2x2048x128 cv_E_S2x2x2048x128 f).trans (bs2 _))) $$ H
  icases H2 with ⟨H0, H1⟩
  isplitl [H0]
  · iexists f; iapply (eoe (sEO c 0 f).symm); iexact H0
  · iexists f; iapply (eoe (sEO c 1 f).symm); iexact H1
theorem joinO : (iprop(SlO c 0 ∗ SlO c 1) : sProp 𝕄)
      ⊢ iprop(∃ f : Buf (Elt F) ((c : Thread nD τ).loc cc0_scoped10), ((c : Thread nD τ).loc cc0_scoped10) ↦{fullShare} f) := by
  iintro ⟨⟨%f0, H0⟩, ⟨%f1, H1⟩⟩
  iapply (Ring.pointsTo_blocks_join_exists (ℓ := (c : Thread nD τ).loc cc0_scoped10) E_S2x2x2048x128 dj_E_S2x2x2048x128 cv_E_S2x2x2048x128 f0)
  irw [bs2]
  isplitl [H0]
  · iexists f0; iapply (eoe (sEO c 0 f0)); iexact H0
  · iexists f1; iapply (eoe (sEO c 1 f1)); iexact H1
theorem hEO (b : Fin 16) (X : XO (F := F) c) : (hO c X b : sProp 𝕄) = (((c : Thread nD τ).loc main_v0_0) ↦[G_O b]{fullShare} X : sProp 𝕄) :=
  congrArg (fun S => (_ ↦[S]{fullShare} X : sProp 𝕄)) (gsetO b)
theorem arrO (X : XO (F := F) c) : (((c : Thread nD τ).loc main_v0_0) ↦{fullShare} X : sProp 𝕄) = bigSep Finset.univ (hO c X) := by
  rw [Ring.pointsTo_blocks (ℓ := (c : Thread nD τ).loc main_v0_0) G_O dj_G_O cv_G_O]
  exact bigSep_congr fun b _ => (hEO c b X).symm
theorem rawO : (iprop(∃ f : Buf (Elt F) ((c : Thread nD τ).loc main_v0_0), ((c : Thread nD τ).loc main_v0_0) ↦{fullShare} f) : sProp 𝕄) ⊢ bigSep Finset.univ (RawO (F := F) c) := by
  have h : ∀ f, (bigSep Finset.univ (hO c f) : sProp 𝕄) ⊢ bigSep Finset.univ (RawO (F := F) c) := fun f =>
    bigSep_mono fun b _ => (show (hO c f b : sProp 𝕄) ⊢ RawO c b from by iintro H; iexists f; iexact H)
  iintro ⟨%f, H⟩
  ihave H := (eoe (arrO c f)) $$ H
  iapply (h f); iexact H
theorem doneO_all (XQ : XQ (F := F) c) (XK : XK (F := F) c) (XV : XV (F := F) c) (XA : XA (F := F) c) (XW : XW (F := F) c) (f0 : XO (F := F) c) : bigSep Finset.univ (DoneO c XQ XK XV XA XW)
    ⊢ (iprop(∃ g : XO (F := F) c, ⌜∀ b, RelO c XQ XK XV XA XW b ((gO b).view.read (Elt F) g)⌝ ∗ ((c : Thread nD τ).loc main_v0_0) ↦{fullShare} g) : sProp 𝕄) := by
  have hne : Nonempty (XO (F := F) c) := ⟨f0⟩
  refine (Idealize.SL.BI.bigSep_exists_pi Finset.univ (fun b (f : XO (F := F) c) => iprop(⌜RelO c XQ XK XV XA XW b ((gO b).view.read (Elt F) f)⌝ ∗ hO c f b))).trans ?_
  iintro ⟨%fs, H⟩
  ihave H := (bigSep_pure_sep Finset.univ (fun b => RelO c XQ XK XV XA XW b ((gO b).view.read (Elt F) (fs b))) (fun b => hO c (fs b) b)) $$ H
  icases H with ⟨%hp, H⟩
  ihave H := (eoe (bigSep_congr (s := Finset.univ) (Φ := fun b => hO c (fs b) b) fun b _ => hEO c b (fs b))) $$ H
  ihave H := (pointsTo_biUnion_join (ℓ := (c : Thread nD τ).loc main_v0_0) Finset.univ G_O fs (fs 0) (fun b _ b' _ h => dj_G_O b b' h)) $$ H
  icases H with ⟨%g, %hg, H⟩
  iexists g
  isplitr
  · ipureintro
    intro b
    have e : (gO b).view.read (Elt F) g = (gO b).view.read (Elt F) (fs b) := View.read_congr fun i hi => hg b (Finset.mem_univ b) i ((gsetO b) ▸ hi)
    rw [e]; exact hp b (Finset.mem_univ b)
  irw [← cv_G_O]
  iexact H

theorem sEU (s : Fin 2) (f : Buf (Elt F) ((c : Thread nD τ).loc cc0_scoped12)) : (sU c s f : sProp 𝕄) = (((c : Thread nD τ).loc cc0_scoped12) ↦[E_S2x1024x1024 s]{fullShare} f : sProp 𝕄) :=
  congrArg (fun S => (_ ↦[S]{fullShare} f : sProp 𝕄)) (rsetU s)
theorem cutU : iprop(∃ f : Buf (Elt F) ((c : Thread nD τ).loc cc0_scoped12), ((c : Thread nD τ).loc cc0_scoped12) ↦{fullShare} f)
      ⊢ (iprop(SlU c 0 ∗ SlU c 1) : sProp 𝕄) := by
  iintro ⟨%f, H⟩
  ihave H2 := (eoe ((Ring.pointsTo_blocks (Ix := Unit) (Name := ℕ) (U := UU nD τ) (Lvl := ℕ) (q := fullShare) (ℓ := (c : Thread nD τ).loc cc0_scoped12) E_S2x1024x1024 dj_E_S2x1024x1024 cv_E_S2x1024x1024 f).trans (bs2 _))) $$ H
  icases H2 with ⟨H0, H1⟩
  isplitl [H0]
  · iexists f; iapply (eoe (sEU c 0 f).symm); iexact H0
  · iexists f; iapply (eoe (sEU c 1 f).symm); iexact H1
theorem joinU : (iprop(SlU c 0 ∗ SlU c 1) : sProp 𝕄)
      ⊢ iprop(∃ f : Buf (Elt F) ((c : Thread nD τ).loc cc0_scoped12), ((c : Thread nD τ).loc cc0_scoped12) ↦{fullShare} f) := by
  iintro ⟨⟨%f0, H0⟩, ⟨%f1, H1⟩⟩
  iapply (Ring.pointsTo_blocks_join_exists (ℓ := (c : Thread nD τ).loc cc0_scoped12) E_S2x1024x1024 dj_E_S2x1024x1024 cv_E_S2x1024x1024 f0)
  irw [bs2]
  isplitl [H0]
  · iexists f0; iapply (eoe (sEU c 0 f0)); iexact H0
  · iexists f1; iapply (eoe (sEU c 1 f1)); iexact H1
theorem hEU (b : Fin 16) (X : XU (F := F) c) : (hU c X b : sProp 𝕄) = (((c : Thread nD τ).loc main_v0_1) ↦[G_U b]{fullShare} X : sProp 𝕄) :=
  congrArg (fun S => (_ ↦[S]{fullShare} X : sProp 𝕄)) (gsetU b)
theorem arrU (X : XU (F := F) c) : (((c : Thread nD τ).loc main_v0_1) ↦{fullShare} X : sProp 𝕄) = bigSep Finset.univ (hU c X) := by
  rw [Ring.pointsTo_blocks (ℓ := (c : Thread nD τ).loc main_v0_1) G_U dj_G_U cv_G_U]
  exact bigSep_congr fun b _ => (hEU c b X).symm
theorem rawU : (iprop(∃ f : Buf (Elt F) ((c : Thread nD τ).loc main_v0_1), ((c : Thread nD τ).loc main_v0_1) ↦{fullShare} f) : sProp 𝕄) ⊢ bigSep Finset.univ (RawU (F := F) c) := by
  have h : ∀ f, (bigSep Finset.univ (hU c f) : sProp 𝕄) ⊢ bigSep Finset.univ (RawU (F := F) c) := fun f =>
    bigSep_mono fun b _ => (show (hU c f b : sProp 𝕄) ⊢ RawU c b from by iintro H; iexists f; iexact H)
  iintro ⟨%f, H⟩
  ihave H := (eoe (arrU c f)) $$ H
  iapply (h f); iexact H
theorem doneU_all (XQ : XQ (F := F) c) (XK : XK (F := F) c) (XV : XV (F := F) c) (XA : XA (F := F) c) (XW : XW (F := F) c) (f0 : XU (F := F) c) : bigSep Finset.univ (DoneU c XQ XK XV XA XW)
    ⊢ (iprop(∃ g : XU (F := F) c, ⌜∀ b, RelU c XQ XK XV XA XW b ((gU b).view.read (Elt F) g)⌝ ∗ ((c : Thread nD τ).loc main_v0_1) ↦{fullShare} g) : sProp 𝕄) := by
  have hne : Nonempty (XU (F := F) c) := ⟨f0⟩
  refine (Idealize.SL.BI.bigSep_exists_pi Finset.univ (fun b (f : XU (F := F) c) => iprop(⌜RelU c XQ XK XV XA XW b ((gU b).view.read (Elt F) f)⌝ ∗ hU c f b))).trans ?_
  iintro ⟨%fs, H⟩
  ihave H := (bigSep_pure_sep Finset.univ (fun b => RelU c XQ XK XV XA XW b ((gU b).view.read (Elt F) (fs b))) (fun b => hU c (fs b) b)) $$ H
  icases H with ⟨%hp, H⟩
  ihave H := (eoe (bigSep_congr (s := Finset.univ) (Φ := fun b => hU c (fs b) b) fun b _ => hEU c b (fs b))) $$ H
  ihave H := (pointsTo_biUnion_join (ℓ := (c : Thread nD τ).loc main_v0_1) Finset.univ G_U fs (fs 0) (fun b _ b' _ h => dj_G_U b b' h)) $$ H
  icases H with ⟨%g, %hg, H⟩
  iexists g
  isplitr
  · ipureintro
    intro b
    have e : (gU b).view.read (Elt F) g = (gU b).view.read (Elt F) (fs b) := View.read_congr fun i hi => hg b (Finset.mem_univ b) i ((gsetU b) ▸ hi)
    rw [e]; exact hp b (Finset.mem_univ b)
  irw [← cv_G_U]
  iexact H
theorem arrQK (X : XQ (F := F) c) : (((c : Thread nD τ).loc main_arg0) ↦{fullShare} X : sProp 𝕄) = iprop(bigSep Finset.univ (hQ c X) ∗ bigSep Finset.univ (hK c X)) := by
  have e1 : bigSep Finset.univ (hQ c X) = (((c : Thread nD τ).loc main_arg0) ↦[(Finset.univ : Finset (Fin 16)).biUnion G_Q]{fullShare} X : sProp 𝕄) := by
    rw [pointsTo_biUnion (ℓ := (c : Thread nD τ).loc main_arg0) Finset.univ G_Q (fun b _ b' _ h => dj_G_Q b b' h)]; exact bigSep_congr fun b _ => hEQ c b X
  have e2 : bigSep Finset.univ (hK c X) = (((c : Thread nD τ).loc main_arg0) ↦[(Finset.univ : Finset (Fin 16)).biUnion G_K]{fullShare} X : sProp 𝕄) := by
    rw [pointsTo_biUnion (ℓ := (c : Thread nD τ).loc main_arg0) Finset.univ G_K (fun b _ b' _ h => dj_G_K b b' h)]; exact bigSep_congr fun b _ => hEK c b X
  rw [e1, e2, ← cv_QK]
  have h := pointsTo_union (Ix := Unit) (Name := ℕ) (U := UU nD τ) (Lvl := ℕ) (q := fullShare) (f := X) (ℓ := (c : Thread nD τ).loc main_arg0) dj_QK
  exact equiv_iff.mp ⟨h.1, h.2⟩
end Cut

end Cert.Proof.Attn
-- ==== Proof.Run.lean ====
/-
  The kernel's run at the launch: it terminates, its arguments unchanged, each block of its results related to the
  arguments by one trip's work.
-/
module

public import proofs.«01_k».proof.Proof.Cut

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ### The kernel's own semaphores -/
abbrev osem : Fin 14 → SemLoc sig
  | 0 => .dma (cQ 0).sem | 1 => .dma (cQ 1).sem | 2 => .dma (cK 0).sem | 3 => .dma (cK 1).sem
  | 4 => .dma (cV 0).sem | 5 => .dma (cV 1).sem | 6 => .dma (cA 0).sem | 7 => .dma (cA 1).sem
  | 8 => .dma (cW 0).sem | 9 => .dma (cW 1).sem | 10 => .dma (cO 0).sem | 11 => .dma (cO 1).sem
  | 12 => .dma (cU 0).sem | 13 => .dma (cU 1).sem
theorem ownSemFacts : Pipeline.OwnSemFacts (cfgs 0).spec osem := by decide

section Ends
variable (c : Dev nD)
/-- The body's resources without the waits it owes. -/
def preK0 (XQ : XQ (F := F) c) (XK : XK (F := F) c) (XV : XV (F := F) c) (XA : XA (F := F) c) (XW : XW (F := F) c) : sProp (MT nD τ sig Unit (Elt F) ℕ (UU nD τ) ℕ) :=
  iprop(hQ c XQ 0 ∗ bigSep (Finset.univ.erase 0) (hQ c XQ) ∗ SlQ c 0 ∗ SlQ c 1 ∗ kQ (F := F) c 0 ∗ kQ (F := F) c 1 ∗ hK c XK 0 ∗ bigSep (Finset.univ.erase 0) (hK c XK) ∗ SlK c 0 ∗ SlK c 1 ∗ kK (F := F) c 0 ∗ kK (F := F) c 1 ∗ hV c XV 0 ∗ bigSep (Finset.univ.erase 0) (hV c XV) ∗ SlV c 0 ∗ SlV c 1 ∗ kV (F := F) c 0 ∗ kV (F := F) c 1 ∗ hW c XW 0 ∗ bigSep (Finset.univ.erase 0) (hW c XW) ∗ SlW c 0 ∗ SlW c 1 ∗ kW (F := F) c 0 ∗ kW (F := F) c 1 ∗ hA c XA 0 ∗ bigSep (Finset.univ.erase 0) (hA c XA) ∗ SlA c 0 ∗ SlA c 1 ∗ kA (F := F) c 0 ∗ kA (F := F) c 1 ∗ SlO c 0 ∗ SlO c 1 ∗ kO (F := F) c 0 ∗ kO (F := F) c 1 ∗ bigSep Finset.univ (RawO c) ∗ SlU c 0 ∗ SlU c 1 ∗ kU (F := F) c 0 ∗ kU (F := F) c 1 ∗ bigSep Finset.univ (RawU c) ∗ scr c)
def postK0 (XQ : XQ (F := F) c) (XK : XK (F := F) c) (XV : XV (F := F) c) (XA : XA (F := F) c) (XW : XW (F := F) c) : sProp (MT nD τ sig Unit (Elt F) ℕ (UU nD τ) ℕ) :=
  iprop(bigSep Finset.univ (hQ c XQ) ∗ SlQ c 0 ∗ SlQ c 1 ∗ kQ (F := F) c 0 ∗ kQ (F := F) c 1 ∗ bigSep Finset.univ (hK c XK) ∗ SlK c 0 ∗ SlK c 1 ∗ kK (F := F) c 0 ∗ kK (F := F) c 1 ∗ bigSep Finset.univ (hV c XV) ∗ SlV c 0 ∗ SlV c 1 ∗ kV (F := F) c 0 ∗ kV (F := F) c 1 ∗ bigSep Finset.univ (hW c XW) ∗ SlW c 0 ∗ SlW c 1 ∗ kW (F := F) c 0 ∗ kW (F := F) c 1 ∗ bigSep Finset.univ (hA c XA) ∗ SlA c 0 ∗ SlA c 1 ∗ kA (F := F) c 0 ∗ kA (F := F) c 1 ∗ bigSep Finset.univ (DoneO c XQ XK XV XA XW) ∗ SlO c 0 ∗ SlO c 1 ∗ kO (F := F) c 0 ∗ kO (F := F) c 1 ∗ bigSep Finset.univ (DoneU c XQ XK XV XA XW) ∗ SlU c 0 ∗ SlU c 1 ∗ kU (F := F) c 0 ∗ kU (F := F) c 1 ∗ scr c)
theorem preK_of (XQ : XQ (F := F) c) (XK : XK (F := F) c) (XV : XV (F := F) c) (XA : XA (F := F) c) (XW : XW (F := F) c) : iprop(preK0 c XQ XK XV XA XW ∗ ∃ W, owes (c : Thread nD τ) 0 W) ⊢ preK c XQ XK XV XA XW := by
  unfold preK0 preK
  iintro ⟨⟨HQB, HQR, HQ0, HQ1, HQC, HQD, HKB, HKR, HK0, HK1, HKC, HKD, HVB, HVR, HV0, HV1, HVC, HVD, HWB, HWR, HW0, HW1, HWC, HWD, HAB, HAR, HA0, HA1, HAC, HAD, HO0, HO1, HOC, HOD, HOR, HU0, HU1, HUC, HUD, HUR, Hs⟩, HW⟩
  isplitl [HQB]; · iexact HQB
  isplitl [HQR]; · iexact HQR
  isplitl [HQ0]; · iexact HQ0
  isplitl [HQ1]; · iexact HQ1
  isplitl [HQC]; · iexact HQC
  isplitl [HQD]; · iexact HQD
  isplitl [HKB]; · iexact HKB
  isplitl [HKR]; · iexact HKR
  isplitl [HK0]; · iexact HK0
  isplitl [HK1]; · iexact HK1
  isplitl [HKC]; · iexact HKC
  isplitl [HKD]; · iexact HKD
  isplitl [HVB]; · iexact HVB
  isplitl [HVR]; · iexact HVR
  isplitl [HV0]; · iexact HV0
  isplitl [HV1]; · iexact HV1
  isplitl [HVC]; · iexact HVC
  isplitl [HVD]; · iexact HVD
  isplitl [HWB]; · iexact HWB
  isplitl [HWR]; · iexact HWR
  isplitl [HW0]; · iexact HW0
  isplitl [HW1]; · iexact HW1
  isplitl [HWC]; · iexact HWC
  isplitl [HWD]; · iexact HWD
  isplitl [HAB]; · iexact HAB
  isplitl [HAR]; · iexact HAR
  isplitl [HA0]; · iexact HA0
  isplitl [HA1]; · iexact HA1
  isplitl [HAC]; · iexact HAC
  isplitl [HAD]; · iexact HAD
  isplitl [HO0]; · iexact HO0
  isplitl [HO1]; · iexact HO1
  isplitl [HOC]; · iexact HOC
  isplitl [HOD]; · iexact HOD
  isplitl [HOR]; · iexact HOR
  isplitl [HU0]; · iexact HU0
  isplitl [HU1]; · iexact HU1
  isplitl [HUC]; · iexact HUC
  isplitl [HUD]; · iexact HUD
  isplitl [HUR]; · iexact HUR
  isplitl [Hs]; · iexact Hs
  iexact HW
theorem postK_to (XQ : XQ (F := F) c) (XK : XK (F := F) c) (XV : XV (F := F) c) (XA : XA (F := F) c) (XW : XW (F := F) c) : postK c XQ XK XV XA XW ⊢ iprop(postK0 c XQ XK XV XA XW ∗ ∃ W, owes (c : Thread nD τ) 0 W) := by
  unfold postK0 postK
  iintro ⟨HQB, HQ0, HQ1, HQC, HQD, HKB, HK0, HK1, HKC, HKD, HVB, HV0, HV1, HVC, HVD, HWB, HW0, HW1, HWC, HWD, HAB, HA0, HA1, HAC, HAD, HOB, HO0, HO1, HOC, HOD, HUB, HU0, HU1, HUC, HUD, Hs, HW⟩
  isplitl [HQB HQ0 HQ1 HQC HQD HKB HK0 HK1 HKC HKD HVB HV0 HV1 HVC HVD HWB HW0 HW1 HWC HWD HAB HA0 HA1 HAC HAD HOB HO0 HO1 HOC HOD HUB HU0 HU1 HUC HUD Hs]
  · isplitl [HQB]; · iexact HQB
    isplitl [HQ0]; · iexact HQ0
    isplitl [HQ1]; · iexact HQ1
    isplitl [HQC]; · iexact HQC
    isplitl [HQD]; · iexact HQD
    isplitl [HKB]; · iexact HKB
    isplitl [HK0]; · iexact HK0
    isplitl [HK1]; · iexact HK1
    isplitl [HKC]; · iexact HKC
    isplitl [HKD]; · iexact HKD
    isplitl [HVB]; · iexact HVB
    isplitl [HV0]; · iexact HV0
    isplitl [HV1]; · iexact HV1
    isplitl [HVC]; · iexact HVC
    isplitl [HVD]; · iexact HVD
    isplitl [HWB]; · iexact HWB
    isplitl [HW0]; · iexact HW0
    isplitl [HW1]; · iexact HW1
    isplitl [HWC]; · iexact HWC
    isplitl [HWD]; · iexact HWD
    isplitl [HAB]; · iexact HAB
    isplitl [HA0]; · iexact HA0
    isplitl [HA1]; · iexact HA1
    isplitl [HAC]; · iexact HAC
    isplitl [HAD]; · iexact HAD
    isplitl [HOB]; · iexact HOB
    isplitl [HO0]; · iexact HO0
    isplitl [HO1]; · iexact HO1
    isplitl [HOC]; · iexact HOC
    isplitl [HOD]; · iexact HOD
    isplitl [HUB]; · iexact HUB
    isplitl [HU0]; · iexact HU0
    isplitl [HU1]; · iexact HU1
    isplitl [HUC]; · iexact HUC
    isplitl [HUD]; · iexact HUD
    iexact Hs
  iexact HW
end Ends

section Launch
variable (m : (ℓ : Loc nD τ sig) → Buf (Elt F) ℓ) (ρ : Dev nD → PrngReg)
abbrev iQ (c : Dev nD) : XQ (F := F) c := m ((c : Thread nD τ).loc main_arg0)
abbrev iK (c : Dev nD) : XK (F := F) c := m ((c : Thread nD τ).loc main_arg0)
abbrev iV (c : Dev nD) : XV (F := F) c := m ((c : Thread nD τ).loc main_arg1)
abbrev iA (c : Dev nD) : XA (F := F) c := m ((c : Thread nD τ).loc main_arg2)
abbrev iW (c : Dev nD) : XW (F := F) c := m ((c : Thread nD τ).loc main_arg3)

theorem ownSems0_eq (c : Dev nD) : (Pipeline.ownSems0 (Ix := Unit) (Name := ℕ) (U := UU nD τ) (Lvl := ℕ) (Val := Elt F) (τ := τ) osem c : sProp 𝕄)
    = iprop(kQ (F := F) c 0 ∗ kQ (F := F) c 1 ∗ kK (F := F) c 0 ∗ kK (F := F) c 1 ∗ kV (F := F) c 0 ∗ kV (F := F) c 1 ∗ kA (F := F) c 0 ∗ kA (F := F) c 1 ∗ kW (F := F) c 0 ∗ kW (F := F) c 1 ∗ kO (F := F) c 0 ∗ kO (F := F) c 1 ∗ kU (F := F) c 0 ∗ kU (F := F) c 1) := by
  unfold Pipeline.ownSems0
  exact bigSep_univ_eq_bigSepL [(0 : Fin 14), 1, 2, 3, 4, 5, 6, 7, 8, 9, 10, 11, 12, 13] (by decide) (by decide) _

/-- Before the run, and after. -/
def Φ0 (c : Dev nD) : sProp 𝕄 := preK0 c (iQ m c) (iK m c) (iV m c) (iA m c) (iW m c)
def Φ1 (c : Dev nD) : sProp 𝕄 := postK0 c (iQ m c) (iK m c) (iV m c) (iA m c) (iW m c)

def dats (_ : Fin 1) (c : Dev nD) : Dat τ (Elt F) Unit ℕ (UU nD τ) ℕ cfg0 c where
  A w := w.elim0
  after w := w.elim0
  Φ t := if t.val = 0 then Φ0 m c else Φ1 m c
  q _ := fullShare
  owed _ := 0

theorem defs_tc : (defs₀ (F := F)) .tc cfg0.body = fun _ => bodyP (F := F) := rfl
theorem prog_eq (t : Fin cfg0.N) : (defs₀ (F := F)) .tc cfg0.body (cfg0.bodyArgs t (cfg0.slots t)) = bodyP (F := F) :=
  (congrFun defs_tc _).trans rfl

set_option backward.isDefEq.respectTransparency.types false in
theorem body_obligation (c : Dev nD) : BodyObligation (dats (F := F) m 0 c) (defs₀ (F := F)) 𝒱₀ () Set.univ := fun t => by
  obtain rfl := fin_N0 t
  rw [show (Finset.univ : Finset (Fin cfg0.W)) = ∅ from rfl, bigSep_empty, bigSep_empty]
  rw [show (dats m 0 c).Φ (Fin.castSucc t0_0) = Φ0 m c from rfl, show (dats m 0 c).Φ (Fin.succ t0_0) = Φ1 m c from rfl]
  unfold Dat.owesAt Pipeline.owesWithin
  rw [show (dats m 0 c).owed (Fin.castSucc t0_0) = 0 from rfl, show (dats m 0 c).owed (Fin.succ t0_0) = 0 from rfl]
  unfold Φ0 Φ1
  iintro ⟨HP, ⟨%W, -, HW⟩, -⟩
  sl_rw [prog_eq t0_0]
  iapply (bodyRun c (iQ m c) (iK m c) (iV m c) (iA m c) (iW m c))
  isplitl [HP HW]
  · iapply (preK_of c (iQ m c) (iK m c) (iV m c) (iA m c) (iW m c)); isplitl [HP]; · iexact HP
    iexists W; iexact HW
  iintro HP
  ihave HP := (postK_to c (iQ m c) (iK m c) (iV m c) (iA m c) (iW m c)) $$ HP
  icases HP with ⟨HP, ⟨%W', HW⟩⟩
  isplitl [HP]; · iexact HP
  isplitl [HW]
  · iexists W'; isplitr; · ipureintro; exact fun _ _ => Or.inl trivial
    iexact HW
  iempintro

/-! ### The run -/
def intoΦ (c : Dev nD) : sProp 𝕄 :=
  iprop((bigSep Finset.univ (hQ c (iQ m c)) ∗ bigSep Finset.univ (hK c (iK m c))) ∗ bigSep Finset.univ (hV c (iV m c)) ∗ bigSep Finset.univ (hA c (iA m c)) ∗ bigSep Finset.univ (hW c (iW m c))
    ∗ bigSep Finset.univ (RawO (F := F) c) ∗ bigSep Finset.univ (RawU (F := F) c) ∗ Pipeline.ownSems0 osem c)
/-- A result's contents after the run. -/
def OutO (c : Dev nD) (g : XO (F := F) c) : Prop := ∀ b, RelO c (iQ m c) (iK m c) (iV m c) (iA m c) (iW m c) b ((gO b).view.read (Elt F) g)
def OutU (c : Dev nD) (g : XU (F := F) c) : Prop := ∀ b, RelU c (iQ m c) (iK m c) (iV m c) (iA m c) (iW m c) b ((gU b).view.read (Elt F) g)
def outOfΦ (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)) ∗ (((c : Thread nD τ).loc main_arg3) ↦{fullShare} m ((c : Thread nD τ).loc main_arg3))
    ∗ (∃ g : XO (F := F) c, ⌜OutO m c g⌝ ∗ ((c : Thread nD τ).loc main_v0_0) ↦{fullShare} g) ∗ (∃ g : XU (F := F) c, ⌜OutU m c g⌝ ∗ ((c : Thread nD τ).loc main_v0_1) ↦{fullShare} g))
def u₀ : UU nD τ := (initOf (Pipeline.cells cfgs Gen.cellOf_inj) (Pipeline.launchToks cfgs Gen.cellOf_inj), 1)
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ OutO m c (s.mem ((c : Thread nD τ).loc main_v0_0)) ∧ OutU m c (s.mem ((c : Thread nD τ).loc main_v0_1))

theorem scr_eq (c : Dev nD) : (scr c : sProp 𝕄) = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f)) := by
  have e0 : ∀ f : Buf (Elt F) ((c : Thread nD τ).loc cc0_scratch0), (p0 c f : sProp 𝕄) = (((c : Thread nD τ).loc cc0_scratch0) ↦{fullShare} f) := fun f => congrArg (fun S => (_ ↦[S]{fullShare} f : sProp 𝕄)) (View.set_whole cc0_scratch0)
  have e1 : ∀ f : Buf (Elt F) ((c : Thread nD τ).loc cc0_scratch1), (p1 c f : sProp 𝕄) = (((c : Thread nD τ).loc cc0_scratch1) ↦{fullShare} f) := fun f => congrArg (fun S => (_ ↦[S]{fullShare} f : sProp 𝕄)) (View.set_whole cc0_scratch1)
  have e2 : ∀ f : Buf (Elt F) ((c : Thread nD τ).loc cc0_scratch2), (p2 c f : sProp 𝕄) = (((c : Thread nD τ).loc cc0_scratch2) ↦{fullShare} f) := fun f => congrArg (fun S => (_ ↦[S]{fullShare} f : sProp 𝕄)) (View.set_whole cc0_scratch2)
  have e3 : ∀ f : Buf (Elt F) ((c : Thread nD τ).loc cc0_scratch3), (p3 c f : sProp 𝕄) = (((c : Thread nD τ).loc cc0_scratch3) ↦{fullShare} f) := fun f => congrArg (fun S => (_ ↦[S]{fullShare} f : sProp 𝕄)) (View.set_whole cc0_scratch3)
  have e4 : ∀ f : Buf (Elt F) ((c : Thread nD τ).loc cc0_scratch4), (p4 c f : sProp 𝕄) = (((c : Thread nD τ).loc cc0_scratch4) ↦{fullShare} f) := fun f => congrArg (fun S => (_ ↦[S]{fullShare} f : sProp 𝕄)) (View.set_whole cc0_scratch4)
  have e5 : ∀ f : Buf (Elt F) ((c : Thread nD τ).loc cc0_scratch5), (p5 c f : sProp 𝕄) = (((c : Thread nD τ).loc cc0_scratch5) ↦{fullShare} f) := fun f => congrArg (fun S => (_ ↦[S]{fullShare} f : sProp 𝕄)) (View.set_whole cc0_scratch5)
  have e6 : ∀ f : Buf (Elt F) ((c : Thread nD τ).loc cc0_scratch6), (p6 c f : sProp 𝕄) = (((c : Thread nD τ).loc cc0_scratch6) ↦{fullShare} f) := fun f => congrArg (fun S => (_ ↦[S]{fullShare} f : sProp 𝕄)) (View.set_whole cc0_scratch6)
  have e7 : ∀ f : Buf (Elt F) ((c : Thread nD τ).loc cc0_scratch7), (p7 c f : sProp 𝕄) = (((c : Thread nD τ).loc cc0_scratch7) ↦{fullShare} f) := fun f => congrArg (fun S => (_ ↦[S]{fullShare} f : sProp 𝕄)) (View.set_whole cc0_scratch7)
  have e8 : ∀ f : Buf (Elt F) ((c : Thread nD τ).loc cc0_scratch8), (p8 c f : sProp 𝕄) = (((c : Thread nD τ).loc cc0_scratch8) ↦{fullShare} f) := fun f => congrArg (fun S => (_ ↦[S]{fullShare} f : sProp 𝕄)) (View.set_whole cc0_scratch8)
  unfold scr
  simp only [e0, e1, e2, e3, e4, e5, e6, e7, e8]
theorem intoΦ_of (c : Dev nD) : (iprop(iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_v0_0) ↦{fullShare} m ((c : Thread nD τ).loc main_v0_0)) ∗ (((c : Thread nD τ).loc main_v0_1) ↦{fullShare} m ((c : Thread nD τ).loc main_v0_1))) ∗ Pipeline.ownSems0 osem c) : sProp 𝕄) ⊢ intoΦ m c := by
  unfold intoΦ
  rw [arrQK c (iQ m c), arrV c (iV m c), arrA c (iA m c), arrW c (iW m c)]
  iintro ⟨⟨H0, H1, H2, H3, H4, H5⟩, HS⟩
  isplitl [H0]; · iexact H0
  isplitl [H1]; · iexact H1
  isplitl [H2]; · iexact H2
  isplitl [H3]; · iexact H3
  isplitl [H4]; · iapply (rawO c); iexists _; iexact H4
  isplitl [H5]; · iapply (rawU c); iexists _; iexact H5
  iexact HS
theorem in_of (c : Dev nD) : iprop(intoΦ m c ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped6), ((c : Thread nD τ).loc cc0_scoped6) ↦{fullShare} f) ∗ (∃ f : Buf (Elt F) ((c : Thread nD τ).loc cc0_scoped8), ((c : Thread nD τ).loc cc0_scoped8) ↦{fullShare} f) ∗ (∃ f : Buf (Elt F) ((c : Thread nD τ).loc cc0_scoped10), ((c : Thread nD τ).loc cc0_scoped10) ↦{fullShare} f) ∗ (∃ f : Buf (Elt F) ((c : Thread nD τ).loc cc0_scoped12), ((c : Thread nD τ).loc cc0_scoped12) ↦{fullShare} f)) ⊢ (Φ0 m c : sProp 𝕄) := by
  unfold intoΦ Φ0 preK0; rw [ownSems0_eq]
  rw [all_split (hQ c (iQ m c)) 0, all_split (hK c (iK m c)) 0, all_split (hV c (iV m c)) 0, all_split (hA c (iA m c)) 0, all_split (hW c (iW m c)) 0]
  iintro ⟨⟨⟨⟨HQB, HQR⟩, ⟨HKB, HKR⟩⟩, ⟨HVB, HVR⟩, ⟨HAB, HAR⟩, ⟨HWB, HWR⟩, HOR, HUR, HQC, HQD, HKC, HKD, HVC, HVD, HAC, HAD, HWC, HWD, HOC, HOD, HUC, HUD⟩, S0, S1, S2, S3, S4, S5, S6, S7, S8, SQ, SK, SV, SA, SW, SO, SU⟩
  ihave SQ := (cutQ c) $$ SQ
  icases SQ with ⟨HQ0, HQ1⟩
  ihave SK := (cutK c) $$ SK
  icases SK with ⟨HK0, HK1⟩
  ihave SV := (cutV c) $$ SV
  icases SV with ⟨HV0, HV1⟩
  ihave SA := (cutA c) $$ SA
  icases SA with ⟨HA0, HA1⟩
  ihave SW := (cutW c) $$ SW
  icases SW with ⟨HW0, HW1⟩
  ihave SO := (cutO c) $$ SO
  icases SO with ⟨HO0, HO1⟩
  ihave SU := (cutU c) $$ SU
  icases SU with ⟨HU0, HU1⟩
  isplitl [HQB]; · iexact HQB
  isplitl [HQR]; · iexact HQR
  isplitl [HQ0]; · iexact HQ0
  isplitl [HQ1]; · iexact HQ1
  isplitl [HQC]; · iexact HQC
  isplitl [HQD]; · iexact HQD
  isplitl [HKB]; · iexact HKB
  isplitl [HKR]; · iexact HKR
  isplitl [HK0]; · iexact HK0
  isplitl [HK1]; · iexact HK1
  isplitl [HKC]; · iexact HKC
  isplitl [HKD]; · iexact HKD
  isplitl [HVB]; · iexact HVB
  isplitl [HVR]; · iexact HVR
  isplitl [HV0]; · iexact HV0
  isplitl [HV1]; · iexact HV1
  isplitl [HVC]; · iexact HVC
  isplitl [HVD]; · iexact HVD
  isplitl [HWB]; · iexact HWB
  isplitl [HWR]; · iexact HWR
  isplitl [HW0]; · iexact HW0
  isplitl [HW1]; · iexact HW1
  isplitl [HWC]; · iexact HWC
  isplitl [HWD]; · iexact HWD
  isplitl [HAB]; · iexact HAB
  isplitl [HAR]; · iexact HAR
  isplitl [HA0]; · iexact HA0
  isplitl [HA1]; · iexact HA1
  isplitl [HAC]; · iexact HAC
  isplitl [HAD]; · iexact HAD
  isplitl [HO0]; · iexact HO0
  isplitl [HO1]; · iexact HO1
  isplitl [HOC]; · iexact HOC
  isplitl [HOD]; · iexact HOD
  isplitl [HOR]; · iexact HOR
  isplitl [HU0]; · iexact HU0
  isplitl [HU1]; · iexact HU1
  isplitl [HUC]; · iexact HUC
  isplitl [HUD]; · iexact HUD
  isplitl [HUR]; · iexact HUR
  rw [scr_eq]
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

theorem out_of (c : Dev nD) : (Φ1 m c : sProp 𝕄) ⊢ iprop(outOfΦ m c ∗ Pipeline.ownSems0 osem c ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped4), ((c : Thread nD τ).loc cc0_scoped4) ↦{fullShare} f) ∗ (∃ f : Buf (Elt F) ((c : Thread nD τ).loc cc0_scoped6), ((c : Thread nD τ).loc cc0_scoped6) ↦{fullShare} f) ∗ (∃ f : Buf (Elt F) ((c : Thread nD τ).loc cc0_scoped8), ((c : Thread nD τ).loc cc0_scoped8) ↦{fullShare} f) ∗ (∃ f : Buf (Elt F) ((c : Thread nD τ).loc cc0_scoped10), ((c : Thread nD τ).loc cc0_scoped10) ↦{fullShare} f) ∗ (∃ f : Buf (Elt F) ((c : Thread nD τ).loc cc0_scoped12), ((c : Thread nD τ).loc cc0_scoped12) ↦{fullShare} f)) := by
  unfold outOfΦ Φ1 postK0; rw [ownSems0_eq, arrQK c (iQ m c), arrV c (iV m c), arrA c (iA m c), arrW c (iW m c)]
  iintro ⟨HQB, HQ0, HQ1, HQC, HQD, HKB, HK0, HK1, HKC, HKD, HVB, HV0, HV1, HVC, HVD, HWB, HW0, HW1, HWC, HWD, HAB, HA0, HA1, HAC, HAD, HOB, HO0, HO1, HOC, HOD, HUB, HU0, HU1, HUC, HUD, Hs⟩
  isplitl [HQB HKB HVB HAB HWB HOB HUB]
  · isplitl [HQB HKB]
    · isplitl [HQB]; · iexact HQB
      iexact HKB
    isplitl [HVB]; · iexact HVB
    isplitl [HAB]; · iexact HAB
    isplitl [HWB]; · iexact HWB
    isplitl [HOB]; · iapply (doneO_all c (iQ m c) (iK m c) (iV m c) (iA m c) (iW m c) (m _)); iexact HOB
    iapply (doneU_all c (iQ m c) (iK m c) (iV m c) (iA m c) (iW m c) (m _)); iexact HUB
  isplitl [HQC HQD HKC HKD HVC HVD HAC HAD HWC HWD HOC HOD HUC HUD]
  · isplitl [HQC]; · iexact HQC
    isplitl [HQD]; · iexact HQD
    isplitl [HKC]; · iexact HKC
    isplitl [HKD]; · iexact HKD
    isplitl [HVC]; · iexact HVC
    isplitl [HVD]; · iexact HVD
    isplitl [HAC]; · iexact HAC
    isplitl [HAD]; · iexact HAD
    isplitl [HWC]; · iexact HWC
    isplitl [HWD]; · iexact HWD
    isplitl [HOC]; · iexact HOC
    isplitl [HOD]; · iexact HOD
    isplitl [HUC]; · iexact HUC
    iexact HUD
  ihave Hs := (eoe (scr_eq c)) $$ Hs
  icases Hs with ⟨S0, S1, S2, S3, S4, S5, S6, S7, S8⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [HQ0 HQ1]
  · iapply (joinQ c); isplitl [HQ0]; · iexact HQ0
    iexact HQ1
  isplitl [HK0 HK1]
  · iapply (joinK c); isplitl [HK0]; · iexact HK0
    iexact HK1
  isplitl [HV0 HV1]
  · iapply (joinV c); isplitl [HV0]; · iexact HV0
    iexact HV1
  isplitl [HA0 HA1]
  · iapply (joinA c); isplitl [HA0]; · iexact HA0
    iexact HA1
  isplitl [HW0 HW1]
  · iapply (joinW c); isplitl [HW0]; · iexact HW0
    iexact HW1
  isplitl [HO0 HO1]
  · iapply (joinO c); isplitl [HO0]; · iexact HO0
    iexact HO1
  iapply (joinU c); isplitl [HU0]; · iexact HU0
  iexact HU1

set_option backward.isDefEq.respectTransparency.types false in
/-- From any memory with zero counters, every weakly fair execution of @main terminates with every counter at zero,
    the arguments unchanged and each block of the results as one trip computes it. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq]
      iintro ⟨H0, HS, -, -, -⟩; imodintro
      isplitl [H0 HS]
      · iapply (intoΦ_of m c); isplitl [H0]; · iexact H0
        iexact HS
      iempintro)
    (hin := fun c => by
      rw [scopedRest0_eq, show (dats m 0 c).Φ 0 = Φ0 m c from rfl]
      exact in_of m c)
    (hout := fun c => by
      rw [scopedRest0_eq, show (dats m 0 c).Φ (Fin.last cfg0.N) = Φ1 m c from rfl]
      exact out_of m c)
    (QY := QY m)
    (hY := fun c s' => by
      unfold outOfΦ
      iintro ⟨⟨H0, H1, H2, H3, ⟨%gO, %hO, H4⟩, ⟨%gU, %hU, H5⟩⟩, -, HSI⟩
      icombine HSI H0 gives %h0
      icombine HSI H1 gives %h1
      icombine HSI H2 gives %h2
      icombine HSI H3 gives %h3
      icombine HSI H4 gives %h4
      icombine HSI H5 gives %h5
      imodintro
      isplitr
      · ipureintro
        have e4 := Buf.eq_of_forall_mem_univ h4
        have e5 := Buf.eq_of_forall_mem_univ h5
        exact ⟨Buf.eq_of_forall_mem_univ h0, Buf.eq_of_forall_mem_univ h1, Buf.eq_of_forall_mem_univ h2, Buf.eq_of_forall_mem_univ h3, e4 ▸ hO, e5 ▸ hU⟩
      iexact HSI)
    (hQ := fun _ hh hz => ⟨fun c => (hh c).2, hz⟩)
end Launch

end Cert.Proof.Attn
-- ==== Proof.Frames.lean ====
/-
  The two frames, from the one run.
-/
module

public import proofs.«01_k».proof.Defs
public import proofs.«01_k».proof.Proof.Run
public import proofs.«01_k».proof.Proof.Gen.Kernel

@[expose] public section

set_option maxRecDepth 16384

noncomputable section

namespace Cert.Proof.Attn

open Idealize.ShloMosaic
open Idealize.ShloMosaic.TcCoe
open Idealize.SL Idealize.SL.RA Idealize.SL.BI Idealize.SL.Sem

theorem frame_ideal : Cert.quiescent_KernelIdeal (hKernelIdeal := Cert.KernelIdeal.Gen.facts) := fun m ρ _ =>
  (θ_run (Cert.KernelIdeal.defs (F := Ideal)) _ _).mono
    (fun _ h => ⟨fun c => ⟨(h.1 c).1, (h.1 c).2.1, (h.1 c).2.2.1, (h.1 c).2.2.2.1⟩, h.2⟩) (run_main (F := Ideal) m ρ)

theorem frame_kernel : Cert.quiescent_Kernel (hKernel := Cert.Kernel.Gen.facts) := fun m ρ _ =>
  (θ_run (Cert.KernelIdeal.defs (F := Bits)) _ _).mono
    (fun _ h => ⟨fun c => ⟨(h.1 c).1, (h.1 c).2.1, (h.1 c).2.2.1, (h.1 c).2.2.2.1⟩, h.2⟩) (run_main (F := Bits) m ρ)

end Cert.Proof.Attn
-- ==== Proof.AttnPay.lean ====
/-
  The attention call's arithmetic over the extended reals, one query block of one head at a time: what the printed
  operations of the score, of its maximum and of the weighted sum are at an index.
-/
module

public import proofs.«01_k».proof.Proof.Names
public import Idealize.ShloMosaic.Lib.Pointwise
public import Idealize.ShloMosaic.Lib.Tactic

@[expose] public section

set_option maxRecDepth 16384

noncomputable section

namespace Cert.Proof.AttnVal

open Cert.KernelIdeal Cert.KernelIdeal.Gen
open Idealize.ShloMosaic Idealize.ShloMosaic.TcCoe

/-! ## The functions computed, of natural-number indices -/

/-- The score of key `s` for query `t`: 256 lanes, the query's own 128 and the 128 of the chosen head. -/
def sc (kA qN : ℕ → ℕ → EReal) (oN : ℕ → EReal) (s t : ℕ) : EReal :=
  ∑ l : Fin 128, kA s l * qN t l + ∑ l : Fin 128, kA s (128 + l) * oN l
/-- The causal mask. -/
def ms (f : ℕ → ℕ → EReal) (s t : ℕ) : EReal := if s ≤ t then f s t else ⊥
/-- The maximum over the keys. -/
def mx (f : ℕ → ℕ → EReal) (t : ℕ) : EReal := (Finset.range 2048).sup fun s => ms f s t
/-- The weight. -/
def pw (f : ℕ → ℕ → EReal) (s t : ℕ) : EReal := FloatOps.exp2 (F := Ideal) (φ := .f32) (ms f s t - mx f t)
/-- The weighted mean of the values. -/
def att (f vN : ℕ → ℕ → EReal) (t d : ℕ) : EReal :=
  Ideal.div (∑ s ∈ Finset.range 2048, vN d s * pw f s t) (∑ s ∈ Finset.range 2048, pw f s t)

/-! ## Sums and maxima over blocks of 512 -/

theorem chunks (n : ℕ) (hn : n ≤ 4) (f : ℕ → EReal) (hz : ∀ s, 512 * n ≤ s → f s = 0) :
    ∑ c ∈ Finset.range n, ∑ a : Fin 512, f (512 * c + a) = ∑ s ∈ Finset.range 2048, f s := by
  have h1 : ∀ n, ∑ c ∈ Finset.range n, ∑ a : Fin 512, f (512 * c + a) = ∑ s ∈ Finset.range (512 * n), f s := by
    intro n
    induction n with
    | zero => simp
    | succ n ih =>
      rw [Finset.sum_range_succ, ih, show 512 * (n + 1) = 512 * n + 512 by ring, Finset.sum_range_add,
        Fin.sum_univ_eq_sum_range (fun a => f (512 * n + a)) 512]
  rw [h1]
  refine Finset.sum_subset (Finset.range_mono (by omega)) fun s _ hs => hz s (by simpa using hs)

theorem pw_zero (f : ℕ → ℕ → EReal) {s t : ℕ} (h : t < s) : pw f s t = 0 := by
  unfold pw ms
  rw [if_neg (by omega), EReal.bot_sub]
  rfl

theorem fold_sup (n : ℕ) (f : ℕ → EReal) : Finset.fold max ⊥ (fun a : Fin n => f a) Finset.univ = (Finset.range n).sup f := by
  have e : Finset.fold max ⊥ (fun a : Fin n => f a) Finset.univ = (Finset.univ : Finset (Fin n)).sup fun a => f a := rfl
  rw [e]
  apply le_antisymm
  · exact Finset.sup_le fun a _ => Finset.le_sup (f := f) (Finset.mem_range.mpr a.isLt)
  · exact Finset.sup_le fun s hs => Finset.le_sup (f := fun a : Fin n => f a) (Finset.mem_univ (⟨s, Finset.mem_range.mp hs⟩ : Fin n))

/-- The maximum is over the rows before the block and the block's own rows. -/
theorem mx_split (f : ℕ → ℕ → EReal) (n : ℕ) (hn : n + 512 ≤ 2048) (b : Fin 512) :
    max (Finset.fold max ⊥ (fun a : Fin 512 => ms f (n + a) (n + b)) Finset.univ)
      (Finset.fold max ⊥ (fun a : Fin n => f a (n + b)) Finset.univ) = mx f (n + b) := by
  rw [fold_sup 512 fun a => ms f (n + a) (n + b), fold_sup n fun a => f a (n + b)]
  have hb := b.isLt
  apply le_antisymm
  · refine max_le (Finset.sup_le fun s hs => ?_) (Finset.sup_le fun s hs => ?_)
    · exact Finset.le_sup (f := fun s => ms f s (n + b)) (Finset.mem_range.mpr (by have := Finset.mem_range.mp hs; omega))
    · have h := Finset.mem_range.mp hs
      have e : f s (n + b) = ms f s (n + b) := by unfold ms; rw [if_pos (by omega)]
      rw [e]
      exact Finset.le_sup (f := fun s => ms f s (n + b)) (Finset.mem_range.mpr (by omega))
  · refine Finset.sup_le fun s hs => ?_
    by_cases h1 : s < n
    · refine le_max_of_le_right ?_
      have e : ms f s (n + b) = f s (n + b) := by unfold ms; rw [if_pos (by omega)]
      rw [e]
      exact Finset.le_sup (f := fun a => f a (n + b)) (Finset.mem_range.mpr h1)
    · by_cases h2 : s < n + 512
      · refine le_max_of_le_left ?_
        obtain ⟨a, rfl⟩ : ∃ a, s = n + a := ⟨s - n, by omega⟩
        exact Finset.le_sup (f := fun a => ms f (n + a) (n + b)) (Finset.mem_range.mpr (by omega))
      · have e : ms f s (n + b) = ⊥ := by unfold ms; rw [if_neg (by omega)]
        rw [e]; exact bot_le

theorem mx_first (f : ℕ → ℕ → EReal) (b : Fin 512) :
    Finset.fold max ⊥ (fun a : Fin 512 => ms f (512 * 0 + a) (512 * 0 + b)) Finset.univ = mx f (512 * 0 + b) := by
  have h := mx_split f 0 (by omega) b
  rw [show Finset.fold max ⊥ (fun a : Fin 0 => f a (0 + b)) Finset.univ = (⊥ : EReal) from rfl, max_eq_left bot_le] at h
  exact h

theorem ninf : Ideal.ofBits FTy.f32 4286578688#32 = (⊥ : EReal) := by
  simp [Ideal.ofBits, Ideal.ieee]

/-! ## The mask and the chosen lanes -/

theorem mask_at (a b : Fin 512) : k0_pay2 (ix2 a b) = if a.val ≤ b.val then 1#1 else 0#1 := by
  have ha := a.isLt
  have hb := b.isLt
  have e : k0_pay2 (ix2 a b) = IntOp.cmpi .sle (BitVec.ofNat 32 a.val) (BitVec.ofNat 32 b.val) := by
    pointwise [k0_pay2]
  rw [e]
  have key : (BitVec.ofNat 32 a.val).sle (BitVec.ofNat 32 b.val) = decide (a.val ≤ b.val) := by
    rw [BitVec.sle_eq_decide, BitVec.toInt_ofNat', BitVec.toInt_ofNat']
    congr 1
    rw [Int.bmod_eq_of_le (by omega) (by omega), Int.bmod_eq_of_le (by omega) (by omega)]
    simp
  show BitVec.ofBool ((BitVec.ofNat 32 a.val).sle (BitVec.ofNat 32 b.val)) = _
  rw [key]
  by_cases h : a.val ≤ b.val <;> simp [h]

/-- The masked score of the block on the diagonal. -/
theorem sel_mask (f : ℕ → ℕ → EReal) (n : ℕ) (a b : Fin 512) :
    Scalar.select (k0_pay2 (ix2 a b)) (f (n + a) (n + b)) (Ideal.ofBits FTy.f32 4286578688#32) = ms f (n + a) (n + b) := by
  rw [mask_at, ninf]
  unfold ms
  by_cases h : a.val ≤ b.val
  · rw [if_pos h, if_pos (by omega)]; rfl
  · rw [if_neg h, if_neg (by omega)]; rfl

section Blocks

variable {kA qN vN : ℕ → ℕ → EReal} {oN : ℕ → EReal} {f : ℕ → ℕ → EReal}

/-! ### Head 0, query block 0 -/

theorem h0b0_diag0 (io : IVec S512x128 32) (g : BitVec 32) (ho : ∀ b l, k0_pay6 (F := Ideal) io g (ix2 b l) = oN l) (q : Vec Ideal S1x512x128 .bf16) (kk : Vec Ideal S1x512x256 .bf16)
    (hq : ∀ b l, q (ix3 0 b l) = qN (512 * 0 + b) l) (hk : ∀ a l, kk (ix3 0 a l) = kA a l) (a b : Fin 512) :
    k0_pay7 io k0_pay2 g q kk (ix2 a b) = ms (sc kA qN oN) (512 * 0 + a) (512 * 0 + b) := by
  rw [← sel_mask (sc kA qN oN) (512 * 0) a b]
  pointwise [k0_pay7]
  simp only [hk, hq, ho, sc, Nat.mul_zero, Nat.zero_add]

theorem h0b0_diag (io : IVec S512x128 32) (g : BitVec 32) (ho : ∀ b l, k0_pay6 (F := Ideal) io g (ix2 b l) = oN l) (q : Vec Ideal S1x512x128 .bf16) (kk : Vec Ideal S1x512x256 .bf16)
    (hq : ∀ b l, q (ix3 0 b l) = qN (512 * 0 + b) l) (hk : ∀ a l, kk (ix3 0 a l) = kA a l) (a b : Fin 512) :
    k0_pay8 io k0_pay2 g q kk (ix2 a b) = ms (sc kA qN oN) (512 * 0 + a) (512 * 0 + b) := by
  rw [← h0b0_diag0 io g ho q kk hq hk]
  pointwise [k0_pay8]

theorem h0b0_max (io : IVec S512x128 32) (g : BitVec 32) (ho : ∀ b l, k0_pay6 (F := Ideal) io g (ix2 b l) = oN l) (q : Vec Ideal S1x512x128 .bf16) (kk : Vec Ideal S1x512x256 .bf16)
    (hq : ∀ b l, q (ix3 0 b l) = qN (512 * 0 + b) l) (hk : ∀ a l, kk (ix3 0 a l) = kA a l) (b : Fin 512) :
    k0_pay9 (k0_pay7 io k0_pay2 g q kk) (ix2 0 b) = mx (sc kA qN oN) (512 * 0 + b) := by
  rw [← mx_first (sc kA qN oN) b]
  pointwise [k0_pay9]
  rw [ninf]
  simp only [h0b0_diag0 io g ho q kk hq hk, Nat.mul_zero, Nat.zero_add]

/-! ### Head 0, query block 1 -/

theorem h0b1_sc (oh : Vec Ideal S512x128 .bf16) (ho : ∀ b l, oh (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a : Fin 1024) (b : Fin 512) :
    k0_pay10 oh q kk (ix2 a b) = sc kA qN oN a (512 * 1 + b) := by
  pointwise [k0_pay10]
  simp only [hk, hq, ho]
  rfl

theorem h0b1_diag0 (oh : Vec Ideal S512x128 .bf16) (ho : ∀ b l, oh (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a b : Fin 512) :
    k0_pay11 k0_pay2 oh q kk (ix2 a b) = ms (sc kA qN oN) (512 * 1 + a) (512 * 1 + b) := by
  rw [← sel_mask (sc kA qN oN) (512 * 1) a b]
  pointwise [k0_pay11]
  rw [h0b1_sc oh ho q kk hq hk]

theorem h0b1_diag (oh : Vec Ideal S512x128 .bf16) (ho : ∀ b l, oh (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a b : Fin 512) :
    k0_pay12 k0_pay2 oh q kk (ix2 a b) = ms (sc kA qN oN) (512 * 1 + a) (512 * 1 + b) := by
  rw [← h0b1_diag0 oh ho q kk hq hk]
  pointwise [k0_pay12]

theorem h0b1_below (oh : Vec Ideal S512x128 .bf16) (ho : ∀ b l, oh (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a : Fin 512) (b : Fin 512) :
    k0_pay13 oh q kk (ix2 a b) = ms (sc kA qN oN) a (512 * 1 + b) := by
  pointwise [k0_pay13]
  rw [h0b1_sc oh ho q kk hq hk]
  unfold ms
  rw [if_pos (by have := a.isLt; show a.val ≤ _; omega)]

theorem h0b1_max (oh : Vec Ideal S512x128 .bf16) (ho : ∀ b l, oh (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (b : Fin 512) :
    k0_pay14 k0_pay2 oh q kk (ix2 0 b) = mx (sc kA qN oN) (512 * 1 + b) := by
  rw [← mx_split (sc kA qN oN) (512 * 1) (by omega) b]
  pointwise [k0_pay14]
  rw [ninf]
  simp only [h0b1_sc oh ho q kk hq hk, h0b1_diag0 oh ho q kk hq hk]

/-! ### Head 0, query block 2 -/

theorem h0b2_sc (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a : Fin 1536) (b : Fin 512) :
    k0_pay16 (k0_pay15 oh q) kk (ix2 a b) = sc kA qN oN a (512 * 2 + b) := by
  pointwise [k0_pay16, k0_pay15]
  simp only [hk, hq, ho]
  rfl

theorem h0b2_diag0 (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a b : Fin 512) :
    k0_pay17 k0_pay2 (k0_pay15 oh q) kk (ix2 a b) = ms (sc kA qN oN) (512 * 2 + a) (512 * 2 + b) := by
  rw [← sel_mask (sc kA qN oN) (512 * 2) a b]
  pointwise [k0_pay17]
  rw [h0b2_sc oh ho q kk hq hk]

theorem h0b2_diag (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a b : Fin 512) :
    k0_pay18 k0_pay2 (k0_pay15 oh q) kk (ix2 a b) = ms (sc kA qN oN) (512 * 2 + a) (512 * 2 + b) := by
  rw [← h0b2_diag0 oh ho q kk hq hk]
  pointwise [k0_pay18]

theorem h0b2_below (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a : Fin 1024) (b : Fin 512) :
    k0_pay19 (k0_pay15 oh q) kk (ix2 a b) = ms (sc kA qN oN) a (512 * 2 + b) := by
  pointwise [k0_pay19]
  rw [h0b2_sc oh ho q kk hq hk]
  unfold ms
  rw [if_pos (by have := a.isLt; show a.val ≤ _; omega)]

theorem h0b2_max (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (b : Fin 512) :
    k0_pay20 k0_pay2 (k0_pay15 oh q) kk (ix2 0 b) = mx (sc kA qN oN) (512 * 2 + b) := by
  rw [← mx_split (sc kA qN oN) (512 * 2) (by omega) b]
  pointwise [k0_pay20]
  rw [ninf]
  simp only [h0b2_sc oh ho q kk hq hk, h0b2_diag0 oh ho q kk hq hk]

/-! ### Head 0, query block 3 -/

theorem h0b3_sc (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a : Fin 2048) (b : Fin 512) :
    k0_pay21 oh q kk (ix2 a b) = sc kA qN oN a (512 * 3 + b) := by
  pointwise [k0_pay21]
  simp only [hk, hq, ho]
  rfl

theorem h0b3_diag0 (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a b : Fin 512) :
    k0_pay22 k0_pay2 oh q kk (ix2 a b) = ms (sc kA qN oN) (512 * 3 + a) (512 * 3 + b) := by
  rw [← sel_mask (sc kA qN oN) (512 * 3) a b]
  pointwise [k0_pay22]
  rw [h0b3_sc oh ho q kk hq hk]

theorem h0b3_diag (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a b : Fin 512) :
    k0_pay23 k0_pay2 oh q kk (ix2 a b) = ms (sc kA qN oN) (512 * 3 + a) (512 * 3 + b) := by
  rw [← h0b3_diag0 oh ho q kk hq hk]
  pointwise [k0_pay23]

theorem h0b3_below (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a : Fin 1536) (b : Fin 512) :
    k0_pay25 (k0_pay21 oh q kk) (ix2 a b) = ms (sc kA qN oN) a (512 * 3 + b) := by
  pointwise [k0_pay25]
  rw [h0b3_sc oh ho q kk hq hk]
  unfold ms
  rw [if_pos (by have := a.isLt; show a.val ≤ _; omega)]

theorem h0b3_max (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (b : Fin 512) :
    k0_pay26 (k0_pay21 oh q kk) (k0_pay24 k0_pay2 oh q kk) (ix2 0 b) = mx (sc kA qN oN) (512 * 3 + b) := by
  rw [← mx_split (sc kA qN oN) (512 * 3) (by omega) b]
  pointwise [k0_pay26, k0_pay24]
  rw [ninf]
  simp only [h0b3_sc oh ho q kk hq hk, h0b3_diag0 oh ho q kk hq hk]

/-! ### Head 1, query block 0 -/

theorem h1b0_diag0 (pk : IVec S512x128 1) (x y : EReal) (ho : ∀ b l, k0_pay30 (F := Ideal) pk x y (ix2 b l) = oN l) (q : Vec Ideal S1x512x128 .bf16) (kk : Vec Ideal S1x512x256 .bf16)
    (hq : ∀ b l, q (ix3 0 b l) = qN (512 * 0 + b) l) (hk : ∀ a l, kk (ix3 0 a l) = kA a l) (a b : Fin 512) :
    k0_pay31 k0_pay2 pk x y q kk (ix2 a b) = ms (sc kA qN oN) (512 * 0 + a) (512 * 0 + b) := by
  rw [← sel_mask (sc kA qN oN) (512 * 0) a b]
  pointwise [k0_pay31]
  simp only [hk, hq, ho, sc, Nat.mul_zero, Nat.zero_add]

theorem h1b0_diag (pk : IVec S512x128 1) (x y : EReal) (ho : ∀ b l, k0_pay30 (F := Ideal) pk x y (ix2 b l) = oN l) (q : Vec Ideal S1x512x128 .bf16) (kk : Vec Ideal S1x512x256 .bf16)
    (hq : ∀ b l, q (ix3 0 b l) = qN (512 * 0 + b) l) (hk : ∀ a l, kk (ix3 0 a l) = kA a l) (a b : Fin 512) :
    k0_pay32 k0_pay2 pk x y q kk (ix2 a b) = ms (sc kA qN oN) (512 * 0 + a) (512 * 0 + b) := by
  rw [← h1b0_diag0 pk x y ho q kk hq hk]
  pointwise [k0_pay32]

theorem h1b0_max (pk : IVec S512x128 1) (x y : EReal) (ho : ∀ b l, k0_pay30 (F := Ideal) pk x y (ix2 b l) = oN l) (q : Vec Ideal S1x512x128 .bf16) (kk : Vec Ideal S1x512x256 .bf16)
    (hq : ∀ b l, q (ix3 0 b l) = qN (512 * 0 + b) l) (hk : ∀ a l, kk (ix3 0 a l) = kA a l) (b : Fin 512) :
    k0_pay33 k0_pay2 pk x y q kk (ix2 0 b) = mx (sc kA qN oN) (512 * 0 + b) := by
  rw [← mx_first (sc kA qN oN) b]
  pointwise [k0_pay33]
  rw [ninf]
  simp only [h1b0_diag0 pk x y ho q kk hq hk, Nat.mul_zero, Nat.zero_add]

/-! ### Head 1, query block 1 -/

theorem h1b1_sc (pk : IVec S512x128 1) (x y : EReal) (ho : ∀ b l, k0_pay30 (F := Ideal) pk x y (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a : Fin 1024) (b : Fin 512) :
    k0_pay34 pk x y q kk (ix2 a b) = sc kA qN oN a (512 * 1 + b) := by
  pointwise [k0_pay34]
  simp only [hk, hq, ho]
  rfl

theorem h1b1_diag0 (pk : IVec S512x128 1) (x y : EReal) (ho : ∀ b l, k0_pay30 (F := Ideal) pk x y (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a b : Fin 512) :
    k0_pay35 k0_pay2 pk x y q kk (ix2 a b) = ms (sc kA qN oN) (512 * 1 + a) (512 * 1 + b) := by
  rw [← sel_mask (sc kA qN oN) (512 * 1) a b]
  pointwise [k0_pay35]
  rw [h1b1_sc pk x y ho q kk hq hk]

theorem h1b1_diag (pk : IVec S512x128 1) (x y : EReal) (ho : ∀ b l, k0_pay30 (F := Ideal) pk x y (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a b : Fin 512) :
    k0_pay36 (k0_pay35 k0_pay2 pk x y q kk) (ix2 a b) = ms (sc kA qN oN) (512 * 1 + a) (512 * 1 + b) := by
  rw [← h1b1_diag0 pk x y ho q kk hq hk]
  pointwise [k0_pay36]

theorem h1b1_below (pk : IVec S512x128 1) (x y : EReal) (ho : ∀ b l, k0_pay30 (F := Ideal) pk x y (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (a : Fin 512) (b : Fin 512) :
    k0_pay37 (k0_pay34 pk x y q kk) (ix2 a b) = ms (sc kA qN oN) a (512 * 1 + b) := by
  pointwise [k0_pay37]
  rw [h1b1_sc pk x y ho q kk hq hk]
  unfold ms
  rw [if_pos (by have := a.isLt; show a.val ≤ _; omega)]

theorem h1b1_max (pk : IVec S512x128 1) (x y : EReal) (ho : ∀ b l, k0_pay30 (F := Ideal) pk x y (ix2 b l) = oN l) (q : Vec Ideal S1x512x128 .bf16) (kk : Vec Ideal S1x1024x256 .bf16)
    (hq : ∀ b l, q (ix3 0 b l) = qN (512 * 1 + b) l) (hk : ∀ a l, kk (ix3 0 a l) = kA a l) (b : Fin 512) :
    k0_pay38 (k0_pay34 pk x y q kk) (k0_pay35 k0_pay2 pk x y q kk) (ix2 0 b) = mx (sc kA qN oN) (512 * 1 + b) := by
  rw [← mx_split (sc kA qN oN) (512 * 1) (by omega) b]
  pointwise [k0_pay38]
  rw [ninf]
  simp only [h1b1_sc pk x y ho q kk hq hk, h1b1_diag0 pk x y ho q kk hq hk]

/-! ### Head 1, query block 2 -/

theorem h1b2_sc (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a : Fin 1536) (b : Fin 512) :
    k0_pay39 oh q kk (ix2 a b) = sc kA qN oN a (512 * 2 + b) := by
  pointwise [k0_pay39]
  simp only [hk, hq, ho]
  rfl

theorem h1b2_diag0 (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a b : Fin 512) :
    k0_pay40 k0_pay2 oh q kk (ix2 a b) = ms (sc kA qN oN) (512 * 2 + a) (512 * 2 + b) := by
  rw [← sel_mask (sc kA qN oN) (512 * 2) a b]
  pointwise [k0_pay40]
  rw [h1b2_sc oh ho q kk hq hk]

theorem h1b2_diag (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a b : Fin 512) :
    k0_pay41 k0_pay2 oh q kk (ix2 a b) = ms (sc kA qN oN) (512 * 2 + a) (512 * 2 + b) := by
  rw [← h1b2_diag0 oh ho q kk hq hk]
  pointwise [k0_pay41]

theorem h1b2_below (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (a : Fin 1024) (b : Fin 512) :
    k0_pay42 oh q kk (ix2 a b) = ms (sc kA qN oN) a (512 * 2 + b) := by
  pointwise [k0_pay42]
  rw [h1b2_sc oh ho q kk hq hk]
  unfold ms
  rw [if_pos (by have := a.isLt; show a.val ≤ _; omega)]

theorem h1b2_max (oh : Vec Ideal S512x128 .bf16) (ho : ∀ b l, oh (ix2 b l) = oN l) (q : Vec Ideal S1x512x128 .bf16) (kk : Vec Ideal S1x1536x256 .bf16)
    (hq : ∀ b l, q (ix3 0 b l) = qN (512 * 2 + b) l) (hk : ∀ a l, kk (ix3 0 a l) = kA a l) (b : Fin 512) :
    k0_pay43 k0_pay2 oh q kk (ix2 0 b) = mx (sc kA qN oN) (512 * 2 + b) := by
  rw [← mx_split (sc kA qN oN) (512 * 2) (by omega) b]
  pointwise [k0_pay43]
  rw [ninf]
  simp only [h1b2_sc oh ho q kk hq hk, h1b2_diag0 oh ho q kk hq hk]

/-! ### Head 1, query block 3 -/

theorem h1b3_sc (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a : Fin 2048) (b : Fin 512) :
    k0_pay44 oh q kk (ix2 a b) = sc kA qN oN a (512 * 3 + b) := by
  pointwise [k0_pay44]
  simp only [hk, hq, ho]
  rfl

theorem h1b3_diag0 (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a b : Fin 512) :
    k0_pay45 k0_pay2 oh q kk (ix2 a b) = ms (sc kA qN oN) (512 * 3 + a) (512 * 3 + b) := by
  rw [← sel_mask (sc kA qN oN) (512 * 3) a b]
  pointwise [k0_pay45]
  rw [h1b3_sc oh ho q kk hq hk]

theorem h1b3_diag (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a b : Fin 512) :
    k0_pay46 k0_pay2 oh q kk (ix2 a b) = ms (sc kA qN oN) (512 * 3 + a) (512 * 3 + b) := by
  rw [← h1b3_diag0 oh ho q kk hq hk]
  pointwise [k0_pay46]

theorem h1b3_below (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (a : Fin 1536) (b : Fin 512) :
    k0_pay47 oh q kk (ix2 a b) = ms (sc kA qN oN) a (512 * 3 + b) := by
  pointwise [k0_pay47]
  rw [h1b3_sc oh ho q kk hq hk]
  unfold ms
  rw [if_pos (by have := a.isLt; show a.val ≤ _; omega)]

theorem h1b3_max (oh : Vec Ideal S512x128 .bf16) (ho : ∀ b l, oh (ix2 b l) = oN l) (q : Vec Ideal S1x512x128 .bf16) (kk : Vec Ideal S1x2048x256 .bf16)
    (hq : ∀ b l, q (ix3 0 b l) = qN (512 * 3 + b) l) (hk : ∀ a l, kk (ix3 0 a l) = kA a l) (b : Fin 512) :
    k0_pay48 k0_pay2 oh q kk (ix2 0 b) = mx (sc kA qN oN) (512 * 3 + b) := by
  rw [← mx_split (sc kA qN oN) (512 * 3) (by omega) b]
  pointwise [k0_pay48]
  rw [ninf]
  simp only [h1b3_sc oh ho q kk hq hk, h1b3_diag0 oh ho q kk hq hk]

theorem h0b0_out (m : Vec Ideal S1x512 .f32) (x0 : Vec Ideal S512x512 .f32) (v0 : Vec Ideal S128x512 .bf16)
    (hm : ∀ b, m (ix2 0 b) = mx f (512 * 0 + b)) (hx0 : ∀ a b, x0 (ix2 a b) = ms f (512 * 0 + a) (512 * 0 + b))
    (hv0 : ∀ d a, v0 (ix2 d a) = vN d (512 * 0 + a)) (b : Fin 512) (d : Fin 128) :
    k0_pay52 k0_pay49 (k0_pay50 m x0) (k0_pay51 m x0) v0 (ix3 0 b d) = att f vN (512 * 0 + b) d := by
  pointwise [k0_pay52, k0_pay49, k0_pay51, k0_pay50]
  simp only [hm, hx0, hv0]
  have hb := b.isLt
  unfold att
  rw [← chunks 1 (by omega) _ fun s hs => pw_zero f (by omega),
    ← chunks 1 (by omega) _ fun s hs => by rw [pw_zero f (by omega), mul_zero]]
  simp only [Finset.sum_range_succ, Finset.sum_range_zero, zero_add, Nat.mul_zero, Nat.zero_add]
  rfl

theorem h0b1_out (m : Vec Ideal S1x512 .f32) (x0 x1 : Vec Ideal S512x512 .f32) (v0 v1 : Vec Ideal S128x512 .bf16)
    (hm : ∀ b, m (ix2 0 b) = mx f (512 * 1 + b)) (hx0 : ∀ a b, x0 (ix2 a b) = ms f (512 * 0 + a) (512 * 1 + b)) (hx1 : ∀ a b, x1 (ix2 a b) = ms f (512 * 1 + a) (512 * 1 + b))
    (hv0 : ∀ d a, v0 (ix2 d a) = vN d (512 * 0 + a)) (hv1 : ∀ d a, v1 (ix2 d a) = vN d (512 * 1 + a)) (b : Fin 512) (d : Fin 128) :
    k0_pay57 (k0_pay54 m x0 v0) (k0_pay55 m x1) (k0_pay56 m x0 x1) v1 (ix3 0 b d) = att f vN (512 * 1 + b) d := by
  pointwise [k0_pay57, k0_pay54, k0_pay56, k0_pay55, k0_pay53]
  simp only [hm, hx0, hv0, hx1, hv1]
  have hb := b.isLt
  unfold att
  rw [← chunks 2 (by omega) _ fun s hs => pw_zero f (by omega),
    ← chunks 2 (by omega) _ fun s hs => by rw [pw_zero f (by omega), mul_zero]]
  simp only [Finset.sum_range_succ, Finset.sum_range_zero, zero_add]
  rfl

theorem h0b2_out (m : Vec Ideal S1x512 .f32) (x0 x1 x2 : Vec Ideal S512x512 .f32) (v0 v1 v2 : Vec Ideal S128x512 .bf16)
    (hm : ∀ b, m (ix2 0 b) = mx f (512 * 2 + b)) (hx0 : ∀ a b, x0 (ix2 a b) = ms f (512 * 0 + a) (512 * 2 + b)) (hx1 : ∀ a b, x1 (ix2 a b) = ms f (512 * 1 + a) (512 * 2 + b)) (hx2 : ∀ a b, x2 (ix2 a b) = ms f (512 * 2 + a) (512 * 2 + b))
    (hv0 : ∀ d a, v0 (ix2 d a) = vN d (512 * 0 + a)) (hv1 : ∀ d a, v1 (ix2 d a) = vN d (512 * 1 + a)) (hv2 : ∀ d a, v2 (ix2 d a) = vN d (512 * 2 + a)) (b : Fin 512) (d : Fin 128) :
    k0_pay62 m (k0_pay59 m x0 v0) (k0_pay60 m x1) (k0_pay61 m x0 x1) v1 x2 v2 (ix3 0 b d) = att f vN (512 * 2 + b) d := by
  pointwise [k0_pay62, k0_pay59, k0_pay61, k0_pay60, k0_pay58]
  simp only [hm, hx0, hv0, hx1, hv1, hx2, hv2]
  have hb := b.isLt
  unfold att
  rw [← chunks 3 (by omega) _ fun s hs => pw_zero f (by omega),
    ← chunks 3 (by omega) _ fun s hs => by rw [pw_zero f (by omega), mul_zero]]
  simp only [Finset.sum_range_succ, Finset.sum_range_zero, zero_add]
  rfl

theorem h0b3_out (m : Vec Ideal S1x512 .f32) (x0 x1 x2 x3 : Vec Ideal S512x512 .f32) (v0 v1 v2 v3 : Vec Ideal S128x512 .bf16)
    (hm : ∀ b, m (ix2 0 b) = mx f (512 * 3 + b)) (hx0 : ∀ a b, x0 (ix2 a b) = ms f (512 * 0 + a) (512 * 3 + b)) (hx1 : ∀ a b, x1 (ix2 a b) = ms f (512 * 1 + a) (512 * 3 + b)) (hx2 : ∀ a b, x2 (ix2 a b) = ms f (512 * 2 + a) (512 * 3 + b)) (hx3 : ∀ a b, x3 (ix2 a b) = ms f (512 * 3 + a) (512 * 3 + b))
    (hv0 : ∀ d a, v0 (ix2 d a) = vN d (512 * 0 + a)) (hv1 : ∀ d a, v1 (ix2 d a) = vN d (512 * 1 + a)) (hv2 : ∀ d a, v2 (ix2 d a) = vN d (512 * 2 + a)) (hv3 : ∀ d a, v3 (ix2 d a) = vN d (512 * 3 + a)) (b : Fin 512) (d : Fin 128) :
    k0_pay71 (k0_pay68 m (k0_pay65 m x0) x1 x2) (k0_pay69 m k0_pay63 (k0_pay64 m x0) v0 x1 v1 x2 v2) (k0_pay70 m x3) v3 (ix3 0 b d) = att f vN (512 * 3 + b) d := by
  pointwise [k0_pay71, k0_pay68, k0_pay69, k0_pay65, k0_pay63, k0_pay64, k0_pay70, k0_pay66, k0_pay67]
  simp only [hm, hx0, hv0, hx1, hv1, hx2, hv2, hx3, hv3]
  have hb := b.isLt
  unfold att
  rw [← chunks 4 (by omega) _ fun s hs => pw_zero f (by omega),
    ← chunks 4 (by omega) _ fun s hs => by rw [pw_zero f (by omega), mul_zero]]
  simp only [Finset.sum_range_succ, Finset.sum_range_zero, zero_add]
  rfl

theorem h1b0_out (m : Vec Ideal S1x512 .f32) (x0 : Vec Ideal S512x512 .f32) (v0 : Vec Ideal S128x512 .bf16)
    (hm : ∀ b, m (ix2 0 b) = mx f (512 * 0 + b)) (hx0 : ∀ a b, x0 (ix2 a b) = ms f (512 * 0 + a) (512 * 0 + b))
    (hv0 : ∀ d a, v0 (ix2 d a) = vN d (512 * 0 + a)) (b : Fin 512) (d : Fin 128) :
    k0_pay73 (k0_pay72 m x0 v0) (ix3 0 b d) = att f vN (512 * 0 + b) d := by
  pointwise [k0_pay73, k0_pay72]
  simp only [hm, hx0, hv0]
  have hb := b.isLt
  unfold att
  rw [← chunks 1 (by omega) _ fun s hs => pw_zero f (by omega),
    ← chunks 1 (by omega) _ fun s hs => by rw [pw_zero f (by omega), mul_zero]]
  simp only [Finset.sum_range_succ, Finset.sum_range_zero, zero_add, Nat.mul_zero, Nat.zero_add]
  rfl

theorem h1b1_out (m : Vec Ideal S1x512 .f32) (x0 x1 : Vec Ideal S512x512 .f32) (v0 v1 : Vec Ideal S128x512 .bf16)
    (hm : ∀ b, m (ix2 0 b) = mx f (512 * 1 + b)) (hx0 : ∀ a b, x0 (ix2 a b) = ms f (512 * 0 + a) (512 * 1 + b)) (hx1 : ∀ a b, x1 (ix2 a b) = ms f (512 * 1 + a) (512 * 1 + b))
    (hv0 : ∀ d a, v0 (ix2 d a) = vN d (512 * 0 + a)) (hv1 : ∀ d a, v1 (ix2 d a) = vN d (512 * 1 + a)) (b : Fin 512) (d : Fin 128) :
    k0_pay75 (k0_pay74 m x0 v0 x1 v1) (ix3 0 b d) = att f vN (512 * 1 + b) d := by
  pointwise [k0_pay75, k0_pay74]
  simp only [hm, hx0, hv0, hx1, hv1]
  have hb := b.isLt
  unfold att
  rw [← chunks 2 (by omega) _ fun s hs => pw_zero f (by omega),
    ← chunks 2 (by omega) _ fun s hs => by rw [pw_zero f (by omega), mul_zero]]
  simp only [Finset.sum_range_succ, Finset.sum_range_zero, zero_add]
  rfl

theorem h1b2_out (m : Vec Ideal S1x512 .f32) (x0 x1 x2 : Vec Ideal S512x512 .f32) (v0 v1 v2 : Vec Ideal S128x512 .bf16)
    (hm : ∀ b, m (ix2 0 b) = mx f (512 * 2 + b)) (hx0 : ∀ a b, x0 (ix2 a b) = ms f (512 * 0 + a) (512 * 2 + b)) (hx1 : ∀ a b, x1 (ix2 a b) = ms f (512 * 1 + a) (512 * 2 + b)) (hx2 : ∀ a b, x2 (ix2 a b) = ms f (512 * 2 + a) (512 * 2 + b))
    (hv0 : ∀ d a, v0 (ix2 d a) = vN d (512 * 0 + a)) (hv1 : ∀ d a, v1 (ix2 d a) = vN d (512 * 1 + a)) (hv2 : ∀ d a, v2 (ix2 d a) = vN d (512 * 2 + a)) (b : Fin 512) (d : Fin 128) :
    k0_pay81 (k0_pay78 m x0 x1) (k0_pay79 m x0 v0 x1 v1) x2 (k0_pay80 m) v2 (ix3 0 b d) = att f vN (512 * 2 + b) d := by
  pointwise [k0_pay81, k0_pay78, k0_pay79, k0_pay80, k0_pay76, k0_pay77]
  simp only [hm, hx0, hv0, hx1, hv1, hx2, hv2]
  have hb := b.isLt
  unfold att
  rw [← chunks 3 (by omega) _ fun s hs => pw_zero f (by omega),
    ← chunks 3 (by omega) _ fun s hs => by rw [pw_zero f (by omega), mul_zero]]
  simp only [Finset.sum_range_succ, Finset.sum_range_zero, zero_add]
  rfl

theorem h1b3_out (m : Vec Ideal S1x512 .f32) (x0 x1 x2 x3 : Vec Ideal S512x512 .f32) (v0 v1 v2 v3 : Vec Ideal S128x512 .bf16)
    (hm : ∀ b, m (ix2 0 b) = mx f (512 * 3 + b)) (hx0 : ∀ a b, x0 (ix2 a b) = ms f (512 * 0 + a) (512 * 3 + b)) (hx1 : ∀ a b, x1 (ix2 a b) = ms f (512 * 1 + a) (512 * 3 + b)) (hx2 : ∀ a b, x2 (ix2 a b) = ms f (512 * 2 + a) (512 * 3 + b)) (hx3 : ∀ a b, x3 (ix2 a b) = ms f (512 * 3 + a) (512 * 3 + b))
    (hv0 : ∀ d a, v0 (ix2 d a) = vN d (512 * 0 + a)) (hv1 : ∀ d a, v1 (ix2 d a) = vN d (512 * 1 + a)) (hv2 : ∀ d a, v2 (ix2 d a) = vN d (512 * 2 + a)) (hv3 : ∀ d a, v3 (ix2 d a) = vN d (512 * 3 + a)) (b : Fin 512) (d : Fin 128) :
    k0_pay90 (k0_pay88 m (k0_pay83 m x0) x1 x2 x3) (k0_pay89 m (k0_pay84 m x0 v0) x1 v1 x2 v2 x3 v3) (ix3 0 b d) = att f vN (512 * 3 + b) d := by
  pointwise [k0_pay90, k0_pay88, k0_pay89, k0_pay83, k0_pay84, k0_pay82, k0_pay85, k0_pay86, k0_pay87]
  simp only [hm, hx0, hv0, hx1, hv1, hx2, hv2, hx3, hv3]
  have hb := b.isLt
  unfold att
  rw [← chunks 4 (by omega) _ fun s hs => pw_zero f (by omega),
    ← chunks 4 (by omega) _ fun s hs => by rw [pw_zero f (by omega), mul_zero]]
  simp only [Finset.sum_range_succ, Finset.sum_range_zero, zero_add]
  rfl

end Blocks

end Cert.Proof.AttnVal

end
-- ==== Proof.AttnRead.lean ====
/-
  Reading a slot's contents at natural-number indices, and reading back what was written piece by piece.
-/
module

public import proofs.«01_k».proof.Proof.AttnPay
public import Idealize.ShloMosaic.Lib.Pipeline.Value
public import Idealize.ShloMosaic.Lib.Pipeline.FrameBody

@[expose] public section

set_option maxRecDepth 16384

noncomputable section

namespace Cert.Proof.AttnVal

open Cert.KernelIdeal Cert.KernelIdeal.Gen
open Idealize.ShloMosaic Idealize.ShloMosaic.TcCoe

/-- A two-dimensional array at natural-number indices, zero outside. -/
def nat2 {n0 n1 : ℕ} (X : Shape.Idx ⟨2, ![n0, n1]⟩ → EReal) (a b : ℕ) : EReal :=
  if h : a < n0 ∧ b < n1 then X (ix2 ⟨a, h.1⟩ ⟨b, h.2⟩) else 0
/-- A three-dimensional array at natural-number indices, zero outside. -/
def nat3 {n0 n1 n2 : ℕ} (X : Shape.Idx ⟨3, ![n0, n1, n2]⟩ → EReal) (a b d : ℕ) : EReal :=
  if h : a < n0 ∧ b < n1 ∧ d < n2 then X (ix3 ⟨a, h.1⟩ ⟨b, h.2.1⟩ ⟨d, h.2.2⟩) else 0

theorem nat2_at {n0 n1 : ℕ} (X : Shape.Idx ⟨2, ![n0, n1]⟩ → EReal) (y : Shape.Idx ⟨2, ![n0, n1]⟩) :
    X y = nat2 X (y 0).val (y 1).val := by
  unfold nat2
  rw [dif_pos ⟨(y 0).isLt, (y 1).isLt⟩]
  exact congrArg X (eq_ix2 y)
theorem nat3_at {n0 n1 n2 : ℕ} (X : Shape.Idx ⟨3, ![n0, n1, n2]⟩ → EReal) (y : Shape.Idx ⟨3, ![n0, n1, n2]⟩) :
    X y = nat3 X (y 0).val (y 1).val (y 2).val := by
  unfold nat3
  rw [dif_pos ⟨(y 0).isLt, (y 1).isLt, (y 2).isLt⟩]
  exact congrArg X (eq_ix3 y)

/-- A load through a box, at an index. -/
theorem ld2 {n0 n1 m0 m1 o0 o1 : ℕ} (X : Shape.Idx ⟨2, ![n0, n1]⟩ → EReal)
    (inb : ∀ a, (![o0, o1] : Fin 2 → ℕ) a + (![m0, m1] : Fin 2 → ℕ) a ≤ (![n0, n1] : Fin 2 → ℕ) a) (x : Fin m0) (y : Fin m1) :
    X ((Rect.unit (s := ⟨2, ![n0, n1]⟩) ![o0, o1] ![m0, m1] inb).idx (ix2 x y)) = nat2 X (o0 + x) (o1 + y) := by
  refine (nat2_at X _).trans ?_
  show nat2 X (o0 + 1 * x.val) (o1 + 1 * y.val) = _
  rw [one_mul, one_mul]
theorem ld3 {n0 n1 n2 m0 m1 m2 o0 o1 o2 : ℕ} (X : Shape.Idx ⟨3, ![n0, n1, n2]⟩ → EReal)
    (inb : ∀ a, (![o0, o1, o2] : Fin 3 → ℕ) a + (![m0, m1, m2] : Fin 3 → ℕ) a ≤ (![n0, n1, n2] : Fin 3 → ℕ) a)
    (x : Fin m0) (y : Fin m1) (z : Fin m2) :
    X ((Rect.unit (s := ⟨3, ![n0, n1, n2]⟩) ![o0, o1, o2] ![m0, m1, m2] inb).idx (ix3 x y z)) = nat3 X (o0 + x) (o1 + y) (o2 + z) := by
  refine (nat3_at X _).trans ?_
  show nat3 X (o0 + 1 * x.val) (o1 + 1 * y.val) (o2 + 1 * z.val) = _
  rw [one_mul, one_mul, one_mul]

/-- A piece's payload agrees with a function of the whole's index. -/
theorem pc2 {n0 n1 m0 m1 o0 o1 : ℕ} (G : ℕ → ℕ → EReal)
    (inb : ∀ a, (![o0, o1] : Fin 2 → ℕ) a + (![m0, m1] : Fin 2 → ℕ) a ≤ (![n0, n1] : Fin 2 → ℕ) a)
    (w : Shape.Idx ⟨2, ![m0, m1]⟩ → EReal) (h : ∀ a b, w (ix2 a b) = G (o0 + a) (o1 + b))
    (x : (Rect.unit (s := ⟨2, ![n0, n1]⟩) ![o0, o1] ![m0, m1] inb).shape.Idx) :
    w x = (fun y : Shape.Idx ⟨2, ![n0, n1]⟩ => G (y 0).val (y 1).val) ((Rect.unit (s := ⟨2, ![n0, n1]⟩) ![o0, o1] ![m0, m1] inb).emb x) := by
  have e : w x = w (ix2 (x 0) (x 1)) := congrArg w (eq_ix2 x)
  refine (e.trans (h _ _)).trans ?_
  show _ = G (o0 + 1 * (x 0).val) (o1 + 1 * (x 1).val)
  rw [one_mul, one_mul]
theorem pc3 {n0 n1 n2 m0 m1 m2 o0 o1 o2 : ℕ} (G : ℕ → ℕ → ℕ → EReal)
    (inb : ∀ a, (![o0, o1, o2] : Fin 3 → ℕ) a + (![m0, m1, m2] : Fin 3 → ℕ) a ≤ (![n0, n1, n2] : Fin 3 → ℕ) a)
    (w : Shape.Idx ⟨3, ![m0, m1, m2]⟩ → EReal) (h : ∀ a b d, w (ix3 a b d) = G (o0 + a) (o1 + b) (o2 + d))
    (x : (Rect.unit (s := ⟨3, ![n0, n1, n2]⟩) ![o0, o1, o2] ![m0, m1, m2] inb).shape.Idx) :
    w x = (fun y : Shape.Idx ⟨3, ![n0, n1, n2]⟩ => G (y 0).val (y 1).val (y 2).val) ((Rect.unit (s := ⟨3, ![n0, n1, n2]⟩) ![o0, o1, o2] ![m0, m1, m2] inb).emb x) := by
  have e : w x = w (ix3 (x 0) (x 1) (x 2)) := congrArg w (eq_ix3 x)
  refine (e.trans (h _ _ _)).trans ?_
  show _ = G (o0 + 1 * (x 0).val) (o1 + 1 * (x 1).val) (o2 + 1 * (x 2).val)
  rw [one_mul, one_mul, one_mul]

theorem mem2 {n0 n1 m0 m1 o0 o1 : ℕ}
    (inb : ∀ a, (![o0, o1] : Fin 2 → ℕ) a + (![m0, m1] : Fin 2 → ℕ) a ≤ (![n0, n1] : Fin 2 → ℕ) a) (y : Shape.Idx ⟨2, ![n0, n1]⟩)
    (h0 : o0 ≤ (y 0).val ∧ (y 0).val < o0 + m0) (h1 : o1 ≤ (y 1).val ∧ (y 1).val < o1 + m1) :
    y ∈ (Rect.unit (s := ⟨2, ![n0, n1]⟩) ![o0, o1] ![m0, m1] inb).set := by
  rw [Rect.mem_set_unit]
  intro a
  match a with
  | ⟨0, _⟩ => exact h0
  | ⟨1, _⟩ => exact h1
theorem mem3 {n0 n1 n2 m0 m1 m2 o0 o1 o2 : ℕ}
    (inb : ∀ a, (![o0, o1, o2] : Fin 3 → ℕ) a + (![m0, m1, m2] : Fin 3 → ℕ) a ≤ (![n0, n1, n2] : Fin 3 → ℕ) a)
    (y : Shape.Idx ⟨3, ![n0, n1, n2]⟩)
    (h0 : o0 ≤ (y 0).val ∧ (y 0).val < o0 + m0) (h1 : o1 ≤ (y 1).val ∧ (y 1).val < o1 + m1) (h2 : o2 ≤ (y 2).val ∧ (y 2).val < o2 + m2) :
    y ∈ (Rect.unit (s := ⟨3, ![n0, n1, n2]⟩) ![o0, o1, o2] ![m0, m1, m2] inb).set := by
  rw [Rect.mem_set_unit]
  intro a
  match a with
  | ⟨0, _⟩ => exact h0
  | ⟨1, _⟩ => exact h1
  | ⟨2, _⟩ => exact h2

section Back
open View

variable {sig : RefSig} {κ : Kind} {sp : Space}

/-- The scores, written as the block on the diagonal alone. -/
theorem back1 (v : View sig κ sp ⟨2, ![512, 512]⟩ .f32) (G : ℕ → ℕ → EReal) (i1)
    (w1 : Shape.Idx ⟨2, ![512, 512]⟩ → EReal) (h1 : ∀ a b : Fin 512, w1 (ix2 a b) = G a b) (i3) (a b : Fin 512) :
    v.readCov (Val := Elt Ideal) [⟨Rect.unit (s := ⟨2, ![512, 512]⟩) ![0, 0] ![512, 512] i1, w1⟩]
      (Rect.unit (s := ⟨2, ![512, 512]⟩) ![0, 0] ![512, 512] i3).toLoadRect (ix2 a b) = G a b := by
  rw [readCov_cons_toLoadRect]
  exact h1 a b

/-- The scores, written as the rows before the block on the diagonal and that block. -/
theorem back2 {n R o : ℕ} (hR : R = n + 512) (v : View sig κ sp ⟨2, ![R, 512]⟩ .f32) (G : ℕ → ℕ → EReal) (i1 i2)
    (w1 : Shape.Idx ⟨2, ![n, 512]⟩ → EReal) (w2 : Shape.Idx ⟨2, ![512, 512]⟩ → EReal)
    (h1 : ∀ (a : Fin n) (b : Fin 512), w1 (ix2 a b) = G a b) (h2 : ∀ a b : Fin 512, w2 (ix2 a b) = G (n + a) b) (i3) (a b : Fin 512) :
    v.readCov (Val := Elt Ideal) [⟨Rect.unit (s := ⟨2, ![R, 512]⟩) ![0, 0] ![n, 512] i1, w1⟩, ⟨Rect.unit (s := ⟨2, ![R, 512]⟩) ![n, 0] ![512, 512] i2, w2⟩]
      (Rect.unit (s := ⟨2, ![R, 512]⟩) ![o, 0] ![512, 512] i3).toLoadRect (ix2 a b) = G (o + a) b := by
  rw [readCov_eq_canon']
  show canon _ ((Rect.unit (s := ⟨2, ![R, 512]⟩) ![o, 0] ![512, 512] i3).idx (ix2 a b)) = _
  rw [canon_apply_of_pieces (fun y : Shape.Idx ⟨2, ![R, 512]⟩ => G (y 0).val (y 1).val) _
    (List.forall_mem_cons.mpr ⟨pc2 G i1 w1 (fun a b => by rw [h1, Nat.zero_add, Nat.zero_add]),
      List.forall_mem_cons.mpr ⟨pc2 G i2 w2 (fun a b => by rw [h2, Nat.zero_add]), fun p hp => absurd hp List.not_mem_nil⟩⟩)]
  · show G (o + 1 * a.val) (0 + 1 * b.val) = _
    rw [one_mul, one_mul, Nat.zero_add]
  · set y := (Rect.unit (s := ⟨2, ![R, 512]⟩) ![o, 0] ![512, 512] i3).idx (ix2 a b)
    have hy0 : (y 0).val < R := (y 0).isLt
    have hy1 : (y 1).val < 512 := (y 1).isLt
    by_cases h : (y 0).val < n
    · exact ⟨_, List.mem_cons_self, mem2 i1 y ⟨by omega, by omega⟩ ⟨by omega, by omega⟩⟩
    · exact ⟨_, List.mem_cons_of_mem _ List.mem_cons_self, mem2 i2 y ⟨by omega, by omega⟩ ⟨by omega, by omega⟩⟩

/-- The keys beside the decay features, written head by head. -/
def kag (K : ℕ → ℕ → ℕ → EReal) (A : ℕ → ℕ → EReal) (h s l : ℕ) : EReal := if l < 128 then K h s l else A s (l - 128)

theorem backA {R : ℕ} (v : View sig κ sp ⟨3, ![2, 2048, 256]⟩ .bf16) (K : ℕ → ℕ → ℕ → EReal) (A : ℕ → ℕ → EReal) (i1 i2)
    (w1 w2 : Shape.Idx ⟨3, ![1, 2048, 128]⟩ → EReal)
    (h1 : ∀ a b d, w1 (ix3 a b d) = A b d) (h2 : ∀ (a : Fin 1) b d, w2 (ix3 a b d) = K a b d)
    (i3) (a : Fin R) (b : Fin 256) :
    v.readCov (Val := Elt Ideal) [⟨Rect.unit (s := ⟨3, ![2, 2048, 256]⟩) ![0, 0, 128] ![1, 2048, 128] i1, w1⟩, ⟨Rect.unit (s := ⟨3, ![2, 2048, 256]⟩) ![0, 0, 0] ![1, 2048, 128] i2, w2⟩]
      (Rect.unit (s := ⟨3, ![2, 2048, 256]⟩) ![0, 0, 0] ![1, R, 256] i3).toLoadRect (ix3 0 a b) = kag K A 0 a b := by
  rw [readCov_eq_canon']
  show canon _ ((Rect.unit (s := ⟨3, ![2, 2048, 256]⟩) ![0, 0, 0] ![1, R, 256] i3).idx (ix3 0 a b)) = _
  rw [canon_apply_of_pieces (fun y : Shape.Idx ⟨3, ![2, 2048, 256]⟩ => kag K A (y 0).val (y 1).val (y 2).val) _
    (List.forall_mem_cons.mpr ⟨pc3 (kag K A) i1 w1 (fun a b d => by
        rw [h1]; unfold kag; rw [if_neg (by omega), Nat.zero_add, Nat.add_sub_cancel_left]),
      List.forall_mem_cons.mpr ⟨pc3 (kag K A) i2 w2 (fun a b d => by
        rw [h2]; unfold kag; rw [if_pos (by omega), Nat.zero_add, Nat.zero_add, Nat.zero_add]), fun p hp => absurd hp List.not_mem_nil⟩⟩)]
  · show kag K A (0 + 1 * 0) (0 + 1 * a.val) (0 + 1 * b.val) = _
    simp only [one_mul, Nat.zero_add]
  · set y := (Rect.unit (s := ⟨3, ![2, 2048, 256]⟩) ![0, 0, 0] ![1, R, 256] i3).idx (ix3 0 a b) with hy
    have hy0 : (y 0).val = 0 := by rw [hy]; rfl
    have hy1 : (y 1).val < 2048 := (y 1).isLt
    have hy2 : (y 2).val < 256 := (y 2).isLt
    by_cases h : (y 2).val < 128
    · exact ⟨_, List.mem_cons_of_mem _ List.mem_cons_self, mem3 i2 y ⟨by omega, by omega⟩ ⟨by omega, by omega⟩ ⟨by omega, by omega⟩⟩
    · exact ⟨_, List.mem_cons_self, mem3 i1 y ⟨by omega, by omega⟩ ⟨by omega, by omega⟩ ⟨by omega, by omega⟩⟩

theorem backB {R : ℕ} (v : View sig κ sp ⟨3, ![2, 2048, 256]⟩ .bf16) (K : ℕ → ℕ → ℕ → EReal) (A : ℕ → ℕ → EReal) (i1 i2 L)
    (w1 w2 : Shape.Idx ⟨3, ![1, 2048, 128]⟩ → EReal)
    (h1 : ∀ a b d, w1 (ix3 a b d) = A b d) (h2 : ∀ (a : Fin 1) b d, w2 (ix3 a b d) = K (1 + a) b d)
    (i3) (a : Fin R) (b : Fin 256) :
    v.readCov (Val := Elt Ideal) (⟨Rect.unit (s := ⟨3, ![2, 2048, 256]⟩) ![1, 0, 128] ![1, 2048, 128] i1, w1⟩ :: ⟨Rect.unit (s := ⟨3, ![2, 2048, 256]⟩) ![1, 0, 0] ![1, 2048, 128] i2, w2⟩ :: L)
      (Rect.unit (s := ⟨3, ![2, 2048, 256]⟩) ![1, 0, 0] ![1, R, 256] i3).toLoadRect (ix3 0 a b) = kag K A 1 a b := by
  rw [readCov_eq_canon']
  show canon _ ((Rect.unit (s := ⟨3, ![2, 2048, 256]⟩) ![1, 0, 0] ![1, R, 256] i3).idx (ix3 0 a b)) = _
  set y := (Rect.unit (s := ⟨3, ![2, 2048, 256]⟩) ![1, 0, 0] ![1, R, 256] i3).idx (ix3 0 a b) with hy
  have hy0 : (y 0).val = 1 := by rw [hy]; rfl
  have hy1 : (y 1).val = a.val := by rw [hy]; show 0 + 1 * a.val = _; omega
  have hy2 : (y 2).val = b.val := by rw [hy]; show 0 + 1 * b.val = _; omega
  have hb1 : (y 1).val < 2048 := (y 1).isLt
  have hb2 : (y 2).val < 256 := (y 2).isLt
  by_cases h : (y 2).val < 128
  · rw [canon_cons_of_not_mem _ _ (fun hm => by
      have := (Rect.mem_set_unit (inb := i1) (i := y)).mp hm 2
      have q : 128 ≤ (y 2).val := this.1
      omega)]
    obtain ⟨x, hx⟩ := (Rect.unit (s := ⟨3, ![2, 2048, 256]⟩) ![1, 0, 0] ![1, 2048, 128] i2).exists_idx_of_mem
      (mem3 i2 y ⟨by omega, by omega⟩ ⟨by omega, by omega⟩ ⟨by omega, by omega⟩)
    rw [← hx]
    rw [show (Rect.unit (s := ⟨3, ![2, 2048, 256]⟩) ![1, 0, 0] ![1, 2048, 128] i2).idx x = (Rect.unit (s := ⟨3, ![2, 2048, 256]⟩) ![1, 0, 0] ![1, 2048, 128] i2).emb x from rfl,
      canon_cons_emb]
    refine (pc3 (kag K A) i2 w2 (fun a b d => by
        rw [h2]; unfold kag; rw [if_pos (by omega), Nat.zero_add, Nat.zero_add]) x).trans ?_
    show kag K A ((Rect.unit (s := ⟨3, ![2, 2048, 256]⟩) ![1, 0, 0] ![1, 2048, 128] i2).idx x 0).val ((Rect.unit (s := ⟨3, ![2, 2048, 256]⟩) ![1, 0, 0] ![1, 2048, 128] i2).idx x 1).val ((Rect.unit (s := ⟨3, ![2, 2048, 256]⟩) ![1, 0, 0] ![1, 2048, 128] i2).idx x 2).val = _
    rw [hx, hy0, hy1, hy2]
  · obtain ⟨x, hx⟩ := (Rect.unit (s := ⟨3, ![2, 2048, 256]⟩) ![1, 0, 128] ![1, 2048, 128] i1).exists_idx_of_mem
      (mem3 i1 y ⟨by omega, by omega⟩ ⟨by omega, by omega⟩ ⟨by omega, by omega⟩)
    rw [← hx]
    rw [show (Rect.unit (s := ⟨3, ![2, 2048, 256]⟩) ![1, 0, 128] ![1, 2048, 128] i1).idx x = (Rect.unit (s := ⟨3, ![2, 2048, 256]⟩) ![1, 0, 128] ![1, 2048, 128] i1).emb x from rfl,
      canon_cons_emb]
    refine (pc3 (kag K A) i1 w1 (fun a b d => by
        rw [h1]; unfold kag; rw [if_neg (by omega), Nat.zero_add, Nat.add_sub_cancel_left]) x).trans ?_
    show kag K A ((Rect.unit (s := ⟨3, ![2, 2048, 256]⟩) ![1, 0, 128] ![1, 2048, 128] i1).idx x 0).val ((Rect.unit (s := ⟨3, ![2, 2048, 256]⟩) ![1, 0, 128] ![1, 2048, 128] i1).idx x 1).val ((Rect.unit (s := ⟨3, ![2, 2048, 256]⟩) ![1, 0, 128] ![1, 2048, 128] i1).idx x 2).val = _
    rw [hx, hy0, hy1, hy2]

end Back

end Cert.Proof.AttnVal

end
-- ==== Proof.AttnMid.lean ====
/-
  What one trip leaves in its output slots, over the reals: the attention block of two heads, and the rounded tile.
-/
module

public import proofs.«01_k».proof.Proof.Pieces
public import proofs.«01_k».proof.Proof.AttnRead

@[expose] public section

set_option maxRecDepth 16384

noncomputable section

namespace Cert.Proof.AttnVal

open Cert.KernelIdeal Cert.KernelIdeal.Gen
open Idealize.ShloMosaic Idealize.ShloMosaic.TcCoe
open Cert.Proof.Attn

/-! ## The casts and slices of the loads -/

theorem pay5_at (x : Vec Ideal S1x2048x128 .bf16) (a : Fin 1) (b : Fin 2048) (d : Fin 128) : k0_pay5 x (ix3 a b d) = x (ix3 0 b d) := by
  obtain rfl : a = 0 := Subsingleton.elim _ _
  pointwise [k0_pay5]
theorem pay28_at (x : Vec Ideal S1x2048x128 .bf16) (a : Fin 1) (b : Fin 2048) (d : Fin 128) : k0_pay28 x (ix3 a b d) = x (ix3 0 b d) := by
  obtain rfl : a = 0 := Subsingleton.elim _ _
  pointwise [k0_pay28]
theorem pay34_at (x : Vec Ideal S1x2048x128 .bf16) (a : Fin 1) (b : Fin 2048) (d : Fin 128) : k0_pay4 (k0_pay3 x) (ix3 a b d) = x (ix3 0 b d) := by
  obtain rfl : a = 0 := Subsingleton.elim _ _
  pointwise [k0_pay4, k0_pay3]
theorem pay27_at (x : Vec Ideal S1x2048x128 .bf16) (a : Fin 1) (b : Fin 2048) (d : Fin 128) : k0_pay27 x (ix3 a b d) = x (ix3 0 b d) := by
  obtain rfl : a = 0 := Subsingleton.elim _ _
  pointwise [k0_pay27]
theorem pay1_at (x : Vec Ideal S1x1024x1024 .f32) (a : Fin 1) (b d : Fin 1024) : k0_pay1 x (ix3 a b d) = x (ix3 0 b d) := by
  obtain rfl : a = 0 := Subsingleton.elim _ _
  pointwise [k0_pay1]

theorem drop1A (x : Vec Ideal S1x2048x128 .bf16) (b : Fin 2048) (d : Fin 128) : shapeCast S2048x128 x shapeCasts_S1x2048x128_S2048x128 (ix2 b d) = x (ix3 0 b d) := by
  pointwise
theorem drop1U {e : EltTy} (x : Vec Ideal S1x1024x1024 e) (b d : Fin 1024) : shapeCast S1024x1024 x shapeCasts_S1x1024x1024_S1024x1024 (ix2 b d) = x (ix3 0 b d) := by
  pointwise

/-! ## The lanes of the decay features that a head sums -/

/-- One at lanes `h`, `h + 8` and `h + 16`. -/
def lanes (h l : ℕ) : EReal := if l = h ∨ l = h + 8 ∨ l = h + 16 then 1 else 0

section Trip
variable (c : Dev nD) (k : Fin k0_t1_loop.trips) (v161 : BitVec 32)
variable (fQ : Buf (Elt Ideal) ((rQ (Ring.sl 2 k.val)).view.loc (c : Thread nD τ))) (fK : Buf (Elt Ideal) ((rK (Ring.sl 2 k.val)).view.loc (c : Thread nD τ)))
  (fV : Buf (Elt Ideal) ((rV (Ring.sl 2 k.val)).view.loc (c : Thread nD τ))) (fA : Buf (Elt Ideal) ((rA (Ring.sl 2 (k.val / 4))).view.loc (c : Thread nD τ)))
  (fW : Buf (Elt Ideal) ((rW (Ring.sl 2 k.val)).view.loc (c : Thread nD τ)))

/-- The slots' contents at natural-number indices. -/
abbrev QN : ℕ → ℕ → ℕ → EReal := nat3 ((rQ (Ring.sl 2 k.val)).view.read (Elt Ideal) fQ)
abbrev KN : ℕ → ℕ → ℕ → EReal := nat3 ((rK (Ring.sl 2 k.val)).view.read (Elt Ideal) fK)
abbrev VN : ℕ → ℕ → EReal := nat2 ((rV (Ring.sl 2 k.val)).view.read (Elt Ideal) fV)
abbrev AN : ℕ → ℕ → EReal := nat2 ((rA (Ring.sl 2 (k.val / 4))).view.read (Elt Ideal) fA)

theorem rdQ (h q : ℕ) (i) (b : Fin 512) (l : Fin 128) :
    View.readAt (Elt Ideal) (rQ (Ring.sl 2 k.val)).view (Rect.unit (s := S2x2048x128) ![h, q, 0] S1x512x128.size i).toLoadRect fQ (ix3 0 b l) = QN c k fQ h (q + b) l := by
  refine (ld3 ((rQ (Ring.sl 2 k.val)).view.read (Elt Ideal) fQ) i 0 b l).trans ?_
  rw [Nat.zero_add]
  rfl
theorem rdV (h q : ℕ) (i) (d : Fin 128) (b : Fin 512) :
    View.readAt (Elt Ideal) (rV (Ring.sl 2 k.val)).view (Rect.unit (s := S256x2048) ![h, q] S128x512.size i).toLoadRect fV (ix2 d b) = VN c k fV (h + d) (q + b) :=
  ld2 ((rV (Ring.sl 2 k.val)).view.read (Elt Ideal) fV) i d b
theorem rdK (h : ℕ) (i) (a : Fin 1) (b : Fin 2048) (d : Fin 128) :
    View.readAt (Elt Ideal) (rK (Ring.sl 2 k.val)).view (Rect.unit (s := S2x2048x128) ![h, 0, 0] S1x2048x128.size i).toLoadRect fK (ix3 0 b d) = KN c k fK (h + a) b d := by
  refine (ld3 ((rK (Ring.sl 2 k.val)).view.read (Elt Ideal) fK) i 0 b d).trans ?_
  obtain rfl : a = 0 := Subsingleton.elim _ _
  rw [Nat.zero_add, Nat.zero_add]
theorem rdK' (M : Memref sig .tc .vmem S2x2048x128 .bf16) (e : M = rK (Ring.sl 2 k.val)) (f : M.view.ty.Contents (Elt Ideal)) (hf : HEq f fK)
    (i) (a : Fin 1) (b : Fin 2048) (d : Fin 128) :
    View.readAt (Elt Ideal) M.view (Rect.unit (s := S2x2048x128) ![0, 0, 0] S1x2048x128.size i).toLoadRect f (ix3 0 b d) = KN c k fK a b d := by
  subst e
  cases hf
  exact (rdK c k fK 0 i a b d).trans (by rw [Nat.zero_add])
theorem rdA' (off : Fin 3 → ℕ) (s : Fin 2) (e : off = so_S2x2048x128 s) (f : Buf (Elt Ideal) ((rA s).view.loc (c : Thread nD τ))) (i) (b : Fin 2048) (d : Fin 128) :
    View.readAt (Elt Ideal) (Memref.whole cc0_scoped6).view (Rect.unit (s := S2x2048x128) off S1x2048x128.size i).toLoadRect f (ix3 0 b d)
      = nat2 ((rA s).view.read (Elt Ideal) f) b d := by
  subst e
  refine Eq.trans ?_ (nat2_at ((rA s).view.read (Elt Ideal) f) (ix2 b d))
  refine Eq.trans ?_ (congrFun (Memref.read_squeeze_slice (Val := Elt Ideal) mA (Rect.unit (s := S2x2048x128) (so_S2x2048x128 s) S1x2048x128.size (so_S2x2048x128_inb s)) (fun _ => rfl)
    squeezes_S1x2048x128_S2048x128 shapeCasts_S1x2048x128_S2048x128 f) (ix2 b d)).symm
  exact (drop1A _ b d).symm
theorem rdA (i) (a : Fin 1) (b : Fin 2048) (d : Fin 128) :
    View.readAt (Elt Ideal) (Memref.whole cc0_scoped6).view (Rect.unit (s := S2x2048x128) (k0_off39 (wb k.val)) S1x2048x128.size i).toLoadRect fA (ix3 0 b d)
      = AN c k fA b d :=
  rdA' c _ _ (off39_eq k.val (Nat.lt_of_lt_of_eq k.isLt trips16)) fA i b d

/-! ## The keys beside the decay features -/

theorem key564 (a : Fin 512) (l : Fin 256) : midRun.sl.v564_r0 (F := Ideal) c k fK fA (ix3 0 a l) = kag (KN c k fK) (AN c k fA) 0 a l :=
  backA t0.view (KN c k fK) (AN c k fA) _ _ _ _ (fun a b d => (pay5_at _ a b d).trans (rdA c k fA _ a b d))
    (fun a b d => (pay34_at _ a b d).trans (rdK' c k fK (qK k) (qK_eq k) fK HEq.rfl _ a b d)) _ a l

theorem key579 (a : Fin 1024) (l : Fin 256) : midRun.sl.v579_r0 (F := Ideal) c k fK fA (ix3 0 a l) = kag (KN c k fK) (AN c k fA) 0 a l :=
  backA t0.view (KN c k fK) (AN c k fA) _ _ _ _ (fun a b d => (pay5_at _ a b d).trans (rdA c k fA _ a b d))
    (fun a b d => (pay34_at _ a b d).trans (rdK' c k fK (qK k) (qK_eq k) fK HEq.rfl _ a b d)) _ a l

theorem key603 (a : Fin 1536) (l : Fin 256) : midRun.sl.v603_r0 (F := Ideal) c k fK fA (ix3 0 a l) = kag (KN c k fK) (AN c k fA) 0 a l :=
  backA t0.view (KN c k fK) (AN c k fA) _ _ _ _ (fun a b d => (pay5_at _ a b d).trans (rdA c k fA _ a b d))
    (fun a b d => (pay34_at _ a b d).trans (rdK' c k fK (qK k) (qK_eq k) fK HEq.rfl _ a b d)) _ a l

theorem key627 (a : Fin 2048) (l : Fin 256) : midRun.sl.v627_r0 (F := Ideal) c k fK fA (ix3 0 a l) = kag (KN c k fK) (AN c k fA) 0 a l :=
  backA t0.view (KN c k fK) (AN c k fA) _ _ _ _ (fun a b d => (pay5_at _ a b d).trans (rdA c k fA _ a b d))
    (fun a b d => (pay34_at _ a b d).trans (rdK' c k fK (qK k) (qK_eq k) fK HEq.rfl _ a b d)) _ a l

theorem key680 (a : Fin 512) (l : Fin 256) : midRun.sl.v680_r0 (F := Ideal) c k fK fA (ix3 0 a l) = kag (KN c k fK) (AN c k fA) 1 a l :=
  backB t0.view (KN c k fK) (AN c k fA) _ _ _ _ _ (fun a b d => (pay28_at _ a b d).trans (rdA c k fA _ a b d))
    (fun a b d => (pay27_at _ a b d).trans (rdK c k fK 1 _ a b d)) _ a l

theorem key695 (a : Fin 1024) (l : Fin 256) : midRun.sl.v695_r0 (F := Ideal) c k fK fA (ix3 0 a l) = kag (KN c k fK) (AN c k fA) 1 a l :=
  backB t0.view (KN c k fK) (AN c k fA) _ _ _ _ _ (fun a b d => (pay28_at _ a b d).trans (rdA c k fA _ a b d))
    (fun a b d => (pay27_at _ a b d).trans (rdK c k fK 1 _ a b d)) _ a l

theorem key719 (a : Fin 1536) (l : Fin 256) : midRun.sl.v719_r0 (F := Ideal) c k fK fA (ix3 0 a l) = kag (KN c k fK) (AN c k fA) 1 a l :=
  backB t0.view (KN c k fK) (AN c k fA) _ _ _ _ _ (fun a b d => (pay28_at _ a b d).trans (rdA c k fA _ a b d))
    (fun a b d => (pay27_at _ a b d).trans (rdK c k fK 1 _ a b d)) _ a l

theorem key743 (a : Fin 2048) (l : Fin 256) : midRun.sl.v743_r0 (F := Ideal) c k fK fA (ix3 0 a l) = kag (KN c k fK) (AN c k fA) 1 a l :=
  backB t0.view (KN c k fK) (AN c k fA) _ _ _ _ _ (fun a b d => (pay28_at _ a b d).trans (rdA c k fA _ a b d))
    (fun a b d => (pay27_at _ a b d).trans (rdK c k fK 1 _ a b d)) _ a l

/-! ## The scores, read back block by block, and the maxima -/

variable (oN : ℕ → ℕ → EReal)
variable (h0 : ∀ b l, k0_pay6 (F := Ideal) midRun.sl.r_1 (midRun.sl.r_2 v161) (ix2 b l) = oN 0 l)
  (h1 : ∀ b l, k0_pay30 (F := Ideal) (k0_pay29 v161 midRun.sl.r_1) (midRun.sl.cst_433_r0 (F := Ideal)) (midRun.sl.cst_434_r0 (F := Ideal)) (ix2 b l) = oN 1 l)

/-- The scores of head `h` of the pair. -/
abbrev SC (h : ℕ) : ℕ → ℕ → EReal := sc (kag (KN c k fK) (AN c k fA) h) (QN c k fQ h) (oN h)
include h0 h1

theorem max00 (b : Fin 512) : midRun.sl.r_7 c k v161 fQ fK fA (ix2 0 b) = mx (SC c k fQ fK fA oN 0) (512 * 0 + b) := by
  unfold midRun.sl.r_7
  exact h0b0_max (qN := QN c k fQ 0) (kA := kag (KN c k fK) (AN c k fA) 0) (oN := oN 0) midRun.sl.r_1 (midRun.sl.r_2 v161) h0 (View.readAt (Elt Ideal) (rQ (Ring.sl 2 k.val)).view (Rect.unit (s := S2x2048x128) ![0, 0, 0] S1x512x128.size inb_S2x2048x128_S1x512x128_0_0_0).toLoadRect fQ) (midRun.sl.v564_r0 (F := Ideal) c k fK fA) (fun b l => rdQ c k fQ 0 (512 * 0) inb_S2x2048x128_S1x512x128_0_0_0 b l) (fun a l => key564 c k fK fA a l) b

theorem scr764 (a b : Fin 512) : midRun.sl.v764_r0 c k v161 fQ fK fA (ix2 a b) = ms (SC c k fQ fK fA oN 0) (512 * 0 + a) (512 * 0 + b) := by
  rw [Nat.mul_zero, Nat.zero_add, Nat.zero_add]
  refine back1 _ (fun s t => ms (SC c k fQ fK fA oN 0) s t) _ _ (fun a b => ?_) _ a b
  refine (h0b0_diag (qN := QN c k fQ 0) (kA := kag (KN c k fK) (AN c k fA) 0) (oN := oN 0) midRun.sl.r_1 (midRun.sl.r_2 v161) h0 (View.readAt (Elt Ideal) (rQ (Ring.sl 2 k.val)).view (Rect.unit (s := S2x2048x128) ![0, 0, 0] S1x512x128.size inb_S2x2048x128_S1x512x128_0_0_0).toLoadRect fQ) (midRun.sl.v564_r0 (F := Ideal) c k fK fA) (fun b l => rdQ c k fQ 0 (512 * 0) inb_S2x2048x128_S1x512x128_0_0_0 b l) (fun a l => key564 c k fK fA a l) a b).trans ?_
  rw [Nat.mul_zero, Nat.zero_add, Nat.zero_add]

theorem max01 (b : Fin 512) : midRun.sl.r_8 c k v161 fQ fK fA (ix2 0 b) = mx (SC c k fQ fK fA oN 0) (512 * 1 + b) := by
  unfold midRun.sl.r_8
  exact h0b1_max (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 512, 0] S1x512x128.size inb_S2x2048x128_S1x512x128_0_512_0).toLoadRect fQ) (midRun.sl.v579_r0 (F := Ideal) c k fK fA) (fun b l => rdQ c k fQ 0 (512 * 1) inb_S2x2048x128_S1x512x128_0_512_0 b l) (fun a l => key579 c k fK fA a l) b

theorem scr787 (a b : Fin 512) : midRun.sl.v787_r0 c k v161 fQ fK fA (ix2 a b) = ms (SC c k fQ fK fA oN 0) (512 * 0 + a) (512 * 1 + b) := by
  unfold midRun.sl.v787_r0 midRun.sl.H2_2
  exact back2 (n := 512) (R := 1024) (o := 0) rfl _ (fun s t => ms (SC c k fQ fK fA oN 0) s (512 * 1 + t)) _ _ _ _
    (fun a b => h0b1_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 512, 0] S1x512x128.size inb_S2x2048x128_S1x512x128_0_512_0).toLoadRect fQ) (midRun.sl.v579_r0 (F := Ideal) c k fK fA) (fun b l => rdQ c k fQ 0 (512 * 1) inb_S2x2048x128_S1x512x128_0_512_0 b l) (fun a l => key579 c k fK fA a l) a b) (fun a b => h0b1_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 512, 0] S1x512x128.size inb_S2x2048x128_S1x512x128_0_512_0).toLoadRect fQ) (midRun.sl.v579_r0 (F := Ideal) c k fK fA) (fun b l => rdQ c k fQ 0 (512 * 1) inb_S2x2048x128_S1x512x128_0_512_0 b l) (fun a l => key579 c k fK fA a l) a b) _ a b

theorem scr800 (a b : Fin 512) : midRun.sl.v800_r0 c k v161 fQ fK fA (ix2 a b) = ms (SC c k fQ fK fA oN 0) (512 * 1 + a) (512 * 1 + b) := by
  unfold midRun.sl.v800_r0 midRun.sl.H2_2
  exact back2 (n := 512) (R := 1024) (o := 512) rfl _ (fun s t => ms (SC c k fQ fK fA oN 0) s (512 * 1 + t)) _ _ _ _
    (fun a b => h0b1_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 512, 0] S1x512x128.size inb_S2x2048x128_S1x512x128_0_512_0).toLoadRect fQ) (midRun.sl.v579_r0 (F := Ideal) c k fK fA) (fun b l => rdQ c k fQ 0 (512 * 1) inb_S2x2048x128_S1x512x128_0_512_0 b l) (fun a l => key579 c k fK fA a l) a b) (fun a b => h0b1_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 512, 0] S1x512x128.size inb_S2x2048x128_S1x512x128_0_512_0).toLoadRect fQ) (midRun.sl.v579_r0 (F := Ideal) c k fK fA) (fun b l => rdQ c k fQ 0 (512 * 1) inb_S2x2048x128_S1x512x128_0_512_0 b l) (fun a l => key579 c k fK fA a l) a b) _ a b

theorem max02 (b : Fin 512) : midRun.sl.r_10 c k v161 fQ fK fA (ix2 0 b) = mx (SC c k fQ fK fA oN 0) (512 * 2 + b) := by
  unfold midRun.sl.r_10
  exact h0b2_max (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1024, 0] S1x512x128.size inb_S2x2048x128_S1x512x128_0_1024_0).toLoadRect fQ) (midRun.sl.v603_r0 (F := Ideal) c k fK fA) (fun b l => rdQ c k fQ 0 (512 * 2) inb_S2x2048x128_S1x512x128_0_1024_0 b l) (fun a l => key603 c k fK fA a l) b

theorem scr823 (a b : Fin 512) : midRun.sl.v823_r0 c k v161 fQ fK fA (ix2 a b) = ms (SC c k fQ fK fA oN 0) (512 * 0 + a) (512 * 2 + b) := by
  unfold midRun.sl.v823_r0 midRun.sl.H3_2
  exact back2 (n := 1024) (R := 1536) (o := 0) rfl _ (fun s t => ms (SC c k fQ fK fA oN 0) s (512 * 2 + t)) _ _ _ _
    (fun a b => h0b2_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1024, 0] S1x512x128.size inb_S2x2048x128_S1x512x128_0_1024_0).toLoadRect fQ) (midRun.sl.v603_r0 (F := Ideal) c k fK fA) (fun b l => rdQ c k fQ 0 (512 * 2) inb_S2x2048x128_S1x512x128_0_1024_0 b l) (fun a l => key603 c k fK fA a l) a b) (fun a b => h0b2_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1024, 0] S1x512x128.size inb_S2x2048x128_S1x512x128_0_1024_0).toLoadRect fQ) (midRun.sl.v603_r0 (F := Ideal) c k fK fA) (fun b l => rdQ c k fQ 0 (512 * 2) inb_S2x2048x128_S1x512x128_0_1024_0 b l) (fun a l => key603 c k fK fA a l) a b) _ a b

theorem scr836 (a b : Fin 512) : midRun.sl.v836_r0 c k v161 fQ fK fA (ix2 a b) = ms (SC c k fQ fK fA oN 0) (512 * 1 + a) (512 * 2 + b) := by
  unfold midRun.sl.v836_r0 midRun.sl.H3_2
  exact back2 (n := 1024) (R := 1536) (o := 512) rfl _ (fun s t => ms (SC c k fQ fK fA oN 0) s (512 * 2 + t)) _ _ _ _
    (fun a b => h0b2_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1024, 0] S1x512x128.size inb_S2x2048x128_S1x512x128_0_1024_0).toLoadRect fQ) (midRun.sl.v603_r0 (F := Ideal) c k fK fA) (fun b l => rdQ c k fQ 0 (512 * 2) inb_S2x2048x128_S1x512x128_0_1024_0 b l) (fun a l => key603 c k fK fA a l) a b) (fun a b => h0b2_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1024, 0] S1x512x128.size inb_S2x2048x128_S1x512x128_0_1024_0).toLoadRect fQ) (midRun.sl.v603_r0 (F := Ideal) c k fK fA) (fun b l => rdQ c k fQ 0 (512 * 2) inb_S2x2048x128_S1x512x128_0_1024_0 b l) (fun a l => key603 c k fK fA a l) a b) _ a b

theorem scr849 (a b : Fin 512) : midRun.sl.v849_r0 c k v161 fQ fK fA (ix2 a b) = ms (SC c k fQ fK fA oN 0) (512 * 2 + a) (512 * 2 + b) := by
  unfold midRun.sl.v849_r0 midRun.sl.H3_2
  exact back2 (n := 1024) (R := 1536) (o := 1024) rfl _ (fun s t => ms (SC c k fQ fK fA oN 0) s (512 * 2 + t)) _ _ _ _
    (fun a b => h0b2_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1024, 0] S1x512x128.size inb_S2x2048x128_S1x512x128_0_1024_0).toLoadRect fQ) (midRun.sl.v603_r0 (F := Ideal) c k fK fA) (fun b l => rdQ c k fQ 0 (512 * 2) inb_S2x2048x128_S1x512x128_0_1024_0 b l) (fun a l => key603 c k fK fA a l) a b) (fun a b => h0b2_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1024, 0] S1x512x128.size inb_S2x2048x128_S1x512x128_0_1024_0).toLoadRect fQ) (midRun.sl.v603_r0 (F := Ideal) c k fK fA) (fun b l => rdQ c k fQ 0 (512 * 2) inb_S2x2048x128_S1x512x128_0_1024_0 b l) (fun a l => key603 c k fK fA a l) a b) _ a b

theorem max03 (b : Fin 512) : midRun.sl.r_13 c k v161 fQ fK fA (ix2 0 b) = mx (SC c k fQ fK fA oN 0) (512 * 3 + b) := by
  unfold midRun.sl.r_13
  exact h0b3_max (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) b

theorem scr872 (a b : Fin 512) : midRun.sl.v872_r0 c k v161 fQ fK fA (ix2 a b) = ms (SC c k fQ fK fA oN 0) (512 * 0 + a) (512 * 3 + b) := by
  unfold midRun.sl.v872_r0 midRun.sl.H4_2
  exact back2 (n := 1536) (R := 2048) (o := 0) rfl _ (fun s t => ms (SC c k fQ fK fA oN 0) s (512 * 3 + t)) _ _ _ _
    (fun a b => h0b3_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) (fun a b => h0b3_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) _ a b

theorem scr885 (a b : Fin 512) : midRun.sl.v885_r0 c k v161 fQ fK fA (ix2 a b) = ms (SC c k fQ fK fA oN 0) (512 * 1 + a) (512 * 3 + b) := by
  unfold midRun.sl.v885_r0 midRun.sl.H4_2
  exact back2 (n := 1536) (R := 2048) (o := 512) rfl _ (fun s t => ms (SC c k fQ fK fA oN 0) s (512 * 3 + t)) _ _ _ _
    (fun a b => h0b3_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) (fun a b => h0b3_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) _ a b

theorem scr898 (a b : Fin 512) : midRun.sl.v898_r0 c k v161 fQ fK fA (ix2 a b) = ms (SC c k fQ fK fA oN 0) (512 * 2 + a) (512 * 3 + b) := by
  unfold midRun.sl.v898_r0 midRun.sl.H4_2
  exact back2 (n := 1536) (R := 2048) (o := 1024) rfl _ (fun s t => ms (SC c k fQ fK fA oN 0) s (512 * 3 + t)) _ _ _ _
    (fun a b => h0b3_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) (fun a b => h0b3_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) _ a b

theorem scr911 (a b : Fin 512) : midRun.sl.v911_r0 c k v161 fQ fK fA (ix2 a b) = ms (SC c k fQ fK fA oN 0) (512 * 3 + a) (512 * 3 + b) := by
  unfold midRun.sl.v911_r0 midRun.sl.H4_2
  exact back2 (n := 1536) (R := 2048) (o := 1536) rfl _ (fun s t => ms (SC c k fQ fK fA oN 0) s (512 * 3 + t)) _ _ _ _
    (fun a b => h0b3_below (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) (fun a b => h0b3_diag (qN := QN c k fQ 0) (kA := kag (KN c k fK) (AN c k fA) 0) (oN := oN 0) (midRun.sl.r_4 (F := Ideal) v161) h0 (View.readAt (Elt Ideal) (rQ (Ring.sl 2 k.val)).view (Rect.unit (s := S2x2048x128) ![0, 1536, 0] S1x512x128.size inb_S2x2048x128_S1x512x128_0_1536_0).toLoadRect fQ) (midRun.sl.v627_r0 (F := Ideal) c k fK fA) (fun b l => rdQ c k fQ 0 (512 * 3) inb_S2x2048x128_S1x512x128_0_1536_0 b l) (fun a l => key627 c k fK fA a l) a b) _ a b

theorem max10 (b : Fin 512) : midRun.sl.r_15 c k v161 fQ fK fA (ix2 0 b) = mx (SC c k fQ fK fA oN 1) (512 * 0 + b) := by
  unfold midRun.sl.r_15
  exact h1b0_max (qN := QN c k fQ 1) (kA := kag (KN c k fK) (AN c k fA) 1) (oN := oN 1) (k0_pay29 v161 midRun.sl.r_1) (midRun.sl.cst_433_r0 (F := Ideal)) (midRun.sl.cst_434_r0 (F := Ideal)) h1 (View.readAt (Elt Ideal) (rQ (Ring.sl 2 k.val)).view (Rect.unit (s := S2x2048x128) ![1, 0, 0] S1x512x128.size inb_S2x2048x128_S1x512x128_1_0_0).toLoadRect fQ) (midRun.sl.v680_r0 (F := Ideal) c k fK fA) (fun b l => rdQ c k fQ 1 (512 * 0) inb_S2x2048x128_S1x512x128_1_0_0 b l) (fun a l => key680 c k fK fA a l) b

theorem scr934 (a b : Fin 512) : midRun.sl.v934_r0 c k v161 fQ fK fA (ix2 a b) = ms (SC c k fQ fK fA oN 1) (512 * 0 + a) (512 * 0 + b) := by
  rw [Nat.mul_zero, Nat.zero_add, Nat.zero_add]
  refine back1 _ (fun s t => ms (SC c k fQ fK fA oN 1) s t) _ _ (fun a b => ?_) _ a b
  refine (h1b0_diag (qN := QN c k fQ 1) (kA := kag (KN c k fK) (AN c k fA) 1) (oN := oN 1) (k0_pay29 v161 midRun.sl.r_1) (midRun.sl.cst_433_r0 (F := Ideal)) (midRun.sl.cst_434_r0 (F := Ideal)) h1 (View.readAt (Elt Ideal) (rQ (Ring.sl 2 k.val)).view (Rect.unit (s := S2x2048x128) ![1, 0, 0] S1x512x128.size inb_S2x2048x128_S1x512x128_1_0_0).toLoadRect fQ) (midRun.sl.v680_r0 (F := Ideal) c k fK fA) (fun b l => rdQ c k fQ 1 (512 * 0) inb_S2x2048x128_S1x512x128_1_0_0 b l) (fun a l => key680 c k fK fA a l) a b).trans ?_
  rw [Nat.mul_zero, Nat.zero_add, Nat.zero_add]

theorem max11 (b : Fin 512) : midRun.sl.r_18 c k v161 fQ fK fA (ix2 0 b) = mx (SC c k fQ fK fA oN 1) (512 * 1 + b) := by
  unfold midRun.sl.r_18
  exact h1b1_max (qN := QN c k fQ 1) (kA := kag (KN c k fK) (AN c k fA) 1) (oN := oN 1) (k0_pay29 v161 midRun.sl.r_1) (midRun.sl.cst_433_r0 (F := Ideal)) (midRun.sl.cst_434_r0 (F := Ideal)) h1 (View.readAt (Elt Ideal) (rQ (Ring.sl 2 k.val)).view (Rect.unit (s := S2x2048x128) ![1, 512, 0] S1x512x128.size inb_S2x2048x128_S1x512x128_1_512_0).toLoadRect fQ) (midRun.sl.v695_r0 (F := Ideal) c k fK fA) (fun b l => rdQ c k fQ 1 (512 * 1) inb_S2x2048x128_S1x512x128_1_512_0 b l) (fun a l => key695 c k fK fA a l) b

theorem scr957 (a b : Fin 512) : midRun.sl.v957_r0 c k v161 fQ fK fA (ix2 a b) = ms (SC c k fQ fK fA oN 1) (512 * 0 + a) (512 * 1 + b) := by
  unfold midRun.sl.v957_r0 midRun.sl.H6_2
  exact back2 (n := 512) (R := 1024) (o := 0) rfl _ (fun s t => ms (SC c k fQ fK fA oN 1) s (512 * 1 + t)) _ _ _ _
    (fun a b => h1b1_below (qN := QN c k fQ 1) (kA := kag (KN c k fK) (AN c k fA) 1) (oN := oN 1) (k0_pay29 v161 midRun.sl.r_1) (midRun.sl.cst_433_r0 (F := Ideal)) (midRun.sl.cst_434_r0 (F := Ideal)) h1 (View.readAt (Elt Ideal) (rQ (Ring.sl 2 k.val)).view (Rect.unit (s := S2x2048x128) ![1, 512, 0] S1x512x128.size inb_S2x2048x128_S1x512x128_1_512_0).toLoadRect fQ) (midRun.sl.v695_r0 (F := Ideal) c k fK fA) (fun b l => rdQ c k fQ 1 (512 * 1) inb_S2x2048x128_S1x512x128_1_512_0 b l) (fun a l => key695 c k fK fA a l) a b) (fun a b => h1b1_diag (qN := QN c k fQ 1) (kA := kag (KN c k fK) (AN c k fA) 1) (oN := oN 1) (k0_pay29 v161 midRun.sl.r_1) (midRun.sl.cst_433_r0 (F := Ideal)) (midRun.sl.cst_434_r0 (F := Ideal)) h1 (View.readAt (Elt Ideal) (rQ (Ring.sl 2 k.val)).view (Rect.unit (s := S2x2048x128) ![1, 512, 0] S1x512x128.size inb_S2x2048x128_S1x512x128_1_512_0).toLoadRect fQ) (midRun.sl.v695_r0 (F := Ideal) c k fK fA) (fun b l => rdQ c k fQ 1 (512 * 1) inb_S2x2048x128_S1x512x128_1_512_0 b l) (fun a l => key695 c k fK fA a l) a b) _ a b

theorem scr970 (a b : Fin 512) : midRun.sl.v970_r0 c k v161 fQ fK fA (ix2 a b) = ms (SC c k fQ fK fA oN 1) (512 * 1 + a) (512 * 1 + b) := by
  unfold midRun.sl.v970_r0 midRun.sl.H6_2
  exact back2 (n := 512) (R := 1024) (o := 512) rfl _ (fun s t => ms (SC c k fQ fK fA oN 1) s (512 * 1 + t)) _ _ _ _
    (fun a b => h1b1_below (qN := QN c k fQ 1) (kA := kag (KN c k fK) (AN c k fA) 1) (oN := oN 1) (k0_pay29 v161 midRun.sl.r_1) (midRun.sl.cst_433_r0 (F := Ideal)) (midRun.sl.cst_434_r0 (F := Ideal)) h1 (View.readAt (Elt Ideal) (rQ (Ring.sl 2 k.val)).view (Rect.unit (s := S2x2048x128) ![1, 512, 0] S1x512x128.size inb_S2x2048x128_S1x512x128_1_512_0).toLoadRect fQ) (midRun.sl.v695_r0 (F := Ideal) c k fK fA) (fun b l => rdQ c k fQ 1 (512 * 1) inb_S2x2048x128_S1x512x128_1_512_0 b l) (fun a l => key695 c k fK fA a l) a b) (fun a b => h1b1_diag (qN := QN c k fQ 1) (kA := kag (KN c k fK) (AN c k fA) 1) (oN := oN 1) (k0_pay29 v161 midRun.sl.r_1) (midRun.sl.cst_433_r0 (F := Ideal)) (midRun.sl.cst_434_r0 (F := Ideal)) h1 (View.readAt (Elt Ideal) (rQ (Ring.sl 2 k.val)).view (Rect.unit (s := S2x2048x128) ![1, 512, 0] S1x512x128.size inb_S2x2048x128_S1x512x128_1_512_0).toLoadRect fQ) (midRun.sl.v695_r0 (F := Ideal) c k fK fA) (fun b l => rdQ c k fQ 1 (512 * 1) inb_S2x2048x128_S1x512x128_1_512_0 b l) (fun a l => key695 c k fK fA a l) a b) _ a b

theorem max12 (b : Fin 512) : midRun.sl.r_19 c k v161 fQ fK fA (ix2 0 b) = mx (SC c k fQ fK fA oN 1) (512 * 2 + b) := by
  unfold midRun.sl.r_19
  exact h1b2_max (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1024, 0] S1x512x128.size inb_S2x2048x128_S1x512x128_1_1024_0).toLoadRect fQ) (midRun.sl.v719_r0 (F := Ideal) c k fK fA) (fun b l => rdQ c k fQ 1 (512 * 2) inb_S2x2048x128_S1x512x128_1_1024_0 b l) (fun a l => key719 c k fK fA a l) b

theorem scr993 (a b : Fin 512) : midRun.sl.v993_r0 c k v161 fQ fK fA (ix2 a b) = ms (SC c k fQ fK fA oN 1) (512 * 0 + a) (512 * 2 + b) := by
  unfold midRun.sl.v993_r0 midRun.sl.H7_2
  exact back2 (n := 1024) (R := 1536) (o := 0) rfl _ (fun s t => ms (SC c k fQ fK fA oN 1) s (512 * 2 + t)) _ _ _ _
    (fun a b => h1b2_below (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1024, 0] S1x512x128.size inb_S2x2048x128_S1x512x128_1_1024_0).toLoadRect fQ) (midRun.sl.v719_r0 (F := Ideal) c k fK fA) (fun b l => rdQ c k fQ 1 (512 * 2) inb_S2x2048x128_S1x512x128_1_1024_0 b l) (fun a l => key719 c k fK fA a l) a b) (fun a b => h1b2_diag (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1024, 0] S1x512x128.size inb_S2x2048x128_S1x512x128_1_1024_0).toLoadRect fQ) (midRun.sl.v719_r0 (F := Ideal) c k fK fA) (fun b l => rdQ c k fQ 1 (512 * 2) inb_S2x2048x128_S1x512x128_1_1024_0 b l) (fun a l => key719 c k fK fA a l) a b) _ a b

theorem scr1006 (a b : Fin 512) : midRun.sl.v1006_r0 c k v161 fQ fK fA (ix2 a b) = ms (SC c k fQ fK fA oN 1) (512 * 1 + a) (512 * 2 + b) := by
  unfold midRun.sl.v1006_r0 midRun.sl.H7_2
  exact back2 (n := 1024) (R := 1536) (o := 512) rfl _ (fun s t => ms (SC c k fQ fK fA oN 1) s (512 * 2 + t)) _ _ _ _
    (fun a b => h1b2_below (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1024, 0] S1x512x128.size inb_S2x2048x128_S1x512x128_1_1024_0).toLoadRect fQ) (midRun.sl.v719_r0 (F := Ideal) c k fK fA) (fun b l => rdQ c k fQ 1 (512 * 2) inb_S2x2048x128_S1x512x128_1_1024_0 b l) (fun a l => key719 c k fK fA a l) a b) (fun a b => h1b2_diag (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1024, 0] S1x512x128.size inb_S2x2048x128_S1x512x128_1_1024_0).toLoadRect fQ) (midRun.sl.v719_r0 (F := Ideal) c k fK fA) (fun b l => rdQ c k fQ 1 (512 * 2) inb_S2x2048x128_S1x512x128_1_1024_0 b l) (fun a l => key719 c k fK fA a l) a b) _ a b

theorem scr1019 (a b : Fin 512) : midRun.sl.v1019_r0 c k v161 fQ fK fA (ix2 a b) = ms (SC c k fQ fK fA oN 1) (512 * 2 + a) (512 * 2 + b) := by
  unfold midRun.sl.v1019_r0 midRun.sl.H7_2
  exact back2 (n := 1024) (R := 1536) (o := 1024) rfl _ (fun s t => ms (SC c k fQ fK fA oN 1) s (512 * 2 + t)) _ _ _ _
    (fun a b => h1b2_below (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1024, 0] S1x512x128.size inb_S2x2048x128_S1x512x128_1_1024_0).toLoadRect fQ) (midRun.sl.v719_r0 (F := Ideal) c k fK fA) (fun b l => rdQ c k fQ 1 (512 * 2) inb_S2x2048x128_S1x512x128_1_1024_0 b l) (fun a l => key719 c k fK fA a l) a b) (fun a b => h1b2_diag (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1024, 0] S1x512x128.size inb_S2x2048x128_S1x512x128_1_1024_0).toLoadRect fQ) (midRun.sl.v719_r0 (F := Ideal) c k fK fA) (fun b l => rdQ c k fQ 1 (512 * 2) inb_S2x2048x128_S1x512x128_1_1024_0 b l) (fun a l => key719 c k fK fA a l) a b) _ a b

theorem max13 (b : Fin 512) : midRun.sl.r_20 c k v161 fQ fK fA (ix2 0 b) = mx (SC c k fQ fK fA oN 1) (512 * 3 + b) := by
  unfold midRun.sl.r_20
  exact h1b3_max (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) b

theorem scr1042 (a b : Fin 512) : midRun.sl.v1042_r0 c k v161 fQ fK fA (ix2 a b) = ms (SC c k fQ fK fA oN 1) (512 * 0 + a) (512 * 3 + b) := by
  unfold midRun.sl.v1042_r0 midRun.sl.H8_2
  exact back2 (n := 1536) (R := 2048) (o := 0) rfl _ (fun s t => ms (SC c k fQ fK fA oN 1) s (512 * 3 + t)) _ _ _ _
    (fun a b => h1b3_below (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) (fun a b => h1b3_diag (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) _ a b

theorem scr1055 (a b : Fin 512) : midRun.sl.v1055_r0 c k v161 fQ fK fA (ix2 a b) = ms (SC c k fQ fK fA oN 1) (512 * 1 + a) (512 * 3 + b) := by
  unfold midRun.sl.v1055_r0 midRun.sl.H8_2
  exact back2 (n := 1536) (R := 2048) (o := 512) rfl _ (fun s t => ms (SC c k fQ fK fA oN 1) s (512 * 3 + t)) _ _ _ _
    (fun a b => h1b3_below (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) (fun a b => h1b3_diag (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) _ a b

theorem scr1068 (a b : Fin 512) : midRun.sl.v1068_r0 c k v161 fQ fK fA (ix2 a b) = ms (SC c k fQ fK fA oN 1) (512 * 2 + a) (512 * 3 + b) := by
  unfold midRun.sl.v1068_r0 midRun.sl.H8_2
  exact back2 (n := 1536) (R := 2048) (o := 1024) rfl _ (fun s t => ms (SC c k fQ fK fA oN 1) s (512 * 3 + t)) _ _ _ _
    (fun a b => h1b3_below (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) (fun a b => h1b3_diag (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) _ a b

theorem scr1081 (a b : Fin 512) : midRun.sl.v1081_r0 c k v161 fQ fK fA (ix2 a b) = ms (SC c k fQ fK fA oN 1) (512 * 3 + a) (512 * 3 + b) := by
  unfold midRun.sl.v1081_r0 midRun.sl.H8_2
  exact back2 (n := 1536) (R := 2048) (o := 1536) rfl _ (fun s t => ms (SC c k fQ fK fA oN 1) s (512 * 3 + t)) _ _ _ _
    (fun a b => h1b3_below (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) (fun a b => h1b3_diag (qN := QN c k fQ 1) (kA := kag (KN c k fK) (AN c k fA) 1) (oN := oN 1) (midRun.sl.r_14 (F := Ideal) v161) h1 (View.readAt (Elt Ideal) (rQ (Ring.sl 2 k.val)).view (Rect.unit (s := S2x2048x128) ![1, 1536, 0] S1x512x128.size inb_S2x2048x128_S1x512x128_1_1536_0).toLoadRect fQ) (midRun.sl.v743_r0 (F := Ideal) c k fK fA) (fun b l => rdQ c k fQ 1 (512 * 3) inb_S2x2048x128_S1x512x128_1_1536_0 b l) (fun a l => key743 c k fK fA a l) a b) _ a b

/-! ## The output block -/

/-- The output slot after the trip. -/
abbrev AT (h t d : ℕ) : EReal := att (SC c k fQ fK fA oN h) (fun d s => VN c k fV (128 * h + d) s) t d

theorem out00 (a : Fin 1) (b : Fin 512) (d : Fin 128) :
    k0_pay52 k0_pay49 (midRun.sl.r_21 (F := Ideal) c k v161 fQ fK fA) (midRun.sl.r_22 (F := Ideal) c k v161 fQ fK fA) (View.readAt (Elt Ideal) (rV (Ring.sl 2 k.val)).view (Rect.unit (s := S256x2048) ![0, 0] S128x512.size inb_S256x2048_S128x512_0_0).toLoadRect fV) (ix3 a b d) = AT c k fQ fK fV fA oN (0 + a) (0 + b) (0 + d) := by
  obtain rfl : a = 0 := Subsingleton.elim _ _
  rw [Nat.zero_add d.val]
  exact h0b0_out (f := SC c k fQ fK fA oN 0) (vN := fun d s => VN c k fV (0 + d) s) (midRun.sl.r_7 (F := Ideal) c k v161 fQ fK fA) (midRun.sl.v764_r0 (F := Ideal) c k v161 fQ fK fA) (View.readAt (Elt Ideal) (rV (Ring.sl 2 k.val)).view (Rect.unit (s := S256x2048) ![0, 0] S128x512.size inb_S256x2048_S128x512_0_0).toLoadRect fV) (max00 c k v161 fQ fK fA oN h0 h1) (scr764 c k v161 fQ fK fA oN h0 h1) (fun d a => rdV c k fV 0 (512 * 0) inb_S256x2048_S128x512_0_0 d a) b d

theorem out01 (a : Fin 1) (b : Fin 512) (d : Fin 128) :
    k0_pay57 (midRun.sl.r_23 (F := Ideal) c k v161 fQ fK fV fA) (midRun.sl.r_24 (F := Ideal) c k v161 fQ fK fA) (midRun.sl.r_25 (F := Ideal) c k v161 fQ fK fA) (View.readAt (Elt Ideal) (rV (Ring.sl 2 k.val)).view (Rect.unit (s := S256x2048) ![0, 512] S128x512.size inb_S256x2048_S128x512_0_512).toLoadRect fV) (ix3 a b d) = AT c k fQ fK fV fA oN (0 + a) (512 + b) (0 + d) := by
  obtain rfl : a = 0 := Subsingleton.elim _ _
  rw [Nat.zero_add d.val]
  exact h0b1_out (f := SC c k fQ fK fA oN 0) (vN := fun d s => VN c k fV (0 + d) s) (midRun.sl.r_8 (F := Ideal) c k v161 fQ fK fA) (midRun.sl.v787_r0 (F := Ideal) c k v161 fQ fK fA) (midRun.sl.v800_r0 (F := Ideal) c k v161 fQ fK fA) (View.readAt (Elt Ideal) (rV (Ring.sl 2 k.val)).view (Rect.unit (s := S256x2048) ![0, 0] S128x512.size inb_S256x2048_S128x512_0_0).toLoadRect fV) (View.readAt (Elt Ideal) (rV (Ring.sl 2 k.val)).view (Rect.unit (s := S256x2048) ![0, 512] S128x512.size inb_S256x2048_S128x512_0_512).toLoadRect fV) (max01 c k v161 fQ fK fA oN h0 h1) (scr787 c k v161 fQ fK fA oN h0 h1) (scr800 c k v161 fQ fK fA oN h0 h1) (fun d a => rdV c k fV 0 (512 * 0) inb_S256x2048_S128x512_0_0 d a) (fun d a => rdV c k fV 0 (512 * 1) inb_S256x2048_S128x512_0_512 d a) b d

theorem out02 (a : Fin 1) (b : Fin 512) (d : Fin 128) :
    k0_pay62 (midRun.sl.r_10 (F := Ideal) c k v161 fQ fK fA) (midRun.sl.r_26 (F := Ideal) c k v161 fQ fK fV fA) (midRun.sl.r_27 (F := Ideal) c k v161 fQ fK fA) (midRun.sl.r_28 (F := Ideal) c k v161 fQ fK fA) (View.readAt (Elt Ideal) (rV (Ring.sl 2 k.val)).view (Rect.unit (s := S256x2048) ![0, 512] S128x512.size inb_S256x2048_S128x512_0_512).toLoadRect fV) (midRun.sl.v849_r0 (F := Ideal) c k v161 fQ fK fA) (View.readAt (Elt Ideal) (rV (Ring.sl 2 k.val)).view (Rect.unit (s := S256x2048) ![0, 1024] S128x512.size inb_S256x2048_S128x512_0_1024).toLoadRect fV) (ix3 a b d) = AT c k fQ fK fV fA oN (0 + a) (1024 + b) (0 + d) := by
  obtain rfl : a = 0 := Subsingleton.elim _ _
  rw [Nat.zero_add d.val]
  exact h0b2_out (f := SC c k fQ fK fA oN 0) (vN := fun d s => VN c k fV (0 + d) s) (midRun.sl.r_10 (F := Ideal) c k v161 fQ fK fA) (midRun.sl.v823_r0 (F := Ideal) c k v161 fQ fK fA) (midRun.sl.v836_r0 (F := Ideal) c k v161 fQ fK fA) (midRun.sl.v849_r0 (F := Ideal) c k v161 fQ fK fA) (View.readAt (Elt Ideal) (rV (Ring.sl 2 k.val)).view (Rect.unit (s := S256x2048) ![0, 0] S128x512.size inb_S256x2048_S128x512_0_0).toLoadRect fV) (View.readAt (Elt Ideal) (rV (Ring.sl 2 k.val)).view (Rect.unit (s := S256x2048) ![0, 512] S128x512.size inb_S256x2048_S128x512_0_512).toLoadRect fV) (View.readAt (Elt Ideal) (rV (Ring.sl 2 k.val)).view (Rect.unit (s := S256x2048) ![0, 1024] S128x512.size inb_S256x2048_S128x512_0_1024).toLoadRect fV) (max02 c k v161 fQ fK fA oN h0 h1) (scr823 c k v161 fQ fK fA oN h0 h1) (scr836 c k v161 fQ fK fA oN h0 h1) (scr849 c k v161 fQ fK fA oN h0 h1) (fun d a => rdV c k fV 0 (512 * 0) inb_S256x2048_S128x512_0_0 d a) (fun d a => rdV c k fV 0 (512 * 1) inb_S256x2048_S128x512_0_512 d a) (fun d a => rdV c k fV 0 (512 * 2) inb_S256x2048_S128x512_0_1024 d a) b d

theorem out03 (a : Fin 1) (b : Fin 512) (d : Fin 128) :
    k0_pay71 (midRun.sl.r_31 (F := Ideal) c k v161 fQ fK fA) (midRun.sl.r_32 (F := Ideal) c k v161 fQ fK fV fA) (midRun.sl.r_33 (F := Ideal) c k v161 fQ fK fA) (View.readAt (Elt Ideal) (rV (Ring.sl 2 k.val)).view (Rect.unit (s := S256x2048) ![0, 1536] S128x512.size inb_S256x2048_S128x512_0_1536).toLoadRect fV) (ix3 a b d) = AT c k fQ fK fV fA oN (0 + a) (1536 + b) (0 + d) := by
  obtain rfl : a = 0 := Subsingleton.elim _ _
  rw [Nat.zero_add d.val]
  exact h0b3_out (f := SC c k fQ fK fA oN 0) (vN := fun d s => VN c k fV (0 + d) s) (midRun.sl.r_13 (F := Ideal) c k v161 fQ fK fA) (midRun.sl.v872_r0 (F := Ideal) c k v161 fQ fK fA) (midRun.sl.v885_r0 (F := Ideal) c k v161 fQ fK fA) (midRun.sl.v898_r0 (F := Ideal) c k v161 fQ fK fA) (midRun.sl.v911_r0 (F := Ideal) c k v161 fQ fK fA) (View.readAt (Elt Ideal) (rV (Ring.sl 2 k.val)).view (Rect.unit (s := S256x2048) ![0, 0] S128x512.size inb_S256x2048_S128x512_0_0).toLoadRect fV) (View.readAt (Elt Ideal) (rV (Ring.sl 2 k.val)).view (Rect.unit (s := S256x2048) ![0, 512] S128x512.size inb_S256x2048_S128x512_0_512).toLoadRect fV) (View.readAt (Elt Ideal) (rV (Ring.sl 2 k.val)).view (Rect.unit (s := S256x2048) ![0, 1024] S128x512.size inb_S256x2048_S128x512_0_1024).toLoadRect fV) (View.readAt (Elt Ideal) (rV (Ring.sl 2 k.val)).view (Rect.unit (s := S256x2048) ![0, 1536] S128x512.size inb_S256x2048_S128x512_0_1536).toLoadRect fV) (max03 c k v161 fQ fK fA oN h0 h1) (scr872 c k v161 fQ fK fA oN h0 h1) (scr885 c k v161 fQ fK fA oN h0 h1) (scr898 c k v161 fQ fK fA oN h0 h1) (scr911 c k v161 fQ fK fA oN h0 h1) (fun d a => rdV c k fV 0 (512 * 0) inb_S256x2048_S128x512_0_0 d a) (fun d a => rdV c k fV 0 (512 * 1) inb_S256x2048_S128x512_0_512 d a) (fun d a => rdV c k fV 0 (512 * 2) inb_S256x2048_S128x512_0_1024 d a) (fun d a => rdV c k fV 0 (512 * 3) inb_S256x2048_S128x512_0_1536 d a) b d

theorem out10 (a : Fin 1) (b : Fin 512) (d : Fin 128) :
    k0_pay73 (midRun.sl.r_34 (F := Ideal) c k v161 fQ fK fV fA) (ix3 a b d) = AT c k fQ fK fV fA oN (1 + a) (0 + b) (0 + d) := by
  obtain rfl : a = 0 := Subsingleton.elim _ _
  rw [Nat.zero_add d.val]
  exact h1b0_out (f := SC c k fQ fK fA oN 1) (vN := fun d s => VN c k fV (128 + d) s) (midRun.sl.r_15 (F := Ideal) c k v161 fQ fK fA) (midRun.sl.v934_r0 (F := Ideal) c k v161 fQ fK fA) (View.readAt (Elt Ideal) (rV (Ring.sl 2 k.val)).view (Rect.unit (s := S256x2048) ![128, 0] S128x512.size inb_S256x2048_S128x512_128_0).toLoadRect fV) (max10 c k v161 fQ fK fA oN h0 h1) (scr934 c k v161 fQ fK fA oN h0 h1) (fun d a => rdV c k fV 128 (512 * 0) inb_S256x2048_S128x512_128_0 d a) b d

theorem out11 (a : Fin 1) (b : Fin 512) (d : Fin 128) :
    k0_pay75 (midRun.sl.r_35 (F := Ideal) c k v161 fQ fK fV fA) (ix3 a b d) = AT c k fQ fK fV fA oN (1 + a) (512 + b) (0 + d) := by
  obtain rfl : a = 0 := Subsingleton.elim _ _
  rw [Nat.zero_add d.val]
  exact h1b1_out (f := SC c k fQ fK fA oN 1) (vN := fun d s => VN c k fV (128 + d) s) (midRun.sl.r_18 (F := Ideal) c k v161 fQ fK fA) (midRun.sl.v957_r0 (F := Ideal) c k v161 fQ fK fA) (midRun.sl.v970_r0 (F := Ideal) c k v161 fQ fK fA) (View.readAt (Elt Ideal) (rV (Ring.sl 2 k.val)).view (Rect.unit (s := S256x2048) ![128, 0] S128x512.size inb_S256x2048_S128x512_128_0).toLoadRect fV) (View.readAt (Elt Ideal) (rV (Ring.sl 2 k.val)).view (Rect.unit (s := S256x2048) ![128, 512] S128x512.size inb_S256x2048_S128x512_128_512).toLoadRect fV) (max11 c k v161 fQ fK fA oN h0 h1) (scr957 c k v161 fQ fK fA oN h0 h1) (scr970 c k v161 fQ fK fA oN h0 h1) (fun d a => rdV c k fV 128 (512 * 0) inb_S256x2048_S128x512_128_0 d a) (fun d a => rdV c k fV 128 (512 * 1) inb_S256x2048_S128x512_128_512 d a) b d

theorem out12 (a : Fin 1) (b : Fin 512) (d : Fin 128) :
    k0_pay81 (midRun.sl.r_36 (F := Ideal) c k v161 fQ fK fA) (midRun.sl.r_37 (F := Ideal) c k v161 fQ fK fV fA) (midRun.sl.v1019_r0 (F := Ideal) c k v161 fQ fK fA) (midRun.sl.r_38 (F := Ideal) c k v161 fQ fK fA) (View.readAt (Elt Ideal) (rV (Ring.sl 2 k.val)).view (Rect.unit (s := S256x2048) ![128, 1024] S128x512.size inb_S256x2048_S128x512_128_1024).toLoadRect fV) (ix3 a b d) = AT c k fQ fK fV fA oN (1 + a) (1024 + b) (0 + d) := by
  obtain rfl : a = 0 := Subsingleton.elim _ _
  rw [Nat.zero_add d.val]
  exact h1b2_out (f := SC c k fQ fK fA oN 1) (vN := fun d s => VN c k fV (128 + d) s) (midRun.sl.r_19 (F := Ideal) c k v161 fQ fK fA) (midRun.sl.v993_r0 (F := Ideal) c k v161 fQ fK fA) (midRun.sl.v1006_r0 (F := Ideal) c k v161 fQ fK fA) (midRun.sl.v1019_r0 (F := Ideal) c k v161 fQ fK fA) (View.readAt (Elt Ideal) (rV (Ring.sl 2 k.val)).view (Rect.unit (s := S256x2048) ![128, 0] S128x512.size inb_S256x2048_S128x512_128_0).toLoadRect fV) (View.readAt (Elt Ideal) (rV (Ring.sl 2 k.val)).view (Rect.unit (s := S256x2048) ![128, 512] S128x512.size inb_S256x2048_S128x512_128_512).toLoadRect fV) (View.readAt (Elt Ideal) (rV (Ring.sl 2 k.val)).view (Rect.unit (s := S256x2048) ![128, 1024] S128x512.size inb_S256x2048_S128x512_128_1024).toLoadRect fV) (max12 c k v161 fQ fK fA oN h0 h1) (scr993 c k v161 fQ fK fA oN h0 h1) (scr1006 c k v161 fQ fK fA oN h0 h1) (scr1019 c k v161 fQ fK fA oN h0 h1) (fun d a => rdV c k fV 128 (512 * 0) inb_S256x2048_S128x512_128_0 d a) (fun d a => rdV c k fV 128 (512 * 1) inb_S256x2048_S128x512_128_512 d a) (fun d a => rdV c k fV 128 (512 * 2) inb_S256x2048_S128x512_128_1024 d a) b d

theorem out13 (a : Fin 1) (b : Fin 512) (d : Fin 128) :
    k0_pay90 (midRun.sl.r_41 (F := Ideal) c k v161 fQ fK fA) (midRun.sl.r_42 (F := Ideal) c k v161 fQ fK fV fA) (ix3 a b d) = AT c k fQ fK fV fA oN (1 + a) (1536 + b) (0 + d) := by
  obtain rfl : a = 0 := Subsingleton.elim _ _
  rw [Nat.zero_add d.val]
  exact h1b3_out (f := SC c k fQ fK fA oN 1) (vN := fun d s => VN c k fV (128 + d) s) (midRun.sl.r_20 (F := Ideal) c k v161 fQ fK fA) (midRun.sl.v1042_r0 (F := Ideal) c k v161 fQ fK fA) (midRun.sl.v1055_r0 (F := Ideal) c k v161 fQ fK fA) (midRun.sl.v1068_r0 (F := Ideal) c k v161 fQ fK fA) (midRun.sl.v1081_r0 (F := Ideal) c k v161 fQ fK fA) (View.readAt (Elt Ideal) (rV (Ring.sl 2 k.val)).view (Rect.unit (s := S256x2048) ![128, 0] S128x512.size inb_S256x2048_S128x512_128_0).toLoadRect fV) (View.readAt (Elt Ideal) (rV (Ring.sl 2 k.val)).view (Rect.unit (s := S256x2048) ![128, 512] S128x512.size inb_S256x2048_S128x512_128_512).toLoadRect fV) (View.readAt (Elt Ideal) (rV (Ring.sl 2 k.val)).view (Rect.unit (s := S256x2048) ![128, 1024] S128x512.size inb_S256x2048_S128x512_128_1024).toLoadRect fV) (View.readAt (Elt Ideal) (rV (Ring.sl 2 k.val)).view (Rect.unit (s := S256x2048) ![128, 1536] S128x512.size inb_S256x2048_S128x512_128_1536).toLoadRect fV) (max13 c k v161 fQ fK fA oN h0 h1) (scr1042 c k v161 fQ fK fA oN h0 h1) (scr1055 c k v161 fQ fK fA oN h0 h1) (scr1068 c k v161 fQ fK fA oN h0 h1) (scr1081 c k v161 fQ fK fA oN h0 h1) (fun d a => rdV c k fV 128 (512 * 0) inb_S256x2048_S128x512_128_0 d a) (fun d a => rdV c k fV 128 (512 * 1) inb_S256x2048_S128x512_128_512 d a) (fun d a => rdV c k fV 128 (512 * 2) inb_S256x2048_S128x512_128_1024 d a) (fun d a => rdV c k fV 128 (512 * 3) inb_S256x2048_S128x512_128_1536 d a) b d

omit h0 h1 in
/-- The pieces the trip writes. -/
def pcs : List (View.Piece (Elt Ideal) S2x2048x128 .f32) :=
  [⟨Rect.unit (s := S2x2048x128) ![1, 1536, 0] S1x512x128.size inb_S2x2048x128_S1x512x128_1_1536_0, k0_pay90 (midRun.sl.r_41 (F := Ideal) c k v161 fQ fK fA) (midRun.sl.r_42 (F := Ideal) c k v161 fQ fK fV fA)⟩,
    ⟨Rect.unit (s := S2x2048x128) ![1, 1024, 0] S1x512x128.size inb_S2x2048x128_S1x512x128_1_1024_0, k0_pay81 (midRun.sl.r_36 (F := Ideal) c k v161 fQ fK fA) (midRun.sl.r_37 (F := Ideal) c k v161 fQ fK fV fA) (midRun.sl.v1019_r0 (F := Ideal) c k v161 fQ fK fA) (midRun.sl.r_38 (F := Ideal) c k v161 fQ fK fA) (View.readAt (Elt Ideal) (rV (Ring.sl 2 k.val)).view (Rect.unit (s := S256x2048) ![128, 1024] S128x512.size inb_S256x2048_S128x512_128_1024).toLoadRect fV)⟩,
    ⟨Rect.unit (s := S2x2048x128) ![1, 512, 0] S1x512x128.size inb_S2x2048x128_S1x512x128_1_512_0, k0_pay75 (midRun.sl.r_35 (F := Ideal) c k v161 fQ fK fV fA)⟩,
    ⟨Rect.unit (s := S2x2048x128) ![1, 0, 0] S1x512x128.size inb_S2x2048x128_S1x512x128_1_0_0, k0_pay73 (midRun.sl.r_34 (F := Ideal) c k v161 fQ fK fV fA)⟩,
    ⟨Rect.unit (s := S2x2048x128) ![0, 1536, 0] S1x512x128.size inb_S2x2048x128_S1x512x128_0_1536_0, k0_pay71 (midRun.sl.r_31 (F := Ideal) c k v161 fQ fK fA) (midRun.sl.r_32 (F := Ideal) c k v161 fQ fK fV fA) (midRun.sl.r_33 (F := Ideal) c k v161 fQ fK fA) (View.readAt (Elt Ideal) (rV (Ring.sl 2 k.val)).view (Rect.unit (s := S256x2048) ![0, 1536] S128x512.size inb_S256x2048_S128x512_0_1536).toLoadRect fV)⟩,
    ⟨Rect.unit (s := S2x2048x128) ![0, 1024, 0] S1x512x128.size inb_S2x2048x128_S1x512x128_0_1024_0, k0_pay62 (midRun.sl.r_10 (F := Ideal) c k v161 fQ fK fA) (midRun.sl.r_26 (F := Ideal) c k v161 fQ fK fV fA) (midRun.sl.r_27 (F := Ideal) c k v161 fQ fK fA) (midRun.sl.r_28 (F := Ideal) c k v161 fQ fK fA) (View.readAt (Elt Ideal) (rV (Ring.sl 2 k.val)).view (Rect.unit (s := S256x2048) ![0, 512] S128x512.size inb_S256x2048_S128x512_0_512).toLoadRect fV) (midRun.sl.v849_r0 (F := Ideal) c k v161 fQ fK fA) (View.readAt (Elt Ideal) (rV (Ring.sl 2 k.val)).view (Rect.unit (s := S256x2048) ![0, 1024] S128x512.size inb_S256x2048_S128x512_0_1024).toLoadRect fV)⟩,
    ⟨Rect.unit (s := S2x2048x128) ![0, 512, 0] S1x512x128.size inb_S2x2048x128_S1x512x128_0_512_0, k0_pay57 (midRun.sl.r_23 (F := Ideal) c k v161 fQ fK fV fA) (midRun.sl.r_24 (F := Ideal) c k v161 fQ fK fA) (midRun.sl.r_25 (F := Ideal) c k v161 fQ fK fA) (View.readAt (Elt Ideal) (rV (Ring.sl 2 k.val)).view (Rect.unit (s := S256x2048) ![0, 512] S128x512.size inb_S256x2048_S128x512_0_512).toLoadRect fV)⟩,
    ⟨Rect.unit (s := S2x2048x128) ![0, 0, 0] S1x512x128.size inb_S2x2048x128_S1x512x128_0_0_0, k0_pay52 k0_pay49 (midRun.sl.r_21 (F := Ideal) c k v161 fQ fK fA) (midRun.sl.r_22 (F := Ideal) c k v161 fQ fK fA) (View.readAt (Elt Ideal) (rV (Ring.sl 2 k.val)).view (Rect.unit (s := S256x2048) ![0, 0] S128x512.size inb_S256x2048_S128x512_0_0).toLoadRect fV)⟩]

omit h0 h1 in
theorem mid_eq (fO : Buf (Elt Ideal) ((rO (Ring.sl 2 k.val)).view.loc (c : Thread nD τ))) (fU : Buf (Elt Ideal) ((rU (Ring.sl 2 k.val)).view.loc (c : Thread nD τ))) :
    (midRun c k v161 fQ fK fV fA fW fO fU).1.1 = (rO (Ring.sl 2 k.val)).view.writes (Elt Ideal) fO (pcs c k v161 fQ fK fV fA) := by
  unfold midRun pcs
  dsimp only

theorem pcs_at : ∀ p ∈ pcs c k v161 fQ fK fV fA, ∀ x, p.2 x = (fun y : S2x2048x128.Idx => AT c k fQ fK fV fA oN (y 0).val (y 1).val (y 2).val) (p.1.emb x) := by
  unfold pcs
  exact List.forall_mem_cons.mpr ⟨pc3 (m0 := 1) (m1 := 512) (m2 := 128) (AT c k fQ fK fV fA oN) inb_S2x2048x128_S1x512x128_1_1536_0 _ (out13 c k v161 fQ fK fV fA oN h0 h1), List.forall_mem_cons.mpr ⟨pc3 (m0 := 1) (m1 := 512) (m2 := 128) (AT c k fQ fK fV fA oN) inb_S2x2048x128_S1x512x128_1_1024_0 _ (out12 c k v161 fQ fK fV fA oN h0 h1), List.forall_mem_cons.mpr ⟨pc3 (m0 := 1) (m1 := 512) (m2 := 128) (AT c k fQ fK fV fA oN) inb_S2x2048x128_S1x512x128_1_512_0 _ (out11 c k v161 fQ fK fV fA oN h0 h1), List.forall_mem_cons.mpr ⟨pc3 (m0 := 1) (m1 := 512) (m2 := 128) (AT c k fQ fK fV fA oN) inb_S2x2048x128_S1x512x128_1_0_0 _ (out10 c k v161 fQ fK fV fA oN h0 h1), List.forall_mem_cons.mpr ⟨pc3 (m0 := 1) (m1 := 512) (m2 := 128) (AT c k fQ fK fV fA oN) inb_S2x2048x128_S1x512x128_0_1536_0 _ (out03 c k v161 fQ fK fV fA oN h0 h1), List.forall_mem_cons.mpr ⟨pc3 (m0 := 1) (m1 := 512) (m2 := 128) (AT c k fQ fK fV fA oN) inb_S2x2048x128_S1x512x128_0_1024_0 _ (out02 c k v161 fQ fK fV fA oN h0 h1), List.forall_mem_cons.mpr ⟨pc3 (m0 := 1) (m1 := 512) (m2 := 128) (AT c k fQ fK fV fA oN) inb_S2x2048x128_S1x512x128_0_512_0 _ (out01 c k v161 fQ fK fV fA oN h0 h1), List.forall_mem_cons.mpr ⟨pc3 (m0 := 1) (m1 := 512) (m2 := 128) (AT c k fQ fK fV fA oN) inb_S2x2048x128_S1x512x128_0_0_0 _ (out00 c k v161 fQ fK fV fA oN h0 h1), fun p hp => absurd hp List.not_mem_nil⟩⟩⟩⟩⟩⟩⟩⟩

theorem slotO (fO : Buf (Elt Ideal) ((rO (Ring.sl 2 k.val)).view.loc (c : Thread nD τ))) (fU : Buf (Elt Ideal) ((rU (Ring.sl 2 k.val)).view.loc (c : Thread nD τ))) (y : S2x2048x128.Idx) :
    (rO (Ring.sl 2 k.val)).view.read (Elt Ideal) (midRun c k v161 fQ fK fV fA fW fO fU).1.1 y
      = AT c k fQ fK fV fA oN (y 0).val (y 1).val (y 2).val := by
  rw [mid_eq]
  refine View.read_writes_apply_of_pieces (Val := Elt Ideal) (rO (Ring.sl 2 k.val)).view fO (fun y => AT c k fQ fK fV fA oN (y 0).val (y 1).val (y 2).val) _
    (pcs_at c k v161 fQ fK fV fA oN h0 h1) y ?_
  unfold pcs
  have q0 : (y 0).val < 2 := (y 0).isLt
  have q1 : (y 1).val < 2048 := (y 1).isLt
  have q2 : (y 2).val < 128 := (y 2).isLt
  by_cases c0 : (y 0).val = 1 ∧ 1536 ≤ (y 1).val ∧ (y 1).val < 2048
  · exact ⟨_, List.mem_cons_self, mem3 inb_S2x2048x128_S1x512x128_1_1536_0 y ⟨by omega, by omega⟩ ⟨by omega, by omega⟩ ⟨by omega, by omega⟩⟩
  by_cases c1 : (y 0).val = 1 ∧ 1024 ≤ (y 1).val ∧ (y 1).val < 1536
  · exact ⟨_, List.mem_cons_of_mem _ (List.mem_cons_self), mem3 inb_S2x2048x128_S1x512x128_1_1024_0 y ⟨by omega, by omega⟩ ⟨by omega, by omega⟩ ⟨by omega, by omega⟩⟩
  by_cases c2 : (y 0).val = 1 ∧ 512 ≤ (y 1).val ∧ (y 1).val < 1024
  · exact ⟨_, List.mem_cons_of_mem _ (List.mem_cons_of_mem _ (List.mem_cons_self)), mem3 inb_S2x2048x128_S1x512x128_1_512_0 y ⟨by omega, by omega⟩ ⟨by omega, by omega⟩ ⟨by omega, by omega⟩⟩
  by_cases c3 : (y 0).val = 1 ∧ 0 ≤ (y 1).val ∧ (y 1).val < 512
  · exact ⟨_, List.mem_cons_of_mem _ (List.mem_cons_of_mem _ (List.mem_cons_of_mem _ (List.mem_cons_self))), mem3 inb_S2x2048x128_S1x512x128_1_0_0 y ⟨by omega, by omega⟩ ⟨by omega, by omega⟩ ⟨by omega, by omega⟩⟩
  by_cases c4 : (y 0).val = 0 ∧ 1536 ≤ (y 1).val ∧ (y 1).val < 2048
  · exact ⟨_, List.mem_cons_of_mem _ (List.mem_cons_of_mem _ (List.mem_cons_of_mem _ (List.mem_cons_of_mem _ (List.mem_cons_self)))), mem3 inb_S2x2048x128_S1x512x128_0_1536_0 y ⟨by omega, by omega⟩ ⟨by omega, by omega⟩ ⟨by omega, by omega⟩⟩
  by_cases c5 : (y 0).val = 0 ∧ 1024 ≤ (y 1).val ∧ (y 1).val < 1536
  · exact ⟨_, List.mem_cons_of_mem _ (List.mem_cons_of_mem _ (List.mem_cons_of_mem _ (List.mem_cons_of_mem _ (List.mem_cons_of_mem _ (List.mem_cons_self))))), mem3 inb_S2x2048x128_S1x512x128_0_1024_0 y ⟨by omega, by omega⟩ ⟨by omega, by omega⟩ ⟨by omega, by omega⟩⟩
  by_cases c6 : (y 0).val = 0 ∧ 512 ≤ (y 1).val ∧ (y 1).val < 1024
  · exact ⟨_, List.mem_cons_of_mem _ (List.mem_cons_of_mem _ (List.mem_cons_of_mem _ (List.mem_cons_of_mem _ (List.mem_cons_of_mem _ (List.mem_cons_of_mem _ (List.mem_cons_self)))))), mem3 inb_S2x2048x128_S1x512x128_0_512_0 y ⟨by omega, by omega⟩ ⟨by omega, by omega⟩ ⟨by omega, by omega⟩⟩
  by_cases c7 : (y 0).val = 0 ∧ 0 ≤ (y 1).val ∧ (y 1).val < 512
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem3 inb_S2x2048x128_S1x512x128_0_0_0 y ⟨by omega, by omega⟩ ⟨by omega, by omega⟩ ⟨by omega, by omega⟩⟩
  exfalso
  omega

omit h0 h1 in
theorem slotU' (s : Fin 2) (off off' : Fin 3 → ℕ) (e : off = so_S2x1024x1024 s) (e' : off' = so_S2x1024x1024 s)
    (fW : Buf (Elt Ideal) ((rW s).view.loc (c : Thread nD τ))) (fU : Buf (Elt Ideal) ((rU s).view.loc (c : Thread nD τ))) (i i') (y : S1024x1024.Idx) :
    (rU s).view.read (Elt Ideal) (View.write (Elt Ideal) ((Memref.whole cc0_scoped12).access (Rect.unit (s := S2x1024x1024) off ![1, 1024, 1024] i)) fU
      (k0_pay1 (View.readAt (Elt Ideal) (Memref.whole cc0_scoped8).view (Rect.unit (s := S2x1024x1024) off' ![1, 1024, 1024] i').toLoadRect fW)) Finset.univ) y
      = (rW s).view.read (Elt Ideal) fW y := by
  subst e e'
  rw [eq_ix2 y]
  refine (congrFun (Memref.read_squeeze_slice (Val := Elt Ideal) mU (Rect.unit (s := S2x1024x1024) (so_S2x1024x1024 s) S1x1024x1024.size (so_S2x1024x1024_inb s)) (fun _ => rfl)
    squeezes_S1x1024x1024_S1024x1024 shapeCasts_S1x1024x1024_S1024x1024 _) _).trans ?_
  refine Eq.trans ?_ (congrFun (Memref.read_squeeze_slice (Val := Elt Ideal) mW (Rect.unit (s := S2x1024x1024) (so_S2x1024x1024 s) S1x1024x1024.size (so_S2x1024x1024_inb s)) (fun _ => rfl)
    squeezes_S1x1024x1024_S1024x1024 shapeCasts_S1x1024x1024_S1024x1024 fW) _).symm
  have hw := View.read_write_univ (Val := Elt Ideal) (v := (Memref.whole cc0_scoped12).access (Rect.unit (s := S2x1024x1024) (so_S2x1024x1024 s) ![1, 1024, 1024] i)) fU
    (k0_pay1 (View.readAt (Elt Ideal) (Memref.whole cc0_scoped8).view (Rect.unit (s := S2x1024x1024) (so_S2x1024x1024 s) ![1, 1024, 1024] i').toLoadRect fW))
  refine (congrFun (congrArg (fun X => shapeCast S1024x1024 X shapeCasts_S1x1024x1024_S1024x1024) hw) _).trans ?_
  refine (drop1U (e := .bf16) _ (y 0) (y 1)).trans ?_
  refine Eq.trans ?_ (drop1U (e := .f32) _ (y 0) (y 1)).symm
  exact pay1_at _ 0 (y 0) (y 1)

end Trip

end Cert.Proof.AttnVal

end
-- ==== Proof.AttnMath.lean ====
/-
  The softmax of the scores times ln 2, a row constant taken off, is the weighting by powers of two the call computes,
  where the scores are real.
-/
module

public import proofs.«01_k».proof.Proof.AttnPay
public import proofs.«01_k».proof.Proof.AttnRead

@[expose] public section

noncomputable section

namespace Cert.Proof.AttnVal

open Idealize.ShloMosaic

/-- A weight before the division. -/
def ew (r : ℕ → ℕ → EReal) (s t : ℕ) : EReal := Ideal.exp (ms r s t - mx r t)
/-- The softmax's weighted values. -/
def ratt (r vN : ℕ → ℕ → EReal) (t d : ℕ) : EReal :=
  ∑ s ∈ Finset.range 2048, Ideal.div (ew r s t) (∑ s ∈ Finset.range 2048, ew r s t) * vN d s

theorem coe_sum' {ι : Type} (A : Finset ι) (p : ι → ℝ) : ∑ s ∈ A, ((p s : ℝ) : EReal) = ((∑ s ∈ A, p s : ℝ) : EReal) := by
  classical
  induction A using Finset.induction_on with
  | empty => rfl
  | insert a A h ih => rw [Finset.sum_insert h, Finset.sum_insert h, ih, EReal.coe_add]

theorem sum_mul_coe (A : Finset ℕ) (g : ℕ → EReal) (c : ℝ) (hc : 0 ≤ c) : ∑ s ∈ A, g s * (c : EReal) = (∑ s ∈ A, g s) * (c : EReal) := by
  classical
  induction A using Finset.induction_on with
  | empty => simp
  | insert a A h ih =>
    rw [Finset.sum_insert h, Finset.sum_insert h, ih,
      EReal.right_distrib_of_nonneg_of_ne_top (EReal.coe_nonneg.mpr hc) (EReal.coe_ne_top c)]

/-- A finite score: the maximum is one of the scores, at or before the query. -/
theorem mx_coe (f : ℕ → ℕ → EReal) (y : ℕ → ℝ) (t : ℕ) (ht : t < 2048) (hf : ∀ s, s < 2048 → f s t = (y s : EReal)) :
    ∃ s0, s0 ≤ t ∧ mx f t = (y s0 : EReal) ∧ ∀ s, s ≤ t → y s ≤ y s0 := by
  obtain ⟨s0, h0, hmax⟩ := Finset.exists_max_image (Finset.range (t + 1)) y ⟨0, by simp⟩
  have h0' : s0 ≤ t := by have := Finset.mem_range.mp h0; omega
  refine ⟨s0, h0', ?_, fun s hs => hmax s (Finset.mem_range.mpr (by omega))⟩
  unfold mx
  apply le_antisymm
  · refine Finset.sup_le fun s hs => ?_
    unfold ms
    split
    · rename_i h
      rw [hf s (Finset.mem_range.mp hs)]
      exact EReal.coe_le_coe_iff.mpr (hmax s (Finset.mem_range.mpr (by omega)))
    · exact bot_le
  · have e : ms f s0 t = (y s0 : EReal) := by unfold ms; rw [if_pos h0', hf s0 (by omega)]
    rw [← e]
    exact Finset.le_sup (f := fun s => ms f s t) (Finset.mem_range.mpr (by omega))

theorem soft (f r vN : ℕ → ℕ → EReal) (x : ℕ → ℝ) (F : ℝ) (t d : ℕ) (ht : t < 2048) (hf : ∀ s, s < 2048 → f s t = (x s : EReal))
    (hr : ∀ s, s < 2048 → r s t = (((x s - F) * Real.log 2 : ℝ) : EReal)) : ratt r vN t d = att f vN t d := by
  have hl : 0 < Real.log 2 := Real.log_pos (by norm_num)
  obtain ⟨a, ha, hma, hxa⟩ := mx_coe f x t ht hf
  obtain ⟨b, hb, hmb, hxb⟩ := mx_coe r (fun s => (x s - F) * Real.log 2) t ht hr
  have hab : x a = x b := by
    apply le_antisymm
    · have := hxb a ha
      have := le_of_mul_le_mul_right this hl
      linarith
    · exact hxa b hb
  have hp : ∀ s, s < 2048 → pw f s t = ((if s ≤ t then Real.rpow 2 (x s - x a) else 0 : ℝ) : EReal) := by
    intro s hs
    unfold pw ms
    split
    · rw [hf s hs, hma, ← EReal.coe_sub]; rfl
    · rw [EReal.bot_sub]; rfl
  have he : ∀ s, s < 2048 → ew r s t = pw f s t := by
    intro s hs
    rw [hp s hs]
    unfold ew ms
    split
    · rw [hr s hs, hmb, ← EReal.coe_sub, Ideal.exp_coe]
      congr 1
      rw [hab, show Real.rpow 2 (x s - x b) = (2 : ℝ) ^ (x s - x b) from rfl, Real.rpow_def_of_pos (by norm_num)]
      congr 1
      ring
    · rw [EReal.bot_sub]; rfl
  have hs1 : ∑ s ∈ Finset.range 2048, ew r s t = ∑ s ∈ Finset.range 2048, pw f s t :=
    Finset.sum_congr rfl fun s hs => he s (Finset.mem_range.mp hs)
  have hs2 : ∑ s ∈ Finset.range 2048, pw f s t = ((∑ s ∈ Finset.range 2048, (if s ≤ t then Real.rpow 2 (x s - x a) else 0) : ℝ) : EReal) := by
    rw [← coe_sum']
    exact Finset.sum_congr rfl fun s hs => hp s (Finset.mem_range.mp hs)
  have hpos : 0 < ∑ s ∈ Finset.range 2048, (if s ≤ t then Real.rpow 2 (x s - x a) else 0 : ℝ) := by
    refine Finset.sum_pos' (fun s _ => ?_) ⟨a, Finset.mem_range.mpr (by omega), ?_⟩
    · split
      · exact (Real.rpow_pos_of_pos (by norm_num) _).le
      · exact le_rfl
    · rw [if_pos ha]; exact Real.rpow_pos_of_pos (by norm_num) _
  unfold ratt att
  rw [hs1, hs2]
  generalize (∑ s ∈ Finset.range 2048, (if s ≤ t then Real.rpow 2 (x s - x a) else 0 : ℝ)) = D at hpos
  have hD : (D : EReal) ≠ 0 := by
    intro h; rw [EReal.coe_eq_zero] at h; exact hpos.ne' h
  have hinv : ((D : EReal))⁻¹ = ((D⁻¹ : ℝ) : EReal) := (EReal.coe_inv D).symm
  have hdiv : ∀ z : EReal, Ideal.div z (D : EReal) = z * ((D⁻¹ : ℝ) : EReal) := by
    intro z; unfold Ideal.div; rw [if_neg hD, hinv]
  rw [hdiv, ← sum_mul_coe _ _ _ (inv_pos.mpr hpos).le]
  refine Finset.sum_congr rfl fun s hs => ?_
  rw [hdiv, he s (Finset.mem_range.mp hs), mul_right_comm, mul_comm (pw f s t)]

/-- Only the scores and values of the 2048 keys matter. -/
theorem att_congr (f f' vN vN' : ℕ → ℕ → EReal) (t d : ℕ) (hf : ∀ s, s < 2048 → f s t = f' s t) (hv : ∀ s, s < 2048 → vN d s = vN' d s) :
    att f vN t d = att f' vN' t d := by
  have hm : ∀ s, s < 2048 → ms f s t = ms f' s t := by intro s hs; unfold ms; rw [hf s hs]
  have hx : mx f t = mx f' t := Finset.sup_congr rfl fun s hs => hm s (Finset.mem_range.mp hs)
  have hp : ∀ s, s < 2048 → pw f s t = pw f' s t := by intro s hs; unfold pw; rw [hm s hs, hx]
  unfold att
  rw [Finset.sum_congr rfl fun s hs => hp s (Finset.mem_range.mp hs),
    Finset.sum_congr rfl fun s hs => by rw [hp s (Finset.mem_range.mp hs), hv s (Finset.mem_range.mp hs)]]

/-- The decay's logarithm at a key: the three pieces of one head. -/
def dec (A : Shape.Idx ⟨2, ![8192, 128]⟩ → EReal) (h s : ℕ) : EReal := nat2 A s h + nat2 A s (8 + h) + nat2 A s (16 + h)
/-- The score of key `s` for query `t` of head `h` and sequence `b`. -/
def GF (X : Shape.Idx ⟨3, ![16, 8192, 128]⟩ → EReal) (A : Shape.Idx ⟨2, ![8192, 128]⟩ → EReal) (h b s t : ℕ) : EReal :=
  ∑ l : Fin 128, nat3 X (8 + h) (b * 2048 + s) l * nat3 X h (b * 2048 + t) l + dec A h (b * 2048 + s)
/-- The attention's output. -/
def GA (X : Shape.Idx ⟨3, ![16, 8192, 128]⟩ → EReal) (V : Shape.Idx ⟨2, ![1024, 8192]⟩ → EReal) (A : Shape.Idx ⟨2, ![8192, 128]⟩ → EReal)
    (h b t d : ℕ) : EReal :=
  att (GF X A h b) (fun d s => nat2 V (h * 128 + d) (b * 2048 + s)) t d
/-- The reference's score before the mask. -/
def RF (X : Shape.Idx ⟨3, ![16, 8192, 128]⟩ → EReal) (A : Shape.Idx ⟨2, ![8192, 128]⟩ → EReal) (h b s t : ℕ) : EReal :=
  (∑ l : Fin 128, nat3 X h (b * 2048 + t) l * nat3 X (8 + h) (b * 2048 + s) l + -(dec A h (b * 2048 + t)) - -(dec A h (b * 2048 + s))) * Ideal.log (Ideal.ofBits FTy.f32 1073741824#32)

theorem log_two : Ideal.log (Ideal.ofBits FTy.f32 1073741824#32) = ((Real.log 2 : ℝ) : EReal) := by
  have e : Ideal.ofBits FTy.f32 1073741824#32 = ((2 : ℝ) : EReal) := by
    simp [Ideal.ofBits, Ideal.ieee]
    rw [← EReal.coe_mul]
    norm_num
  rw [e, Ideal.log_coe, if_neg (by norm_num)]

theorem fin2 {n0 n1 : ℕ} (X : Shape.Idx ⟨2, ![n0, n1]⟩ → EReal) (h : ∀ i, ∃ r : ℝ, X i = r) (a b : ℕ) : ∃ r : ℝ, nat2 X a b = r := by
  unfold nat2
  split
  · exact h _
  · exact ⟨0, rfl⟩
theorem fin3 {n0 n1 n2 : ℕ} (X : Shape.Idx ⟨3, ![n0, n1, n2]⟩ → EReal) (h : ∀ i, ∃ r : ℝ, X i = r) (a b d : ℕ) : ∃ r : ℝ, nat3 X a b d = r := by
  unfold nat3
  split
  · exact h _
  · exact ⟨0, rfl⟩
theorem fin_dec (A : Shape.Idx ⟨2, ![8192, 128]⟩ → EReal) (hA : ∀ i, ∃ r : ℝ, A i = r) (h s : ℕ) : ∃ r : ℝ, dec A h s = r := by
  obtain ⟨a, ha⟩ := fin2 A hA s h
  obtain ⟨b, hb⟩ := fin2 A hA s (8 + h)
  obtain ⟨c, hc⟩ := fin2 A hA s (16 + h)
  exact ⟨a + b + c, by unfold dec; rw [ha, hb, hc]; rfl⟩

/-- With finite operands the reference's weighted values are the call's. -/
theorem ratt_eq (X : Shape.Idx ⟨3, ![16, 8192, 128]⟩ → EReal) (A : Shape.Idx ⟨2, ![8192, 128]⟩ → EReal) (vN : ℕ → ℕ → EReal)
    (hX : ∀ i, ∃ r : ℝ, X i = r) (hA : ∀ i, ∃ r : ℝ, A i = r) (h b t d : ℕ) (ht : t < 2048) :
    ratt (RF X A h b) vN t d = att (GF X A h b) vN t d := by
  choose xr hxr using fun a b d => fin3 X hX a b d
  choose ar har using fun h s => fin_dec A hA h s
  have hd : ∀ s, ∑ l : Fin 128, nat3 X (8 + h) (b * 2048 + s) l * nat3 X h (b * 2048 + t) l
      = ((∑ l : Fin 128, xr (8 + h) (b * 2048 + s) l * xr h (b * 2048 + t) l : ℝ) : EReal) := by
    intro s
    rw [← coe_sum']
    refine Finset.sum_congr rfl fun l _ => ?_
    rw [hxr, hxr, EReal.coe_mul]
  refine soft _ _ _ (fun s => ∑ l : Fin 128, xr (8 + h) (b * 2048 + s) l * xr h (b * 2048 + t) l + ar h (b * 2048 + s)) (ar h (b * 2048 + t)) t d ht ?_ ?_
  · intro s _
    unfold GF
    rw [hd, har, ← EReal.coe_add]
  · intro s _
    unfold RF
    rw [Finset.sum_congr rfl fun l _ => mul_comm _ _, hd, har, har, log_two, ← EReal.coe_neg, ← EReal.coe_neg, ← EReal.coe_add, ← EReal.coe_sub, ← EReal.coe_mul]
    congr 2
    ring

end Cert.Proof.AttnVal

end
-- ==== Proof.AttnOut.lean ====
/-
  The attention call's two results, index by index, over the reals.
-/
module

public import proofs.«01_k».proof.Proof.AttnMid
public import proofs.«01_k».proof.Proof.AttnMath
public import proofs.«01_k».proof.Proof.Run

@[expose] public section

set_option maxRecDepth 16384

noncomputable section

namespace Cert.Proof.AttnVal

open Cert.KernelIdeal Cert.KernelIdeal.Gen
open Idealize.ShloMosaic Idealize.ShloMosaic.TcCoe
open Cert.Proof.Attn

theorem lane_word (g l : ℕ) (hg : g < 8) (hl : l < 128) (X : BitVec 32) (hX : X = BitVec.ofNat 32 g) (z o : EReal) :
    Scalar.select (IntOp.ori (IntOp.ori (IntOp.cmpi .eq (BitVec.ofNat 32 l) X) (IntOp.cmpi .eq (BitVec.ofNat 32 l) (Scalar.addi X 8#32))) (IntOp.cmpi .eq (BitVec.ofNat 32 l) (Scalar.addi X 16#32))) o z
      = if l = g ∨ l = g + 8 ∨ l = g + 16 then o else z := by
  subst hX
  have key : ∀ (g : Fin 8) (l : Fin 128), (IntOp.ori (IntOp.ori (IntOp.cmpi .eq (BitVec.ofNat 32 l.val) (BitVec.ofNat 32 g.val)) (IntOp.cmpi .eq (BitVec.ofNat 32 l.val) (Scalar.addi (BitVec.ofNat 32 g.val) 8#32))) (IntOp.cmpi .eq (BitVec.ofNat 32 l.val) (Scalar.addi (BitVec.ofNat 32 g.val) 16#32)))
      = if l.val = g.val ∨ l.val = g.val + 8 ∨ l.val = g.val + 16 then 1#1 else 0#1 := by decide +kernel
  have hk := key ⟨g, hg⟩ ⟨l, hl⟩
  simp only at hk
  rw [hk]
  split
  · rfl
  · rfl

theorem one_bits : Ideal.ofBits FTy.f32 1065353216#32 = (1 : EReal) := by
  simp [Ideal.ofBits, Ideal.ieee]
  try (rw [← EReal.coe_mul]; norm_num)

theorem zero_bits : Ideal.ofBits FTy.f32 0#32 = (0 : EReal) := by
  simp [Ideal.ofBits, Ideal.ieee]

theorem word0 : ∀ k : Fin 4, midRun.sl.r_2 (Scalar.addi (BitVec.ofNat 32 k.val) 0#32) = BitVec.ofNat 32 (2 * k.val) := by decide +kernel
theorem word1 : ∀ k : Fin 4, Scalar.addi (Scalar.muli (Scalar.addi (BitVec.ofNat 32 k.val) 0#32) 2#32) 1#32 = BitVec.ofNat 32 (2 * k.val + 1) := by decide +kernel

theorem lane0 (k : ℕ) (b : Fin 512) (l : Fin 128) :
    k0_pay6 (F := Ideal) midRun.sl.r_1 (midRun.sl.r_2 (Scalar.addi (wG k) 0#32)) (ix2 b l) = lanes (2 * (k % 4)) l.val := by
  have h4 : k % 4 < 4 := Nat.mod_lt _ (by decide)
  unfold lanes
  rw [← lane_word (2 * (k % 4)) l.val (by omega) l.isLt _ (word0 ⟨k % 4, h4⟩) 0 1]
  pointwise [k0_pay6, midRun.sl.r_1]
  rfl

theorem lane1 (k : ℕ) (b : Fin 512) (l : Fin 128) :
    k0_pay30 (F := Ideal) (k0_pay29 (Scalar.addi (wG k) 0#32) midRun.sl.r_1) (midRun.sl.cst_433_r0 (F := Ideal)) (midRun.sl.cst_434_r0 (F := Ideal)) (ix2 b l) = lanes (2 * (k % 4) + 1) l.val := by
  have h4 : k % 4 < 4 := Nat.mod_lt _ (by decide)
  unfold lanes
  rw [← lane_word (2 * (k % 4) + 1) l.val (by omega) l.isLt _ (word1 ⟨k % 4, h4⟩) 0 1]
  pointwise [k0_pay30, k0_pay29, midRun.sl.r_1]
  have c1 : midRun.sl.cst_433_r0 (F := Ideal) = (1 : EReal) := one_bits
  have c2 : midRun.sl.cst_434_r0 (F := Ideal) = (0 : EReal) := zero_bits
  rw [c1, c2]
  rfl

theorem lanes_sum (f : ℕ → EReal) (h : ℕ) (hh : h < 8) : ∑ l : Fin 128, f l * lanes h l = f h + f (8 + h) + f (16 + h) := by
  rw [Fin.sum_univ_eq_sum_range (fun l => f l * lanes h l) 128]
  have e : ∀ l ∈ Finset.range 128, l ∉ ({h, 8 + h, 16 + h} : Finset ℕ) → f l * lanes h l = 0 := by
    intro l _ hl
    simp only [Finset.mem_insert, Finset.mem_singleton, not_or] at hl
    unfold lanes
    rw [if_neg (by omega), mul_zero]
  rw [← Finset.sum_subset (s₁ := {h, 8 + h, 16 + h}) (fun l hl => by simp only [Finset.mem_insert, Finset.mem_singleton] at hl; rw [Finset.mem_range]; omega) e]
  rw [Finset.sum_insert (by simp), Finset.sum_insert (by simp), Finset.sum_singleton]
  have e1 : lanes h h = 1 := by unfold lanes; rw [if_pos (by omega)]
  have e2 : lanes h (8 + h) = 1 := by unfold lanes; rw [if_pos (by omega)]
  have e3 : lanes h (16 + h) = 1 := by unfold lanes; rw [if_pos (by omega)]
  rw [e1, e2, e3, mul_one, mul_one, mul_one, add_assoc]

theorem natsub3 {n0 n1 n2 m0 m1 m2 o0 o1 o2 : ℕ} (X : Shape.Idx ⟨3, ![n0, n1, n2]⟩ → EReal)
    (inb : ∀ a, (![o0, o1, o2] : Fin 3 → ℕ) a + (![m0, m1, m2] : Fin 3 → ℕ) a ≤ (![n0, n1, n2] : Fin 3 → ℕ) a)
    (Y : Shape.Idx ⟨3, ![m0, m1, m2]⟩ → EReal) (hY : Y = fun y => X ((Rect.unit (s := ⟨3, ![n0, n1, n2]⟩) ![o0, o1, o2] ![m0, m1, m2] inb).idx y))
    (a b d : ℕ) (ha : a < m0) (hb : b < m1) (hd : d < m2) : nat3 Y a b d = nat3 X (o0 + a) (o1 + b) (o2 + d) := by
  subst hY
  rw [nat3, dif_pos ⟨ha, hb, hd⟩]
  exact ld3 X inb ⟨a, ha⟩ ⟨b, hb⟩ ⟨d, hd⟩
theorem natsub2 {n0 n1 m0 m1 o0 o1 : ℕ} (X : Shape.Idx ⟨2, ![n0, n1]⟩ → EReal)
    (inb : ∀ a, (![o0, o1] : Fin 2 → ℕ) a + (![m0, m1] : Fin 2 → ℕ) a ≤ (![n0, n1] : Fin 2 → ℕ) a)
    (Y : Shape.Idx ⟨2, ![m0, m1]⟩ → EReal) (hY : Y = fun y => X ((Rect.unit (s := ⟨2, ![n0, n1]⟩) ![o0, o1] ![m0, m1] inb).idx y))
    (a b : ℕ) (ha : a < m0) (hb : b < m1) : nat2 Y a b = nat2 X (o0 + a) (o1 + b) := by
  subst hY
  rw [nat2, dif_pos ⟨ha, hb⟩]
  exact ld2 X inb ⟨a, ha⟩ ⟨b, hb⟩

section Out
variable (c : Dev nD) (XQ : XQ (F := Ideal) c) (XV : XV (F := Ideal) c) (XA : XA (F := Ideal) c) (XW : XW (F := Ideal) c)

/-- What the trip of block `4 · b + p` computes at row `hh` of its pair of heads. -/
theorem trip_val (k : Fin k0_t1_loop.trips) (fQ : Buf (Elt Ideal) ((rQ (Ring.sl 2 k.val)).view.loc (c : Thread nD τ))) (fK : Buf (Elt Ideal) ((rK (Ring.sl 2 k.val)).view.loc (c : Thread nD τ)))
    (fV : Buf (Elt Ideal) ((rV (Ring.sl 2 k.val)).view.loc (c : Thread nD τ))) (fA : Buf (Elt Ideal) ((rA (Ring.sl 2 (k.val / 4))).view.loc (c : Thread nD τ)))
    (fW : Buf (Elt Ideal) ((rW (Ring.sl 2 k.val)).view.loc (c : Thread nD τ)))
    (hI : Ins c XQ XQ XV XA XW k fQ fK fV fA fW) (p b hh t d : ℕ) (hp : p < 4) (hb : b < 4) (hhh : hh < 2) (ht : t < 2048) (hd : d < 128)
    (hk : k.val = 4 * b + p) :
    AT c k fQ fK fV fA (fun hh l => lanes (2 * (k.val % 4) + hh) l) hh t d = GA XQ XV XA (2 * p + hh) b t d := by
  obtain ⟨hQ, hK, hV, hA, -⟩ := hI
  have kb : (Ring.bk 16 k.val).val = 4 * b + p := (Ring.bk_val (by omega)).trans hk
  have kb4 : (Ring.bk 4 (k.val / 4)).val = b := (Ring.bk_val (by omega)).trans (by omega)
  have eQ : ∀ t l, t < 2048 → l < 128 → QN c k fQ hh t l = nat3 XQ (2 * p + hh) (b * 2048 + t) l := by
    intro t l ht hl
    have := natsub3 XQ (boQ_inb (Ring.bk 16 k.val)) ((rQ (Ring.sl 2 k.val)).view.read (Elt Ideal) fQ) hQ hh t l hhh ht hl
    rw [kb] at this
    refine this.trans ?_
    congr 1 <;> omega
  have eK : ∀ t l, t < 2048 → l < 128 → KN c k fK hh t l = nat3 XQ (8 + (2 * p + hh)) (b * 2048 + t) l := by
    intro t l ht hl
    have := natsub3 XQ (boK_inb (Ring.bk 16 k.val)) ((rK (Ring.sl 2 k.val)).view.read (Elt Ideal) fK) hK hh t l hhh ht hl
    rw [kb] at this
    refine this.trans ?_
    congr 1 <;> omega
  have eV : ∀ a s, a < 256 → s < 2048 → VN c k fV a s = nat2 XV (256 * p + a) (b * 2048 + s) := by
    intro a s ha hs
    have := natsub2 XV (boV_inb (Ring.bk 16 k.val)) ((rV (Ring.sl 2 k.val)).view.read (Elt Ideal) fV) hV a s ha hs
    rw [kb] at this
    refine this.trans ?_
    congr 1 <;> omega
  have eA : ∀ s l, s < 2048 → l < 128 → AN c k fA s l = nat2 XA (b * 2048 + s) l := by
    intro s l hs hl
    have := natsub2 XA (boA_inb (Ring.bk 4 (k.val / 4))) ((rA (Ring.sl 2 (k.val / 4))).view.read (Elt Ideal) fA) hA s l hs hl
    rw [kb4] at this
    refine this.trans ?_
    congr 1 <;> omega
  unfold AT GA
  refine att_congr _ _ _ _ t d (fun s hs => ?_) (fun s hs => ?_)
  · unfold SC sc GF
    congr 1
    · refine Finset.sum_congr rfl fun l _ => ?_
      unfold kag
      rw [if_pos l.isLt, eK s l hs l.isLt, eQ t l ht l.isLt]
    · have hpk : 2 * (k.val % 4) + hh = 2 * p + hh := by omega
      unfold dec
      rw [← lanes_sum (fun l => nat2 XA (b * 2048 + s) l) (2 * p + hh) (by omega)]
      refine Finset.sum_congr rfl fun l _ => ?_
      unfold kag
      rw [if_neg (by omega), Nat.add_sub_cancel_left, eA s l hs l.isLt]
      show nat2 XA (b * 2048 + s) l.val * lanes (2 * (k.val % 4) + hh) l.val = _
      rw [hpk]
  · exact (eV _ s (by omega) hs).trans (by congr 1; omega)

/-- The first result. -/
theorem out_val (g : XO (F := Ideal) c) (hg : ∀ b : Fin 16, RelO c XQ XQ XV XA XW b ((gO b).view.read (Elt Ideal) g)) (h : Fin 8) (T : Fin 8192) (d : Fin 128) :
    g (ix3 h T d) = GA XQ XV XA h.val (T.val / 2048) (T.val % 2048) d.val := by
  have hh := h.isLt
  have hT := T.isLt
  have b16 : 4 * (T.val / 2048) + h.val / 2 < 16 := by omega
  obtain ⟨k, fQ, fK, fV, fA, fW, fO, fU, hb, hI, ho⟩ := hg ⟨4 * (T.val / 2048) + h.val / 2, b16⟩
  have k16 : k.val < 16 := Nat.lt_of_lt_of_eq k.isLt trips16
  have hk : k.val = 4 * (T.val / 2048) + h.val / 2 := ((congrArg Fin.val hb).trans (Ring.bk_val k16)).symm
  have h1 := congrFun ho (ix3 (⟨h.val % 2, Nat.mod_lt _ (by decide)⟩ : Fin 2) (⟨T.val % 2048, Nat.mod_lt _ (by decide)⟩ : Fin 2048) d)
  have h2 := slotO c k (Scalar.addi (wG k.val) 0#32) fQ fK fV fA fW (fun hh l => lanes (2 * (k.val % 4) + hh) l) (lane0 k.val) (lane1 k.val) fO fU
    (ix3 (⟨h.val % 2, Nat.mod_lt _ (by decide)⟩ : Fin 2) (⟨T.val % 2048, Nat.mod_lt _ (by decide)⟩ : Fin 2048) d)
  have h3 := trip_val c XQ XV XA XW k fQ fK fV fA fW hI (h.val / 2) (T.val / 2048) (h.val % 2) (T.val % 2048) d.val (by omega) (by omega) (by omega) (by omega) d.isLt hk
  rw [show 2 * (h.val / 2) + h.val % 2 = h.val by omega] at h3
  refine Eq.trans ?_ ((h1.trans h2).trans h3)
  refine congrArg g ?_
  refine funext fun a => ?_
  apply Fin.ext
  match a with
  | ⟨0, _⟩ => show h.val = 2 * ((4 * (T.val / 2048) + h.val / 2) % 4) + 1 * (h.val % 2); omega
  | ⟨1, _⟩ => show T.val = 2048 * ((4 * (T.val / 2048) + h.val / 2) / 4) + 1 * (T.val % 2048); omega
  | ⟨2, _⟩ => show d.val = 0 + 1 * d.val; omega

theorem mid_U (k : Fin k0_t1_loop.trips) (v161 : BitVec 32) (fQ : Buf (Elt Ideal) ((rQ (Ring.sl 2 k.val)).view.loc (c : Thread nD τ))) (fK : Buf (Elt Ideal) ((rK (Ring.sl 2 k.val)).view.loc (c : Thread nD τ)))
    (fV : Buf (Elt Ideal) ((rV (Ring.sl 2 k.val)).view.loc (c : Thread nD τ))) (fA : Buf (Elt Ideal) ((rA (Ring.sl 2 (k.val / 4))).view.loc (c : Thread nD τ)))
    (fW : Buf (Elt Ideal) ((rW (Ring.sl 2 k.val)).view.loc (c : Thread nD τ))) (fO : Buf (Elt Ideal) ((rO (Ring.sl 2 k.val)).view.loc (c : Thread nD τ))) (fU : Buf (Elt Ideal) ((rU (Ring.sl 2 k.val)).view.loc (c : Thread nD τ))) (y : S1024x1024.Idx) :
    (rU (Ring.sl 2 k.val)).view.read (Elt Ideal) (midRun c k v161 fQ fK fV fA fW fO fU).1.2 y = (rW (Ring.sl 2 k.val)).view.read (Elt Ideal) fW y := by
  have k16 : k.val < 16 := Nat.lt_of_lt_of_eq k.isLt trips16
  unfold midRun
  dsimp only
  unfold midRun.sl.HU_w1
  exact slotU' c (Ring.sl 2 k.val) _ _ (off37_eq k.val k16) (off36_eq k.val k16) fW fU _ _ y

/-- The second result. -/
theorem out_valU (g : XU (F := Ideal) c) (hg : ∀ b : Fin 16, RelU c XQ XQ XV XA XW b ((gU b).view.read (Elt Ideal) g)) (n : Fin 8) (r : Fin 2048) (j : Fin 1024) :
    g (ix3 n r j) = XW (ix2 r ⟨n.val * 1024 + j.val, by omega⟩) := by
  have hn := n.isLt
  have hr := r.isLt
  have b16 : 2 * n.val + r.val / 1024 < 16 := by omega
  obtain ⟨k, fQ, fK, fV, fA, fW, fO, fU, hb, hI, ho⟩ := hg ⟨2 * n.val + r.val / 1024, b16⟩
  have k16 : k.val < 16 := Nat.lt_of_lt_of_eq k.isLt trips16
  have hk : k.val = 2 * n.val + r.val / 1024 := ((congrArg Fin.val hb).trans (Ring.bk_val k16)).symm
  have h1 := congrFun ho (ix2 (⟨r.val % 1024, Nat.mod_lt _ (by decide)⟩ : Fin 1024) j)
  have h2 := mid_U c k (Scalar.addi (wG k.val) 0#32) fQ fK fV fA fW fO fU (ix2 (⟨r.val % 1024, Nat.mod_lt _ (by decide)⟩ : Fin 1024) j)
  have h3 := congrFun hI.2.2.2.2 (ix2 (⟨r.val % 1024, Nat.mod_lt _ (by decide)⟩ : Fin 1024) j)
  have h0 := (congrFun (Memref.read_squeeze_slice (Val := Elt Ideal) aU (Rect.unit (s := S8x2048x1024) (boU ⟨2 * n.val + r.val / 1024, b16⟩) S1x1024x1024.size (boU_inb ⟨2 * n.val + r.val / 1024, b16⟩)) (fun _ => rfl)
    squeezes_S1x1024x1024_S1024x1024 shapeCasts_S1x1024x1024_S1024x1024 g) (ix2 (⟨r.val % 1024, Nat.mod_lt _ (by decide)⟩ : Fin 1024) j)).trans (drop1U (e := .bf16) _ (⟨r.val % 1024, Nat.mod_lt _ (by decide)⟩ : Fin 1024) j)
  refine Eq.trans ?_ ((h0.symm.trans ((h1.trans h2).trans h3)).trans ?_)
  · refine congrArg g (funext fun a => Fin.ext ?_)
    match a with
    | ⟨0, _⟩ => show n.val = (2 * n.val + r.val / 1024) / 2 + 1 * 0; omega
    | ⟨1, _⟩ => show r.val = 1024 * ((2 * n.val + r.val / 1024) % 2) + 1 * (r.val % 1024); omega
    | ⟨2, _⟩ => show j.val = 0 + 1 * j.val; omega
  · have kb : (Ring.bk 16 k.val).val = 2 * n.val + r.val / 1024 := (Ring.bk_val k16).trans hk
    refine congrArg XW (funext fun a => Fin.ext ?_)
    match a with
    | ⟨0, _⟩ => show 1024 * ((Ring.bk 16 k.val).val % 2) + 1 * (r.val % 1024) = r.val; rw [kb]; omega
    | ⟨1, _⟩ => show 1024 * ((Ring.bk 16 k.val).val / 2) + 1 * j.val = n.val * 1024 + j.val; rw [kb]; omega

end Out

end Cert.Proof.AttnVal
end

end
-- ==== Proof.AttnRef.lean ====
/-
  The attention of the reference, index by index, over the reals.
-/
module

public import proofs.«01_k».proof.Proof.Gen.ReferenceIdeal
public import proofs.«01_k».proof.Proof.Gen.ReferenceIdeal.Run
public import Idealize.ShloMosaic.Lib.Pointwise
public import proofs.«01_k».proof.Proof.AttnMath
public import Idealize.ShloMosaic.PureOps.Ideal.Laws

@[expose] public section

set_option maxRecDepth 16384

noncomputable section

namespace Cert.Proof.AttnRef

open Cert.ReferenceIdeal Cert.ReferenceIdeal.Gen
open Idealize.ShloMosaic Idealize.ShloMosaic.TcCoe

/-- The cumulative decays. -/
def cumF (x2 : FVec Ideal S8192x128 .bf16) : FVec Ideal S8x4x2048 .f32 :=
  Host.negf (transpose S8x4x2048 [2, 0, 1] (addf (addf (extractStridedSlice S4x2048x8 ![0, 0, 0] (shapeCast _ (extf .f32 x2 bitsLt_bf16_f32) shapeCasts_S8192x128_S4x2048x128) slices_S4x2048x128_S4x2048x8_0_0_0) (extractStridedSlice S4x2048x8 ![0, 0, 8] (shapeCast _ (extf .f32 x2 bitsLt_bf16_f32) shapeCasts_S8192x128_S4x2048x128) slices_S4x2048x128_S4x2048x8_0_0_8)) (extractStridedSlice S4x2048x8 ![0, 0, 16] (shapeCast _ (extf .f32 x2 bitsLt_bf16_f32) shapeCasts_S8192x128_S4x2048x128) slices_S4x2048x128_S4x2048x8_0_0_16)) transposes_S4x2048x8_S8x4x2048_2_0_1)

/-- The scores before the mask. -/
def rawS (x0 : FVec Ideal S16x8192x128 .bf16) (x2 : FVec Ideal S8192x128 .bf16) : FVec Ideal S8x4x2048x2048 .f32 :=
  mulf (subf (addf (Host.dotGeneral dot_S8x4x2048x128_S8x4x2048x128_S8x4x2048x2048_3_3_2_2_01_01 none (shapeCast _ (extractStridedSlice S8x8192x128 ![0, 0, 0] x0 slices_S16x8192x128_S8x8192x128_0_0_0) shapeCasts_S8x8192x128_S8x4x2048x128) (shapeCast _ (extractStridedSlice S8x8192x128 ![8, 0, 0] x0 slices_S16x8192x128_S8x8192x128_8_0_0) shapeCasts_S8x8192x128_S8x4x2048x128)) (broadcastInDim S8x4x2048x2048 ![0, 1, 2, 3] bcast_S8x4x2048x1_S8x4x2048x2048_0_1_2_3 (broadcastInDim S8x4x2048x1 ![0, 1, 2] bcast_S8x4x2048_S8x4x2048x1_0_1_2 (cumF x2)))) (broadcastInDim S8x4x2048x2048 ![0, 1, 2, 3] bcast_S8x4x1x2048_S8x4x2048x2048_0_1_2_3 (broadcastInDim S8x4x1x2048 ![0, 1, 3] bcast_S8x4x2048_S8x4x1x2048_0_1_3 (cumF x2)))) (broadcastInDim S8x4x2048x2048 ![] bcast_S_S8x4x2048x2048 (Host.log (constant S_ .f32 0x40000000#32)))

/-- The scores under the causal mask. -/
def scS (x0 : FVec Ideal S16x8192x128 .bf16) (x2 : FVec Ideal S8192x128 .bf16) : FVec Ideal S8x4x2048x2048 .f32 :=
  select (broadcastInDim S8x4x2048x2048 ![2, 3] bcast_S2048x2048_S8x4x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (rawS x0 x2) (broadcastInDim S8x4x2048x2048 ![] bcast_S_S8x4x2048x2048 (id (constant S_ .f32 0xFF800000#32)))

/-- The maxima. -/
def mxS (S : FVec Ideal S8x4x2048x2048 .f32) : FVec Ideal S8x4x2048 .f32 :=
  maximumf (broadcastInDim S8x4x2048 ![] bcast_S_S8x4x2048 (constant S_ .f32 0xFF800000#32)) (Host.reduce FloatOps.maximumf S (constant S_ .f32 0xFF800000#32) reducesTo_S8x4x2048x2048_S8x4x2048_d3 h_S_)

/-- The weights before the division. -/
def exS (S : FVec Ideal S8x4x2048x2048 .f32) : FVec Ideal S8x4x2048x2048 .f32 :=
  Host.exp (subf S (broadcastInDim S8x4x2048x2048 ![0, 1, 2, 3] bcast_S8x4x2048x1_S8x4x2048x2048_0_1_2_3 (broadcastInDim S8x4x2048x1 ![0, 1, 2] bcast_S8x4x2048_S8x4x2048x1_0_1_2 (mxS S))))

/-- The output. -/
def ouS (E : FVec Ideal S8x4x2048x2048 .f32) (x1 : FVec Ideal S1024x8192 .bf16) : FVec Ideal S8x8192x128 .f32 :=
  shapeCast _ (Host.dotGeneral dot_S8x4x2048x2048_S8x128x4x2048_S8x4x2048x128_3_3_2_1_01_02 none (Host.divf E (broadcastInDim S8x4x2048x2048 ![0, 1, 2, 3] bcast_S8x4x2048x1_S8x4x2048x2048_0_1_2_3 (broadcastInDim S8x4x2048x1 ![0, 1, 2] bcast_S8x4x2048_S8x4x2048x1_0_1_2 (Host.reduceAdd E (constant S_ .f32 0x00000000#32) reducesTo_S8x4x2048x2048_S8x4x2048_d3 h_S_)))) (shapeCast _ x1 shapeCasts_S1024x8192_S8x128x4x2048)) shapeCasts_S8x4x2048x128_S8x8192x128

theorem res_eq (m : (ℓ : Loc nD τ sig) → Buf (Elt Ideal) ℓ) (c : Dev nD) :
    Cert.ReferenceIdeal.Value.res_main_v43 m c
      = ouS (exS (scS (m ((c.tc : Thread nD τ).loc main_arg0)) (m ((c.tc : Thread nD τ).loc main_arg2)))) (m ((c.tc : Thread nD τ).loc main_arg1)) := rfl

/-- The maximum along the last axis, of any sizes. -/
theorem red_max {n0 n1 n2 n3 : ℕ} {t u : Shape} (x : (⟨4, ![n0, n1, n2, n3]⟩ : Shape).Idx → EReal) (init : u.Idx → EReal)
    (h : (⟨4, ![n0, n1, n2, n3]⟩ : Shape).ReducesTo [3] t) (hu : 0 < u.numel) (j : t.Idx) :
    Host.reduce (FloatOps.maximumf (F := Ideal) (φ := .f32)) x init h hu j
      = (Finset.univ : Finset (Fin n3)).fold max (init (Shape.Idx.first hu)) (fun k => x (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) :=
  (Host.reduce_eq_fold (FloatOps.maximumf (F := Ideal) (φ := .f32)) x init h hu j).trans
    (Shape.ReducesTo.fold_fiber_r4_a3 h j (FloatOps.maximumf (F := Ideal) (φ := .f32)) (init (Shape.Idx.first hu)) x)

/-- The same at the reference's sizes. -/
theorem red_max' (S : FVec Ideal S8x4x2048x2048 .f32) (init : FVec Ideal S_ .f32) (h : Fin 8) (b : Fin 4) (t : Fin 2048) (z : EReal)
    (hz : init (Shape.Idx.first h_S_) = z) :
    Host.reduce (FloatOps.maximumf (F := Ideal) (φ := .f32)) S init reducesTo_S8x4x2048x2048_S8x4x2048_d3 h_S_ (ix3 h b t)
      = (Finset.univ : Finset (Fin 2048)).fold max z (fun k => S (ix4 h b t k)) :=
  hz ▸ red_max (n0 := 8) (n1 := 4) (n2 := 2048) (n3 := 2048) S init reducesTo_S8x4x2048x2048_S8x4x2048_d3 h_S_ (ix3 h b t)

theorem max_at {s : Shape} (x y : FVec Ideal s .f32) (j : s.Idx) : maximumf x y j = max (x j) (y j) := rfl

theorem cst_eq (i : S_.Idx) : (constant (F := Ideal) S_ .f32 0xFF800000#32) i = (⊥ : EReal) := AttnVal.ninf

theorem cst_bc (j : S8x4x2048.Idx) : (broadcastInDim S8x4x2048 ![] bcast_S_S8x4x2048 (constant (F := Ideal) S_ .f32 0xFF800000#32)) j = (⊥ : EReal) := AttnVal.ninf

theorem mxS_at (S : FVec Ideal S8x4x2048x2048 .f32) (f : ℕ → EReal) (h : Fin 8) (b : Fin 4) (t : Fin 2048)
    (hS : ∀ s : Fin 2048, S (ix4 h b t s) = f s) : mxS S (ix3 h b t) = (Finset.range 2048).sup f := by
  unfold mxS
  rw [max_at, cst_bc, red_max' S (constant S_ .f32 0xFF800000#32) h b t ⊥ (cst_eq _), ← AttnVal.fold_sup, max_eq_right bot_le]
  exact congrArg (fun g => Finset.fold max ⊥ g Finset.univ) (funext fun s => hS s)

theorem cumF_at (x2 : FVec Ideal S8192x128 .bf16) (h : Fin 8) (b : Fin 4) (t : Fin 2048) :
    cumF x2 (ix3 h b t) = -(x2 (ix2 ⟨b.val * 2048 + t.val, by omega⟩ ⟨h.val, by omega⟩) + x2 (ix2 ⟨b.val * 2048 + t.val, by omega⟩ ⟨8 + h.val, by omega⟩) + x2 (ix2 ⟨b.val * 2048 + t.val, by omega⟩ ⟨16 + h.val, by omega⟩)) := by
  pointwise [cumF]

theorem rawS_at (x0 : FVec Ideal S16x8192x128 .bf16) (x2 : FVec Ideal S8192x128 .bf16) (h : Fin 8) (b : Fin 4) (t s : Fin 2048) :
    rawS x0 x2 (ix4 h b t s)
      = (∑ x : Fin 128, x0 (ix3 ⟨h.val, by omega⟩ ⟨b.val * 2048 + t.val, by omega⟩ x) * x0 (ix3 ⟨8 + h.val, by omega⟩ ⟨b.val * 2048 + s.val, by omega⟩ x) + cumF x2 (ix3 h b t) - cumF x2 (ix3 h b s)) * Ideal.log (Ideal.ofBits FTy.f32 1073741824#32) := by
  pointwise [rawS]

theorem scS_at (x0 : FVec Ideal S16x8192x128 .bf16) (x2 : FVec Ideal S8192x128 .bf16) (h : Fin 8) (b : Fin 4) (t s : Fin 2048) :
    scS x0 x2 (ix4 h b t s) = if s.val ≤ t.val then rawS x0 x2 (ix4 h b t s) else ⊥ := by
  have hs := s.isLt
  have ht := t.isLt
  have e : scS x0 x2 (ix4 h b t s) = Scalar.select (IntOp.cmpi CmpIPredicate.sle (BitVec.ofNat 32 s.val) (BitVec.ofNat 32 t.val)) (rawS x0 x2 (ix4 h b t s)) (id (constant (F := Ideal) S_ FTy.f32 4286578688#32) ix0) := by
    pointwise [scS]
  have e2 : id (constant (F := Ideal) S_ FTy.f32 4286578688#32) ix0 = (⊥ : EReal) := AttnVal.ninf
  rw [e, e2]
  have key : (BitVec.ofNat 32 s.val).sle (BitVec.ofNat 32 t.val) = decide (s.val ≤ t.val) := by
    rw [BitVec.sle_eq_decide, BitVec.toInt_ofNat', BitVec.toInt_ofNat']
    congr 1
    have h1 : ((s.val : Int)).bmod (2 ^ 32) = s.val := Int.bmod_eq_of_le (by omega) (by omega)
    have h2 : ((t.val : Int)).bmod (2 ^ 32) = t.val := Int.bmod_eq_of_le (by omega) (by omega)
    simp only [h1, h2, eq_iff_iff]
    omega
  have e3 : IntOp.cmpi CmpIPredicate.sle (BitVec.ofNat 32 s.val) (BitVec.ofNat 32 t.val) = if s.val ≤ t.val then 1#1 else 0#1 := by
    show BitVec.ofBool ((BitVec.ofNat 32 s.val).sle (BitVec.ofNat 32 t.val)) = _
    rw [key]
    by_cases h : s.val ≤ t.val <;> simp [h]
  rw [e3]
  by_cases h : s.val ≤ t.val
  · rw [if_pos h, if_pos h]; rfl
  · rw [if_neg h, if_neg h]; rfl

theorem exS_at (S : FVec Ideal S8x4x2048x2048 .f32) (h : Fin 8) (b : Fin 4) (t s : Fin 2048) :
    exS S (ix4 h b t s) = Ideal.exp (S (ix4 h b t s) - mxS S (ix3 h b t)) := by
  pointwise [exS]

theorem ouS_at (E : FVec Ideal S8x4x2048x2048 .f32) (x1 : FVec Ideal S1024x8192 .bf16) (h : Fin 8) (T : Fin 8192) (d : Fin 128) :
    ouS E x1 (ix3 h T d)
      = ∑ x : Fin 2048, Ideal.div (E (ix4 h ⟨T.val / 2048, by omega⟩ ⟨T.val % 2048, by omega⟩ x)) (∑ x_1 : Fin 2048, E (ix4 h ⟨T.val / 2048, by omega⟩ ⟨T.val % 2048, by omega⟩ x_1))
          * x1 (ix2 ⟨h.val * 128 + d.val, by omega⟩ ⟨T.val / 2048 * 2048 + x.val, by omega⟩) := by
  pointwise [ouS]

open AttnVal

theorem cumF_nat (x2 : FVec Ideal S8192x128 .bf16) (h : Fin 8) (b : Fin 4) (t : Fin 2048) :
    cumF x2 (ix3 h b t) = -(dec x2 h.val (b.val * 2048 + t.val)) := by
  rw [cumF_at]
  unfold dec
  have e : ∀ (k : ℕ) (hk : k < 128), x2 (ix2 ⟨b.val * 2048 + t.val, by omega⟩ ⟨k, hk⟩) = nat2 x2 (b.val * 2048 + t.val) k :=
    fun k hk => nat2_at x2 (ix2 ⟨b.val * 2048 + t.val, by omega⟩ ⟨k, hk⟩)
  rw [e, e, e]

theorem scS_nat (x0 : FVec Ideal S16x8192x128 .bf16) (x2 : FVec Ideal S8192x128 .bf16) (h : Fin 8) (b : Fin 4) (t s : Fin 2048) :
    scS x0 x2 (ix4 h b t s) = ms (RF x0 x2 h.val b.val) s.val t.val := by
  have e : rawS x0 x2 (ix4 h b t s) = RF x0 x2 h.val b.val s.val t.val := by
    rw [rawS_at, cumF_nat, cumF_nat]
    unfold RF
    have e1 : ∀ l : Fin 128, x0 (ix3 ⟨h.val, by omega⟩ ⟨b.val * 2048 + t.val, by omega⟩ l) * x0 (ix3 ⟨8 + h.val, by omega⟩ ⟨b.val * 2048 + s.val, by omega⟩ l)
        = nat3 x0 h.val (b.val * 2048 + t.val) l * nat3 x0 (8 + h.val) (b.val * 2048 + s.val) l := fun l =>
      congrArg₂ (· * ·) (nat3_at x0 (ix3 ⟨h.val, by omega⟩ ⟨b.val * 2048 + t.val, by omega⟩ l)) (nat3_at x0 (ix3 ⟨8 + h.val, by omega⟩ ⟨b.val * 2048 + s.val, by omega⟩ l))
    rw [Finset.sum_congr rfl fun l _ => e1 l]
  rw [scS_at, e]
  rfl

theorem exS_nat (x0 : FVec Ideal S16x8192x128 .bf16) (x2 : FVec Ideal S8192x128 .bf16) (h : Fin 8) (b : Fin 4) (t s : Fin 2048) :
    exS (scS x0 x2) (ix4 h b t s) = ew (RF x0 x2 h.val b.val) s.val t.val := by
  rw [exS_at, scS_nat, mxS_at (scS x0 x2) (fun s => ms (RF x0 x2 h.val b.val) s t.val) h b t fun s => scS_nat x0 x2 h b t s]
  rfl

/-- The reference's first result, at an index. -/
theorem out_at (x0 : FVec Ideal S16x8192x128 .bf16) (x1 : FVec Ideal S1024x8192 .bf16) (x2 : FVec Ideal S8192x128 .bf16)
    (h0 : ∀ i, ∃ r : ℝ, x0 i = (r : EReal)) (h2 : ∀ i, ∃ r : ℝ, x2 i = (r : EReal)) (h : Fin 8) (T : Fin 8192) (d : Fin 128) :
    ouS (exS (scS x0 x2)) x1 (ix3 h T d) = GA x0 x1 x2 h.val (T.val / 2048) (T.val % 2048) d.val := by
  have hT := T.isLt
  rw [ouS_at]
  unfold GA
  rw [← ratt_eq x0 x2 _ h0 h2 h.val (T.val / 2048) (T.val % 2048) d.val (by omega)]
  unfold ratt
  have e1 : ∀ s : Fin 2048, exS (scS x0 x2) (ix4 h ⟨T.val / 2048, by omega⟩ ⟨T.val % 2048, by omega⟩ s) = ew (RF x0 x2 h.val (T.val / 2048)) s.val (T.val % 2048) :=
    fun s => exS_nat x0 x2 h ⟨T.val / 2048, by omega⟩ ⟨T.val % 2048, by omega⟩ s
  have e2 : ∀ s : Fin 2048, x1 (ix2 ⟨h.val * 128 + d.val, by omega⟩ ⟨T.val / 2048 * 2048 + s.val, by omega⟩) = nat2 x1 (h.val * 128 + d.val) (T.val / 2048 * 2048 + s.val) :=
    fun s => nat2_at x1 (ix2 ⟨h.val * 128 + d.val, by omega⟩ ⟨T.val / 2048 * 2048 + s.val, by omega⟩)
  have e3 : ∑ s : Fin 2048, exS (scS x0 x2) (ix4 h ⟨T.val / 2048, by omega⟩ ⟨T.val % 2048, by omega⟩ s) = ∑ s ∈ Finset.range 2048, ew (RF x0 x2 h.val (T.val / 2048)) s (T.val % 2048) := by
    rw [Finset.sum_congr rfl fun s _ => e1 s, Fin.sum_univ_eq_sum_range (fun s => ew (RF x0 x2 h.val (T.val / 2048)) s (T.val % 2048)) 2048]
  rw [e3, Finset.sum_congr rfl fun s _ => by rw [e1 s, e2 s],
    Fin.sum_univ_eq_sum_range (fun s => Ideal.div (ew (RF x0 x2 h.val (T.val / 2048)) s (T.val % 2048)) (∑ s ∈ Finset.range 2048, ew (RF x0 x2 h.val (T.val / 2048)) s (T.val % 2048)) * nat2 x1 (h.val * 128 + d.val) (T.val / 2048 * 2048 + s)) 2048]

end Cert.Proof.AttnRef

end
-- ==== Proof.AttnClaims.lean ====
/-
  The attention call's value claim, and the frames of its reference.
-/
module

public import proofs.«01_k».proof.Defs
public import proofs.«01_k».proof.Proof.Frames
public import proofs.«01_k».proof.Proof.AttnOut
public import proofs.«01_k».proof.Proof.AttnRef
public import proofs.«01_k».proof.Proof.Gen.Pre_finite
public import Idealize.ShloMosaic.Lib.ReduceAll

@[expose] public section

set_option maxRecDepth 16384

noncomputable section

namespace Cert.Proof.AttnClaims

open Idealize.ShloMosaic Idealize.ShloMosaic.TcCoe
open Idealize.SL Idealize.SL.RA Idealize.SL.BI Idealize.SL.Sem
open Cert.Proof.AttnVal Cert.Proof.AttnRef

theorem frame_ref : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_ref_pre : Cert.quiescent_ReferenceIdeal_pre_finite (hReferenceIdeal := Cert.ReferenceIdeal.Gen.facts) (hPre_finite := Cert.Pre_finite.Gen.facts) := fun m ρ _ =>
  frame_ref m ρ trivial

theorem frame_ideal_pre : Cert.quiescent_KernelIdeal_pre_finite (hKernelIdeal := Cert.KernelIdeal.Gen.facts) (hPre_finite := Cert.Pre_finite.Gen.facts) := fun m ρ _ =>
  Attn.frame_ideal m ρ trivial

/-! ## What the precondition says -/

theorem real_of_lt (x : EReal) (h : FloatOps.cmpf (F := Ideal) (φ := .bf16) .olt (FloatOps.hostAbsf (F := Ideal) (φ := .bf16) x) (FloatOps.ofBits (F := Ideal) .bf16 0x7F80#16) = 1#1) :
    ∃ r : ℝ, x = (r : EReal) := by
  have ht : FloatOps.ofBits (F := Ideal) .bf16 0x7F80#16 = (⊤ : EReal) := by
    show Ideal.ofBits .bf16 0x7F80#16 = ⊤
    simp [Ideal.ofBits, Ideal.ieee]
  rw [ht] at h
  induction x with
  | coe r => exact ⟨r, rfl⟩
  | bot => exact absurd h (by simp [FloatOps.cmpf, FloatOps.hostAbsf, Ideal.cmp])
  | top => exact absurd h (by simp [FloatOps.cmpf, FloatOps.hostAbsf, Ideal.cmp])

instance : Subsingleton Cert.Pre_finite.S_.Idx := ⟨fun a b => funext fun i => i.elim0⟩

open Cert.Pre_finite Cert.Pre_finite.Gen in
theorem fin_of_pre (a0 : FVec Ideal Cert.Pre_finite.S16x8192x128 .bf16) (a1 : FVec Ideal Cert.Pre_finite.S1024x8192 .bf16) (a2 : FVec Ideal Cert.Pre_finite.S8192x128 .bf16) (a3 : FVec Ideal Cert.Pre_finite.S2048x8192 .f32)
    (h : Cert.Pre_finite.fn (F := Ideal) a0 a1 a2 a3 = fun _ => 1#1) : (∀ i, ∃ r : ℝ, a0 i = (r : EReal)) ∧ ∀ i, ∃ r : ℝ, a2 i = (r : EReal) := by
  have h0 := congrFun h (fun i => i.elim0)
  dsimp only [Cert.Pre_finite.fn] at h0
  have h1 : ∀ a b : BitVec 1, IntOp.andi a b = 1#1 → a = 1#1 ∧ b = 1#1 := by decide
  obtain ⟨ha, hb⟩ := h1 _ _ h0
  exact ⟨fun i => real_of_lt (a0 i) (Host.reduce_andi_all _ _ _ _ _ ha i), fun i => real_of_lt (a2 i) (Host.reduce_andi_all _ _ _ _ _ hb i)⟩

/-! ## The second result -/

open Cert.ReferenceIdeal Cert.ReferenceIdeal.Gen in
/-- The reference's second result. -/
def upS (x3 : FVec Ideal Cert.ReferenceIdeal.S2048x8192 .f32) : FVec Ideal Cert.ReferenceIdeal.S8x2048x1024 .bf16 :=
  truncf .bf16 (transpose S8x2048x1024 [1, 0, 2] (shapeCast _ x3 Facts₀.shapeCasts_S2048x8192_S2048x8x1024) Facts₀.transposes_S2048x8x1024_S8x2048x1024_1_0_2) Facts₀.bitsLt_bf16_f32

open Cert.ReferenceIdeal Cert.ReferenceIdeal.Gen in
theorem upS_at (x3 : FVec Ideal Cert.ReferenceIdeal.S2048x8192 .f32) (n : Fin 8) (r : Fin 2048) (j : Fin 1024) :
    upS x3 (ix3 n r j) = x3 (ix2 r ⟨n.val * 1024 + j.val, by omega⟩) := by
  pointwise [upS]

theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m ρ m' ρ' hp hagree
  refine ⟨fun c => ouS (exS (scS (m ((c.tc : Thread Cert.KernelIdeal.nD Cert.KernelIdeal.τ).loc Cert.KernelIdeal.main_arg0)) (m ((c.tc : Thread Cert.KernelIdeal.nD Cert.KernelIdeal.τ).loc Cert.KernelIdeal.main_arg2)))) (m ((c.tc : Thread Cert.KernelIdeal.nD Cert.KernelIdeal.τ).loc Cert.KernelIdeal.main_arg1)),
    fun c => upS (m ((c.tc : Thread Cert.KernelIdeal.nD Cert.KernelIdeal.τ).loc Cert.KernelIdeal.main_arg3)), ?_, ?_⟩
  · refine (θ_run (Cert.KernelIdeal.defs (F := Ideal)) _ _).mono (fun r h c => ?_) (Attn.run_main (F := Ideal) m ρ)
    obtain ⟨q0, q1, q2, q3, hO, hU⟩ := h.1 c
    obtain ⟨f0, f2⟩ := fin_of_pre _ _ _ _ (hp c)
    refine ⟨?_, ?_, q0, q1, q2, q3⟩
    · funext y
      rw [eq_ix3 y]
      exact (out_val c _ _ _ _ _ hO (y 0) (y 1) (y 2)).trans (out_at _ _ _ f0 f2 (y 0) (y 1) (y 2)).symm
    · funext y
      rw [eq_ix3 y]
      exact (out_valU c _ _ _ _ _ hU (y 0) (y 1) (y 2)).trans (upS_at _ (y 0) (y 1) (y 2)).symm
  · refine (θ_run Cert.ReferenceIdeal.defs _ _).mono (fun r h c => ?_) (Cert.ReferenceIdeal.Value.run (F := Ideal) m' ρ')
    obtain ⟨e0, e1, e2, e3⟩ := hagree c
    refine ⟨((h c).1.trans (res_eq m' c)).trans ?_, (h c).2.1.trans ?_, (h c).2.2⟩
    · rw [e0, e1, e2]
    · rw [e3]; rfl

end Cert.Proof.AttnClaims

end
-- ==== Proof.Mlp.lean ====
/-
  The squared-ReLU MLP call over the extended reals: what its grid accumulates is the two products of the reference.
-/
module

public import proofs.«01_k».proof.Defs
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.Value
public import Idealize.ShloMosaic.Lib.StableHlo.Run
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- One tile of hidden units: the squared ReLU of `x · w`, times the rows of `d`. -/
def term (x : Vec Ideal S1024x2048 .bf16) (w : Vec Ideal S1x2048x1024 .bf16) (d : Vec Ideal S1024x2048 .f32) :
    Vec Ideal S1024x2048 .f32 := fun j =>
  ∑ k : Fin 1024, max (∑ a : Fin 2048, x (ix2 (j 0) a) * w (ix3 0 a k)) 0 * max (∑ a : Fin 2048, x (ix2 (j 0) a) * w (ix3 0 a k)) 0
    * d (ix2 k (j 1))

theorem pay1_eq (x : Vec Ideal S1024x2048 .bf16) (w : Vec Ideal S1x2048x1024 .bf16) (d : Vec Ideal S1024x2048 .f32) :
    k0_pay1 x w d = term x w d := by
  funext j
  idx_vars j
  pointwise [k0_pay1, term]

theorem pay2_eq (x : Vec Ideal S1024x2048 .bf16) (w : Vec Ideal S1x2048x1024 .bf16) (d o : Vec Ideal S1024x2048 .f32) :
    k0_pay2 x w d o = fun j => o j + term x w d j := by
  funext j
  idx_vars j
  pointwise [k0_pay2, term]

/-- What the first point of a row block leaves. -/
theorem out_A (c : Dev nD) (i : grid0.Coords) (a2 : Memref sig .tc .vmem S1024x2048 .bf16) (h2 : a2.IsWhole)
    (a3 : Memref sig .tc .vmem S1x2048x1024 .bf16) (h3 : a3.IsWhole) (a4 : Memref sig .tc .vmem S1024x2048 .f32) (h4 : a4.IsWhole)
    (a5 : Memref sig .tc .vmem S1024x2048 .f32) (h5 : a5.IsWhole) (hc : cond0_0 i) (hd : ¬cond0_1 i)
    (x : Vec Ideal S1024x2048 .bf16) (w : Vec Ideal S1x2048x1024 .bf16) (d : Vec Ideal S1024x2048 .f32) :
    out0_A_3 c i a2 h2 a3 h3 a4 h4 a5 h5 hc hd x w d = term x w d := by
  unfold out0_A_3
  rw [View.read_writes_eq_canon _ _ _ (cover0_A_3 c i a2 h2 a3 h3 a4 h4 a5 h5 hc hd x w d)]
  unfold kernelRun0_A
  dsimp only
  rw [View.canon_unit_zero hz]
  simp only [View.readAt_eq_ld, h2.read_unread, h3.read_unread, h4.read_unread, View.ld_unit_zero (S := S1024x2048) hz,
    View.ld_unit_zero (S := S1x2048x1024) hz3]
  exact pay1_eq x w d

/-- What every other point leaves. -/
theorem out_B (c : Dev nD) (i : grid0.Coords) (a2 : Memref sig .tc .vmem S1024x2048 .bf16) (h2 : a2.IsWhole)
    (a3 : Memref sig .tc .vmem S1x2048x1024 .bf16) (h3 : a3.IsWhole) (a4 : Memref sig .tc .vmem S1024x2048 .f32) (h4 : a4.IsWhole)
    (a5 : Memref sig .tc .vmem S1024x2048 .f32) (h5 : a5.IsWhole) (hc : ¬cond0_0 i) (hd : cond0_1 i)
    (x : Vec Ideal S1024x2048 .bf16) (w : Vec Ideal S1x2048x1024 .bf16) (d o : Vec Ideal S1024x2048 .f32) :
    out0_B_3 c i a2 h2 a3 h3 a4 h4 a5 h5 hc hd x w d o = fun j => o j + term x w d j := by
  unfold out0_B_3
  rw [View.read_writes_eq_canon _ _ _ (cover0_B_3 c i a2 h2 a3 h3 a4 h4 a5 h5 hc hd x w d o)]
  unfold kernelRun0_B
  dsimp only
  rw [View.canon_unit_zero hz]
  simp only [View.readAt_eq_ld, h2.read_unread, h3.read_unread, h4.read_unread, h5.read_unread, View.ld_unit_zero (S := S1024x2048) hz,
    View.ld_unit_zero (S := S1x2048x1024) hz3]
  exact pay2_eq x w d o

theorem ix0 : ∀ t : Fin cfg0.N, win0_0.index t = ![t.val / 8, 0] := by decide +kernel
theorem ix1 : ∀ t : Fin cfg0.N, win0_1.index t = ![t.val % 8, 0, 0] := by decide +kernel
theorem ix2' : ∀ t : Fin cfg0.N, win0_2.index t = ![t.val % 8, 0] := by decide +kernel
theorem ix3' : ∀ t : Fin cfg0.N, win0_3.index t = ![t.val / 8, 0] := by decide +kernel

/-- The three arguments. -/
abbrev X (c : Dev nD) : Vec Ideal S8192x2048 .bf16 := m ((c : Thread nD τ).loc main_arg0)
abbrev W (c : Dev nD) : Vec Ideal S8x2048x1024 .bf16 := m ((c : Thread nD τ).loc main_arg1)
abbrev D (c : Dev nD) : Vec Ideal S8192x2048 .f32 := m ((c : Thread nD τ).loc main_arg2)

theorem n64 : cfg0.N = 64 := N_0

theorem blkX (c : Dev nD) (t : Fin cfg0.N) (r : Fin 1024) (a : Fin 2048) :
    (iblk m c 0 t : Vec Ideal S1024x2048 .bf16) (ix2 r a)
      = X m c (ix2 ⟨1024 * (t.val / 8) + r.val, by have := t.isLt; have := n64; omega⟩ a) := by
  unfold iblk
  rw [View.read_apply]
  show V m c main_arg0 _ = _
  rw [show V m c main_arg0 = X m c from rfl]
  congr 1
  funext b
  apply Fin.ext
  match b with
  | ⟨0, _⟩ => show win0_0.index t 0 * 1024 + 1 * r.val = 1024 * (t.val / 8) + r.val; rw [ix0]; simp; omega
  | ⟨1, _⟩ => show win0_0.index t 1 * 2048 + 1 * a.val = a.val; rw [ix0]; simp

theorem blkW (c : Dev nD) (t : Fin cfg0.N) (a : Fin 2048) (k : Fin 1024) :
    (iblk m c 1 t : Vec Ideal S1x2048x1024 .bf16) (ix3 0 a k) = W m c (ix3 ⟨t.val % 8, by omega⟩ a k) := by
  unfold iblk
  rw [View.read_apply]
  show V m c main_arg1 _ = _
  rw [show V m c main_arg1 = W m c from rfl]
  congr 1
  funext b
  apply Fin.ext
  match b with
  | ⟨0, _⟩ => show win0_1.index t 0 * 1 + 1 * 0 = t.val % 8; rw [ix1]; simp
  | ⟨1, _⟩ => show win0_1.index t 1 * 2048 + 1 * a.val = a.val; rw [ix1]; simp
  | ⟨2, _⟩ => show win0_1.index t 2 * 1024 + 1 * k.val = k.val; rw [ix1]; simp

theorem blkD (c : Dev nD) (t : Fin cfg0.N) (k : Fin 1024) (l : Fin 2048) :
    (iblk m c 2 t : Vec Ideal S1024x2048 .f32) (ix2 k l) = D m c (ix2 ⟨1024 * (t.val % 8) + k.val, by omega⟩ l) := by
  unfold iblk
  rw [View.read_apply]
  show V m c main_arg2 _ = _
  rw [show V m c main_arg2 = D m c from rfl]
  congr 1
  funext b
  apply Fin.ext
  match b with
  | ⟨0, _⟩ => show win0_2.index t 0 * 1024 + 1 * k.val = 1024 * (t.val % 8) + k.val; rw [ix2']; simp; omega
  | ⟨1, _⟩ => show win0_2.index t 1 * 2048 + 1 * l.val = l.val; rw [ix2']; simp

/-- The squared hidden unit `k` of tile `n`, at row `r`. -/
def hid (c : Dev nD) (r : Fin 8192) (n : Fin 8) (k : Fin 1024) : EReal :=
  max (∑ a : Fin 2048, X m c (ix2 r a) * W m c (ix3 n a k)) 0 * max (∑ a : Fin 2048, X m c (ix2 r a) * W m c (ix3 n a k)) 0

/-- Tile `n`'s part of the result. -/
def part (c : Dev nD) (r : Fin 8192) (l : Fin 2048) (n : Fin 8) : EReal :=
  ∑ k : Fin 1024, hid m c r n k * D m c (ix2 ⟨1024 * n.val + k.val, by omega⟩ l)

/-- The result: the eight parts added. -/
def result (c : Dev nD) : Vec Ideal S8192x2048 .f32 := fun j => ∑ n : Fin 8, part m c (j 0) (j 1) n

theorem term_of (x : Vec Ideal S1024x2048 .bf16) (w : Vec Ideal S1x2048x1024 .bf16) (d : Vec Ideal S1024x2048 .f32)
    (r : Fin 1024) (l : Fin 2048) (fx : Fin 2048 → EReal) (fw : Fin 2048 → Fin 1024 → EReal) (fd : Fin 1024 → EReal)
    (hx : ∀ a, x (ix2 r a) = fx a) (hw : ∀ a k, w (ix3 0 a k) = fw a k) (hd : ∀ k, d (ix2 k l) = fd k) :
    term x w d (ix2 r l)
      = ∑ k : Fin 1024, max (∑ a : Fin 2048, fx a * fw a k) 0 * max (∑ a : Fin 2048, fx a * fw a k) 0 * fd k := by
  show (∑ k : Fin 1024, max (∑ a : Fin 2048, x (ix2 r a) * w (ix3 0 a k)) 0 * max (∑ a : Fin 2048, x (ix2 r a) * w (ix3 0 a k)) 0
    * d (ix2 k l)) = _
  simp only [hx, hw, hd]

theorem term_blk (c : Dev nD) (t : Fin cfg0.N) (r : Fin 1024) (l : Fin 2048) :
    term (iblk m c 0 t) (iblk m c 1 t) (iblk m c 2 t) (ix2 r l)
      = part m c ⟨1024 * (t.val / 8) + r.val, by have := t.isLt; have := n64; omega⟩ l ⟨t.val % 8, by omega⟩ := by
  exact term_of _ _ _ r l (fun a => X m c (ix2 _ a)) (fun a k => W m c (ix3 _ a k)) (fun k => D m c (ix2 _ l))
    (blkX m c t r) (blkW m c t) (fun k => blkD m c t k l)

/-- After point `t` the output block holds the parts of the tiles so far. -/
theorem outsAt_eq (c : Dev nD) : ∀ (n : ℕ) (h : n < cfg0.N) (r : Fin 1024) (l : Fin 2048),
    outsAt0 m c n h (ix2 r l)
      = ∑ s ∈ Finset.univ.filter (fun s : Fin 8 => s.val ≤ n % 8),
          part m c ⟨1024 * (n / 8) + r.val, by have := n64; omega⟩ l s := by
  intro n
  induction n with
  | zero =>
    intro h r l
    rw [outsAt0_A m c ⟨0, h⟩ rfl (by simp), out_A, term_blk]
    rw [show (Finset.univ.filter fun s : Fin 8 => s.val ≤ 0 % 8) = {0} by decide, Finset.sum_singleton]
    rfl
  | succ n ih =>
    intro h r l
    have hN := n64
    by_cases h0 : (n + 1) % 8 = 0
    · rw [outsAt0_A m c ⟨n + 1, h⟩ h0 (by simp only; omega), out_A, term_blk]
      simp only [h0]
      rw [show (Finset.univ.filter fun s : Fin 8 => s.val ≤ 0) = {0} by decide, Finset.sum_singleton]
      rfl
    · rw [outsAt0_B m c ⟨n + 1, h⟩ h0 (by simp only; omega), out_B]
      show outsAt0 m c n _ (ix2 r l) + term _ _ _ _ = _
      rw [ih, term_blk]
      have e1 : (n + 1) / 8 = n / 8 := by omega
      have e2 : (n + 1) % 8 = n % 8 + 1 := by omega
      have hs : (Finset.univ.filter fun s : Fin 8 => s.val ≤ (n + 1) % 8)
          = insert ⟨(n + 1) % 8, by omega⟩ (Finset.univ.filter fun s : Fin 8 => s.val ≤ n % 8) := by
        ext s; simp only [Finset.mem_filter, Finset.mem_univ, true_and, Finset.mem_insert, Fin.ext_iff]; omega
      rw [hs, Finset.sum_insert (by simp only [Finset.mem_filter, Finset.mem_univ, true_and]; omega), add_comm]
      simp only [e1]

/-- The write-backs write the result's row blocks. -/
theorem flushed_eq (c : Dev nD) (t : Fin cfg0.N) (hf : (cfg0.win 3).flush t = true) :
    (dats m 0 c).flushed 3 t = ((cfg0.win 3).blk t).view.read (Elt Ideal) (result m c) := by
  have h7 := (flush0_3 t).mp hf
  rw [Value.flushed3]
  funext j
  rw [View.read_apply]
  obtain ⟨r, l, rfl⟩ : ∃ (r : Fin 1024) (l : Fin 2048), j = ix2 r l := ⟨j 0, j 1, eq_ix2 j⟩
  show outsAt0 m c t.val t.isLt (ix2 r l) = result m c _
  rw [outsAt_eq, h7, show (Finset.univ.filter fun s : Fin 8 => s.val ≤ 7) = Finset.univ by decide]
  show _ = ∑ n : Fin 8, part m c _ _ n
  refine Finset.sum_congr rfl fun s _ => ?_
  congr 1
  · apply Fin.ext
    show 1024 * (t.val / 8) + r.val = win0_3.index t 0 * 1024 + 1 * r.val
    rw [ix3']; simp; omega
  · apply Fin.ext
    show l.val = win0_3.index t 1 * 2048 + 1 * l.val
    rw [ix3']; simp

theorem final_o (c : Dev nD) : (dats m 0 c).arrAt 3 cfg0.N = result m c :=
  (dats m 0 c).arrAt_eq_of_cover 3 (result m c) (flushed_eq m c) fun i => by
    have h0 : (i 0 : Nat) < 8192 := (i 0).isLt
    have h1 : (i 1 : Nat) < 2048 := (i 1).isLt
    have hN := n64
    obtain ⟨t, ht⟩ : ∃ t : Fin cfg0.N, t.val = 8 * ((i 0 : Nat) / 1024) + 7 := ⟨⟨_, by omega⟩, rfl⟩
    refine ⟨t, (flush0_3 t).mpr (by omega), ?_⟩
    show i ∈ ((View.whole main_v0).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [ix3']; simp; omega
    | ⟨1, _⟩ =>
      show win0_3.index t 1 * 2048 ≤ (i 1 : Nat) ∧ (i 1 : Nat) < win0_3.index t 1 * 2048 + 2048
      rw [ix3']; simp; omega

theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final_o m c), (h c).2⟩) (Value.run_blocks m ρ)

/-- The reference's hidden axis is the tiles' units, tile by tile. -/
theorem sum_tiles (f : Fin 8192 → EReal) :
    ∑ i, f i = ∑ n : Fin 8, ∑ k : Fin 1024, f ⟨1024 * n.val + k.val, by omega⟩ := by
  rw [← Fintype.sum_prod_type']
  exact (Fintype.sum_equiv (finProdFinEquiv (m := 8) (n := 1024)) _ _ fun p => by
    congr 1; apply Fin.ext; simp [finProdFinEquiv]; omega).symm

end Cert.Kernel2Ideal.Mlp

namespace Cert.Proof.MlpClaims

open Cert.Kernel2Ideal.Mlp

theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' hp hagree
  refine ⟨fun c => result m c, run m ρ, ?_⟩
  refine (θ_run Cert.Reference2Ideal.defs _ _).mono (fun _ h c => ?_) (Cert.Reference2Ideal.Value.run (F := Ideal) m' ρ')
  refine ⟨(h c).1.trans ?_, (h c).2⟩
  obtain ⟨e0, e1, e2⟩ := hagree c
  rw [e0, e1, e2]
  funext j
  obtain ⟨r, l, rfl⟩ : ∃ (r : Fin 8192) (l : Fin 2048), j = ix2 r l := ⟨j 0, j 1, eq_ix2 j⟩
  pointwise
  rw [sum_tiles]
  show _ = ∑ n : Fin 8, part m c r l n
  refine Finset.sum_congr rfl fun n _ => Finset.sum_congr rfl fun k _ => ?_
  have q1 : (1024 * n.val + k.val) / 1024 = n.val := by omega
  have q2 : (1024 * n.val + k.val) % 1024 = k.val := by omega
  simp only [q1, q2, Fin.eta]
  rfl

end Cert.Proof.MlpClaims

end
-- ==== Proof.Ple.lean ====
/-
  The gated embedding call over the extended reals: the layer's last step, row by row.
-/
module

public import proofs.«01_k».proof.Defs
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.Value
public import Idealize.ShloMosaic.Lib.StableHlo.Run
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Ple

open Cert.Kernel3Ideal Cert.Kernel3Ideal.Gen

/-- A row's norm: the root mean square taken out, the gains put in. -/
def nrm (f g : Fin 2048 → EReal) (l : Fin 2048) : EReal :=
  f l * Ideal.rsqrt (Ideal.div (∑ a : Fin 2048, f a * f a) (Ideal.ofBits .f32 0x45000000#32) + Ideal.ofBits .f32 0x358637BD#32) * g l

/-- The gate times the embedding. -/
def gat (n : Fin 2048 → EReal) (p : Fin 256 → EReal) (wg : Fin 2048 → Fin 2048 → EReal) (wp : Fin 256 → Fin 2048 → EReal)
    (l : Fin 2048) : EReal :=
  Ideal.logistic (∑ a : Fin 2048, n a * wg a l) * ∑ a : Fin 256, p a * wp a l

theorem pay2_at (v4 v5 : Vec Ideal S256x2048 .f32) (v6 : Vec Ideal S1x2048 .f32) (r : Fin 256) (l : Fin 2048) :
    k0_pay2 v4 v5 v6 (ix2 r l) = v4 (ix2 r l) + nrm (fun a => v5 (ix2 r a)) (fun a => v6 (ix2 0 a)) l := by
  pointwise [k0_pay2, nrm]

theorem pay3_at (v4 v5 : Vec Ideal S256x2048 .f32) (v6 v7 : Vec Ideal S1x2048 .f32) (r : Fin 256) (l : Fin 2048) :
    k0_pay3 v4 v5 v6 v7 (ix2 r l) = nrm (fun a => k0_pay2 v4 v5 v6 (ix2 r a)) (fun a => v7 (ix2 0 a)) l := by
  unfold k0_pay3
  generalize k0_pay2 v4 v5 v6 = x
  pointwise [nrm]

theorem pay4_at (v3 : Vec Ideal S256x2048 .bf16) (v20 : FVec Ideal S256x2048 .f32) (v35 : FVec Ideal S256x2048 .bf16) (v36 : Vec Ideal S2048x2048 .bf16) (v39 : Vec Ideal S256x256 .f32) (v44 : Vec Ideal S1x2048 .f32) (r : Fin 256) (l : Fin 2048) :
    k0_pay4 v3 v20 v35 v36 (constant S256x2048 .f32 0x00000000#32) v39 v44 (ix2 r l)
      = v20 (ix2 r l) + nrm (gat (fun a => v35 (ix2 r a)) (fun a => v39 (ix2 r a)) (fun a b => v36 (ix2 a b)) (fun a b => v3 (ix2 a b))) (fun a => v44 (ix2 0 a)) l := by
  pointwise [k0_pay4, nrm, gat]

theorem pay6_at (v3 : Vec Ideal S256x2048 .bf16) (v20 : FVec Ideal S256x2048 .f32) (v77 : Vec Ideal S1x2048 .f32) (v36 : Vec Ideal S2048x2048 .bf16) (v39 : Vec Ideal S256x256 .f32) (v44 : Vec Ideal S1x2048 .f32) (r : Fin 256) (l : Fin 2048) :
    k0_pay6 v3 v20 v77 v36 v39 v44 (ix2 r l)
      = v20 (ix2 r l) + nrm (gat (nrm (fun a => v20 (ix2 r a)) (fun a => v77 (ix2 0 a))) (fun a => v39 (ix2 r a)) (fun a b => v36 (ix2 a b)) (fun a b => v3 (ix2 a b))) (fun a => v44 (ix2 0 a)) l := by
  pointwise [k0_pay6, nrm, gat]

theorem pay5_eq (v4 v5 : Vec Ideal S256x2048 .f32) (v6 : Vec Ideal S1x2048 .f32) : k0_pay5 v4 v5 v6 = k0_pay2 v4 v5 v6 := rfl

theorem pay1_eq (v : Vec Ideal S256x2048 .f32) : (k0_pay1 v : S256x2048.Idx → EReal) = v := by
  funext j
  idx_vars j
  pointwise [k0_pay1]

theorem hz : (![0, 0] : Fin 2 → Nat) = fun _ => 0 := funext fun a => by fin_cases a <;> rfl

/-- A row of the call's result. -/
def row (x y g1 g2 : Fin 2048 → EReal) (p : Fin 256 → EReal) (wg : Fin 2048 → Fin 2048 → EReal) (wp : Fin 256 → Fin 2048 → EReal)
    (g3 : Fin 2048 → EReal) (l : Fin 2048) : EReal :=
  (x l + nrm y g1 l) + nrm (gat (nrm (fun a => x a + nrm y g1 a) g2) p wg wp) g3 l

/-- The block a point leaves. -/
def blk (x0 x1 : Vec Ideal S512x2048 .f32) (x2 : Vec Ideal S512x256 .f32) (x3 x4 : Vec Ideal S1x2048 .f32)
    (x5 : Vec Ideal S2048x2048 .bf16) (s : Vec Ideal S256x2048 .bf16) (x7 : Vec Ideal S1x2048 .f32) (j : S512x2048.Idx) : EReal :=
  row (fun a => x0 (ix2 (j 0) a)) (fun a => x1 (ix2 (j 0) a)) (fun a => x3 (ix2 0 a)) (fun a => x4 (ix2 0 a)) (fun a => x2 (ix2 (j 0) a))
    (fun a b => x5 (ix2 a b)) (fun a b => s (ix2 a b)) (fun a => x7 (ix2 0 a)) (j 1)

theorem ld_at {n o : ℕ} {e : EltTy} (X : Vec Ideal ⟨2, ![512, n]⟩ e) (inb) (r : Fin 256) (a : Fin n) (q : Fin 512) (hq : q.val = o + r.val) :
    View.ld X (Rect.unit (s := ⟨2, ![512, n]⟩) ![o, 0] ![256, n] inb) (ix2 r a) = X (ix2 q a) := by
  show X _ = _
  congr 1
  funext b
  apply Fin.ext
  match b with
  | ⟨0, _⟩ => show o + 1 * r.val = q.val; omega
  | ⟨1, _⟩ => show 0 + 1 * a.val = a.val; omega

theorem hi_at (x0 x1 : Vec Ideal S512x2048 .f32) (x2 : Vec Ideal S512x256 .f32) (x3 x4 : Vec Ideal S1x2048 .f32)
    (x5 : Vec Ideal S2048x2048 .bf16) (s : Vec Ideal S256x2048 .bf16) (x7 : Vec Ideal S1x2048 .f32)
    (u0 u1 : Vec Ideal S256x2048 .f32) (u2 : Vec Ideal S256x256 .f32) (r : Fin 256) (l : Fin 2048) (q : Fin 512)
    (h0 : ∀ a, u0 (ix2 r a) = x0 (ix2 q a)) (h1 : ∀ a, u1 (ix2 r a) = x1 (ix2 q a)) (h2 : ∀ a, u2 (ix2 r a) = x2 (ix2 q a)) :
    k0_pay6 s (k0_pay2 u0 u1 x3) x4 x5 u2 x7 (ix2 r l) = blk x0 x1 x2 x3 x4 x5 s x7 (ix2 q l) := by
  rw [pay6_at]
  simp only [pay2_at, h0, h1, h2]
  rfl

theorem lo_at (x0 x1 : Vec Ideal S512x2048 .f32) (x2 : Vec Ideal S512x256 .f32) (x3 x4 : Vec Ideal S1x2048 .f32)
    (x5 : Vec Ideal S2048x2048 .bf16) (s : Vec Ideal S256x2048 .bf16) (x7 : Vec Ideal S1x2048 .f32)
    (u0 u1 : Vec Ideal S256x2048 .f32) (u2 : Vec Ideal S256x256 .f32) (r : Fin 256) (l : Fin 2048) (q : Fin 512)
    (h0 : ∀ a, u0 (ix2 r a) = x0 (ix2 q a)) (h1 : ∀ a, u1 (ix2 r a) = x1 (ix2 q a)) (h2 : ∀ a, u2 (ix2 r a) = x2 (ix2 q a)) :
    k0_pay4 s (k0_pay2 u0 u1 x3) (k0_pay3 u0 u1 x3 x4) x5 (constant S256x2048 .f32 0x00000000#32) u2 x7 (ix2 r l)
      = blk x0 x1 x2 x3 x4 x5 s x7 (ix2 q l) := by
  rw [pay4_at]
  simp only [pay3_at, pay2_at, h0, h1, h2]
  rfl

theorem pc (G : S512x2048.Idx → EReal) {o : ℕ} (inb) (w : Vec Ideal S256x2048 .f32)
    (h : ∀ (r : Fin 256) (l : Fin 2048) (q : Fin 512), q.val = o + r.val → w (ix2 r l) = G (ix2 q l))
    (x : (Rect.unit (s := S512x2048) ![o, 0] ![256, 2048] inb).shape.Idx) :
    w x = G ((Rect.unit (s := S512x2048) ![o, 0] ![256, 2048] inb).emb x) := by
  have b0 : o + 256 ≤ 512 := inb 0
  have hx0 : (x 0).val < 256 := (x 0).isLt
  have e : x = ix2 (⟨(x 0).val, hx0⟩ : Fin 256) (⟨(x 1).val, (x 1).isLt⟩ : Fin 2048) := by
    funext b; match b with | ⟨0, _⟩ => rfl | ⟨1, _⟩ => rfl
  refine (congrArg w e).trans ((h _ _ ⟨o + (x 0).val, by omega⟩ rfl).trans ?_)
  congr 1
  funext b
  apply Fin.ext
  match b with
  | ⟨0, _⟩ => show o + (x 0).val = o + 1 * (x 0).val; omega
  | ⟨1, _⟩ => show (x 1).val = 0 + 1 * (x 1).val; omega

/-- Two stores of half a block each leave the block. -/
theorem two (G : S512x2048.Idx → EReal) (i1 i2) (w1 w2 : Vec Ideal S256x2048 .f32)
    (h1 : ∀ (r : Fin 256) (l : Fin 2048) (q : Fin 512), q.val = 256 + r.val → w1 (ix2 r l) = G (ix2 q l))
    (h2 : ∀ (r : Fin 256) (l : Fin 2048) (q : Fin 512), q.val = 0 + r.val → w2 (ix2 r l) = G (ix2 q l))
    (hc : ∀ y, ∃ p ∈ ([⟨Rect.unit (s := S512x2048) ![256, 0] ![256, 2048] i1, w1⟩, ⟨Rect.unit (s := S512x2048) ![0, 0] ![256, 2048] i2, w2⟩] : List (View.Piece (Elt Ideal) S512x2048 .f32)), y ∈ p.1.set) :
    View.canon ([⟨Rect.unit (s := S512x2048) ![256, 0] ![256, 2048] i1, w1⟩, ⟨Rect.unit (s := S512x2048) ![0, 0] ![256, 2048] i2, w2⟩] : List (View.Piece (Elt Ideal) S512x2048 .f32)) = G := by
  funext y
  exact View.canon_apply_of_pieces G _ (List.forall_mem_cons.mpr ⟨pc G i1 w1 h1, List.forall_mem_cons.mpr ⟨pc G i2 w2 h2,
    fun p hp => absurd hp List.not_mem_nil⟩⟩) y (hc y)

theorem out_A (c : Dev nD) (i : grid0.Coords) (a1 : Memref sig .tc .vmem S512x2048 .f32) (h1 : a1.IsWhole) (a2 : Memref sig .tc .vmem S512x2048 .f32) (h2 : a2.IsWhole)
    (a3 : Memref sig .tc .vmem S512x256 .f32) (h3 : a3.IsWhole) (a4 : Memref sig .tc .vmem S1x2048 .f32) (h4 : a4.IsWhole) (a5 : Memref sig .tc .vmem S1x2048 .f32) (h5 : a5.IsWhole)
    (a6 : Memref sig .tc .vmem S2048x2048 .bf16) (h6 : a6.IsWhole) (a7 : Memref sig .tc .vmem S256x2048 .f32) (h7 : a7.IsWhole) (a8 : Memref sig .tc .vmem S1x2048 .f32) (h8 : a8.IsWhole)
    (a9 : Memref sig .tc .vmem S512x2048 .f32) (h9 : a9.IsWhole) (a10 : Memref sig .tc .vmem S256x2048 .bf16) (h10 : a10.IsWhole) (hc : cond0_0 i)
    (x0 x1 : Vec Ideal S512x2048 .f32) (x2 : Vec Ideal S512x256 .f32) (x3 x4 : Vec Ideal S1x2048 .f32) (x5 : Vec Ideal S2048x2048 .bf16) (x6 : Vec Ideal S256x2048 .f32) (x7 : Vec Ideal S1x2048 .f32) :
    out0_A_8 c i a1 h1 a2 h2 a3 h3 a4 h4 a5 h5 a6 h6 a7 h7 a8 h8 a9 h9 a10 h10 hc x0 x1 x2 x3 x4 x5 x6 x7 = blk x0 x1 x2 x3 x4 x5 x6 x7 := by
  unfold out0_A_8
  have hcov := cover0_A_8 c i a1 h1 a2 h2 a3 h3 a4 h4 a5 h5 a6 h6 a7 h7 a8 h8 a9 h9 a10 h10 hc x0 x1 x2 x3 x4 x5 x6 x7
  rw [View.read_writes_eq_canon _ _ _ hcov]
  revert hcov
  unfold kernelRun0_A
  dsimp only
  simp only [kernelRun0_A.sl.v3, kernelRun0_A.sl.r, kernelRun0_A.sl.r_1, kernelRun0_A.sl.r_2, kernelRun0_A.sl.r_3, kernelRun0_A.sl.cst_17]
  simp only [View.readAt_eq_ld, h1.read_unread, h2.read_unread, h3.read_unread, h4.read_unread, h5.read_unread, h6.read_unread, h7.read_unread, h8.read_unread, h10.read_unread,
    View.ld_unit_zero (S := S256x2048) hz, View.ld_unit_zero (S := S1x2048) hz, View.ld_unit_zero (S := S2048x2048) hz]
  rw [show a10.view.readCov (kernelRun0_A.sl.HS0_1 c a7 h7 x6) (Rect.unit ![0, 0] ![256, 2048] inb_S256x2048_S256x2048_0_0).toLoadRect = x6 from by
    simp only [kernelRun0_A.sl.HS0_1, View.readAt_eq_ld, h7.read_unread]
    exact (View.readCov_unit_zero _ hz _ _).trans ((congrArg k0_pay1 (View.ld_unit_zero (S := S256x2048) hz _ _)).trans (pay1_eq x6))]
  intro hcov
  refine two _ _ _ _ _ (fun r l q hq => ?_) (fun r l q hq => ?_) hcov
  · exact hi_at x0 x1 x2 x3 x4 x5 x6 x7 _ _ _ r l q (fun a => ld_at x0 _ r a q hq) (fun a => ld_at x1 _ r a q hq) (fun a => ld_at x2 _ r a q hq)
  · exact lo_at x0 x1 x2 x3 x4 x5 x6 x7 _ _ _ r l q (fun a => ld_at x0 _ r a q hq) (fun a => ld_at x1 _ r a q hq) (fun a => ld_at x2 _ r a q hq)

theorem out_B (c : Dev nD) (i : grid0.Coords) (a1 : Memref sig .tc .vmem S512x2048 .f32) (h1 : a1.IsWhole) (a2 : Memref sig .tc .vmem S512x2048 .f32) (h2 : a2.IsWhole)
    (a3 : Memref sig .tc .vmem S512x256 .f32) (h3 : a3.IsWhole) (a4 : Memref sig .tc .vmem S1x2048 .f32) (h4 : a4.IsWhole) (a5 : Memref sig .tc .vmem S1x2048 .f32) (h5 : a5.IsWhole)
    (a6 : Memref sig .tc .vmem S2048x2048 .bf16) (h6 : a6.IsWhole) (a7 : Memref sig .tc .vmem S256x2048 .f32) (h7 : a7.IsWhole) (a8 : Memref sig .tc .vmem S1x2048 .f32) (h8 : a8.IsWhole)
    (a9 : Memref sig .tc .vmem S512x2048 .f32) (h9 : a9.IsWhole) (a10 : Memref sig .tc .vmem S256x2048 .bf16) (h10 : a10.IsWhole) (hc : ¬cond0_0 i)
    (x0 x1 : Vec Ideal S512x2048 .f32) (x2 : Vec Ideal S512x256 .f32) (x3 x4 : Vec Ideal S1x2048 .f32) (x5 : Vec Ideal S2048x2048 .bf16) (x6 : Vec Ideal S256x2048 .f32) (x7 : Vec Ideal S1x2048 .f32) (xs : Vec Ideal S256x2048 .bf16) :
    out0_B_8 c i a1 h1 a2 h2 a3 h3 a4 h4 a5 h5 a6 h6 a7 h7 a8 h8 a9 h9 a10 h10 hc x0 x1 x2 x3 x4 x5 x6 x7 xs = blk x0 x1 x2 x3 x4 x5 xs x7 := by
  unfold out0_B_8
  have hcov := cover0_B_8 c i a1 h1 a2 h2 a3 h3 a4 h4 a5 h5 a6 h6 a7 h7 a8 h8 a9 h9 a10 h10 hc x0 x1 x2 x3 x4 x5 x6 x7 xs
  rw [View.read_writes_eq_canon _ _ _ hcov]
  revert hcov
  unfold kernelRun0_B
  dsimp only
  simp only [kernelRun0_B.sl.r, kernelRun0_B.sl.r_1, kernelRun0_B.sl.r_2, kernelRun0_B.sl.r_3, kernelRun0_B.sl.r_4, kernelRun0_B.sl.cst_17]
  simp only [View.readAt_eq_ld, h1.read_unread, h2.read_unread, h3.read_unread, h4.read_unread, h5.read_unread, h6.read_unread, h7.read_unread, h8.read_unread, h10.read_unread,
    View.ld_unit_zero (S := S256x2048) hz, View.ld_unit_zero (S := S1x2048) hz, View.ld_unit_zero (S := S2048x2048) hz]
  intro hcov
  refine two _ _ _ _ _ (fun r l q hq => ?_) (fun r l q hq => ?_) hcov
  · exact hi_at x0 x1 x2 x3 x4 x5 xs x7 _ _ _ r l q (fun a => ld_at x0 _ r a q hq) (fun a => ld_at x1 _ r a q hq) (fun a => ld_at x2 _ r a q hq)
  · exact lo_at x0 x1 x2 x3 x4 x5 xs x7 _ _ _ r l q (fun a => ld_at x0 _ r a q hq) (fun a => ld_at x1 _ r a q hq) (fun a => ld_at x2 _ r a q hq)

theorem sout_A (c : Dev nD) (i : grid0.Coords) (a1 : Memref sig .tc .vmem S512x2048 .f32) (h1 : a1.IsWhole) (a2 : Memref sig .tc .vmem S512x2048 .f32) (h2 : a2.IsWhole)
    (a3 : Memref sig .tc .vmem S512x256 .f32) (h3 : a3.IsWhole) (a4 : Memref sig .tc .vmem S1x2048 .f32) (h4 : a4.IsWhole) (a5 : Memref sig .tc .vmem S1x2048 .f32) (h5 : a5.IsWhole)
    (a6 : Memref sig .tc .vmem S2048x2048 .bf16) (h6 : a6.IsWhole) (a7 : Memref sig .tc .vmem S256x2048 .f32) (h7 : a7.IsWhole) (a8 : Memref sig .tc .vmem S1x2048 .f32) (h8 : a8.IsWhole)
    (a9 : Memref sig .tc .vmem S512x2048 .f32) (h9 : a9.IsWhole) (a10 : Memref sig .tc .vmem S256x2048 .bf16) (h10 : a10.IsWhole) (hc : cond0_0 i)
    (x0 x1 : Vec Ideal S512x2048 .f32) (x2 : Vec Ideal S512x256 .f32) (x3 x4 : Vec Ideal S1x2048 .f32) (x5 : Vec Ideal S2048x2048 .bf16) (x6 : Vec Ideal S256x2048 .f32) (x7 : Vec Ideal S1x2048 .f32) :
    sout0_A_0 c i a1 h1 a2 h2 a3 h3 a4 h4 a5 h5 a6 h6 a7 h7 a8 h8 a9 h9 a10 h10 hc x0 x1 x2 x3 x4 x5 x6 x7 = x6 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5 x6 x7)]
  unfold kernelRun0_A
  dsimp only
  simp only [kernelRun0_A.sl.HS0_1, View.readAt_eq_ld, h7.read_unread]
  exact (View.canon_unit_zero hz _ _).trans ((congrArg k0_pay1 (View.ld_unit_zero (S := S256x2048) hz _ _)).trans (pay1_eq x6))

variable (m : (ℓ : Loc nD τ sig) → Buf (Elt Ideal) ℓ) (ρ : Dev nD → PrngReg)

theorem n16 : cfg0.N = 16 := N_0

theorem ixa : ∀ t : Fin cfg0.N, win0_0.index t = ![t.val, 0] := by decide +kernel
theorem ixb : ∀ t : Fin cfg0.N, win0_1.index t = ![t.val, 0] := by decide +kernel
theorem ixc : ∀ t : Fin cfg0.N, win0_2.index t = ![t.val, 0] := by decide +kernel
theorem ixd : ∀ t : Fin cfg0.N, win0_3.index t = ![0, 0] := by decide +kernel
theorem ixe : ∀ t : Fin cfg0.N, win0_4.index t = ![0, 0] := by decide +kernel
theorem ixf : ∀ t : Fin cfg0.N, win0_5.index t = ![0, 0] := by decide +kernel
theorem ixg : ∀ t : Fin cfg0.N, win0_6.index t = ![0, 0] := by decide +kernel
theorem ixh : ∀ t : Fin cfg0.N, win0_7.index t = ![0, 0] := by decide +kernel
theorem ixi : ∀ t : Fin cfg0.N, win0_8.index t = ![t.val, 0] := by decide +kernel

/-- The arguments: the residual stream, the MLP's output, the embeddings, the gains and weights. -/
abbrev A0 (c : Dev nD) : Vec Ideal S8192x2048 .f32 := m ((c : Thread nD τ).loc main_arg0)
abbrev A1 (c : Dev nD) : Vec Ideal S8192x2048 .f32 := m ((c : Thread nD τ).loc main_arg1)
abbrev A2 (c : Dev nD) : Vec Ideal S1x4x2048x256 .f32 := m ((c : Thread nD τ).loc main_arg2)
abbrev A3 (c : Dev nD) : Vec Ideal S1x2048 .f32 := m ((c : Thread nD τ).loc main_arg3)
abbrev A4 (c : Dev nD) : Vec Ideal S1x2048 .f32 := m ((c : Thread nD τ).loc main_arg4)
abbrev A5 (c : Dev nD) : Vec Ideal S2048x2048 .bf16 := m ((c : Thread nD τ).loc main_arg5)
abbrev A6 (c : Dev nD) : Vec Ideal S1x256x2048 .f32 := m ((c : Thread nD τ).loc main_arg6)
abbrev A7 (c : Dev nD) : Vec Ideal S1x2048 .f32 := m ((c : Thread nD τ).loc main_arg7)

theorem vP (c : Dev nD) (q : Fin 8192) (a : Fin 256) : (V m c main_v1 : Vec Ideal S8192x256 .f32) (ix2 q a)
    = A2 m c (ix4 0 ⟨q.val / 2048, by omega⟩ ⟨q.val % 2048, by omega⟩ a) := by
  unfold V
  after_results_simp
  pointwise
theorem vG1 (c : Dev nD) (a : Fin 2048) : (V m c main_v3 : Vec Ideal S1x2048 .f32) (ix2 0 a) = A3 m c (ix2 0 a) := by
  unfold V
  after_results_simp
  pointwise
theorem vG2 (c : Dev nD) (a : Fin 2048) : (V m c main_v5 : Vec Ideal S1x2048 .f32) (ix2 0 a) = A4 m c (ix2 0 a) := by
  unfold V
  after_results_simp
  pointwise
theorem vW (c : Dev nD) (a : Fin 256) (l : Fin 2048) : (V m c main_v6 : Vec Ideal S256x2048 .f32) (ix2 a l) = A6 m c (ix3 0 a l) := by
  unfold V
  after_results_simp
  pointwise
theorem vG3 (c : Dev nD) (a : Fin 2048) : (V m c main_v8 : Vec Ideal S1x2048 .f32) (ix2 0 a) = A7 m c (ix2 0 a) := by
  unfold V
  after_results_simp
  pointwise

theorem b0 (c : Dev nD) (t : Fin cfg0.N) (r : Fin 512) (a : Fin 2048) :
    (iblk m c 0 t : Vec Ideal S512x2048 .f32) (ix2 r a)
      = A0 m c (ix2 ⟨512 * t.val + r.val, by have := t.isLt; have := n16; omega⟩ a) := by
  unfold iblk
  rw [View.read_apply]
  show V m c main_arg0 _ = _
  rw [show V m c main_arg0 = A0 m c from V_main_arg0 m c]
  congr 1
  funext b
  apply Fin.ext
  match b with
  | ⟨0, _⟩ => show win0_0.index t 0 * 512 + 1 * r.val = 512 * t.val + r.val; rw [ixa]; simp; omega
  | ⟨1, _⟩ => show win0_0.index t 1 * 2048 + 1 * a.val = a.val; rw [ixa]; simp

theorem b1 (c : Dev nD) (t : Fin cfg0.N) (r : Fin 512) (a : Fin 2048) :
    (iblk m c 1 t : Vec Ideal S512x2048 .f32) (ix2 r a)
      = A1 m c (ix2 ⟨512 * t.val + r.val, by have := t.isLt; have := n16; omega⟩ a) := by
  unfold iblk
  rw [View.read_apply]
  show V m c main_arg1 _ = _
  rw [show V m c main_arg1 = A1 m c from V_main_arg1 m c]
  congr 1
  funext b
  apply Fin.ext
  match b with
  | ⟨0, _⟩ => show win0_1.index t 0 * 512 + 1 * r.val = 512 * t.val + r.val; rw [ixb]; simp; omega
  | ⟨1, _⟩ => show win0_1.index t 1 * 2048 + 1 * a.val = a.val; rw [ixb]; simp

theorem b2 (c : Dev nD) (t : Fin cfg0.N) (r : Fin 512) (a : Fin 256) :
    (iblk m c 2 t : Vec Ideal S512x256 .f32) (ix2 r a)
      = (V m c main_v1 : Vec Ideal S8192x256 .f32) (ix2 ⟨512 * t.val + r.val, by have := t.isLt; have := n16; omega⟩ a) := by
  unfold iblk
  rw [View.read_apply]
  show V m c main_v1 _ = _
  congr 1
  funext b
  apply Fin.ext
  match b with
  | ⟨0, _⟩ => show win0_2.index t 0 * 512 + 1 * r.val = 512 * t.val + r.val; rw [ixc]; simp; omega
  | ⟨1, _⟩ => show win0_2.index t 1 * 256 + 1 * a.val = a.val; rw [ixc]; simp

theorem b3 (c : Dev nD) (t : Fin cfg0.N) (r : Fin 1) (a : Fin 2048) :
    (iblk m c 3 t : Vec Ideal S1x2048 .f32) (ix2 r a) = (V m c main_v3 : Vec Ideal S1x2048 .f32) (ix2 r a) := by
  unfold iblk
  rw [View.read_apply]
  show V m c main_v3 _ = _
  congr 1
  funext b
  apply Fin.ext
  match b with
  | ⟨0, _⟩ => show win0_3.index t 0 * 1 + 1 * r.val = r.val; rw [ixd]; simp
  | ⟨1, _⟩ => show win0_3.index t 1 * 2048 + 1 * a.val = a.val; rw [ixd]; simp

theorem b4 (c : Dev nD) (t : Fin cfg0.N) (r : Fin 1) (a : Fin 2048) :
    (iblk m c 4 t : Vec Ideal S1x2048 .f32) (ix2 r a) = (V m c main_v5 : Vec Ideal S1x2048 .f32) (ix2 r a) := by
  unfold iblk
  rw [View.read_apply]
  show V m c main_v5 _ = _
  congr 1
  funext b
  apply Fin.ext
  match b with
  | ⟨0, _⟩ => show win0_4.index t 0 * 1 + 1 * r.val = r.val; rw [ixe]; simp
  | ⟨1, _⟩ => show win0_4.index t 1 * 2048 + 1 * a.val = a.val; rw [ixe]; simp

theorem b5 (c : Dev nD) (t : Fin cfg0.N) (r : Fin 2048) (a : Fin 2048) :
    (iblk m c 5 t : Vec Ideal S2048x2048 .bf16) (ix2 r a) = (V m c main_arg5 : Vec Ideal S2048x2048 .bf16) (ix2 r a) := by
  unfold iblk
  rw [View.read_apply]
  show V m c main_arg5 _ = _
  congr 1
  funext b
  apply Fin.ext
  match b with
  | ⟨0, _⟩ => show win0_5.index t 0 * 2048 + 1 * r.val = r.val; rw [ixf]; simp
  | ⟨1, _⟩ => show win0_5.index t 1 * 2048 + 1 * a.val = a.val; rw [ixf]; simp

theorem b6 (c : Dev nD) (t : Fin cfg0.N) (r : Fin 256) (a : Fin 2048) :
    (iblk m c 6 t : Vec Ideal S256x2048 .f32) (ix2 r a) = (V m c main_v6 : Vec Ideal S256x2048 .f32) (ix2 r a) := by
  unfold iblk
  rw [View.read_apply]
  show V m c main_v6 _ = _
  congr 1
  funext b
  apply Fin.ext
  match b with
  | ⟨0, _⟩ => show win0_6.index t 0 * 256 + 1 * r.val = r.val; rw [ixg]; simp
  | ⟨1, _⟩ => show win0_6.index t 1 * 2048 + 1 * a.val = a.val; rw [ixg]; simp

theorem b7 (c : Dev nD) (t : Fin cfg0.N) (r : Fin 1) (a : Fin 2048) :
    (iblk m c 7 t : Vec Ideal S1x2048 .f32) (ix2 r a) = (V m c main_v8 : Vec Ideal S1x2048 .f32) (ix2 r a) := by
  unfold iblk
  rw [View.read_apply]
  show V m c main_v8 _ = _
  congr 1
  funext b
  apply Fin.ext
  match b with
  | ⟨0, _⟩ => show win0_7.index t 0 * 1 + 1 * r.val = r.val; rw [ixh]; simp
  | ⟨1, _⟩ => show win0_7.index t 1 * 2048 + 1 * a.val = a.val; rw [ixh]; simp

/-- The result, row by row. -/
def result (c : Dev nD) : Vec Ideal S8192x2048 .f32 := fun j =>
  row (fun a => A0 m c (ix2 (j 0) a)) (fun a => A1 m c (ix2 (j 0) a)) (fun a => A3 m c (ix2 0 a)) (fun a => A4 m c (ix2 0 a))
    (fun a => A2 m c (ix4 0 ⟨(j 0).val / 2048, by have : (j 0).val < 8192 := (j 0).isLt; omega⟩ ⟨(j 0).val % 2048, by omega⟩ a))
    (fun a b => A5 m c (ix2 a b)) (fun a b => A6 m c (ix3 0 a b)) (fun a => A7 m c (ix2 0 a)) (j 1)

/-- The scratch holds the embedding's weights after every point. -/
theorem scr (c : Dev nD) : ∀ (n : ℕ) (h : n < cfg0.N) (a : Fin 256) (l : Fin 2048),
    (outsAt0 m c n h).2 (ix2 a l) = A6 m c (ix3 0 a l) := by
  intro n
  induction n with
  | zero =>
    intro h a l
    rw [outsAt0_A m c ⟨0, h⟩ rfl]
    dsimp only
    rw [sout_A, b6, vW]
  | succ n ih =>
    intro h a l
    have hN := n16
    rw [outsAt0_B m c ⟨n + 1, h⟩ (by simp only; omega)]
    dsimp only
    unfold sout0_B_0
    exact ih _ a l

theorem blk_of (c : Dev nD) (t : Fin cfg0.N) (s : Vec Ideal S256x2048 .bf16) (hs : ∀ a l, s (ix2 a l) = A6 m c (ix3 0 a l))
    (r : Fin 512) (l : Fin 2048) :
    blk (iblk m c 0 t) (iblk m c 1 t) (iblk m c 2 t) (iblk m c 3 t) (iblk m c 4 t) (iblk m c 5 t) s (iblk m c 7 t) (ix2 r l)
      = result m c (ix2 ⟨512 * t.val + r.val, by have := t.isLt; have := n16; omega⟩ l) := by
  unfold blk result
  congr 1
  · funext a; exact b0 m c t r a
  · funext a; exact b1 m c t r a
  · funext a; exact (b3 m c t 0 a).trans (vG1 m c a)
  · funext a; exact (b4 m c t 0 a).trans (vG2 m c a)
  · funext a; exact (b2 m c t r a).trans (vP m c _ a)
  · funext a b; exact (b5 m c t a b).trans (congrFun (V_main_arg5 m c) _)
  · funext a b; exact hs a b
  · funext a; exact (b7 m c t 0 a).trans (vG3 m c a)

theorem outs_eq (c : Dev nD) (t : Fin cfg0.N) (r : Fin 512) (l : Fin 2048) :
    (outsAt0 m c t.val t.isLt).1 (ix2 r l) = result m c (ix2 ⟨512 * t.val + r.val, by have := t.isLt; have := n16; omega⟩ l) := by
  by_cases h0 : t.val % 16 = 0
  · rw [outsAt0_A m c t h0]
    dsimp only
    rw [out_A]
    exact blk_of m c t _ (fun a l => (b6 m c t a l).trans (vW m c a l)) r l
  · rw [outsAt0_B m c t h0]
    dsimp only
    rw [out_B]
    exact blk_of m c t _ (fun a l => scr m c _ _ a l) r l

/-- The write-backs write the result's row blocks. -/
theorem flushed_eq (c : Dev nD) (t : Fin cfg0.N) (hf : (cfg0.win 8).flush t = true) :
    (dats m 0 c).flushed 8 t = ((cfg0.win 8).blk t).view.read (Elt Ideal) (result m c) := by
  rw [Value.flushed8]
  funext j
  rw [View.read_apply]
  obtain ⟨r, l, rfl⟩ : ∃ (r : Fin 512) (l : Fin 2048), j = ix2 r l := ⟨j 0, j 1, eq_ix2 j⟩
  show (outsAt0 m c t.val t.isLt).1 (ix2 r l) = result m c _
  rw [outs_eq]
  congr 1
  funext b
  apply Fin.ext
  match b with
  | ⟨0, _⟩ => show 512 * t.val + r.val = win0_8.index t 0 * 512 + 1 * r.val; rw [ixi]; simp; omega
  | ⟨1, _⟩ => show l.val = win0_8.index t 1 * 2048 + 1 * l.val; rw [ixi]; simp

theorem final_o (c : Dev nD) : (dats m 0 c).arrAt 8 cfg0.N = result m c :=
  (dats m 0 c).arrAt_eq_of_cover 8 (result m c) (flushed_eq m c) fun i => by
    have h0 : (i 0 : Nat) < 8192 := (i 0).isLt
    have h1 : (i 1 : Nat) < 2048 := (i 1).isLt
    have hN := n16
    obtain ⟨t, ht⟩ : ∃ t : Fin cfg0.N, t.val = (i 0 : Nat) / 512 := ⟨⟨_, by omega⟩, rfl⟩
    refine ⟨t, flush0_8 t, ?_⟩
    show i ∈ ((View.whole main_v9).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [ixi]; simp; omega
    | ⟨1, _⟩ =>
      show win0_8.index t 1 * 2048 ≤ (i 1 : Nat) ∧ (i 1 : Nat) < win0_8.index t 1 * 2048 + 2048
      rw [ixi]; simp; omega

theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1).trans (final_o m c), (h c).2⟩) (Value.run_blocks m ρ)

end Cert.Kernel3Ideal.Ple

namespace Cert.Proof.PleClaims

open Cert.Kernel3Ideal.Ple
open Cert.Reference3Ideal Cert.Reference3Ideal.Gen

/-- The reference's norm of every row. -/
def hn (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))

/-- The reference's gate times embedding. -/
def hg (n : FVec Ideal S8192x2048 .f32) (p : FVec Ideal S1x4x2048x256 .f32) (wg : FVec Ideal S2048x2048 .bf16) (wp : FVec Ideal S1x256x2048 .f32) :
    FVec Ideal S8192x2048 .f32 :=
  mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral (so := S8192x2048) (φ₁ := .f32) (φ₂ := .bf16) dot_S8192x2048_S2048x2048_S8192x2048_1_0_0_1_n_n none n wg)))))
    (Host.dotGeneral (so := S8192x2048) (φ₁ := .f32) (φ₂ := .f32) dot_S8192x256_S256x2048_S8192x2048_1_0_0_1_n_n none (shapeCast _ (shapeCast _ p shapeCasts_S1x4x2048x256_S4x2048x256) shapeCasts_S4x2048x256_S8192x256) (shapeCast _ wp shapeCasts_S1x256x2048_S256x2048))

theorem hn_at (x : FVec Ideal S8192x2048 .f32) (g : FVec Ideal S1x2048 .f32) (r : Fin 8192) (l : Fin 2048) :
    hn x g (ix2 r l) = nrm (fun a => x (ix2 r a)) (fun a => g (ix2 0 a)) l := by
  pointwise [hn, nrm]

theorem hg_at (n : FVec Ideal S8192x2048 .f32) (p : FVec Ideal S1x4x2048x256 .f32) (wg : FVec Ideal S2048x2048 .bf16) (wp : FVec Ideal S1x256x2048 .f32)
    (r : Fin 8192) (l : Fin 2048) :
    hg n p wg wp (ix2 r l) = gat (fun a => n (ix2 r a)) (fun a => p (ix4 0 ⟨r.val / 2048, by omega⟩ ⟨r.val % 2048, by omega⟩ a))
      (fun a b => wg (ix2 a b)) (fun a b => wp (ix3 0 a b)) l := by
  pointwise [hg, gat]
  rfl

theorem res_eq (m' : (ℓ : Loc nD τ sig) → Buf (Elt Ideal) ℓ) (c : Dev nD) :
    Cert.Reference3Ideal.Value.res_main_v55 m' c
      = addf (F := Ideal) (s := S8192x2048) (φ := .f32) (addf (m' ((c.tc : Thread nD τ).loc main_arg0)) (hn (m' ((c.tc : Thread nD τ).loc main_arg1)) (m' ((c.tc : Thread nD τ).loc main_arg3))))
          (hn (hg (hn (addf (m' ((c.tc : Thread nD τ).loc main_arg0)) (hn (m' ((c.tc : Thread nD τ).loc main_arg1)) (m' ((c.tc : Thread nD τ).loc main_arg3)))) (m' ((c.tc : Thread nD τ).loc main_arg4)))
            (m' ((c.tc : Thread nD τ).loc main_arg2)) (m' ((c.tc : Thread nD τ).loc main_arg5)) (m' ((c.tc : Thread nD τ).loc main_arg6))) (m' ((c.tc : Thread nD τ).loc main_arg7))) := rfl

theorem row_eq (x0 x1 : FVec Ideal S8192x2048 .f32) (x2 : FVec Ideal S1x4x2048x256 .f32) (x3 x4 : FVec Ideal S1x2048 .f32)
    (x5 : FVec Ideal S2048x2048 .bf16) (x6 : FVec Ideal S1x256x2048 .f32) (x7 : FVec Ideal S1x2048 .f32) (r : Fin 8192) (l : Fin 2048) :
    (addf (addf x0 (hn x1 x3)) (hn (hg (hn (addf x0 (hn x1 x3)) x4) x2 x5 x6) x7)) (ix2 r l)
      = row (fun a => x0 (ix2 r a)) (fun a => x1 (ix2 r a)) (fun a => x3 (ix2 0 a)) (fun a => x4 (ix2 0 a))
          (fun a => x2 (ix4 0 ⟨r.val / 2048, by omega⟩ ⟨r.val % 2048, by omega⟩ a)) (fun a b => x5 (ix2 a b)) (fun a b => x6 (ix3 0 a b)) (fun a => x7 (ix2 0 a)) l := by
  have hh : ∀ a, (addf x0 (hn x1 x3)) (ix2 r a) = x0 (ix2 r a) + nrm (fun a => x1 (ix2 r a)) (fun a => x3 (ix2 0 a)) a := fun a => by
    rw [← hn_at]; rfl
  show (addf x0 (hn x1 x3)) (ix2 r l) + hn (hg (hn (addf x0 (hn x1 x3)) x4) x2 x5 x6) x7 (ix2 r l) = _
  rw [hn_at]
  simp only [hg_at, hn_at, hh]
  rfl

theorem frame_ref : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' hp hagree
  refine ⟨fun c => result m c, run m ρ, ?_⟩
  refine (θ_run Cert.Reference3Ideal.defs _ _).mono (fun _ h c => ?_) (Cert.Reference3Ideal.Value.run (F := Ideal) m' ρ')
  refine ⟨(h c).1.trans ?_, (h c).2⟩
  obtain ⟨e0, e1, e2, e3, e4, e5, e6, e7⟩ := hagree c
  rw [res_eq, e0, e1, e2, e3, e4, e5, e6, e7]
  funext j
  obtain ⟨r, l, rfl⟩ : ∃ (r : Fin 8192) (l : Fin 2048), j = ix2 r l := ⟨j 0, j 1, eq_ix2 j⟩
  exact row_eq _ _ _ _ _ _ _ _ r l

end Cert.Proof.PleClaims

end
-- ==== Proof.MixRows.lean ====
/-
  The mixing call's two chunks of a block, as one function of what they read, and that function row by row.
-/
module

public import proofs.«01_k».proof.Defs
public import proofs.«01_k».proof.Proof.Gen.Kernel4Ideal.Value
public import Idealize.ShloMosaic.Lib.Pipeline.Value
public import Idealize.ShloMosaic.Lib.StableHlo.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

abbrev KV (s : Shape) := FVec Ideal s .f32

/-- A pass of doubling: the array plus itself turned by `n` rows. -/
def dbl (n : BitVec 32) (X : KV S272x256) : KV S272x256 := addf X (dynamicRotate 0 n none X rotates_S272x256_d0)

/-- The last 256 rows. -/
def tl (X : KV S272x256) : KV S256x256 := extractStridedSlice S256x256 ![16, 0] X slices_S272x256_o16_0_S256x256

/-- One group: the mean of the window less the row, times the group's weights and gains. -/
def gv (z cur : KV S256x256) (pos : KV S256x1) (w : BitVec 32) (wp : FVec Ideal S256x256 .bf16) (ps : Vec Ideal S1x256 .f32) : KV S256x256 :=
  mulf (matmul dot_S256x256_S256x256_S256x256_1_0_0_1_n_n none
      (truncf .bf16 (subf (divf z (broadcastTo S256x256 (minimumf (addf pos (broadcast S256x1 (Scalar.ofBits (F := Ideal) .f32 0x3F800000#32))) (broadcast S256x1 (Scalar.ofBits (F := Ideal) .f32 w))) broadcasts_S256x1_S256x256)) cur) bitsLt_bf16_f32)
      wp (constant S256x256 .f32 0x00000000#32))
    (broadcastTo S256x256 (shapeCast S1x256 ps shapeCasts_S1x256_S1x256) broadcasts_S1x256_S256x256)

/-- The four groups side by side. -/
def pv (y1 y2 y3 y4 : KV S256x256) : KV S256x1024 :=
  concatenate S256x1024 1 [⟨S256x256, y1⟩, ⟨S256x256, y2⟩, ⟨S256x256, y3⟩, ⟨S256x256, y4⟩] concatenates_S256x256_S256x256_S256x256_S256x256_S256x1024_d1

/-- The norm of rows of 1024. -/
def n1 (x : KV S256x1024) (g : Vec Ideal S1x1024 .f32) : FVec Ideal S256x1024 .bf16 :=
  truncf .bf16 (mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits (F := Ideal) .f32 0x44800000#32))) (broadcast S256x1 (Scalar.ofBits (F := Ideal) .f32 0x358637BD#32)))) broadcasts_S256x1_S256x1024))
    (broadcastTo S256x1024 (shapeCast S1x1024 g shapeCasts_S1x1024_S1x1024) broadcasts_S1x1024_S256x1024)) bitsLt_bf16_f32

/-- The norm of rows of 2048. -/
def n2 (x : KV S256x2048) (g : Vec Ideal S1x2048 .f32) : KV S256x2048 :=
  mulf (mulf x (broadcastTo S256x2048 (rsqrt (addf (divf (shapeCast S256x1 (multiReduction .add [1] S256 (mulf x x) 0x00000000#32 reduces_S256x2048_S256 (.inl rfl) rfl) shapeCasts_S256_S256x1) (broadcast S256x1 (Scalar.ofBits (F := Ideal) .f32 0x45000000#32))) (broadcast S256x1 (Scalar.ofBits (F := Ideal) .f32 0x358637BD#32)))) broadcasts_S256x1_S256x2048))
    (broadcastTo S256x2048 (shapeCast S1x2048 g shapeCasts_S1x2048_S1x2048) broadcasts_S1x2048_S256x2048)

/-- The two normed halves times their weights. -/
def mx (p h : KV S256x1024) (gp ga : Vec Ideal S1x1024 .f32) (w1 w2 : Vec Ideal S1024x2048 .bf16) : KV S256x2048 :=
  addf (matmul (φ₂ := .bf16) dot_S256x1024_S1024x2048_S256x2048_1_0_0_1_n_n none (n1 p gp) w1 (constant S256x2048 .f32 0x00000000#32))
    (matmul (φ₂ := .bf16) dot_S256x1024_S1024x2048_S256x2048_1_0_0_1_n_n none (n1 h ga) w2 (constant S256x2048 .f32 0x00000000#32))

/-- A chunk of the first result. -/
def hv (p h : KV S256x1024) (gp ga : Vec Ideal S1x1024 .f32) (w1 w2 : Vec Ideal S1024x2048 .bf16) (x : Vec Ideal S256x2048 .f32) (gm : Vec Ideal S1x2048 .f32) : KV S256x2048 :=
  addf (shapeCast S256x2048 x shapeCasts_S256x2048_S256x2048) (n2 (mx p h gp ga w1 w2) gm)

/-- A chunk of the second result. -/
def nv (y : KV S256x2048) (gn : Vec Ideal S1x2048 .f32) : FVec Ideal S256x2048 .bf16 := truncf .bf16 (n2 y gn) bitsLt_bf16_f32

theorem e9 (v10 v15 v24 v29 v30 v38 v40 v57) :
    k0_pay9 (F := Ideal) v10 v15 v24 v29 v30 v38 v40 v57 = gv (tl (dbl 1#32 (k0_pay11 v10 v38 v40))) (k0_pay10 v38) (k0_pay8 v24 v29 v30) 0x40000000#32 v15 v57 := rfl
theorem e12 (v17 v37 v62 v67 v82) :
    k0_pay12 (F := Ideal) v17 v37 v62 v67 1#32 v82 = gv (tl (dbl 2#32 (dbl 1#32 v67))) v62 v37 0x40800000#32 v17 v82 := rfl
theorem e14 (v10 v19 v21 v37 v60 v85 v86 v88 v109 v113 v115 v138) :
    k0_pay14 (F := Ideal) v10 v21 v37 v60 v85 (k0_pay13 v10 v19 v37 v86 v88) v109 v113 v115 v138
      = pv v60 v85 (gv (tl (dbl 4#32 (dbl 2#32 (dbl 1#32 (k0_pay11 v10 v86 v88))))) (k0_pay10 v86) v37 0x41000000#32 v19 v109)
          (gv (tl (dbl 8#32 (dbl 4#32 (dbl 2#32 (dbl 1#32 (k0_pay11 v10 v113 v115)))))) (k0_pay10 v113) v37 0x41800000#32 v21 v138) := rfl
theorem e20 (v142 v144 v145 v147 v149 v151 v153 v155 v157 v160 v175 v190 v192 v195 v197) :
    k0_pay20 (F := Ideal) (k0_pay16 v144 v145 v147 v149 v151 v153 v155 v157) (k0_pay17 v142 v160) (k0_pay18 v175) (k0_pay19 v144 v145 v147 v149 v151 v153 v155 v157) v190 v192 v195 v197
      = hv v142 (k0_pay16 v144 v145 v147 v149 v151 v153 v155 v157) v160 v175 v190 v192 v195 v197 := rfl
theorem e23 (v159 v174 v176 v178 v190 v192 v195 v197 v213) :
    k0_pay23 (F := Ideal) (k0_pay20 v159 v174 v176 v178 v190 v192 v195 v197) (k0_pay21 v213) (k0_pay22 v159 v174 v176 v178 v190 v192 v195 v197)
      = nv (k0_pay20 v159 v174 v176 v178 v190 v192 v195 v197) v213 := rfl
theorem e29 (a0 v15 v245 v247 v262) :
    k0_pay29 (F := Ideal) v15 (k0_pay25 v245) (k0_pay26 v245 v247) (k0_pay27 a0) k0_pay28 v262
      = gv (tl (dbl 1#32 (k0_pay32 v245 v247))) (k0_pay10 v245) (k0_pay24 a0) 0x40000000#32 v15 v262 := rfl
theorem e30 (v17 v244 v266 v268 v285) :
    k0_pay30 (F := Ideal) v17 v244 v266 v268 v285 = gv (tl (dbl 2#32 (dbl 1#32 (k0_pay32 v266 v268)))) (k0_pay10 v266) v244 0x40800000#32 v17 v285 := rfl
theorem e33 (v19 v244 v290 v293 v310) :
    k0_pay33 (F := Ideal) v19 v244 v290 v293 v310 = gv (tl (dbl 4#32 (dbl 2#32 (dbl 1#32 v293)))) v290 v244 0x41000000#32 v19 v310 := rfl
theorem e36 (v21 v244 v265 v288 v313 v314 v316 v337) :
    k0_pay36 (F := Ideal) v21 v265 v288 v313 (k0_pay34 v314) (k0_pay35 v244 v314 v316) v337
      = pv v265 v288 v313 (gv (tl (dbl 8#32 (dbl 4#32 (dbl 2#32 (dbl 1#32 (k0_pay32 v314 v316)))))) (k0_pay10 v314) v244 0x41800000#32 v21 v337) := rfl
theorem e37 (v342 v344 v346 v348 v350 v352 v354 v356) :
    k0_pay37 (F := Ideal) v342 v344 v346 v348 v350 v352 v354 v356 = k0_pay16 (k0_pay15 v342) v344 v346 v348 v350 v352 v354 v356 := rfl
theorem e1 (v21 v265 v288 v313 v315 v333 v337 v358 v359 v374 v389 v391 v394 v396) :
    k0_pay1 (F := Ideal) (k0_pay40 (k0_pay36 v21 v265 v288 v313 v315 v333 v337) v358 (k0_pay38 v359) (k0_pay39 v21 v265 v288 v313 v315 v333 v337) v374 v389 v391) (k0_pay41 v394) (k0_pay42 v396)
        (k0_pay43 (k0_pay36 v21 v265 v288 v313 v315 v333 v337) v358 (k0_pay38 v359) (k0_pay39 v21 v265 v288 v313 v315 v333 v337) v374 v389 v391) k0_pay44
      = hv (k0_pay36 v21 v265 v288 v313 v315 v333 v337) v358 v359 v374 v389 v391 v394 v396 := rfl
theorem e2 (v393 v395 v397 v402 v403 v412) :
    k0_pay2 (F := Ideal) v393 v395 v397 v402 v403 v412 = nv (k0_pay1 v393 v395 v397 v402 v403) v412 := rfl

/-- A row's norm over `n` columns, `d` the columns' number as a float. -/
def nrm {n : ℕ} (d : BitVec 32) (f g : Fin n → EReal) (l : Fin n) : EReal :=
  f l * Ideal.rsqrt (Ideal.div (∑ a : Fin n, f a * f a) (Ideal.ofBits .f32 d) + Ideal.ofBits .f32 0x358637BD#32) * g l

theorem n1_at (x : KV S256x1024) (g : Vec Ideal S1x1024 .f32) (r : Fin 256) (l : Fin 1024) :
    n1 x g (ix2 r l) = nrm 0x44800000#32 (fun a => x (ix2 r a)) (fun a => g (ix2 0 a)) l := by
  pointwise [n1, nrm]
theorem n2_at (x : KV S256x2048) (g : Vec Ideal S1x2048 .f32) (r : Fin 256) (l : Fin 2048) :
    n2 x g (ix2 r l) = nrm 0x45000000#32 (fun a => x (ix2 r a)) (fun a => g (ix2 0 a)) l := by
  pointwise [n2, nrm]
theorem nv_at (x : KV S256x2048) (g : Vec Ideal S1x2048 .f32) (r : Fin 256) (l : Fin 2048) :
    nv x g (ix2 r l) = nrm 0x45000000#32 (fun a => x (ix2 r a)) (fun a => g (ix2 0 a)) l := n2_at x g r l

/-- A mixed row. -/
def mrow (p h gp ga : Fin 1024 → EReal) (w1 w2 : Fin 1024 → Fin 2048 → EReal) (l : Fin 2048) : EReal :=
  (∑ a : Fin 1024, nrm 0x44800000#32 p gp a * w1 a l) + ∑ a : Fin 1024, nrm 0x44800000#32 h ga a * w2 a l

theorem mx_at (p h : KV S256x1024) (gp ga : Vec Ideal S1x1024 .f32) (w1 w2 : Vec Ideal S1024x2048 .bf16) (r : Fin 256) (l : Fin 2048) :
    mx p h gp ga w1 w2 (ix2 r l) = mrow (fun a => p (ix2 r a)) (fun a => h (ix2 r a)) (fun a => gp (ix2 0 a)) (fun a => ga (ix2 0 a))
      (fun a b => w1 (ix2 a b)) (fun a b => w2 (ix2 a b)) l := by
  unfold mx
  have e1 := fun a => n1_at p gp r a
  have e2 := fun a => n1_at h ga r a
  generalize n1 p gp = u at *
  generalize n1 h ga = v at *
  unfold mrow
  simp only [← e1, ← e2]
  pointwise

/-- A row of the first result. -/
def hrow (p h gp ga : Fin 1024 → EReal) (w1 w2 : Fin 1024 → Fin 2048 → EReal) (x gm : Fin 2048 → EReal) (l : Fin 2048) : EReal :=
  x l + nrm 0x45000000#32 (mrow p h gp ga w1 w2) gm l

theorem hv_at (p h : KV S256x1024) (gp ga : Vec Ideal S1x1024 .f32) (w1 w2 : Vec Ideal S1024x2048 .bf16) (x : Vec Ideal S256x2048 .f32) (gm : Vec Ideal S1x2048 .f32) (r : Fin 256) (l : Fin 2048) :
    hv p h gp ga w1 w2 x gm (ix2 r l) = hrow (fun a => p (ix2 r a)) (fun a => h (ix2 r a)) (fun a => gp (ix2 0 a)) (fun a => ga (ix2 0 a))
      (fun a b => w1 (ix2 a b)) (fun a b => w2 (ix2 a b)) (fun a => x (ix2 r a)) (fun a => gm (ix2 0 a)) l := by
  unfold hv
  have e2 := fun a => mx_at p h gp ga w1 w2 r a
  generalize mx p h gp ga w1 w2 = u at *
  have e := n2_at u gm r l
  generalize n2 u gm = v at *
  unfold hrow
  rw [← funext e2, ← e]
  pointwise

/-- A group's entry. -/
def grp (z cur : Fin 256 → EReal) (pos : EReal) (w : BitVec 32) (wp : Fin 256 → EReal) (s : EReal) : EReal :=
  (∑ a : Fin 256, (Ideal.div (z a) (min (pos + Ideal.ofBits .f32 0x3F800000#32) (Ideal.ofBits .f32 w)) - cur a) * wp a) * s

theorem gv_at (z cur : KV S256x256) (pos : KV S256x1) (w : BitVec 32) (wp : FVec Ideal S256x256 .bf16) (ps : Vec Ideal S1x256 .f32) (r c : Fin 256) :
    gv z cur pos w wp ps (ix2 r c) = grp (fun a => z (ix2 r a)) (fun a => cur (ix2 r a)) (pos (ix2 r 0)) w (fun a => wp (ix2 a c)) (ps (ix2 0 c)) := by
  pointwise [gv, grp]

theorem pv_at (y0 y1 y2 y3 : KV S256x256) (r : Fin 256) (P : Fin 4 → Fin 256 → EReal)
    (h0 : ∀ c, y0 (ix2 r c) = P 0 c) (h1 : ∀ c, y1 (ix2 r c) = P 1 c) (h2 : ∀ c, y2 (ix2 r c) = P 2 c) (h3 : ∀ c, y3 (ix2 r c) = P 3 c) (a : Fin 1024) :
    pv y0 y1 y2 y3 (ix2 r a) = P ⟨a.val / 256, by omega⟩ ⟨a.val % 256, by omega⟩ := by
  pointwise [pv]
  simp only [h0, h1, h2, h3]
  split_ifs <;> congr 1 <;> apply Fin.ext <;> simp only [Fin.val_zero, Fin.val_one, Fin.val_two, show ((3 : Fin 4) : ℕ) = 3 from rfl] <;> omega

theorem heads_at (y0 y1 y2 y3 y4 y5 y6 y7 : Vec Ideal S1x256x128 .f32) (r : Fin 256) (P : Fin 8 → Fin 128 → EReal)
    (h0 : ∀ c, y0 (ix3 0 r c) = P 0 c) (h1 : ∀ c, y1 (ix3 0 r c) = P 1 c) (h2 : ∀ c, y2 (ix3 0 r c) = P 2 c) (h3 : ∀ c, y3 (ix3 0 r c) = P 3 c)
    (h4 : ∀ c, y4 (ix3 0 r c) = P 4 c) (h5 : ∀ c, y5 (ix3 0 r c) = P 5 c) (h6 : ∀ c, y6 (ix3 0 r c) = P 6 c) (h7 : ∀ c, y7 (ix3 0 r c) = P 7 c) (a : Fin 1024) :
    k0_pay16 (k0_pay15 y0) y1 y2 y3 y4 y5 y6 y7 (ix2 r a) = P ⟨a.val / 128, by omega⟩ ⟨a.val % 128, by omega⟩ := by
  pointwise [k0_pay16, k0_pay15]
  simp only [h0, h1, h2, h3, h4, h5, h6, h7]
  split_ifs <;> congr 1 <;> apply Fin.ext <;> simp only [Fin.val_zero, Fin.val_one, Fin.val_two, show ((3 : Fin 8) : ℕ) = 3 from rfl, show ((4 : Fin 8) : ℕ) = 4 from rfl,
    show ((5 : Fin 8) : ℕ) = 5 from rfl, show ((6 : Fin 8) : ℕ) = 6 from rfl, show ((7 : Fin 8) : ℕ) = 7 from rfl] <;> omega

/-- An array's entry by a plain row number. -/
def ext (X : KV S272x256) (n : ℕ) (c : Fin 256) : EReal := if h : n < 272 then X (ix2 ⟨n, h⟩ c) else 0

theorem dbl_ext (X : KV S272x256) (w : ℕ) (hw : w = 1 ∨ w = 2 ∨ w = 4 ∨ w = 8) (n : ℕ) (hn : n < 272) (hwn : w ≤ n) (c : Fin 256) :
    ext (dbl (BitVec.ofNat 32 w) X) n c = ext X n c + ext X (n - w) c := by
  have h2 : n - w < 272 := by omega
  rw [ext, dif_pos hn, ext, dif_pos hn, ext, dif_pos h2]
  rcases hw with rfl | rfl | rfl | rfl
  all_goals
    pointwise [dbl]
    congr 2
    funext b
    apply Fin.ext
    match b with
    | ⟨0, _⟩ => show (n + 272 - _) % 272 = n - _; omega
    | ⟨1, _⟩ => rfl

theorem tl_at (X : KV S272x256) (r c : Fin 256) : tl X (ix2 r c) = ext X (16 + r.val) c := by
  rw [ext, dif_pos (by omega)]
  pointwise [tl]

/-- What the doublings leave: the window's sum. -/
def wsum (X : KV S272x256) (w n : ℕ) (c : Fin 256) : EReal := ∑ k ∈ Finset.range w, ext X (n - k) c

theorem wsum_dbl (X A : KV S272x256) (w : ℕ) (hw : w = 1 ∨ w = 2 ∨ w = 4 ∨ w = 8)
    (hA : ∀ n c, n < 272 → w ≤ n + 1 → ext A n c = wsum X w n c) :
    ∀ n c, n < 272 → 2 * w ≤ n + 1 → ext (dbl (BitVec.ofNat 32 w) A) n c = wsum X (2 * w) n c := by
  intro n c hn h
  have hw0 : 0 < w := by omega
  rw [dbl_ext A w hw n hn (by omega), hA n c hn (by omega), hA (n - w) c (by omega) (by omega)]
  unfold wsum
  rw [two_mul, Finset.sum_range_add]
  congr 1
  refine Finset.sum_congr rfl fun k _ => ?_
  rw [Nat.sub_sub]

theorem w1 (X : KV S272x256) : ∀ n c, n < 272 → 1 ≤ n + 1 → ext X n c = wsum X 1 n c := fun n c _ _ => by
  simp [wsum]
theorem t2 (X : KV S272x256) (r c : Fin 256) : tl (dbl 1#32 X) (ix2 r c) = wsum X 2 (16 + r.val) c :=
  (tl_at _ r c).trans (wsum_dbl X X 1 (by simp) (w1 X) _ c (by omega) (by omega))
theorem t4 (X : KV S272x256) (r c : Fin 256) : tl (dbl 2#32 (dbl 1#32 X)) (ix2 r c) = wsum X 4 (16 + r.val) c :=
  (tl_at _ r c).trans (wsum_dbl X _ 2 (by simp) (wsum_dbl X X 1 (by simp) (w1 X)) _ c (by omega) (by omega))
theorem t8 (X : KV S272x256) (r c : Fin 256) : tl (dbl 4#32 (dbl 2#32 (dbl 1#32 X))) (ix2 r c) = wsum X 8 (16 + r.val) c :=
  (tl_at _ r c).trans (wsum_dbl X _ 4 (by simp) (wsum_dbl X _ 2 (by simp) (wsum_dbl X X 1 (by simp) (w1 X))) _ c (by omega) (by omega))
theorem t16 (X : KV S272x256) (r c : Fin 256) : tl (dbl 8#32 (dbl 4#32 (dbl 2#32 (dbl 1#32 X)))) (ix2 r c) = wsum X 16 (16 + r.val) c :=
  (tl_at _ r c).trans (wsum_dbl X _ 8 (by simp) (wsum_dbl X _ 4 (by simp) (wsum_dbl X _ 2 (by simp) (wsum_dbl X X 1 (by simp) (w1 X)))) _ c (by omega) (by omega))

theorem pay11_ext (v10 : BitVec 1) (v61 : Vec Ideal S1x256x256 .f32) (v63 : Vec Ideal S1x16x256 .f32) (n : ℕ) (hn : n < 272) (c : Fin 256) :
    ext (k0_pay11 v10 v61 v63) n c = if h : n < 16 then (if v10 = 1#1 then 0 else v63 (ix3 0 ⟨n, h⟩ c)) else v61 (ix3 0 ⟨n - 16, by omega⟩ c) := by
  rw [ext, dif_pos hn]
  pointwise [k0_pay11, k0_pay10]
  rfl
theorem pay32_ext (v61 : Vec Ideal S1x256x256 .f32) (v63 : Vec Ideal S1x16x256 .f32) (n : ℕ) (hn : n < 272) (c : Fin 256) :
    ext (k0_pay32 v61 v63) n c = if h : n < 16 then v63 (ix3 0 ⟨n, h⟩ c) else v61 (ix3 0 ⟨n - 16, by omega⟩ c) := by
  rw [ext, dif_pos hn]
  pointwise [k0_pay32, k0_pay31]
theorem pay10_at (v : Vec Ideal S1x256x256 .f32) (r c : Fin 256) : k0_pay10 v (ix2 r c) = v (ix3 0 r c) := by
  pointwise [k0_pay10]
theorem pay4_at (v : Vec Ideal S1x256x256 .bf16) (r c : Fin 256) : k0_pay4 v (ix2 r c) = v (ix3 0 r c) := by
  pointwise [k0_pay4]
theorem pay5_eq (v : Vec Ideal S1x256x256 .bf16) : k0_pay5 v = k0_pay4 v := rfl
theorem pay3_eq (v : Vec Ideal S4x256x256 .f32) : (k0_pay3 v : S4x256x256.Idx → EReal) = v := by
  funext j
  idx_vars j
  pointwise [k0_pay3]
/-- A row's position, as a float. -/
theorem pos_word (b : BitVec 32) (n r : ℕ) (hb : b = BitVec.ofNat 32 n) (h : n + r < 4096) :
    (FloatOps.sitofp .f32 (IntOp.addi b (BitVec.ofNat 32 r)) : Ideal .f32) = (((n + r : ℕ) : ℝ) : EReal) := by
  subst hb
  show ((((BitVec.ofNat 32 n + BitVec.ofNat 32 r).toInt : ℤ) : ℝ) : EReal) = _
  rw [← BitVec.ofNat_add, BitVec.toInt_eq_toNat_of_lt (by simp only [BitVec.toNat_ofNat]; omega), BitVec.toNat_ofNat, Nat.mod_eq_of_lt (by omega)]
  simp

/-- The word of the second chunk's first row. -/
def word24 (arg0 : BitVec 32) : BitVec 32 :=
  let v229 : BitVec 1 := Scalar.cmpi .eq 4#32 0#32
  let v230 : BitVec 32 := Scalar.select v229 1#32 4#32
  let v231 : BitVec 32 := Scalar.remsi arg0 v230
  let v232 : BitVec 1 := Scalar.cmpi .ne v231 0#32
  let v233 : BitVec 1 := Scalar.cmpi .slt v231 0#32
  let v234 : BitVec 1 := Scalar.cmpi .slt v230 0#32
  let v235 : BitVec 1 := Scalar.xori v233 v234
  let v236 : BitVec 1 := Scalar.andi v235 v232
  let v237 : BitVec 32 := Scalar.addi v231 v230
  let v238 : BitVec 32 := Scalar.select v236 v237 v231
  Scalar.addi (Scalar.muli v238 512#32) 256#32

theorem pay24_at (a0 : BitVec 32) (n : ℕ) (hb : word24 a0 = BitVec.ofNat 32 n) (hn : n < 2048) (r : Fin 256) :
    k0_pay24 (F := Ideal) a0 (ix2 r 0) = (((n + r.val : ℕ) : ℝ) : EReal) := by
  rw [← pos_word _ n r.val hb (by omega)]
  pointwise [k0_pay24]
  rfl
theorem pay8_at (a0 : BitVec 32) (b : BitVec 1) (c : BitVec 32) (n : ℕ) (hb : Scalar.addi (Scalar.muli (Scalar.select b c a0) 512#32) 0#32 = BitVec.ofNat 32 n) (hn : n < 2048) (r : Fin 256) :
    k0_pay8 (F := Ideal) a0 b c (ix2 r 0) = (((n + r.val : ℕ) : ℝ) : EReal) := by
  rw [← pos_word _ n r.val hb (by omega)]
  pointwise [k0_pay8]

/-- A group's entry from what it reads. -/
theorem grp_congr {z z' cur cur' wp wp' : Fin 256 → EReal} {pos pos' s s' : EReal} {w w' : BitVec 32} (h1 : z = z') (h2 : cur = cur') (h3 : pos = pos') (h4 : w = w')
    (h5 : wp = wp') (h6 : s = s') : grp z cur pos w wp s = grp z' cur' pos' w' wp' s' := by subst h1 h2 h3 h4 h5 h6; rfl

end Cert.Kernel4Ideal.Mix

end
-- ==== Proof.MixOut.lean ====
/-
  What one point of the mixing call leaves in its two output blocks.
-/
module

public import proofs.«01_k».proof.Defs
public import proofs.«01_k».proof.Proof.Gen.Kernel4Ideal.Value
public import proofs.«01_k».proof.Proof.MixRows
public import Idealize.ShloMosaic.Lib.Pipeline.Value
public import Idealize.ShloMosaic.Lib.StableHlo.Run
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

theorem ld3 {A B C n1 n2 o0 o1 o2 : ℕ} {e : EltTy} (X : Vec Ideal ⟨3, ![A, B, C]⟩ e) (inb) (r : Fin n1) (c : Fin n2) (i : Fin A) (j : Fin B) (k : Fin C)
    (hi : i.val = o0) (hj : j.val = o1 + r.val) (hk : k.val = o2 + c.val) :
    View.ld X (Rect.unit (s := ⟨3, ![A, B, C]⟩) ![o0, o1, o2] ![1, n1, n2] inb) (ix3 0 r c) = X (ix3 i j k) := by
  show X _ = _
  congr 1
  funext b
  apply Fin.ext
  match b with
  | ⟨0, _⟩ => show o0 + 1 * 0 = i.val; omega
  | ⟨1, _⟩ => show o1 + 1 * r.val = j.val; omega
  | ⟨2, _⟩ => show o2 + 1 * c.val = k.val; omega

theorem ld2 {A B n1 n2 o1 o2 : ℕ} {e : EltTy} (X : Vec Ideal ⟨2, ![A, B]⟩ e) (inb) (r : Fin n1) (c : Fin n2) (j : Fin A) (k : Fin B)
    (hj : j.val = o1 + r.val) (hk : k.val = o2 + c.val) :
    View.ld X (Rect.unit (s := ⟨2, ![A, B]⟩) ![o1, o2] ![n1, n2] inb) (ix2 r c) = X (ix2 j k) := by
  show X _ = _
  congr 1
  funext b
  apply Fin.ext
  match b with
  | ⟨0, _⟩ => show o1 + 1 * r.val = j.val; omega
  | ⟨1, _⟩ => show o2 + 1 * c.val = k.val; omega

/-- The windows' lengths, and the lengths as floats. -/
def WW : Fin 4 → ℕ := ![2, 4, 8, 16]
def WB : Fin 4 → BitVec 32 := ![0x40000000#32, 0x40800000#32, 0x41000000#32, 0x41800000#32]

/-- The entry `k` rows before a block's row: in the block, in the rows before it, or nothing before a sequence's start. -/
def E (v10 : BitVec 1) (x0 : Vec Ideal S2x512x512 .f32) (x1 : Vec Ideal S2x16x512 .f32) (g : Fin 4) (q : Fin 512) (k : ℕ) (a : Fin 256) : EReal :=
  if k ≤ q.val then x0 (ix3 ⟨g.val / 2, by omega⟩ ⟨q.val - k, by omega⟩ ⟨256 * (g.val % 2) + a.val, by omega⟩)
  else if v10 = 1#1 then 0 else x1 (ix3 ⟨g.val / 2, by omega⟩ ⟨(16 + q.val - k) % 16, by omega⟩ ⟨256 * (g.val % 2) + a.val, by omega⟩)

theorem E_lo (v10 : BitVec 1) (x0 : Vec Ideal S2x512x512 .f32) (x1 : Vec Ideal S2x16x512 .f32) (g : Fin 4)
    (u : Vec Ideal S1x256x256 .f32) (v : Vec Ideal S1x16x256 .f32)
    (hu : ∀ (r a : Fin 256), u (ix3 0 r a) = x0 (ix3 ⟨g.val / 2, by omega⟩ ⟨r.val, by omega⟩ ⟨256 * (g.val % 2) + a.val, by omega⟩))
    (hv : ∀ (r : Fin 16) (a : Fin 256), v (ix3 0 r a) = x1 (ix3 ⟨g.val / 2, by omega⟩ r ⟨256 * (g.val % 2) + a.val, by omega⟩))
    (r a : Fin 256) (q : Fin 512) (hq : q.val = 0 + r.val) (W : ℕ) (hW : W ≤ 16) :
    wsum (k0_pay11 v10 u v) W (16 + r.val) a = ∑ k ∈ Finset.range W, E v10 x0 x1 g q k a := by
  unfold wsum
  refine Finset.sum_congr rfl fun k hk => ?_
  have hk := Finset.mem_range.mp hk
  rw [pay11_ext _ _ _ _ (by omega)]
  unfold E
  by_cases h : k ≤ q.val
  · rw [dif_neg (by omega), if_pos h, hu]
    congr 2
    apply Fin.ext
    show 16 + r.val - k - 16 = q.val - k
    omega
  · rw [dif_pos (by omega), if_neg h, hv]
    congr 3
    apply Fin.ext
    show 16 + r.val - k = (16 + q.val - k) % 16
    omega

theorem E_hi (v10 : BitVec 1) (x0 : Vec Ideal S2x512x512 .f32) (x1 : Vec Ideal S2x16x512 .f32) (g : Fin 4)
    (u : Vec Ideal S1x256x256 .f32) (v : Vec Ideal S1x16x256 .f32)
    (hu : ∀ (r a : Fin 256), u (ix3 0 r a) = x0 (ix3 ⟨g.val / 2, by omega⟩ ⟨256 + r.val, by omega⟩ ⟨256 * (g.val % 2) + a.val, by omega⟩))
    (hv : ∀ (r : Fin 16) (a : Fin 256), v (ix3 0 r a) = x0 (ix3 ⟨g.val / 2, by omega⟩ ⟨240 + r.val, by omega⟩ ⟨256 * (g.val % 2) + a.val, by omega⟩))
    (r a : Fin 256) (q : Fin 512) (hq : q.val = 256 + r.val) (W : ℕ) (hW : W ≤ 16) :
    wsum (k0_pay32 u v) W (16 + r.val) a = ∑ k ∈ Finset.range W, E v10 x0 x1 g q k a := by
  unfold wsum
  refine Finset.sum_congr rfl fun k hk => ?_
  have hk := Finset.mem_range.mp hk
  rw [pay32_ext _ _ _ (by omega)]
  unfold E
  rw [if_pos (show k ≤ q.val by omega)]
  by_cases h : 16 + r.val - k < 16
  · rw [dif_pos h, hv]
    congr 2
    apply Fin.ext
    show 240 + (16 + r.val - k) = q.val - k
    omega
  · rw [dif_neg h, hu]
    congr 2
    apply Fin.ext
    show 256 + (16 + r.val - k - 16) = q.val - k
    omega

theorem E_cur (v10 : BitVec 1) (x0 : Vec Ideal S2x512x512 .f32) (x1 : Vec Ideal S2x16x512 .f32) (g : Fin 4) (q : Fin 512) (a : Fin 256) :
    E v10 x0 x1 g q 0 a = x0 (ix3 ⟨g.val / 2, by omega⟩ q ⟨256 * (g.val % 2) + a.val, by omega⟩) := by
  unfold E
  rw [if_pos (Nat.zero_le _)]
  rfl

/-- A group's entry of a block's row. -/
def bp (v10 : BitVec 1) (n : ℕ) (x0 : Vec Ideal S2x512x512 .f32) (x1 : Vec Ideal S2x16x512 .f32) (x5 : Vec Ideal S1x1024 .f32) (s : Vec Ideal S4x256x256 .bf16)
    (q : Fin 512) (g : Fin 4) (c : Fin 256) : EReal :=
  grp (fun a => ∑ k ∈ Finset.range (WW g), E v10 x0 x1 g q k a) (fun a => E v10 x0 x1 g q 0 a) (((n + q.val : ℕ) : ℝ) : EReal) (WB g)
    (fun a => s (ix3 g a c)) (x5 (ix2 0 ⟨256 * g.val + c.val, by omega⟩))

theorem gl2 (X : KV S272x256) (u : Vec Ideal S1x256x256 .f32) (pos : KV S256x1) (w : BitVec 32) (v : Vec Ideal S1x256x256 .bf16) (ps : Vec Ideal S1x256 .f32) (r c : Fin 256) :
    gv (tl (dbl 1#32 X)) (k0_pay10 u) pos w (k0_pay4 v) ps (ix2 r c)
      = grp (fun a => wsum X 2 (16 + r.val) a) (fun a => u (ix3 0 r a)) (pos (ix2 r 0)) w (fun a => v (ix3 0 a c)) (ps (ix2 0 c)) := by
  rw [gv_at]
  simp only [t2, pay10_at, pay4_at]

theorem gl4 (X : KV S272x256) (u : Vec Ideal S1x256x256 .f32) (pos : KV S256x1) (w : BitVec 32) (v : Vec Ideal S1x256x256 .bf16) (ps : Vec Ideal S1x256 .f32) (r c : Fin 256) :
    gv (tl (dbl 2#32 (dbl 1#32 X))) (k0_pay10 u) pos w (k0_pay4 v) ps (ix2 r c)
      = grp (fun a => wsum X 4 (16 + r.val) a) (fun a => u (ix3 0 r a)) (pos (ix2 r 0)) w (fun a => v (ix3 0 a c)) (ps (ix2 0 c)) := by
  rw [gv_at]
  simp only [t4, pay10_at, pay4_at]

theorem gl8 (X : KV S272x256) (u : Vec Ideal S1x256x256 .f32) (pos : KV S256x1) (w : BitVec 32) (v : Vec Ideal S1x256x256 .bf16) (ps : Vec Ideal S1x256 .f32) (r c : Fin 256) :
    gv (tl (dbl 4#32 (dbl 2#32 (dbl 1#32 X)))) (k0_pay10 u) pos w (k0_pay4 v) ps (ix2 r c)
      = grp (fun a => wsum X 8 (16 + r.val) a) (fun a => u (ix3 0 r a)) (pos (ix2 r 0)) w (fun a => v (ix3 0 a c)) (ps (ix2 0 c)) := by
  rw [gv_at]
  simp only [t8, pay10_at, pay4_at]

theorem gl16 (X : KV S272x256) (u : Vec Ideal S1x256x256 .f32) (pos : KV S256x1) (w : BitVec 32) (v : Vec Ideal S1x256x256 .bf16) (ps : Vec Ideal S1x256 .f32) (r c : Fin 256) :
    gv (tl (dbl 8#32 (dbl 4#32 (dbl 2#32 (dbl 1#32 X))))) (k0_pay10 u) pos w (k0_pay4 v) ps (ix2 r c)
      = grp (fun a => wsum X 16 (16 + r.val) a) (fun a => u (ix3 0 r a)) (pos (ix2 r 0)) w (fun a => v (ix3 0 a c)) (ps (ix2 0 c)) := by
  rw [gv_at]
  simp only [t16, pay10_at, pay4_at]

/-- A block of the first result. -/
def blkH (v10 : BitVec 1) (n : ℕ) (x0 : Vec Ideal S2x512x512 .f32) (x1 : Vec Ideal S2x16x512 .f32) (x2 : Vec Ideal S8x512x128 .f32) (x3 : Vec Ideal S512x2048 .f32)
    (x5 x6 x7 : Vec Ideal S1x1024 .f32) (x8 : Vec Ideal S2048x2048 .bf16) (x9 : Vec Ideal S1x2048 .f32) (s : Vec Ideal S4x256x256 .bf16) (q : Fin 512) (l : Fin 2048) : EReal :=
  hrow (fun a => bp v10 n x0 x1 x5 s q ⟨a.val / 256, by omega⟩ ⟨a.val % 256, by omega⟩) (fun a => x2 (ix3 ⟨a.val / 128, by omega⟩ q ⟨a.val % 128, by omega⟩))
    (fun a => x6 (ix2 0 a)) (fun a => x7 (ix2 0 a)) (fun a b => x8 (ix2 ⟨a.val, by omega⟩ b)) (fun a b => x8 (ix2 ⟨1024 + a.val, by omega⟩ b))
    (fun a => x3 (ix2 q a)) (fun a => x9 (ix2 0 a)) l

theorem hrow_congr {p p' h h' gp gp' ga ga' : Fin 1024 → EReal} {w1 w1' w2 w2' : Fin 1024 → Fin 2048 → EReal} {x x' gm gm' : Fin 2048 → EReal} (l : Fin 2048)
    (e1 : p = p') (e2 : h = h') (e3 : gp = gp') (e4 : ga = ga') (e5 : w1 = w1') (e6 : w2 = w2') (e7 : x = x') (e8 : gm = gm') :
    hrow p h gp ga w1 w2 x gm l = hrow p' h' gp' ga' w1' w2' x' gm' l := by subst e1 e2 e3 e4 e5 e6 e7 e8; rfl

theorem lo_at (v10 : BitVec 1) (n : ℕ) (x0 : Vec Ideal S2x512x512 .f32) (x1 : Vec Ideal S2x16x512 .f32) (x2 : Vec Ideal S8x512x128 .f32) (x3 : Vec Ideal S512x2048 .f32)
    (x5 x6 x7 : Vec Ideal S1x1024 .f32) (x8 : Vec Ideal S2048x2048 .bf16) (x9 : Vec Ideal S1x2048 .f32) (s : Vec Ideal S4x256x256 .bf16)
    (v2 : BitVec 32) (v7 : BitVec 1) (v8 : BitVec 32) (hw : Scalar.addi (Scalar.muli (Scalar.select v7 v8 v2) 512#32) 0#32 = BitVec.ofNat 32 n) (hn : n < 2048) (r : Fin 256) (l : Fin 2048) (q : Fin 512) (hq : q.val = 0 + r.val) :
    k0_pay20 (F := Ideal) (k0_pay16 (k0_pay15 (View.ld x2 (Rect.unit ![0, 0, 0] ![1, 256, 128] inb_S8x512x128_S1x256x128_0_0_0))) (View.ld x2 (Rect.unit ![1, 0, 0] ![1, 256, 128] inb_S8x512x128_S1x256x128_1_0_0)) (View.ld x2 (Rect.unit ![2, 0, 0] ![1, 256, 128] inb_S8x512x128_S1x256x128_2_0_0)) (View.ld x2 (Rect.unit ![3, 0, 0] ![1, 256, 128] inb_S8x512x128_S1x256x128_3_0_0)) (View.ld x2 (Rect.unit ![4, 0, 0] ![1, 256, 128] inb_S8x512x128_S1x256x128_4_0_0)) (View.ld x2 (Rect.unit ![5, 0, 0] ![1, 256, 128] inb_S8x512x128_S1x256x128_5_0_0)) (View.ld x2 (Rect.unit ![6, 0, 0] ![1, 256, 128] inb_S8x512x128_S1x256x128_6_0_0)) (View.ld x2 (Rect.unit ![7, 0, 0] ![1, 256, 128] inb_S8x512x128_S1x256x128_7_0_0))) (k0_pay17 (k0_pay14 v10 (k0_pay7 (View.ld s (Rect.unit ![3, 0, 0] ![1, 256, 256] inb_S4x256x256_S1x256x256_3_0_0))) (k0_pay8 v2 v7 v8) (k0_pay9 v10 (k0_pay4 (View.ld s (Rect.unit ![0, 0, 0] ![1, 256, 256] inb_S4x256x256_S1x256x256_0_0_0))) v2 v7 v8 (View.ld x0 (Rect.unit ![0, 0, 0] ![1, 256, 256] inb_S2x512x512_S1x256x256_0_0_0)) (View.ld x1 (Rect.unit ![0, 0, 0] ![1, 16, 256] inb_S2x16x512_S1x16x256_0_0_0)) (View.ld x5 (Rect.unit ![0, 0] ![1, 256] inb_S1x1024_S1x256_0_0))) (k0_pay12 (k0_pay5 (View.ld s (Rect.unit ![1, 0, 0] ![1, 256, 256] inb_S4x256x256_S1x256x256_1_0_0))) (k0_pay8 v2 v7 v8) (k0_pay10 (View.ld x0 (Rect.unit ![0, 0, 256] ![1, 256, 256] inb_S2x512x512_S1x256x256_0_0_256))) (k0_pay11 v10 (View.ld x0 (Rect.unit ![0, 0, 256] ![1, 256, 256] inb_S2x512x512_S1x256x256_0_0_256)) (View.ld x1 (Rect.unit ![0, 0, 256] ![1, 16, 256] inb_S2x16x512_S1x16x256_0_0_256))) 1#32 (View.ld x5 (Rect.unit ![0, 256] ![1, 256] inb_S1x1024_S1x256_0_256))) (k0_pay13 v10 (k0_pay6 (View.ld s (Rect.unit ![2, 0, 0] ![1, 256, 256] inb_S4x256x256_S1x256x256_2_0_0))) (k0_pay8 v2 v7 v8) (View.ld x0 (Rect.unit ![1, 0, 0] ![1, 256, 256] inb_S2x512x512_S1x256x256_1_0_0)) (View.ld x1 (Rect.unit ![1, 0, 0] ![1, 16, 256] inb_S2x16x512_S1x16x256_1_0_0))) (View.ld x5 (Rect.unit ![0, 512] ![1, 256] inb_S1x1024_S1x256_0_512)) (View.ld x0 (Rect.unit ![1, 0, 256] ![1, 256, 256] inb_S2x512x512_S1x256x256_1_0_256)) (View.ld x1 (Rect.unit ![1, 0, 256] ![1, 16, 256] inb_S2x16x512_S1x16x256_1_0_256)) (View.ld x5 (Rect.unit ![0, 768] ![1, 256] inb_S1x1024_S1x256_0_768))) (View.ld x6 (Rect.unit ![0, 0] ![1, 1024] inb_S1x1024_S1x1024_0_0))) (k0_pay18 (View.ld x7 (Rect.unit ![0, 0] ![1, 1024] inb_S1x1024_S1x1024_0_0))) (k0_pay19 (k0_pay15 (View.ld x2 (Rect.unit ![0, 0, 0] ![1, 256, 128] inb_S8x512x128_S1x256x128_0_0_0))) (View.ld x2 (Rect.unit ![1, 0, 0] ![1, 256, 128] inb_S8x512x128_S1x256x128_1_0_0)) (View.ld x2 (Rect.unit ![2, 0, 0] ![1, 256, 128] inb_S8x512x128_S1x256x128_2_0_0)) (View.ld x2 (Rect.unit ![3, 0, 0] ![1, 256, 128] inb_S8x512x128_S1x256x128_3_0_0)) (View.ld x2 (Rect.unit ![4, 0, 0] ![1, 256, 128] inb_S8x512x128_S1x256x128_4_0_0)) (View.ld x2 (Rect.unit ![5, 0, 0] ![1, 256, 128] inb_S8x512x128_S1x256x128_5_0_0)) (View.ld x2 (Rect.unit ![6, 0, 0] ![1, 256, 128] inb_S8x512x128_S1x256x128_6_0_0)) (View.ld x2 (Rect.unit ![7, 0, 0] ![1, 256, 128] inb_S8x512x128_S1x256x128_7_0_0))) (View.ld x8 (Rect.unit ![0, 0] ![1024, 2048] inb_S2048x2048_S1024x2048_0_0)) (View.ld x8 (Rect.unit ![1024, 0] ![1024, 2048] inb_S2048x2048_S1024x2048_1024_0)) (View.ld x3 (Rect.unit ![0, 0] ![256, 2048] inb_S512x2048_S256x2048_0_0)) (View.ld x9 (Rect.unit ![0, 0] ![1, 2048] inb_S1x2048_S1x2048_0_0)) (ix2 r l)
      = blkH v10 n x0 x1 x2 x3 x5 x6 x7 x8 x9 s q l := by
  rw [e20, e14, e9, e12]
  refine (hv_at _ _ _ _ _ _ _ _ r l).trans (hrow_congr l (funext fun a => ?_) (funext fun a => ?_) (funext fun a => ?_) (funext fun a => ?_) (funext fun a => funext fun b => ?_)
    (funext fun a => funext fun b => ?_) (funext fun a => ?_) (funext fun a => ?_))
  · refine pv_at _ _ _ _ r (fun g c => bp v10 n x0 x1 x5 s q g c) (fun c => ?_) (fun c => ?_) (fun c => ?_) (fun c => ?_) a
    · refine (gl2 _ _ _ _ _ _ r c).trans (grp_congr (funext fun a => ?_) (funext fun a => ?_) ?_ rfl (funext fun a => ?_) ?_)
      · exact E_lo v10 x0 x1 0 _ _ (fun r a => ld3 x0 _ r a _ _ _ rfl (Nat.zero_add _).symm rfl)
          (fun r a => ld3 x1 _ r a _ _ _ rfl (Nat.zero_add _).symm rfl) r a q hq 2 (by omega)
      · exact (ld3 x0 _ r a _ q _ rfl hq rfl).trans (E_cur v10 x0 x1 0 q a).symm
      · exact (pay8_at v2 v7 v8 n hw hn r).trans (by rw [hq]; congr 2; omega)
      · exact ld3 s _ a c _ _ _ rfl (Nat.zero_add _).symm (Nat.zero_add _).symm
      · exact ld2 x5 _ 0 c _ _ rfl rfl
    · refine (gl4 _ _ _ _ _ _ r c).trans (grp_congr (funext fun a => ?_) (funext fun a => ?_) ?_ rfl (funext fun a => ?_) ?_)
      · exact E_lo v10 x0 x1 1 _ _ (fun r a => ld3 x0 _ r a _ _ _ rfl (Nat.zero_add _).symm rfl)
          (fun r a => ld3 x1 _ r a _ _ _ rfl (Nat.zero_add _).symm rfl) r a q hq 4 (by omega)
      · exact (ld3 x0 _ r a _ q _ rfl hq rfl).trans (E_cur v10 x0 x1 1 q a).symm
      · exact (pay8_at v2 v7 v8 n hw hn r).trans (by rw [hq]; congr 2; omega)
      · exact ld3 s _ a c _ _ _ rfl (Nat.zero_add _).symm (Nat.zero_add _).symm
      · exact ld2 x5 _ 0 c _ _ rfl rfl
    · refine (gl8 _ _ _ _ _ _ r c).trans (grp_congr (funext fun a => ?_) (funext fun a => ?_) ?_ rfl (funext fun a => ?_) ?_)
      · exact E_lo v10 x0 x1 2 _ _ (fun r a => ld3 x0 _ r a _ _ _ rfl (Nat.zero_add _).symm rfl)
          (fun r a => ld3 x1 _ r a _ _ _ rfl (Nat.zero_add _).symm rfl) r a q hq 8 (by omega)
      · exact (ld3 x0 _ r a _ q _ rfl hq rfl).trans (E_cur v10 x0 x1 2 q a).symm
      · exact (pay8_at v2 v7 v8 n hw hn r).trans (by rw [hq]; congr 2; omega)
      · exact ld3 s _ a c _ _ _ rfl (Nat.zero_add _).symm (Nat.zero_add _).symm
      · exact ld2 x5 _ 0 c _ _ rfl rfl
    · refine (gl16 _ _ _ _ _ _ r c).trans (grp_congr (funext fun a => ?_) (funext fun a => ?_) ?_ rfl (funext fun a => ?_) ?_)
      · exact E_lo v10 x0 x1 3 _ _ (fun r a => ld3 x0 _ r a _ _ _ rfl (Nat.zero_add _).symm rfl)
          (fun r a => ld3 x1 _ r a _ _ _ rfl (Nat.zero_add _).symm rfl) r a q hq 16 (by omega)
      · exact (ld3 x0 _ r a _ q _ rfl hq rfl).trans (E_cur v10 x0 x1 3 q a).symm
      · exact (pay8_at v2 v7 v8 n hw hn r).trans (by rw [hq]; congr 2; omega)
      · exact ld3 s _ a c _ _ _ rfl (Nat.zero_add _).symm (Nat.zero_add _).symm
      · exact ld2 x5 _ 0 c _ _ rfl rfl
  · refine heads_at _ _ _ _ _ _ _ _ r (fun h c => x2 (ix3 h q c)) (fun c => ?_) (fun c => ?_) (fun c => ?_) (fun c => ?_) (fun c => ?_) (fun c => ?_) (fun c => ?_) (fun c => ?_) a
    all_goals exact ld3 x2 _ r c _ q _ rfl hq (Nat.zero_add _).symm
  · exact ld2 x6 _ 0 a _ _ rfl (Nat.zero_add _).symm
  · exact ld2 x7 _ 0 a _ _ rfl (Nat.zero_add _).symm
  · exact ld2 x8 _ a b _ _ (Nat.zero_add _).symm (Nat.zero_add _).symm
  · exact ld2 x8 _ a b _ _ rfl (Nat.zero_add _).symm
  · exact ld2 x3 _ r a q _ hq (Nat.zero_add _).symm
  · exact ld2 x9 _ 0 a _ _ rfl (Nat.zero_add _).symm

theorem hi_at (v10 : BitVec 1) (n : ℕ) (x0 : Vec Ideal S2x512x512 .f32) (x1 : Vec Ideal S2x16x512 .f32) (x2 : Vec Ideal S8x512x128 .f32) (x3 : Vec Ideal S512x2048 .f32)
    (x5 x6 x7 : Vec Ideal S1x1024 .f32) (x8 : Vec Ideal S2048x2048 .bf16) (x9 : Vec Ideal S1x2048 .f32) (s : Vec Ideal S4x256x256 .bf16)
    (a0 : BitVec 32) (hw : word24 a0 = BitVec.ofNat 32 (n + 256)) (hn : n + 256 < 2048) (r : Fin 256) (l : Fin 2048) (q : Fin 512) (hq : q.val = 256 + r.val) :
    k0_pay1 (F := Ideal) (k0_pay40 (k0_pay36 (k0_pay7 (View.ld s (Rect.unit ![3, 0, 0] ![1, 256, 256] inb_S4x256x256_S1x256x256_3_0_0))) (k0_pay29 (k0_pay4 (View.ld s (Rect.unit ![0, 0, 0] ![1, 256, 256] inb_S4x256x256_S1x256x256_0_0_0))) (k0_pay25 (View.ld x0 (Rect.unit ![0, 256, 0] ![1, 256, 256] inb_S2x512x512_S1x256x256_0_256_0))) (k0_pay26 (View.ld x0 (Rect.unit ![0, 256, 0] ![1, 256, 256] inb_S2x512x512_S1x256x256_0_256_0)) (View.ld x0 (Rect.unit ![0, 240, 0] ![1, 16, 256] inb_S2x512x512_S1x16x256_0_240_0))) (k0_pay27 a0) k0_pay28 (View.ld x5 (Rect.unit ![0, 0] ![1, 256] inb_S1x1024_S1x256_0_0))) (k0_pay30 (k0_pay5 (View.ld s (Rect.unit ![1, 0, 0] ![1, 256, 256] inb_S4x256x256_S1x256x256_1_0_0))) (k0_pay24 a0) (View.ld x0 (Rect.unit ![0, 256, 256] ![1, 256, 256] inb_S2x512x512_S1x256x256_0_256_256)) (View.ld x0 (Rect.unit ![0, 240, 256] ![1, 16, 256] inb_S2x512x512_S1x16x256_0_240_256)) (View.ld x5 (Rect.unit ![0, 256] ![1, 256] inb_S1x1024_S1x256_0_256))) (k0_pay33 (k0_pay6 (View.ld s (Rect.unit ![2, 0, 0] ![1, 256, 256] inb_S4x256x256_S1x256x256_2_0_0))) (k0_pay24 a0) (k0_pay31 (View.ld x0 (Rect.unit ![1, 256, 0] ![1, 256, 256] inb_S2x512x512_S1x256x256_1_256_0))) (k0_pay32 (View.ld x0 (Rect.unit ![1, 256, 0] ![1, 256, 256] inb_S2x512x512_S1x256x256_1_256_0)) (View.ld x0 (Rect.unit ![1, 240, 0] ![1, 16, 256] inb_S2x512x512_S1x16x256_1_240_0))) (View.ld x5 (Rect.unit ![0, 512] ![1, 256] inb_S1x1024_S1x256_0_512))) (k0_pay34 (View.ld x0 (Rect.unit ![1, 256, 256] ![1, 256, 256] inb_S2x512x512_S1x256x256_1_256_256))) (k0_pay35 (k0_pay24 a0) (View.ld x0 (Rect.unit ![1, 256, 256] ![1, 256, 256] inb_S2x512x512_S1x256x256_1_256_256)) (View.ld x0 (Rect.unit ![1, 240, 256] ![1, 16, 256] inb_S2x512x512_S1x16x256_1_240_256))) (View.ld x5 (Rect.unit ![0, 768] ![1, 256] inb_S1x1024_S1x256_0_768))) (k0_pay37 (View.ld x2 (Rect.unit ![0, 256, 0] ![1, 256, 128] inb_S8x512x128_S1x256x128_0_256_0)) (View.ld x2 (Rect.unit ![1, 256, 0] ![1, 256, 128] inb_S8x512x128_S1x256x128_1_256_0)) (View.ld x2 (Rect.unit ![2, 256, 0] ![1, 256, 128] inb_S8x512x128_S1x256x128_2_256_0)) (View.ld x2 (Rect.unit ![3, 256, 0] ![1, 256, 128] inb_S8x512x128_S1x256x128_3_256_0)) (View.ld x2 (Rect.unit ![4, 256, 0] ![1, 256, 128] inb_S8x512x128_S1x256x128_4_256_0)) (View.ld x2 (Rect.unit ![5, 256, 0] ![1, 256, 128] inb_S8x512x128_S1x256x128_5_256_0)) (View.ld x2 (Rect.unit ![6, 256, 0] ![1, 256, 128] inb_S8x512x128_S1x256x128_6_256_0)) (View.ld x2 (Rect.unit ![7, 256, 0] ![1, 256, 128] inb_S8x512x128_S1x256x128_7_256_0))) (k0_pay38 (View.ld x6 (Rect.unit ![0, 0] ![1, 1024] inb_S1x1024_S1x1024_0_0))) (k0_pay39 (k0_pay7 (View.ld s (Rect.unit ![3, 0, 0] ![1, 256, 256] inb_S4x256x256_S1x256x256_3_0_0))) (k0_pay29 (k0_pay4 (View.ld s (Rect.unit ![0, 0, 0] ![1, 256, 256] inb_S4x256x256_S1x256x256_0_0_0))) (k0_pay25 (View.ld x0 (Rect.unit ![0, 256, 0] ![1, 256, 256] inb_S2x512x512_S1x256x256_0_256_0))) (k0_pay26 (View.ld x0 (Rect.unit ![0, 256, 0] ![1, 256, 256] inb_S2x512x512_S1x256x256_0_256_0)) (View.ld x0 (Rect.unit ![0, 240, 0] ![1, 16, 256] inb_S2x512x512_S1x16x256_0_240_0))) (k0_pay27 a0) k0_pay28 (View.ld x5 (Rect.unit ![0, 0] ![1, 256] inb_S1x1024_S1x256_0_0))) (k0_pay30 (k0_pay5 (View.ld s (Rect.unit ![1, 0, 0] ![1, 256, 256] inb_S4x256x256_S1x256x256_1_0_0))) (k0_pay24 a0) (View.ld x0 (Rect.unit ![0, 256, 256] ![1, 256, 256] inb_S2x512x512_S1x256x256_0_256_256)) (View.ld x0 (Rect.unit ![0, 240, 256] ![1, 16, 256] inb_S2x512x512_S1x16x256_0_240_256)) (View.ld x5 (Rect.unit ![0, 256] ![1, 256] inb_S1x1024_S1x256_0_256))) (k0_pay33 (k0_pay6 (View.ld s (Rect.unit ![2, 0, 0] ![1, 256, 256] inb_S4x256x256_S1x256x256_2_0_0))) (k0_pay24 a0) (k0_pay31 (View.ld x0 (Rect.unit ![1, 256, 0] ![1, 256, 256] inb_S2x512x512_S1x256x256_1_256_0))) (k0_pay32 (View.ld x0 (Rect.unit ![1, 256, 0] ![1, 256, 256] inb_S2x512x512_S1x256x256_1_256_0)) (View.ld x0 (Rect.unit ![1, 240, 0] ![1, 16, 256] inb_S2x512x512_S1x16x256_1_240_0))) (View.ld x5 (Rect.unit ![0, 512] ![1, 256] inb_S1x1024_S1x256_0_512))) (k0_pay34 (View.ld x0 (Rect.unit ![1, 256, 256] ![1, 256, 256] inb_S2x512x512_S1x256x256_1_256_256))) (k0_pay35 (k0_pay24 a0) (View.ld x0 (Rect.unit ![1, 256, 256] ![1, 256, 256] inb_S2x512x512_S1x256x256_1_256_256)) (View.ld x0 (Rect.unit ![1, 240, 256] ![1, 16, 256] inb_S2x512x512_S1x16x256_1_240_256))) (View.ld x5 (Rect.unit ![0, 768] ![1, 256] inb_S1x1024_S1x256_0_768))) (View.ld x7 (Rect.unit ![0, 0] ![1, 1024] inb_S1x1024_S1x1024_0_0)) (View.ld x8 (Rect.unit ![0, 0] ![1024, 2048] inb_S2048x2048_S1024x2048_0_0)) (View.ld x8 (Rect.unit ![1024, 0] ![1024, 2048] inb_S2048x2048_S1024x2048_1024_0))) (k0_pay41 (View.ld x3 (Rect.unit ![256, 0] ![256, 2048] inb_S512x2048_S256x2048_256_0))) (k0_pay42 (View.ld x9 (Rect.unit ![0, 0] ![1, 2048] inb_S1x2048_S1x2048_0_0))) (k0_pay43 (k0_pay36 (k0_pay7 (View.ld s (Rect.unit ![3, 0, 0] ![1, 256, 256] inb_S4x256x256_S1x256x256_3_0_0))) (k0_pay29 (k0_pay4 (View.ld s (Rect.unit ![0, 0, 0] ![1, 256, 256] inb_S4x256x256_S1x256x256_0_0_0))) (k0_pay25 (View.ld x0 (Rect.unit ![0, 256, 0] ![1, 256, 256] inb_S2x512x512_S1x256x256_0_256_0))) (k0_pay26 (View.ld x0 (Rect.unit ![0, 256, 0] ![1, 256, 256] inb_S2x512x512_S1x256x256_0_256_0)) (View.ld x0 (Rect.unit ![0, 240, 0] ![1, 16, 256] inb_S2x512x512_S1x16x256_0_240_0))) (k0_pay27 a0) k0_pay28 (View.ld x5 (Rect.unit ![0, 0] ![1, 256] inb_S1x1024_S1x256_0_0))) (k0_pay30 (k0_pay5 (View.ld s (Rect.unit ![1, 0, 0] ![1, 256, 256] inb_S4x256x256_S1x256x256_1_0_0))) (k0_pay24 a0) (View.ld x0 (Rect.unit ![0, 256, 256] ![1, 256, 256] inb_S2x512x512_S1x256x256_0_256_256)) (View.ld x0 (Rect.unit ![0, 240, 256] ![1, 16, 256] inb_S2x512x512_S1x16x256_0_240_256)) (View.ld x5 (Rect.unit ![0, 256] ![1, 256] inb_S1x1024_S1x256_0_256))) (k0_pay33 (k0_pay6 (View.ld s (Rect.unit ![2, 0, 0] ![1, 256, 256] inb_S4x256x256_S1x256x256_2_0_0))) (k0_pay24 a0) (k0_pay31 (View.ld x0 (Rect.unit ![1, 256, 0] ![1, 256, 256] inb_S2x512x512_S1x256x256_1_256_0))) (k0_pay32 (View.ld x0 (Rect.unit ![1, 256, 0] ![1, 256, 256] inb_S2x512x512_S1x256x256_1_256_0)) (View.ld x0 (Rect.unit ![1, 240, 0] ![1, 16, 256] inb_S2x512x512_S1x16x256_1_240_0))) (View.ld x5 (Rect.unit ![0, 512] ![1, 256] inb_S1x1024_S1x256_0_512))) (k0_pay34 (View.ld x0 (Rect.unit ![1, 256, 256] ![1, 256, 256] inb_S2x512x512_S1x256x256_1_256_256))) (k0_pay35 (k0_pay24 a0) (View.ld x0 (Rect.unit ![1, 256, 256] ![1, 256, 256] inb_S2x512x512_S1x256x256_1_256_256)) (View.ld x0 (Rect.unit ![1, 240, 256] ![1, 16, 256] inb_S2x512x512_S1x16x256_1_240_256))) (View.ld x5 (Rect.unit ![0, 768] ![1, 256] inb_S1x1024_S1x256_0_768))) (k0_pay37 (View.ld x2 (Rect.unit ![0, 256, 0] ![1, 256, 128] inb_S8x512x128_S1x256x128_0_256_0)) (View.ld x2 (Rect.unit ![1, 256, 0] ![1, 256, 128] inb_S8x512x128_S1x256x128_1_256_0)) (View.ld x2 (Rect.unit ![2, 256, 0] ![1, 256, 128] inb_S8x512x128_S1x256x128_2_256_0)) (View.ld x2 (Rect.unit ![3, 256, 0] ![1, 256, 128] inb_S8x512x128_S1x256x128_3_256_0)) (View.ld x2 (Rect.unit ![4, 256, 0] ![1, 256, 128] inb_S8x512x128_S1x256x128_4_256_0)) (View.ld x2 (Rect.unit ![5, 256, 0] ![1, 256, 128] inb_S8x512x128_S1x256x128_5_256_0)) (View.ld x2 (Rect.unit ![6, 256, 0] ![1, 256, 128] inb_S8x512x128_S1x256x128_6_256_0)) (View.ld x2 (Rect.unit ![7, 256, 0] ![1, 256, 128] inb_S8x512x128_S1x256x128_7_256_0))) (k0_pay38 (View.ld x6 (Rect.unit ![0, 0] ![1, 1024] inb_S1x1024_S1x1024_0_0))) (k0_pay39 (k0_pay7 (View.ld s (Rect.unit ![3, 0, 0] ![1, 256, 256] inb_S4x256x256_S1x256x256_3_0_0))) (k0_pay29 (k0_pay4 (View.ld s (Rect.unit ![0, 0, 0] ![1, 256, 256] inb_S4x256x256_S1x256x256_0_0_0))) (k0_pay25 (View.ld x0 (Rect.unit ![0, 256, 0] ![1, 256, 256] inb_S2x512x512_S1x256x256_0_256_0))) (k0_pay26 (View.ld x0 (Rect.unit ![0, 256, 0] ![1, 256, 256] inb_S2x512x512_S1x256x256_0_256_0)) (View.ld x0 (Rect.unit ![0, 240, 0] ![1, 16, 256] inb_S2x512x512_S1x16x256_0_240_0))) (k0_pay27 a0) k0_pay28 (View.ld x5 (Rect.unit ![0, 0] ![1, 256] inb_S1x1024_S1x256_0_0))) (k0_pay30 (k0_pay5 (View.ld s (Rect.unit ![1, 0, 0] ![1, 256, 256] inb_S4x256x256_S1x256x256_1_0_0))) (k0_pay24 a0) (View.ld x0 (Rect.unit ![0, 256, 256] ![1, 256, 256] inb_S2x512x512_S1x256x256_0_256_256)) (View.ld x0 (Rect.unit ![0, 240, 256] ![1, 16, 256] inb_S2x512x512_S1x16x256_0_240_256)) (View.ld x5 (Rect.unit ![0, 256] ![1, 256] inb_S1x1024_S1x256_0_256))) (k0_pay33 (k0_pay6 (View.ld s (Rect.unit ![2, 0, 0] ![1, 256, 256] inb_S4x256x256_S1x256x256_2_0_0))) (k0_pay24 a0) (k0_pay31 (View.ld x0 (Rect.unit ![1, 256, 0] ![1, 256, 256] inb_S2x512x512_S1x256x256_1_256_0))) (k0_pay32 (View.ld x0 (Rect.unit ![1, 256, 0] ![1, 256, 256] inb_S2x512x512_S1x256x256_1_256_0)) (View.ld x0 (Rect.unit ![1, 240, 0] ![1, 16, 256] inb_S2x512x512_S1x16x256_1_240_0))) (View.ld x5 (Rect.unit ![0, 512] ![1, 256] inb_S1x1024_S1x256_0_512))) (k0_pay34 (View.ld x0 (Rect.unit ![1, 256, 256] ![1, 256, 256] inb_S2x512x512_S1x256x256_1_256_256))) (k0_pay35 (k0_pay24 a0) (View.ld x0 (Rect.unit ![1, 256, 256] ![1, 256, 256] inb_S2x512x512_S1x256x256_1_256_256)) (View.ld x0 (Rect.unit ![1, 240, 256] ![1, 16, 256] inb_S2x512x512_S1x16x256_1_240_256))) (View.ld x5 (Rect.unit ![0, 768] ![1, 256] inb_S1x1024_S1x256_0_768))) (View.ld x7 (Rect.unit ![0, 0] ![1, 1024] inb_S1x1024_S1x1024_0_0)) (View.ld x8 (Rect.unit ![0, 0] ![1024, 2048] inb_S2048x2048_S1024x2048_0_0)) (View.ld x8 (Rect.unit ![1024, 0] ![1024, 2048] inb_S2048x2048_S1024x2048_1024_0))) k0_pay44 (ix2 r l)
      = blkH v10 n x0 x1 x2 x3 x5 x6 x7 x8 x9 s q l := by
  rw [e1, e36, e37, e29, e30, e33]
  refine (hv_at _ _ _ _ _ _ _ _ r l).trans (hrow_congr l (funext fun a => ?_) (funext fun a => ?_) (funext fun a => ?_) (funext fun a => ?_) (funext fun a => funext fun b => ?_)
    (funext fun a => funext fun b => ?_) (funext fun a => ?_) (funext fun a => ?_))
  · refine pv_at _ _ _ _ r (fun g c => bp v10 n x0 x1 x5 s q g c) (fun c => ?_) (fun c => ?_) (fun c => ?_) (fun c => ?_) a
    · refine (gl2 _ _ _ _ _ _ r c).trans (grp_congr (funext fun a => ?_) (funext fun a => ?_) ?_ rfl (funext fun a => ?_) ?_)
      · exact E_hi v10 x0 x1 0 _ _ (fun r a => ld3 x0 _ r a _ _ _ rfl rfl rfl)
          (fun r a => ld3 x0 _ r a _ _ _ rfl rfl rfl) r a q hq 2 (by omega)
      · exact (ld3 x0 _ r a _ q _ rfl hq rfl).trans (E_cur v10 x0 x1 0 q a).symm
      · exact (pay24_at a0 (n + 256) hw hn r).trans (by rw [hq]; congr 2; omega)
      · exact ld3 s _ a c _ _ _ rfl (Nat.zero_add _).symm (Nat.zero_add _).symm
      · exact ld2 x5 _ 0 c _ _ rfl rfl
    · refine (gl4 _ _ _ _ _ _ r c).trans (grp_congr (funext fun a => ?_) (funext fun a => ?_) ?_ rfl (funext fun a => ?_) ?_)
      · exact E_hi v10 x0 x1 1 _ _ (fun r a => ld3 x0 _ r a _ _ _ rfl rfl rfl)
          (fun r a => ld3 x0 _ r a _ _ _ rfl rfl rfl) r a q hq 4 (by omega)
      · exact (ld3 x0 _ r a _ q _ rfl hq rfl).trans (E_cur v10 x0 x1 1 q a).symm
      · exact (pay24_at a0 (n + 256) hw hn r).trans (by rw [hq]; congr 2; omega)
      · exact ld3 s _ a c _ _ _ rfl (Nat.zero_add _).symm (Nat.zero_add _).symm
      · exact ld2 x5 _ 0 c _ _ rfl rfl
    · refine (gl8 _ _ _ _ _ _ r c).trans (grp_congr (funext fun a => ?_) (funext fun a => ?_) ?_ rfl (funext fun a => ?_) ?_)
      · exact E_hi v10 x0 x1 2 _ _ (fun r a => ld3 x0 _ r a _ _ _ rfl rfl rfl)
          (fun r a => ld3 x0 _ r a _ _ _ rfl rfl rfl) r a q hq 8 (by omega)
      · exact (ld3 x0 _ r a _ q _ rfl hq rfl).trans (E_cur v10 x0 x1 2 q a).symm
      · exact (pay24_at a0 (n + 256) hw hn r).trans (by rw [hq]; congr 2; omega)
      · exact ld3 s _ a c _ _ _ rfl (Nat.zero_add _).symm (Nat.zero_add _).symm
      · exact ld2 x5 _ 0 c _ _ rfl rfl
    · refine (gl16 _ _ _ _ _ _ r c).trans (grp_congr (funext fun a => ?_) (funext fun a => ?_) ?_ rfl (funext fun a => ?_) ?_)
      · exact E_hi v10 x0 x1 3 _ _ (fun r a => ld3 x0 _ r a _ _ _ rfl rfl rfl)
          (fun r a => ld3 x0 _ r a _ _ _ rfl rfl rfl) r a q hq 16 (by omega)
      · exact (ld3 x0 _ r a _ q _ rfl hq rfl).trans (E_cur v10 x0 x1 3 q a).symm
      · exact (pay24_at a0 (n + 256) hw hn r).trans (by rw [hq]; congr 2; omega)
      · exact ld3 s _ a c _ _ _ rfl (Nat.zero_add _).symm (Nat.zero_add _).symm
      · exact ld2 x5 _ 0 c _ _ rfl rfl
  · refine heads_at _ _ _ _ _ _ _ _ r (fun h c => x2 (ix3 h q c)) (fun c => ?_) (fun c => ?_) (fun c => ?_) (fun c => ?_) (fun c => ?_) (fun c => ?_) (fun c => ?_) (fun c => ?_) a
    all_goals exact ld3 x2 _ r c _ q _ rfl hq (Nat.zero_add _).symm
  · exact ld2 x6 _ 0 a _ _ rfl (Nat.zero_add _).symm
  · exact ld2 x7 _ 0 a _ _ rfl (Nat.zero_add _).symm
  · exact ld2 x8 _ a b _ _ (Nat.zero_add _).symm (Nat.zero_add _).symm
  · exact ld2 x8 _ a b _ _ rfl (Nat.zero_add _).symm
  · exact ld2 x3 _ r a q _ hq (Nat.zero_add _).symm
  · exact ld2 x9 _ 0 a _ _ rfl (Nat.zero_add _).symm

/-- A block's second result. -/
def blkN (v10 : BitVec 1) (n : ℕ) (x0 : Vec Ideal S2x512x512 .f32) (x1 : Vec Ideal S2x16x512 .f32) (x2 : Vec Ideal S8x512x128 .f32) (x3 : Vec Ideal S512x2048 .f32)
    (x5 x6 x7 : Vec Ideal S1x1024 .f32) (x8 : Vec Ideal S2048x2048 .bf16) (x9 x10 : Vec Ideal S1x2048 .f32) (s : Vec Ideal S4x256x256 .bf16) (q : Fin 512) (l : Fin 2048) : EReal :=
  nrm 0x45000000#32 (blkH v10 n x0 x1 x2 x3 x5 x6 x7 x8 x9 s q) (fun a => x10 (ix2 0 a)) l

theorem nv_of (y : KV S256x2048) (g : Vec Ideal S1x2048 .f32) (r : Fin 256) (l : Fin 2048) (f : Fin 2048 → EReal) (x10 : Vec Ideal S1x2048 .f32)
    (hy : ∀ l, y (ix2 r l) = f l) (hg : ∀ a, g (ix2 0 a) = x10 (ix2 0 a)) : nv y g (ix2 r l) = nrm 0x45000000#32 f (fun a => x10 (ix2 0 a)) l := by
  rw [nv_at, funext hy, funext hg]

theorem pc {e : EltTy} (G : S512x2048.Idx → Elt Ideal e) {o : ℕ} (inb) (w : Vec Ideal S256x2048 e)
    (h : ∀ (r : Fin 256) (l : Fin 2048) (q : Fin 512), q.val = o + r.val → w (ix2 r l) = G (ix2 q l))
    (x : (Rect.unit (s := S512x2048) ![o, 0] ![256, 2048] inb).shape.Idx) :
    w x = G ((Rect.unit (s := S512x2048) ![o, 0] ![256, 2048] inb).emb x) := by
  have b0 : o + 256 ≤ 512 := inb 0
  have hx0 : (x 0).val < 256 := (x 0).isLt
  have e : x = ix2 (⟨(x 0).val, hx0⟩ : Fin 256) (⟨(x 1).val, (x 1).isLt⟩ : Fin 2048) := by
    funext b; match b with | ⟨0, _⟩ => rfl | ⟨1, _⟩ => rfl
  refine (congrArg w e).trans ((h _ _ ⟨o + (x 0).val, by omega⟩ rfl).trans ?_)
  congr 1
  funext b
  apply Fin.ext
  match b with
  | ⟨0, _⟩ => show o + (x 0).val = o + 1 * (x 0).val; omega
  | ⟨1, _⟩ => show (x 1).val = 0 + 1 * (x 1).val; omega

/-- Two stores of half a block each leave the block. -/
theorem two {e : EltTy} (G : S512x2048.Idx → Elt Ideal e) (i1 i2) (w1 w2 : Vec Ideal S256x2048 e)
    (h1 : ∀ (r : Fin 256) (l : Fin 2048) (q : Fin 512), q.val = 256 + r.val → w1 (ix2 r l) = G (ix2 q l))
    (h2 : ∀ (r : Fin 256) (l : Fin 2048) (q : Fin 512), q.val = 0 + r.val → w2 (ix2 r l) = G (ix2 q l))
    (hc : ∀ y, ∃ p ∈ ([⟨Rect.unit (s := S512x2048) ![256, 0] ![256, 2048] i1, w1⟩, ⟨Rect.unit (s := S512x2048) ![0, 0] ![256, 2048] i2, w2⟩] : List (View.Piece (Elt Ideal) S512x2048 e)), y ∈ p.1.set) :
    View.canon ([⟨Rect.unit (s := S512x2048) ![256, 0] ![256, 2048] i1, w1⟩, ⟨Rect.unit (s := S512x2048) ![0, 0] ![256, 2048] i2, w2⟩] : List (View.Piece (Elt Ideal) S512x2048 e)) = G := by
  funext y
  exact View.canon_apply_of_pieces G _ (List.forall_mem_cons.mpr ⟨pc G i1 w1 h1, List.forall_mem_cons.mpr ⟨pc G i2 w2 h2,
    fun p hp => absurd hp List.not_mem_nil⟩⟩) y (hc y)

/-- The block's place in its sequence, and whether it is the first of it. -/
def fst (i : grid0.Coords) : BitVec 1 := if (i 0).val % 4 = 0 then 1#1 else 0#1
def off (i : grid0.Coords) : ℕ := 512 * ((i 0).val % 4)

theorem off_lt (i : grid0.Coords) : off i + 256 < 2048 := by unfold off; omega
theorem hz3 : (![0, 0, 0] : Fin 3 → Nat) = fun _ => 0 := funext fun a => by fin_cases a <;> rfl
theorem wd24 (i : grid0.Coords) : word24 (BitVec.ofNat 32 (i 0).val) = BitVec.ofNat 32 (off i + 256) := by
  unfold off
  generalize i 0 = k
  revert k
  decide +kernel

theorem w8A (i : grid0.Coords) : Scalar.addi (Scalar.muli (Scalar.select (kernelRun0_A.sl.v7 i) (kernelRun0_A.sl.v8 i) (kernelRun0_A.sl.v2 i)) 512#32) 0#32 = BitVec.ofNat 32 (off i) := by
  simp only [kernelRun0_A.sl.v10, kernelRun0_A.sl.v9, kernelRun0_A.sl.v8, kernelRun0_A.sl.v7, kernelRun0_A.sl.v6, kernelRun0_A.sl.v4, kernelRun0_A.sl.v3, kernelRun0_A.sl.v2]
  unfold off
  generalize i 0 = k
  revert k
  decide +kernel
theorem fA (i : grid0.Coords) : kernelRun0_A.sl.v10 i = fst i := by
  simp only [kernelRun0_A.sl.v10, kernelRun0_A.sl.v9, kernelRun0_A.sl.v8, kernelRun0_A.sl.v7, kernelRun0_A.sl.v6, kernelRun0_A.sl.v4, kernelRun0_A.sl.v3, kernelRun0_A.sl.v2]
  unfold fst
  generalize i 0 = k
  revert k
  decide +kernel

theorem w8B (i : grid0.Coords) : Scalar.addi (Scalar.muli (Scalar.select (kernelRun0_B.sl.v7 i) (kernelRun0_B.sl.v8 i) (kernelRun0_B.sl.v2 i)) 512#32) 0#32 = BitVec.ofNat 32 (off i) := by
  simp only [kernelRun0_B.sl.v10, kernelRun0_B.sl.v9, kernelRun0_B.sl.v8, kernelRun0_B.sl.v7, kernelRun0_B.sl.v6, kernelRun0_B.sl.v4, kernelRun0_B.sl.v3, kernelRun0_B.sl.v2]
  unfold off
  generalize i 0 = k
  revert k
  decide +kernel
theorem fB (i : grid0.Coords) : kernelRun0_B.sl.v10 i = fst i := by
  simp only [kernelRun0_B.sl.v10, kernelRun0_B.sl.v9, kernelRun0_B.sl.v8, kernelRun0_B.sl.v7, kernelRun0_B.sl.v6, kernelRun0_B.sl.v4, kernelRun0_B.sl.v3, kernelRun0_B.sl.v2]
  unfold fst
  generalize i 0 = k
  revert k
  decide +kernel

theorem rdA (c : Dev nD) (a5 : Memref sig .tc .vmem S4x256x256 .f32) (h5 : a5.IsWhole) (a14 : Memref sig .tc .vmem S4x256x256 .bf16) (h14 : a14.IsWhole) (x4 : Vec Ideal S4x256x256 .f32)
    (R : Rect S4x256x256) : a14.view.readCov (kernelRun0_A.sl.HS0_1 c a5 h5 x4) R.toLoadRect = View.ld (Val := Elt Ideal) (e' := .bf16) (show Vec Ideal S4x256x256 .bf16 from x4) R := by
  have h : View.canon (kernelRun0_A.sl.HS0_1 c a5 h5 x4) = (show Vec Ideal S4x256x256 .bf16 from x4) := by
    simp only [kernelRun0_A.sl.HS0_1, View.readAt_eq_ld, h5.read_unread]
    exact (View.canon_unit_zero hz3 _ _).trans ((congrArg k0_pay3 (View.ld_unit_zero (S := S4x256x256) hz3 _ _)).trans (pay3_eq x4))
  rw [View.readCov_eq_canon']
  exact funext fun j => congrFun h _

variable (c : Dev nD) (i : grid0.Coords) (a1 : Memref sig .tc .vmem S2x512x512 .f32) (h1 : a1.IsWhole)
    (a2 : Memref sig .tc .vmem S2x16x512 .f32) (h2 : a2.IsWhole)
    (a3 : Memref sig .tc .vmem S8x512x128 .f32) (h3 : a3.IsWhole)
    (a4 : Memref sig .tc .vmem S512x2048 .f32) (h4 : a4.IsWhole)
    (a5 : Memref sig .tc .vmem S4x256x256 .f32) (h5 : a5.IsWhole)
    (a6 : Memref sig .tc .vmem S1x1024 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S2048x2048 .bf16) (h9 : a9.IsWhole)
    (a10 : Memref sig .tc .vmem S1x2048 .f32) (h10 : a10.IsWhole)
    (a11 : Memref sig .tc .vmem S1x2048 .f32) (h11 : a11.IsWhole)
    (a12 : Memref sig .tc .vmem S512x2048 .f32) (h12 : a12.IsWhole)
    (a13 : Memref sig .tc .vmem S512x2048 .bf16) (h13 : a13.IsWhole)
    (a14 : Memref sig .tc .vmem S4x256x256 .bf16) (h14 : a14.IsWhole)
  (x0 : Vec Ideal S2x512x512 .f32) (x1 : Vec Ideal S2x16x512 .f32) (x2 : Vec Ideal S8x512x128 .f32) (x3 : Vec Ideal S512x2048 .f32) (x4 : Vec Ideal S4x256x256 .f32) (x5 : Vec Ideal S1x1024 .f32) (x6 : Vec Ideal S1x1024 .f32) (x7 : Vec Ideal S1x1024 .f32) (x8 : Vec Ideal S2048x2048 .bf16) (x9 : Vec Ideal S1x2048 .f32) (x10 : Vec Ideal S1x2048 .f32)

open kernelRun0_B.sl in
theorem out_B11 (hc : ¬cond0_0 i) (xs : Vec Ideal S4x256x256 .bf16) :
    out0_B_11 c i a1 h1 a2 h2 a3 h3 a4 h4 a5 h5 a6 h6 a7 h7 a8 h8 a9 h9 a10 h10 a11 h11 a12 h12 a13 h13 a14 h14 hc x0 x1 x2 x3 x4 x5 x6 x7 x8 x9 x10 xs = fun j => blkH (fst i) (off i) x0 x1 x2 x3 x5 x6 x7 x8 x9 xs (j 0) (j 1) := by
  unfold out0_B_11
  have hcov := cover0_B_11 c i a1 h1 a2 h2 a3 h3 a4 h4 a5 h5 a6 h6 a7 h7 a8 h8 a9 h9 a10 h10 a11 h11 a12 h12 a13 h13 a14 h14 hc x0 x1 x2 x3 x4 x5 x6 x7 x8 x9 x10 xs
  rw [View.read_writes_eq_canon _ _ _ hcov]
  revert hcov
  unfold kernelRun0_B
  dsimp only
  simp only [r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, fB]
  intro hcov
  refine two _ _ _ _ _ (fun r l q hq => ?_) (fun r l q hq => ?_) hcov
  · exact hi_at _ (off i) x0 x1 x2 x3 x5 x6 x7 x8 x9 xs _ (wd24 i) (off_lt i) r l q hq
  · exact lo_at _ (off i) x0 x1 x2 x3 x5 x6 x7 x8 x9 xs _ _ _ (w8B i) (by have := off_lt i; omega) r l q hq

open kernelRun0_B.sl in
theorem out_B12 (hc : ¬cond0_0 i) (xs : Vec Ideal S4x256x256 .bf16) :
    out0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 xs = fun j => blkN (fst i) (off i) x0 x1 x2 x3 x5 x6 x7 x8 x9 x10 xs (j 0) (j 1) := by
  unfold out0_B_12
  have hcov := cover0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 xs
  rw [View.read_writes_eq_canon _ _ _ hcov]
  revert hcov
  unfold kernelRun0_B
  dsimp only
  simp only [r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, fB]
  intro hcov
  refine two _ _ _ _ _ (fun r l q hq => ?_) (fun r l q hq => ?_) hcov
  · rw [e2]
    exact nv_of _ _ r l _ x10 (fun l => hi_at _ (off i) x0 x1 x2 x3 x5 x6 x7 x8 x9 xs _ (wd24 i) (off_lt i) r l q hq) (fun a => ld2 x10 _ 0 a _ _ rfl (Nat.zero_add _).symm)
  · rw [e23]
    exact nv_of _ _ r l _ x10 (fun l => lo_at _ (off i) x0 x1 x2 x3 x5 x6 x7 x8 x9 xs _ _ _ (w8B i) (by have := off_lt i; omega) r l q hq) (fun a => ld2 x10 _ 0 a _ _ rfl (Nat.zero_add _).symm)

open kernelRun0_A.sl in
theorem out_A11 (hc : cond0_0 i) :
    out0_A_11 c i a1 h1 a2 h2 a3 h3 a4 h4 a5 h5 a6 h6 a7 h7 a8 h8 a9 h9 a10 h10 a11 h11 a12 h12 a13 h13 a14 h14 hc x0 x1 x2 x3 x4 x5 x6 x7 x8 x9 x10 = fun j => blkH (fst i) (off i) x0 x1 x2 x3 x5 x6 x7 x8 x9 x4 (j 0) (j 1) := by
  unfold out0_A_11
  have hcov := cover0_A_11 c i a1 h1 a2 h2 a3 h3 a4 h4 a5 h5 a6 h6 a7 h7 a8 h8 a9 h9 a10 h10 a11 h11 a12 h12 a13 h13 a14 h14 hc x0 x1 x2 x3 x4 x5 x6 x7 x8 x9 x10
  rw [View.read_writes_eq_canon _ _ _ hcov]
  revert hcov
  unfold kernelRun0_A
  dsimp only
  simp only [r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, fA, kernelRun0_A.sl.v14, kernelRun0_A.sl.v16, kernelRun0_A.sl.v18, kernelRun0_A.sl.v20, rdA c a5 h5 a14 h14 x4]
  intro hcov
  refine two _ _ _ _ _ (fun r l q hq => ?_) (fun r l q hq => ?_) hcov
  · exact hi_at _ (off i) x0 x1 x2 x3 x5 x6 x7 x8 x9 x4 _ (wd24 i) (off_lt i) r l q hq
  · exact lo_at _ (off i) x0 x1 x2 x3 x5 x6 x7 x8 x9 x4 _ _ _ (w8A i) (by have := off_lt i; omega) r l q hq

open kernelRun0_A.sl in
theorem out_A12 (hc : cond0_0 i) :
    out0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10 = fun j => blkN (fst i) (off i) x0 x1 x2 x3 x5 x6 x7 x8 x9 x10 x4 (j 0) (j 1) := by
  unfold out0_A_12
  have hcov := cover0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10
  rw [View.read_writes_eq_canon _ _ _ hcov]
  revert hcov
  unfold kernelRun0_A
  dsimp only
  simp only [r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, fA, kernelRun0_A.sl.v14, kernelRun0_A.sl.v16, kernelRun0_A.sl.v18, kernelRun0_A.sl.v20, rdA c a5 h5 a14 h14 x4]
  intro hcov
  refine two _ _ _ _ _ (fun r l q hq => ?_) (fun r l q hq => ?_) hcov
  · rw [e2]
    exact nv_of _ _ r l _ x10 (fun l => hi_at _ (off i) x0 x1 x2 x3 x5 x6 x7 x8 x9 x4 _ (wd24 i) (off_lt i) r l q hq) (fun a => ld2 x10 _ 0 a _ _ rfl (Nat.zero_add _).symm)
  · rw [e23]
    exact nv_of _ _ r l _ x10 (fun l => lo_at _ (off i) x0 x1 x2 x3 x5 x6 x7 x8 x9 x4 _ _ _ (w8A i) (by have := off_lt i; omega) r l q hq) (fun a => ld2 x10 _ 0 a _ _ rfl (Nat.zero_add _).symm)

theorem sout_A (hc : cond0_0 i) :
    sout0_A_0 c i a1 h1 a2 h2 a3 h3 a4 h4 a5 h5 a6 h6 a7 h7 a8 h8 a9 h9 a10 h10 a11 h11 a12 h12 a13 h13 a14 h14 hc x0 x1 x2 x3 x4 x5 x6 x7 x8 x9 x10 = x4 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 hc x0 x1 x2 x3 x4 x5 x6 x7 x8 x9 x10)]
  unfold kernelRun0_A
  dsimp only
  simp only [kernelRun0_A.sl.HS0_1, View.readAt_eq_ld, h5.read_unread]
  exact (View.canon_unit_zero hz3 _ _).trans ((congrArg k0_pay3 (View.ld_unit_zero (S := S4x256x256) hz3 _ _)).trans (pay3_eq x4))

end Cert.Kernel4Ideal.Mix

end
-- ==== Proof.MixForm.lean ====
/-
  The mixing call's two results, a row at a time: the windowed means of the pooled half, the heads, the two norms and the product
  with the output weights.
-/
module

public import proofs.«01_k».proof.Defs
public import proofs.«01_k».proof.Proof.MixOut
public import Idealize.ShloMosaic.Lib.Pipeline.Value
public import Idealize.ShloMosaic.Lib.StableHlo.Run
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

/-- The entry `k` rows before a row, or nothing before the row's sequence starts. -/
def EG (u : Vec Ideal S2x8192x512 .f32) (r : Fin 8192) (g : Fin 4) (k : ℕ) (a : Fin 256) : EReal :=
  if k ≤ r.val % 2048 then u (ix3 ⟨g.val / 2, by omega⟩ ⟨r.val - k, by omega⟩ ⟨256 * (g.val % 2) + a.val, by omega⟩) else 0

/-- The pooled half's entry: a group's windowed mean less the row itself, through the group's weights and scaled. -/
def pg (u : Vec Ideal S2x8192x512 .f32) (wp : Vec Ideal S1x4x256x256 .f32) (ps : Vec Ideal S1x1024 .f32) (r : Fin 8192) (g : Fin 4) (c : Fin 256) : EReal :=
  grp (fun a => ∑ k ∈ Finset.range (WW g), EG u r g k a) (fun a => EG u r g 0 a) (((r.val % 2048 : ℕ) : ℝ) : EReal) (WB g)
    (fun a => wp (ix4 0 g a c)) (ps (ix2 0 ⟨256 * g.val + c.val, by omega⟩))

/-- A row of the first result. -/
def rowH (u : Vec Ideal S2x8192x512 .f32) (hd : Vec Ideal S8x8192x128 .f32) (x : Vec Ideal S4x2048x2048 .f32) (wp : Vec Ideal S1x4x256x256 .f32)
    (ps gp ga : Vec Ideal S1x1024 .f32) (wo : Vec Ideal S2048x2048 .bf16) (gm : Vec Ideal S1x2048 .f32) (r : Fin 8192) (l : Fin 2048) : EReal :=
  hrow (fun a => pg u wp ps r ⟨a.val / 256, by omega⟩ ⟨a.val % 256, by omega⟩) (fun a => hd (ix3 ⟨a.val / 128, by omega⟩ r ⟨a.val % 128, by omega⟩))
    (fun a => gp (ix2 0 a)) (fun a => ga (ix2 0 a)) (fun a b => wo (ix2 ⟨a.val, by omega⟩ b)) (fun a b => wo (ix2 ⟨1024 + a.val, by omega⟩ b))
    (fun a => x (ix3 ⟨r.val / 2048, by omega⟩ ⟨r.val % 2048, by omega⟩ a)) (fun a => gm (ix2 0 a)) l

/-- A row of the second: the first's norm. -/
def rowN (u : Vec Ideal S2x8192x512 .f32) (hd : Vec Ideal S8x8192x128 .f32) (x : Vec Ideal S4x2048x2048 .f32) (wp : Vec Ideal S1x4x256x256 .f32)
    (ps gp ga : Vec Ideal S1x1024 .f32) (wo : Vec Ideal S2048x2048 .bf16) (gm gn : Vec Ideal S1x2048 .f32) (r : Fin 8192) (l : Fin 2048) : EReal :=
  nrm 0x45000000#32 (rowH u hd x wp ps gp ga wo gm r) (fun a => gn (ix2 0 a)) l

end Cert.Kernel4Ideal.Mix

end
-- ==== Proof.MixRun.lean ====
/-
  What the mixing call leaves in its two results: every row block of them, from the block's rows, the sixteen rows before it and the
  pooling weights its scratch keeps.
-/
module

public import proofs.«01_k».proof.Defs
public import proofs.«01_k».proof.Proof.Gen.Kernel4Ideal.Value
public import proofs.«01_k».proof.Proof.MixForm
public import Idealize.ShloMosaic.Lib.Pipeline.Value
public import Idealize.ShloMosaic.Lib.StableHlo.Run
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

variable (m : (ℓ : Loc nD τ sig) → Buf (Elt Ideal) ℓ) (ρ : Dev nD → PrngReg)

theorem n16 : cfg0.N = 16 := N_0

theorem co : ∀ t : Fin cfg0.N, (grid0.coords t 0).val = t.val := by decide +kernel
theorem x0 : ∀ t : Fin cfg0.N, win0_0.index t = ![0, t.val, 0] := by decide +kernel
theorem x1 : ∀ t : Fin cfg0.N, win0_1.index t = ![0, 32 * t.val - 1, 0] := by decide +kernel
theorem x2 : ∀ t : Fin cfg0.N, win0_2.index t = ![0, t.val, 0] := by decide +kernel
theorem x3 : ∀ t : Fin cfg0.N, win0_3.index t = ![t.val, 0] := by decide +kernel
theorem x4 : ∀ t : Fin cfg0.N, win0_4.index t = ![0, 0, 0] := by decide +kernel
theorem x5 : ∀ t : Fin cfg0.N, win0_5.index t = ![0, 0] := by decide +kernel
theorem x6 : ∀ t : Fin cfg0.N, win0_6.index t = ![0, 0] := by decide +kernel
theorem x7 : ∀ t : Fin cfg0.N, win0_7.index t = ![0, 0] := by decide +kernel
theorem x8 : ∀ t : Fin cfg0.N, win0_8.index t = ![0, 0] := by decide +kernel
theorem x9 : ∀ t : Fin cfg0.N, win0_9.index t = ![0, 0] := by decide +kernel
theorem x10 : ∀ t : Fin cfg0.N, win0_10.index t = ![0, 0] := by decide +kernel
theorem x11 : ∀ t : Fin cfg0.N, win0_11.index t = ![t.val, 0] := by decide +kernel
theorem x12 : ∀ t : Fin cfg0.N, win0_12.index t = ![t.val, 0] := by decide +kernel

/-- The arguments: the pooled input, the heads, the residual stream, the weights, scales and gains. -/
abbrev A0 (c : Dev nD) : Vec Ideal S2x8192x512 .f32 := m ((c : Thread nD τ).loc main_arg0)
abbrev A1 (c : Dev nD) : Vec Ideal S8x8192x128 .f32 := m ((c : Thread nD τ).loc main_arg1)
abbrev A2 (c : Dev nD) : Vec Ideal S4x2048x2048 .f32 := m ((c : Thread nD τ).loc main_arg2)
abbrev A3 (c : Dev nD) : Vec Ideal S1x4x256x256 .f32 := m ((c : Thread nD τ).loc main_arg3)
abbrev A4 (c : Dev nD) : Vec Ideal S1x1024 .f32 := m ((c : Thread nD τ).loc main_arg4)
abbrev A5 (c : Dev nD) : Vec Ideal S1x1024 .f32 := m ((c : Thread nD τ).loc main_arg5)
abbrev A6 (c : Dev nD) : Vec Ideal S1x1024 .f32 := m ((c : Thread nD τ).loc main_arg6)
abbrev A7 (c : Dev nD) : Vec Ideal S2048x2048 .bf16 := m ((c : Thread nD τ).loc main_arg7)
abbrev A8 (c : Dev nD) : Vec Ideal S1x2048 .f32 := m ((c : Thread nD τ).loc main_arg8)
abbrev A9 (c : Dev nD) : Vec Ideal S1x2048 .f32 := m ((c : Thread nD τ).loc main_arg9)

theorem vX (c : Dev nD) (q : Fin 8192) (a : Fin 2048) : (V m c main_v0 : Vec Ideal S8192x2048 .f32) (ix2 q a) = A2 m c (ix3 ⟨q.val / 2048, by omega⟩ ⟨q.val % 2048, by omega⟩ a) := by
  unfold V
  after_results_simp
  pointwise

theorem vW (c : Dev nD) (g : Fin 4) (a b : Fin 256) : (V m c main_v1 : Vec Ideal S4x256x256 .f32) (ix3 g a b) = A3 m c (ix4 0 g a b) := by
  unfold V
  after_results_simp
  pointwise

theorem vG0 (c : Dev nD) (a : Fin 1024) : (V m c main_v3 : Vec Ideal S1x1024 .f32) (ix2 0 a) = A4 m c (ix2 0 a) := by
  unfold V
  after_results_simp
  pointwise

theorem vG1 (c : Dev nD) (a : Fin 1024) : (V m c main_v5 : Vec Ideal S1x1024 .f32) (ix2 0 a) = A5 m c (ix2 0 a) := by
  unfold V
  after_results_simp
  pointwise

theorem vG2 (c : Dev nD) (a : Fin 1024) : (V m c main_v7 : Vec Ideal S1x1024 .f32) (ix2 0 a) = A6 m c (ix2 0 a) := by
  unfold V
  after_results_simp
  pointwise

theorem vG3 (c : Dev nD) (a : Fin 2048) : (V m c main_v9 : Vec Ideal S1x2048 .f32) (ix2 0 a) = A8 m c (ix2 0 a) := by
  unfold V
  after_results_simp
  pointwise

theorem vG4 (c : Dev nD) (a : Fin 2048) : (V m c main_v11 : Vec Ideal S1x2048 .f32) (ix2 0 a) = A9 m c (ix2 0 a) := by
  unfold V
  after_results_simp
  pointwise

theorem b0 (c : Dev nD) (t : Fin cfg0.N) (h : Fin 2) (r : Fin 512) (a : Fin 512) :
    (iblk m c 0 t : Vec Ideal S2x512x512 .f32) (ix3 h r a) = A0 m c (ix3 h ⟨512 * t.val + r.val, by have := t.isLt; have := n16; omega⟩ a) := by
  unfold iblk
  rw [View.read_apply]
  show V m c main_arg0 _ = _
  rw [show V m c main_arg0 = A0 m c from V_main_arg0 m c]
  congr 1
  funext b
  apply Fin.ext
  match b with
  | ⟨0, _⟩ => show win0_0.index t 0 * 2 + 1 * h.val = h.val; rw [x0]; simp
  | ⟨1, _⟩ => show win0_0.index t 1 * 512 + 1 * r.val = 512 * t.val + r.val; rw [x0]; simp; omega
  | ⟨2, _⟩ => show win0_0.index t 2 * 512 + 1 * a.val = a.val; rw [x0]; simp

theorem b1 (c : Dev nD) (t : Fin cfg0.N) (h : Fin 2) (r : Fin 16) (a : Fin 512) :
    (iblk m c 1 t : Vec Ideal S2x16x512 .f32) (ix3 h r a) = A0 m c (ix3 h ⟨16 * (32 * t.val - 1) + r.val, by have := t.isLt; have := n16; omega⟩ a) := by
  unfold iblk
  rw [View.read_apply]
  show V m c main_arg0 _ = _
  rw [show V m c main_arg0 = A0 m c from V_main_arg0 m c]
  congr 1
  funext b
  apply Fin.ext
  match b with
  | ⟨0, _⟩ => show win0_1.index t 0 * 2 + 1 * h.val = h.val; rw [x1]; simp
  | ⟨1, _⟩ => show win0_1.index t 1 * 16 + 1 * r.val = 16 * (32 * t.val - 1) + r.val; rw [x1]; simp; omega
  | ⟨2, _⟩ => show win0_1.index t 2 * 512 + 1 * a.val = a.val; rw [x1]; simp

theorem b2 (c : Dev nD) (t : Fin cfg0.N) (h : Fin 8) (r : Fin 512) (a : Fin 128) :
    (iblk m c 2 t : Vec Ideal S8x512x128 .f32) (ix3 h r a) = A1 m c (ix3 h ⟨512 * t.val + r.val, by have := t.isLt; have := n16; omega⟩ a) := by
  unfold iblk
  rw [View.read_apply]
  show V m c main_arg1 _ = _
  rw [show V m c main_arg1 = A1 m c from V_main_arg1 m c]
  congr 1
  funext b
  apply Fin.ext
  match b with
  | ⟨0, _⟩ => show win0_2.index t 0 * 8 + 1 * h.val = h.val; rw [x2]; simp
  | ⟨1, _⟩ => show win0_2.index t 1 * 512 + 1 * r.val = 512 * t.val + r.val; rw [x2]; simp; omega
  | ⟨2, _⟩ => show win0_2.index t 2 * 128 + 1 * a.val = a.val; rw [x2]; simp

theorem b3 (c : Dev nD) (t : Fin cfg0.N) (r : Fin 512) (a : Fin 2048) :
    (iblk m c 3 t : Vec Ideal S512x2048 .f32) (ix2 r a) = (V m c main_v0 : Vec Ideal S8192x2048 .f32) (ix2 ⟨512 * t.val + r.val, by have := t.isLt; have := n16; omega⟩ a) := by
  unfold iblk
  rw [View.read_apply]
  show V m c main_v0 _ = _
  congr 1
  funext b
  apply Fin.ext
  match b with
  | ⟨0, _⟩ => show win0_3.index t 0 * 512 + 1 * r.val = 512 * t.val + r.val; rw [x3]; simp; omega
  | ⟨1, _⟩ => show win0_3.index t 1 * 2048 + 1 * a.val = a.val; rw [x3]; simp

theorem b4 (c : Dev nD) (t : Fin cfg0.N) (g : Fin 4) (a l : Fin 256) :
    (iblk m c 4 t : Vec Ideal S4x256x256 .f32) (ix3 g a l) = (V m c main_v1 : Vec Ideal S4x256x256 .f32) (ix3 g a l) := by
  unfold iblk
  rw [View.read_apply]
  show V m c main_v1 _ = _
  congr 1
  funext b
  apply Fin.ext
  match b with
  | ⟨0, _⟩ => show win0_4.index t 0 * 4 + 1 * g.val = g.val; rw [x4]; simp
  | ⟨1, _⟩ => show win0_4.index t 1 * 256 + 1 * a.val = a.val; rw [x4]; simp
  | ⟨2, _⟩ => show win0_4.index t 2 * 256 + 1 * l.val = l.val; rw [x4]; simp

theorem b5 (c : Dev nD) (t : Fin cfg0.N) (r : Fin 1) (a : Fin 1024) :
    (iblk m c 5 t : Vec Ideal S1x1024 .f32) (ix2 r a) = (V m c main_v3 : Vec Ideal S1x1024 .f32) (ix2 r a) := by
  unfold iblk
  rw [View.read_apply]
  show V m c main_v3 _ = _
  congr 1
  funext b
  apply Fin.ext
  match b with
  | ⟨0, _⟩ => show win0_5.index t 0 * 1 + 1 * r.val = r.val; rw [x5]; simp
  | ⟨1, _⟩ => show win0_5.index t 1 * 1024 + 1 * a.val = a.val; rw [x5]; simp

theorem b6 (c : Dev nD) (t : Fin cfg0.N) (r : Fin 1) (a : Fin 1024) :
    (iblk m c 6 t : Vec Ideal S1x1024 .f32) (ix2 r a) = (V m c main_v5 : Vec Ideal S1x1024 .f32) (ix2 r a) := by
  unfold iblk
  rw [View.read_apply]
  show V m c main_v5 _ = _
  congr 1
  funext b
  apply Fin.ext
  match b with
  | ⟨0, _⟩ => show win0_6.index t 0 * 1 + 1 * r.val = r.val; rw [x6]; simp
  | ⟨1, _⟩ => show win0_6.index t 1 * 1024 + 1 * a.val = a.val; rw [x6]; simp

theorem b7 (c : Dev nD) (t : Fin cfg0.N) (r : Fin 1) (a : Fin 1024) :
    (iblk m c 7 t : Vec Ideal S1x1024 .f32) (ix2 r a) = (V m c main_v7 : Vec Ideal S1x1024 .f32) (ix2 r a) := by
  unfold iblk
  rw [View.read_apply]
  show V m c main_v7 _ = _
  congr 1
  funext b
  apply Fin.ext
  match b with
  | ⟨0, _⟩ => show win0_7.index t 0 * 1 + 1 * r.val = r.val; rw [x7]; simp
  | ⟨1, _⟩ => show win0_7.index t 1 * 1024 + 1 * a.val = a.val; rw [x7]; simp

theorem b9 (c : Dev nD) (t : Fin cfg0.N) (r : Fin 1) (a : Fin 2048) :
    (iblk m c 9 t : Vec Ideal S1x2048 .f32) (ix2 r a) = (V m c main_v9 : Vec Ideal S1x2048 .f32) (ix2 r a) := by
  unfold iblk
  rw [View.read_apply]
  show V m c main_v9 _ = _
  congr 1
  funext b
  apply Fin.ext
  match b with
  | ⟨0, _⟩ => show win0_9.index t 0 * 1 + 1 * r.val = r.val; rw [x9]; simp
  | ⟨1, _⟩ => show win0_9.index t 1 * 2048 + 1 * a.val = a.val; rw [x9]; simp

theorem b10 (c : Dev nD) (t : Fin cfg0.N) (r : Fin 1) (a : Fin 2048) :
    (iblk m c 10 t : Vec Ideal S1x2048 .f32) (ix2 r a) = (V m c main_v11 : Vec Ideal S1x2048 .f32) (ix2 r a) := by
  unfold iblk
  rw [View.read_apply]
  show V m c main_v11 _ = _
  congr 1
  funext b
  apply Fin.ext
  match b with
  | ⟨0, _⟩ => show win0_10.index t 0 * 1 + 1 * r.val = r.val; rw [x10]; simp
  | ⟨1, _⟩ => show win0_10.index t 1 * 2048 + 1 * a.val = a.val; rw [x10]; simp

theorem b8 (c : Dev nD) (t : Fin cfg0.N) (r : Fin 2048) (a : Fin 2048) :
    (iblk m c 8 t : Vec Ideal S2048x2048 .bf16) (ix2 r a) = A7 m c (ix2 r a) := by
  unfold iblk
  rw [View.read_apply]
  show V m c main_arg7 _ = _
  rw [show V m c main_arg7 = A7 m c from V_main_arg7 m c]
  congr 1
  funext b
  apply Fin.ext
  match b with
  | ⟨0, _⟩ => show win0_8.index t 0 * 2048 + 1 * r.val = r.val; rw [x8]; simp
  | ⟨1, _⟩ => show win0_8.index t 1 * 2048 + 1 * a.val = a.val; rw [x8]; simp

/-- The two results. -/
def resH (c : Dev nD) : Vec Ideal S8192x2048 .f32 := fun j => rowH (A0 m c) (A1 m c) (A2 m c) (A3 m c) (A4 m c) (A5 m c) (A6 m c) (A7 m c) (A8 m c) (j 0) (j 1)
def resN (c : Dev nD) : Vec Ideal S8192x2048 .bf16 := fun j => rowN (A0 m c) (A1 m c) (A2 m c) (A3 m c) (A4 m c) (A5 m c) (A6 m c) (A7 m c) (A8 m c) (A9 m c) (j 0) (j 1)

/-- The entry some rows back, read from the block or from the rows before it, is the whole input's. -/
theorem E_of (c : Dev nD) (t : Fin cfg0.N) (g : Fin 4) (q : Fin 512) (k : ℕ) (hk : k < 16) (a : Fin 256) :
    E (fst (grid0.coords t)) (iblk m c 0 t) (iblk m c 1 t) g q k a = EG (A0 m c) ⟨512 * t.val + q.val, by have := t.isLt; have := n16; omega⟩ g k a := by
  have hN := n16
  have ht := t.isLt
  have hc := co t
  unfold E EG fst
  rw [hc]
  by_cases h1 : k ≤ q.val
  · rw [if_pos h1, if_pos (by show k ≤ (512 * t.val + q.val) % 2048; omega), b0]
    congr 1
    funext b
    apply Fin.ext
    match b with
    | ⟨0, _⟩ => rfl
    | ⟨1, _⟩ => show 512 * t.val + (q.val - k) = 512 * t.val + q.val - k; omega
    | ⟨2, _⟩ => rfl
  · rw [if_neg h1]
    by_cases h2 : t.val % 4 = 0
    · rw [if_pos h2, if_pos rfl, if_neg (by show ¬ k ≤ (512 * t.val + q.val) % 2048; omega)]
    · rw [if_neg h2, if_neg (by decide), if_pos (by show k ≤ (512 * t.val + q.val) % 2048; omega), b1]
      congr 1
      funext b
      apply Fin.ext
      match b with
      | ⟨0, _⟩ => rfl
      | ⟨1, _⟩ => show 16 * (32 * t.val - 1) + (16 + q.val - k) % 16 = 512 * t.val + q.val - k; omega
      | ⟨2, _⟩ => rfl

theorem WW_le (g : Fin 4) : WW g ≤ 16 := by revert g; decide

theorem bp_of (c : Dev nD) (t : Fin cfg0.N) (s : Vec Ideal S4x256x256 .bf16) (hs : ∀ g a l, s (ix3 g a l) = A3 m c (ix4 0 g a l))
    (q : Fin 512) (g : Fin 4) (l : Fin 256) :
    bp (fst (grid0.coords t)) (off (grid0.coords t)) (iblk m c 0 t) (iblk m c 1 t) (iblk m c 5 t) s q g l
      = pg (A0 m c) (A3 m c) (A4 m c) ⟨512 * t.val + q.val, by have := t.isLt; have := n16; omega⟩ g l := by
  have hc := co t
  unfold bp pg
  refine grp_congr (funext fun a => Finset.sum_congr rfl fun k hk => ?_) (funext fun a => E_of m c t g q 0 (by omega) a) ?_ rfl (funext fun a => hs g a l)
    ((b5 m c t 0 _).trans (vG0 m c _))
  · exact E_of m c t g q k (lt_of_lt_of_le (Finset.mem_range.mp hk) (WW_le g)) a
  · have e : off (grid0.coords t) + q.val = (512 * t.val + q.val) % 2048 := by unfold off; rw [hc]; omega
    show (((off (grid0.coords t) + q.val : ℕ) : ℝ) : EReal) = _
    rw [e]

theorem blk_of (c : Dev nD) (t : Fin cfg0.N) (s : Vec Ideal S4x256x256 .bf16) (hs : ∀ g a l, s (ix3 g a l) = A3 m c (ix4 0 g a l))
    (r : Fin 512) (l : Fin 2048) :
    blkH (fst (grid0.coords t)) (off (grid0.coords t)) (iblk m c 0 t) (iblk m c 1 t) (iblk m c 2 t) (iblk m c 3 t) (iblk m c 5 t) (iblk m c 6 t) (iblk m c 7 t) (iblk m c 8 t) (iblk m c 9 t) s r l
      = resH m c (ix2 ⟨512 * t.val + r.val, by have := t.isLt; have := n16; omega⟩ l) := by
  unfold blkH resH rowH
  refine hrow_congr _ (funext fun a => bp_of m c t s hs r _ _) (funext fun a => b2 m c t _ r _) (funext fun a => (b6 m c t 0 a).trans (vG1 m c a))
    (funext fun a => (b7 m c t 0 a).trans (vG2 m c a)) (funext fun a => funext fun b => b8 m c t _ b) (funext fun a => funext fun b => b8 m c t _ b)
    (funext fun a => (b3 m c t r a).trans (vX m c _ a)) (funext fun a => (b9 m c t 0 a).trans (vG3 m c a))

theorem blkN_of (c : Dev nD) (t : Fin cfg0.N) (s : Vec Ideal S4x256x256 .bf16) (hs : ∀ g a l, s (ix3 g a l) = A3 m c (ix4 0 g a l))
    (r : Fin 512) (l : Fin 2048) :
    blkN (fst (grid0.coords t)) (off (grid0.coords t)) (iblk m c 0 t) (iblk m c 1 t) (iblk m c 2 t) (iblk m c 3 t) (iblk m c 5 t) (iblk m c 6 t) (iblk m c 7 t) (iblk m c 8 t) (iblk m c 9 t) (iblk m c 10 t) s r l
      = resN m c (ix2 ⟨512 * t.val + r.val, by have := t.isLt; have := n16; omega⟩ l) := by
  unfold blkN resN rowN
  rw [funext fun l => blk_of m c t s hs r l, funext fun a => (b10 m c t 0 a).trans (vG4 m c a)]
  rfl

/-- The scratch holds the pooling weights after every point. -/
theorem scr (c : Dev nD) : ∀ (n : ℕ) (h : n < cfg0.N) (g : Fin 4) (a l : Fin 256),
    (outsAt0 m c n h).2.2 (ix3 g a l) = A3 m c (ix4 0 g a l) := by
  intro n
  induction n with
  | zero =>
    intro h g a l
    rw [outsAt0_A m c ⟨0, h⟩ rfl]
    dsimp only
    rw [sout_A, b4, vW]
  | succ n ih =>
    intro h g a l
    have hN := n16
    rw [outsAt0_B m c ⟨n + 1, h⟩ (by simp only; omega)]
    dsimp only
    unfold sout0_B_0
    exact ih _ g a l

theorem outs11 (c : Dev nD) (t : Fin cfg0.N) (r : Fin 512) (l : Fin 2048) :
    (outsAt0 m c t.val t.isLt).1 (ix2 r l) = resH m c (ix2 ⟨512 * t.val + r.val, by have := t.isLt; have := n16; omega⟩ l) := by
  by_cases h0 : t.val % 16 = 0
  · rw [outsAt0_A m c t h0]
    dsimp only
    rw [out_A11]
    exact blk_of m c t _ (fun g a l => (b4 m c t g a l).trans (vW m c g a l)) r l
  · rw [outsAt0_B m c t h0]
    dsimp only
    rw [out_B11]
    exact blk_of m c t _ (fun g a l => scr m c _ _ g a l) r l

/-- The write-backs write the result's row blocks. -/
theorem flushed_11 (c : Dev nD) (t : Fin cfg0.N) (hf : (cfg0.win 11).flush t = true) :
    (dats m 0 c).flushed 11 t = ((cfg0.win 11).blk t).view.read (Elt Ideal) (resH m c) := by
  rw [Value.flushed11]
  funext j
  rw [View.read_apply]
  obtain ⟨r, l, rfl⟩ : ∃ (r : Fin 512) (l : Fin 2048), j = ix2 r l := ⟨j 0, j 1, eq_ix2 j⟩
  show (outsAt0 m c t.val t.isLt).1 (ix2 r l) = resH m c _
  rw [outs11]
  congr 1
  funext b
  apply Fin.ext
  match b with
  | ⟨0, _⟩ => show 512 * t.val + r.val = win0_11.index t 0 * 512 + 1 * r.val; rw [x11]; simp; omega
  | ⟨1, _⟩ => show l.val = win0_11.index t 1 * 2048 + 1 * l.val; rw [x11]; simp

theorem final_11 (c : Dev nD) : (dats m 0 c).arrAt 11 cfg0.N = resH m c :=
  (dats m 0 c).arrAt_eq_of_cover 11 (resH m c) (flushed_11 m c) fun i => by
    have h0 : (i 0 : Nat) < 8192 := (i 0).isLt
    have h1 : (i 1 : Nat) < 2048 := (i 1).isLt
    have hN := n16
    obtain ⟨t, ht⟩ : ∃ t : Fin cfg0.N, t.val = (i 0 : Nat) / 512 := ⟨⟨_, by omega⟩, rfl⟩
    refine ⟨t, flush0_11 t, ?_⟩
    show i ∈ ((View.whole main_v12_0).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [x11]; simp; omega
    | ⟨1, _⟩ =>
      show win0_11.index t 1 * 2048 ≤ (i 1 : Nat) ∧ (i 1 : Nat) < win0_11.index t 1 * 2048 + 2048
      rw [x11]; simp; omega

theorem outs12 (c : Dev nD) (t : Fin cfg0.N) (r : Fin 512) (l : Fin 2048) :
    (outsAt0 m c t.val t.isLt).2.1 (ix2 r l) = resN m c (ix2 ⟨512 * t.val + r.val, by have := t.isLt; have := n16; omega⟩ l) := by
  by_cases h0 : t.val % 16 = 0
  · rw [outsAt0_A m c t h0]
    dsimp only
    rw [out_A12]
    exact blkN_of m c t _ (fun g a l => (b4 m c t g a l).trans (vW m c g a l)) r l
  · rw [outsAt0_B m c t h0]
    dsimp only
    rw [out_B12]
    exact blkN_of m c t _ (fun g a l => scr m c _ _ g a l) r l

/-- The write-backs write the result's row blocks. -/
theorem flushed_12 (c : Dev nD) (t : Fin cfg0.N) (hf : (cfg0.win 12).flush t = true) :
    (dats m 0 c).flushed 12 t = ((cfg0.win 12).blk t).view.read (Elt Ideal) (resN m c) := by
  rw [Value.flushed12]
  funext j
  rw [View.read_apply]
  obtain ⟨r, l, rfl⟩ : ∃ (r : Fin 512) (l : Fin 2048), j = ix2 r l := ⟨j 0, j 1, eq_ix2 j⟩
  show (outsAt0 m c t.val t.isLt).2.1 (ix2 r l) = resN m c _
  rw [outs12]
  congr 1
  funext b
  apply Fin.ext
  match b with
  | ⟨0, _⟩ => show 512 * t.val + r.val = win0_12.index t 0 * 512 + 1 * r.val; rw [x12]; simp; omega
  | ⟨1, _⟩ => show l.val = win0_12.index t 1 * 2048 + 1 * l.val; rw [x12]; simp

theorem final_12 (c : Dev nD) : (dats m 0 c).arrAt 12 cfg0.N = resN m c :=
  (dats m 0 c).arrAt_eq_of_cover 12 (resN m c) (flushed_12 m c) fun i => by
    have h0 : (i 0 : Nat) < 8192 := (i 0).isLt
    have h1 : (i 1 : Nat) < 2048 := (i 1).isLt
    have hN := n16
    obtain ⟨t, ht⟩ : ∃ t : Fin cfg0.N, t.val = (i 0 : Nat) / 512 := ⟨⟨_, by omega⟩, rfl⟩
    refine ⟨t, flush0_12 t, ?_⟩
    show i ∈ ((View.whole main_v12_1).slice (win0_12.rect t)).set
    rw [View.set_slice_whole, Rect.mem_set_unit]
    intro a
    match a with
    | ⟨0, _⟩ =>
      show win0_12.index t 0 * 512 ≤ (i 0 : Nat) ∧ (i 0 : Nat) < win0_12.index t 0 * 512 + 512
      rw [x12]; simp; omega
    | ⟨1, _⟩ =>
      show win0_12.index t 1 * 2048 ≤ (i 1 : Nat) ∧ (i 1 : Nat) < win0_12.index t 1 * 2048 + 2048
      rw [x12]; simp; omega

theorem run : θ_run defs (onTc (τ := τ) (main (F := Ideal))) ⟨m, fun _ => 0, ρ⟩ fun r => ∀ c : Dev nD,
      r.2.mem ((c : Thread nD τ).loc main_v12_0) = resH m c
      ∧ r.2.mem ((c : Thread nD τ).loc main_v12_1) = resN m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h c).1).trans (final_11 m c), ((h c).2.1).trans (final_12 m c), (h c).2.2⟩) (Value.run_blocks m ρ)

end Cert.Kernel4Ideal.Mix

end
-- ==== Proof.MixRef.lean ====
/-
  The mixing call's reference, its stages read a row at a time.
-/
module

public import proofs.«01_k».proof.Defs
public import proofs.«01_k».proof.Proof.Gen.Reference4Ideal
public import proofs.«01_k».proof.Proof.Gen.Reference4Ideal.Run
public import proofs.«01_k».proof.Proof.MixRun
public import Idealize.ShloMosaic.Lib.Pipeline.Value
public import Idealize.ShloMosaic.Lib.StableHlo.Run
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.MixRef

open Cert.Kernel4Ideal.Mix
open Cert.Reference4Ideal Cert.Reference4Ideal.Gen

/-- The pooled input by sequence, position, group and column. -/
def ug (u : FVec Ideal S2x8192x512 .f32) : FVec Ideal S4x2048x4x256 .f32 :=
  shapeCast _ (transpose S8192x2x512 [1, 0, 2] u transposes_S2x8192x512_S8192x2x512_1_0_2) shapeCasts_S8192x2x512_S4x2048x4x256
def xs0 (x : FVec Ideal S4x2048x4x256 .f32) : FVec Ideal S4x2048x256 .f32 :=
  shapeCast _ (extractStridedSlice S4x2048x1x256 ![0, 0, 0, 0] x slices_S4x2048x4x256_S4x2048x1x256_0_0_0_0) shapeCasts_S4x2048x1x256_S4x2048x256
def xs1 (x : FVec Ideal S4x2048x4x256 .f32) : FVec Ideal S4x2048x256 .f32 :=
  shapeCast _ (extractStridedSlice S4x2048x1x256 ![0, 0, 1, 0] x slices_S4x2048x4x256_S4x2048x1x256_0_0_1_0) shapeCasts_S4x2048x1x256_S4x2048x256
def xs2 (x : FVec Ideal S4x2048x4x256 .f32) : FVec Ideal S4x2048x256 .f32 :=
  shapeCast _ (extractStridedSlice S4x2048x1x256 ![0, 0, 2, 0] x slices_S4x2048x4x256_S4x2048x1x256_0_0_2_0) shapeCasts_S4x2048x1x256_S4x2048x256
def xs3 (x : FVec Ideal S4x2048x4x256 .f32) : FVec Ideal S4x2048x256 .f32 :=
  shapeCast _ (extractStridedSlice S4x2048x1x256 ![0, 0, 3, 0] x slices_S4x2048x4x256_S4x2048x1x256_0_0_3_0) shapeCasts_S4x2048x1x256_S4x2048x256

/-- Which positions a window of `w` ending at a position holds. -/
def mask (w : BitVec 32) : FVec Ideal S2048x2048 .f32 :=
  uitofp .f32 (andi (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))) (cmpi .sgt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (subi (broadcastInDim S2048x1 ![0] bcast_S2048_S2048x1_0 (iotaInDim S2048 32 0)) (broadcastInDim S2048x1 ![] bcast_S_S2048x1 (constantI S_ 32 w))))))

/-- A group's windowed mean less the row itself. -/
def dv (w wb : BitVec 32) (x : FVec Ideal S4x2048x256 .f32) : FVec Ideal S4x2048x256 .f32 :=
  subf (Host.divf (transpose S4x2048x256 [0, 2, 1] (Host.dotGeneral (so := S4x256x2048) (φ₁ := .f32) (φ₂ := .f32) dot_S4x2048x256_S2048x2048_S4x256x2048_1_1_02_0_n_n none x (mask w)) transposes_S4x256x2048_S4x2048x256_0_2_1) (broadcastInDim S4x2048x256 ![0, 1, 2] bcast_S1x2048x1_S4x2048x256_0_1_2 (broadcastInDim S1x2048x1 ![1] bcast_S2048_S1x2048x1_1 (minimumf (addf (sitofp .f32 (iotaInDim S2048 32 0)) (broadcastInDim S2048 ![] bcast_S_S2048 (constant S_ .f32 0x3F800000#32))) (broadcastInDim S2048 ![] bcast_S_S2048 (constant S_ .f32 wb)))))) x

def cat (y0 y1 y2 y3 : FVec Ideal S4x2048x256 .f32) : FVec Ideal S4x2048x4x256 .f32 :=
  concatenate S4x2048x4x256 2 [⟨S4x2048x1x256, broadcastInDim S4x2048x1x256 ![0, 1, 3] bcast_S4x2048x256_S4x2048x1x256_0_1_3 y0⟩, ⟨S4x2048x1x256, broadcastInDim S4x2048x1x256 ![0, 1, 3] bcast_S4x2048x256_S4x2048x1x256_0_1_3 y1⟩, ⟨S4x2048x1x256, broadcastInDim S4x2048x1x256 ![0, 1, 3] bcast_S4x2048x256_S4x2048x1x256_0_1_3 y2⟩, ⟨S4x2048x1x256, broadcastInDim S4x2048x1x256 ![0, 1, 3] bcast_S4x2048x256_S4x2048x1x256_0_1_3 y3⟩] concatenates_S4x2048x1x256_S4x2048x1x256_S4x2048x1x256_S4x2048x1x256_S4x2048x4x256_d2

/-- The groups through their weights, scaled. -/
def pl (y : FVec Ideal S4x2048x4x256 .f32) (wp : FVec Ideal S1x4x256x256 .f32) (ps : FVec Ideal S1x1024 .f32) : FVec Ideal S8192x1024 .f32 :=
  mulf (shapeCast _ (transpose S4x2048x4x256 [2, 3, 0, 1] (Host.dotGeneral (so := S4x256x4x2048) (φ₁ := .f32) (φ₂ := .f32) dot_S4x256x256_S4x2048x4x256_S4x256x4x2048_1_3_2_01_0_2 none (shapeCast _ wp shapeCasts_S1x4x256x256_S4x256x256) y) transposes_S4x256x4x2048_S4x2048x4x256_2_3_0_1) shapeCasts_S4x2048x4x256_S8192x1024) (broadcastInDim S8192x1024 ![0, 1] bcast_S1x1024_S8192x1024_0_1 (broadcastInDim S1x1024 ![1] bcast_S1024_S1x1024_1 (shapeCast _ ps shapeCasts_S1x1024_S1024)))

def hd2 (h : FVec Ideal S8x8192x128 .f32) : FVec Ideal S8192x1024 .f32 :=
  shapeCast _ (transpose S8192x8x128 [1, 0, 2] h transposes_S8x8192x128_S8192x8x128_1_0_2) shapeCasts_S8192x8x128_S8192x1024

/-- The reference's norm of every row, of 1024 and of 2048. -/
def hnA (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))
def hnB (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ g shapeCasts_S1x2048_S2048)))

/-- The two halves through the output weights. -/
def mixd (p h : FVec Ideal S8192x1024 .f32) (wo : FVec Ideal S2048x2048 .bf16) : FVec Ideal S8192x2048 .f32 :=
  Host.dotGeneral (so := S8192x2048) (φ₁ := .f32) (φ₂ := .bf16) dot_S8192x2048_S2048x2048_S8192x2048_1_0_0_1_n_n none (concatenate S8192x2048 1 [⟨S8192x1024, p⟩, ⟨S8192x1024, h⟩] concatenates_S8192x1024_S8192x1024_S8192x2048_d1) wo

theorem ug_at (u : FVec Ideal S2x8192x512 .f32) (b : Fin 4) (s : Fin 2048) (g : Fin 4) (a : Fin 256) :
    ug u (ix4 b s g a) = u (ix3 ⟨g.val / 2, by omega⟩ ⟨2048 * b.val + s.val, by omega⟩ ⟨256 * (g.val % 2) + a.val, by omega⟩) := by
  pointwise [ug]
  congr 1
  funext d
  apply Fin.ext
  match d with
  | ⟨0, _⟩ => rfl
  | ⟨1, _⟩ => show b.val * 2048 + s.val = 2048 * b.val + s.val; omega
  | ⟨2, _⟩ => show g.val % 2 * 256 + a.val = 256 * (g.val % 2) + a.val; omega
theorem xs0_at (x : FVec Ideal S4x2048x4x256 .f32) (b : Fin 4) (s : Fin 2048) (a : Fin 256) : xs0 x (ix3 b s a) = x (ix4 b s 0 a) := by
  pointwise [xs0]
theorem xs1_at (x : FVec Ideal S4x2048x4x256 .f32) (b : Fin 4) (s : Fin 2048) (a : Fin 256) : xs1 x (ix3 b s a) = x (ix4 b s 1 a) := by
  pointwise [xs1]
theorem xs2_at (x : FVec Ideal S4x2048x4x256 .f32) (b : Fin 4) (s : Fin 2048) (a : Fin 256) : xs2 x (ix3 b s a) = x (ix4 b s 2 a) := by
  pointwise [xs2]
theorem xs3_at (x : FVec Ideal S4x2048x4x256 .f32) (b : Fin 4) (s : Fin 2048) (a : Fin 256) : xs3 x (ix3 b s a) = x (ix4 b s 3 a) := by
  pointwise [xs3]

theorem toInt_small (n : ℕ) (h : n < 4096) : (BitVec.ofNat 32 n).toInt = n := by
  rw [BitVec.toInt_eq_toNat_of_lt (by simp only [BitVec.toNat_ofNat]; omega), BitVec.toNat_ofNat, Nat.mod_eq_of_lt (by omega)]

theorem iotaF (t : Fin 2048) : (FloatOps.sitofp .f32 (BitVec.ofNat 32 t.val) : Ideal .f32) = (((t.val : ℕ) : ℝ) : EReal) := by
  show ((((BitVec.ofNat 32 t.val).toInt : ℤ) : ℝ) : EReal) = _
  rw [toInt_small _ (by omega)]
  simp

theorem dv_at (w wb : BitVec 32) (x : FVec Ideal S4x2048x256 .f32) (b : Fin 4) (t : Fin 2048) (a : Fin 256) :
    dv w wb x (ix3 b t a) = Ideal.div (∑ s : Fin 2048, x (ix3 b s a) * mask w (ix2 t s)) (min (((t.val : ℕ) : ℝ) + Ideal.ofBits .f32 0x3F800000#32) (Ideal.ofBits .f32 wb)) - x (ix3 b t a) := by
  rw [← iotaF t]
  pointwise [dv]

theorem cat_at (y0 y1 y2 y3 : FVec Ideal S4x2048x256 .f32) (b : Fin 4) (s : Fin 2048) (g : Fin 4) (a : Fin 256) :
    cat y0 y1 y2 y3 (ix4 b s g a) = (match g with | 0 => y0 | 1 => y1 | 2 => y2 | 3 => y3) (ix3 b s a) := by
  fin_cases g
  · pointwise [cat]
  · pointwise [cat]
  · pointwise [cat]
  · pointwise [cat]

theorem pl_at (y : FVec Ideal S4x2048x4x256 .f32) (wp : FVec Ideal S1x4x256x256 .f32) (ps : FVec Ideal S1x1024 .f32) (r : Fin 8192) (l : Fin 1024) :
    pl y wp ps (ix2 r l) = (∑ a : Fin 256, wp (ix4 0 ⟨l.val / 256, by omega⟩ a ⟨l.val % 256, by omega⟩) * y (ix4 ⟨r.val / 2048, by omega⟩ ⟨r.val % 2048, by omega⟩ ⟨l.val / 256, by omega⟩ a)) * ps (ix2 0 l) := by
  pointwise [pl]

theorem hd2_at (h : FVec Ideal S8x8192x128 .f32) (r : Fin 8192) (l : Fin 1024) :
    hd2 h (ix2 r l) = h (ix3 ⟨l.val / 128, by omega⟩ r ⟨l.val % 128, by omega⟩) := by
  pointwise [hd2]

theorem hnA_at (x : FVec Ideal S8192x1024 .f32) (g : FVec Ideal S1x1024 .f32) (r : Fin 8192) (l : Fin 1024) :
    hnA x g (ix2 r l) = nrm 0x44800000#32 (fun a => x (ix2 r a)) (fun a => g (ix2 0 a)) l := by
  pointwise [hnA, nrm]
theorem hnB_at (x : FVec Ideal S8192x2048 .f32) (g : FVec Ideal S1x2048 .f32) (r : Fin 8192) (l : Fin 2048) :
    hnB x g (ix2 r l) = nrm 0x45000000#32 (fun a => x (ix2 r a)) (fun a => g (ix2 0 a)) l := by
  pointwise [hnB, nrm]

theorem mixd_at (p h : FVec Ideal S8192x1024 .f32) (wo : FVec Ideal S2048x2048 .bf16) (r : Fin 8192) (l : Fin 2048) :
    mixd p h wo (ix2 r l) = (∑ a : Fin 1024, p (ix2 r a) * wo (ix2 ⟨a.val, by omega⟩ l)) + ∑ a : Fin 1024, h (ix2 r a) * wo (ix2 ⟨1024 + a.val, by omega⟩ l) := by
  have e : mixd p h wo (ix2 r l) = ∑ a : Fin 2048, (if hh : a.val < 1024 then p (ix2 r ⟨a.val, hh⟩) else h (ix2 r ⟨a.val - 1024, by omega⟩)) * wo (ix2 a l) := by
    pointwise [mixd]
  refine e.trans ((Fin.sum_univ_add (a := 1024) (b := 1024) (fun a : Fin 2048 => (if hh : a.val < 1024 then p (ix2 r ⟨a.val, hh⟩) else h (ix2 r ⟨a.val - 1024, by omega⟩)) * wo (ix2 a l))).trans ?_)
  refine congrArg₂ (· + ·) (Finset.sum_congr rfl fun a _ => ?_) (Finset.sum_congr rfl fun a _ => ?_)
  · rw [dif_pos (show (Fin.castAdd 1024 a).val < 1024 from a.isLt)]
    rfl
  · rw [dif_neg (show ¬(Fin.natAdd 1024 a).val < 1024 from by simp)]
    have e : (⟨(Fin.natAdd 1024 a).val - 1024, by have := a.isLt; show 1024 + a.val - 1024 < 1024; omega⟩ : Fin 1024) = a := Fin.ext (show 1024 + a.val - 1024 = a.val by omega)
    exact congrArg (fun z => h (ix2 r z) * wo (ix2 ⟨1024 + a.val, by omega⟩ l)) e

theorem xr_at (x : FVec Ideal S4x2048x2048 .f32) (r : Fin 8192) (l : Fin 2048) :
    shapeCast S8192x2048 x shapeCasts_S4x2048x2048_S8192x2048 (ix2 r l) = x (ix3 ⟨r.val / 2048, by omega⟩ ⟨r.val % 2048, by omega⟩ l) := by
  pointwise

theorem mask_at (w t s : ℕ) (hw : w ≤ 16) (ht : t < 2048) (hs : s < 2048) :
    mask (BitVec.ofNat 32 w) (ix2 ⟨t, ht⟩ ⟨s, hs⟩) = if s ≤ t ∧ t < s + w then 1 else 0 := by
  pointwise [mask]
  have hsub : (BitVec.ofNat 32 t - BitVec.ofNat 32 w).toInt = (t : ℤ) - w := by
    rw [BitVec.toInt_sub, toInt_small t (by omega), toInt_small w (by omega), Int.bmod_def]
    omega
  have h1 : (BitVec.ofNat 32 s).sle (BitVec.ofNat 32 t) = decide (s ≤ t) := by
    rw [BitVec.sle, toInt_small s (by omega), toInt_small t (by omega)]
    simp
  have h2 : (BitVec.ofNat 32 t - BitVec.ofNat 32 w).slt (BitVec.ofNat 32 s) = decide (t < s + w) := by
    rw [BitVec.slt, hsub, toInt_small s (by omega)]
    congr 1
    apply propext
    omega
  show (((((BitVec.ofBool ((BitVec.ofNat 32 s).sle (BitVec.ofNat 32 t))) &&& (BitVec.ofBool ((BitVec.ofNat 32 t - BitVec.ofNat 32 w).slt (BitVec.ofNat 32 s)))).toNat : ℕ) : ℝ) : EReal) = _
  rw [h1, h2]
  by_cases a : s ≤ t <;> by_cases b : t < s + w <;> simp [a, b]

theorem win (f : ℕ → EReal) (w t : ℕ) (ht : t < 2048) :
    ∑ s : Fin 2048, f s.val * (if s.val ≤ t ∧ t < s.val + w then 1 else 0) = ∑ k ∈ Finset.range w, if k ≤ t then f (t - k) else 0 := by
  have e1 : ∀ s : Fin 2048, f s.val * (if s.val ≤ t ∧ t < s.val + w then 1 else 0) = if s.val ≤ t ∧ t < s.val + w then f s.val else 0 := fun s => by
    split_ifs <;> simp
  rw [Finset.sum_congr rfl fun s _ => e1 s, Fin.sum_univ_eq_sum_range (fun s => if s ≤ t ∧ t < s + w then f s else 0) 2048,
    ← Finset.sum_filter, ← Finset.sum_filter]
  refine Finset.sum_bij' (fun s _ => t - s) (fun k _ => t - k) ?_ ?_ ?_ ?_ ?_
  · intro s hs; simp only [Finset.mem_filter, Finset.mem_range] at hs ⊢; omega
  · intro k hk; simp only [Finset.mem_filter, Finset.mem_range] at hk ⊢; omega
  · intro s hs; simp only [Finset.mem_filter, Finset.mem_range] at hs; omega
  · intro k hk; simp only [Finset.mem_filter, Finset.mem_range] at hk; omega
  · intro s hs; simp only [Finset.mem_filter, Finset.mem_range] at hs; congr 1; omega

/-- The first result. -/
def refH (u : FVec Ideal S2x8192x512 .f32) (hd : FVec Ideal S8x8192x128 .f32) (x : FVec Ideal S4x2048x2048 .f32) (wp : FVec Ideal S1x4x256x256 .f32)
    (ps gp ga : FVec Ideal S1x1024 .f32) (wo : FVec Ideal S2048x2048 .bf16) (gm : FVec Ideal S1x2048 .f32) : FVec Ideal S8192x2048 .f32 :=
  addf (shapeCast _ x shapeCasts_S4x2048x2048_S8192x2048) (hnB (mixd (hnA (pl (cat (dv 2#32 0x40000000#32 (xs0 (ug u))) (dv 4#32 0x40800000#32 (xs1 (ug u))) (dv 8#32 0x41000000#32 (xs2 (ug u))) (dv 16#32 0x41800000#32 (xs3 (ug u)))) wp ps) gp) (hnA (hd2 hd) ga) wo) gm)

theorem res_eq (V0 : Valuation τ sig (Elt Ideal)) : Cert.Reference4Ideal.Value.res_main_v158 V0
    = refH (V0 (Proc.devRef .tc main_arg0)) (V0 (Proc.devRef .tc main_arg1)) (V0 (Proc.devRef .tc main_arg2)) (V0 (Proc.devRef .tc main_arg3)) (V0 (Proc.devRef .tc main_arg4))
      (V0 (Proc.devRef .tc main_arg5)) (V0 (Proc.devRef .tc main_arg6)) (V0 (Proc.devRef .tc main_arg7)) (V0 (Proc.devRef .tc main_arg8)) := rfl

/-- A group's windowed mean less the row itself, at a row of its sequence. -/
theorem dv_of (u : FVec Ideal S2x8192x512 .f32) (x : FVec Ideal S4x2048x256 .f32) (g : Fin 4) (hx : ∀ b s a, x (ix3 b s a) = ug u (ix4 b s g a))
    (r : Fin 8192) (a : Fin 256) :
    dv (BitVec.ofNat 32 (WW g)) (WB g) x (ix3 ⟨r.val / 2048, by omega⟩ ⟨r.val % 2048, by omega⟩ a)
      = Ideal.div (∑ k ∈ Finset.range (WW g), EG u r g k a) (min ((((r.val % 2048 : ℕ) : ℝ) : EReal) + Ideal.ofBits .f32 0x3F800000#32) (Ideal.ofBits .f32 (WB g))) - EG u r g 0 a := by
  have hr := r.isLt
  have hw : WW g ≤ 16 := WW_le g
  have e0 : x (ix3 ⟨r.val / 2048, by omega⟩ ⟨r.val % 2048, by omega⟩ a) = EG u r g 0 a := by
    rw [hx, ug_at, EG, if_pos (Nat.zero_le _)]
    congr 1
    funext d
    apply Fin.ext
    match d with
    | ⟨0, _⟩ => rfl
    | ⟨1, _⟩ => show 2048 * (r.val / 2048) + r.val % 2048 = r.val - 0; omega
    | ⟨2, _⟩ => rfl
  rw [dv_at, e0]
  congr 2
  let f : ℕ → EReal := fun s => if h : s < 2048 then x (ix3 ⟨r.val / 2048, by omega⟩ ⟨s, h⟩ a) else 0
  have e1 : ∀ s : Fin 2048, x (ix3 ⟨r.val / 2048, by omega⟩ s a) * mask (BitVec.ofNat 32 (WW g)) (ix2 ⟨r.val % 2048, by omega⟩ s)
      = f s.val * (if s.val ≤ r.val % 2048 ∧ r.val % 2048 < s.val + WW g then 1 else 0) := fun s => by
    show _ = (if h : s.val < 2048 then _ else _) * _
    rw [dif_pos s.isLt]
    exact congrArg (x _ * ·) (mask_at (WW g) (r.val % 2048) s.val hw (by omega) s.isLt)
  rw [Finset.sum_congr rfl fun s _ => e1 s, win f (WW g) (r.val % 2048) (by omega)]
  refine Finset.sum_congr rfl fun k _ => ?_
  unfold EG
  by_cases hk : k ≤ r.val % 2048
  · rw [if_pos hk, if_pos hk]
    show (if h : r.val % 2048 - k < 2048 then _ else _) = _
    rw [dif_pos (by omega), hx, ug_at]
    congr 1
    funext d
    apply Fin.ext
    match d with
    | ⟨0, _⟩ => rfl
    | ⟨1, _⟩ => show 2048 * (r.val / 2048) + (r.val % 2048 - k) = r.val - k; omega
    | ⟨2, _⟩ => rfl
  · rw [if_neg hk, if_neg hk]

def ct (u : FVec Ideal S2x8192x512 .f32) : FVec Ideal S4x2048x4x256 .f32 :=
  cat (dv 2#32 0x40000000#32 (xs0 (ug u))) (dv 4#32 0x40800000#32 (xs1 (ug u))) (dv 8#32 0x41000000#32 (xs2 (ug u))) (dv 16#32 0x41800000#32 (xs3 (ug u)))

theorem ct_at (u : FVec Ideal S2x8192x512 .f32) (r : Fin 8192) (g : Fin 4) (a : Fin 256) :
    ct u (ix4 ⟨r.val / 2048, by omega⟩ ⟨r.val % 2048, by omega⟩ g a)
      = Ideal.div (∑ k ∈ Finset.range (WW g), EG u r g k a) (min ((((r.val % 2048 : ℕ) : ℝ) : EReal) + Ideal.ofBits .f32 0x3F800000#32) (Ideal.ofBits .f32 (WB g))) - EG u r g 0 a := by
  rw [ct, cat_at]
  match g with
  | 0 => exact dv_of u (xs0 (ug u)) 0 (fun b s a => xs0_at _ b s a) r a
  | 1 => exact dv_of u (xs1 (ug u)) 1 (fun b s a => xs1_at _ b s a) r a
  | 2 => exact dv_of u (xs2 (ug u)) 2 (fun b s a => xs2_at _ b s a) r a
  | 3 => exact dv_of u (xs3 (ug u)) 3 (fun b s a => xs3_at _ b s a) r a

theorem pl_of (u : FVec Ideal S2x8192x512 .f32) (wp : FVec Ideal S1x4x256x256 .f32) (ps : FVec Ideal S1x1024 .f32) (r : Fin 8192) (l : Fin 1024) :
    pl (ct u) wp ps (ix2 r l) = pg u wp ps r ⟨l.val / 256, by omega⟩ ⟨l.val % 256, by omega⟩ := by
  rw [pl_at, pg, grp]
  have e : (⟨256 * (l.val / 256) + l.val % 256, by omega⟩ : Fin 1024) = l := Fin.ext (show 256 * (l.val / 256) + l.val % 256 = l.val by omega)
  refine congrArg₂ (· * ·) (Finset.sum_congr rfl fun a _ => ?_) (congrArg (fun z => ps (ix2 0 z)) e.symm)
  rw [mul_comm, ct_at]

theorem refH_at (u : FVec Ideal S2x8192x512 .f32) (hd : FVec Ideal S8x8192x128 .f32) (x : FVec Ideal S4x2048x2048 .f32) (wp : FVec Ideal S1x4x256x256 .f32)
    (ps gp ga : FVec Ideal S1x1024 .f32) (wo : FVec Ideal S2048x2048 .bf16) (gm : FVec Ideal S1x2048 .f32) (r : Fin 8192) (l : Fin 2048) :
    refH u hd x wp ps gp ga wo gm (ix2 r l) = rowH u hd x wp ps gp ga wo gm r l := by
  show shapeCast S8192x2048 x shapeCasts_S4x2048x2048_S8192x2048 (ix2 r l) + hnB (mixd (hnA (pl (ct u) wp ps) gp) (hnA (hd2 hd) ga) wo) gm (ix2 r l) = _
  rw [hnB_at]
  simp only [mixd_at, hnA_at, pl_of, hd2_at]
  rw [xr_at]
  rfl

theorem algebraic : Cert.algebraic_Kernel4Ideal_Reference4Ideal := by
  intro m ρ m' ρ' hp hagree
  refine ⟨fun c => resH m c, fun c => resN m c, run m ρ, ?_⟩
  refine (θ_run Cert.Reference4Ideal.defs _ _).mono (fun _ h c => ?_) (Cert.Reference4Ideal.Value.run (F := Ideal) m' ρ')
  obtain ⟨e0, e1, e2, e3, e4, e5, e6, e7, e8, e9⟩ := hagree c
  have eH : Cert.Reference4Ideal.Value.res_main_v158 (StableHlo.launchContents m' c) = resH m c := by
    rw [res_eq]
    show refH (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) = _
    rw [e0, e1, e2, e3, e4, e5, e6, e7, e8]
    funext j
    obtain ⟨r, l, rfl⟩ : ∃ (r : Fin 8192) (l : Fin 2048), j = ix2 r l := ⟨j 0, j 1, eq_ix2 j⟩
    exact refH_at _ _ _ _ _ _ _ _ _ r l
  refine ⟨(h c).1.trans eH, (h c).2.1.trans ?_, (h c).2.2⟩
  rw [eH]
  show (hnB (resH m c) (m' ((c.tc : Thread nD τ).loc main_arg9)) : S8192x2048.Idx → EReal) = _
  rw [e9]
  funext j
  obtain ⟨r, l, rfl⟩ : ∃ (r : Fin 8192) (l : Fin 2048), j = ix2 r l := ⟨j 0, j 1, eq_ix2 j⟩
  exact hnB_at _ _ r l

theorem frame_ref : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

end Cert.Proof.MixRef

end
-- ==== Proof.lean ====
/-
  The proof of `Cert.Claim`.
-/
module

public import proofs.«01_k».proof.Defs
public import proofs.«01_k».proof.Proof.Frames
public import proofs.«01_k».proof.Proof.Gen.Kernel2
public import proofs.«01_k».proof.Proof.Gen.Kernel2.Frame
public import proofs.«01_k».proof.Proof.Gen.ReferenceIdeal
public import proofs.«01_k».proof.Proof.Gen.ReferenceIdeal.Run
public import proofs.«01_k».proof.Proof.Gen.Pre_finite
public import proofs.«01_k».proof.Proof.AttnClaims
public import proofs.«01_k».proof.Proof.Mlp
public import proofs.«01_k».proof.Proof.Gen.Kernel3
public import proofs.«01_k».proof.Proof.Gen.Kernel3.Frame
public import proofs.«01_k».proof.Proof.Ple
public import proofs.«01_k».proof.Proof.Gen.Kernel4
public import proofs.«01_k».proof.Proof.Gen.Kernel4.Frame
public import proofs.«01_k».proof.Proof.MixRef

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Pre_finite.Gen.facts,
   Attn.frame_kernel, Attn.frame_ideal, AttnClaims.frame_ideal_pre, AttnClaims.frame_ref, AttnClaims.frame_ref_pre,
   fun m ρ _ => Cert.Kernel2.Gen.frame m ρ, fun m ρ _ => Cert.Kernel2Ideal.Gen.frame m ρ, MlpClaims.frame_ref,
   fun m ρ _ => Cert.Kernel3.Gen.frame m ρ, fun m ρ _ => Cert.Kernel3Ideal.Gen.frame m ρ, PleClaims.frame_ref,
   fun m ρ _ => Cert.Kernel4.Gen.frame m ρ, fun m ρ _ => Cert.Kernel4Ideal.Gen.frame m ρ, MixRef.frame_ref,
   trivial, AttnClaims.algebraic, trivial, MlpClaims.algebraic, trivial, PleClaims.algebraic, trivial, MixRef.algebraic⟩

end Cert.Proof
